-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.2.2.2 = (fun _ => 1#1)

def Pre_Ffn (m : (ℓ : Loc Cert.Ffn.nD Cert.Ffn.τ Cert.Ffn.sig) → Buf (Elt Bits) ℓ) : Prop :=
  True

def Pre_FfnIdeal (m : (ℓ : Loc Cert.FfnIdeal.nD Cert.FfnIdeal.τ Cert.FfnIdeal.sig) → Buf (Elt Ideal) ℓ) : Prop :=
  True

def Pre_FfnReferenceIdeal (m : (ℓ : Loc Cert.FfnReferenceIdeal.nD Cert.FfnReferenceIdeal.τ Cert.FfnReferenceIdeal.sig) → Buf (Elt Ideal) ℓ) : Prop :=
  True

def Pre_Up (m : (ℓ : Loc Cert.Up.nD Cert.Up.τ Cert.Up.sig) → Buf (Elt Bits) ℓ) : Prop :=
  True

def Pre_UpIdeal (m : (ℓ : Loc Cert.UpIdeal.nD Cert.UpIdeal.τ Cert.UpIdeal.sig) → Buf (Elt Ideal) ℓ) : Prop :=
  True

def Pre_UpReferenceIdeal (m : (ℓ : Loc Cert.UpReferenceIdeal.nD Cert.UpReferenceIdeal.τ Cert.UpReferenceIdeal.sig) → Buf (Elt Ideal) ℓ) : Prop :=
  True

def Pre_Down (m : (ℓ : Loc Cert.Down.nD Cert.Down.τ Cert.Down.sig) → Buf (Elt Bits) ℓ) : Prop :=
  True

def Pre_DownIdeal (m : (ℓ : Loc Cert.DownIdeal.nD Cert.DownIdeal.τ Cert.DownIdeal.sig) → Buf (Elt Ideal) ℓ) : Prop :=
  True

def Pre_DownReferenceIdeal (m : (ℓ : Loc Cert.DownReferenceIdeal.nD Cert.DownReferenceIdeal.τ Cert.DownReferenceIdeal.sig) → Buf (Elt Ideal) ℓ) : Prop :=
  True

def Pre_Mix (m : (ℓ : Loc Cert.Mix.nD Cert.Mix.τ Cert.Mix.sig) → Buf (Elt Bits) ℓ) : Prop :=
  True

def Pre_MixIdeal (m : (ℓ : Loc Cert.MixIdeal.nD Cert.MixIdeal.τ Cert.MixIdeal.sig) → Buf (Elt Ideal) ℓ) : Prop :=
  True

def Pre_MixReferenceIdeal (m : (ℓ : Loc Cert.MixReferenceIdeal.nD Cert.MixReferenceIdeal.τ Cert.MixReferenceIdeal.sig) → Buf (Elt Ideal) ℓ) : Prop :=
  True

def Pre_Proj (m : (ℓ : Loc Cert.Proj.nD Cert.Proj.τ Cert.Proj.sig) → Buf (Elt Bits) ℓ) : Prop :=
  True

def Pre_ProjIdeal (m : (ℓ : Loc Cert.ProjIdeal.nD Cert.ProjIdeal.τ Cert.ProjIdeal.sig) → Buf (Elt Ideal) ℓ) : Prop :=
  True

def Pre_ProjReferenceIdeal (m : (ℓ : Loc Cert.ProjReferenceIdeal.nD Cert.ProjReferenceIdeal.τ Cert.ProjReferenceIdeal.sig) → Buf (Elt Ideal) ℓ) : Prop :=
  True

def Pre_ProjX (m : (ℓ : Loc Cert.ProjX.nD Cert.ProjX.τ Cert.ProjX.sig) → Buf (Elt Bits) ℓ) : Prop :=
  True

def Pre_ProjXIdeal (m : (ℓ : Loc Cert.ProjXIdeal.nD Cert.ProjXIdeal.τ Cert.ProjXIdeal.sig) → Buf (Elt Ideal) ℓ) : Prop :=
  True

def Pre_ProjXReferenceIdeal (m : (ℓ : Loc Cert.ProjXReferenceIdeal.nD Cert.ProjXReferenceIdeal.τ Cert.ProjXReferenceIdeal.sig) → Buf (Elt Ideal) ℓ) : Prop :=
  True

def Pre_GluX (m : (ℓ : Loc Cert.GluX.nD Cert.GluX.τ Cert.GluX.sig) → Buf (Elt Bits) ℓ) : Prop :=
  True

def Pre_GluXIdeal (m : (ℓ : Loc Cert.GluXIdeal.nD Cert.GluXIdeal.τ Cert.GluXIdeal.sig) → Buf (Elt Ideal) ℓ) : Prop :=
  True

def Pre_GluXReferenceIdeal (m : (ℓ : Loc Cert.GluXReferenceIdeal.nD Cert.GluXReferenceIdeal.τ Cert.GluXReferenceIdeal.sig) → Buf (Elt Ideal) ℓ) : Prop :=
  True

def Pre_MlaX (m : (ℓ : Loc Cert.MlaX.nD Cert.MlaX.τ Cert.MlaX.sig) → Buf (Elt Bits) ℓ) : Prop :=
  True

def Pre_MlaXIdeal (m : (ℓ : Loc Cert.MlaXIdeal.nD Cert.MlaXIdeal.τ Cert.MlaXIdeal.sig) → Buf (Elt Ideal) ℓ) : Prop :=
  True

def Pre_MlaXReferenceIdeal (m : (ℓ : Loc Cert.MlaXReferenceIdeal.nD Cert.MlaXReferenceIdeal.τ Cert.MlaXReferenceIdeal.sig) → Buf (Elt Ideal) ℓ) : Prop :=
  True

def Pre_Latent (m : (ℓ : Loc Cert.Latent.nD Cert.Latent.τ Cert.Latent.sig) → Buf (Elt Bits) ℓ) : Prop :=
  True

def Pre_LatentIdeal (m : (ℓ : Loc Cert.LatentIdeal.nD Cert.LatentIdeal.τ Cert.LatentIdeal.sig) → Buf (Elt Ideal) ℓ) : Prop :=
  True

def Pre_LatentReferenceIdeal (m : (ℓ : Loc Cert.LatentReferenceIdeal.nD Cert.LatentReferenceIdeal.τ Cert.LatentReferenceIdeal.sig) → Buf (Elt Ideal) ℓ) : Prop :=
  True

def Pre_Attend (m : (ℓ : Loc Cert.Attend.nD Cert.Attend.τ Cert.Attend.sig) → Buf (Elt Bits) ℓ) : Prop :=
  True

def Pre_AttendIdeal (m : (ℓ : Loc Cert.AttendIdeal.nD Cert.AttendIdeal.τ Cert.AttendIdeal.sig) → Buf (Elt Ideal) ℓ) : Prop :=
  True

def Pre_AttendIdeal_finite_scores [hPre_finite_scores : Cert.Pre_finite_scores.Facts] (m : (ℓ : Loc Cert.AttendIdeal.nD Cert.AttendIdeal.τ Cert.AttendIdeal.sig) → Buf (Elt Ideal) ℓ) : Prop :=
  ∀ c : Dev Cert.AttendIdeal.nD,
    (Cert.Pre_finite_scores.fn (F := Ideal) (m ((c.tc : Thread Cert.AttendIdeal.nD Cert.AttendIdeal.τ).loc Cert.AttendIdeal.main_arg0)) (m ((c.tc : Thread Cert.AttendIdeal.nD Cert.AttendIdeal.τ).loc Cert.AttendIdeal.main_arg1)) (m ((c.tc : Thread Cert.AttendIdeal.nD Cert.AttendIdeal.τ).loc Cert.AttendIdeal.main_arg2)) (m ((c.tc : Thread Cert.AttendIdeal.nD Cert.AttendIdeal.τ).loc Cert.AttendIdeal.main_arg3))).1 = (fun _ => 1#1)
    ∧ (Cert.Pre_finite_scores.fn (F := Ideal) (m ((c.tc : Thread Cert.AttendIdeal.nD Cert.AttendIdeal.τ).loc Cert.AttendIdeal.main_arg0)) (m ((c.tc : Thread Cert.AttendIdeal.nD Cert.AttendIdeal.τ).loc Cert.AttendIdeal.main_arg1)) (m ((c.tc : Thread Cert.AttendIdeal.nD Cert.AttendIdeal.τ).loc Cert.AttendIdeal.main_arg2)) (m ((c.tc : Thread Cert.AttendIdeal.nD Cert.AttendIdeal.τ).loc Cert.AttendIdeal.main_arg3))).2.1 = (fun _ => 1#1)
    ∧ (Cert.Pre_finite_scores.fn (F := Ideal) (m ((c.tc : Thread Cert.AttendIdeal.nD Cert.AttendIdeal.τ).loc Cert.AttendIdeal.main_arg0)) (m ((c.tc : Thread Cert.AttendIdeal.nD Cert.AttendIdeal.τ).loc Cert.AttendIdeal.main_arg1)) (m ((c.tc : Thread Cert.AttendIdeal.nD Cert.AttendIdeal.τ).loc Cert.AttendIdeal.main_arg2)) (m ((c.tc : Thread Cert.AttendIdeal.nD Cert.AttendIdeal.τ).loc Cert.AttendIdeal.main_arg3))).2.2 = (fun _ => 1#1)

def Pre_AttendReferenceIdeal (m : (ℓ : Loc Cert.AttendReferenceIdeal.nD Cert.AttendReferenceIdeal.τ Cert.AttendReferenceIdeal.sig) → Buf (Elt Ideal) ℓ) : Prop :=
  True

def Pre_AttendReferenceIdeal_finite_scores [hPre_finite_scores : Cert.Pre_finite_scores.Facts] (m : (ℓ : Loc Cert.AttendReferenceIdeal.nD Cert.AttendReferenceIdeal.τ Cert.AttendReferenceIdeal.sig) → Buf (Elt Ideal) ℓ) : Prop :=
  ∀ c : Dev Cert.AttendReferenceIdeal.nD,
    (Cert.Pre_finite_scores.fn (F := Ideal) (m ((c.tc : Thread Cert.AttendReferenceIdeal.nD Cert.AttendReferenceIdeal.τ).loc Cert.AttendReferenceIdeal.main_arg0)) (m ((c.tc : Thread Cert.AttendReferenceIdeal.nD Cert.AttendReferenceIdeal.τ).loc Cert.AttendReferenceIdeal.main_arg1)) (m ((c.tc : Thread Cert.AttendReferenceIdeal.nD Cert.AttendReferenceIdeal.τ).loc Cert.AttendReferenceIdeal.main_arg2)) (m ((c.tc : Thread Cert.AttendReferenceIdeal.nD Cert.AttendReferenceIdeal.τ).loc Cert.AttendReferenceIdeal.main_arg3))).1 = (fun _ => 1#1)
    ∧ (Cert.Pre_finite_scores.fn (F := Ideal) (m ((c.tc : Thread Cert.AttendReferenceIdeal.nD Cert.AttendReferenceIdeal.τ).loc Cert.AttendReferenceIdeal.main_arg0)) (m ((c.tc : Thread Cert.AttendReferenceIdeal.nD Cert.AttendReferenceIdeal.τ).loc Cert.AttendReferenceIdeal.main_arg1)) (m ((c.tc : Thread Cert.AttendReferenceIdeal.nD Cert.AttendReferenceIdeal.τ).loc Cert.AttendReferenceIdeal.main_arg2)) (m ((c.tc : Thread Cert.AttendReferenceIdeal.nD Cert.AttendReferenceIdeal.τ).loc Cert.AttendReferenceIdeal.main_arg3))).2.1 = (fun _ => 1#1)
    ∧ (Cert.Pre_finite_scores.fn (F := Ideal) (m ((c.tc : Thread Cert.AttendReferenceIdeal.nD Cert.AttendReferenceIdeal.τ).loc Cert.AttendReferenceIdeal.main_arg0)) (m ((c.tc : Thread Cert.AttendReferenceIdeal.nD Cert.AttendReferenceIdeal.τ).loc Cert.AttendReferenceIdeal.main_arg1)) (m ((c.tc : Thread Cert.AttendReferenceIdeal.nD Cert.AttendReferenceIdeal.τ).loc Cert.AttendReferenceIdeal.main_arg2)) (m ((c.tc : Thread Cert.AttendReferenceIdeal.nD Cert.AttendReferenceIdeal.τ).loc Cert.AttendReferenceIdeal.main_arg3))).2.2 = (fun _ => 1#1)

def Pre_Mod (m : (ℓ : Loc Cert.Mod.nD Cert.Mod.τ Cert.Mod.sig) → Buf (Elt Bits) ℓ) : Prop :=
  True

def Pre_ModIdeal (m : (ℓ : Loc Cert.ModIdeal.nD Cert.ModIdeal.τ Cert.ModIdeal.sig) → Buf (Elt Ideal) ℓ) : Prop :=
  True

def Pre_ModReferenceIdeal (m : (ℓ : Loc Cert.ModReferenceIdeal.nD Cert.ModReferenceIdeal.τ Cert.ModReferenceIdeal.sig) → Buf (Elt Ideal) ℓ) : Prop :=
  True

def Pre_Norms (m : (ℓ : Loc Cert.Norms.nD Cert.Norms.τ Cert.Norms.sig) → Buf (Elt Bits) ℓ) : Prop :=
  True

def Pre_NormsIdeal (m : (ℓ : Loc Cert.NormsIdeal.nD Cert.NormsIdeal.τ Cert.NormsIdeal.sig) → Buf (Elt Ideal) ℓ) : Prop :=
  True

def Pre_NormsReferenceIdeal (m : (ℓ : Loc Cert.NormsReferenceIdeal.nD Cert.NormsReferenceIdeal.τ Cert.NormsReferenceIdeal.sig) → Buf (Elt Ideal) ℓ) : Prop :=
  True

def Pre_QNorm (m : (ℓ : Loc Cert.QNorm.nD Cert.QNorm.τ Cert.QNorm.sig) → Buf (Elt Bits) ℓ) : Prop :=
  True

def Pre_QNormIdeal (m : (ℓ : Loc Cert.QNormIdeal.nD Cert.QNormIdeal.τ Cert.QNormIdeal.sig) → Buf (Elt Ideal) ℓ) : Prop :=
  True

def Pre_QNormReferenceIdeal (m : (ℓ : Loc Cert.QNormReferenceIdeal.nD Cert.QNormReferenceIdeal.τ Cert.QNormReferenceIdeal.sig) → Buf (Elt Ideal) ℓ) : Prop :=
  True

def Pre_Combine (m : (ℓ : Loc Cert.Combine.nD Cert.Combine.τ Cert.Combine.sig) → Buf (Elt Bits) ℓ) : Prop :=
  True

def Pre_CombineIdeal (m : (ℓ : Loc Cert.CombineIdeal.nD Cert.CombineIdeal.τ Cert.CombineIdeal.sig) → Buf (Elt Ideal) ℓ) : Prop :=
  True

def Pre_CombineReferenceIdeal (m : (ℓ : Loc Cert.CombineReferenceIdeal.nD Cert.CombineReferenceIdeal.τ Cert.CombineReferenceIdeal.sig) → Buf (Elt Ideal) ℓ) : Prop :=
  True

def Pre_NormX (m : (ℓ : Loc Cert.NormX.nD Cert.NormX.τ Cert.NormX.sig) → Buf (Elt Bits) ℓ) : Prop :=
  True

def Pre_NormXIdeal (m : (ℓ : Loc Cert.NormXIdeal.nD Cert.NormXIdeal.τ Cert.NormXIdeal.sig) → Buf (Elt Ideal) ℓ) : Prop :=
  True

def Pre_NormXReferenceIdeal (m : (ℓ : Loc Cert.NormXReferenceIdeal.nD Cert.NormXReferenceIdeal.τ Cert.NormXReferenceIdeal.sig) → Buf (Elt Ideal) ℓ) : Prop :=
  True

def Pre_SkipX (m : (ℓ : Loc Cert.SkipX.nD Cert.SkipX.τ Cert.SkipX.sig) → Buf (Elt Bits) ℓ) : Prop :=
  True

def Pre_SkipXIdeal (m : (ℓ : Loc Cert.SkipXIdeal.nD Cert.SkipXIdeal.τ Cert.SkipXIdeal.sig) → Buf (Elt Ideal) ℓ) : Prop :=
  True

def Pre_SkipXReferenceIdeal (m : (ℓ : Loc Cert.SkipXReferenceIdeal.nD Cert.SkipXReferenceIdeal.τ Cert.SkipXReferenceIdeal.sig) → Buf (Elt Ideal) ℓ) : Prop :=
  True

def Pre_QNormX (m : (ℓ : Loc Cert.QNormX.nD Cert.QNormX.τ Cert.QNormX.sig) → Buf (Elt Bits) ℓ) : Prop :=
  True

def Pre_QNormXIdeal (m : (ℓ : Loc Cert.QNormXIdeal.nD Cert.QNormXIdeal.τ Cert.QNormXIdeal.sig) → Buf (Elt Ideal) ℓ) : Prop :=
  True

def Pre_QNormXReferenceIdeal (m : (ℓ : Loc Cert.QNormXReferenceIdeal.nD Cert.QNormXReferenceIdeal.τ Cert.QNormXReferenceIdeal.sig) → Buf (Elt Ideal) ℓ) : Prop :=
  True

def Pre_KvNormX (m : (ℓ : Loc Cert.KvNormX.nD Cert.KvNormX.τ Cert.KvNormX.sig) → Buf (Elt Bits) ℓ) : Prop :=
  True

def Pre_KvNormXIdeal (m : (ℓ : Loc Cert.KvNormXIdeal.nD Cert.KvNormXIdeal.τ Cert.KvNormXIdeal.sig) → Buf (Elt Ideal) ℓ) : Prop :=
  True

def Pre_KvNormXReferenceIdeal (m : (ℓ : Loc Cert.KvNormXReferenceIdeal.nD Cert.KvNormXReferenceIdeal.τ Cert.KvNormXReferenceIdeal.sig) → Buf (Elt Ideal) ℓ) : Prop :=
  True

def Pre_ResidX (m : (ℓ : Loc Cert.ResidX.nD Cert.ResidX.τ Cert.ResidX.sig) → Buf (Elt Bits) ℓ) : Prop :=
  True

def Pre_ResidXIdeal (m : (ℓ : Loc Cert.ResidXIdeal.nD Cert.ResidXIdeal.τ Cert.ResidXIdeal.sig) → Buf (Elt Ideal) ℓ) : Prop :=
  True

def Pre_ResidXReferenceIdeal (m : (ℓ : Loc Cert.ResidXReferenceIdeal.nD Cert.ResidXReferenceIdeal.τ Cert.ResidXReferenceIdeal.sig) → Buf (Elt Ideal) ℓ) : Prop :=
  True

def Pre_CtxX (m : (ℓ : Loc Cert.CtxX.nD Cert.CtxX.τ Cert.CtxX.sig) → Buf (Elt Bits) ℓ) : Prop :=
  True

def Pre_CtxXIdeal (m : (ℓ : Loc Cert.CtxXIdeal.nD Cert.CtxXIdeal.τ Cert.CtxXIdeal.sig) → Buf (Elt Ideal) ℓ) : Prop :=
  True

def Pre_CtxXReferenceIdeal (m : (ℓ : Loc Cert.CtxXReferenceIdeal.nD Cert.CtxXReferenceIdeal.τ Cert.CtxXReferenceIdeal.sig) → Buf (Elt Ideal) ℓ) : Prop :=
  True

def Pre_ScanX (m : (ℓ : Loc Cert.ScanX.nD Cert.ScanX.τ Cert.ScanX.sig) → Buf (Elt Bits) ℓ) : Prop :=
  True

def Pre_ScanXIdeal (m : (ℓ : Loc Cert.ScanXIdeal.nD Cert.ScanXIdeal.τ Cert.ScanXIdeal.sig) → Buf (Elt Ideal) ℓ) : Prop :=
  True

def Pre_ScanXReferenceIdeal (m : (ℓ : Loc Cert.ScanXReferenceIdeal.nD Cert.ScanXReferenceIdeal.τ Cert.ScanXReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_Ffn [hFfn : Cert.Ffn.Facts] : Prop :=
  ∀ (m : (ℓ : Loc Cert.Ffn.nD Cert.Ffn.τ Cert.Ffn.sig) → Buf (Elt Bits) ℓ) (g : Dev Cert.Ffn.nD → PrngReg), Pre_Ffn m →
    θ_run (Cert.Ffn.defs (F := Bits)) (onTc (τ := Cert.Ffn.τ) (Cert.Ffn.main (F := Bits))) ⟨m, fun _ => 0, g⟩ (fun r => (∀ c : Dev Cert.Ffn.nD,
      r.2.mem ((c.tc : Thread Cert.Ffn.nD Cert.Ffn.τ).loc Cert.Ffn.main_arg0) = m ((c.tc : Thread Cert.Ffn.nD Cert.Ffn.τ).loc Cert.Ffn.main_arg0)
      ∧ r.2.mem ((c.tc : Thread Cert.Ffn.nD Cert.Ffn.τ).loc Cert.Ffn.main_arg1) = m ((c.tc : Thread Cert.Ffn.nD Cert.Ffn.τ).loc Cert.Ffn.main_arg1)
      ∧ r.2.mem ((c.tc : Thread Cert.Ffn.nD Cert.Ffn.τ).loc Cert.Ffn.main_arg2) = m ((c.tc : Thread Cert.Ffn.nD Cert.Ffn.τ).loc Cert.Ffn.main_arg2)
      ∧ r.2.mem ((c.tc : Thread Cert.Ffn.nD Cert.Ffn.τ).loc Cert.Ffn.main_arg3) = m ((c.tc : Thread Cert.Ffn.nD Cert.Ffn.τ).loc Cert.Ffn.main_arg3))
      ∧ r.2.sem = fun _ => 0)

def quiescent_FfnIdeal [hFfnIdeal : Cert.FfnIdeal.Facts] : Prop :=
  ∀ (m : (ℓ : Loc Cert.FfnIdeal.nD Cert.FfnIdeal.τ Cert.FfnIdeal.sig) → Buf (Elt Ideal) ℓ) (g : Dev Cert.FfnIdeal.nD → PrngReg), Pre_FfnIdeal m →
    θ_run (Cert.FfnIdeal.defs (F := Ideal)) (onTc (τ := Cert.FfnIdeal.τ) (Cert.FfnIdeal.main (F := Ideal))) ⟨m, fun _ => 0, g⟩ (fun r => (∀ c : Dev Cert.FfnIdeal.nD,
      r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
      ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
      ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
      ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3))
      ∧ r.2.sem = fun _ => 0)

def quiescent_FfnReferenceIdeal [hFfnReferenceIdeal : Cert.FfnReferenceIdeal.Facts] : Prop :=
  ∀ (m : (ℓ : Loc Cert.FfnReferenceIdeal.nD Cert.FfnReferenceIdeal.τ Cert.FfnReferenceIdeal.sig) → Buf (Elt Ideal) ℓ) (g : Dev Cert.FfnReferenceIdeal.nD → PrngReg), Pre_FfnReferenceIdeal m →
    θ_run (Cert.FfnReferenceIdeal.defs (F := Ideal)) (onTc (τ := Cert.FfnReferenceIdeal.τ) (Cert.FfnReferenceIdeal.main (F := Ideal))) ⟨m, fun _ => 0, g⟩ (fun r => (∀ c : Dev Cert.FfnReferenceIdeal.nD,
      r.2.mem ((c.tc : Thread Cert.FfnReferenceIdeal.nD Cert.FfnReferenceIdeal.τ).loc Cert.FfnReferenceIdeal.main_arg0) = m ((c.tc : Thread Cert.FfnReferenceIdeal.nD Cert.FfnReferenceIdeal.τ).loc Cert.FfnReferenceIdeal.main_arg0)
      ∧ r.2.mem ((c.tc : Thread Cert.FfnReferenceIdeal.nD Cert.FfnReferenceIdeal.τ).loc Cert.FfnReferenceIdeal.main_arg1) = m ((c.tc : Thread Cert.FfnReferenceIdeal.nD Cert.FfnReferenceIdeal.τ).loc Cert.FfnReferenceIdeal.main_arg1)
      ∧ r.2.mem ((c.tc : Thread Cert.FfnReferenceIdeal.nD Cert.FfnReferenceIdeal.τ).loc Cert.FfnReferenceIdeal.main_arg2) = m ((c.tc : Thread Cert.FfnReferenceIdeal.nD Cert.FfnReferenceIdeal.τ).loc Cert.FfnReferenceIdeal.main_arg2)
      ∧ r.2.mem ((c.tc : Thread Cert.FfnReferenceIdeal.nD Cert.FfnReferenceIdeal.τ).loc Cert.FfnReferenceIdeal.main_arg3) = m ((c.tc : Thread Cert.FfnReferenceIdeal.nD Cert.FfnReferenceIdeal.τ).loc Cert.FfnReferenceIdeal.main_arg3))
      ∧ r.2.sem = fun _ => 0)

def quiescent_Up [hUp : Cert.Up.Facts] : Prop :=
  ∀ (m : (ℓ : Loc Cert.Up.nD Cert.Up.τ Cert.Up.sig) → Buf (Elt Bits) ℓ) (g : Dev Cert.Up.nD → PrngReg), Pre_Up m →
    θ_run (Cert.Up.defs (F := Bits)) (onTc (τ := Cert.Up.τ) (Cert.Up.main (F := Bits))) ⟨m, fun _ => 0, g⟩ (fun r => (∀ c : Dev Cert.Up.nD,
      r.2.mem ((c.tc : Thread Cert.Up.nD Cert.Up.τ).loc Cert.Up.main_arg0) = m ((c.tc : Thread Cert.Up.nD Cert.Up.τ).loc Cert.Up.main_arg0)
      ∧ r.2.mem ((c.tc : Thread Cert.Up.nD Cert.Up.τ).loc Cert.Up.main_arg1) = m ((c.tc : Thread Cert.Up.nD Cert.Up.τ).loc Cert.Up.main_arg1))
      ∧ r.2.sem = fun _ => 0)

def quiescent_UpIdeal [hUpIdeal : Cert.UpIdeal.Facts] : Prop :=
  ∀ (m : (ℓ : Loc Cert.UpIdeal.nD Cert.UpIdeal.τ Cert.UpIdeal.sig) → Buf (Elt Ideal) ℓ) (g : Dev Cert.UpIdeal.nD → PrngReg), Pre_UpIdeal m →
    θ_run (Cert.UpIdeal.defs (F := Ideal)) (onTc (τ := Cert.UpIdeal.τ) (Cert.UpIdeal.main (F := Ideal))) ⟨m, fun _ => 0, g⟩ (fun r => (∀ c : Dev Cert.UpIdeal.nD,
      r.2.mem ((c.tc : Thread Cert.UpIdeal.nD Cert.UpIdeal.τ).loc Cert.UpIdeal.main_arg0) = m ((c.tc : Thread Cert.UpIdeal.nD Cert.UpIdeal.τ).loc Cert.UpIdeal.main_arg0)
      ∧ r.2.mem ((c.tc : Thread Cert.UpIdeal.nD Cert.UpIdeal.τ).loc Cert.UpIdeal.main_arg1) = m ((c.tc : Thread Cert.UpIdeal.nD Cert.UpIdeal.τ).loc Cert.UpIdeal.main_arg1))
      ∧ r.2.sem = fun _ => 0)

def quiescent_UpReferenceIdeal [hUpReferenceIdeal : Cert.UpReferenceIdeal.Facts] : Prop :=
  ∀ (m : (ℓ : Loc Cert.UpReferenceIdeal.nD Cert.UpReferenceIdeal.τ Cert.UpReferenceIdeal.sig) → Buf (Elt Ideal) ℓ) (g : Dev Cert.UpReferenceIdeal.nD → PrngReg), Pre_UpReferenceIdeal m →
    θ_run (Cert.UpReferenceIdeal.defs (F := Ideal)) (onTc (τ := Cert.UpReferenceIdeal.τ) (Cert.UpReferenceIdeal.main (F := Ideal))) ⟨m, fun _ => 0, g⟩ (fun r => (∀ c : Dev Cert.UpReferenceIdeal.nD,
      r.2.mem ((c.tc : Thread Cert.UpReferenceIdeal.nD Cert.UpReferenceIdeal.τ).loc Cert.UpReferenceIdeal.main_arg0) = m ((c.tc : Thread Cert.UpReferenceIdeal.nD Cert.UpReferenceIdeal.τ).loc Cert.UpReferenceIdeal.main_arg0)
      ∧ r.2.mem ((c.tc : Thread Cert.UpReferenceIdeal.nD Cert.UpReferenceIdeal.τ).loc Cert.UpReferenceIdeal.main_arg1) = m ((c.tc : Thread Cert.UpReferenceIdeal.nD Cert.UpReferenceIdeal.τ).loc Cert.UpReferenceIdeal.main_arg1))
      ∧ r.2.sem = fun _ => 0)

def quiescent_Down [hDown : Cert.Down.Facts] : Prop :=
  ∀ (m : (ℓ : Loc Cert.Down.nD Cert.Down.τ Cert.Down.sig) → Buf (Elt Bits) ℓ) (g : Dev Cert.Down.nD → PrngReg), Pre_Down m →
    θ_run (Cert.Down.defs (F := Bits)) (onTc (τ := Cert.Down.τ) (Cert.Down.main (F := Bits))) ⟨m, fun _ => 0, g⟩ (fun r => (∀ c : Dev Cert.Down.nD,
      r.2.mem ((c.tc : Thread Cert.Down.nD Cert.Down.τ).loc Cert.Down.main_arg0) = m ((c.tc : Thread Cert.Down.nD Cert.Down.τ).loc Cert.Down.main_arg0)
      ∧ r.2.mem ((c.tc : Thread Cert.Down.nD Cert.Down.τ).loc Cert.Down.main_arg1) = m ((c.tc : Thread Cert.Down.nD Cert.Down.τ).loc Cert.Down.main_arg1))
      ∧ r.2.sem = fun _ => 0)

def quiescent_DownIdeal [hDownIdeal : Cert.DownIdeal.Facts] : Prop :=
  ∀ (m : (ℓ : Loc Cert.DownIdeal.nD Cert.DownIdeal.τ Cert.DownIdeal.sig) → Buf (Elt Ideal) ℓ) (g : Dev Cert.DownIdeal.nD → PrngReg), Pre_DownIdeal m →
    θ_run (Cert.DownIdeal.defs (F := Ideal)) (onTc (τ := Cert.DownIdeal.τ) (Cert.DownIdeal.main (F := Ideal))) ⟨m, fun _ => 0, g⟩ (fun r => (∀ c : Dev Cert.DownIdeal.nD,
      r.2.mem ((c.tc : Thread Cert.DownIdeal.nD Cert.DownIdeal.τ).loc Cert.DownIdeal.main_arg0) = m ((c.tc : Thread Cert.DownIdeal.nD Cert.DownIdeal.τ).loc Cert.DownIdeal.main_arg0)
      ∧ r.2.mem ((c.tc : Thread Cert.DownIdeal.nD Cert.DownIdeal.τ).loc Cert.DownIdeal.main_arg1) = m ((c.tc : Thread Cert.DownIdeal.nD Cert.DownIdeal.τ).loc Cert.DownIdeal.main_arg1))
      ∧ r.2.sem = fun _ => 0)

def quiescent_DownReferenceIdeal [hDownReferenceIdeal : Cert.DownReferenceIdeal.Facts] : Prop :=
  ∀ (m : (ℓ : Loc Cert.DownReferenceIdeal.nD Cert.DownReferenceIdeal.τ Cert.DownReferenceIdeal.sig) → Buf (Elt Ideal) ℓ) (g : Dev Cert.DownReferenceIdeal.nD → PrngReg), Pre_DownReferenceIdeal m →
    θ_run (Cert.DownReferenceIdeal.defs (F := Ideal)) (onTc (τ := Cert.DownReferenceIdeal.τ) (Cert.DownReferenceIdeal.main (F := Ideal))) ⟨m, fun _ => 0, g⟩ (fun r => (∀ c : Dev Cert.DownReferenceIdeal.nD,
      r.2.mem ((c.tc : Thread Cert.DownReferenceIdeal.nD Cert.DownReferenceIdeal.τ).loc Cert.DownReferenceIdeal.main_arg0) = m ((c.tc : Thread Cert.DownReferenceIdeal.nD Cert.DownReferenceIdeal.τ).loc Cert.DownReferenceIdeal.main_arg0)
      ∧ r.2.mem ((c.tc : Thread Cert.DownReferenceIdeal.nD Cert.DownReferenceIdeal.τ).loc Cert.DownReferenceIdeal.main_arg1) = m ((c.tc : Thread Cert.DownReferenceIdeal.nD Cert.DownReferenceIdeal.τ).loc Cert.DownReferenceIdeal.main_arg1))
      ∧ r.2.sem = fun _ => 0)

def quiescent_Mix [hMix : Cert.Mix.Facts] : Prop :=
  ∀ (m : (ℓ : Loc Cert.Mix.nD Cert.Mix.τ Cert.Mix.sig) → Buf (Elt Bits) ℓ) (g : Dev Cert.Mix.nD → PrngReg), Pre_Mix m →
    θ_run (Cert.Mix.defs (F := Bits)) (onTc (τ := Cert.Mix.τ) (Cert.Mix.main (F := Bits))) ⟨m, fun _ => 0, g⟩ (fun r => (∀ c : Dev Cert.Mix.nD,
      r.2.mem ((c.tc : Thread Cert.Mix.nD Cert.Mix.τ).loc Cert.Mix.main_arg0) = m ((c.tc : Thread Cert.Mix.nD Cert.Mix.τ).loc Cert.Mix.main_arg0)
      ∧ r.2.mem ((c.tc : Thread Cert.Mix.nD Cert.Mix.τ).loc Cert.Mix.main_arg1) = m ((c.tc : Thread Cert.Mix.nD Cert.Mix.τ).loc Cert.Mix.main_arg1)
      ∧ r.2.mem ((c.tc : Thread Cert.Mix.nD Cert.Mix.τ).loc Cert.Mix.main_arg2) = m ((c.tc : Thread Cert.Mix.nD Cert.Mix.τ).loc Cert.Mix.main_arg2)
      ∧ r.2.mem ((c.tc : Thread Cert.Mix.nD Cert.Mix.τ).loc Cert.Mix.main_arg3) = m ((c.tc : Thread Cert.Mix.nD Cert.Mix.τ).loc Cert.Mix.main_arg3)
      ∧ r.2.mem ((c.tc : Thread Cert.Mix.nD Cert.Mix.τ).loc Cert.Mix.main_arg4) = m ((c.tc : Thread Cert.Mix.nD Cert.Mix.τ).loc Cert.Mix.main_arg4)
      ∧ r.2.mem ((c.tc : Thread Cert.Mix.nD Cert.Mix.τ).loc Cert.Mix.main_arg5) = m ((c.tc : Thread Cert.Mix.nD Cert.Mix.τ).loc Cert.Mix.main_arg5)
      ∧ r.2.mem ((c.tc : Thread Cert.Mix.nD Cert.Mix.τ).loc Cert.Mix.main_arg6) = m ((c.tc : Thread Cert.Mix.nD Cert.Mix.τ).loc Cert.Mix.main_arg6))
      ∧ r.2.sem = fun _ => 0)

def quiescent_MixIdeal [hMixIdeal : Cert.MixIdeal.Facts] : Prop :=
  ∀ (m : (ℓ : Loc Cert.MixIdeal.nD Cert.MixIdeal.τ Cert.MixIdeal.sig) → Buf (Elt Ideal) ℓ) (g : Dev Cert.MixIdeal.nD → PrngReg), Pre_MixIdeal m →
    θ_run (Cert.MixIdeal.defs (F := Ideal)) (onTc (τ := Cert.MixIdeal.τ) (Cert.MixIdeal.main (F := Ideal))) ⟨m, fun _ => 0, g⟩ (fun r => (∀ c : Dev Cert.MixIdeal.nD,
      r.2.mem ((c.tc : Thread Cert.MixIdeal.nD Cert.MixIdeal.τ).loc Cert.MixIdeal.main_arg0) = m ((c.tc : Thread Cert.MixIdeal.nD Cert.MixIdeal.τ).loc Cert.MixIdeal.main_arg0)
      ∧ r.2.mem ((c.tc : Thread Cert.MixIdeal.nD Cert.MixIdeal.τ).loc Cert.MixIdeal.main_arg1) = m ((c.tc : Thread Cert.MixIdeal.nD Cert.MixIdeal.τ).loc Cert.MixIdeal.main_arg1)
      ∧ r.2.mem ((c.tc : Thread Cert.MixIdeal.nD Cert.MixIdeal.τ).loc Cert.MixIdeal.main_arg2) = m ((c.tc : Thread Cert.MixIdeal.nD Cert.MixIdeal.τ).loc Cert.MixIdeal.main_arg2)
      ∧ r.2.mem ((c.tc : Thread Cert.MixIdeal.nD Cert.MixIdeal.τ).loc Cert.MixIdeal.main_arg3) = m ((c.tc : Thread Cert.MixIdeal.nD Cert.MixIdeal.τ).loc Cert.MixIdeal.main_arg3)
      ∧ r.2.mem ((c.tc : Thread Cert.MixIdeal.nD Cert.MixIdeal.τ).loc Cert.MixIdeal.main_arg4) = m ((c.tc : Thread Cert.MixIdeal.nD Cert.MixIdeal.τ).loc Cert.MixIdeal.main_arg4)
      ∧ r.2.mem ((c.tc : Thread Cert.MixIdeal.nD Cert.MixIdeal.τ).loc Cert.MixIdeal.main_arg5) = m ((c.tc : Thread Cert.MixIdeal.nD Cert.MixIdeal.τ).loc Cert.MixIdeal.main_arg5)
      ∧ r.2.mem ((c.tc : Thread Cert.MixIdeal.nD Cert.MixIdeal.τ).loc Cert.MixIdeal.main_arg6) = m ((c.tc : Thread Cert.MixIdeal.nD Cert.MixIdeal.τ).loc Cert.MixIdeal.main_arg6))
      ∧ r.2.sem = fun _ => 0)

def quiescent_MixReferenceIdeal [hMixReferenceIdeal : Cert.MixReferenceIdeal.Facts] : Prop :=
  ∀ (m : (ℓ : Loc Cert.MixReferenceIdeal.nD Cert.MixReferenceIdeal.τ Cert.MixReferenceIdeal.sig) → Buf (Elt Ideal) ℓ) (g : Dev Cert.MixReferenceIdeal.nD → PrngReg), Pre_MixReferenceIdeal m →
    θ_run (Cert.MixReferenceIdeal.defs (F := Ideal)) (onTc (τ := Cert.MixReferenceIdeal.τ) (Cert.MixReferenceIdeal.main (F := Ideal))) ⟨m, fun _ => 0, g⟩ (fun r => (∀ c : Dev Cert.MixReferenceIdeal.nD,
      r.2.mem ((c.tc : Thread Cert.MixReferenceIdeal.nD Cert.MixReferenceIdeal.τ).loc Cert.MixReferenceIdeal.main_arg0) = m ((c.tc : Thread Cert.MixReferenceIdeal.nD Cert.MixReferenceIdeal.τ).loc Cert.MixReferenceIdeal.main_arg0)
      ∧ r.2.mem ((c.tc : Thread Cert.MixReferenceIdeal.nD Cert.MixReferenceIdeal.τ).loc Cert.MixReferenceIdeal.main_arg1) = m ((c.tc : Thread Cert.MixReferenceIdeal.nD Cert.MixReferenceIdeal.τ).loc Cert.MixReferenceIdeal.main_arg1)
      ∧ r.2.mem ((c.tc : Thread Cert.MixReferenceIdeal.nD Cert.MixReferenceIdeal.τ).loc Cert.MixReferenceIdeal.main_arg2) = m ((c.tc : Thread Cert.MixReferenceIdeal.nD Cert.MixReferenceIdeal.τ).loc Cert.MixReferenceIdeal.main_arg2)
      ∧ r.2.mem ((c.tc : Thread Cert.MixReferenceIdeal.nD Cert.MixReferenceIdeal.τ).loc Cert.MixReferenceIdeal.main_arg3) = m ((c.tc : Thread Cert.MixReferenceIdeal.nD Cert.MixReferenceIdeal.τ).loc Cert.MixReferenceIdeal.main_arg3)
      ∧ r.2.mem ((c.tc : Thread Cert.MixReferenceIdeal.nD Cert.MixReferenceIdeal.τ).loc Cert.MixReferenceIdeal.main_arg4) = m ((c.tc : Thread Cert.MixReferenceIdeal.nD Cert.MixReferenceIdeal.τ).loc Cert.MixReferenceIdeal.main_arg4)
      ∧ r.2.mem ((c.tc : Thread Cert.MixReferenceIdeal.nD Cert.MixReferenceIdeal.τ).loc Cert.MixReferenceIdeal.main_arg5) = m ((c.tc : Thread Cert.MixReferenceIdeal.nD Cert.MixReferenceIdeal.τ).loc Cert.MixReferenceIdeal.main_arg5)
      ∧ r.2.mem ((c.tc : Thread Cert.MixReferenceIdeal.nD Cert.MixReferenceIdeal.τ).loc Cert.MixReferenceIdeal.main_arg6) = m ((c.tc : Thread Cert.MixReferenceIdeal.nD Cert.MixReferenceIdeal.τ).loc Cert.MixReferenceIdeal.main_arg6))
      ∧ r.2.sem = fun _ => 0)

def quiescent_Proj [hProj : Cert.Proj.Facts] : Prop :=
  ∀ (m : (ℓ : Loc Cert.Proj.nD Cert.Proj.τ Cert.Proj.sig) → Buf (Elt Bits) ℓ) (g : Dev Cert.Proj.nD → PrngReg), Pre_Proj m →
    θ_run (Cert.Proj.defs (F := Bits)) (onTc (τ := Cert.Proj.τ) (Cert.Proj.main (F := Bits))) ⟨m, fun _ => 0, g⟩ (fun r => (∀ c : Dev Cert.Proj.nD,
      r.2.mem ((c.tc : Thread Cert.Proj.nD Cert.Proj.τ).loc Cert.Proj.main_arg0) = m ((c.tc : Thread Cert.Proj.nD Cert.Proj.τ).loc Cert.Proj.main_arg0)
      ∧ r.2.mem ((c.tc : Thread Cert.Proj.nD Cert.Proj.τ).loc Cert.Proj.main_arg1) = m ((c.tc : Thread Cert.Proj.nD Cert.Proj.τ).loc Cert.Proj.main_arg1)
      ∧ r.2.mem ((c.tc : Thread Cert.Proj.nD Cert.Proj.τ).loc Cert.Proj.main_arg2) = m ((c.tc : Thread Cert.Proj.nD Cert.Proj.τ).loc Cert.Proj.main_arg2))
      ∧ r.2.sem = fun _ => 0)

def quiescent_ProjIdeal [hProjIdeal : Cert.ProjIdeal.Facts] : Prop :=
  ∀ (m : (ℓ : Loc Cert.ProjIdeal.nD Cert.ProjIdeal.τ Cert.ProjIdeal.sig) → Buf (Elt Ideal) ℓ) (g : Dev Cert.ProjIdeal.nD → PrngReg), Pre_ProjIdeal m →
    θ_run (Cert.ProjIdeal.defs (F := Ideal)) (onTc (τ := Cert.ProjIdeal.τ) (Cert.ProjIdeal.main (F := Ideal))) ⟨m, fun _ => 0, g⟩ (fun r => (∀ c : Dev Cert.ProjIdeal.nD,
      r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
      ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1)
      ∧ r.2.mem ((c.tc : Thread Cert.ProjIdeal.nD Cert.ProjIdeal.τ).loc Cert.ProjIdeal.main_arg2) = m ((c.tc : Thread Cert.ProjIdeal.nD Cert.ProjIdeal.τ).loc Cert.ProjIdeal.main_arg2))
      ∧ r.2.sem = fun _ => 0)

def quiescent_ProjReferenceIdeal [hProjReferenceIdeal : Cert.ProjReferenceIdeal.Facts] : Prop :=
  ∀ (m : (ℓ : Loc Cert.ProjReferenceIdeal.nD Cert.ProjReferenceIdeal.τ Cert.ProjReferenceIdeal.sig) → Buf (Elt Ideal) ℓ) (g : Dev Cert.ProjReferenceIdeal.nD → PrngReg), Pre_ProjReferenceIdeal m →
    θ_run (Cert.ProjReferenceIdeal.defs (F := Ideal)) (onTc (τ := Cert.ProjReferenceIdeal.τ) (Cert.ProjReferenceIdeal.main (F := Ideal))) ⟨m, fun _ => 0, g⟩ (fun r => (∀ c : Dev Cert.ProjReferenceIdeal.nD,
      r.2.mem ((c.tc : Thread Cert.ProjReferenceIdeal.nD Cert.ProjReferenceIdeal.τ).loc Cert.ProjReferenceIdeal.main_arg0) = m ((c.tc : Thread Cert.ProjReferenceIdeal.nD Cert.ProjReferenceIdeal.τ).loc Cert.ProjReferenceIdeal.main_arg0)
      ∧ r.2.mem ((c.tc : Thread Cert.ProjReferenceIdeal.nD Cert.ProjReferenceIdeal.τ).loc Cert.ProjReferenceIdeal.main_arg1) = m ((c.tc : Thread Cert.ProjReferenceIdeal.nD Cert.ProjReferenceIdeal.τ).loc Cert.ProjReferenceIdeal.main_arg1)
      ∧ r.2.mem ((c.tc : Thread Cert.ProjReferenceIdeal.nD Cert.ProjReferenceIdeal.τ).loc Cert.ProjReferenceIdeal.main_arg2) = m ((c.tc : Thread Cert.ProjReferenceIdeal.nD Cert.ProjReferenceIdeal.τ).loc Cert.ProjReferenceIdeal.main_arg2))
      ∧ r.2.sem = fun _ => 0)

def quiescent_ProjX [hProjX : Cert.ProjX.Facts] : Prop :=
  ∀ (m : (ℓ : Loc Cert.ProjX.nD Cert.ProjX.τ Cert.ProjX.sig) → Buf (Elt Bits) ℓ) (g : Dev Cert.ProjX.nD → PrngReg), Pre_ProjX m →
    θ_run (Cert.ProjX.defs (F := Bits)) (onTc (τ := Cert.ProjX.τ) (Cert.ProjX.main (F := Bits))) ⟨m, fun _ => 0, g⟩ (fun r => (∀ c : Dev Cert.ProjX.nD,
      r.2.mem ((c.tc : Thread Cert.ProjX.nD Cert.ProjX.τ).loc Cert.ProjX.main_arg0) = m ((c.tc : Thread Cert.ProjX.nD Cert.ProjX.τ).loc Cert.ProjX.main_arg0)
      ∧ r.2.mem ((c.tc : Thread Cert.ProjX.nD Cert.ProjX.τ).loc Cert.ProjX.main_arg1) = m ((c.tc : Thread Cert.ProjX.nD Cert.ProjX.τ).loc Cert.ProjX.main_arg1))
      ∧ r.2.sem = fun _ => 0)

def quiescent_ProjXIdeal [hProjXIdeal : Cert.ProjXIdeal.Facts] : Prop :=
  ∀ (m : (ℓ : Loc Cert.ProjXIdeal.nD Cert.ProjXIdeal.τ Cert.ProjXIdeal.sig) → Buf (Elt Ideal) ℓ) (g : Dev Cert.ProjXIdeal.nD → PrngReg), Pre_ProjXIdeal m →
    θ_run (Cert.ProjXIdeal.defs (F := Ideal)) (onTc (τ := Cert.ProjXIdeal.τ) (Cert.ProjXIdeal.main (F := Ideal))) ⟨m, fun _ => 0, g⟩ (fun r => (∀ c : Dev Cert.ProjXIdeal.nD,
      r.2.mem ((c.tc : Thread Cert.ProjXIdeal.nD Cert.ProjXIdeal.τ).loc Cert.ProjXIdeal.main_arg0) = m ((c.tc : Thread Cert.ProjXIdeal.nD Cert.ProjXIdeal.τ).loc Cert.ProjXIdeal.main_arg0)
      ∧ r.2.mem ((c.tc : Thread Cert.ProjXIdeal.nD Cert.ProjXIdeal.τ).loc Cert.ProjXIdeal.main_arg1) = m ((c.tc : Thread Cert.ProjXIdeal.nD Cert.ProjXIdeal.τ).loc Cert.ProjXIdeal.main_arg1))
      ∧ r.2.sem = fun _ => 0)

def quiescent_ProjXReferenceIdeal [hProjXReferenceIdeal : Cert.ProjXReferenceIdeal.Facts] : Prop :=
  ∀ (m : (ℓ : Loc Cert.ProjXReferenceIdeal.nD Cert.ProjXReferenceIdeal.τ Cert.ProjXReferenceIdeal.sig) → Buf (Elt Ideal) ℓ) (g : Dev Cert.ProjXReferenceIdeal.nD → PrngReg), Pre_ProjXReferenceIdeal m →
    θ_run (Cert.ProjXReferenceIdeal.defs (F := Ideal)) (onTc (τ := Cert.ProjXReferenceIdeal.τ) (Cert.ProjXReferenceIdeal.main (F := Ideal))) ⟨m, fun _ => 0, g⟩ (fun r => (∀ c : Dev Cert.ProjXReferenceIdeal.nD,
      r.2.mem ((c.tc : Thread Cert.ProjXReferenceIdeal.nD Cert.ProjXReferenceIdeal.τ).loc Cert.ProjXReferenceIdeal.main_arg0) = m ((c.tc : Thread Cert.ProjXReferenceIdeal.nD Cert.ProjXReferenceIdeal.τ).loc Cert.ProjXReferenceIdeal.main_arg0)
      ∧ r.2.mem ((c.tc : Thread Cert.ProjXReferenceIdeal.nD Cert.ProjXReferenceIdeal.τ).loc Cert.ProjXReferenceIdeal.main_arg1) = m ((c.tc : Thread Cert.ProjXReferenceIdeal.nD Cert.ProjXReferenceIdeal.τ).loc Cert.ProjXReferenceIdeal.main_arg1))
      ∧ r.2.sem = fun _ => 0)

def quiescent_GluX [hGluX : Cert.GluX.Facts] : Prop :=
  ∀ (m : (ℓ : Loc Cert.GluX.nD Cert.GluX.τ Cert.GluX.sig) → Buf (Elt Bits) ℓ) (g : Dev Cert.GluX.nD → PrngReg), Pre_GluX m →
    θ_run (Cert.GluX.defs (F := Bits)) (onTc (τ := Cert.GluX.τ) (Cert.GluX.main (F := Bits))) ⟨m, fun _ => 0, g⟩ (fun r => (∀ c : Dev Cert.GluX.nD,
      r.2.mem ((c.tc : Thread Cert.GluX.nD Cert.GluX.τ).loc Cert.GluX.main_arg0) = m ((c.tc : Thread Cert.GluX.nD Cert.GluX.τ).loc Cert.GluX.main_arg0)
      ∧ r.2.mem ((c.tc : Thread Cert.GluX.nD Cert.GluX.τ).loc Cert.GluX.main_arg1) = m ((c.tc : Thread Cert.GluX.nD Cert.GluX.τ).loc Cert.GluX.main_arg1))
      ∧ r.2.sem = fun _ => 0)

def quiescent_GluXIdeal [hGluXIdeal : Cert.GluXIdeal.Facts] : Prop :=
  ∀ (m : (ℓ : Loc Cert.GluXIdeal.nD Cert.GluXIdeal.τ Cert.GluXIdeal.sig) → Buf (Elt Ideal) ℓ) (g : Dev Cert.GluXIdeal.nD → PrngReg), Pre_GluXIdeal m →
    θ_run (Cert.GluXIdeal.defs (F := Ideal)) (onTc (τ := Cert.GluXIdeal.τ) (Cert.GluXIdeal.main (F := Ideal))) ⟨m, fun _ => 0, g⟩ (fun r => (∀ c : Dev Cert.GluXIdeal.nD,
      r.2.mem ((c.tc : Thread Cert.GluXIdeal.nD Cert.GluXIdeal.τ).loc Cert.GluXIdeal.main_arg0) = m ((c.tc : Thread Cert.GluXIdeal.nD Cert.GluXIdeal.τ).loc Cert.GluXIdeal.main_arg0)
      ∧ r.2.mem ((c.tc : Thread Cert.GluXIdeal.nD Cert.GluXIdeal.τ).loc Cert.GluXIdeal.main_arg1) = m ((c.tc : Thread Cert.GluXIdeal.nD Cert.GluXIdeal.τ).loc Cert.GluXIdeal.main_arg1))
      ∧ r.2.sem = fun _ => 0)

def quiescent_GluXReferenceIdeal [hGluXReferenceIdeal : Cert.GluXReferenceIdeal.Facts] : Prop :=
  ∀ (m : (ℓ : Loc Cert.GluXReferenceIdeal.nD Cert.GluXReferenceIdeal.τ Cert.GluXReferenceIdeal.sig) → Buf (Elt Ideal) ℓ) (g : Dev Cert.GluXReferenceIdeal.nD → PrngReg), Pre_GluXReferenceIdeal m →
    θ_run (Cert.GluXReferenceIdeal.defs (F := Ideal)) (onTc (τ := Cert.GluXReferenceIdeal.τ) (Cert.GluXReferenceIdeal.main (F := Ideal))) ⟨m, fun _ => 0, g⟩ (fun r => (∀ c : Dev Cert.GluXReferenceIdeal.nD,
      r.2.mem ((c.tc : Thread Cert.GluXReferenceIdeal.nD Cert.GluXReferenceIdeal.τ).loc Cert.GluXReferenceIdeal.main_arg0) = m ((c.tc : Thread Cert.GluXReferenceIdeal.nD Cert.GluXReferenceIdeal.τ).loc Cert.GluXReferenceIdeal.main_arg0)
      ∧ r.2.mem ((c.tc : Thread Cert.GluXReferenceIdeal.nD Cert.GluXReferenceIdeal.τ).loc Cert.GluXReferenceIdeal.main_arg1) = m ((c.tc : Thread Cert.GluXReferenceIdeal.nD Cert.GluXReferenceIdeal.τ).loc Cert.GluXReferenceIdeal.main_arg1))
      ∧ r.2.sem = fun _ => 0)

def quiescent_MlaX [hMlaX : Cert.MlaX.Facts] : Prop :=
  ∀ (m : (ℓ : Loc Cert.MlaX.nD Cert.MlaX.τ Cert.MlaX.sig) → Buf (Elt Bits) ℓ) (g : Dev Cert.MlaX.nD → PrngReg), Pre_MlaX m →
    θ_run (Cert.MlaX.defs (F := Bits)) (onTc (τ := Cert.MlaX.τ) (Cert.MlaX.main (F := Bits))) ⟨m, fun _ => 0, g⟩ (fun r => (∀ c : Dev Cert.MlaX.nD,
      r.2.mem ((c.tc : Thread Cert.MlaX.nD Cert.MlaX.τ).loc Cert.MlaX.main_arg0) = m ((c.tc : Thread Cert.MlaX.nD Cert.MlaX.τ).loc Cert.MlaX.main_arg0)
      ∧ r.2.mem ((c.tc : Thread Cert.MlaX.nD Cert.MlaX.τ).loc Cert.MlaX.main_arg1) = m ((c.tc : Thread Cert.MlaX.nD Cert.MlaX.τ).loc Cert.MlaX.main_arg1))
      ∧ r.2.sem = fun _ => 0)

def quiescent_MlaXIdeal [hMlaXIdeal : Cert.MlaXIdeal.Facts] : Prop :=
  ∀ (m : (ℓ : Loc Cert.MlaXIdeal.nD Cert.MlaXIdeal.τ Cert.MlaXIdeal.sig) → Buf (Elt Ideal) ℓ) (g : Dev Cert.MlaXIdeal.nD → PrngReg), Pre_MlaXIdeal m →
    θ_run (Cert.MlaXIdeal.defs (F := Ideal)) (onTc (τ := Cert.MlaXIdeal.τ) (Cert.MlaXIdeal.main (F := Ideal))) ⟨m, fun _ => 0, g⟩ (fun r => (∀ c : Dev Cert.MlaXIdeal.nD,
      r.2.mem ((c.tc : Thread Cert.MlaXIdeal.nD Cert.MlaXIdeal.τ).loc Cert.MlaXIdeal.main_arg0) = m ((c.tc : Thread Cert.MlaXIdeal.nD Cert.MlaXIdeal.τ).loc Cert.MlaXIdeal.main_arg0)
      ∧ r.2.mem ((c.tc : Thread Cert.MlaXIdeal.nD Cert.MlaXIdeal.τ).loc Cert.MlaXIdeal.main_arg1) = m ((c.tc : Thread Cert.MlaXIdeal.nD Cert.MlaXIdeal.τ).loc Cert.MlaXIdeal.main_arg1))
      ∧ r.2.sem = fun _ => 0)

def quiescent_MlaXReferenceIdeal [hMlaXReferenceIdeal : Cert.MlaXReferenceIdeal.Facts] : Prop :=
  ∀ (m : (ℓ : Loc Cert.MlaXReferenceIdeal.nD Cert.MlaXReferenceIdeal.τ Cert.MlaXReferenceIdeal.sig) → Buf (Elt Ideal) ℓ) (g : Dev Cert.MlaXReferenceIdeal.nD → PrngReg), Pre_MlaXReferenceIdeal m →
    θ_run (Cert.MlaXReferenceIdeal.defs (F := Ideal)) (onTc (τ := Cert.MlaXReferenceIdeal.τ) (Cert.MlaXReferenceIdeal.main (F := Ideal))) ⟨m, fun _ => 0, g⟩ (fun r => (∀ c : Dev Cert.MlaXReferenceIdeal.nD,
      r.2.mem ((c.tc : Thread Cert.MlaXReferenceIdeal.nD Cert.MlaXReferenceIdeal.τ).loc Cert.MlaXReferenceIdeal.main_arg0) = m ((c.tc : Thread Cert.MlaXReferenceIdeal.nD Cert.MlaXReferenceIdeal.τ).loc Cert.MlaXReferenceIdeal.main_arg0)
      ∧ r.2.mem ((c.tc : Thread Cert.MlaXReferenceIdeal.nD Cert.MlaXReferenceIdeal.τ).loc Cert.MlaXReferenceIdeal.main_arg1) = m ((c.tc : Thread Cert.MlaXReferenceIdeal.nD Cert.MlaXReferenceIdeal.τ).loc Cert.MlaXReferenceIdeal.main_arg1))
      ∧ r.2.sem = fun _ => 0)

def quiescent_Latent [hLatent : Cert.Latent.Facts] : Prop :=
  ∀ (m : (ℓ : Loc Cert.Latent.nD Cert.Latent.τ Cert.Latent.sig) → Buf (Elt Bits) ℓ) (g : Dev Cert.Latent.nD → PrngReg), Pre_Latent m →
    θ_run (Cert.Latent.defs (F := Bits)) (onTc (τ := Cert.Latent.τ) (Cert.Latent.main (F := Bits))) ⟨m, fun _ => 0, g⟩ (fun r => (∀ c : Dev Cert.Latent.nD,
      r.2.mem ((c.tc : Thread Cert.Latent.nD Cert.Latent.τ).loc Cert.Latent.main_arg0) = m ((c.tc : Thread Cert.Latent.nD Cert.Latent.τ).loc Cert.Latent.main_arg0)
      ∧ r.2.mem ((c.tc : Thread Cert.Latent.nD Cert.Latent.τ).loc Cert.Latent.main_arg1) = m ((c.tc : Thread Cert.Latent.nD Cert.Latent.τ).loc Cert.Latent.main_arg1)
      ∧ r.2.mem ((c.tc : Thread Cert.Latent.nD Cert.Latent.τ).loc Cert.Latent.main_arg2) = m ((c.tc : Thread Cert.Latent.nD Cert.Latent.τ).loc Cert.Latent.main_arg2)
      ∧ r.2.mem ((c.tc : Thread Cert.Latent.nD Cert.Latent.τ).loc Cert.Latent.main_arg3) = m ((c.tc : Thread Cert.Latent.nD Cert.Latent.τ).loc Cert.Latent.main_arg3)
      ∧ r.2.mem ((c.tc : Thread Cert.Latent.nD Cert.Latent.τ).loc Cert.Latent.main_arg4) = m ((c.tc : Thread Cert.Latent.nD Cert.Latent.τ).loc Cert.Latent.main_arg4)
      ∧ r.2.mem ((c.tc : Thread Cert.Latent.nD Cert.Latent.τ).loc Cert.Latent.main_arg5) = m ((c.tc : Thread Cert.Latent.nD Cert.Latent.τ).loc Cert.Latent.main_arg5))
      ∧ r.2.sem = fun _ => 0)

def quiescent_LatentIdeal [hLatentIdeal : Cert.LatentIdeal.Facts] : Prop :=
  ∀ (m : (ℓ : Loc Cert.LatentIdeal.nD Cert.LatentIdeal.τ Cert.LatentIdeal.sig) → Buf (Elt Ideal) ℓ) (g : Dev Cert.LatentIdeal.nD → PrngReg), Pre_LatentIdeal m →
    θ_run (Cert.LatentIdeal.defs (F := Ideal)) (onTc (τ := Cert.LatentIdeal.τ) (Cert.LatentIdeal.main (F := Ideal))) ⟨m, fun _ => 0, g⟩ (fun r => (∀ c : Dev Cert.LatentIdeal.nD,
      r.2.mem ((c.tc : Thread Cert.LatentIdeal.nD Cert.LatentIdeal.τ).loc Cert.LatentIdeal.main_arg0) = m ((c.tc : Thread Cert.LatentIdeal.nD Cert.LatentIdeal.τ).loc Cert.LatentIdeal.main_arg0)
      ∧ r.2.mem ((c.tc : Thread Cert.LatentIdeal.nD Cert.LatentIdeal.τ).loc Cert.LatentIdeal.main_arg1) = m ((c.tc : Thread Cert.LatentIdeal.nD Cert.LatentIdeal.τ).loc Cert.LatentIdeal.main_arg1)
      ∧ r.2.mem ((c.tc : Thread Cert.LatentIdeal.nD Cert.LatentIdeal.τ).loc Cert.LatentIdeal.main_arg2) = m ((c.tc : Thread Cert.LatentIdeal.nD Cert.LatentIdeal.τ).loc Cert.LatentIdeal.main_arg2)
      ∧ r.2.mem ((c.tc : Thread Cert.LatentIdeal.nD Cert.LatentIdeal.τ).loc Cert.LatentIdeal.main_arg3) = m ((c.tc : Thread Cert.LatentIdeal.nD Cert.LatentIdeal.τ).loc Cert.LatentIdeal.main_arg3)
      ∧ r.2.mem ((c.tc : Thread Cert.LatentIdeal.nD Cert.LatentIdeal.τ).loc Cert.LatentIdeal.main_arg4) = m ((c.tc : Thread Cert.LatentIdeal.nD Cert.LatentIdeal.τ).loc Cert.LatentIdeal.main_arg4)
      ∧ r.2.mem ((c.tc : Thread Cert.LatentIdeal.nD Cert.LatentIdeal.τ).loc Cert.LatentIdeal.main_arg5) = m ((c.tc : Thread Cert.LatentIdeal.nD Cert.LatentIdeal.τ).loc Cert.LatentIdeal.main_arg5))
      ∧ r.2.sem = fun _ => 0)

def quiescent_LatentReferenceIdeal [hLatentReferenceIdeal : Cert.LatentReferenceIdeal.Facts] : Prop :=
  ∀ (m : (ℓ : Loc Cert.LatentReferenceIdeal.nD Cert.LatentReferenceIdeal.τ Cert.LatentReferenceIdeal.sig) → Buf (Elt Ideal) ℓ) (g : Dev Cert.LatentReferenceIdeal.nD → PrngReg), Pre_LatentReferenceIdeal m →
    θ_run (Cert.LatentReferenceIdeal.defs (F := Ideal)) (onTc (τ := Cert.LatentReferenceIdeal.τ) (Cert.LatentReferenceIdeal.main (F := Ideal))) ⟨m, fun _ => 0, g⟩ (fun r => (∀ c : Dev Cert.LatentReferenceIdeal.nD,
      r.2.mem ((c.tc : Thread Cert.LatentReferenceIdeal.nD Cert.LatentReferenceIdeal.τ).loc Cert.LatentReferenceIdeal.main_arg0) = m ((c.tc : Thread Cert.LatentReferenceIdeal.nD Cert.LatentReferenceIdeal.τ).loc Cert.LatentReferenceIdeal.main_arg0)
      ∧ r.2.mem ((c.tc : Thread Cert.LatentReferenceIdeal.nD Cert.LatentReferenceIdeal.τ).loc Cert.LatentReferenceIdeal.main_arg1) = m ((c.tc : Thread Cert.LatentReferenceIdeal.nD Cert.LatentReferenceIdeal.τ).loc Cert.LatentReferenceIdeal.main_arg1)
      ∧ r.2.mem ((c.tc : Thread Cert.LatentReferenceIdeal.nD Cert.LatentReferenceIdeal.τ).loc Cert.LatentReferenceIdeal.main_arg2) = m ((c.tc : Thread Cert.LatentReferenceIdeal.nD Cert.LatentReferenceIdeal.τ).loc Cert.LatentReferenceIdeal.main_arg2)
      ∧ r.2.mem ((c.tc : Thread Cert.LatentReferenceIdeal.nD Cert.LatentReferenceIdeal.τ).loc Cert.LatentReferenceIdeal.main_arg3) = m ((c.tc : Thread Cert.LatentReferenceIdeal.nD Cert.LatentReferenceIdeal.τ).loc Cert.LatentReferenceIdeal.main_arg3)
      ∧ r.2.mem ((c.tc : Thread Cert.LatentReferenceIdeal.nD Cert.LatentReferenceIdeal.τ).loc Cert.LatentReferenceIdeal.main_arg4) = m ((c.tc : Thread Cert.LatentReferenceIdeal.nD Cert.LatentReferenceIdeal.τ).loc Cert.LatentReferenceIdeal.main_arg4)
      ∧ r.2.mem ((c.tc : Thread Cert.LatentReferenceIdeal.nD Cert.LatentReferenceIdeal.τ).loc Cert.LatentReferenceIdeal.main_arg5) = m ((c.tc : Thread Cert.LatentReferenceIdeal.nD Cert.LatentReferenceIdeal.τ).loc Cert.LatentReferenceIdeal.main_arg5))
      ∧ r.2.sem = fun _ => 0)

def quiescent_Attend [hAttend : Cert.Attend.Facts] : Prop :=
  ∀ (m : (ℓ : Loc Cert.Attend.nD Cert.Attend.τ Cert.Attend.sig) → Buf (Elt Bits) ℓ) (g : Dev Cert.Attend.nD → PrngReg), Pre_Attend m →
    θ_run (Cert.Attend.defs (F := Bits)) (onTc (τ := Cert.Attend.τ) (Cert.Attend.main (F := Bits))) ⟨m, fun _ => 0, g⟩ (fun r => (∀ c : Dev Cert.Attend.nD,
      r.2.mem ((c.tc : Thread Cert.Attend.nD Cert.Attend.τ).loc Cert.Attend.main_arg0) = m ((c.tc : Thread Cert.Attend.nD Cert.Attend.τ).loc Cert.Attend.main_arg0)
      ∧ r.2.mem ((c.tc : Thread Cert.Attend.nD Cert.Attend.τ).loc Cert.Attend.main_arg1) = m ((c.tc : Thread Cert.Attend.nD Cert.Attend.τ).loc Cert.Attend.main_arg1)
      ∧ r.2.mem ((c.tc : Thread Cert.Attend.nD Cert.Attend.τ).loc Cert.Attend.main_arg2) = m ((c.tc : Thread Cert.Attend.nD Cert.Attend.τ).loc Cert.Attend.main_arg2)
      ∧ r.2.mem ((c.tc : Thread Cert.Attend.nD Cert.Attend.τ).loc Cert.Attend.main_arg3) = m ((c.tc : Thread Cert.Attend.nD Cert.Attend.τ).loc Cert.Attend.main_arg3))
      ∧ r.2.sem = fun _ => 0)

def quiescent_AttendIdeal [hAttendIdeal : Cert.AttendIdeal.Facts] : Prop :=
  ∀ (m : (ℓ : Loc Cert.AttendIdeal.nD Cert.AttendIdeal.τ Cert.AttendIdeal.sig) → Buf (Elt Ideal) ℓ) (g : Dev Cert.AttendIdeal.nD → PrngReg), Pre_AttendIdeal m →
    θ_run (Cert.AttendIdeal.defs (F := Ideal)) (onTc (τ := Cert.AttendIdeal.τ) (Cert.AttendIdeal.main (F := Ideal))) ⟨m, fun _ => 0, g⟩ (fun r => (∀ c : Dev Cert.AttendIdeal.nD,
      r.2.mem ((c.tc : Thread Cert.AttendIdeal.nD Cert.AttendIdeal.τ).loc Cert.AttendIdeal.main_arg0) = m ((c.tc : Thread Cert.AttendIdeal.nD Cert.AttendIdeal.τ).loc Cert.AttendIdeal.main_arg0)
      ∧ r.2.mem ((c.tc : Thread Cert.AttendIdeal.nD Cert.AttendIdeal.τ).loc Cert.AttendIdeal.main_arg1) = m ((c.tc : Thread Cert.AttendIdeal.nD Cert.AttendIdeal.τ).loc Cert.AttendIdeal.main_arg1)
      ∧ r.2.mem ((c.tc : Thread Cert.AttendIdeal.nD Cert.AttendIdeal.τ).loc Cert.AttendIdeal.main_arg2) = m ((c.tc : Thread Cert.AttendIdeal.nD Cert.AttendIdeal.τ).loc Cert.AttendIdeal.main_arg2)
      ∧ r.2.mem ((c.tc : Thread Cert.AttendIdeal.nD Cert.AttendIdeal.τ).loc Cert.AttendIdeal.main_arg3) = m ((c.tc : Thread Cert.AttendIdeal.nD Cert.AttendIdeal.τ).loc Cert.AttendIdeal.main_arg3))
      ∧ r.2.sem = fun _ => 0)

def quiescent_AttendIdeal_pre_finite_scores [hAttendIdeal : Cert.AttendIdeal.Facts] [hPre_finite_scores : Cert.Pre_finite_scores.Facts] : Prop :=
  ∀ (m : (ℓ : Loc Cert.AttendIdeal.nD Cert.AttendIdeal.τ Cert.AttendIdeal.sig) → Buf (Elt Ideal) ℓ) (g : Dev Cert.AttendIdeal.nD → PrngReg), Pre_AttendIdeal_finite_scores m →
    θ_run (Cert.AttendIdeal.defs (F := Ideal)) (onTc (τ := Cert.AttendIdeal.τ) (Cert.AttendIdeal.main (F := Ideal))) ⟨m, fun _ => 0, g⟩ (fun r => (∀ c : Dev Cert.AttendIdeal.nD,
      r.2.mem ((c.tc : Thread Cert.AttendIdeal.nD Cert.AttendIdeal.τ).loc Cert.AttendIdeal.main_arg0) = m ((c.tc : Thread Cert.AttendIdeal.nD Cert.AttendIdeal.τ).loc Cert.AttendIdeal.main_arg0)
      ∧ r.2.mem ((c.tc : Thread Cert.AttendIdeal.nD Cert.AttendIdeal.τ).loc Cert.AttendIdeal.main_arg1) = m ((c.tc : Thread Cert.AttendIdeal.nD Cert.AttendIdeal.τ).loc Cert.AttendIdeal.main_arg1)
      ∧ r.2.mem ((c.tc : Thread Cert.AttendIdeal.nD Cert.AttendIdeal.τ).loc Cert.AttendIdeal.main_arg2) = m ((c.tc : Thread Cert.AttendIdeal.nD Cert.AttendIdeal.τ).loc Cert.AttendIdeal.main_arg2)
      ∧ r.2.mem ((c.tc : Thread Cert.AttendIdeal.nD Cert.AttendIdeal.τ).loc Cert.AttendIdeal.main_arg3) = m ((c.tc : Thread Cert.AttendIdeal.nD Cert.AttendIdeal.τ).loc Cert.AttendIdeal.main_arg3))
      ∧ r.2.sem = fun _ => 0)

def quiescent_AttendReferenceIdeal [hAttendReferenceIdeal : Cert.AttendReferenceIdeal.Facts] : Prop :=
  ∀ (m : (ℓ : Loc Cert.AttendReferenceIdeal.nD Cert.AttendReferenceIdeal.τ Cert.AttendReferenceIdeal.sig) → Buf (Elt Ideal) ℓ) (g : Dev Cert.AttendReferenceIdeal.nD → PrngReg), Pre_AttendReferenceIdeal m →
    θ_run (Cert.AttendReferenceIdeal.defs (F := Ideal)) (onTc (τ := Cert.AttendReferenceIdeal.τ) (Cert.AttendReferenceIdeal.main (F := Ideal))) ⟨m, fun _ => 0, g⟩ (fun r => (∀ c : Dev Cert.AttendReferenceIdeal.nD,
      r.2.mem ((c.tc : Thread Cert.AttendReferenceIdeal.nD Cert.AttendReferenceIdeal.τ).loc Cert.AttendReferenceIdeal.main_arg0) = m ((c.tc : Thread Cert.AttendReferenceIdeal.nD Cert.AttendReferenceIdeal.τ).loc Cert.AttendReferenceIdeal.main_arg0)
      ∧ r.2.mem ((c.tc : Thread Cert.AttendReferenceIdeal.nD Cert.AttendReferenceIdeal.τ).loc Cert.AttendReferenceIdeal.main_arg1) = m ((c.tc : Thread Cert.AttendReferenceIdeal.nD Cert.AttendReferenceIdeal.τ).loc Cert.AttendReferenceIdeal.main_arg1)
      ∧ r.2.mem ((c.tc : Thread Cert.AttendReferenceIdeal.nD Cert.AttendReferenceIdeal.τ).loc Cert.AttendReferenceIdeal.main_arg2) = m ((c.tc : Thread Cert.AttendReferenceIdeal.nD Cert.AttendReferenceIdeal.τ).loc Cert.AttendReferenceIdeal.main_arg2)
      ∧ r.2.mem ((c.tc : Thread Cert.AttendReferenceIdeal.nD Cert.AttendReferenceIdeal.τ).loc Cert.AttendReferenceIdeal.main_arg3) = m ((c.tc : Thread Cert.AttendReferenceIdeal.nD Cert.AttendReferenceIdeal.τ).loc Cert.AttendReferenceIdeal.main_arg3))
      ∧ r.2.sem = fun _ => 0)

def quiescent_AttendReferenceIdeal_pre_finite_scores [hAttendReferenceIdeal : Cert.AttendReferenceIdeal.Facts] [hPre_finite_scores : Cert.Pre_finite_scores.Facts] : Prop :=
  ∀ (m : (ℓ : Loc Cert.AttendReferenceIdeal.nD Cert.AttendReferenceIdeal.τ Cert.AttendReferenceIdeal.sig) → Buf (Elt Ideal) ℓ) (g : Dev Cert.AttendReferenceIdeal.nD → PrngReg), Pre_AttendReferenceIdeal_finite_scores m →
    θ_run (Cert.AttendReferenceIdeal.defs (F := Ideal)) (onTc (τ := Cert.AttendReferenceIdeal.τ) (Cert.AttendReferenceIdeal.main (F := Ideal))) ⟨m, fun _ => 0, g⟩ (fun r => (∀ c : Dev Cert.AttendReferenceIdeal.nD,
      r.2.mem ((c.tc : Thread Cert.AttendReferenceIdeal.nD Cert.AttendReferenceIdeal.τ).loc Cert.AttendReferenceIdeal.main_arg0) = m ((c.tc : Thread Cert.AttendReferenceIdeal.nD Cert.AttendReferenceIdeal.τ).loc Cert.AttendReferenceIdeal.main_arg0)
      ∧ r.2.mem ((c.tc : Thread Cert.AttendReferenceIdeal.nD Cert.AttendReferenceIdeal.τ).loc Cert.AttendReferenceIdeal.main_arg1) = m ((c.tc : Thread Cert.AttendReferenceIdeal.nD Cert.AttendReferenceIdeal.τ).loc Cert.AttendReferenceIdeal.main_arg1)
      ∧ r.2.mem ((c.tc : Thread Cert.AttendReferenceIdeal.nD Cert.AttendReferenceIdeal.τ).loc Cert.AttendReferenceIdeal.main_arg2) = m ((c.tc : Thread Cert.AttendReferenceIdeal.nD Cert.AttendReferenceIdeal.τ).loc Cert.AttendReferenceIdeal.main_arg2)
      ∧ r.2.mem ((c.tc : Thread Cert.AttendReferenceIdeal.nD Cert.AttendReferenceIdeal.τ).loc Cert.AttendReferenceIdeal.main_arg3) = m ((c.tc : Thread Cert.AttendReferenceIdeal.nD Cert.AttendReferenceIdeal.τ).loc Cert.AttendReferenceIdeal.main_arg3))
      ∧ r.2.sem = fun _ => 0)

def quiescent_Mod [hMod : Cert.Mod.Facts] : Prop :=
  ∀ (m : (ℓ : Loc Cert.Mod.nD Cert.Mod.τ Cert.Mod.sig) → Buf (Elt Bits) ℓ) (g : Dev Cert.Mod.nD → PrngReg), Pre_Mod m →
    θ_run (Cert.Mod.defs (F := Bits)) (onTc (τ := Cert.Mod.τ) (Cert.Mod.main (F := Bits))) ⟨m, fun _ => 0, g⟩ (fun r => (∀ c : Dev Cert.Mod.nD,
      r.2.mem ((c.tc : Thread Cert.Mod.nD Cert.Mod.τ).loc Cert.Mod.main_arg0) = m ((c.tc : Thread Cert.Mod.nD Cert.Mod.τ).loc Cert.Mod.main_arg0)
      ∧ r.2.mem ((c.tc : Thread Cert.Mod.nD Cert.Mod.τ).loc Cert.Mod.main_arg1) = m ((c.tc : Thread Cert.Mod.nD Cert.Mod.τ).loc Cert.Mod.main_arg1)
      ∧ r.2.mem ((c.tc : Thread Cert.Mod.nD Cert.Mod.τ).loc Cert.Mod.main_arg2) = m ((c.tc : Thread Cert.Mod.nD Cert.Mod.τ).loc Cert.Mod.main_arg2))
      ∧ r.2.sem = fun _ => 0)

def quiescent_ModIdeal [hModIdeal : Cert.ModIdeal.Facts] : Prop :=
  ∀ (m : (ℓ : Loc Cert.ModIdeal.nD Cert.ModIdeal.τ Cert.ModIdeal.sig) → Buf (Elt Ideal) ℓ) (g : Dev Cert.ModIdeal.nD → PrngReg), Pre_ModIdeal m →
    θ_run (Cert.ModIdeal.defs (F := Ideal)) (onTc (τ := Cert.ModIdeal.τ) (Cert.ModIdeal.main (F := Ideal))) ⟨m, fun _ => 0, g⟩ (fun r => (∀ c : Dev Cert.ModIdeal.nD,
      r.2.mem ((c.tc : Thread Cert.ModIdeal.nD Cert.ModIdeal.τ).loc Cert.ModIdeal.main_arg0) = m ((c.tc : Thread Cert.ModIdeal.nD Cert.ModIdeal.τ).loc Cert.ModIdeal.main_arg0)
      ∧ r.2.mem ((c.tc : Thread Cert.ModIdeal.nD Cert.ModIdeal.τ).loc Cert.ModIdeal.main_arg1) = m ((c.tc : Thread Cert.ModIdeal.nD Cert.ModIdeal.τ).loc Cert.ModIdeal.main_arg1)
      ∧ r.2.mem ((c.tc : Thread Cert.ModIdeal.nD Cert.ModIdeal.τ).loc Cert.ModIdeal.main_arg2) = m ((c.tc : Thread Cert.ModIdeal.nD Cert.ModIdeal.τ).loc Cert.ModIdeal.main_arg2))
      ∧ r.2.sem = fun _ => 0)

def quiescent_ModReferenceIdeal [hModReferenceIdeal : Cert.ModReferenceIdeal.Facts] : Prop :=
  ∀ (m : (ℓ : Loc Cert.ModReferenceIdeal.nD Cert.ModReferenceIdeal.τ Cert.ModReferenceIdeal.sig) → Buf (Elt Ideal) ℓ) (g : Dev Cert.ModReferenceIdeal.nD → PrngReg), Pre_ModReferenceIdeal m →
    θ_run (Cert.ModReferenceIdeal.defs (F := Ideal)) (onTc (τ := Cert.ModReferenceIdeal.τ) (Cert.ModReferenceIdeal.main (F := Ideal))) ⟨m, fun _ => 0, g⟩ (fun r => (∀ c : Dev Cert.ModReferenceIdeal.nD,
      r.2.mem ((c.tc : Thread Cert.ModReferenceIdeal.nD Cert.ModReferenceIdeal.τ).loc Cert.ModReferenceIdeal.main_arg0) = m ((c.tc : Thread Cert.ModReferenceIdeal.nD Cert.ModReferenceIdeal.τ).loc Cert.ModReferenceIdeal.main_arg0)
      ∧ r.2.mem ((c.tc : Thread Cert.ModReferenceIdeal.nD Cert.ModReferenceIdeal.τ).loc Cert.ModReferenceIdeal.main_arg1) = m ((c.tc : Thread Cert.ModReferenceIdeal.nD Cert.ModReferenceIdeal.τ).loc Cert.ModReferenceIdeal.main_arg1)
      ∧ r.2.mem ((c.tc : Thread Cert.ModReferenceIdeal.nD Cert.ModReferenceIdeal.τ).loc Cert.ModReferenceIdeal.main_arg2) = m ((c.tc : Thread Cert.ModReferenceIdeal.nD Cert.ModReferenceIdeal.τ).loc Cert.ModReferenceIdeal.main_arg2))
      ∧ r.2.sem = fun _ => 0)

def quiescent_Norms [hNorms : Cert.Norms.Facts] : Prop :=
  ∀ (m : (ℓ : Loc Cert.Norms.nD Cert.Norms.τ Cert.Norms.sig) → Buf (Elt Bits) ℓ) (g : Dev Cert.Norms.nD → PrngReg), Pre_Norms m →
    θ_run (Cert.Norms.defs (F := Bits)) (onTc (τ := Cert.Norms.τ) (Cert.Norms.main (F := Bits))) ⟨m, fun _ => 0, g⟩ (fun r => (∀ c : Dev Cert.Norms.nD,
      r.2.mem ((c.tc : Thread Cert.Norms.nD Cert.Norms.τ).loc Cert.Norms.main_arg0) = m ((c.tc : Thread Cert.Norms.nD Cert.Norms.τ).loc Cert.Norms.main_arg0)
      ∧ r.2.mem ((c.tc : Thread Cert.Norms.nD Cert.Norms.τ).loc Cert.Norms.main_arg1) = m ((c.tc : Thread Cert.Norms.nD Cert.Norms.τ).loc Cert.Norms.main_arg1)
      ∧ r.2.mem ((c.tc : Thread Cert.Norms.nD Cert.Norms.τ).loc Cert.Norms.main_arg2) = m ((c.tc : Thread Cert.Norms.nD Cert.Norms.τ).loc Cert.Norms.main_arg2)
      ∧ r.2.mem ((c.tc : Thread Cert.Norms.nD Cert.Norms.τ).loc Cert.Norms.main_arg3) = m ((c.tc : Thread Cert.Norms.nD Cert.Norms.τ).loc Cert.Norms.main_arg3)
      ∧ r.2.mem ((c.tc : Thread Cert.Norms.nD Cert.Norms.τ).loc Cert.Norms.main_arg4) = m ((c.tc : Thread Cert.Norms.nD Cert.Norms.τ).loc Cert.Norms.main_arg4)
      ∧ r.2.mem ((c.tc : Thread Cert.Norms.nD Cert.Norms.τ).loc Cert.Norms.main_arg5) = m ((c.tc : Thread Cert.Norms.nD Cert.Norms.τ).loc Cert.Norms.main_arg5)
      ∧ r.2.mem ((c.tc : Thread Cert.Norms.nD Cert.Norms.τ).loc Cert.Norms.main_arg6) = m ((c.tc : Thread Cert.Norms.nD Cert.Norms.τ).loc Cert.Norms.main_arg6)
      ∧ r.2.mem ((c.tc : Thread Cert.Norms.nD Cert.Norms.τ).loc Cert.Norms.main_arg7) = m ((c.tc : Thread Cert.Norms.nD Cert.Norms.τ).loc Cert.Norms.main_arg7)
      ∧ r.2.mem ((c.tc : Thread Cert.Norms.nD Cert.Norms.τ).loc Cert.Norms.main_arg8) = m ((c.tc : Thread Cert.Norms.nD Cert.Norms.τ).loc Cert.Norms.main_arg8))
      ∧ r.2.sem = fun _ => 0)

def quiescent_NormsIdeal [hNormsIdeal : Cert.NormsIdeal.Facts] : Prop :=
  ∀ (m : (ℓ : Loc Cert.NormsIdeal.nD Cert.NormsIdeal.τ Cert.NormsIdeal.sig) → Buf (Elt Ideal) ℓ) (g : Dev Cert.NormsIdeal.nD → PrngReg), Pre_NormsIdeal m →
    θ_run (Cert.NormsIdeal.defs (F := Ideal)) (onTc (τ := Cert.NormsIdeal.τ) (Cert.NormsIdeal.main (F := Ideal))) ⟨m, fun _ => 0, g⟩ (fun r => (∀ c : Dev Cert.NormsIdeal.nD,
      r.2.mem ((c.tc : Thread Cert.NormsIdeal.nD Cert.NormsIdeal.τ).loc Cert.NormsIdeal.main_arg0) = m ((c.tc : Thread Cert.NormsIdeal.nD Cert.NormsIdeal.τ).loc Cert.NormsIdeal.main_arg0)
      ∧ r.2.mem ((c.tc : Thread Cert.NormsIdeal.nD Cert.NormsIdeal.τ).loc Cert.NormsIdeal.main_arg1) = m ((c.tc : Thread Cert.NormsIdeal.nD Cert.NormsIdeal.τ).loc Cert.NormsIdeal.main_arg1)
      ∧ r.2.mem ((c.tc : Thread Cert.NormsIdeal.nD Cert.NormsIdeal.τ).loc Cert.NormsIdeal.main_arg2) = m ((c.tc : Thread Cert.NormsIdeal.nD Cert.NormsIdeal.τ).loc Cert.NormsIdeal.main_arg2)
      ∧ r.2.mem ((c.tc : Thread Cert.NormsIdeal.nD Cert.NormsIdeal.τ).loc Cert.NormsIdeal.main_arg3) = m ((c.tc : Thread Cert.NormsIdeal.nD Cert.NormsIdeal.τ).loc Cert.NormsIdeal.main_arg3)
      ∧ r.2.mem ((c.tc : Thread Cert.NormsIdeal.nD Cert.NormsIdeal.τ).loc Cert.NormsIdeal.main_arg4) = m ((c.tc : Thread Cert.NormsIdeal.nD Cert.NormsIdeal.τ).loc Cert.NormsIdeal.main_arg4)
      ∧ r.2.mem ((c.tc : Thread Cert.NormsIdeal.nD Cert.NormsIdeal.τ).loc Cert.NormsIdeal.main_arg5) = m ((c.tc : Thread Cert.NormsIdeal.nD Cert.NormsIdeal.τ).loc Cert.NormsIdeal.main_arg5)
      ∧ r.2.mem ((c.tc : Thread Cert.NormsIdeal.nD Cert.NormsIdeal.τ).loc Cert.NormsIdeal.main_arg6) = m ((c.tc : Thread Cert.NormsIdeal.nD Cert.NormsIdeal.τ).loc Cert.NormsIdeal.main_arg6)
      ∧ r.2.mem ((c.tc : Thread Cert.NormsIdeal.nD Cert.NormsIdeal.τ).loc Cert.NormsIdeal.main_arg7) = m ((c.tc : Thread Cert.NormsIdeal.nD Cert.NormsIdeal.τ).loc Cert.NormsIdeal.main_arg7)
      ∧ r.2.mem ((c.tc : Thread Cert.NormsIdeal.nD Cert.NormsIdeal.τ).loc Cert.NormsIdeal.main_arg8) = m ((c.tc : Thread Cert.NormsIdeal.nD Cert.NormsIdeal.τ).loc Cert.NormsIdeal.main_arg8))
      ∧ r.2.sem = fun _ => 0)

def quiescent_NormsReferenceIdeal [hNormsReferenceIdeal : Cert.NormsReferenceIdeal.Facts] : Prop :=
  ∀ (m : (ℓ : Loc Cert.NormsReferenceIdeal.nD Cert.NormsReferenceIdeal.τ Cert.NormsReferenceIdeal.sig) → Buf (Elt Ideal) ℓ) (g : Dev Cert.NormsReferenceIdeal.nD → PrngReg), Pre_NormsReferenceIdeal m →
    θ_run (Cert.NormsReferenceIdeal.defs (F := Ideal)) (onTc (τ := Cert.NormsReferenceIdeal.τ) (Cert.NormsReferenceIdeal.main (F := Ideal))) ⟨m, fun _ => 0, g⟩ (fun r => (∀ c : Dev Cert.NormsReferenceIdeal.nD,
      r.2.mem ((c.tc : Thread Cert.NormsReferenceIdeal.nD Cert.NormsReferenceIdeal.τ).loc Cert.NormsReferenceIdeal.main_arg0) = m ((c.tc : Thread Cert.NormsReferenceIdeal.nD Cert.NormsReferenceIdeal.τ).loc Cert.NormsReferenceIdeal.main_arg0)
      ∧ r.2.mem ((c.tc : Thread Cert.NormsReferenceIdeal.nD Cert.NormsReferenceIdeal.τ).loc Cert.NormsReferenceIdeal.main_arg1) = m ((c.tc : Thread Cert.NormsReferenceIdeal.nD Cert.NormsReferenceIdeal.τ).loc Cert.NormsReferenceIdeal.main_arg1)
      ∧ r.2.mem ((c.tc : Thread Cert.NormsReferenceIdeal.nD Cert.NormsReferenceIdeal.τ).loc Cert.NormsReferenceIdeal.main_arg2) = m ((c.tc : Thread Cert.NormsReferenceIdeal.nD Cert.NormsReferenceIdeal.τ).loc Cert.NormsReferenceIdeal.main_arg2)
      ∧ r.2.mem ((c.tc : Thread Cert.NormsReferenceIdeal.nD Cert.NormsReferenceIdeal.τ).loc Cert.NormsReferenceIdeal.main_arg3) = m ((c.tc : Thread Cert.NormsReferenceIdeal.nD Cert.NormsReferenceIdeal.τ).loc Cert.NormsReferenceIdeal.main_arg3)
      ∧ r.2.mem ((c.tc : Thread Cert.NormsReferenceIdeal.nD Cert.NormsReferenceIdeal.τ).loc Cert.NormsReferenceIdeal.main_arg4) = m ((c.tc : Thread Cert.NormsReferenceIdeal.nD Cert.NormsReferenceIdeal.τ).loc Cert.NormsReferenceIdeal.main_arg4)
      ∧ r.2.mem ((c.tc : Thread Cert.NormsReferenceIdeal.nD Cert.NormsReferenceIdeal.τ).loc Cert.NormsReferenceIdeal.main_arg5) = m ((c.tc : Thread Cert.NormsReferenceIdeal.nD Cert.NormsReferenceIdeal.τ).loc Cert.NormsReferenceIdeal.main_arg5)
      ∧ r.2.mem ((c.tc : Thread Cert.NormsReferenceIdeal.nD Cert.NormsReferenceIdeal.τ).loc Cert.NormsReferenceIdeal.main_arg6) = m ((c.tc : Thread Cert.NormsReferenceIdeal.nD Cert.NormsReferenceIdeal.τ).loc Cert.NormsReferenceIdeal.main_arg6)
      ∧ r.2.mem ((c.tc : Thread Cert.NormsReferenceIdeal.nD Cert.NormsReferenceIdeal.τ).loc Cert.NormsReferenceIdeal.main_arg7) = m ((c.tc : Thread Cert.NormsReferenceIdeal.nD Cert.NormsReferenceIdeal.τ).loc Cert.NormsReferenceIdeal.main_arg7)
      ∧ r.2.mem ((c.tc : Thread Cert.NormsReferenceIdeal.nD Cert.NormsReferenceIdeal.τ).loc Cert.NormsReferenceIdeal.main_arg8) = m ((c.tc : Thread Cert.NormsReferenceIdeal.nD Cert.NormsReferenceIdeal.τ).loc Cert.NormsReferenceIdeal.main_arg8))
      ∧ r.2.sem = fun _ => 0)

def quiescent_QNorm [hQNorm : Cert.QNorm.Facts] : Prop :=
  ∀ (m : (ℓ : Loc Cert.QNorm.nD Cert.QNorm.τ Cert.QNorm.sig) → Buf (Elt Bits) ℓ) (g : Dev Cert.QNorm.nD → PrngReg), Pre_QNorm m →
    θ_run (Cert.QNorm.defs (F := Bits)) (onTc (τ := Cert.QNorm.τ) (Cert.QNorm.main (F := Bits))) ⟨m, fun _ => 0, g⟩ (fun r => (∀ c : Dev Cert.QNorm.nD,
      r.2.mem ((c.tc : Thread Cert.QNorm.nD Cert.QNorm.τ).loc Cert.QNorm.main_arg0) = m ((c.tc : Thread Cert.QNorm.nD Cert.QNorm.τ).loc Cert.QNorm.main_arg0)
      ∧ r.2.mem ((c.tc : Thread Cert.QNorm.nD Cert.QNorm.τ).loc Cert.QNorm.main_arg1) = m ((c.tc : Thread Cert.QNorm.nD Cert.QNorm.τ).loc Cert.QNorm.main_arg1))
      ∧ r.2.sem = fun _ => 0)

def quiescent_QNormIdeal [hQNormIdeal : Cert.QNormIdeal.Facts] : Prop :=
  ∀ (m : (ℓ : Loc Cert.QNormIdeal.nD Cert.QNormIdeal.τ Cert.QNormIdeal.sig) → Buf (Elt Ideal) ℓ) (g : Dev Cert.QNormIdeal.nD → PrngReg), Pre_QNormIdeal m →
    θ_run (Cert.QNormIdeal.defs (F := Ideal)) (onTc (τ := Cert.QNormIdeal.τ) (Cert.QNormIdeal.main (F := Ideal))) ⟨m, fun _ => 0, g⟩ (fun r => (∀ c : Dev Cert.QNormIdeal.nD,
      r.2.mem ((c.tc : Thread Cert.QNormIdeal.nD Cert.QNormIdeal.τ).loc Cert.QNormIdeal.main_arg0) = m ((c.tc : Thread Cert.QNormIdeal.nD Cert.QNormIdeal.τ).loc Cert.QNormIdeal.main_arg0)
      ∧ r.2.mem ((c.tc : Thread Cert.QNormIdeal.nD Cert.QNormIdeal.τ).loc Cert.QNormIdeal.main_arg1) = m ((c.tc : Thread Cert.QNormIdeal.nD Cert.QNormIdeal.τ).loc Cert.QNormIdeal.main_arg1))
      ∧ r.2.sem = fun _ => 0)

def quiescent_QNormReferenceIdeal [hQNormReferenceIdeal : Cert.QNormReferenceIdeal.Facts] : Prop :=
  ∀ (m : (ℓ : Loc Cert.QNormReferenceIdeal.nD Cert.QNormReferenceIdeal.τ Cert.QNormReferenceIdeal.sig) → Buf (Elt Ideal) ℓ) (g : Dev Cert.QNormReferenceIdeal.nD → PrngReg), Pre_QNormReferenceIdeal m →
    θ_run (Cert.QNormReferenceIdeal.defs (F := Ideal)) (onTc (τ := Cert.QNormReferenceIdeal.τ) (Cert.QNormReferenceIdeal.main (F := Ideal))) ⟨m, fun _ => 0, g⟩ (fun r => (∀ c : Dev Cert.QNormReferenceIdeal.nD,
      r.2.mem ((c.tc : Thread Cert.QNormReferenceIdeal.nD Cert.QNormReferenceIdeal.τ).loc Cert.QNormReferenceIdeal.main_arg0) = m ((c.tc : Thread Cert.QNormReferenceIdeal.nD Cert.QNormReferenceIdeal.τ).loc Cert.QNormReferenceIdeal.main_arg0)
      ∧ r.2.mem ((c.tc : Thread Cert.QNormReferenceIdeal.nD Cert.QNormReferenceIdeal.τ).loc Cert.QNormReferenceIdeal.main_arg1) = m ((c.tc : Thread Cert.QNormReferenceIdeal.nD Cert.QNormReferenceIdeal.τ).loc Cert.QNormReferenceIdeal.main_arg1))
      ∧ r.2.sem = fun _ => 0)

def quiescent_Combine [hCombine : Cert.Combine.Facts] : Prop :=
  ∀ (m : (ℓ : Loc Cert.Combine.nD Cert.Combine.τ Cert.Combine.sig) → Buf (Elt Bits) ℓ) (g : Dev Cert.Combine.nD → PrngReg), Pre_Combine m →
    θ_run (Cert.Combine.defs (F := Bits)) (onTc (τ := Cert.Combine.τ) (Cert.Combine.main (F := Bits))) ⟨m, fun _ => 0, g⟩ (fun r => (∀ c : Dev Cert.Combine.nD,
      r.2.mem ((c.tc : Thread Cert.Combine.nD Cert.Combine.τ).loc Cert.Combine.main_arg0) = m ((c.tc : Thread Cert.Combine.nD Cert.Combine.τ).loc Cert.Combine.main_arg0)
      ∧ r.2.mem ((c.tc : Thread Cert.Combine.nD Cert.Combine.τ).loc Cert.Combine.main_arg1) = m ((c.tc : Thread Cert.Combine.nD Cert.Combine.τ).loc Cert.Combine.main_arg1)
      ∧ r.2.mem ((c.tc : Thread Cert.Combine.nD Cert.Combine.τ).loc Cert.Combine.main_arg2) = m ((c.tc : Thread Cert.Combine.nD Cert.Combine.τ).loc Cert.Combine.main_arg2)
      ∧ r.2.mem ((c.tc : Thread Cert.Combine.nD Cert.Combine.τ).loc Cert.Combine.main_arg3) = m ((c.tc : Thread Cert.Combine.nD Cert.Combine.τ).loc Cert.Combine.main_arg3))
      ∧ r.2.sem = fun _ => 0)

def quiescent_CombineIdeal [hCombineIdeal : Cert.CombineIdeal.Facts] : Prop :=
  ∀ (m : (ℓ : Loc Cert.CombineIdeal.nD Cert.CombineIdeal.τ Cert.CombineIdeal.sig) → Buf (Elt Ideal) ℓ) (g : Dev Cert.CombineIdeal.nD → PrngReg), Pre_CombineIdeal m →
    θ_run (Cert.CombineIdeal.defs (F := Ideal)) (onTc (τ := Cert.CombineIdeal.τ) (Cert.CombineIdeal.main (F := Ideal))) ⟨m, fun _ => 0, g⟩ (fun r => (∀ c : Dev Cert.CombineIdeal.nD,
      r.2.mem ((c.tc : Thread Cert.CombineIdeal.nD Cert.CombineIdeal.τ).loc Cert.CombineIdeal.main_arg0) = m ((c.tc : Thread Cert.CombineIdeal.nD Cert.CombineIdeal.τ).loc Cert.CombineIdeal.main_arg0)
      ∧ r.2.mem ((c.tc : Thread Cert.CombineIdeal.nD Cert.CombineIdeal.τ).loc Cert.CombineIdeal.main_arg1) = m ((c.tc : Thread Cert.CombineIdeal.nD Cert.CombineIdeal.τ).loc Cert.CombineIdeal.main_arg1)
      ∧ r.2.mem ((c.tc : Thread Cert.CombineIdeal.nD Cert.CombineIdeal.τ).loc Cert.CombineIdeal.main_arg2) = m ((c.tc : Thread Cert.CombineIdeal.nD Cert.CombineIdeal.τ).loc Cert.CombineIdeal.main_arg2)
      ∧ r.2.mem ((c.tc : Thread Cert.CombineIdeal.nD Cert.CombineIdeal.τ).loc Cert.CombineIdeal.main_arg3) = m ((c.tc : Thread Cert.CombineIdeal.nD Cert.CombineIdeal.τ).loc Cert.CombineIdeal.main_arg3))
      ∧ r.2.sem = fun _ => 0)

def quiescent_CombineReferenceIdeal [hCombineReferenceIdeal : Cert.CombineReferenceIdeal.Facts] : Prop :=
  ∀ (m : (ℓ : Loc Cert.CombineReferenceIdeal.nD Cert.CombineReferenceIdeal.τ Cert.CombineReferenceIdeal.sig) → Buf (Elt Ideal) ℓ) (g : Dev Cert.CombineReferenceIdeal.nD → PrngReg), Pre_CombineReferenceIdeal m →
    θ_run (Cert.CombineReferenceIdeal.defs (F := Ideal)) (onTc (τ := Cert.CombineReferenceIdeal.τ) (Cert.CombineReferenceIdeal.main (F := Ideal))) ⟨m, fun _ => 0, g⟩ (fun r => (∀ c : Dev Cert.CombineReferenceIdeal.nD,
      r.2.mem ((c.tc : Thread Cert.CombineReferenceIdeal.nD Cert.CombineReferenceIdeal.τ).loc Cert.CombineReferenceIdeal.main_arg0) = m ((c.tc : Thread Cert.CombineReferenceIdeal.nD Cert.CombineReferenceIdeal.τ).loc Cert.CombineReferenceIdeal.main_arg0)
      ∧ r.2.mem ((c.tc : Thread Cert.CombineReferenceIdeal.nD Cert.CombineReferenceIdeal.τ).loc Cert.CombineReferenceIdeal.main_arg1) = m ((c.tc : Thread Cert.CombineReferenceIdeal.nD Cert.CombineReferenceIdeal.τ).loc Cert.CombineReferenceIdeal.main_arg1)
      ∧ r.2.mem ((c.tc : Thread Cert.CombineReferenceIdeal.nD Cert.CombineReferenceIdeal.τ).loc Cert.CombineReferenceIdeal.main_arg2) = m ((c.tc : Thread Cert.CombineReferenceIdeal.nD Cert.CombineReferenceIdeal.τ).loc Cert.CombineReferenceIdeal.main_arg2)
      ∧ r.2.mem ((c.tc : Thread Cert.CombineReferenceIdeal.nD Cert.CombineReferenceIdeal.τ).loc Cert.CombineReferenceIdeal.main_arg3) = m ((c.tc : Thread Cert.CombineReferenceIdeal.nD Cert.CombineReferenceIdeal.τ).loc Cert.CombineReferenceIdeal.main_arg3))
      ∧ r.2.sem = fun _ => 0)

def quiescent_NormX [hNormX : Cert.NormX.Facts] : Prop :=
  ∀ (m : (ℓ : Loc Cert.NormX.nD Cert.NormX.τ Cert.NormX.sig) → Buf (Elt Bits) ℓ) (g : Dev Cert.NormX.nD → PrngReg), Pre_NormX m →
    θ_run (Cert.NormX.defs (F := Bits)) (onTc (τ := Cert.NormX.τ) (Cert.NormX.main (F := Bits))) ⟨m, fun _ => 0, g⟩ (fun r => (∀ c : Dev Cert.NormX.nD,
      r.2.mem ((c.tc : Thread Cert.NormX.nD Cert.NormX.τ).loc Cert.NormX.main_arg0) = m ((c.tc : Thread Cert.NormX.nD Cert.NormX.τ).loc Cert.NormX.main_arg0)
      ∧ r.2.mem ((c.tc : Thread Cert.NormX.nD Cert.NormX.τ).loc Cert.NormX.main_arg1) = m ((c.tc : Thread Cert.NormX.nD Cert.NormX.τ).loc Cert.NormX.main_arg1)
      ∧ r.2.mem ((c.tc : Thread Cert.NormX.nD Cert.NormX.τ).loc Cert.NormX.main_arg2) = m ((c.tc : Thread Cert.NormX.nD Cert.NormX.τ).loc Cert.NormX.main_arg2)
      ∧ r.2.mem ((c.tc : Thread Cert.NormX.nD Cert.NormX.τ).loc Cert.NormX.main_arg3) = m ((c.tc : Thread Cert.NormX.nD Cert.NormX.τ).loc Cert.NormX.main_arg3)
      ∧ r.2.mem ((c.tc : Thread Cert.NormX.nD Cert.NormX.τ).loc Cert.NormX.main_arg4) = m ((c.tc : Thread Cert.NormX.nD Cert.NormX.τ).loc Cert.NormX.main_arg4))
      ∧ r.2.sem = fun _ => 0)

def quiescent_NormXIdeal [hNormXIdeal : Cert.NormXIdeal.Facts] : Prop :=
  ∀ (m : (ℓ : Loc Cert.NormXIdeal.nD Cert.NormXIdeal.τ Cert.NormXIdeal.sig) → Buf (Elt Ideal) ℓ) (g : Dev Cert.NormXIdeal.nD → PrngReg), Pre_NormXIdeal m →
    θ_run (Cert.NormXIdeal.defs (F := Ideal)) (onTc (τ := Cert.NormXIdeal.τ) (Cert.NormXIdeal.main (F := Ideal))) ⟨m, fun _ => 0, g⟩ (fun r => (∀ c : Dev Cert.NormXIdeal.nD,
      r.2.mem ((c.tc : Thread Cert.NormXIdeal.nD Cert.NormXIdeal.τ).loc Cert.NormXIdeal.main_arg0) = m ((c.tc : Thread Cert.NormXIdeal.nD Cert.NormXIdeal.τ).loc Cert.NormXIdeal.main_arg0)
      ∧ r.2.mem ((c.tc : Thread Cert.NormXIdeal.nD Cert.NormXIdeal.τ).loc Cert.NormXIdeal.main_arg1) = m ((c.tc : Thread Cert.NormXIdeal.nD Cert.NormXIdeal.τ).loc Cert.NormXIdeal.main_arg1)
      ∧ r.2.mem ((c.tc : Thread Cert.NormXIdeal.nD Cert.NormXIdeal.τ).loc Cert.NormXIdeal.main_arg2) = m ((c.tc : Thread Cert.NormXIdeal.nD Cert.NormXIdeal.τ).loc Cert.NormXIdeal.main_arg2)
      ∧ r.2.mem ((c.tc : Thread Cert.NormXIdeal.nD Cert.NormXIdeal.τ).loc Cert.NormXIdeal.main_arg3) = m ((c.tc : Thread Cert.NormXIdeal.nD Cert.NormXIdeal.τ).loc Cert.NormXIdeal.main_arg3)
      ∧ r.2.mem ((c.tc : Thread Cert.NormXIdeal.nD Cert.NormXIdeal.τ).loc Cert.NormXIdeal.main_arg4) = m ((c.tc : Thread Cert.NormXIdeal.nD Cert.NormXIdeal.τ).loc Cert.NormXIdeal.main_arg4))
      ∧ r.2.sem = fun _ => 0)

def quiescent_NormXReferenceIdeal [hNormXReferenceIdeal : Cert.NormXReferenceIdeal.Facts] : Prop :=
  ∀ (m : (ℓ : Loc Cert.NormXReferenceIdeal.nD Cert.NormXReferenceIdeal.τ Cert.NormXReferenceIdeal.sig) → Buf (Elt Ideal) ℓ) (g : Dev Cert.NormXReferenceIdeal.nD → PrngReg), Pre_NormXReferenceIdeal m →
    θ_run (Cert.NormXReferenceIdeal.defs (F := Ideal)) (onTc (τ := Cert.NormXReferenceIdeal.τ) (Cert.NormXReferenceIdeal.main (F := Ideal))) ⟨m, fun _ => 0, g⟩ (fun r => (∀ c : Dev Cert.NormXReferenceIdeal.nD,
      r.2.mem ((c.tc : Thread Cert.NormXReferenceIdeal.nD Cert.NormXReferenceIdeal.τ).loc Cert.NormXReferenceIdeal.main_arg0) = m ((c.tc : Thread Cert.NormXReferenceIdeal.nD Cert.NormXReferenceIdeal.τ).loc Cert.NormXReferenceIdeal.main_arg0)
      ∧ r.2.mem ((c.tc : Thread Cert.NormXReferenceIdeal.nD Cert.NormXReferenceIdeal.τ).loc Cert.NormXReferenceIdeal.main_arg1) = m ((c.tc : Thread Cert.NormXReferenceIdeal.nD Cert.NormXReferenceIdeal.τ).loc Cert.NormXReferenceIdeal.main_arg1)
      ∧ r.2.mem ((c.tc : Thread Cert.NormXReferenceIdeal.nD Cert.NormXReferenceIdeal.τ).loc Cert.NormXReferenceIdeal.main_arg2) = m ((c.tc : Thread Cert.NormXReferenceIdeal.nD Cert.NormXReferenceIdeal.τ).loc Cert.NormXReferenceIdeal.main_arg2)
      ∧ r.2.mem ((c.tc : Thread Cert.NormXReferenceIdeal.nD Cert.NormXReferenceIdeal.τ).loc Cert.NormXReferenceIdeal.main_arg3) = m ((c.tc : Thread Cert.NormXReferenceIdeal.nD Cert.NormXReferenceIdeal.τ).loc Cert.NormXReferenceIdeal.main_arg3)
      ∧ r.2.mem ((c.tc : Thread Cert.NormXReferenceIdeal.nD Cert.NormXReferenceIdeal.τ).loc Cert.NormXReferenceIdeal.main_arg4) = m ((c.tc : Thread Cert.NormXReferenceIdeal.nD Cert.NormXReferenceIdeal.τ).loc Cert.NormXReferenceIdeal.main_arg4))
      ∧ r.2.sem = fun _ => 0)

def quiescent_SkipX [hSkipX : Cert.SkipX.Facts] : Prop :=
  ∀ (m : (ℓ : Loc Cert.SkipX.nD Cert.SkipX.τ Cert.SkipX.sig) → Buf (Elt Bits) ℓ) (g : Dev Cert.SkipX.nD → PrngReg), Pre_SkipX m →
    θ_run (Cert.SkipX.defs (F := Bits)) (onTc (τ := Cert.SkipX.τ) (Cert.SkipX.main (F := Bits))) ⟨m, fun _ => 0, g⟩ (fun r => (∀ c : Dev Cert.SkipX.nD,
      r.2.mem ((c.tc : Thread Cert.SkipX.nD Cert.SkipX.τ).loc Cert.SkipX.main_arg0) = m ((c.tc : Thread Cert.SkipX.nD Cert.SkipX.τ).loc Cert.SkipX.main_arg0)
      ∧ r.2.mem ((c.tc : Thread Cert.SkipX.nD Cert.SkipX.τ).loc Cert.SkipX.main_arg1) = m ((c.tc : Thread Cert.SkipX.nD Cert.SkipX.τ).loc Cert.SkipX.main_arg1)
      ∧ r.2.mem ((c.tc : Thread Cert.SkipX.nD Cert.SkipX.τ).loc Cert.SkipX.main_arg2) = m ((c.tc : Thread Cert.SkipX.nD Cert.SkipX.τ).loc Cert.SkipX.main_arg2)
      ∧ r.2.mem ((c.tc : Thread Cert.SkipX.nD Cert.SkipX.τ).loc Cert.SkipX.main_arg3) = m ((c.tc : Thread Cert.SkipX.nD Cert.SkipX.τ).loc Cert.SkipX.main_arg3))
      ∧ r.2.sem = fun _ => 0)

def quiescent_SkipXIdeal [hSkipXIdeal : Cert.SkipXIdeal.Facts] : Prop :=
  ∀ (m : (ℓ : Loc Cert.SkipXIdeal.nD Cert.SkipXIdeal.τ Cert.SkipXIdeal.sig) → Buf (Elt Ideal) ℓ) (g : Dev Cert.SkipXIdeal.nD → PrngReg), Pre_SkipXIdeal m →
    θ_run (Cert.SkipXIdeal.defs (F := Ideal)) (onTc (τ := Cert.SkipXIdeal.τ) (Cert.SkipXIdeal.main (F := Ideal))) ⟨m, fun _ => 0, g⟩ (fun r => (∀ c : Dev Cert.SkipXIdeal.nD,
      r.2.mem ((c.tc : Thread Cert.SkipXIdeal.nD Cert.SkipXIdeal.τ).loc Cert.SkipXIdeal.main_arg0) = m ((c.tc : Thread Cert.SkipXIdeal.nD Cert.SkipXIdeal.τ).loc Cert.SkipXIdeal.main_arg0)
      ∧ r.2.mem ((c.tc : Thread Cert.SkipXIdeal.nD Cert.SkipXIdeal.τ).loc Cert.SkipXIdeal.main_arg1) = m ((c.tc : Thread Cert.SkipXIdeal.nD Cert.SkipXIdeal.τ).loc Cert.SkipXIdeal.main_arg1)
      ∧ r.2.mem ((c.tc : Thread Cert.SkipXIdeal.nD Cert.SkipXIdeal.τ).loc Cert.SkipXIdeal.main_arg2) = m ((c.tc : Thread Cert.SkipXIdeal.nD Cert.SkipXIdeal.τ).loc Cert.SkipXIdeal.main_arg2)
      ∧ r.2.mem ((c.tc : Thread Cert.SkipXIdeal.nD Cert.SkipXIdeal.τ).loc Cert.SkipXIdeal.main_arg3) = m ((c.tc : Thread Cert.SkipXIdeal.nD Cert.SkipXIdeal.τ).loc Cert.SkipXIdeal.main_arg3))
      ∧ r.2.sem = fun _ => 0)

def quiescent_SkipXReferenceIdeal [hSkipXReferenceIdeal : Cert.SkipXReferenceIdeal.Facts] : Prop :=
  ∀ (m : (ℓ : Loc Cert.SkipXReferenceIdeal.nD Cert.SkipXReferenceIdeal.τ Cert.SkipXReferenceIdeal.sig) → Buf (Elt Ideal) ℓ) (g : Dev Cert.SkipXReferenceIdeal.nD → PrngReg), Pre_SkipXReferenceIdeal m →
    θ_run (Cert.SkipXReferenceIdeal.defs (F := Ideal)) (onTc (τ := Cert.SkipXReferenceIdeal.τ) (Cert.SkipXReferenceIdeal.main (F := Ideal))) ⟨m, fun _ => 0, g⟩ (fun r => (∀ c : Dev Cert.SkipXReferenceIdeal.nD,
      r.2.mem ((c.tc : Thread Cert.SkipXReferenceIdeal.nD Cert.SkipXReferenceIdeal.τ).loc Cert.SkipXReferenceIdeal.main_arg0) = m ((c.tc : Thread Cert.SkipXReferenceIdeal.nD Cert.SkipXReferenceIdeal.τ).loc Cert.SkipXReferenceIdeal.main_arg0)
      ∧ r.2.mem ((c.tc : Thread Cert.SkipXReferenceIdeal.nD Cert.SkipXReferenceIdeal.τ).loc Cert.SkipXReferenceIdeal.main_arg1) = m ((c.tc : Thread Cert.SkipXReferenceIdeal.nD Cert.SkipXReferenceIdeal.τ).loc Cert.SkipXReferenceIdeal.main_arg1)
      ∧ r.2.mem ((c.tc : Thread Cert.SkipXReferenceIdeal.nD Cert.SkipXReferenceIdeal.τ).loc Cert.SkipXReferenceIdeal.main_arg2) = m ((c.tc : Thread Cert.SkipXReferenceIdeal.nD Cert.SkipXReferenceIdeal.τ).loc Cert.SkipXReferenceIdeal.main_arg2)
      ∧ r.2.mem ((c.tc : Thread Cert.SkipXReferenceIdeal.nD Cert.SkipXReferenceIdeal.τ).loc Cert.SkipXReferenceIdeal.main_arg3) = m ((c.tc : Thread Cert.SkipXReferenceIdeal.nD Cert.SkipXReferenceIdeal.τ).loc Cert.SkipXReferenceIdeal.main_arg3))
      ∧ r.2.sem = fun _ => 0)

def quiescent_QNormX [hQNormX : Cert.QNormX.Facts] : Prop :=
  ∀ (m : (ℓ : Loc Cert.QNormX.nD Cert.QNormX.τ Cert.QNormX.sig) → Buf (Elt Bits) ℓ) (g : Dev Cert.QNormX.nD → PrngReg), Pre_QNormX m →
    θ_run (Cert.QNormX.defs (F := Bits)) (onTc (τ := Cert.QNormX.τ) (Cert.QNormX.main (F := Bits))) ⟨m, fun _ => 0, g⟩ (fun r => (∀ c : Dev Cert.QNormX.nD,
      r.2.mem ((c.tc : Thread Cert.QNormX.nD Cert.QNormX.τ).loc Cert.QNormX.main_arg0) = m ((c.tc : Thread Cert.QNormX.nD Cert.QNormX.τ).loc Cert.QNormX.main_arg0)
      ∧ r.2.mem ((c.tc : Thread Cert.QNormX.nD Cert.QNormX.τ).loc Cert.QNormX.main_arg1) = m ((c.tc : Thread Cert.QNormX.nD Cert.QNormX.τ).loc Cert.QNormX.main_arg1)
      ∧ r.2.mem ((c.tc : Thread Cert.QNormX.nD Cert.QNormX.τ).loc Cert.QNormX.main_arg2) = m ((c.tc : Thread Cert.QNormX.nD Cert.QNormX.τ).loc Cert.QNormX.main_arg2))
      ∧ r.2.sem = fun _ => 0)

def quiescent_QNormXIdeal [hQNormXIdeal : Cert.QNormXIdeal.Facts] : Prop :=
  ∀ (m : (ℓ : Loc Cert.QNormXIdeal.nD Cert.QNormXIdeal.τ Cert.QNormXIdeal.sig) → Buf (Elt Ideal) ℓ) (g : Dev Cert.QNormXIdeal.nD → PrngReg), Pre_QNormXIdeal m →
    θ_run (Cert.QNormXIdeal.defs (F := Ideal)) (onTc (τ := Cert.QNormXIdeal.τ) (Cert.QNormXIdeal.main (F := Ideal))) ⟨m, fun _ => 0, g⟩ (fun r => (∀ c : Dev Cert.QNormXIdeal.nD,
      r.2.mem ((c.tc : Thread Cert.QNormXIdeal.nD Cert.QNormXIdeal.τ).loc Cert.QNormXIdeal.main_arg0) = m ((c.tc : Thread Cert.QNormXIdeal.nD Cert.QNormXIdeal.τ).loc Cert.QNormXIdeal.main_arg0)
      ∧ r.2.mem ((c.tc : Thread Cert.QNormXIdeal.nD Cert.QNormXIdeal.τ).loc Cert.QNormXIdeal.main_arg1) = m ((c.tc : Thread Cert.QNormXIdeal.nD Cert.QNormXIdeal.τ).loc Cert.QNormXIdeal.main_arg1)
      ∧ r.2.mem ((c.tc : Thread Cert.QNormXIdeal.nD Cert.QNormXIdeal.τ).loc Cert.QNormXIdeal.main_arg2) = m ((c.tc : Thread Cert.QNormXIdeal.nD Cert.QNormXIdeal.τ).loc Cert.QNormXIdeal.main_arg2))
      ∧ r.2.sem = fun _ => 0)

def quiescent_QNormXReferenceIdeal [hQNormXReferenceIdeal : Cert.QNormXReferenceIdeal.Facts] : Prop :=
  ∀ (m : (ℓ : Loc Cert.QNormXReferenceIdeal.nD Cert.QNormXReferenceIdeal.τ Cert.QNormXReferenceIdeal.sig) → Buf (Elt Ideal) ℓ) (g : Dev Cert.QNormXReferenceIdeal.nD → PrngReg), Pre_QNormXReferenceIdeal m →
    θ_run (Cert.QNormXReferenceIdeal.defs (F := Ideal)) (onTc (τ := Cert.QNormXReferenceIdeal.τ) (Cert.QNormXReferenceIdeal.main (F := Ideal))) ⟨m, fun _ => 0, g⟩ (fun r => (∀ c : Dev Cert.QNormXReferenceIdeal.nD,
      r.2.mem ((c.tc : Thread Cert.QNormXReferenceIdeal.nD Cert.QNormXReferenceIdeal.τ).loc Cert.QNormXReferenceIdeal.main_arg0) = m ((c.tc : Thread Cert.QNormXReferenceIdeal.nD Cert.QNormXReferenceIdeal.τ).loc Cert.QNormXReferenceIdeal.main_arg0)
      ∧ r.2.mem ((c.tc : Thread Cert.QNormXReferenceIdeal.nD Cert.QNormXReferenceIdeal.τ).loc Cert.QNormXReferenceIdeal.main_arg1) = m ((c.tc : Thread Cert.QNormXReferenceIdeal.nD Cert.QNormXReferenceIdeal.τ).loc Cert.QNormXReferenceIdeal.main_arg1)
      ∧ r.2.mem ((c.tc : Thread Cert.QNormXReferenceIdeal.nD Cert.QNormXReferenceIdeal.τ).loc Cert.QNormXReferenceIdeal.main_arg2) = m ((c.tc : Thread Cert.QNormXReferenceIdeal.nD Cert.QNormXReferenceIdeal.τ).loc Cert.QNormXReferenceIdeal.main_arg2))
      ∧ r.2.sem = fun _ => 0)

def quiescent_KvNormX [hKvNormX : Cert.KvNormX.Facts] : Prop :=
  ∀ (m : (ℓ : Loc Cert.KvNormX.nD Cert.KvNormX.τ Cert.KvNormX.sig) → Buf (Elt Bits) ℓ) (g : Dev Cert.KvNormX.nD → PrngReg), Pre_KvNormX m →
    θ_run (Cert.KvNormX.defs (F := Bits)) (onTc (τ := Cert.KvNormX.τ) (Cert.KvNormX.main (F := Bits))) ⟨m, fun _ => 0, g⟩ (fun r => (∀ c : Dev Cert.KvNormX.nD,
      r.2.mem ((c.tc : Thread Cert.KvNormX.nD Cert.KvNormX.τ).loc Cert.KvNormX.main_arg0) = m ((c.tc : Thread Cert.KvNormX.nD Cert.KvNormX.τ).loc Cert.KvNormX.main_arg0)
      ∧ r.2.mem ((c.tc : Thread Cert.KvNormX.nD Cert.KvNormX.τ).loc Cert.KvNormX.main_arg1) = m ((c.tc : Thread Cert.KvNormX.nD Cert.KvNormX.τ).loc Cert.KvNormX.main_arg1)
      ∧ r.2.mem ((c.tc : Thread Cert.KvNormX.nD Cert.KvNormX.τ).loc Cert.KvNormX.main_arg2) = m ((c.tc : Thread Cert.KvNormX.nD Cert.KvNormX.τ).loc Cert.KvNormX.main_arg2))
      ∧ r.2.sem = fun _ => 0)

def quiescent_KvNormXIdeal [hKvNormXIdeal : Cert.KvNormXIdeal.Facts] : Prop :=
  ∀ (m : (ℓ : Loc Cert.KvNormXIdeal.nD Cert.KvNormXIdeal.τ Cert.KvNormXIdeal.sig) → Buf (Elt Ideal) ℓ) (g : Dev Cert.KvNormXIdeal.nD → PrngReg), Pre_KvNormXIdeal m →
    θ_run (Cert.KvNormXIdeal.defs (F := Ideal)) (onTc (τ := Cert.KvNormXIdeal.τ) (Cert.KvNormXIdeal.main (F := Ideal))) ⟨m, fun _ => 0, g⟩ (fun r => (∀ c : Dev Cert.KvNormXIdeal.nD,
      r.2.mem ((c.tc : Thread Cert.KvNormXIdeal.nD Cert.KvNormXIdeal.τ).loc Cert.KvNormXIdeal.main_arg0) = m ((c.tc : Thread Cert.KvNormXIdeal.nD Cert.KvNormXIdeal.τ).loc Cert.KvNormXIdeal.main_arg0)
      ∧ r.2.mem ((c.tc : Thread Cert.KvNormXIdeal.nD Cert.KvNormXIdeal.τ).loc Cert.KvNormXIdeal.main_arg1) = m ((c.tc : Thread Cert.KvNormXIdeal.nD Cert.KvNormXIdeal.τ).loc Cert.KvNormXIdeal.main_arg1)
      ∧ r.2.mem ((c.tc : Thread Cert.KvNormXIdeal.nD Cert.KvNormXIdeal.τ).loc Cert.KvNormXIdeal.main_arg2) = m ((c.tc : Thread Cert.KvNormXIdeal.nD Cert.KvNormXIdeal.τ).loc Cert.KvNormXIdeal.main_arg2))
      ∧ r.2.sem = fun _ => 0)

def quiescent_KvNormXReferenceIdeal [hKvNormXReferenceIdeal : Cert.KvNormXReferenceIdeal.Facts] : Prop :=
  ∀ (m : (ℓ : Loc Cert.KvNormXReferenceIdeal.nD Cert.KvNormXReferenceIdeal.τ Cert.KvNormXReferenceIdeal.sig) → Buf (Elt Ideal) ℓ) (g : Dev Cert.KvNormXReferenceIdeal.nD → PrngReg), Pre_KvNormXReferenceIdeal m →
    θ_run (Cert.KvNormXReferenceIdeal.defs (F := Ideal)) (onTc (τ := Cert.KvNormXReferenceIdeal.τ) (Cert.KvNormXReferenceIdeal.main (F := Ideal))) ⟨m, fun _ => 0, g⟩ (fun r => (∀ c : Dev Cert.KvNormXReferenceIdeal.nD,
      r.2.mem ((c.tc : Thread Cert.KvNormXReferenceIdeal.nD Cert.KvNormXReferenceIdeal.τ).loc Cert.KvNormXReferenceIdeal.main_arg0) = m ((c.tc : Thread Cert.KvNormXReferenceIdeal.nD Cert.KvNormXReferenceIdeal.τ).loc Cert.KvNormXReferenceIdeal.main_arg0)
      ∧ r.2.mem ((c.tc : Thread Cert.KvNormXReferenceIdeal.nD Cert.KvNormXReferenceIdeal.τ).loc Cert.KvNormXReferenceIdeal.main_arg1) = m ((c.tc : Thread Cert.KvNormXReferenceIdeal.nD Cert.KvNormXReferenceIdeal.τ).loc Cert.KvNormXReferenceIdeal.main_arg1)
      ∧ r.2.mem ((c.tc : Thread Cert.KvNormXReferenceIdeal.nD Cert.KvNormXReferenceIdeal.τ).loc Cert.KvNormXReferenceIdeal.main_arg2) = m ((c.tc : Thread Cert.KvNormXReferenceIdeal.nD Cert.KvNormXReferenceIdeal.τ).loc Cert.KvNormXReferenceIdeal.main_arg2))
      ∧ r.2.sem = fun _ => 0)

def quiescent_ResidX [hResidX : Cert.ResidX.Facts] : Prop :=
  ∀ (m : (ℓ : Loc Cert.ResidX.nD Cert.ResidX.τ Cert.ResidX.sig) → Buf (Elt Bits) ℓ) (g : Dev Cert.ResidX.nD → PrngReg), Pre_ResidX m →
    θ_run (Cert.ResidX.defs (F := Bits)) (onTc (τ := Cert.ResidX.τ) (Cert.ResidX.main (F := Bits))) ⟨m, fun _ => 0, g⟩ (fun r => (∀ c : Dev Cert.ResidX.nD,
      r.2.mem ((c.tc : Thread Cert.ResidX.nD Cert.ResidX.τ).loc Cert.ResidX.main_arg0) = m ((c.tc : Thread Cert.ResidX.nD Cert.ResidX.τ).loc Cert.ResidX.main_arg0)
      ∧ r.2.mem ((c.tc : Thread Cert.ResidX.nD Cert.ResidX.τ).loc Cert.ResidX.main_arg1) = m ((c.tc : Thread Cert.ResidX.nD Cert.ResidX.τ).loc Cert.ResidX.main_arg1)
      ∧ r.2.mem ((c.tc : Thread Cert.ResidX.nD Cert.ResidX.τ).loc Cert.ResidX.main_arg2) = m ((c.tc : Thread Cert.ResidX.nD Cert.ResidX.τ).loc Cert.ResidX.main_arg2)
      ∧ r.2.mem ((c.tc : Thread Cert.ResidX.nD Cert.ResidX.τ).loc Cert.ResidX.main_arg3) = m ((c.tc : Thread Cert.ResidX.nD Cert.ResidX.τ).loc Cert.ResidX.main_arg3)
      ∧ r.2.mem ((c.tc : Thread Cert.ResidX.nD Cert.ResidX.τ).loc Cert.ResidX.main_arg4) = m ((c.tc : Thread Cert.ResidX.nD Cert.ResidX.τ).loc Cert.ResidX.main_arg4)
      ∧ r.2.mem ((c.tc : Thread Cert.ResidX.nD Cert.ResidX.τ).loc Cert.ResidX.main_arg5) = m ((c.tc : Thread Cert.ResidX.nD Cert.ResidX.τ).loc Cert.ResidX.main_arg5))
      ∧ r.2.sem = fun _ => 0)

def quiescent_ResidXIdeal [hResidXIdeal : Cert.ResidXIdeal.Facts] : Prop :=
  ∀ (m : (ℓ : Loc Cert.ResidXIdeal.nD Cert.ResidXIdeal.τ Cert.ResidXIdeal.sig) → Buf (Elt Ideal) ℓ) (g : Dev Cert.ResidXIdeal.nD → PrngReg), Pre_ResidXIdeal m →
    θ_run (Cert.ResidXIdeal.defs (F := Ideal)) (onTc (τ := Cert.ResidXIdeal.τ) (Cert.ResidXIdeal.main (F := Ideal))) ⟨m, fun _ => 0, g⟩ (fun r => (∀ c : Dev Cert.ResidXIdeal.nD,
      r.2.mem ((c.tc : Thread Cert.ResidXIdeal.nD Cert.ResidXIdeal.τ).loc Cert.ResidXIdeal.main_arg0) = m ((c.tc : Thread Cert.ResidXIdeal.nD Cert.ResidXIdeal.τ).loc Cert.ResidXIdeal.main_arg0)
      ∧ r.2.mem ((c.tc : Thread Cert.ResidXIdeal.nD Cert.ResidXIdeal.τ).loc Cert.ResidXIdeal.main_arg1) = m ((c.tc : Thread Cert.ResidXIdeal.nD Cert.ResidXIdeal.τ).loc Cert.ResidXIdeal.main_arg1)
      ∧ r.2.mem ((c.tc : Thread Cert.ResidXIdeal.nD Cert.ResidXIdeal.τ).loc Cert.ResidXIdeal.main_arg2) = m ((c.tc : Thread Cert.ResidXIdeal.nD Cert.ResidXIdeal.τ).loc Cert.ResidXIdeal.main_arg2)
      ∧ r.2.mem ((c.tc : Thread Cert.ResidXIdeal.nD Cert.ResidXIdeal.τ).loc Cert.ResidXIdeal.main_arg3) = m ((c.tc : Thread Cert.ResidXIdeal.nD Cert.ResidXIdeal.τ).loc Cert.ResidXIdeal.main_arg3)
      ∧ r.2.mem ((c.tc : Thread Cert.ResidXIdeal.nD Cert.ResidXIdeal.τ).loc Cert.ResidXIdeal.main_arg4) = m ((c.tc : Thread Cert.ResidXIdeal.nD Cert.ResidXIdeal.τ).loc Cert.ResidXIdeal.main_arg4)
      ∧ r.2.mem ((c.tc : Thread Cert.ResidXIdeal.nD Cert.ResidXIdeal.τ).loc Cert.ResidXIdeal.main_arg5) = m ((c.tc : Thread Cert.ResidXIdeal.nD Cert.ResidXIdeal.τ).loc Cert.ResidXIdeal.main_arg5))
      ∧ r.2.sem = fun _ => 0)

def quiescent_ResidXReferenceIdeal [hResidXReferenceIdeal : Cert.ResidXReferenceIdeal.Facts] : Prop :=
  ∀ (m : (ℓ : Loc Cert.ResidXReferenceIdeal.nD Cert.ResidXReferenceIdeal.τ Cert.ResidXReferenceIdeal.sig) → Buf (Elt Ideal) ℓ) (g : Dev Cert.ResidXReferenceIdeal.nD → PrngReg), Pre_ResidXReferenceIdeal m →
    θ_run (Cert.ResidXReferenceIdeal.defs (F := Ideal)) (onTc (τ := Cert.ResidXReferenceIdeal.τ) (Cert.ResidXReferenceIdeal.main (F := Ideal))) ⟨m, fun _ => 0, g⟩ (fun r => (∀ c : Dev Cert.ResidXReferenceIdeal.nD,
      r.2.mem ((c.tc : Thread Cert.ResidXReferenceIdeal.nD Cert.ResidXReferenceIdeal.τ).loc Cert.ResidXReferenceIdeal.main_arg0) = m ((c.tc : Thread Cert.ResidXReferenceIdeal.nD Cert.ResidXReferenceIdeal.τ).loc Cert.ResidXReferenceIdeal.main_arg0)
      ∧ r.2.mem ((c.tc : Thread Cert.ResidXReferenceIdeal.nD Cert.ResidXReferenceIdeal.τ).loc Cert.ResidXReferenceIdeal.main_arg1) = m ((c.tc : Thread Cert.ResidXReferenceIdeal.nD Cert.ResidXReferenceIdeal.τ).loc Cert.ResidXReferenceIdeal.main_arg1)
      ∧ r.2.mem ((c.tc : Thread Cert.ResidXReferenceIdeal.nD Cert.ResidXReferenceIdeal.τ).loc Cert.ResidXReferenceIdeal.main_arg2) = m ((c.tc : Thread Cert.ResidXReferenceIdeal.nD Cert.ResidXReferenceIdeal.τ).loc Cert.ResidXReferenceIdeal.main_arg2)
      ∧ r.2.mem ((c.tc : Thread Cert.ResidXReferenceIdeal.nD Cert.ResidXReferenceIdeal.τ).loc Cert.ResidXReferenceIdeal.main_arg3) = m ((c.tc : Thread Cert.ResidXReferenceIdeal.nD Cert.ResidXReferenceIdeal.τ).loc Cert.ResidXReferenceIdeal.main_arg3)
      ∧ r.2.mem ((c.tc : Thread Cert.ResidXReferenceIdeal.nD Cert.ResidXReferenceIdeal.τ).loc Cert.ResidXReferenceIdeal.main_arg4) = m ((c.tc : Thread Cert.ResidXReferenceIdeal.nD Cert.ResidXReferenceIdeal.τ).loc Cert.ResidXReferenceIdeal.main_arg4)
      ∧ r.2.mem ((c.tc : Thread Cert.ResidXReferenceIdeal.nD Cert.ResidXReferenceIdeal.τ).loc Cert.ResidXReferenceIdeal.main_arg5) = m ((c.tc : Thread Cert.ResidXReferenceIdeal.nD Cert.ResidXReferenceIdeal.τ).loc Cert.ResidXReferenceIdeal.main_arg5))
      ∧ r.2.sem = fun _ => 0)

def quiescent_CtxX [hCtxX : Cert.CtxX.Facts] : Prop :=
  ∀ (m : (ℓ : Loc Cert.CtxX.nD Cert.CtxX.τ Cert.CtxX.sig) → Buf (Elt Bits) ℓ) (g : Dev Cert.CtxX.nD → PrngReg), Pre_CtxX m →
    θ_run (Cert.CtxX.defs (F := Bits)) (onTc (τ := Cert.CtxX.τ) (Cert.CtxX.main (F := Bits))) ⟨m, fun _ => 0, g⟩ (fun r => (∀ c : Dev Cert.CtxX.nD,
      r.2.mem ((c.tc : Thread Cert.CtxX.nD Cert.CtxX.τ).loc Cert.CtxX.main_arg0) = m ((c.tc : Thread Cert.CtxX.nD Cert.CtxX.τ).loc Cert.CtxX.main_arg0)
      ∧ r.2.mem ((c.tc : Thread Cert.CtxX.nD Cert.CtxX.τ).loc Cert.CtxX.main_arg1) = m ((c.tc : Thread Cert.CtxX.nD Cert.CtxX.τ).loc Cert.CtxX.main_arg1)
      ∧ r.2.mem ((c.tc : Thread Cert.CtxX.nD Cert.CtxX.τ).loc Cert.CtxX.main_arg2) = m ((c.tc : Thread Cert.CtxX.nD Cert.CtxX.τ).loc Cert.CtxX.main_arg2)
      ∧ r.2.mem ((c.tc : Thread Cert.CtxX.nD Cert.CtxX.τ).loc Cert.CtxX.main_arg3) = m ((c.tc : Thread Cert.CtxX.nD Cert.CtxX.τ).loc Cert.CtxX.main_arg3))
      ∧ r.2.sem = fun _ => 0)

def quiescent_CtxXIdeal [hCtxXIdeal : Cert.CtxXIdeal.Facts] : Prop :=
  ∀ (m : (ℓ : Loc Cert.CtxXIdeal.nD Cert.CtxXIdeal.τ Cert.CtxXIdeal.sig) → Buf (Elt Ideal) ℓ) (g : Dev Cert.CtxXIdeal.nD → PrngReg), Pre_CtxXIdeal m →
    θ_run (Cert.CtxXIdeal.defs (F := Ideal)) (onTc (τ := Cert.CtxXIdeal.τ) (Cert.CtxXIdeal.main (F := Ideal))) ⟨m, fun _ => 0, g⟩ (fun r => (∀ c : Dev Cert.CtxXIdeal.nD,
      r.2.mem ((c.tc : Thread Cert.CtxXIdeal.nD Cert.CtxXIdeal.τ).loc Cert.CtxXIdeal.main_arg0) = m ((c.tc : Thread Cert.CtxXIdeal.nD Cert.CtxXIdeal.τ).loc Cert.CtxXIdeal.main_arg0)
      ∧ r.2.mem ((c.tc : Thread Cert.CtxXIdeal.nD Cert.CtxXIdeal.τ).loc Cert.CtxXIdeal.main_arg1) = m ((c.tc : Thread Cert.CtxXIdeal.nD Cert.CtxXIdeal.τ).loc Cert.CtxXIdeal.main_arg1)
      ∧ r.2.mem ((c.tc : Thread Cert.CtxXIdeal.nD Cert.CtxXIdeal.τ).loc Cert.CtxXIdeal.main_arg2) = m ((c.tc : Thread Cert.CtxXIdeal.nD Cert.CtxXIdeal.τ).loc Cert.CtxXIdeal.main_arg2)
      ∧ r.2.mem ((c.tc : Thread Cert.CtxXIdeal.nD Cert.CtxXIdeal.τ).loc Cert.CtxXIdeal.main_arg3) = m ((c.tc : Thread Cert.CtxXIdeal.nD Cert.CtxXIdeal.τ).loc Cert.CtxXIdeal.main_arg3))
      ∧ r.2.sem = fun _ => 0)

def quiescent_CtxXReferenceIdeal [hCtxXReferenceIdeal : Cert.CtxXReferenceIdeal.Facts] : Prop :=
  ∀ (m : (ℓ : Loc Cert.CtxXReferenceIdeal.nD Cert.CtxXReferenceIdeal.τ Cert.CtxXReferenceIdeal.sig) → Buf (Elt Ideal) ℓ) (g : Dev Cert.CtxXReferenceIdeal.nD → PrngReg), Pre_CtxXReferenceIdeal m →
    θ_run (Cert.CtxXReferenceIdeal.defs (F := Ideal)) (onTc (τ := Cert.CtxXReferenceIdeal.τ) (Cert.CtxXReferenceIdeal.main (F := Ideal))) ⟨m, fun _ => 0, g⟩ (fun r => (∀ c : Dev Cert.CtxXReferenceIdeal.nD,
      r.2.mem ((c.tc : Thread Cert.CtxXReferenceIdeal.nD Cert.CtxXReferenceIdeal.τ).loc Cert.CtxXReferenceIdeal.main_arg0) = m ((c.tc : Thread Cert.CtxXReferenceIdeal.nD Cert.CtxXReferenceIdeal.τ).loc Cert.CtxXReferenceIdeal.main_arg0)
      ∧ r.2.mem ((c.tc : Thread Cert.CtxXReferenceIdeal.nD Cert.CtxXReferenceIdeal.τ).loc Cert.CtxXReferenceIdeal.main_arg1) = m ((c.tc : Thread Cert.CtxXReferenceIdeal.nD Cert.CtxXReferenceIdeal.τ).loc Cert.CtxXReferenceIdeal.main_arg1)
      ∧ r.2.mem ((c.tc : Thread Cert.CtxXReferenceIdeal.nD Cert.CtxXReferenceIdeal.τ).loc Cert.CtxXReferenceIdeal.main_arg2) = m ((c.tc : Thread Cert.CtxXReferenceIdeal.nD Cert.CtxXReferenceIdeal.τ).loc Cert.CtxXReferenceIdeal.main_arg2)
      ∧ r.2.mem ((c.tc : Thread Cert.CtxXReferenceIdeal.nD Cert.CtxXReferenceIdeal.τ).loc Cert.CtxXReferenceIdeal.main_arg3) = m ((c.tc : Thread Cert.CtxXReferenceIdeal.nD Cert.CtxXReferenceIdeal.τ).loc Cert.CtxXReferenceIdeal.main_arg3))
      ∧ r.2.sem = fun _ => 0)

def quiescent_ScanX [hScanX : Cert.ScanX.Facts] : Prop :=
  ∀ (m : (ℓ : Loc Cert.ScanX.nD Cert.ScanX.τ Cert.ScanX.sig) → Buf (Elt Bits) ℓ) (g : Dev Cert.ScanX.nD → PrngReg), Pre_ScanX m →
    θ_run (Cert.ScanX.defs (F := Bits)) (onTc (τ := Cert.ScanX.τ) (Cert.ScanX.main (F := Bits))) ⟨m, fun _ => 0, g⟩ (fun r => (∀ c : Dev Cert.ScanX.nD,
      r.2.mem ((c.tc : Thread Cert.ScanX.nD Cert.ScanX.τ).loc Cert.ScanX.main_arg0) = m ((c.tc : Thread Cert.ScanX.nD Cert.ScanX.τ).loc Cert.ScanX.main_arg0)
      ∧ r.2.mem ((c.tc : Thread Cert.ScanX.nD Cert.ScanX.τ).loc Cert.ScanX.main_arg1) = m ((c.tc : Thread Cert.ScanX.nD Cert.ScanX.τ).loc Cert.ScanX.main_arg1)
      ∧ r.2.mem ((c.tc : Thread Cert.ScanX.nD Cert.ScanX.τ).loc Cert.ScanX.main_arg2) = m ((c.tc : Thread Cert.ScanX.nD Cert.ScanX.τ).loc Cert.ScanX.main_arg2)
      ∧ r.2.mem ((c.tc : Thread Cert.ScanX.nD Cert.ScanX.τ).loc Cert.ScanX.main_arg3) = m ((c.tc : Thread Cert.ScanX.nD Cert.ScanX.τ).loc Cert.ScanX.main_arg3))
      ∧ r.2.sem = fun _ => 0)

def quiescent_ScanXIdeal [hScanXIdeal : Cert.ScanXIdeal.Facts] : Prop :=
  ∀ (m : (ℓ : Loc Cert.ScanXIdeal.nD Cert.ScanXIdeal.τ Cert.ScanXIdeal.sig) → Buf (Elt Ideal) ℓ) (g : Dev Cert.ScanXIdeal.nD → PrngReg), Pre_ScanXIdeal m →
    θ_run (Cert.ScanXIdeal.defs (F := Ideal)) (onTc (τ := Cert.ScanXIdeal.τ) (Cert.ScanXIdeal.main (F := Ideal))) ⟨m, fun _ => 0, g⟩ (fun r => (∀ c : Dev Cert.ScanXIdeal.nD,
      r.2.mem ((c.tc : Thread Cert.ScanXIdeal.nD Cert.ScanXIdeal.τ).loc Cert.ScanXIdeal.main_arg0) = m ((c.tc : Thread Cert.ScanXIdeal.nD Cert.ScanXIdeal.τ).loc Cert.ScanXIdeal.main_arg0)
      ∧ r.2.mem ((c.tc : Thread Cert.ScanXIdeal.nD Cert.ScanXIdeal.τ).loc Cert.ScanXIdeal.main_arg1) = m ((c.tc : Thread Cert.ScanXIdeal.nD Cert.ScanXIdeal.τ).loc Cert.ScanXIdeal.main_arg1)
      ∧ r.2.mem ((c.tc : Thread Cert.ScanXIdeal.nD Cert.ScanXIdeal.τ).loc Cert.ScanXIdeal.main_arg2) = m ((c.tc : Thread Cert.ScanXIdeal.nD Cert.ScanXIdeal.τ).loc Cert.ScanXIdeal.main_arg2)
      ∧ r.2.mem ((c.tc : Thread Cert.ScanXIdeal.nD Cert.ScanXIdeal.τ).loc Cert.ScanXIdeal.main_arg3) = m ((c.tc : Thread Cert.ScanXIdeal.nD Cert.ScanXIdeal.τ).loc Cert.ScanXIdeal.main_arg3))
      ∧ r.2.sem = fun _ => 0)

def quiescent_ScanXReferenceIdeal [hScanXReferenceIdeal : Cert.ScanXReferenceIdeal.Facts] : Prop :=
  ∀ (m : (ℓ : Loc Cert.ScanXReferenceIdeal.nD Cert.ScanXReferenceIdeal.τ Cert.ScanXReferenceIdeal.sig) → Buf (Elt Ideal) ℓ) (g : Dev Cert.ScanXReferenceIdeal.nD → PrngReg), Pre_ScanXReferenceIdeal m →
    θ_run (Cert.ScanXReferenceIdeal.defs (F := Ideal)) (onTc (τ := Cert.ScanXReferenceIdeal.τ) (Cert.ScanXReferenceIdeal.main (F := Ideal))) ⟨m, fun _ => 0, g⟩ (fun r => (∀ c : Dev Cert.ScanXReferenceIdeal.nD,
      r.2.mem ((c.tc : Thread Cert.ScanXReferenceIdeal.nD Cert.ScanXReferenceIdeal.τ).loc Cert.ScanXReferenceIdeal.main_arg0) = m ((c.tc : Thread Cert.ScanXReferenceIdeal.nD Cert.ScanXReferenceIdeal.τ).loc Cert.ScanXReferenceIdeal.main_arg0)
      ∧ r.2.mem ((c.tc : Thread Cert.ScanXReferenceIdeal.nD Cert.ScanXReferenceIdeal.τ).loc Cert.ScanXReferenceIdeal.main_arg1) = m ((c.tc : Thread Cert.ScanXReferenceIdeal.nD Cert.ScanXReferenceIdeal.τ).loc Cert.ScanXReferenceIdeal.main_arg1)
      ∧ r.2.mem ((c.tc : Thread Cert.ScanXReferenceIdeal.nD Cert.ScanXReferenceIdeal.τ).loc Cert.ScanXReferenceIdeal.main_arg2) = m ((c.tc : Thread Cert.ScanXReferenceIdeal.nD Cert.ScanXReferenceIdeal.τ).loc Cert.ScanXReferenceIdeal.main_arg2)
      ∧ r.2.mem ((c.tc : Thread Cert.ScanXReferenceIdeal.nD Cert.ScanXReferenceIdeal.τ).loc Cert.ScanXReferenceIdeal.main_arg3) = m ((c.tc : Thread Cert.ScanXReferenceIdeal.nD Cert.ScanXReferenceIdeal.τ).loc Cert.ScanXReferenceIdeal.main_arg3))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v30_0)) (v1 : (c : Dev Cert.KernelIdeal.nD) → Buf (Elt Ideal) ((c.tc : Thread Cert.KernelIdeal.nD Cert.KernelIdeal.τ).loc Cert.KernelIdeal.main_v30_1)) (v2 : (c : Dev Cert.KernelIdeal.nD) → Buf (Elt Ideal) ((c.tc : Thread Cert.KernelIdeal.nD Cert.KernelIdeal.τ).loc Cert.KernelIdeal.main_v30_2)) (v3 : (c : Dev Cert.KernelIdeal.nD) → Buf (Elt Ideal) ((c.tc : Thread Cert.KernelIdeal.nD Cert.KernelIdeal.τ).loc Cert.KernelIdeal.main_v30_3)) (v4 : (c : Dev Cert.KernelIdeal.nD) → Buf (Elt Ideal) ((c.tc : Thread Cert.KernelIdeal.nD Cert.KernelIdeal.τ).loc Cert.KernelIdeal.main_v30_4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v30_0) = v0 c
          ∧ r.2.mem ((c.tc : Thread Cert.KernelIdeal.nD Cert.KernelIdeal.τ).loc Cert.KernelIdeal.main_v30_1) = v1 c
          ∧ r.2.mem ((c.tc : Thread Cert.KernelIdeal.nD Cert.KernelIdeal.τ).loc Cert.KernelIdeal.main_v30_2) = v2 c
          ∧ r.2.mem ((c.tc : Thread Cert.KernelIdeal.nD Cert.KernelIdeal.τ).loc Cert.KernelIdeal.main_v30_3) = v3 c
          ∧ r.2.mem ((c.tc : Thread Cert.KernelIdeal.nD Cert.KernelIdeal.τ).loc Cert.KernelIdeal.main_v30_4) = v4 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v68) = v0 c
          ∧ r.2.mem ((c.tc : Thread Cert.ReferenceIdeal.nD Cert.ReferenceIdeal.τ).loc Cert.ReferenceIdeal.main_v72) = v1 c
          ∧ r.2.mem ((c.tc : Thread Cert.ReferenceIdeal.nD Cert.ReferenceIdeal.τ).loc Cert.ReferenceIdeal.main_v75) = v2 c
          ∧ r.2.mem ((c.tc : Thread Cert.ReferenceIdeal.nD Cert.ReferenceIdeal.τ).loc Cert.ReferenceIdeal.main_v79) = v3 c
          ∧ r.2.mem ((c.tc : Thread Cert.ReferenceIdeal.nD Cert.ReferenceIdeal.τ).loc Cert.ReferenceIdeal.main_v81) = v4 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def preserves_Ffn_FfnIdeal : Prop :=
  True

def algebraic_FfnIdeal_FfnReferenceIdeal [hFfnIdeal : Cert.FfnIdeal.Facts] [hFfnReferenceIdeal : Cert.FfnReferenceIdeal.Facts] : Prop :=
  ∀ (m : (ℓ : Loc Cert.FfnIdeal.nD Cert.FfnIdeal.τ Cert.FfnIdeal.sig) → Buf (Elt Ideal) ℓ) (g : Dev Cert.FfnIdeal.nD → PrngReg)
    (m' : (ℓ : Loc Cert.FfnReferenceIdeal.nD Cert.FfnReferenceIdeal.τ Cert.FfnReferenceIdeal.sig) → Buf (Elt Ideal) ℓ) (g' : Dev Cert.FfnReferenceIdeal.nD → PrngReg), Pre_FfnIdeal m →
    (∀ c : Dev Cert.FfnIdeal.nD,
      m' ((c.tc : Thread Cert.FfnReferenceIdeal.nD Cert.FfnReferenceIdeal.τ).loc Cert.FfnReferenceIdeal.main_arg0) = m ((c.tc : Thread Cert.FfnIdeal.nD Cert.FfnIdeal.τ).loc Cert.FfnIdeal.main_arg0)
      ∧ m' ((c.tc : Thread Cert.FfnReferenceIdeal.nD Cert.FfnReferenceIdeal.τ).loc Cert.FfnReferenceIdeal.main_arg1) = m ((c.tc : Thread Cert.FfnIdeal.nD Cert.FfnIdeal.τ).loc Cert.FfnIdeal.main_arg1)
      ∧ m' ((c.tc : Thread Cert.FfnReferenceIdeal.nD Cert.FfnReferenceIdeal.τ).loc Cert.FfnReferenceIdeal.main_arg2) = m ((c.tc : Thread Cert.FfnIdeal.nD Cert.FfnIdeal.τ).loc Cert.FfnIdeal.main_arg2)
      ∧ m' ((c.tc : Thread Cert.FfnReferenceIdeal.nD Cert.FfnReferenceIdeal.τ).loc Cert.FfnReferenceIdeal.main_arg3) = m ((c.tc : Thread Cert.FfnIdeal.nD Cert.FfnIdeal.τ).loc Cert.FfnIdeal.main_arg3)) →
    ∃ (v0 : (c : Dev Cert.FfnIdeal.nD) → Buf (Elt Ideal) ((c.tc : Thread Cert.FfnIdeal.nD Cert.FfnIdeal.τ).loc Cert.FfnIdeal.main_v12)) (v1 : (c : Dev Cert.FfnIdeal.nD) → Buf (Elt Ideal) ((c.tc : Thread Cert.FfnIdeal.nD Cert.FfnIdeal.τ).loc Cert.FfnIdeal.main_v9)),
      θ_run (Cert.FfnIdeal.defs (F := Ideal)) (onTc (τ := Cert.FfnIdeal.τ) (Cert.FfnIdeal.main (F := Ideal))) ⟨m, fun _ => 0, g⟩ (fun r => ∀ c : Dev Cert.FfnIdeal.nD,
          r.2.mem ((c.tc : Thread Cert.FfnIdeal.nD Cert.FfnIdeal.τ).loc Cert.FfnIdeal.main_v12) = v0 c
          ∧ r.2.mem ((c.tc : Thread Cert.FfnIdeal.nD Cert.FfnIdeal.τ).loc Cert.FfnIdeal.main_v9) = v1 c
          ∧ r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
          ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
          ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
          ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3))
      ∧ θ_run (Cert.FfnReferenceIdeal.defs (F := Ideal)) (onTc (τ := Cert.FfnReferenceIdeal.τ) (Cert.FfnReferenceIdeal.main (F := Ideal))) ⟨m', fun _ => 0, g'⟩ (fun r => ∀ c : Dev Cert.FfnReferenceIdeal.nD,
          r.2.mem ((c.tc : Thread Cert.FfnReferenceIdeal.nD Cert.FfnReferenceIdeal.τ).loc Cert.FfnReferenceIdeal.main_v17) = v0 c
          ∧ r.2.mem ((c.tc : Thread Cert.FfnReferenceIdeal.nD Cert.FfnReferenceIdeal.τ).loc Cert.FfnReferenceIdeal.main_v18) = v1 c
          ∧ r.2.mem ((c.tc : Thread Cert.FfnReferenceIdeal.nD Cert.FfnReferenceIdeal.τ).loc Cert.FfnReferenceIdeal.main_arg0) = m' ((c.tc : Thread Cert.FfnReferenceIdeal.nD Cert.FfnReferenceIdeal.τ).loc Cert.FfnReferenceIdeal.main_arg0)
          ∧ r.2.mem ((c.tc : Thread Cert.FfnReferenceIdeal.nD Cert.FfnReferenceIdeal.τ).loc Cert.FfnReferenceIdeal.main_arg1) = m' ((c.tc : Thread Cert.FfnReferenceIdeal.nD Cert.FfnReferenceIdeal.τ).loc Cert.FfnReferenceIdeal.main_arg1)
          ∧ r.2.mem ((c.tc : Thread Cert.FfnReferenceIdeal.nD Cert.FfnReferenceIdeal.τ).loc Cert.FfnReferenceIdeal.main_arg2) = m' ((c.tc : Thread Cert.FfnReferenceIdeal.nD Cert.FfnReferenceIdeal.τ).loc Cert.FfnReferenceIdeal.main_arg2)
          ∧ r.2.mem ((c.tc : Thread Cert.FfnReferenceIdeal.nD Cert.FfnReferenceIdeal.τ).loc Cert.FfnReferenceIdeal.main_arg3) = m' ((c.tc : Thread Cert.FfnReferenceIdeal.nD Cert.FfnReferenceIdeal.τ).loc Cert.FfnReferenceIdeal.main_arg3))

def preserves_Up_UpIdeal : Prop :=
  True

def algebraic_UpIdeal_UpReferenceIdeal [hUpIdeal : Cert.UpIdeal.Facts] [hUpReferenceIdeal : Cert.UpReferenceIdeal.Facts] : Prop :=
  ∀ (m : (ℓ : Loc Cert.UpIdeal.nD Cert.UpIdeal.τ Cert.UpIdeal.sig) → Buf (Elt Ideal) ℓ) (g : Dev Cert.UpIdeal.nD → PrngReg)
    (m' : (ℓ : Loc Cert.UpReferenceIdeal.nD Cert.UpReferenceIdeal.τ Cert.UpReferenceIdeal.sig) → Buf (Elt Ideal) ℓ) (g' : Dev Cert.UpReferenceIdeal.nD → PrngReg), Pre_UpIdeal m →
    (∀ c : Dev Cert.UpIdeal.nD,
      m' ((c.tc : Thread Cert.UpReferenceIdeal.nD Cert.UpReferenceIdeal.τ).loc Cert.UpReferenceIdeal.main_arg0) = m ((c.tc : Thread Cert.UpIdeal.nD Cert.UpIdeal.τ).loc Cert.UpIdeal.main_arg0)
      ∧ m' ((c.tc : Thread Cert.UpReferenceIdeal.nD Cert.UpReferenceIdeal.τ).loc Cert.UpReferenceIdeal.main_arg1) = m ((c.tc : Thread Cert.UpIdeal.nD Cert.UpIdeal.τ).loc Cert.UpIdeal.main_arg1)) →
    ∃ (v0 : (c : Dev Cert.UpIdeal.nD) → Buf (Elt Ideal) ((c.tc : Thread Cert.UpIdeal.nD Cert.UpIdeal.τ).loc Cert.UpIdeal.main_v4)),
      θ_run (Cert.UpIdeal.defs (F := Ideal)) (onTc (τ := Cert.UpIdeal.τ) (Cert.UpIdeal.main (F := Ideal))) ⟨m, fun _ => 0, g⟩ (fun r => ∀ c : Dev Cert.UpIdeal.nD,
          r.2.mem ((c.tc : Thread Cert.UpIdeal.nD Cert.UpIdeal.τ).loc Cert.UpIdeal.main_v4) = v0 c
          ∧ r.2.mem ((c.tc : Thread Cert.UpIdeal.nD Cert.UpIdeal.τ).loc Cert.UpIdeal.main_arg0) = m ((c.tc : Thread Cert.UpIdeal.nD Cert.UpIdeal.τ).loc Cert.UpIdeal.main_arg0)
          ∧ r.2.mem ((c.tc : Thread Cert.UpIdeal.nD Cert.UpIdeal.τ).loc Cert.UpIdeal.main_arg1) = m ((c.tc : Thread Cert.UpIdeal.nD Cert.UpIdeal.τ).loc Cert.UpIdeal.main_arg1))
      ∧ θ_run (Cert.UpReferenceIdeal.defs (F := Ideal)) (onTc (τ := Cert.UpReferenceIdeal.τ) (Cert.UpReferenceIdeal.main (F := Ideal))) ⟨m', fun _ => 0, g'⟩ (fun r => ∀ c : Dev Cert.UpReferenceIdeal.nD,
          r.2.mem ((c.tc : Thread Cert.UpReferenceIdeal.nD Cert.UpReferenceIdeal.τ).loc Cert.UpReferenceIdeal.main_v2) = v0 c
          ∧ r.2.mem ((c.tc : Thread Cert.UpReferenceIdeal.nD Cert.UpReferenceIdeal.τ).loc Cert.UpReferenceIdeal.main_arg0) = m' ((c.tc : Thread Cert.UpReferenceIdeal.nD Cert.UpReferenceIdeal.τ).loc Cert.UpReferenceIdeal.main_arg0)
          ∧ r.2.mem ((c.tc : Thread Cert.UpReferenceIdeal.nD Cert.UpReferenceIdeal.τ).loc Cert.UpReferenceIdeal.main_arg1) = m' ((c.tc : Thread Cert.UpReferenceIdeal.nD Cert.UpReferenceIdeal.τ).loc Cert.UpReferenceIdeal.main_arg1))

def preserves_Down_DownIdeal : Prop :=
  True

def algebraic_DownIdeal_DownReferenceIdeal [hDownIdeal : Cert.DownIdeal.Facts] [hDownReferenceIdeal : Cert.DownReferenceIdeal.Facts] : Prop :=
  ∀ (m : (ℓ : Loc Cert.DownIdeal.nD Cert.DownIdeal.τ Cert.DownIdeal.sig) → Buf (Elt Ideal) ℓ) (g : Dev Cert.DownIdeal.nD → PrngReg)
    (m' : (ℓ : Loc Cert.DownReferenceIdeal.nD Cert.DownReferenceIdeal.τ Cert.DownReferenceIdeal.sig) → Buf (Elt Ideal) ℓ) (g' : Dev Cert.DownReferenceIdeal.nD → PrngReg), Pre_DownIdeal m →
    (∀ c : Dev Cert.DownIdeal.nD,
      m' ((c.tc : Thread Cert.DownReferenceIdeal.nD Cert.DownReferenceIdeal.τ).loc Cert.DownReferenceIdeal.main_arg0) = m ((c.tc : Thread Cert.DownIdeal.nD Cert.DownIdeal.τ).loc Cert.DownIdeal.main_arg0)
      ∧ m' ((c.tc : Thread Cert.DownReferenceIdeal.nD Cert.DownReferenceIdeal.τ).loc Cert.DownReferenceIdeal.main_arg1) = m ((c.tc : Thread Cert.DownIdeal.nD Cert.DownIdeal.τ).loc Cert.DownIdeal.main_arg1)) →
    ∃ (v0 : (c : Dev Cert.DownIdeal.nD) → Buf (Elt Ideal) ((c.tc : Thread Cert.DownIdeal.nD Cert.DownIdeal.τ).loc Cert.DownIdeal.main_v2)),
      θ_run (Cert.DownIdeal.defs (F := Ideal)) (onTc (τ := Cert.DownIdeal.τ) (Cert.DownIdeal.main (F := Ideal))) ⟨m, fun _ => 0, g⟩ (fun r => ∀ c : Dev Cert.DownIdeal.nD,
          r.2.mem ((c.tc : Thread Cert.DownIdeal.nD Cert.DownIdeal.τ).loc Cert.DownIdeal.main_v2) = v0 c
          ∧ r.2.mem ((c.tc : Thread Cert.DownIdeal.nD Cert.DownIdeal.τ).loc Cert.DownIdeal.main_arg0) = m ((c.tc : Thread Cert.DownIdeal.nD Cert.DownIdeal.τ).loc Cert.DownIdeal.main_arg0)
          ∧ r.2.mem ((c.tc : Thread Cert.DownIdeal.nD Cert.DownIdeal.τ).loc Cert.DownIdeal.main_arg1) = m ((c.tc : Thread Cert.DownIdeal.nD Cert.DownIdeal.τ).loc Cert.DownIdeal.main_arg1))
      ∧ θ_run (Cert.DownReferenceIdeal.defs (F := Ideal)) (onTc (τ := Cert.DownReferenceIdeal.τ) (Cert.DownReferenceIdeal.main (F := Ideal))) ⟨m', fun _ => 0, g'⟩ (fun r => ∀ c : Dev Cert.DownReferenceIdeal.nD,
          r.2.mem ((c.tc : Thread Cert.DownReferenceIdeal.nD Cert.DownReferenceIdeal.τ).loc Cert.DownReferenceIdeal.main_v0) = v0 c
          ∧ r.2.mem ((c.tc : Thread Cert.DownReferenceIdeal.nD Cert.DownReferenceIdeal.τ).loc Cert.DownReferenceIdeal.main_arg0) = m' ((c.tc : Thread Cert.DownReferenceIdeal.nD Cert.DownReferenceIdeal.τ).loc Cert.DownReferenceIdeal.main_arg0)
          ∧ r.2.mem ((c.tc : Thread Cert.DownReferenceIdeal.nD Cert.DownReferenceIdeal.τ).loc Cert.DownReferenceIdeal.main_arg1) = m' ((c.tc : Thread Cert.DownReferenceIdeal.nD Cert.DownReferenceIdeal.τ).loc Cert.DownReferenceIdeal.main_arg1))

def preserves_Mix_MixIdeal : Prop :=
  True

def algebraic_MixIdeal_MixReferenceIdeal [hMixIdeal : Cert.MixIdeal.Facts] [hMixReferenceIdeal : Cert.MixReferenceIdeal.Facts] : Prop :=
  ∀ (m : (ℓ : Loc Cert.MixIdeal.nD Cert.MixIdeal.τ Cert.MixIdeal.sig) → Buf (Elt Ideal) ℓ) (g : Dev Cert.MixIdeal.nD → PrngReg)
    (m' : (ℓ : Loc Cert.MixReferenceIdeal.nD Cert.MixReferenceIdeal.τ Cert.MixReferenceIdeal.sig) → Buf (Elt Ideal) ℓ) (g' : Dev Cert.MixReferenceIdeal.nD → PrngReg), Pre_MixIdeal m →
    (∀ c : Dev Cert.MixIdeal.nD,
      m' ((c.tc : Thread Cert.MixReferenceIdeal.nD Cert.MixReferenceIdeal.τ).loc Cert.MixReferenceIdeal.main_arg0) = m ((c.tc : Thread Cert.MixIdeal.nD Cert.MixIdeal.τ).loc Cert.MixIdeal.main_arg0)
      ∧ m' ((c.tc : Thread Cert.MixReferenceIdeal.nD Cert.MixReferenceIdeal.τ).loc Cert.MixReferenceIdeal.main_arg1) = m ((c.tc : Thread Cert.MixIdeal.nD Cert.MixIdeal.τ).loc Cert.MixIdeal.main_arg1)
      ∧ m' ((c.tc : Thread Cert.MixReferenceIdeal.nD Cert.MixReferenceIdeal.τ).loc Cert.MixReferenceIdeal.main_arg2) = m ((c.tc : Thread Cert.MixIdeal.nD Cert.MixIdeal.τ).loc Cert.MixIdeal.main_arg2)
      ∧ m' ((c.tc : Thread Cert.MixReferenceIdeal.nD Cert.MixReferenceIdeal.τ).loc Cert.MixReferenceIdeal.main_arg3) = m ((c.tc : Thread Cert.MixIdeal.nD Cert.MixIdeal.τ).loc Cert.MixIdeal.main_arg3)
      ∧ m' ((c.tc : Thread Cert.MixReferenceIdeal.nD Cert.MixReferenceIdeal.τ).loc Cert.MixReferenceIdeal.main_arg4) = m ((c.tc : Thread Cert.MixIdeal.nD Cert.MixIdeal.τ).loc Cert.MixIdeal.main_arg4)
      ∧ m' ((c.tc : Thread Cert.MixReferenceIdeal.nD Cert.MixReferenceIdeal.τ).loc Cert.MixReferenceIdeal.main_arg5) = m ((c.tc : Thread Cert.MixIdeal.nD Cert.MixIdeal.τ).loc Cert.MixIdeal.main_arg5)
      ∧ m' ((c.tc : Thread Cert.MixReferenceIdeal.nD Cert.MixReferenceIdeal.τ).loc Cert.MixReferenceIdeal.main_arg6) = m ((c.tc : Thread Cert.MixIdeal.nD Cert.MixIdeal.τ).loc Cert.MixIdeal.main_arg6)) →
    ∃ (v0 : (c : Dev Cert.MixIdeal.nD) → Buf (Elt Ideal) ((c.tc : Thread Cert.MixIdeal.nD Cert.MixIdeal.τ).loc Cert.MixIdeal.main_v12)) (v1 : (c : Dev Cert.MixIdeal.nD) → Buf (Elt Ideal) ((c.tc : Thread Cert.MixIdeal.nD Cert.MixIdeal.τ).loc Cert.MixIdeal.main_v22)) (v2 : (c : Dev Cert.MixIdeal.nD) → Buf (Elt Ideal) ((c.tc : Thread Cert.MixIdeal.nD Cert.MixIdeal.τ).loc Cert.MixIdeal.main_v20)) (v3 : (c : Dev Cert.MixIdeal.nD) → Buf (Elt Ideal) ((c.tc : Thread Cert.MixIdeal.nD Cert.MixIdeal.τ).loc Cert.MixIdeal.main_v17)) (v4 : (c : Dev Cert.MixIdeal.nD) → Buf (Elt Ideal) ((c.tc : Thread Cert.MixIdeal.nD Cert.MixIdeal.τ).loc Cert.MixIdeal.main_v18_2)),
      θ_run (Cert.MixIdeal.defs (F := Ideal)) (onTc (τ := Cert.MixIdeal.τ) (Cert.MixIdeal.main (F := Ideal))) ⟨m, fun _ => 0, g⟩ (fun r => ∀ c : Dev Cert.MixIdeal.nD,
          r.2.mem ((c.tc : Thread Cert.MixIdeal.nD Cert.MixIdeal.τ).loc Cert.MixIdeal.main_v12) = v0 c
          ∧ r.2.mem ((c.tc : Thread Cert.MixIdeal.nD Cert.MixIdeal.τ).loc Cert.MixIdeal.main_v22) = v1 c
          ∧ r.2.mem ((c.tc : Thread Cert.MixIdeal.nD Cert.MixIdeal.τ).loc Cert.MixIdeal.main_v20) = v2 c
          ∧ r.2.mem ((c.tc : Thread Cert.MixIdeal.nD Cert.MixIdeal.τ).loc Cert.MixIdeal.main_v17) = v3 c
          ∧ r.2.mem ((c.tc : Thread Cert.MixIdeal.nD Cert.MixIdeal.τ).loc Cert.MixIdeal.main_v18_2) = v4 c
          ∧ r.2.mem ((c.tc : Thread Cert.MixIdeal.nD Cert.MixIdeal.τ).loc Cert.MixIdeal.main_arg0) = m ((c.tc : Thread Cert.MixIdeal.nD Cert.MixIdeal.τ).loc Cert.MixIdeal.main_arg0)
          ∧ r.2.mem ((c.tc : Thread Cert.MixIdeal.nD Cert.MixIdeal.τ).loc Cert.MixIdeal.main_arg1) = m ((c.tc : Thread Cert.MixIdeal.nD Cert.MixIdeal.τ).loc Cert.MixIdeal.main_arg1)
          ∧ r.2.mem ((c.tc : Thread Cert.MixIdeal.nD Cert.MixIdeal.τ).loc Cert.MixIdeal.main_arg2) = m ((c.tc : Thread Cert.MixIdeal.nD Cert.MixIdeal.τ).loc Cert.MixIdeal.main_arg2)
          ∧ r.2.mem ((c.tc : Thread Cert.MixIdeal.nD Cert.MixIdeal.τ).loc Cert.MixIdeal.main_arg3) = m ((c.tc : Thread Cert.MixIdeal.nD Cert.MixIdeal.τ).loc Cert.MixIdeal.main_arg3)
          ∧ r.2.mem ((c.tc : Thread Cert.MixIdeal.nD Cert.MixIdeal.τ).loc Cert.MixIdeal.main_arg4) = m ((c.tc : Thread Cert.MixIdeal.nD Cert.MixIdeal.τ).loc Cert.MixIdeal.main_arg4)
          ∧ r.2.mem ((c.tc : Thread Cert.MixIdeal.nD Cert.MixIdeal.τ).loc Cert.MixIdeal.main_arg5) = m ((c.tc : Thread Cert.MixIdeal.nD Cert.MixIdeal.τ).loc Cert.MixIdeal.main_arg5)
          ∧ r.2.mem ((c.tc : Thread Cert.MixIdeal.nD Cert.MixIdeal.τ).loc Cert.MixIdeal.main_arg6) = m ((c.tc : Thread Cert.MixIdeal.nD Cert.MixIdeal.τ).loc Cert.MixIdeal.main_arg6))
      ∧ θ_run (Cert.MixReferenceIdeal.defs (F := Ideal)) (onTc (τ := Cert.MixReferenceIdeal.τ) (Cert.MixReferenceIdeal.main (F := Ideal))) ⟨m', fun _ => 0, g'⟩ (fun r => ∀ c : Dev Cert.MixReferenceIdeal.nD,
          r.2.mem ((c.tc : Thread Cert.MixReferenceIdeal.nD Cert.MixReferenceIdeal.τ).loc Cert.MixReferenceIdeal.main_v29) = v0 c
          ∧ r.2.mem ((c.tc : Thread Cert.MixReferenceIdeal.nD Cert.MixReferenceIdeal.τ).loc Cert.MixReferenceIdeal.main_v49) = v1 c
          ∧ r.2.mem ((c.tc : Thread Cert.MixReferenceIdeal.nD Cert.MixReferenceIdeal.τ).loc Cert.MixReferenceIdeal.main_v52) = v2 c
          ∧ r.2.mem ((c.tc : Thread Cert.MixReferenceIdeal.nD Cert.MixReferenceIdeal.τ).loc Cert.MixReferenceIdeal.main_v53) = v3 c
          ∧ r.2.mem ((c.tc : Thread Cert.MixReferenceIdeal.nD Cert.MixReferenceIdeal.τ).loc Cert.MixReferenceIdeal.main_v54) = v4 c
          ∧ r.2.mem ((c.tc : Thread Cert.MixReferenceIdeal.nD Cert.MixReferenceIdeal.τ).loc Cert.MixReferenceIdeal.main_arg0) = m' ((c.tc : Thread Cert.MixReferenceIdeal.nD Cert.MixReferenceIdeal.τ).loc Cert.MixReferenceIdeal.main_arg0)
          ∧ r.2.mem ((c.tc : Thread Cert.MixReferenceIdeal.nD Cert.MixReferenceIdeal.τ).loc Cert.MixReferenceIdeal.main_arg1) = m' ((c.tc : Thread Cert.MixReferenceIdeal.nD Cert.MixReferenceIdeal.τ).loc Cert.MixReferenceIdeal.main_arg1)
          ∧ r.2.mem ((c.tc : Thread Cert.MixReferenceIdeal.nD Cert.MixReferenceIdeal.τ).loc Cert.MixReferenceIdeal.main_arg2) = m' ((c.tc : Thread Cert.MixReferenceIdeal.nD Cert.MixReferenceIdeal.τ).loc Cert.MixReferenceIdeal.main_arg2)
          ∧ r.2.mem ((c.tc : Thread Cert.MixReferenceIdeal.nD Cert.MixReferenceIdeal.τ).loc Cert.MixReferenceIdeal.main_arg3) = m' ((c.tc : Thread Cert.MixReferenceIdeal.nD Cert.MixReferenceIdeal.τ).loc Cert.MixReferenceIdeal.main_arg3)
          ∧ r.2.mem ((c.tc : Thread Cert.MixReferenceIdeal.nD Cert.MixReferenceIdeal.τ).loc Cert.MixReferenceIdeal.main_arg4) = m' ((c.tc : Thread Cert.MixReferenceIdeal.nD Cert.MixReferenceIdeal.τ).loc Cert.MixReferenceIdeal.main_arg4)
          ∧ r.2.mem ((c.tc : Thread Cert.MixReferenceIdeal.nD Cert.MixReferenceIdeal.τ).loc Cert.MixReferenceIdeal.main_arg5) = m' ((c.tc : Thread Cert.MixReferenceIdeal.nD Cert.MixReferenceIdeal.τ).loc Cert.MixReferenceIdeal.main_arg5)
          ∧ r.2.mem ((c.tc : Thread Cert.MixReferenceIdeal.nD Cert.MixReferenceIdeal.τ).loc Cert.MixReferenceIdeal.main_arg6) = m' ((c.tc : Thread Cert.MixReferenceIdeal.nD Cert.MixReferenceIdeal.τ).loc Cert.MixReferenceIdeal.main_arg6))

def preserves_Proj_ProjIdeal : Prop :=
  True

def algebraic_ProjIdeal_ProjReferenceIdeal [hProjIdeal : Cert.ProjIdeal.Facts] [hProjReferenceIdeal : Cert.ProjReferenceIdeal.Facts] : Prop :=
  ∀ (m : (ℓ : Loc Cert.ProjIdeal.nD Cert.ProjIdeal.τ Cert.ProjIdeal.sig) → Buf (Elt Ideal) ℓ) (g : Dev Cert.ProjIdeal.nD → PrngReg)
    (m' : (ℓ : Loc Cert.ProjReferenceIdeal.nD Cert.ProjReferenceIdeal.τ Cert.ProjReferenceIdeal.sig) → Buf (Elt Ideal) ℓ) (g' : Dev Cert.ProjReferenceIdeal.nD → PrngReg), Pre_ProjIdeal m →
    (∀ c : Dev Cert.ProjIdeal.nD,
      m' ((c.tc : Thread Cert.ProjReferenceIdeal.nD Cert.ProjReferenceIdeal.τ).loc Cert.ProjReferenceIdeal.main_arg0) = m ((c.tc : Thread Cert.ProjIdeal.nD Cert.ProjIdeal.τ).loc Cert.ProjIdeal.main_arg0)
      ∧ m' ((c.tc : Thread Cert.ProjReferenceIdeal.nD Cert.ProjReferenceIdeal.τ).loc Cert.ProjReferenceIdeal.main_arg1) = m ((c.tc : Thread Cert.ProjIdeal.nD Cert.ProjIdeal.τ).loc Cert.ProjIdeal.main_arg1)
      ∧ m' ((c.tc : Thread Cert.ProjReferenceIdeal.nD Cert.ProjReferenceIdeal.τ).loc Cert.ProjReferenceIdeal.main_arg2) = m ((c.tc : Thread Cert.ProjIdeal.nD Cert.ProjIdeal.τ).loc Cert.ProjIdeal.main_arg2)) →
    ∃ (v0 : (c : Dev Cert.ProjIdeal.nD) → Buf (Elt Ideal) ((c.tc : Thread Cert.ProjIdeal.nD Cert.ProjIdeal.τ).loc Cert.ProjIdeal.main_v6)) (v1 : (c : Dev Cert.ProjIdeal.nD) → Buf (Elt Ideal) ((c.tc : Thread Cert.ProjIdeal.nD Cert.ProjIdeal.τ).loc Cert.ProjIdeal.main_v12)),
      θ_run (Cert.ProjIdeal.defs (F := Ideal)) (onTc (τ := Cert.ProjIdeal.τ) (Cert.ProjIdeal.main (F := Ideal))) ⟨m, fun _ => 0, g⟩ (fun r => ∀ c : Dev Cert.ProjIdeal.nD,
          r.2.mem ((c.tc : Thread Cert.ProjIdeal.nD Cert.ProjIdeal.τ).loc Cert.ProjIdeal.main_v6) = v0 c
          ∧ r.2.mem ((c.tc : Thread Cert.ProjIdeal.nD Cert.ProjIdeal.τ).loc Cert.ProjIdeal.main_v12) = v1 c
          ∧ r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
          ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1)
          ∧ r.2.mem ((c.tc : Thread Cert.ProjIdeal.nD Cert.ProjIdeal.τ).loc Cert.ProjIdeal.main_arg2) = m ((c.tc : Thread Cert.ProjIdeal.nD Cert.ProjIdeal.τ).loc Cert.ProjIdeal.main_arg2))
      ∧ θ_run (Cert.ProjReferenceIdeal.defs (F := Ideal)) (onTc (τ := Cert.ProjReferenceIdeal.τ) (Cert.ProjReferenceIdeal.main (F := Ideal))) ⟨m', fun _ => 0, g'⟩ (fun r => ∀ c : Dev Cert.ProjReferenceIdeal.nD,
          r.2.mem ((c.tc : Thread Cert.ProjReferenceIdeal.nD Cert.ProjReferenceIdeal.τ).loc Cert.ProjReferenceIdeal.main_v4) = v0 c
          ∧ r.2.mem ((c.tc : Thread Cert.ProjReferenceIdeal.nD Cert.ProjReferenceIdeal.τ).loc Cert.ProjReferenceIdeal.main_v10) = v1 c
          ∧ r.2.mem ((c.tc : Thread Cert.ProjReferenceIdeal.nD Cert.ProjReferenceIdeal.τ).loc Cert.ProjReferenceIdeal.main_arg0) = m' ((c.tc : Thread Cert.ProjReferenceIdeal.nD Cert.ProjReferenceIdeal.τ).loc Cert.ProjReferenceIdeal.main_arg0)
          ∧ r.2.mem ((c.tc : Thread Cert.ProjReferenceIdeal.nD Cert.ProjReferenceIdeal.τ).loc Cert.ProjReferenceIdeal.main_arg1) = m' ((c.tc : Thread Cert.ProjReferenceIdeal.nD Cert.ProjReferenceIdeal.τ).loc Cert.ProjReferenceIdeal.main_arg1)
          ∧ r.2.mem ((c.tc : Thread Cert.ProjReferenceIdeal.nD Cert.ProjReferenceIdeal.τ).loc Cert.ProjReferenceIdeal.main_arg2) = m' ((c.tc : Thread Cert.ProjReferenceIdeal.nD Cert.ProjReferenceIdeal.τ).loc Cert.ProjReferenceIdeal.main_arg2))

def preserves_ProjX_ProjXIdeal : Prop :=
  True

def algebraic_ProjXIdeal_ProjXReferenceIdeal [hProjXIdeal : Cert.ProjXIdeal.Facts] [hProjXReferenceIdeal : Cert.ProjXReferenceIdeal.Facts] : Prop :=
  ∀ (m : (ℓ : Loc Cert.ProjXIdeal.nD Cert.ProjXIdeal.τ Cert.ProjXIdeal.sig) → Buf (Elt Ideal) ℓ) (g : Dev Cert.ProjXIdeal.nD → PrngReg)
    (m' : (ℓ : Loc Cert.ProjXReferenceIdeal.nD Cert.ProjXReferenceIdeal.τ Cert.ProjXReferenceIdeal.sig) → Buf (Elt Ideal) ℓ) (g' : Dev Cert.ProjXReferenceIdeal.nD → PrngReg), Pre_ProjXIdeal m →
    (∀ c : Dev Cert.ProjXIdeal.nD,
      m' ((c.tc : Thread Cert.ProjXReferenceIdeal.nD Cert.ProjXReferenceIdeal.τ).loc Cert.ProjXReferenceIdeal.main_arg0) = m ((c.tc : Thread Cert.ProjXIdeal.nD Cert.ProjXIdeal.τ).loc Cert.ProjXIdeal.main_arg0)
      ∧ m' ((c.tc : Thread Cert.ProjXReferenceIdeal.nD Cert.ProjXReferenceIdeal.τ).loc Cert.ProjXReferenceIdeal.main_arg1) = m ((c.tc : Thread Cert.ProjXIdeal.nD Cert.ProjXIdeal.τ).loc Cert.ProjXIdeal.main_arg1)) →
    ∃ (v0 : (c : Dev Cert.ProjXIdeal.nD) → Buf (Elt Ideal) ((c.tc : Thread Cert.ProjXIdeal.nD Cert.ProjXIdeal.τ).loc Cert.ProjXIdeal.main_v6)),
      θ_run (Cert.ProjXIdeal.defs (F := Ideal)) (onTc (τ := Cert.ProjXIdeal.τ) (Cert.ProjXIdeal.main (F := Ideal))) ⟨m, fun _ => 0, g⟩ (fun r => ∀ c : Dev Cert.ProjXIdeal.nD,
          r.2.mem ((c.tc : Thread Cert.ProjXIdeal.nD Cert.ProjXIdeal.τ).loc Cert.ProjXIdeal.main_v6) = v0 c
          ∧ r.2.mem ((c.tc : Thread Cert.ProjXIdeal.nD Cert.ProjXIdeal.τ).loc Cert.ProjXIdeal.main_arg0) = m ((c.tc : Thread Cert.ProjXIdeal.nD Cert.ProjXIdeal.τ).loc Cert.ProjXIdeal.main_arg0)
          ∧ r.2.mem ((c.tc : Thread Cert.ProjXIdeal.nD Cert.ProjXIdeal.τ).loc Cert.ProjXIdeal.main_arg1) = m ((c.tc : Thread Cert.ProjXIdeal.nD Cert.ProjXIdeal.τ).loc Cert.ProjXIdeal.main_arg1))
      ∧ θ_run (Cert.ProjXReferenceIdeal.defs (F := Ideal)) (onTc (τ := Cert.ProjXReferenceIdeal.τ) (Cert.ProjXReferenceIdeal.main (F := Ideal))) ⟨m', fun _ => 0, g'⟩ (fun r => ∀ c : Dev Cert.ProjXReferenceIdeal.nD,
          r.2.mem ((c.tc : Thread Cert.ProjXReferenceIdeal.nD Cert.ProjXReferenceIdeal.τ).loc Cert.ProjXReferenceIdeal.main_v5) = v0 c
          ∧ r.2.mem ((c.tc : Thread Cert.ProjXReferenceIdeal.nD Cert.ProjXReferenceIdeal.τ).loc Cert.ProjXReferenceIdeal.main_arg0) = m' ((c.tc : Thread Cert.ProjXReferenceIdeal.nD Cert.ProjXReferenceIdeal.τ).loc Cert.ProjXReferenceIdeal.main_arg0)
          ∧ r.2.mem ((c.tc : Thread Cert.ProjXReferenceIdeal.nD Cert.ProjXReferenceIdeal.τ).loc Cert.ProjXReferenceIdeal.main_arg1) = m' ((c.tc : Thread Cert.ProjXReferenceIdeal.nD Cert.ProjXReferenceIdeal.τ).loc Cert.ProjXReferenceIdeal.main_arg1))

def preserves_GluX_GluXIdeal : Prop :=
  True

def algebraic_GluXIdeal_GluXReferenceIdeal [hGluXIdeal : Cert.GluXIdeal.Facts] [hGluXReferenceIdeal : Cert.GluXReferenceIdeal.Facts] : Prop :=
  ∀ (m : (ℓ : Loc Cert.GluXIdeal.nD Cert.GluXIdeal.τ Cert.GluXIdeal.sig) → Buf (Elt Ideal) ℓ) (g : Dev Cert.GluXIdeal.nD → PrngReg)
    (m' : (ℓ : Loc Cert.GluXReferenceIdeal.nD Cert.GluXReferenceIdeal.τ Cert.GluXReferenceIdeal.sig) → Buf (Elt Ideal) ℓ) (g' : Dev Cert.GluXReferenceIdeal.nD → PrngReg), Pre_GluXIdeal m →
    (∀ c : Dev Cert.GluXIdeal.nD,
      m' ((c.tc : Thread Cert.GluXReferenceIdeal.nD Cert.GluXReferenceIdeal.τ).loc Cert.GluXReferenceIdeal.main_arg0) = m ((c.tc : Thread Cert.GluXIdeal.nD Cert.GluXIdeal.τ).loc Cert.GluXIdeal.main_arg0)
      ∧ m' ((c.tc : Thread Cert.GluXReferenceIdeal.nD Cert.GluXReferenceIdeal.τ).loc Cert.GluXReferenceIdeal.main_arg1) = m ((c.tc : Thread Cert.GluXIdeal.nD Cert.GluXIdeal.τ).loc Cert.GluXIdeal.main_arg1)) →
    ∃ (v0 : (c : Dev Cert.GluXIdeal.nD) → Buf (Elt Ideal) ((c.tc : Thread Cert.GluXIdeal.nD Cert.GluXIdeal.τ).loc Cert.GluXIdeal.main_v4)),
      θ_run (Cert.GluXIdeal.defs (F := Ideal)) (onTc (τ := Cert.GluXIdeal.τ) (Cert.GluXIdeal.main (F := Ideal))) ⟨m, fun _ => 0, g⟩ (fun r => ∀ c : Dev Cert.GluXIdeal.nD,
          r.2.mem ((c.tc : Thread Cert.GluXIdeal.nD Cert.GluXIdeal.τ).loc Cert.GluXIdeal.main_v4) = v0 c
          ∧ r.2.mem ((c.tc : Thread Cert.GluXIdeal.nD Cert.GluXIdeal.τ).loc Cert.GluXIdeal.main_arg0) = m ((c.tc : Thread Cert.GluXIdeal.nD Cert.GluXIdeal.τ).loc Cert.GluXIdeal.main_arg0)
          ∧ r.2.mem ((c.tc : Thread Cert.GluXIdeal.nD Cert.GluXIdeal.τ).loc Cert.GluXIdeal.main_arg1) = m ((c.tc : Thread Cert.GluXIdeal.nD Cert.GluXIdeal.τ).loc Cert.GluXIdeal.main_arg1))
      ∧ θ_run (Cert.GluXReferenceIdeal.defs (F := Ideal)) (onTc (τ := Cert.GluXReferenceIdeal.τ) (Cert.GluXReferenceIdeal.main (F := Ideal))) ⟨m', fun _ => 0, g'⟩ (fun r => ∀ c : Dev Cert.GluXReferenceIdeal.nD,
          r.2.mem ((c.tc : Thread Cert.GluXReferenceIdeal.nD Cert.GluXReferenceIdeal.τ).loc Cert.GluXReferenceIdeal.main_v3) = v0 c
          ∧ r.2.mem ((c.tc : Thread Cert.GluXReferenceIdeal.nD Cert.GluXReferenceIdeal.τ).loc Cert.GluXReferenceIdeal.main_arg0) = m' ((c.tc : Thread Cert.GluXReferenceIdeal.nD Cert.GluXReferenceIdeal.τ).loc Cert.GluXReferenceIdeal.main_arg0)
          ∧ r.2.mem ((c.tc : Thread Cert.GluXReferenceIdeal.nD Cert.GluXReferenceIdeal.τ).loc Cert.GluXReferenceIdeal.main_arg1) = m' ((c.tc : Thread Cert.GluXReferenceIdeal.nD Cert.GluXReferenceIdeal.τ).loc Cert.GluXReferenceIdeal.main_arg1))

def preserves_MlaX_MlaXIdeal : Prop :=
  True

def algebraic_MlaXIdeal_MlaXReferenceIdeal [hMlaXIdeal : Cert.MlaXIdeal.Facts] [hMlaXReferenceIdeal : Cert.MlaXReferenceIdeal.Facts] : Prop :=
  ∀ (m : (ℓ : Loc Cert.MlaXIdeal.nD Cert.MlaXIdeal.τ Cert.MlaXIdeal.sig) → Buf (Elt Ideal) ℓ) (g : Dev Cert.MlaXIdeal.nD → PrngReg)
    (m' : (ℓ : Loc Cert.MlaXReferenceIdeal.nD Cert.MlaXReferenceIdeal.τ Cert.MlaXReferenceIdeal.sig) → Buf (Elt Ideal) ℓ) (g' : Dev Cert.MlaXReferenceIdeal.nD → PrngReg), Pre_MlaXIdeal m →
    (∀ c : Dev Cert.MlaXIdeal.nD,
      m' ((c.tc : Thread Cert.MlaXReferenceIdeal.nD Cert.MlaXReferenceIdeal.τ).loc Cert.MlaXReferenceIdeal.main_arg0) = m ((c.tc : Thread Cert.MlaXIdeal.nD Cert.MlaXIdeal.τ).loc Cert.MlaXIdeal.main_arg0)
      ∧ m' ((c.tc : Thread Cert.MlaXReferenceIdeal.nD Cert.MlaXReferenceIdeal.τ).loc Cert.MlaXReferenceIdeal.main_arg1) = m ((c.tc : Thread Cert.MlaXIdeal.nD Cert.MlaXIdeal.τ).loc Cert.MlaXIdeal.main_arg1)) →
    ∃ (v0 : (c : Dev Cert.MlaXIdeal.nD) → Buf (Elt Ideal) ((c.tc : Thread Cert.MlaXIdeal.nD Cert.MlaXIdeal.τ).loc Cert.MlaXIdeal.main_v4)),
      θ_run (Cert.MlaXIdeal.defs (F := Ideal)) (onTc (τ := Cert.MlaXIdeal.τ) (Cert.MlaXIdeal.main (F := Ideal))) ⟨m, fun _ => 0, g⟩ (fun r => ∀ c : Dev Cert.MlaXIdeal.nD,
          r.2.mem ((c.tc : Thread Cert.MlaXIdeal.nD Cert.MlaXIdeal.τ).loc Cert.MlaXIdeal.main_v4) = v0 c
          ∧ r.2.mem ((c.tc : Thread Cert.MlaXIdeal.nD Cert.MlaXIdeal.τ).loc Cert.MlaXIdeal.main_arg0) = m ((c.tc : Thread Cert.MlaXIdeal.nD Cert.MlaXIdeal.τ).loc Cert.MlaXIdeal.main_arg0)
          ∧ r.2.mem ((c.tc : Thread Cert.MlaXIdeal.nD Cert.MlaXIdeal.τ).loc Cert.MlaXIdeal.main_arg1) = m ((c.tc : Thread Cert.MlaXIdeal.nD Cert.MlaXIdeal.τ).loc Cert.MlaXIdeal.main_arg1))
      ∧ θ_run (Cert.MlaXReferenceIdeal.defs (F := Ideal)) (onTc (τ := Cert.MlaXReferenceIdeal.τ) (Cert.MlaXReferenceIdeal.main (F := Ideal))) ⟨m', fun _ => 0, g'⟩ (fun r => ∀ c : Dev Cert.MlaXReferenceIdeal.nD,
          r.2.mem ((c.tc : Thread Cert.MlaXReferenceIdeal.nD Cert.MlaXReferenceIdeal.τ).loc Cert.MlaXReferenceIdeal.main_v3) = v0 c
          ∧ r.2.mem ((c.tc : Thread Cert.MlaXReferenceIdeal.nD Cert.MlaXReferenceIdeal.τ).loc Cert.MlaXReferenceIdeal.main_arg0) = m' ((c.tc : Thread Cert.MlaXReferenceIdeal.nD Cert.MlaXReferenceIdeal.τ).loc Cert.MlaXReferenceIdeal.main_arg0)
          ∧ r.2.mem ((c.tc : Thread Cert.MlaXReferenceIdeal.nD Cert.MlaXReferenceIdeal.τ).loc Cert.MlaXReferenceIdeal.main_arg1) = m' ((c.tc : Thread Cert.MlaXReferenceIdeal.nD Cert.MlaXReferenceIdeal.τ).loc Cert.MlaXReferenceIdeal.main_arg1))

def preserves_Latent_LatentIdeal : Prop :=
  True

def algebraic_LatentIdeal_LatentReferenceIdeal [hLatentIdeal : Cert.LatentIdeal.Facts] [hLatentReferenceIdeal : Cert.LatentReferenceIdeal.Facts] : Prop :=
  ∀ (m : (ℓ : Loc Cert.LatentIdeal.nD Cert.LatentIdeal.τ Cert.LatentIdeal.sig) → Buf (Elt Ideal) ℓ) (g : Dev Cert.LatentIdeal.nD → PrngReg)
    (m' : (ℓ : Loc Cert.LatentReferenceIdeal.nD Cert.LatentReferenceIdeal.τ Cert.LatentReferenceIdeal.sig) → Buf (Elt Ideal) ℓ) (g' : Dev Cert.LatentReferenceIdeal.nD → PrngReg), Pre_LatentIdeal m →
    (∀ c : Dev Cert.LatentIdeal.nD,
      m' ((c.tc : Thread Cert.LatentReferenceIdeal.nD Cert.LatentReferenceIdeal.τ).loc Cert.LatentReferenceIdeal.main_arg0) = m ((c.tc : Thread Cert.LatentIdeal.nD Cert.LatentIdeal.τ).loc Cert.LatentIdeal.main_arg0)
      ∧ m' ((c.tc : Thread Cert.LatentReferenceIdeal.nD Cert.LatentReferenceIdeal.τ).loc Cert.LatentReferenceIdeal.main_arg1) = m ((c.tc : Thread Cert.LatentIdeal.nD Cert.LatentIdeal.τ).loc Cert.LatentIdeal.main_arg1)
      ∧ m' ((c.tc : Thread Cert.LatentReferenceIdeal.nD Cert.LatentReferenceIdeal.τ).loc Cert.LatentReferenceIdeal.main_arg2) = m ((c.tc : Thread Cert.LatentIdeal.nD Cert.LatentIdeal.τ).loc Cert.LatentIdeal.main_arg2)
      ∧ m' ((c.tc : Thread Cert.LatentReferenceIdeal.nD Cert.LatentReferenceIdeal.τ).loc Cert.LatentReferenceIdeal.main_arg3) = m ((c.tc : Thread Cert.LatentIdeal.nD Cert.LatentIdeal.τ).loc Cert.LatentIdeal.main_arg3)
      ∧ m' ((c.tc : Thread Cert.LatentReferenceIdeal.nD Cert.LatentReferenceIdeal.τ).loc Cert.LatentReferenceIdeal.main_arg4) = m ((c.tc : Thread Cert.LatentIdeal.nD Cert.LatentIdeal.τ).loc Cert.LatentIdeal.main_arg4)
      ∧ m' ((c.tc : Thread Cert.LatentReferenceIdeal.nD Cert.LatentReferenceIdeal.τ).loc Cert.LatentReferenceIdeal.main_arg5) = m ((c.tc : Thread Cert.LatentIdeal.nD Cert.LatentIdeal.τ).loc Cert.LatentIdeal.main_arg5)) →
    ∃ (v0 : (c : Dev Cert.LatentIdeal.nD) → Buf (Elt Ideal) ((c.tc : Thread Cert.LatentIdeal.nD Cert.LatentIdeal.τ).loc Cert.LatentIdeal.main_v16)) (v1 : (c : Dev Cert.LatentIdeal.nD) → Buf (Elt Ideal) ((c.tc : Thread Cert.LatentIdeal.nD Cert.LatentIdeal.τ).loc Cert.LatentIdeal.main_v18)) (v2 : (c : Dev Cert.LatentIdeal.nD) → Buf (Elt Ideal) ((c.tc : Thread Cert.LatentIdeal.nD Cert.LatentIdeal.τ).loc Cert.LatentIdeal.main_v20)) (v3 : (c : Dev Cert.LatentIdeal.nD) → Buf (Elt Ideal) ((c.tc : Thread Cert.LatentIdeal.nD Cert.LatentIdeal.τ).loc Cert.LatentIdeal.main_v35)) (v4 : (c : Dev Cert.LatentIdeal.nD) → Buf (Elt Ideal) ((c.tc : Thread Cert.LatentIdeal.nD Cert.LatentIdeal.τ).loc Cert.LatentIdeal.main_v25)) (v5 : (c : Dev Cert.LatentIdeal.nD) → Buf (Elt Ideal) ((c.tc : Thread Cert.LatentIdeal.nD Cert.LatentIdeal.τ).loc Cert.LatentIdeal.main_v41)),
      θ_run (Cert.LatentIdeal.defs (F := Ideal)) (onTc (τ := Cert.LatentIdeal.τ) (Cert.LatentIdeal.main (F := Ideal))) ⟨m, fun _ => 0, g⟩ (fun r => ∀ c : Dev Cert.LatentIdeal.nD,
          r.2.mem ((c.tc : Thread Cert.LatentIdeal.nD Cert.LatentIdeal.τ).loc Cert.LatentIdeal.main_v16) = v0 c
          ∧ r.2.mem ((c.tc : Thread Cert.LatentIdeal.nD Cert.LatentIdeal.τ).loc Cert.LatentIdeal.main_v18) = v1 c
          ∧ r.2.mem ((c.tc : Thread Cert.LatentIdeal.nD Cert.LatentIdeal.τ).loc Cert.LatentIdeal.main_v20) = v2 c
          ∧ r.2.mem ((c.tc : Thread Cert.LatentIdeal.nD Cert.LatentIdeal.τ).loc Cert.LatentIdeal.main_v35) = v3 c
          ∧ r.2.mem ((c.tc : Thread Cert.LatentIdeal.nD Cert.LatentIdeal.τ).loc Cert.LatentIdeal.main_v25) = v4 c
          ∧ r.2.mem ((c.tc : Thread Cert.LatentIdeal.nD Cert.LatentIdeal.τ).loc Cert.LatentIdeal.main_v41) = v5 c
          ∧ r.2.mem ((c.tc : Thread Cert.LatentIdeal.nD Cert.LatentIdeal.τ).loc Cert.LatentIdeal.main_arg0) = m ((c.tc : Thread Cert.LatentIdeal.nD Cert.LatentIdeal.τ).loc Cert.LatentIdeal.main_arg0)
          ∧ r.2.mem ((c.tc : Thread Cert.LatentIdeal.nD Cert.LatentIdeal.τ).loc Cert.LatentIdeal.main_arg1) = m ((c.tc : Thread Cert.LatentIdeal.nD Cert.LatentIdeal.τ).loc Cert.LatentIdeal.main_arg1)
          ∧ r.2.mem ((c.tc : Thread Cert.LatentIdeal.nD Cert.LatentIdeal.τ).loc Cert.LatentIdeal.main_arg2) = m ((c.tc : Thread Cert.LatentIdeal.nD Cert.LatentIdeal.τ).loc Cert.LatentIdeal.main_arg2)
          ∧ r.2.mem ((c.tc : Thread Cert.LatentIdeal.nD Cert.LatentIdeal.τ).loc Cert.LatentIdeal.main_arg3) = m ((c.tc : Thread Cert.LatentIdeal.nD Cert.LatentIdeal.τ).loc Cert.LatentIdeal.main_arg3)
          ∧ r.2.mem ((c.tc : Thread Cert.LatentIdeal.nD Cert.LatentIdeal.τ).loc Cert.LatentIdeal.main_arg4) = m ((c.tc : Thread Cert.LatentIdeal.nD Cert.LatentIdeal.τ).loc Cert.LatentIdeal.main_arg4)
          ∧ r.2.mem ((c.tc : Thread Cert.LatentIdeal.nD Cert.LatentIdeal.τ).loc Cert.LatentIdeal.main_arg5) = m ((c.tc : Thread Cert.LatentIdeal.nD Cert.LatentIdeal.τ).loc Cert.LatentIdeal.main_arg5))
      ∧ θ_run (Cert.LatentReferenceIdeal.defs (F := Ideal)) (onTc (τ := Cert.LatentReferenceIdeal.τ) (Cert.LatentReferenceIdeal.main (F := Ideal))) ⟨m', fun _ => 0, g'⟩ (fun r => ∀ c : Dev Cert.LatentReferenceIdeal.nD,
          r.2.mem ((c.tc : Thread Cert.LatentReferenceIdeal.nD Cert.LatentReferenceIdeal.τ).loc Cert.LatentReferenceIdeal.main_v31) = v0 c
          ∧ r.2.mem ((c.tc : Thread Cert.LatentReferenceIdeal.nD Cert.LatentReferenceIdeal.τ).loc Cert.LatentReferenceIdeal.main_v34) = v1 c
          ∧ r.2.mem ((c.tc : Thread Cert.LatentReferenceIdeal.nD Cert.LatentReferenceIdeal.τ).loc Cert.LatentReferenceIdeal.main_v26) = v2 c
          ∧ r.2.mem ((c.tc : Thread Cert.LatentReferenceIdeal.nD Cert.LatentReferenceIdeal.τ).loc Cert.LatentReferenceIdeal.main_v35) = v3 c
          ∧ r.2.mem ((c.tc : Thread Cert.LatentReferenceIdeal.nD Cert.LatentReferenceIdeal.τ).loc Cert.LatentReferenceIdeal.main_v30) = v4 c
          ∧ r.2.mem ((c.tc : Thread Cert.LatentReferenceIdeal.nD Cert.LatentReferenceIdeal.τ).loc Cert.LatentReferenceIdeal.main_v36) = v5 c
          ∧ r.2.mem ((c.tc : Thread Cert.LatentReferenceIdeal.nD Cert.LatentReferenceIdeal.τ).loc Cert.LatentReferenceIdeal.main_arg0) = m' ((c.tc : Thread Cert.LatentReferenceIdeal.nD Cert.LatentReferenceIdeal.τ).loc Cert.LatentReferenceIdeal.main_arg0)
          ∧ r.2.mem ((c.tc : Thread Cert.LatentReferenceIdeal.nD Cert.LatentReferenceIdeal.τ).loc Cert.LatentReferenceIdeal.main_arg1) = m' ((c.tc : Thread Cert.LatentReferenceIdeal.nD Cert.LatentReferenceIdeal.τ).loc Cert.LatentReferenceIdeal.main_arg1)
          ∧ r.2.mem ((c.tc : Thread Cert.LatentReferenceIdeal.nD Cert.LatentReferenceIdeal.τ).loc Cert.LatentReferenceIdeal.main_arg2) = m' ((c.tc : Thread Cert.LatentReferenceIdeal.nD Cert.LatentReferenceIdeal.τ).loc Cert.LatentReferenceIdeal.main_arg2)
          ∧ r.2.mem ((c.tc : Thread Cert.LatentReferenceIdeal.nD Cert.LatentReferenceIdeal.τ).loc Cert.LatentReferenceIdeal.main_arg3) = m' ((c.tc : Thread Cert.LatentReferenceIdeal.nD Cert.LatentReferenceIdeal.τ).loc Cert.LatentReferenceIdeal.main_arg3)
          ∧ r.2.mem ((c.tc : Thread Cert.LatentReferenceIdeal.nD Cert.LatentReferenceIdeal.τ).loc Cert.LatentReferenceIdeal.main_arg4) = m' ((c.tc : Thread Cert.LatentReferenceIdeal.nD Cert.LatentReferenceIdeal.τ).loc Cert.LatentReferenceIdeal.main_arg4)
          ∧ r.2.mem ((c.tc : Thread Cert.LatentReferenceIdeal.nD Cert.LatentReferenceIdeal.τ).loc Cert.LatentReferenceIdeal.main_arg5) = m' ((c.tc : Thread Cert.LatentReferenceIdeal.nD Cert.LatentReferenceIdeal.τ).loc Cert.LatentReferenceIdeal.main_arg5))

def preserves_Attend_AttendIdeal : Prop :=
  True

def algebraic_AttendIdeal_AttendReferenceIdeal_pre_finite_scores [hAttendIdeal : Cert.AttendIdeal.Facts] [hAttendReferenceIdeal : Cert.AttendReferenceIdeal.Facts] [hPre_finite_scores : Cert.Pre_finite_scores.Facts] : Prop :=
  ∀ (m : (ℓ : Loc Cert.AttendIdeal.nD Cert.AttendIdeal.τ Cert.AttendIdeal.sig) → Buf (Elt Ideal) ℓ) (g : Dev Cert.AttendIdeal.nD → PrngReg)
    (m' : (ℓ : Loc Cert.AttendReferenceIdeal.nD Cert.AttendReferenceIdeal.τ Cert.AttendReferenceIdeal.sig) → Buf (Elt Ideal) ℓ) (g' : Dev Cert.AttendReferenceIdeal.nD → PrngReg), Pre_AttendIdeal_finite_scores m →
    (∀ c : Dev Cert.AttendIdeal.nD,
      m' ((c.tc : Thread Cert.AttendReferenceIdeal.nD Cert.AttendReferenceIdeal.τ).loc Cert.AttendReferenceIdeal.main_arg0) = m ((c.tc : Thread Cert.AttendIdeal.nD Cert.AttendIdeal.τ).loc Cert.AttendIdeal.main_arg0)
      ∧ m' ((c.tc : Thread Cert.AttendReferenceIdeal.nD Cert.AttendReferenceIdeal.τ).loc Cert.AttendReferenceIdeal.main_arg1) = m ((c.tc : Thread Cert.AttendIdeal.nD Cert.AttendIdeal.τ).loc Cert.AttendIdeal.main_arg1)
      ∧ m' ((c.tc : Thread Cert.AttendReferenceIdeal.nD Cert.AttendReferenceIdeal.τ).loc Cert.AttendReferenceIdeal.main_arg2) = m ((c.tc : Thread Cert.AttendIdeal.nD Cert.AttendIdeal.τ).loc Cert.AttendIdeal.main_arg2)
      ∧ m' ((c.tc : Thread Cert.AttendReferenceIdeal.nD Cert.AttendReferenceIdeal.τ).loc Cert.AttendReferenceIdeal.main_arg3) = m ((c.tc : Thread Cert.AttendIdeal.nD Cert.AttendIdeal.τ).loc Cert.AttendIdeal.main_arg3)) →
    ∃ (v0 : (c : Dev Cert.AttendIdeal.nD) → Buf (Elt Ideal) ((c.tc : Thread Cert.AttendIdeal.nD Cert.AttendIdeal.τ).loc Cert.AttendIdeal.main_v13_0)) (v1 : (c : Dev Cert.AttendIdeal.nD) → Buf (Elt Ideal) ((c.tc : Thread Cert.AttendIdeal.nD Cert.AttendIdeal.τ).loc Cert.AttendIdeal.main_v13_1)),
      θ_run (Cert.AttendIdeal.defs (F := Ideal)) (onTc (τ := Cert.AttendIdeal.τ) (Cert.AttendIdeal.main (F := Ideal))) ⟨m, fun _ => 0, g⟩ (fun r => ∀ c : Dev Cert.AttendIdeal.nD,
          r.2.mem ((c.tc : Thread Cert.AttendIdeal.nD Cert.AttendIdeal.τ).loc Cert.AttendIdeal.main_v13_0) = v0 c
          ∧ r.2.mem ((c.tc : Thread Cert.AttendIdeal.nD Cert.AttendIdeal.τ).loc Cert.AttendIdeal.main_v13_1) = v1 c
          ∧ r.2.mem ((c.tc : Thread Cert.AttendIdeal.nD Cert.AttendIdeal.τ).loc Cert.AttendIdeal.main_arg0) = m ((c.tc : Thread Cert.AttendIdeal.nD Cert.AttendIdeal.τ).loc Cert.AttendIdeal.main_arg0)
          ∧ r.2.mem ((c.tc : Thread Cert.AttendIdeal.nD Cert.AttendIdeal.τ).loc Cert.AttendIdeal.main_arg1) = m ((c.tc : Thread Cert.AttendIdeal.nD Cert.AttendIdeal.τ).loc Cert.AttendIdeal.main_arg1)
          ∧ r.2.mem ((c.tc : Thread Cert.AttendIdeal.nD Cert.AttendIdeal.τ).loc Cert.AttendIdeal.main_arg2) = m ((c.tc : Thread Cert.AttendIdeal.nD Cert.AttendIdeal.τ).loc Cert.AttendIdeal.main_arg2)
          ∧ r.2.mem ((c.tc : Thread Cert.AttendIdeal.nD Cert.AttendIdeal.τ).loc Cert.AttendIdeal.main_arg3) = m ((c.tc : Thread Cert.AttendIdeal.nD Cert.AttendIdeal.τ).loc Cert.AttendIdeal.main_arg3))
      ∧ θ_run (Cert.AttendReferenceIdeal.defs (F := Ideal)) (onTc (τ := Cert.AttendReferenceIdeal.τ) (Cert.AttendReferenceIdeal.main (F := Ideal))) ⟨m', fun _ => 0, g'⟩ (fun r => ∀ c : Dev Cert.AttendReferenceIdeal.nD,
          r.2.mem ((c.tc : Thread Cert.AttendReferenceIdeal.nD Cert.AttendReferenceIdeal.τ).loc Cert.AttendReferenceIdeal.main_v36) = v0 c
          ∧ r.2.mem ((c.tc : Thread Cert.AttendReferenceIdeal.nD Cert.AttendReferenceIdeal.τ).loc Cert.AttendReferenceIdeal.main_v14) = v1 c
          ∧ r.2.mem ((c.tc : Thread Cert.AttendReferenceIdeal.nD Cert.AttendReferenceIdeal.τ).loc Cert.AttendReferenceIdeal.main_arg0) = m' ((c.tc : Thread Cert.AttendReferenceIdeal.nD Cert.AttendReferenceIdeal.τ).loc Cert.AttendReferenceIdeal.main_arg0)
          ∧ r.2.mem ((c.tc : Thread Cert.AttendReferenceIdeal.nD Cert.AttendReferenceIdeal.τ).loc Cert.AttendReferenceIdeal.main_arg1) = m' ((c.tc : Thread Cert.AttendReferenceIdeal.nD Cert.AttendReferenceIdeal.τ).loc Cert.AttendReferenceIdeal.main_arg1)
          ∧ r.2.mem ((c.tc : Thread Cert.AttendReferenceIdeal.nD Cert.AttendReferenceIdeal.τ).loc Cert.AttendReferenceIdeal.main_arg2) = m' ((c.tc : Thread Cert.AttendReferenceIdeal.nD Cert.AttendReferenceIdeal.τ).loc Cert.AttendReferenceIdeal.main_arg2)
          ∧ r.2.mem ((c.tc : Thread Cert.AttendReferenceIdeal.nD Cert.AttendReferenceIdeal.τ).loc Cert.AttendReferenceIdeal.main_arg3) = m' ((c.tc : Thread Cert.AttendReferenceIdeal.nD Cert.AttendReferenceIdeal.τ).loc Cert.AttendReferenceIdeal.main_arg3))

def preserves_Mod_ModIdeal : Prop :=
  True

def algebraic_ModIdeal_ModReferenceIdeal [hModIdeal : Cert.ModIdeal.Facts] [hModReferenceIdeal : Cert.ModReferenceIdeal.Facts] : Prop :=
  ∀ (m : (ℓ : Loc Cert.ModIdeal.nD Cert.ModIdeal.τ Cert.ModIdeal.sig) → Buf (Elt Ideal) ℓ) (g : Dev Cert.ModIdeal.nD → PrngReg)
    (m' : (ℓ : Loc Cert.ModReferenceIdeal.nD Cert.ModReferenceIdeal.τ Cert.ModReferenceIdeal.sig) → Buf (Elt Ideal) ℓ) (g' : Dev Cert.ModReferenceIdeal.nD → PrngReg), Pre_ModIdeal m →
    (∀ c : Dev Cert.ModIdeal.nD,
      m' ((c.tc : Thread Cert.ModReferenceIdeal.nD Cert.ModReferenceIdeal.τ).loc Cert.ModReferenceIdeal.main_arg0) = m ((c.tc : Thread Cert.ModIdeal.nD Cert.ModIdeal.τ).loc Cert.ModIdeal.main_arg0)
      ∧ m' ((c.tc : Thread Cert.ModReferenceIdeal.nD Cert.ModReferenceIdeal.τ).loc Cert.ModReferenceIdeal.main_arg1) = m ((c.tc : Thread Cert.ModIdeal.nD Cert.ModIdeal.τ).loc Cert.ModIdeal.main_arg1)
      ∧ m' ((c.tc : Thread Cert.ModReferenceIdeal.nD Cert.ModReferenceIdeal.τ).loc Cert.ModReferenceIdeal.main_arg2) = m ((c.tc : Thread Cert.ModIdeal.nD Cert.ModIdeal.τ).loc Cert.ModIdeal.main_arg2)) →
    ∃ (v0 : (c : Dev Cert.ModIdeal.nD) → Buf (Elt Ideal) ((c.tc : Thread Cert.ModIdeal.nD Cert.ModIdeal.τ).loc Cert.ModIdeal.main_v2)) (v1 : (c : Dev Cert.ModIdeal.nD) → Buf (Elt Ideal) ((c.tc : Thread Cert.ModIdeal.nD Cert.ModIdeal.τ).loc Cert.ModIdeal.main_v4)) (v2 : (c : Dev Cert.ModIdeal.nD) → Buf (Elt Ideal) ((c.tc : Thread Cert.ModIdeal.nD Cert.ModIdeal.τ).loc Cert.ModIdeal.main_v7)),
      θ_run (Cert.ModIdeal.defs (F := Ideal)) (onTc (τ := Cert.ModIdeal.τ) (Cert.ModIdeal.main (F := Ideal))) ⟨m, fun _ => 0, g⟩ (fun r => ∀ c : Dev Cert.ModIdeal.nD,
          r.2.mem ((c.tc : Thread Cert.ModIdeal.nD Cert.ModIdeal.τ).loc Cert.ModIdeal.main_v2) = v0 c
          ∧ r.2.mem ((c.tc : Thread Cert.ModIdeal.nD Cert.ModIdeal.τ).loc Cert.ModIdeal.main_v4) = v1 c
          ∧ r.2.mem ((c.tc : Thread Cert.ModIdeal.nD Cert.ModIdeal.τ).loc Cert.ModIdeal.main_v7) = v2 c
          ∧ r.2.mem ((c.tc : Thread Cert.ModIdeal.nD Cert.ModIdeal.τ).loc Cert.ModIdeal.main_arg0) = m ((c.tc : Thread Cert.ModIdeal.nD Cert.ModIdeal.τ).loc Cert.ModIdeal.main_arg0)
          ∧ r.2.mem ((c.tc : Thread Cert.ModIdeal.nD Cert.ModIdeal.τ).loc Cert.ModIdeal.main_arg1) = m ((c.tc : Thread Cert.ModIdeal.nD Cert.ModIdeal.τ).loc Cert.ModIdeal.main_arg1)
          ∧ r.2.mem ((c.tc : Thread Cert.ModIdeal.nD Cert.ModIdeal.τ).loc Cert.ModIdeal.main_arg2) = m ((c.tc : Thread Cert.ModIdeal.nD Cert.ModIdeal.τ).loc Cert.ModIdeal.main_arg2))
      ∧ θ_run (Cert.ModReferenceIdeal.defs (F := Ideal)) (onTc (τ := Cert.ModReferenceIdeal.τ) (Cert.ModReferenceIdeal.main (F := Ideal))) ⟨m', fun _ => 0, g'⟩ (fun r => ∀ c : Dev Cert.ModReferenceIdeal.nD,
          r.2.mem ((c.tc : Thread Cert.ModReferenceIdeal.nD Cert.ModReferenceIdeal.τ).loc Cert.ModReferenceIdeal.main_v1) = v0 c
          ∧ r.2.mem ((c.tc : Thread Cert.ModReferenceIdeal.nD Cert.ModReferenceIdeal.τ).loc Cert.ModReferenceIdeal.main_v3) = v1 c
          ∧ r.2.mem ((c.tc : Thread Cert.ModReferenceIdeal.nD Cert.ModReferenceIdeal.τ).loc Cert.ModReferenceIdeal.main_v4) = v2 c
          ∧ r.2.mem ((c.tc : Thread Cert.ModReferenceIdeal.nD Cert.ModReferenceIdeal.τ).loc Cert.ModReferenceIdeal.main_arg0) = m' ((c.tc : Thread Cert.ModReferenceIdeal.nD Cert.ModReferenceIdeal.τ).loc Cert.ModReferenceIdeal.main_arg0)
          ∧ r.2.mem ((c.tc : Thread Cert.ModReferenceIdeal.nD Cert.ModReferenceIdeal.τ).loc Cert.ModReferenceIdeal.main_arg1) = m' ((c.tc : Thread Cert.ModReferenceIdeal.nD Cert.ModReferenceIdeal.τ).loc Cert.ModReferenceIdeal.main_arg1)
          ∧ r.2.mem ((c.tc : Thread Cert.ModReferenceIdeal.nD Cert.ModReferenceIdeal.τ).loc Cert.ModReferenceIdeal.main_arg2) = m' ((c.tc : Thread Cert.ModReferenceIdeal.nD Cert.ModReferenceIdeal.τ).loc Cert.ModReferenceIdeal.main_arg2))

def preserves_Norms_NormsIdeal : Prop :=
  True

def algebraic_NormsIdeal_NormsReferenceIdeal [hNormsIdeal : Cert.NormsIdeal.Facts] [hNormsReferenceIdeal : Cert.NormsReferenceIdeal.Facts] : Prop :=
  ∀ (m : (ℓ : Loc Cert.NormsIdeal.nD Cert.NormsIdeal.τ Cert.NormsIdeal.sig) → Buf (Elt Ideal) ℓ) (g : Dev Cert.NormsIdeal.nD → PrngReg)
    (m' : (ℓ : Loc Cert.NormsReferenceIdeal.nD Cert.NormsReferenceIdeal.τ Cert.NormsReferenceIdeal.sig) → Buf (Elt Ideal) ℓ) (g' : Dev Cert.NormsReferenceIdeal.nD → PrngReg), Pre_NormsIdeal m →
    (∀ c : Dev Cert.NormsIdeal.nD,
      m' ((c.tc : Thread Cert.NormsReferenceIdeal.nD Cert.NormsReferenceIdeal.τ).loc Cert.NormsReferenceIdeal.main_arg0) = m ((c.tc : Thread Cert.NormsIdeal.nD Cert.NormsIdeal.τ).loc Cert.NormsIdeal.main_arg0)
      ∧ m' ((c.tc : Thread Cert.NormsReferenceIdeal.nD Cert.NormsReferenceIdeal.τ).loc Cert.NormsReferenceIdeal.main_arg1) = m ((c.tc : Thread Cert.NormsIdeal.nD Cert.NormsIdeal.τ).loc Cert.NormsIdeal.main_arg1)
      ∧ m' ((c.tc : Thread Cert.NormsReferenceIdeal.nD Cert.NormsReferenceIdeal.τ).loc Cert.NormsReferenceIdeal.main_arg2) = m ((c.tc : Thread Cert.NormsIdeal.nD Cert.NormsIdeal.τ).loc Cert.NormsIdeal.main_arg2)
      ∧ m' ((c.tc : Thread Cert.NormsReferenceIdeal.nD Cert.NormsReferenceIdeal.τ).loc Cert.NormsReferenceIdeal.main_arg3) = m ((c.tc : Thread Cert.NormsIdeal.nD Cert.NormsIdeal.τ).loc Cert.NormsIdeal.main_arg3)
      ∧ m' ((c.tc : Thread Cert.NormsReferenceIdeal.nD Cert.NormsReferenceIdeal.τ).loc Cert.NormsReferenceIdeal.main_arg4) = m ((c.tc : Thread Cert.NormsIdeal.nD Cert.NormsIdeal.τ).loc Cert.NormsIdeal.main_arg4)
      ∧ m' ((c.tc : Thread Cert.NormsReferenceIdeal.nD Cert.NormsReferenceIdeal.τ).loc Cert.NormsReferenceIdeal.main_arg5) = m ((c.tc : Thread Cert.NormsIdeal.nD Cert.NormsIdeal.τ).loc Cert.NormsIdeal.main_arg5)
      ∧ m' ((c.tc : Thread Cert.NormsReferenceIdeal.nD Cert.NormsReferenceIdeal.τ).loc Cert.NormsReferenceIdeal.main_arg6) = m ((c.tc : Thread Cert.NormsIdeal.nD Cert.NormsIdeal.τ).loc Cert.NormsIdeal.main_arg6)
      ∧ m' ((c.tc : Thread Cert.NormsReferenceIdeal.nD Cert.NormsReferenceIdeal.τ).loc Cert.NormsReferenceIdeal.main_arg7) = m ((c.tc : Thread Cert.NormsIdeal.nD Cert.NormsIdeal.τ).loc Cert.NormsIdeal.main_arg7)
      ∧ m' ((c.tc : Thread Cert.NormsReferenceIdeal.nD Cert.NormsReferenceIdeal.τ).loc Cert.NormsReferenceIdeal.main_arg8) = m ((c.tc : Thread Cert.NormsIdeal.nD Cert.NormsIdeal.τ).loc Cert.NormsIdeal.main_arg8)) →
    ∃ (v0 : (c : Dev Cert.NormsIdeal.nD) → Buf (Elt Ideal) ((c.tc : Thread Cert.NormsIdeal.nD Cert.NormsIdeal.τ).loc Cert.NormsIdeal.main_v9)) (v1 : (c : Dev Cert.NormsIdeal.nD) → Buf (Elt Ideal) ((c.tc : Thread Cert.NormsIdeal.nD Cert.NormsIdeal.τ).loc Cert.NormsIdeal.main_v10)) (v2 : (c : Dev Cert.NormsIdeal.nD) → Buf (Elt Ideal) ((c.tc : Thread Cert.NormsIdeal.nD Cert.NormsIdeal.τ).loc Cert.NormsIdeal.main_v12)) (v3 : (c : Dev Cert.NormsIdeal.nD) → Buf (Elt Ideal) ((c.tc : Thread Cert.NormsIdeal.nD Cert.NormsIdeal.τ).loc Cert.NormsIdeal.main_v13_0)) (v4 : (c : Dev Cert.NormsIdeal.nD) → Buf (Elt Ideal) ((c.tc : Thread Cert.NormsIdeal.nD Cert.NormsIdeal.τ).loc Cert.NormsIdeal.main_v13_1)),
      θ_run (Cert.NormsIdeal.defs (F := Ideal)) (onTc (τ := Cert.NormsIdeal.τ) (Cert.NormsIdeal.main (F := Ideal))) ⟨m, fun _ => 0, g⟩ (fun r => ∀ c : Dev Cert.NormsIdeal.nD,
          r.2.mem ((c.tc : Thread Cert.NormsIdeal.nD Cert.NormsIdeal.τ).loc Cert.NormsIdeal.main_v9) = v0 c
          ∧ r.2.mem ((c.tc : Thread Cert.NormsIdeal.nD Cert.NormsIdeal.τ).loc Cert.NormsIdeal.main_v10) = v1 c
          ∧ r.2.mem ((c.tc : Thread Cert.NormsIdeal.nD Cert.NormsIdeal.τ).loc Cert.NormsIdeal.main_v12) = v2 c
          ∧ r.2.mem ((c.tc : Thread Cert.NormsIdeal.nD Cert.NormsIdeal.τ).loc Cert.NormsIdeal.main_v13_0) = v3 c
          ∧ r.2.mem ((c.tc : Thread Cert.NormsIdeal.nD Cert.NormsIdeal.τ).loc Cert.NormsIdeal.main_v13_1) = v4 c
          ∧ r.2.mem ((c.tc : Thread Cert.NormsIdeal.nD Cert.NormsIdeal.τ).loc Cert.NormsIdeal.main_arg0) = m ((c.tc : Thread Cert.NormsIdeal.nD Cert.NormsIdeal.τ).loc Cert.NormsIdeal.main_arg0)
          ∧ r.2.mem ((c.tc : Thread Cert.NormsIdeal.nD Cert.NormsIdeal.τ).loc Cert.NormsIdeal.main_arg1) = m ((c.tc : Thread Cert.NormsIdeal.nD Cert.NormsIdeal.τ).loc Cert.NormsIdeal.main_arg1)
          ∧ r.2.mem ((c.tc : Thread Cert.NormsIdeal.nD Cert.NormsIdeal.τ).loc Cert.NormsIdeal.main_arg2) = m ((c.tc : Thread Cert.NormsIdeal.nD Cert.NormsIdeal.τ).loc Cert.NormsIdeal.main_arg2)
          ∧ r.2.mem ((c.tc : Thread Cert.NormsIdeal.nD Cert.NormsIdeal.τ).loc Cert.NormsIdeal.main_arg3) = m ((c.tc : Thread Cert.NormsIdeal.nD Cert.NormsIdeal.τ).loc Cert.NormsIdeal.main_arg3)
          ∧ r.2.mem ((c.tc : Thread Cert.NormsIdeal.nD Cert.NormsIdeal.τ).loc Cert.NormsIdeal.main_arg4) = m ((c.tc : Thread Cert.NormsIdeal.nD Cert.NormsIdeal.τ).loc Cert.NormsIdeal.main_arg4)
          ∧ r.2.mem ((c.tc : Thread Cert.NormsIdeal.nD Cert.NormsIdeal.τ).loc Cert.NormsIdeal.main_arg5) = m ((c.tc : Thread Cert.NormsIdeal.nD Cert.NormsIdeal.τ).loc Cert.NormsIdeal.main_arg5)
          ∧ r.2.mem ((c.tc : Thread Cert.NormsIdeal.nD Cert.NormsIdeal.τ).loc Cert.NormsIdeal.main_arg6) = m ((c.tc : Thread Cert.NormsIdeal.nD Cert.NormsIdeal.τ).loc Cert.NormsIdeal.main_arg6)
          ∧ r.2.mem ((c.tc : Thread Cert.NormsIdeal.nD Cert.NormsIdeal.τ).loc Cert.NormsIdeal.main_arg7) = m ((c.tc : Thread Cert.NormsIdeal.nD Cert.NormsIdeal.τ).loc Cert.NormsIdeal.main_arg7)
          ∧ r.2.mem ((c.tc : Thread Cert.NormsIdeal.nD Cert.NormsIdeal.τ).loc Cert.NormsIdeal.main_arg8) = m ((c.tc : Thread Cert.NormsIdeal.nD Cert.NormsIdeal.τ).loc Cert.NormsIdeal.main_arg8))
      ∧ θ_run (Cert.NormsReferenceIdeal.defs (F := Ideal)) (onTc (τ := Cert.NormsReferenceIdeal.τ) (Cert.NormsReferenceIdeal.main (F := Ideal))) ⟨m', fun _ => 0, g'⟩ (fun r => ∀ c : Dev Cert.NormsReferenceIdeal.nD,
          r.2.mem ((c.tc : Thread Cert.NormsReferenceIdeal.nD Cert.NormsReferenceIdeal.τ).loc Cert.NormsReferenceIdeal.main_v40) = v0 c
          ∧ r.2.mem ((c.tc : Thread Cert.NormsReferenceIdeal.nD Cert.NormsReferenceIdeal.τ).loc Cert.NormsReferenceIdeal.main_v62) = v1 c
          ∧ r.2.mem ((c.tc : Thread Cert.NormsReferenceIdeal.nD Cert.NormsReferenceIdeal.τ).loc Cert.NormsReferenceIdeal.main_v76) = v2 c
          ∧ r.2.mem ((c.tc : Thread Cert.NormsReferenceIdeal.nD Cert.NormsReferenceIdeal.τ).loc Cert.NormsReferenceIdeal.main_v18) = v3 c
          ∧ r.2.mem ((c.tc : Thread Cert.NormsReferenceIdeal.nD Cert.NormsReferenceIdeal.τ).loc Cert.NormsReferenceIdeal.main_v98) = v4 c
          ∧ r.2.mem ((c.tc : Thread Cert.NormsReferenceIdeal.nD Cert.NormsReferenceIdeal.τ).loc Cert.NormsReferenceIdeal.main_arg0) = m' ((c.tc : Thread Cert.NormsReferenceIdeal.nD Cert.NormsReferenceIdeal.τ).loc Cert.NormsReferenceIdeal.main_arg0)
          ∧ r.2.mem ((c.tc : Thread Cert.NormsReferenceIdeal.nD Cert.NormsReferenceIdeal.τ).loc Cert.NormsReferenceIdeal.main_arg1) = m' ((c.tc : Thread Cert.NormsReferenceIdeal.nD Cert.NormsReferenceIdeal.τ).loc Cert.NormsReferenceIdeal.main_arg1)
          ∧ r.2.mem ((c.tc : Thread Cert.NormsReferenceIdeal.nD Cert.NormsReferenceIdeal.τ).loc Cert.NormsReferenceIdeal.main_arg2) = m' ((c.tc : Thread Cert.NormsReferenceIdeal.nD Cert.NormsReferenceIdeal.τ).loc Cert.NormsReferenceIdeal.main_arg2)
          ∧ r.2.mem ((c.tc : Thread Cert.NormsReferenceIdeal.nD Cert.NormsReferenceIdeal.τ).loc Cert.NormsReferenceIdeal.main_arg3) = m' ((c.tc : Thread Cert.NormsReferenceIdeal.nD Cert.NormsReferenceIdeal.τ).loc Cert.NormsReferenceIdeal.main_arg3)
          ∧ r.2.mem ((c.tc : Thread Cert.NormsReferenceIdeal.nD Cert.NormsReferenceIdeal.τ).loc Cert.NormsReferenceIdeal.main_arg4) = m' ((c.tc : Thread Cert.NormsReferenceIdeal.nD Cert.NormsReferenceIdeal.τ).loc Cert.NormsReferenceIdeal.main_arg4)
          ∧ r.2.mem ((c.tc : Thread Cert.NormsReferenceIdeal.nD Cert.NormsReferenceIdeal.τ).loc Cert.NormsReferenceIdeal.main_arg5) = m' ((c.tc : Thread Cert.NormsReferenceIdeal.nD Cert.NormsReferenceIdeal.τ).loc Cert.NormsReferenceIdeal.main_arg5)
          ∧ r.2.mem ((c.tc : Thread Cert.NormsReferenceIdeal.nD Cert.NormsReferenceIdeal.τ).loc Cert.NormsReferenceIdeal.main_arg6) = m' ((c.tc : Thread Cert.NormsReferenceIdeal.nD Cert.NormsReferenceIdeal.τ).loc Cert.NormsReferenceIdeal.main_arg6)
          ∧ r.2.mem ((c.tc : Thread Cert.NormsReferenceIdeal.nD Cert.NormsReferenceIdeal.τ).loc Cert.NormsReferenceIdeal.main_arg7) = m' ((c.tc : Thread Cert.NormsReferenceIdeal.nD Cert.NormsReferenceIdeal.τ).loc Cert.NormsReferenceIdeal.main_arg7)
          ∧ r.2.mem ((c.tc : Thread Cert.NormsReferenceIdeal.nD Cert.NormsReferenceIdeal.τ).loc Cert.NormsReferenceIdeal.main_arg8) = m' ((c.tc : Thread Cert.NormsReferenceIdeal.nD Cert.NormsReferenceIdeal.τ).loc Cert.NormsReferenceIdeal.main_arg8))

def preserves_QNorm_QNormIdeal : Prop :=
  True

def algebraic_QNormIdeal_QNormReferenceIdeal [hQNormIdeal : Cert.QNormIdeal.Facts] [hQNormReferenceIdeal : Cert.QNormReferenceIdeal.Facts] : Prop :=
  ∀ (m : (ℓ : Loc Cert.QNormIdeal.nD Cert.QNormIdeal.τ Cert.QNormIdeal.sig) → Buf (Elt Ideal) ℓ) (g : Dev Cert.QNormIdeal.nD → PrngReg)
    (m' : (ℓ : Loc Cert.QNormReferenceIdeal.nD Cert.QNormReferenceIdeal.τ Cert.QNormReferenceIdeal.sig) → Buf (Elt Ideal) ℓ) (g' : Dev Cert.QNormReferenceIdeal.nD → PrngReg), Pre_QNormIdeal m →
    (∀ c : Dev Cert.QNormIdeal.nD,
      m' ((c.tc : Thread Cert.QNormReferenceIdeal.nD Cert.QNormReferenceIdeal.τ).loc Cert.QNormReferenceIdeal.main_arg0) = m ((c.tc : Thread Cert.QNormIdeal.nD Cert.QNormIdeal.τ).loc Cert.QNormIdeal.main_arg0)
      ∧ m' ((c.tc : Thread Cert.QNormReferenceIdeal.nD Cert.QNormReferenceIdeal.τ).loc Cert.QNormReferenceIdeal.main_arg1) = m ((c.tc : Thread Cert.QNormIdeal.nD Cert.QNormIdeal.τ).loc Cert.QNormIdeal.main_arg1)) →
    ∃ (v0 : (c : Dev Cert.QNormIdeal.nD) → Buf (Elt Ideal) ((c.tc : Thread Cert.QNormIdeal.nD Cert.QNormIdeal.τ).loc Cert.QNormIdeal.main_v1)),
      θ_run (Cert.QNormIdeal.defs (F := Ideal)) (onTc (τ := Cert.QNormIdeal.τ) (Cert.QNormIdeal.main (F := Ideal))) ⟨m, fun _ => 0, g⟩ (fun r => ∀ c : Dev Cert.QNormIdeal.nD,
          r.2.mem ((c.tc : Thread Cert.QNormIdeal.nD Cert.QNormIdeal.τ).loc Cert.QNormIdeal.main_v1) = v0 c
          ∧ r.2.mem ((c.tc : Thread Cert.QNormIdeal.nD Cert.QNormIdeal.τ).loc Cert.QNormIdeal.main_arg0) = m ((c.tc : Thread Cert.QNormIdeal.nD Cert.QNormIdeal.τ).loc Cert.QNormIdeal.main_arg0)
          ∧ r.2.mem ((c.tc : Thread Cert.QNormIdeal.nD Cert.QNormIdeal.τ).loc Cert.QNormIdeal.main_arg1) = m ((c.tc : Thread Cert.QNormIdeal.nD Cert.QNormIdeal.τ).loc Cert.QNormIdeal.main_arg1))
      ∧ θ_run (Cert.QNormReferenceIdeal.defs (F := Ideal)) (onTc (τ := Cert.QNormReferenceIdeal.τ) (Cert.QNormReferenceIdeal.main (F := Ideal))) ⟨m', fun _ => 0, g'⟩ (fun r => ∀ c : Dev Cert.QNormReferenceIdeal.nD,
          r.2.mem ((c.tc : Thread Cert.QNormReferenceIdeal.nD Cert.QNormReferenceIdeal.τ).loc Cert.QNormReferenceIdeal.main_v14) = v0 c
          ∧ r.2.mem ((c.tc : Thread Cert.QNormReferenceIdeal.nD Cert.QNormReferenceIdeal.τ).loc Cert.QNormReferenceIdeal.main_arg0) = m' ((c.tc : Thread Cert.QNormReferenceIdeal.nD Cert.QNormReferenceIdeal.τ).loc Cert.QNormReferenceIdeal.main_arg0)
          ∧ r.2.mem ((c.tc : Thread Cert.QNormReferenceIdeal.nD Cert.QNormReferenceIdeal.τ).loc Cert.QNormReferenceIdeal.main_arg1) = m' ((c.tc : Thread Cert.QNormReferenceIdeal.nD Cert.QNormReferenceIdeal.τ).loc Cert.QNormReferenceIdeal.main_arg1))

def preserves_Combine_CombineIdeal : Prop :=
  True

def algebraic_CombineIdeal_CombineReferenceIdeal [hCombineIdeal : Cert.CombineIdeal.Facts] [hCombineReferenceIdeal : Cert.CombineReferenceIdeal.Facts] : Prop :=
  ∀ (m : (ℓ : Loc Cert.CombineIdeal.nD Cert.CombineIdeal.τ Cert.CombineIdeal.sig) → Buf (Elt Ideal) ℓ) (g : Dev Cert.CombineIdeal.nD → PrngReg)
    (m' : (ℓ : Loc Cert.CombineReferenceIdeal.nD Cert.CombineReferenceIdeal.τ Cert.CombineReferenceIdeal.sig) → Buf (Elt Ideal) ℓ) (g' : Dev Cert.CombineReferenceIdeal.nD → PrngReg), Pre_CombineIdeal m →
    (∀ c : Dev Cert.CombineIdeal.nD,
      m' ((c.tc : Thread Cert.CombineReferenceIdeal.nD Cert.CombineReferenceIdeal.τ).loc Cert.CombineReferenceIdeal.main_arg0) = m ((c.tc : Thread Cert.CombineIdeal.nD Cert.CombineIdeal.τ).loc Cert.CombineIdeal.main_arg0)
      ∧ m' ((c.tc : Thread Cert.CombineReferenceIdeal.nD Cert.CombineReferenceIdeal.τ).loc Cert.CombineReferenceIdeal.main_arg1) = m ((c.tc : Thread Cert.CombineIdeal.nD Cert.CombineIdeal.τ).loc Cert.CombineIdeal.main_arg1)
      ∧ m' ((c.tc : Thread Cert.CombineReferenceIdeal.nD Cert.CombineReferenceIdeal.τ).loc Cert.CombineReferenceIdeal.main_arg2) = m ((c.tc : Thread Cert.CombineIdeal.nD Cert.CombineIdeal.τ).loc Cert.CombineIdeal.main_arg2)
      ∧ m' ((c.tc : Thread Cert.CombineReferenceIdeal.nD Cert.CombineReferenceIdeal.τ).loc Cert.CombineReferenceIdeal.main_arg3) = m ((c.tc : Thread Cert.CombineIdeal.nD Cert.CombineIdeal.τ).loc Cert.CombineIdeal.main_arg3)) →
    ∃ (v0 : (c : Dev Cert.CombineIdeal.nD) → Buf (Elt Ideal) ((c.tc : Thread Cert.CombineIdeal.nD Cert.CombineIdeal.τ).loc Cert.CombineIdeal.main_v1_0)) (v1 : (c : Dev Cert.CombineIdeal.nD) → Buf (Elt Ideal) ((c.tc : Thread Cert.CombineIdeal.nD Cert.CombineIdeal.τ).loc Cert.CombineIdeal.main_v1_1)),
      θ_run (Cert.CombineIdeal.defs (F := Ideal)) (onTc (τ := Cert.CombineIdeal.τ) (Cert.CombineIdeal.main (F := Ideal))) ⟨m, fun _ => 0, g⟩ (fun r => ∀ c : Dev Cert.CombineIdeal.nD,
          r.2.mem ((c.tc : Thread Cert.CombineIdeal.nD Cert.CombineIdeal.τ).loc Cert.CombineIdeal.main_v1_0) = v0 c
          ∧ r.2.mem ((c.tc : Thread Cert.CombineIdeal.nD Cert.CombineIdeal.τ).loc Cert.CombineIdeal.main_v1_1) = v1 c
          ∧ r.2.mem ((c.tc : Thread Cert.CombineIdeal.nD Cert.CombineIdeal.τ).loc Cert.CombineIdeal.main_arg0) = m ((c.tc : Thread Cert.CombineIdeal.nD Cert.CombineIdeal.τ).loc Cert.CombineIdeal.main_arg0)
          ∧ r.2.mem ((c.tc : Thread Cert.CombineIdeal.nD Cert.CombineIdeal.τ).loc Cert.CombineIdeal.main_arg1) = m ((c.tc : Thread Cert.CombineIdeal.nD Cert.CombineIdeal.τ).loc Cert.CombineIdeal.main_arg1)
          ∧ r.2.mem ((c.tc : Thread Cert.CombineIdeal.nD Cert.CombineIdeal.τ).loc Cert.CombineIdeal.main_arg2) = m ((c.tc : Thread Cert.CombineIdeal.nD Cert.CombineIdeal.τ).loc Cert.CombineIdeal.main_arg2)
          ∧ r.2.mem ((c.tc : Thread Cert.CombineIdeal.nD Cert.CombineIdeal.τ).loc Cert.CombineIdeal.main_arg3) = m ((c.tc : Thread Cert.CombineIdeal.nD Cert.CombineIdeal.τ).loc Cert.CombineIdeal.main_arg3))
      ∧ θ_run (Cert.CombineReferenceIdeal.defs (F := Ideal)) (onTc (τ := Cert.CombineReferenceIdeal.τ) (Cert.CombineReferenceIdeal.main (F := Ideal))) ⟨m', fun _ => 0, g'⟩ (fun r => ∀ c : Dev Cert.CombineReferenceIdeal.nD,
          r.2.mem ((c.tc : Thread Cert.CombineReferenceIdeal.nD Cert.CombineReferenceIdeal.τ).loc Cert.CombineReferenceIdeal.main_v6) = v0 c
          ∧ r.2.mem ((c.tc : Thread Cert.CombineReferenceIdeal.nD Cert.CombineReferenceIdeal.τ).loc Cert.CombineReferenceIdeal.main_v20) = v1 c
          ∧ r.2.mem ((c.tc : Thread Cert.CombineReferenceIdeal.nD Cert.CombineReferenceIdeal.τ).loc Cert.CombineReferenceIdeal.main_arg0) = m' ((c.tc : Thread Cert.CombineReferenceIdeal.nD Cert.CombineReferenceIdeal.τ).loc Cert.CombineReferenceIdeal.main_arg0)
          ∧ r.2.mem ((c.tc : Thread Cert.CombineReferenceIdeal.nD Cert.CombineReferenceIdeal.τ).loc Cert.CombineReferenceIdeal.main_arg1) = m' ((c.tc : Thread Cert.CombineReferenceIdeal.nD Cert.CombineReferenceIdeal.τ).loc Cert.CombineReferenceIdeal.main_arg1)
          ∧ r.2.mem ((c.tc : Thread Cert.CombineReferenceIdeal.nD Cert.CombineReferenceIdeal.τ).loc Cert.CombineReferenceIdeal.main_arg2) = m' ((c.tc : Thread Cert.CombineReferenceIdeal.nD Cert.CombineReferenceIdeal.τ).loc Cert.CombineReferenceIdeal.main_arg2)
          ∧ r.2.mem ((c.tc : Thread Cert.CombineReferenceIdeal.nD Cert.CombineReferenceIdeal.τ).loc Cert.CombineReferenceIdeal.main_arg3) = m' ((c.tc : Thread Cert.CombineReferenceIdeal.nD Cert.CombineReferenceIdeal.τ).loc Cert.CombineReferenceIdeal.main_arg3))

def preserves_NormX_NormXIdeal : Prop :=
  True

def algebraic_NormXIdeal_NormXReferenceIdeal [hNormXIdeal : Cert.NormXIdeal.Facts] [hNormXReferenceIdeal : Cert.NormXReferenceIdeal.Facts] : Prop :=
  ∀ (m : (ℓ : Loc Cert.NormXIdeal.nD Cert.NormXIdeal.τ Cert.NormXIdeal.sig) → Buf (Elt Ideal) ℓ) (g : Dev Cert.NormXIdeal.nD → PrngReg)
    (m' : (ℓ : Loc Cert.NormXReferenceIdeal.nD Cert.NormXReferenceIdeal.τ Cert.NormXReferenceIdeal.sig) → Buf (Elt Ideal) ℓ) (g' : Dev Cert.NormXReferenceIdeal.nD → PrngReg), Pre_NormXIdeal m →
    (∀ c : Dev Cert.NormXIdeal.nD,
      m' ((c.tc : Thread Cert.NormXReferenceIdeal.nD Cert.NormXReferenceIdeal.τ).loc Cert.NormXReferenceIdeal.main_arg0) = m ((c.tc : Thread Cert.NormXIdeal.nD Cert.NormXIdeal.τ).loc Cert.NormXIdeal.main_arg0)
      ∧ m' ((c.tc : Thread Cert.NormXReferenceIdeal.nD Cert.NormXReferenceIdeal.τ).loc Cert.NormXReferenceIdeal.main_arg1) = m ((c.tc : Thread Cert.NormXIdeal.nD Cert.NormXIdeal.τ).loc Cert.NormXIdeal.main_arg1)
      ∧ m' ((c.tc : Thread Cert.NormXReferenceIdeal.nD Cert.NormXReferenceIdeal.τ).loc Cert.NormXReferenceIdeal.main_arg2) = m ((c.tc : Thread Cert.NormXIdeal.nD Cert.NormXIdeal.τ).loc Cert.NormXIdeal.main_arg2)
      ∧ m' ((c.tc : Thread Cert.NormXReferenceIdeal.nD Cert.NormXReferenceIdeal.τ).loc Cert.NormXReferenceIdeal.main_arg3) = m ((c.tc : Thread Cert.NormXIdeal.nD Cert.NormXIdeal.τ).loc Cert.NormXIdeal.main_arg3)
      ∧ m' ((c.tc : Thread Cert.NormXReferenceIdeal.nD Cert.NormXReferenceIdeal.τ).loc Cert.NormXReferenceIdeal.main_arg4) = m ((c.tc : Thread Cert.NormXIdeal.nD Cert.NormXIdeal.τ).loc Cert.NormXIdeal.main_arg4)) →
    ∃ (v0 : (c : Dev Cert.NormXIdeal.nD) → Buf (Elt Ideal) ((c.tc : Thread Cert.NormXIdeal.nD Cert.NormXIdeal.τ).loc Cert.NormXIdeal.main_v3_0)) (v1 : (c : Dev Cert.NormXIdeal.nD) → Buf (Elt Ideal) ((c.tc : Thread Cert.NormXIdeal.nD Cert.NormXIdeal.τ).loc Cert.NormXIdeal.main_v3_1)) (v2 : (c : Dev Cert.NormXIdeal.nD) → Buf (Elt Ideal) ((c.tc : Thread Cert.NormXIdeal.nD Cert.NormXIdeal.τ).loc Cert.NormXIdeal.main_v3_2)) (v3 : (c : Dev Cert.NormXIdeal.nD) → Buf (Elt Ideal) ((c.tc : Thread Cert.NormXIdeal.nD Cert.NormXIdeal.τ).loc Cert.NormXIdeal.main_v3_3)),
      θ_run (Cert.NormXIdeal.defs (F := Ideal)) (onTc (τ := Cert.NormXIdeal.τ) (Cert.NormXIdeal.main (F := Ideal))) ⟨m, fun _ => 0, g⟩ (fun r => ∀ c : Dev Cert.NormXIdeal.nD,
          r.2.mem ((c.tc : Thread Cert.NormXIdeal.nD Cert.NormXIdeal.τ).loc Cert.NormXIdeal.main_v3_0) = v0 c
          ∧ r.2.mem ((c.tc : Thread Cert.NormXIdeal.nD Cert.NormXIdeal.τ).loc Cert.NormXIdeal.main_v3_1) = v1 c
          ∧ r.2.mem ((c.tc : Thread Cert.NormXIdeal.nD Cert.NormXIdeal.τ).loc Cert.NormXIdeal.main_v3_2) = v2 c
          ∧ r.2.mem ((c.tc : Thread Cert.NormXIdeal.nD Cert.NormXIdeal.τ).loc Cert.NormXIdeal.main_v3_3) = v3 c
          ∧ r.2.mem ((c.tc : Thread Cert.NormXIdeal.nD Cert.NormXIdeal.τ).loc Cert.NormXIdeal.main_arg0) = m ((c.tc : Thread Cert.NormXIdeal.nD Cert.NormXIdeal.τ).loc Cert.NormXIdeal.main_arg0)
          ∧ r.2.mem ((c.tc : Thread Cert.NormXIdeal.nD Cert.NormXIdeal.τ).loc Cert.NormXIdeal.main_arg1) = m ((c.tc : Thread Cert.NormXIdeal.nD Cert.NormXIdeal.τ).loc Cert.NormXIdeal.main_arg1)
          ∧ r.2.mem ((c.tc : Thread Cert.NormXIdeal.nD Cert.NormXIdeal.τ).loc Cert.NormXIdeal.main_arg2) = m ((c.tc : Thread Cert.NormXIdeal.nD Cert.NormXIdeal.τ).loc Cert.NormXIdeal.main_arg2)
          ∧ r.2.mem ((c.tc : Thread Cert.NormXIdeal.nD Cert.NormXIdeal.τ).loc Cert.NormXIdeal.main_arg3) = m ((c.tc : Thread Cert.NormXIdeal.nD Cert.NormXIdeal.τ).loc Cert.NormXIdeal.main_arg3)
          ∧ r.2.mem ((c.tc : Thread Cert.NormXIdeal.nD Cert.NormXIdeal.τ).loc Cert.NormXIdeal.main_arg4) = m ((c.tc : Thread Cert.NormXIdeal.nD Cert.NormXIdeal.τ).loc Cert.NormXIdeal.main_arg4))
      ∧ θ_run (Cert.NormXReferenceIdeal.defs (F := Ideal)) (onTc (τ := Cert.NormXReferenceIdeal.τ) (Cert.NormXReferenceIdeal.main (F := Ideal))) ⟨m', fun _ => 0, g'⟩ (fun r => ∀ c : Dev Cert.NormXReferenceIdeal.nD,
          r.2.mem ((c.tc : Thread Cert.NormXReferenceIdeal.nD Cert.NormXReferenceIdeal.τ).loc Cert.NormXReferenceIdeal.main_v58) = v0 c
          ∧ r.2.mem ((c.tc : Thread Cert.NormXReferenceIdeal.nD Cert.NormXReferenceIdeal.τ).loc Cert.NormXReferenceIdeal.main_v59) = v1 c
          ∧ r.2.mem ((c.tc : Thread Cert.NormXReferenceIdeal.nD Cert.NormXReferenceIdeal.τ).loc Cert.NormXReferenceIdeal.main_v60) = v2 c
          ∧ r.2.mem ((c.tc : Thread Cert.NormXReferenceIdeal.nD Cert.NormXReferenceIdeal.τ).loc Cert.NormXReferenceIdeal.main_v61) = v3 c
          ∧ r.2.mem ((c.tc : Thread Cert.NormXReferenceIdeal.nD Cert.NormXReferenceIdeal.τ).loc Cert.NormXReferenceIdeal.main_arg0) = m' ((c.tc : Thread Cert.NormXReferenceIdeal.nD Cert.NormXReferenceIdeal.τ).loc Cert.NormXReferenceIdeal.main_arg0)
          ∧ r.2.mem ((c.tc : Thread Cert.NormXReferenceIdeal.nD Cert.NormXReferenceIdeal.τ).loc Cert.NormXReferenceIdeal.main_arg1) = m' ((c.tc : Thread Cert.NormXReferenceIdeal.nD Cert.NormXReferenceIdeal.τ).loc Cert.NormXReferenceIdeal.main_arg1)
          ∧ r.2.mem ((c.tc : Thread Cert.NormXReferenceIdeal.nD Cert.NormXReferenceIdeal.τ).loc Cert.NormXReferenceIdeal.main_arg2) = m' ((c.tc : Thread Cert.NormXReferenceIdeal.nD Cert.NormXReferenceIdeal.τ).loc Cert.NormXReferenceIdeal.main_arg2)
          ∧ r.2.mem ((c.tc : Thread Cert.NormXReferenceIdeal.nD Cert.NormXReferenceIdeal.τ).loc Cert.NormXReferenceIdeal.main_arg3) = m' ((c.tc : Thread Cert.NormXReferenceIdeal.nD Cert.NormXReferenceIdeal.τ).loc Cert.NormXReferenceIdeal.main_arg3)
          ∧ r.2.mem ((c.tc : Thread Cert.NormXReferenceIdeal.nD Cert.NormXReferenceIdeal.τ).loc Cert.NormXReferenceIdeal.main_arg4) = m' ((c.tc : Thread Cert.NormXReferenceIdeal.nD Cert.NormXReferenceIdeal.τ).loc Cert.NormXReferenceIdeal.main_arg4))

def preserves_SkipX_SkipXIdeal : Prop :=
  True

def algebraic_SkipXIdeal_SkipXReferenceIdeal [hSkipXIdeal : Cert.SkipXIdeal.Facts] [hSkipXReferenceIdeal : Cert.SkipXReferenceIdeal.Facts] : Prop :=
  ∀ (m : (ℓ : Loc Cert.SkipXIdeal.nD Cert.SkipXIdeal.τ Cert.SkipXIdeal.sig) → Buf (Elt Ideal) ℓ) (g : Dev Cert.SkipXIdeal.nD → PrngReg)
    (m' : (ℓ : Loc Cert.SkipXReferenceIdeal.nD Cert.SkipXReferenceIdeal.τ Cert.SkipXReferenceIdeal.sig) → Buf (Elt Ideal) ℓ) (g' : Dev Cert.SkipXReferenceIdeal.nD → PrngReg), Pre_SkipXIdeal m →
    (∀ c : Dev Cert.SkipXIdeal.nD,
      m' ((c.tc : Thread Cert.SkipXReferenceIdeal.nD Cert.SkipXReferenceIdeal.τ).loc Cert.SkipXReferenceIdeal.main_arg0) = m ((c.tc : Thread Cert.SkipXIdeal.nD Cert.SkipXIdeal.τ).loc Cert.SkipXIdeal.main_arg0)
      ∧ m' ((c.tc : Thread Cert.SkipXReferenceIdeal.nD Cert.SkipXReferenceIdeal.τ).loc Cert.SkipXReferenceIdeal.main_arg1) = m ((c.tc : Thread Cert.SkipXIdeal.nD Cert.SkipXIdeal.τ).loc Cert.SkipXIdeal.main_arg1)
      ∧ m' ((c.tc : Thread Cert.SkipXReferenceIdeal.nD Cert.SkipXReferenceIdeal.τ).loc Cert.SkipXReferenceIdeal.main_arg2) = m ((c.tc : Thread Cert.SkipXIdeal.nD Cert.SkipXIdeal.τ).loc Cert.SkipXIdeal.main_arg2)
      ∧ m' ((c.tc : Thread Cert.SkipXReferenceIdeal.nD Cert.SkipXReferenceIdeal.τ).loc Cert.SkipXReferenceIdeal.main_arg3) = m ((c.tc : Thread Cert.SkipXIdeal.nD Cert.SkipXIdeal.τ).loc Cert.SkipXIdeal.main_arg3)) →
    ∃ (v0 : (c : Dev Cert.SkipXIdeal.nD) → Buf (Elt Ideal) ((c.tc : Thread Cert.SkipXIdeal.nD Cert.SkipXIdeal.τ).loc Cert.SkipXIdeal.main_v2_0)) (v1 : (c : Dev Cert.SkipXIdeal.nD) → Buf (Elt Ideal) ((c.tc : Thread Cert.SkipXIdeal.nD Cert.SkipXIdeal.τ).loc Cert.SkipXIdeal.main_v2_1)),
      θ_run (Cert.SkipXIdeal.defs (F := Ideal)) (onTc (τ := Cert.SkipXIdeal.τ) (Cert.SkipXIdeal.main (F := Ideal))) ⟨m, fun _ => 0, g⟩ (fun r => ∀ c : Dev Cert.SkipXIdeal.nD,
          r.2.mem ((c.tc : Thread Cert.SkipXIdeal.nD Cert.SkipXIdeal.τ).loc Cert.SkipXIdeal.main_v2_0) = v0 c
          ∧ r.2.mem ((c.tc : Thread Cert.SkipXIdeal.nD Cert.SkipXIdeal.τ).loc Cert.SkipXIdeal.main_v2_1) = v1 c
          ∧ r.2.mem ((c.tc : Thread Cert.SkipXIdeal.nD Cert.SkipXIdeal.τ).loc Cert.SkipXIdeal.main_arg0) = m ((c.tc : Thread Cert.SkipXIdeal.nD Cert.SkipXIdeal.τ).loc Cert.SkipXIdeal.main_arg0)
          ∧ r.2.mem ((c.tc : Thread Cert.SkipXIdeal.nD Cert.SkipXIdeal.τ).loc Cert.SkipXIdeal.main_arg1) = m ((c.tc : Thread Cert.SkipXIdeal.nD Cert.SkipXIdeal.τ).loc Cert.SkipXIdeal.main_arg1)
          ∧ r.2.mem ((c.tc : Thread Cert.SkipXIdeal.nD Cert.SkipXIdeal.τ).loc Cert.SkipXIdeal.main_arg2) = m ((c.tc : Thread Cert.SkipXIdeal.nD Cert.SkipXIdeal.τ).loc Cert.SkipXIdeal.main_arg2)
          ∧ r.2.mem ((c.tc : Thread Cert.SkipXIdeal.nD Cert.SkipXIdeal.τ).loc Cert.SkipXIdeal.main_arg3) = m ((c.tc : Thread Cert.SkipXIdeal.nD Cert.SkipXIdeal.τ).loc Cert.SkipXIdeal.main_arg3))
      ∧ θ_run (Cert.SkipXReferenceIdeal.defs (F := Ideal)) (onTc (τ := Cert.SkipXReferenceIdeal.τ) (Cert.SkipXReferenceIdeal.main (F := Ideal))) ⟨m', fun _ => 0, g'⟩ (fun r => ∀ c : Dev Cert.SkipXReferenceIdeal.nD,
          r.2.mem ((c.tc : Thread Cert.SkipXReferenceIdeal.nD Cert.SkipXReferenceIdeal.τ).loc Cert.SkipXReferenceIdeal.main_v32) = v0 c
          ∧ r.2.mem ((c.tc : Thread Cert.SkipXReferenceIdeal.nD Cert.SkipXReferenceIdeal.τ).loc Cert.SkipXReferenceIdeal.main_v43) = v1 c
          ∧ r.2.mem ((c.tc : Thread Cert.SkipXReferenceIdeal.nD Cert.SkipXReferenceIdeal.τ).loc Cert.SkipXReferenceIdeal.main_arg0) = m' ((c.tc : Thread Cert.SkipXReferenceIdeal.nD Cert.SkipXReferenceIdeal.τ).loc Cert.SkipXReferenceIdeal.main_arg0)
          ∧ r.2.mem ((c.tc : Thread Cert.SkipXReferenceIdeal.nD Cert.SkipXReferenceIdeal.τ).loc Cert.SkipXReferenceIdeal.main_arg1) = m' ((c.tc : Thread Cert.SkipXReferenceIdeal.nD Cert.SkipXReferenceIdeal.τ).loc Cert.SkipXReferenceIdeal.main_arg1)
          ∧ r.2.mem ((c.tc : Thread Cert.SkipXReferenceIdeal.nD Cert.SkipXReferenceIdeal.τ).loc Cert.SkipXReferenceIdeal.main_arg2) = m' ((c.tc : Thread Cert.SkipXReferenceIdeal.nD Cert.SkipXReferenceIdeal.τ).loc Cert.SkipXReferenceIdeal.main_arg2)
          ∧ r.2.mem ((c.tc : Thread Cert.SkipXReferenceIdeal.nD Cert.SkipXReferenceIdeal.τ).loc Cert.SkipXReferenceIdeal.main_arg3) = m' ((c.tc : Thread Cert.SkipXReferenceIdeal.nD Cert.SkipXReferenceIdeal.τ).loc Cert.SkipXReferenceIdeal.main_arg3))

def preserves_QNormX_QNormXIdeal : Prop :=
  True

def algebraic_QNormXIdeal_QNormXReferenceIdeal [hQNormXIdeal : Cert.QNormXIdeal.Facts] [hQNormXReferenceIdeal : Cert.QNormXReferenceIdeal.Facts] : Prop :=
  ∀ (m : (ℓ : Loc Cert.QNormXIdeal.nD Cert.QNormXIdeal.τ Cert.QNormXIdeal.sig) → Buf (Elt Ideal) ℓ) (g : Dev Cert.QNormXIdeal.nD → PrngReg)
    (m' : (ℓ : Loc Cert.QNormXReferenceIdeal.nD Cert.QNormXReferenceIdeal.τ Cert.QNormXReferenceIdeal.sig) → Buf (Elt Ideal) ℓ) (g' : Dev Cert.QNormXReferenceIdeal.nD → PrngReg), Pre_QNormXIdeal m →
    (∀ c : Dev Cert.QNormXIdeal.nD,
      m' ((c.tc : Thread Cert.QNormXReferenceIdeal.nD Cert.QNormXReferenceIdeal.τ).loc Cert.QNormXReferenceIdeal.main_arg0) = m ((c.tc : Thread Cert.QNormXIdeal.nD Cert.QNormXIdeal.τ).loc Cert.QNormXIdeal.main_arg0)
      ∧ m' ((c.tc : Thread Cert.QNormXReferenceIdeal.nD Cert.QNormXReferenceIdeal.τ).loc Cert.QNormXReferenceIdeal.main_arg1) = m ((c.tc : Thread Cert.QNormXIdeal.nD Cert.QNormXIdeal.τ).loc Cert.QNormXIdeal.main_arg1)
      ∧ m' ((c.tc : Thread Cert.QNormXReferenceIdeal.nD Cert.QNormXReferenceIdeal.τ).loc Cert.QNormXReferenceIdeal.main_arg2) = m ((c.tc : Thread Cert.QNormXIdeal.nD Cert.QNormXIdeal.τ).loc Cert.QNormXIdeal.main_arg2)) →
    ∃ (v0 : (c : Dev Cert.QNormXIdeal.nD) → Buf (Elt Ideal) ((c.tc : Thread Cert.QNormXIdeal.nD Cert.QNormXIdeal.τ).loc Cert.QNormXIdeal.main_v1_0)) (v1 : (c : Dev Cert.QNormXIdeal.nD) → Buf (Elt Ideal) ((c.tc : Thread Cert.QNormXIdeal.nD Cert.QNormXIdeal.τ).loc Cert.QNormXIdeal.main_v1_1)),
      θ_run (Cert.QNormXIdeal.defs (F := Ideal)) (onTc (τ := Cert.QNormXIdeal.τ) (Cert.QNormXIdeal.main (F := Ideal))) ⟨m, fun _ => 0, g⟩ (fun r => ∀ c : Dev Cert.QNormXIdeal.nD,
          r.2.mem ((c.tc : Thread Cert.QNormXIdeal.nD Cert.QNormXIdeal.τ).loc Cert.QNormXIdeal.main_v1_0) = v0 c
          ∧ r.2.mem ((c.tc : Thread Cert.QNormXIdeal.nD Cert.QNormXIdeal.τ).loc Cert.QNormXIdeal.main_v1_1) = v1 c
          ∧ r.2.mem ((c.tc : Thread Cert.QNormXIdeal.nD Cert.QNormXIdeal.τ).loc Cert.QNormXIdeal.main_arg0) = m ((c.tc : Thread Cert.QNormXIdeal.nD Cert.QNormXIdeal.τ).loc Cert.QNormXIdeal.main_arg0)
          ∧ r.2.mem ((c.tc : Thread Cert.QNormXIdeal.nD Cert.QNormXIdeal.τ).loc Cert.QNormXIdeal.main_arg1) = m ((c.tc : Thread Cert.QNormXIdeal.nD Cert.QNormXIdeal.τ).loc Cert.QNormXIdeal.main_arg1)
          ∧ r.2.mem ((c.tc : Thread Cert.QNormXIdeal.nD Cert.QNormXIdeal.τ).loc Cert.QNormXIdeal.main_arg2) = m ((c.tc : Thread Cert.QNormXIdeal.nD Cert.QNormXIdeal.τ).loc Cert.QNormXIdeal.main_arg2))
      ∧ θ_run (Cert.QNormXReferenceIdeal.defs (F := Ideal)) (onTc (τ := Cert.QNormXReferenceIdeal.τ) (Cert.QNormXReferenceIdeal.main (F := Ideal))) ⟨m', fun _ => 0, g'⟩ (fun r => ∀ c : Dev Cert.QNormXReferenceIdeal.nD,
          r.2.mem ((c.tc : Thread Cert.QNormXReferenceIdeal.nD Cert.QNormXReferenceIdeal.τ).loc Cert.QNormXReferenceIdeal.main_v37) = v0 c
          ∧ r.2.mem ((c.tc : Thread Cert.QNormXReferenceIdeal.nD Cert.QNormXReferenceIdeal.τ).loc Cert.QNormXReferenceIdeal.main_v38) = v1 c
          ∧ r.2.mem ((c.tc : Thread Cert.QNormXReferenceIdeal.nD Cert.QNormXReferenceIdeal.τ).loc Cert.QNormXReferenceIdeal.main_arg0) = m' ((c.tc : Thread Cert.QNormXReferenceIdeal.nD Cert.QNormXReferenceIdeal.τ).loc Cert.QNormXReferenceIdeal.main_arg0)
          ∧ r.2.mem ((c.tc : Thread Cert.QNormXReferenceIdeal.nD Cert.QNormXReferenceIdeal.τ).loc Cert.QNormXReferenceIdeal.main_arg1) = m' ((c.tc : Thread Cert.QNormXReferenceIdeal.nD Cert.QNormXReferenceIdeal.τ).loc Cert.QNormXReferenceIdeal.main_arg1)
          ∧ r.2.mem ((c.tc : Thread Cert.QNormXReferenceIdeal.nD Cert.QNormXReferenceIdeal.τ).loc Cert.QNormXReferenceIdeal.main_arg2) = m' ((c.tc : Thread Cert.QNormXReferenceIdeal.nD Cert.QNormXReferenceIdeal.τ).loc Cert.QNormXReferenceIdeal.main_arg2))

def preserves_KvNormX_KvNormXIdeal : Prop :=
  True

def algebraic_KvNormXIdeal_KvNormXReferenceIdeal [hKvNormXIdeal : Cert.KvNormXIdeal.Facts] [hKvNormXReferenceIdeal : Cert.KvNormXReferenceIdeal.Facts] : Prop :=
  ∀ (m : (ℓ : Loc Cert.KvNormXIdeal.nD Cert.KvNormXIdeal.τ Cert.KvNormXIdeal.sig) → Buf (Elt Ideal) ℓ) (g : Dev Cert.KvNormXIdeal.nD → PrngReg)
    (m' : (ℓ : Loc Cert.KvNormXReferenceIdeal.nD Cert.KvNormXReferenceIdeal.τ Cert.KvNormXReferenceIdeal.sig) → Buf (Elt Ideal) ℓ) (g' : Dev Cert.KvNormXReferenceIdeal.nD → PrngReg), Pre_KvNormXIdeal m →
    (∀ c : Dev Cert.KvNormXIdeal.nD,
      m' ((c.tc : Thread Cert.KvNormXReferenceIdeal.nD Cert.KvNormXReferenceIdeal.τ).loc Cert.KvNormXReferenceIdeal.main_arg0) = m ((c.tc : Thread Cert.KvNormXIdeal.nD Cert.KvNormXIdeal.τ).loc Cert.KvNormXIdeal.main_arg0)
      ∧ m' ((c.tc : Thread Cert.KvNormXReferenceIdeal.nD Cert.KvNormXReferenceIdeal.τ).loc Cert.KvNormXReferenceIdeal.main_arg1) = m ((c.tc : Thread Cert.KvNormXIdeal.nD Cert.KvNormXIdeal.τ).loc Cert.KvNormXIdeal.main_arg1)
      ∧ m' ((c.tc : Thread Cert.KvNormXReferenceIdeal.nD Cert.KvNormXReferenceIdeal.τ).loc Cert.KvNormXReferenceIdeal.main_arg2) = m ((c.tc : Thread Cert.KvNormXIdeal.nD Cert.KvNormXIdeal.τ).loc Cert.KvNormXIdeal.main_arg2)) →
    ∃ (v0 : (c : Dev Cert.KvNormXIdeal.nD) → Buf (Elt Ideal) ((c.tc : Thread Cert.KvNormXIdeal.nD Cert.KvNormXIdeal.τ).loc Cert.KvNormXIdeal.main_v1_0)) (v1 : (c : Dev Cert.KvNormXIdeal.nD) → Buf (Elt Ideal) ((c.tc : Thread Cert.KvNormXIdeal.nD Cert.KvNormXIdeal.τ).loc Cert.KvNormXIdeal.main_v1_1)),
      θ_run (Cert.KvNormXIdeal.defs (F := Ideal)) (onTc (τ := Cert.KvNormXIdeal.τ) (Cert.KvNormXIdeal.main (F := Ideal))) ⟨m, fun _ => 0, g⟩ (fun r => ∀ c : Dev Cert.KvNormXIdeal.nD,
          r.2.mem ((c.tc : Thread Cert.KvNormXIdeal.nD Cert.KvNormXIdeal.τ).loc Cert.KvNormXIdeal.main_v1_0) = v0 c
          ∧ r.2.mem ((c.tc : Thread Cert.KvNormXIdeal.nD Cert.KvNormXIdeal.τ).loc Cert.KvNormXIdeal.main_v1_1) = v1 c
          ∧ r.2.mem ((c.tc : Thread Cert.KvNormXIdeal.nD Cert.KvNormXIdeal.τ).loc Cert.KvNormXIdeal.main_arg0) = m ((c.tc : Thread Cert.KvNormXIdeal.nD Cert.KvNormXIdeal.τ).loc Cert.KvNormXIdeal.main_arg0)
          ∧ r.2.mem ((c.tc : Thread Cert.KvNormXIdeal.nD Cert.KvNormXIdeal.τ).loc Cert.KvNormXIdeal.main_arg1) = m ((c.tc : Thread Cert.KvNormXIdeal.nD Cert.KvNormXIdeal.τ).loc Cert.KvNormXIdeal.main_arg1)
          ∧ r.2.mem ((c.tc : Thread Cert.KvNormXIdeal.nD Cert.KvNormXIdeal.τ).loc Cert.KvNormXIdeal.main_arg2) = m ((c.tc : Thread Cert.KvNormXIdeal.nD Cert.KvNormXIdeal.τ).loc Cert.KvNormXIdeal.main_arg2))
      ∧ θ_run (Cert.KvNormXReferenceIdeal.defs (F := Ideal)) (onTc (τ := Cert.KvNormXReferenceIdeal.τ) (Cert.KvNormXReferenceIdeal.main (F := Ideal))) ⟨m', fun _ => 0, g'⟩ (fun r => ∀ c : Dev Cert.KvNormXReferenceIdeal.nD,
          r.2.mem ((c.tc : Thread Cert.KvNormXReferenceIdeal.nD Cert.KvNormXReferenceIdeal.τ).loc Cert.KvNormXReferenceIdeal.main_v37) = v0 c
          ∧ r.2.mem ((c.tc : Thread Cert.KvNormXReferenceIdeal.nD Cert.KvNormXReferenceIdeal.τ).loc Cert.KvNormXReferenceIdeal.main_v38) = v1 c
          ∧ r.2.mem ((c.tc : Thread Cert.KvNormXReferenceIdeal.nD Cert.KvNormXReferenceIdeal.τ).loc Cert.KvNormXReferenceIdeal.main_arg0) = m' ((c.tc : Thread Cert.KvNormXReferenceIdeal.nD Cert.KvNormXReferenceIdeal.τ).loc Cert.KvNormXReferenceIdeal.main_arg0)
          ∧ r.2.mem ((c.tc : Thread Cert.KvNormXReferenceIdeal.nD Cert.KvNormXReferenceIdeal.τ).loc Cert.KvNormXReferenceIdeal.main_arg1) = m' ((c.tc : Thread Cert.KvNormXReferenceIdeal.nD Cert.KvNormXReferenceIdeal.τ).loc Cert.KvNormXReferenceIdeal.main_arg1)
          ∧ r.2.mem ((c.tc : Thread Cert.KvNormXReferenceIdeal.nD Cert.KvNormXReferenceIdeal.τ).loc Cert.KvNormXReferenceIdeal.main_arg2) = m' ((c.tc : Thread Cert.KvNormXReferenceIdeal.nD Cert.KvNormXReferenceIdeal.τ).loc Cert.KvNormXReferenceIdeal.main_arg2))

def preserves_ResidX_ResidXIdeal : Prop :=
  True

def algebraic_ResidXIdeal_ResidXReferenceIdeal [hResidXIdeal : Cert.ResidXIdeal.Facts] [hResidXReferenceIdeal : Cert.ResidXReferenceIdeal.Facts] : Prop :=
  ∀ (m : (ℓ : Loc Cert.ResidXIdeal.nD Cert.ResidXIdeal.τ Cert.ResidXIdeal.sig) → Buf (Elt Ideal) ℓ) (g : Dev Cert.ResidXIdeal.nD → PrngReg)
    (m' : (ℓ : Loc Cert.ResidXReferenceIdeal.nD Cert.ResidXReferenceIdeal.τ Cert.ResidXReferenceIdeal.sig) → Buf (Elt Ideal) ℓ) (g' : Dev Cert.ResidXReferenceIdeal.nD → PrngReg), Pre_ResidXIdeal m →
    (∀ c : Dev Cert.ResidXIdeal.nD,
      m' ((c.tc : Thread Cert.ResidXReferenceIdeal.nD Cert.ResidXReferenceIdeal.τ).loc Cert.ResidXReferenceIdeal.main_arg0) = m ((c.tc : Thread Cert.ResidXIdeal.nD Cert.ResidXIdeal.τ).loc Cert.ResidXIdeal.main_arg0)
      ∧ m' ((c.tc : Thread Cert.ResidXReferenceIdeal.nD Cert.ResidXReferenceIdeal.τ).loc Cert.ResidXReferenceIdeal.main_arg1) = m ((c.tc : Thread Cert.ResidXIdeal.nD Cert.ResidXIdeal.τ).loc Cert.ResidXIdeal.main_arg1)
      ∧ m' ((c.tc : Thread Cert.ResidXReferenceIdeal.nD Cert.ResidXReferenceIdeal.τ).loc Cert.ResidXReferenceIdeal.main_arg2) = m ((c.tc : Thread Cert.ResidXIdeal.nD Cert.ResidXIdeal.τ).loc Cert.ResidXIdeal.main_arg2)
      ∧ m' ((c.tc : Thread Cert.ResidXReferenceIdeal.nD Cert.ResidXReferenceIdeal.τ).loc Cert.ResidXReferenceIdeal.main_arg3) = m ((c.tc : Thread Cert.ResidXIdeal.nD Cert.ResidXIdeal.τ).loc Cert.ResidXIdeal.main_arg3)
      ∧ m' ((c.tc : Thread Cert.ResidXReferenceIdeal.nD Cert.ResidXReferenceIdeal.τ).loc Cert.ResidXReferenceIdeal.main_arg4) = m ((c.tc : Thread Cert.ResidXIdeal.nD Cert.ResidXIdeal.τ).loc Cert.ResidXIdeal.main_arg4)
      ∧ m' ((c.tc : Thread Cert.ResidXReferenceIdeal.nD Cert.ResidXReferenceIdeal.τ).loc Cert.ResidXReferenceIdeal.main_arg5) = m ((c.tc : Thread Cert.ResidXIdeal.nD Cert.ResidXIdeal.τ).loc Cert.ResidXIdeal.main_arg5)) →
    ∃ (v0 : (c : Dev Cert.ResidXIdeal.nD) → Buf (Elt Ideal) ((c.tc : Thread Cert.ResidXIdeal.nD Cert.ResidXIdeal.τ).loc Cert.ResidXIdeal.main_v4_0)) (v1 : (c : Dev Cert.ResidXIdeal.nD) → Buf (Elt Ideal) ((c.tc : Thread Cert.ResidXIdeal.nD Cert.ResidXIdeal.τ).loc Cert.ResidXIdeal.main_v4_1)) (v2 : (c : Dev Cert.ResidXIdeal.nD) → Buf (Elt Ideal) ((c.tc : Thread Cert.ResidXIdeal.nD Cert.ResidXIdeal.τ).loc Cert.ResidXIdeal.main_v4_2)) (v3 : (c : Dev Cert.ResidXIdeal.nD) → Buf (Elt Ideal) ((c.tc : Thread Cert.ResidXIdeal.nD Cert.ResidXIdeal.τ).loc Cert.ResidXIdeal.main_v4_3)) (v4 : (c : Dev Cert.ResidXIdeal.nD) → Buf (Elt Ideal) ((c.tc : Thread Cert.ResidXIdeal.nD Cert.ResidXIdeal.τ).loc Cert.ResidXIdeal.main_v4_4)) (v5 : (c : Dev Cert.ResidXIdeal.nD) → Buf (Elt Ideal) ((c.tc : Thread Cert.ResidXIdeal.nD Cert.ResidXIdeal.τ).loc Cert.ResidXIdeal.main_v4_5)),
      θ_run (Cert.ResidXIdeal.defs (F := Ideal)) (onTc (τ := Cert.ResidXIdeal.τ) (Cert.ResidXIdeal.main (F := Ideal))) ⟨m, fun _ => 0, g⟩ (fun r => ∀ c : Dev Cert.ResidXIdeal.nD,
          r.2.mem ((c.tc : Thread Cert.ResidXIdeal.nD Cert.ResidXIdeal.τ).loc Cert.ResidXIdeal.main_v4_0) = v0 c
          ∧ r.2.mem ((c.tc : Thread Cert.ResidXIdeal.nD Cert.ResidXIdeal.τ).loc Cert.ResidXIdeal.main_v4_1) = v1 c
          ∧ r.2.mem ((c.tc : Thread Cert.ResidXIdeal.nD Cert.ResidXIdeal.τ).loc Cert.ResidXIdeal.main_v4_2) = v2 c
          ∧ r.2.mem ((c.tc : Thread Cert.ResidXIdeal.nD Cert.ResidXIdeal.τ).loc Cert.ResidXIdeal.main_v4_3) = v3 c
          ∧ r.2.mem ((c.tc : Thread Cert.ResidXIdeal.nD Cert.ResidXIdeal.τ).loc Cert.ResidXIdeal.main_v4_4) = v4 c
          ∧ r.2.mem ((c.tc : Thread Cert.ResidXIdeal.nD Cert.ResidXIdeal.τ).loc Cert.ResidXIdeal.main_v4_5) = v5 c
          ∧ r.2.mem ((c.tc : Thread Cert.ResidXIdeal.nD Cert.ResidXIdeal.τ).loc Cert.ResidXIdeal.main_arg0) = m ((c.tc : Thread Cert.ResidXIdeal.nD Cert.ResidXIdeal.τ).loc Cert.ResidXIdeal.main_arg0)
          ∧ r.2.mem ((c.tc : Thread Cert.ResidXIdeal.nD Cert.ResidXIdeal.τ).loc Cert.ResidXIdeal.main_arg1) = m ((c.tc : Thread Cert.ResidXIdeal.nD Cert.ResidXIdeal.τ).loc Cert.ResidXIdeal.main_arg1)
          ∧ r.2.mem ((c.tc : Thread Cert.ResidXIdeal.nD Cert.ResidXIdeal.τ).loc Cert.ResidXIdeal.main_arg2) = m ((c.tc : Thread Cert.ResidXIdeal.nD Cert.ResidXIdeal.τ).loc Cert.ResidXIdeal.main_arg2)
          ∧ r.2.mem ((c.tc : Thread Cert.ResidXIdeal.nD Cert.ResidXIdeal.τ).loc Cert.ResidXIdeal.main_arg3) = m ((c.tc : Thread Cert.ResidXIdeal.nD Cert.ResidXIdeal.τ).loc Cert.ResidXIdeal.main_arg3)
          ∧ r.2.mem ((c.tc : Thread Cert.ResidXIdeal.nD Cert.ResidXIdeal.τ).loc Cert.ResidXIdeal.main_arg4) = m ((c.tc : Thread Cert.ResidXIdeal.nD Cert.ResidXIdeal.τ).loc Cert.ResidXIdeal.main_arg4)
          ∧ r.2.mem ((c.tc : Thread Cert.ResidXIdeal.nD Cert.ResidXIdeal.τ).loc Cert.ResidXIdeal.main_arg5) = m ((c.tc : Thread Cert.ResidXIdeal.nD Cert.ResidXIdeal.τ).loc Cert.ResidXIdeal.main_arg5))
      ∧ θ_run (Cert.ResidXReferenceIdeal.defs (F := Ideal)) (onTc (τ := Cert.ResidXReferenceIdeal.τ) (Cert.ResidXReferenceIdeal.main (F := Ideal))) ⟨m', fun _ => 0, g'⟩ (fun r => ∀ c : Dev Cert.ResidXReferenceIdeal.nD,
          r.2.mem ((c.tc : Thread Cert.ResidXReferenceIdeal.nD Cert.ResidXReferenceIdeal.τ).loc Cert.ResidXReferenceIdeal.main_v64) = v0 c
          ∧ r.2.mem ((c.tc : Thread Cert.ResidXReferenceIdeal.nD Cert.ResidXReferenceIdeal.τ).loc Cert.ResidXReferenceIdeal.main_v72) = v1 c
          ∧ r.2.mem ((c.tc : Thread Cert.ResidXReferenceIdeal.nD Cert.ResidXReferenceIdeal.τ).loc Cert.ResidXReferenceIdeal.main_v73) = v2 c
          ∧ r.2.mem ((c.tc : Thread Cert.ResidXReferenceIdeal.nD Cert.ResidXReferenceIdeal.τ).loc Cert.ResidXReferenceIdeal.main_v74) = v3 c
          ∧ r.2.mem ((c.tc : Thread Cert.ResidXReferenceIdeal.nD Cert.ResidXReferenceIdeal.τ).loc Cert.ResidXReferenceIdeal.main_v75) = v4 c
          ∧ r.2.mem ((c.tc : Thread Cert.ResidXReferenceIdeal.nD Cert.ResidXReferenceIdeal.τ).loc Cert.ResidXReferenceIdeal.main_v76) = v5 c
          ∧ r.2.mem ((c.tc : Thread Cert.ResidXReferenceIdeal.nD Cert.ResidXReferenceIdeal.τ).loc Cert.ResidXReferenceIdeal.main_arg0) = m' ((c.tc : Thread Cert.ResidXReferenceIdeal.nD Cert.ResidXReferenceIdeal.τ).loc Cert.ResidXReferenceIdeal.main_arg0)
          ∧ r.2.mem ((c.tc : Thread Cert.ResidXReferenceIdeal.nD Cert.ResidXReferenceIdeal.τ).loc Cert.ResidXReferenceIdeal.main_arg1) = m' ((c.tc : Thread Cert.ResidXReferenceIdeal.nD Cert.ResidXReferenceIdeal.τ).loc Cert.ResidXReferenceIdeal.main_arg1)
          ∧ r.2.mem ((c.tc : Thread Cert.ResidXReferenceIdeal.nD Cert.ResidXReferenceIdeal.τ).loc Cert.ResidXReferenceIdeal.main_arg2) = m' ((c.tc : Thread Cert.ResidXReferenceIdeal.nD Cert.ResidXReferenceIdeal.τ).loc Cert.ResidXReferenceIdeal.main_arg2)
          ∧ r.2.mem ((c.tc : Thread Cert.ResidXReferenceIdeal.nD Cert.ResidXReferenceIdeal.τ).loc Cert.ResidXReferenceIdeal.main_arg3) = m' ((c.tc : Thread Cert.ResidXReferenceIdeal.nD Cert.ResidXReferenceIdeal.τ).loc Cert.ResidXReferenceIdeal.main_arg3)
          ∧ r.2.mem ((c.tc : Thread Cert.ResidXReferenceIdeal.nD Cert.ResidXReferenceIdeal.τ).loc Cert.ResidXReferenceIdeal.main_arg4) = m' ((c.tc : Thread Cert.ResidXReferenceIdeal.nD Cert.ResidXReferenceIdeal.τ).loc Cert.ResidXReferenceIdeal.main_arg4)
          ∧ r.2.mem ((c.tc : Thread Cert.ResidXReferenceIdeal.nD Cert.ResidXReferenceIdeal.τ).loc Cert.ResidXReferenceIdeal.main_arg5) = m' ((c.tc : Thread Cert.ResidXReferenceIdeal.nD Cert.ResidXReferenceIdeal.τ).loc Cert.ResidXReferenceIdeal.main_arg5))

def preserves_CtxX_CtxXIdeal : Prop :=
  True

def algebraic_CtxXIdeal_CtxXReferenceIdeal [hCtxXIdeal : Cert.CtxXIdeal.Facts] [hCtxXReferenceIdeal : Cert.CtxXReferenceIdeal.Facts] : Prop :=
  ∀ (m : (ℓ : Loc Cert.CtxXIdeal.nD Cert.CtxXIdeal.τ Cert.CtxXIdeal.sig) → Buf (Elt Ideal) ℓ) (g : Dev Cert.CtxXIdeal.nD → PrngReg)
    (m' : (ℓ : Loc Cert.CtxXReferenceIdeal.nD Cert.CtxXReferenceIdeal.τ Cert.CtxXReferenceIdeal.sig) → Buf (Elt Ideal) ℓ) (g' : Dev Cert.CtxXReferenceIdeal.nD → PrngReg), Pre_CtxXIdeal m →
    (∀ c : Dev Cert.CtxXIdeal.nD,
      m' ((c.tc : Thread Cert.CtxXReferenceIdeal.nD Cert.CtxXReferenceIdeal.τ).loc Cert.CtxXReferenceIdeal.main_arg0) = m ((c.tc : Thread Cert.CtxXIdeal.nD Cert.CtxXIdeal.τ).loc Cert.CtxXIdeal.main_arg0)
      ∧ m' ((c.tc : Thread Cert.CtxXReferenceIdeal.nD Cert.CtxXReferenceIdeal.τ).loc Cert.CtxXReferenceIdeal.main_arg1) = m ((c.tc : Thread Cert.CtxXIdeal.nD Cert.CtxXIdeal.τ).loc Cert.CtxXIdeal.main_arg1)
      ∧ m' ((c.tc : Thread Cert.CtxXReferenceIdeal.nD Cert.CtxXReferenceIdeal.τ).loc Cert.CtxXReferenceIdeal.main_arg2) = m ((c.tc : Thread Cert.CtxXIdeal.nD Cert.CtxXIdeal.τ).loc Cert.CtxXIdeal.main_arg2)
      ∧ m' ((c.tc : Thread Cert.CtxXReferenceIdeal.nD Cert.CtxXReferenceIdeal.τ).loc Cert.CtxXReferenceIdeal.main_arg3) = m ((c.tc : Thread Cert.CtxXIdeal.nD Cert.CtxXIdeal.τ).loc Cert.CtxXIdeal.main_arg3)) →
    ∃ (v0 : (c : Dev Cert.CtxXIdeal.nD) → Buf (Elt Ideal) ((c.tc : Thread Cert.CtxXIdeal.nD Cert.CtxXIdeal.τ).loc Cert.CtxXIdeal.main_v3_0)) (v1 : (c : Dev Cert.CtxXIdeal.nD) → Buf (Elt Ideal) ((c.tc : Thread Cert.CtxXIdeal.nD Cert.CtxXIdeal.τ).loc Cert.CtxXIdeal.main_v3_1)) (v2 : (c : Dev Cert.CtxXIdeal.nD) → Buf (Elt Ideal) ((c.tc : Thread Cert.CtxXIdeal.nD Cert.CtxXIdeal.τ).loc Cert.CtxXIdeal.main_v3_2)),
      θ_run (Cert.CtxXIdeal.defs (F := Ideal)) (onTc (τ := Cert.CtxXIdeal.τ) (Cert.CtxXIdeal.main (F := Ideal))) ⟨m, fun _ => 0, g⟩ (fun r => ∀ c : Dev Cert.CtxXIdeal.nD,
          r.2.mem ((c.tc : Thread Cert.CtxXIdeal.nD Cert.CtxXIdeal.τ).loc Cert.CtxXIdeal.main_v3_0) = v0 c
          ∧ r.2.mem ((c.tc : Thread Cert.CtxXIdeal.nD Cert.CtxXIdeal.τ).loc Cert.CtxXIdeal.main_v3_1) = v1 c
          ∧ r.2.mem ((c.tc : Thread Cert.CtxXIdeal.nD Cert.CtxXIdeal.τ).loc Cert.CtxXIdeal.main_v3_2) = v2 c
          ∧ r.2.mem ((c.tc : Thread Cert.CtxXIdeal.nD Cert.CtxXIdeal.τ).loc Cert.CtxXIdeal.main_arg0) = m ((c.tc : Thread Cert.CtxXIdeal.nD Cert.CtxXIdeal.τ).loc Cert.CtxXIdeal.main_arg0)
          ∧ r.2.mem ((c.tc : Thread Cert.CtxXIdeal.nD Cert.CtxXIdeal.τ).loc Cert.CtxXIdeal.main_arg1) = m ((c.tc : Thread Cert.CtxXIdeal.nD Cert.CtxXIdeal.τ).loc Cert.CtxXIdeal.main_arg1)
          ∧ r.2.mem ((c.tc : Thread Cert.CtxXIdeal.nD Cert.CtxXIdeal.τ).loc Cert.CtxXIdeal.main_arg2) = m ((c.tc : Thread Cert.CtxXIdeal.nD Cert.CtxXIdeal.τ).loc Cert.CtxXIdeal.main_arg2)
          ∧ r.2.mem ((c.tc : Thread Cert.CtxXIdeal.nD Cert.CtxXIdeal.τ).loc Cert.CtxXIdeal.main_arg3) = m ((c.tc : Thread Cert.CtxXIdeal.nD Cert.CtxXIdeal.τ).loc Cert.CtxXIdeal.main_arg3))
      ∧ θ_run (Cert.CtxXReferenceIdeal.defs (F := Ideal)) (onTc (τ := Cert.CtxXReferenceIdeal.τ) (Cert.CtxXReferenceIdeal.main (F := Ideal))) ⟨m', fun _ => 0, g'⟩ (fun r => ∀ c : Dev Cert.CtxXReferenceIdeal.nD,
          r.2.mem ((c.tc : Thread Cert.CtxXReferenceIdeal.nD Cert.CtxXReferenceIdeal.τ).loc Cert.CtxXReferenceIdeal.main_v39) = v0 c
          ∧ r.2.mem ((c.tc : Thread Cert.CtxXReferenceIdeal.nD Cert.CtxXReferenceIdeal.τ).loc Cert.CtxXReferenceIdeal.main_v40) = v1 c
          ∧ r.2.mem ((c.tc : Thread Cert.CtxXReferenceIdeal.nD Cert.CtxXReferenceIdeal.τ).loc Cert.CtxXReferenceIdeal.main_v41) = v2 c
          ∧ r.2.mem ((c.tc : Thread Cert.CtxXReferenceIdeal.nD Cert.CtxXReferenceIdeal.τ).loc Cert.CtxXReferenceIdeal.main_arg0) = m' ((c.tc : Thread Cert.CtxXReferenceIdeal.nD Cert.CtxXReferenceIdeal.τ).loc Cert.CtxXReferenceIdeal.main_arg0)
          ∧ r.2.mem ((c.tc : Thread Cert.CtxXReferenceIdeal.nD Cert.CtxXReferenceIdeal.τ).loc Cert.CtxXReferenceIdeal.main_arg1) = m' ((c.tc : Thread Cert.CtxXReferenceIdeal.nD Cert.CtxXReferenceIdeal.τ).loc Cert.CtxXReferenceIdeal.main_arg1)
          ∧ r.2.mem ((c.tc : Thread Cert.CtxXReferenceIdeal.nD Cert.CtxXReferenceIdeal.τ).loc Cert.CtxXReferenceIdeal.main_arg2) = m' ((c.tc : Thread Cert.CtxXReferenceIdeal.nD Cert.CtxXReferenceIdeal.τ).loc Cert.CtxXReferenceIdeal.main_arg2)
          ∧ r.2.mem ((c.tc : Thread Cert.CtxXReferenceIdeal.nD Cert.CtxXReferenceIdeal.τ).loc Cert.CtxXReferenceIdeal.main_arg3) = m' ((c.tc : Thread Cert.CtxXReferenceIdeal.nD Cert.CtxXReferenceIdeal.τ).loc Cert.CtxXReferenceIdeal.main_arg3))

def preserves_ScanX_ScanXIdeal : Prop :=
  True

def algebraic_ScanXIdeal_ScanXReferenceIdeal [hScanXIdeal : Cert.ScanXIdeal.Facts] [hScanXReferenceIdeal : Cert.ScanXReferenceIdeal.Facts] : Prop :=
  ∀ (m : (ℓ : Loc Cert.ScanXIdeal.nD Cert.ScanXIdeal.τ Cert.ScanXIdeal.sig) → Buf (Elt Ideal) ℓ) (g : Dev Cert.ScanXIdeal.nD → PrngReg)
    (m' : (ℓ : Loc Cert.ScanXReferenceIdeal.nD Cert.ScanXReferenceIdeal.τ Cert.ScanXReferenceIdeal.sig) → Buf (Elt Ideal) ℓ) (g' : Dev Cert.ScanXReferenceIdeal.nD → PrngReg), Pre_ScanXIdeal m →
    (∀ c : Dev Cert.ScanXIdeal.nD,
      m' ((c.tc : Thread Cert.ScanXReferenceIdeal.nD Cert.ScanXReferenceIdeal.τ).loc Cert.ScanXReferenceIdeal.main_arg0) = m ((c.tc : Thread Cert.ScanXIdeal.nD Cert.ScanXIdeal.τ).loc Cert.ScanXIdeal.main_arg0)
      ∧ m' ((c.tc : Thread Cert.ScanXReferenceIdeal.nD Cert.ScanXReferenceIdeal.τ).loc Cert.ScanXReferenceIdeal.main_arg1) = m ((c.tc : Thread Cert.ScanXIdeal.nD Cert.ScanXIdeal.τ).loc Cert.ScanXIdeal.main_arg1)
      ∧ m' ((c.tc : Thread Cert.ScanXReferenceIdeal.nD Cert.ScanXReferenceIdeal.τ).loc Cert.ScanXReferenceIdeal.main_arg2) = m ((c.tc : Thread Cert.ScanXIdeal.nD Cert.ScanXIdeal.τ).loc Cert.ScanXIdeal.main_arg2)
      ∧ m' ((c.tc : Thread Cert.ScanXReferenceIdeal.nD Cert.ScanXReferenceIdeal.τ).loc Cert.ScanXReferenceIdeal.main_arg3) = m ((c.tc : Thread Cert.ScanXIdeal.nD Cert.ScanXIdeal.τ).loc Cert.ScanXIdeal.main_arg3)) →
    ∃ (v0 : (c : Dev Cert.ScanXIdeal.nD) → Buf (Elt Ideal) ((c.tc : Thread Cert.ScanXIdeal.nD Cert.ScanXIdeal.τ).loc Cert.ScanXIdeal.main_v3)),
      θ_run (Cert.ScanXIdeal.defs (F := Ideal)) (onTc (τ := Cert.ScanXIdeal.τ) (Cert.ScanXIdeal.main (F := Ideal))) ⟨m, fun _ => 0, g⟩ (fun r => ∀ c : Dev Cert.ScanXIdeal.nD,
          r.2.mem ((c.tc : Thread Cert.ScanXIdeal.nD Cert.ScanXIdeal.τ).loc Cert.ScanXIdeal.main_v3) = v0 c
          ∧ r.2.mem ((c.tc : Thread Cert.ScanXIdeal.nD Cert.ScanXIdeal.τ).loc Cert.ScanXIdeal.main_arg0) = m ((c.tc : Thread Cert.ScanXIdeal.nD Cert.ScanXIdeal.τ).loc Cert.ScanXIdeal.main_arg0)
          ∧ r.2.mem ((c.tc : Thread Cert.ScanXIdeal.nD Cert.ScanXIdeal.τ).loc Cert.ScanXIdeal.main_arg1) = m ((c.tc : Thread Cert.ScanXIdeal.nD Cert.ScanXIdeal.τ).loc Cert.ScanXIdeal.main_arg1)
          ∧ r.2.mem ((c.tc : Thread Cert.ScanXIdeal.nD Cert.ScanXIdeal.τ).loc Cert.ScanXIdeal.main_arg2) = m ((c.tc : Thread Cert.ScanXIdeal.nD Cert.ScanXIdeal.τ).loc Cert.ScanXIdeal.main_arg2)
          ∧ r.2.mem ((c.tc : Thread Cert.ScanXIdeal.nD Cert.ScanXIdeal.τ).loc Cert.ScanXIdeal.main_arg3) = m ((c.tc : Thread Cert.ScanXIdeal.nD Cert.ScanXIdeal.τ).loc Cert.ScanXIdeal.main_arg3))
      ∧ θ_run (Cert.ScanXReferenceIdeal.defs (F := Ideal)) (onTc (τ := Cert.ScanXReferenceIdeal.τ) (Cert.ScanXReferenceIdeal.main (F := Ideal))) ⟨m', fun _ => 0, g'⟩ (fun r => ∀ c : Dev Cert.ScanXReferenceIdeal.nD,
          r.2.mem ((c.tc : Thread Cert.ScanXReferenceIdeal.nD Cert.ScanXReferenceIdeal.τ).loc Cert.ScanXReferenceIdeal.main_v11) = v0 c
          ∧ r.2.mem ((c.tc : Thread Cert.ScanXReferenceIdeal.nD Cert.ScanXReferenceIdeal.τ).loc Cert.ScanXReferenceIdeal.main_arg0) = m' ((c.tc : Thread Cert.ScanXReferenceIdeal.nD Cert.ScanXReferenceIdeal.τ).loc Cert.ScanXReferenceIdeal.main_arg0)
          ∧ r.2.mem ((c.tc : Thread Cert.ScanXReferenceIdeal.nD Cert.ScanXReferenceIdeal.τ).loc Cert.ScanXReferenceIdeal.main_arg1) = m' ((c.tc : Thread Cert.ScanXReferenceIdeal.nD Cert.ScanXReferenceIdeal.τ).loc Cert.ScanXReferenceIdeal.main_arg1)
          ∧ r.2.mem ((c.tc : Thread Cert.ScanXReferenceIdeal.nD Cert.ScanXReferenceIdeal.τ).loc Cert.ScanXReferenceIdeal.main_arg2) = m' ((c.tc : Thread Cert.ScanXReferenceIdeal.nD Cert.ScanXReferenceIdeal.τ).loc Cert.ScanXReferenceIdeal.main_arg2)
          ∧ r.2.mem ((c.tc : Thread Cert.ScanXReferenceIdeal.nD Cert.ScanXReferenceIdeal.τ).loc Cert.ScanXReferenceIdeal.main_arg3) = m' ((c.tc : Thread Cert.ScanXReferenceIdeal.nD Cert.ScanXReferenceIdeal.τ).loc Cert.ScanXReferenceIdeal.main_arg3))

def Claim : Prop :=
  ∃ (hKernel : Cert.Kernel.Facts) (hKernelIdeal : Cert.KernelIdeal.Facts) (hReferenceIdeal : Cert.ReferenceIdeal.Facts) (hFfn : Cert.Ffn.Facts) (hFfnIdeal : Cert.FfnIdeal.Facts) (hFfnReferenceIdeal : Cert.FfnReferenceIdeal.Facts) (hUp : Cert.Up.Facts) (hUpIdeal : Cert.UpIdeal.Facts) (hUpReferenceIdeal : Cert.UpReferenceIdeal.Facts) (hDown : Cert.Down.Facts) (hDownIdeal : Cert.DownIdeal.Facts) (hDownReferenceIdeal : Cert.DownReferenceIdeal.Facts) (hMix : Cert.Mix.Facts) (hMixIdeal : Cert.MixIdeal.Facts) (hMixReferenceIdeal : Cert.MixReferenceIdeal.Facts) (hProj : Cert.Proj.Facts) (hProjIdeal : Cert.ProjIdeal.Facts) (hProjReferenceIdeal : Cert.ProjReferenceIdeal.Facts) (hProjX : Cert.ProjX.Facts) (hProjXIdeal : Cert.ProjXIdeal.Facts) (hProjXReferenceIdeal : Cert.ProjXReferenceIdeal.Facts) (hGluX : Cert.GluX.Facts) (hGluXIdeal : Cert.GluXIdeal.Facts) (hGluXReferenceIdeal : Cert.GluXReferenceIdeal.Facts) (hMlaX : Cert.MlaX.Facts) (hMlaXIdeal : Cert.MlaXIdeal.Facts) (hMlaXReferenceIdeal : Cert.MlaXReferenceIdeal.Facts) (hLatent : Cert.Latent.Facts) (hLatentIdeal : Cert.LatentIdeal.Facts) (hLatentReferenceIdeal : Cert.LatentReferenceIdeal.Facts) (hAttend : Cert.Attend.Facts) (hAttendIdeal : Cert.AttendIdeal.Facts) (hAttendReferenceIdeal : Cert.AttendReferenceIdeal.Facts) (hMod : Cert.Mod.Facts) (hModIdeal : Cert.ModIdeal.Facts) (hModReferenceIdeal : Cert.ModReferenceIdeal.Facts) (hNorms : Cert.Norms.Facts) (hNormsIdeal : Cert.NormsIdeal.Facts) (hNormsReferenceIdeal : Cert.NormsReferenceIdeal.Facts) (hQNorm : Cert.QNorm.Facts) (hQNormIdeal : Cert.QNormIdeal.Facts) (hQNormReferenceIdeal : Cert.QNormReferenceIdeal.Facts) (hCombine : Cert.Combine.Facts) (hCombineIdeal : Cert.CombineIdeal.Facts) (hCombineReferenceIdeal : Cert.CombineReferenceIdeal.Facts) (hNormX : Cert.NormX.Facts) (hNormXIdeal : Cert.NormXIdeal.Facts) (hNormXReferenceIdeal : Cert.NormXReferenceIdeal.Facts) (hSkipX : Cert.SkipX.Facts) (hSkipXIdeal : Cert.SkipXIdeal.Facts) (hSkipXReferenceIdeal : Cert.SkipXReferenceIdeal.Facts) (hQNormX : Cert.QNormX.Facts) (hQNormXIdeal : Cert.QNormXIdeal.Facts) (hQNormXReferenceIdeal : Cert.QNormXReferenceIdeal.Facts) (hKvNormX : Cert.KvNormX.Facts) (hKvNormXIdeal : Cert.KvNormXIdeal.Facts) (hKvNormXReferenceIdeal : Cert.KvNormXReferenceIdeal.Facts) (hResidX : Cert.ResidX.Facts) (hResidXIdeal : Cert.ResidXIdeal.Facts) (hResidXReferenceIdeal : Cert.ResidXReferenceIdeal.Facts) (hCtxX : Cert.CtxX.Facts) (hCtxXIdeal : Cert.CtxXIdeal.Facts) (hCtxXReferenceIdeal : Cert.CtxXReferenceIdeal.Facts) (hScanX : Cert.ScanX.Facts) (hScanXIdeal : Cert.ScanXIdeal.Facts) (hScanXReferenceIdeal : Cert.ScanXReferenceIdeal.Facts) (hPre_finite : Cert.Pre_finite.Facts) (hPre_finite_scores : Cert.Pre_finite_scores.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Ffn (hFfn := hFfn)
    ∧ quiescent_FfnIdeal (hFfnIdeal := hFfnIdeal)
    ∧ quiescent_FfnReferenceIdeal (hFfnReferenceIdeal := hFfnReferenceIdeal)
    ∧ quiescent_Up (hUp := hUp)
    ∧ quiescent_UpIdeal (hUpIdeal := hUpIdeal)
    ∧ quiescent_UpReferenceIdeal (hUpReferenceIdeal := hUpReferenceIdeal)
    ∧ quiescent_Down (hDown := hDown)
    ∧ quiescent_DownIdeal (hDownIdeal := hDownIdeal)
    ∧ quiescent_DownReferenceIdeal (hDownReferenceIdeal := hDownReferenceIdeal)
    ∧ quiescent_Mix (hMix := hMix)
    ∧ quiescent_MixIdeal (hMixIdeal := hMixIdeal)
    ∧ quiescent_MixReferenceIdeal (hMixReferenceIdeal := hMixReferenceIdeal)
    ∧ quiescent_Proj (hProj := hProj)
    ∧ quiescent_ProjIdeal (hProjIdeal := hProjIdeal)
    ∧ quiescent_ProjReferenceIdeal (hProjReferenceIdeal := hProjReferenceIdeal)
    ∧ quiescent_ProjX (hProjX := hProjX)
    ∧ quiescent_ProjXIdeal (hProjXIdeal := hProjXIdeal)
    ∧ quiescent_ProjXReferenceIdeal (hProjXReferenceIdeal := hProjXReferenceIdeal)
    ∧ quiescent_GluX (hGluX := hGluX)
    ∧ quiescent_GluXIdeal (hGluXIdeal := hGluXIdeal)
    ∧ quiescent_GluXReferenceIdeal (hGluXReferenceIdeal := hGluXReferenceIdeal)
    ∧ quiescent_MlaX (hMlaX := hMlaX)
    ∧ quiescent_MlaXIdeal (hMlaXIdeal := hMlaXIdeal)
    ∧ quiescent_MlaXReferenceIdeal (hMlaXReferenceIdeal := hMlaXReferenceIdeal)
    ∧ quiescent_Latent (hLatent := hLatent)
    ∧ quiescent_LatentIdeal (hLatentIdeal := hLatentIdeal)
    ∧ quiescent_LatentReferenceIdeal (hLatentReferenceIdeal := hLatentReferenceIdeal)
    ∧ quiescent_Attend (hAttend := hAttend)
    ∧ quiescent_AttendIdeal (hAttendIdeal := hAttendIdeal)
    ∧ quiescent_AttendIdeal_pre_finite_scores (hAttendIdeal := hAttendIdeal) (hPre_finite_scores := hPre_finite_scores)
    ∧ quiescent_AttendReferenceIdeal (hAttendReferenceIdeal := hAttendReferenceIdeal)
    ∧ quiescent_AttendReferenceIdeal_pre_finite_scores (hAttendReferenceIdeal := hAttendReferenceIdeal) (hPre_finite_scores := hPre_finite_scores)
    ∧ quiescent_Mod (hMod := hMod)
    ∧ quiescent_ModIdeal (hModIdeal := hModIdeal)
    ∧ quiescent_ModReferenceIdeal (hModReferenceIdeal := hModReferenceIdeal)
    ∧ quiescent_Norms (hNorms := hNorms)
    ∧ quiescent_NormsIdeal (hNormsIdeal := hNormsIdeal)
    ∧ quiescent_NormsReferenceIdeal (hNormsReferenceIdeal := hNormsReferenceIdeal)
    ∧ quiescent_QNorm (hQNorm := hQNorm)
    ∧ quiescent_QNormIdeal (hQNormIdeal := hQNormIdeal)
    ∧ quiescent_QNormReferenceIdeal (hQNormReferenceIdeal := hQNormReferenceIdeal)
    ∧ quiescent_Combine (hCombine := hCombine)
    ∧ quiescent_CombineIdeal (hCombineIdeal := hCombineIdeal)
    ∧ quiescent_CombineReferenceIdeal (hCombineReferenceIdeal := hCombineReferenceIdeal)
    ∧ quiescent_NormX (hNormX := hNormX)
    ∧ quiescent_NormXIdeal (hNormXIdeal := hNormXIdeal)
    ∧ quiescent_NormXReferenceIdeal (hNormXReferenceIdeal := hNormXReferenceIdeal)
    ∧ quiescent_SkipX (hSkipX := hSkipX)
    ∧ quiescent_SkipXIdeal (hSkipXIdeal := hSkipXIdeal)
    ∧ quiescent_SkipXReferenceIdeal (hSkipXReferenceIdeal := hSkipXReferenceIdeal)
    ∧ quiescent_QNormX (hQNormX := hQNormX)
    ∧ quiescent_QNormXIdeal (hQNormXIdeal := hQNormXIdeal)
    ∧ quiescent_QNormXReferenceIdeal (hQNormXReferenceIdeal := hQNormXReferenceIdeal)
    ∧ quiescent_KvNormX (hKvNormX := hKvNormX)
    ∧ quiescent_KvNormXIdeal (hKvNormXIdeal := hKvNormXIdeal)
    ∧ quiescent_KvNormXReferenceIdeal (hKvNormXReferenceIdeal := hKvNormXReferenceIdeal)
    ∧ quiescent_ResidX (hResidX := hResidX)
    ∧ quiescent_ResidXIdeal (hResidXIdeal := hResidXIdeal)
    ∧ quiescent_ResidXReferenceIdeal (hResidXReferenceIdeal := hResidXReferenceIdeal)
    ∧ quiescent_CtxX (hCtxX := hCtxX)
    ∧ quiescent_CtxXIdeal (hCtxXIdeal := hCtxXIdeal)
    ∧ quiescent_CtxXReferenceIdeal (hCtxXReferenceIdeal := hCtxXReferenceIdeal)
    ∧ quiescent_ScanX (hScanX := hScanX)
    ∧ quiescent_ScanXIdeal (hScanXIdeal := hScanXIdeal)
    ∧ quiescent_ScanXReferenceIdeal (hScanXReferenceIdeal := hScanXReferenceIdeal)
    ∧ preserves_Kernel_KernelIdeal
    ∧ algebraic_KernelIdeal_ReferenceIdeal_pre_finite (hKernelIdeal := hKernelIdeal) (hReferenceIdeal := hReferenceIdeal) (hPre_finite := hPre_finite)
    ∧ preserves_Ffn_FfnIdeal
    ∧ algebraic_FfnIdeal_FfnReferenceIdeal (hFfnIdeal := hFfnIdeal) (hFfnReferenceIdeal := hFfnReferenceIdeal)
    ∧ preserves_Up_UpIdeal
    ∧ algebraic_UpIdeal_UpReferenceIdeal (hUpIdeal := hUpIdeal) (hUpReferenceIdeal := hUpReferenceIdeal)
    ∧ preserves_Down_DownIdeal
    ∧ algebraic_DownIdeal_DownReferenceIdeal (hDownIdeal := hDownIdeal) (hDownReferenceIdeal := hDownReferenceIdeal)
    ∧ preserves_Mix_MixIdeal
    ∧ algebraic_MixIdeal_MixReferenceIdeal (hMixIdeal := hMixIdeal) (hMixReferenceIdeal := hMixReferenceIdeal)
    ∧ preserves_Proj_ProjIdeal
    ∧ algebraic_ProjIdeal_ProjReferenceIdeal (hProjIdeal := hProjIdeal) (hProjReferenceIdeal := hProjReferenceIdeal)
    ∧ preserves_ProjX_ProjXIdeal
    ∧ algebraic_ProjXIdeal_ProjXReferenceIdeal (hProjXIdeal := hProjXIdeal) (hProjXReferenceIdeal := hProjXReferenceIdeal)
    ∧ preserves_GluX_GluXIdeal
    ∧ algebraic_GluXIdeal_GluXReferenceIdeal (hGluXIdeal := hGluXIdeal) (hGluXReferenceIdeal := hGluXReferenceIdeal)
    ∧ preserves_MlaX_MlaXIdeal
    ∧ algebraic_MlaXIdeal_MlaXReferenceIdeal (hMlaXIdeal := hMlaXIdeal) (hMlaXReferenceIdeal := hMlaXReferenceIdeal)
    ∧ preserves_Latent_LatentIdeal
    ∧ algebraic_LatentIdeal_LatentReferenceIdeal (hLatentIdeal := hLatentIdeal) (hLatentReferenceIdeal := hLatentReferenceIdeal)
    ∧ preserves_Attend_AttendIdeal
    ∧ algebraic_AttendIdeal_AttendReferenceIdeal_pre_finite_scores (hAttendIdeal := hAttendIdeal) (hAttendReferenceIdeal := hAttendReferenceIdeal) (hPre_finite_scores := hPre_finite_scores)
    ∧ preserves_Mod_ModIdeal
    ∧ algebraic_ModIdeal_ModReferenceIdeal (hModIdeal := hModIdeal) (hModReferenceIdeal := hModReferenceIdeal)
    ∧ preserves_Norms_NormsIdeal
    ∧ algebraic_NormsIdeal_NormsReferenceIdeal (hNormsIdeal := hNormsIdeal) (hNormsReferenceIdeal := hNormsReferenceIdeal)
    ∧ preserves_QNorm_QNormIdeal
    ∧ algebraic_QNormIdeal_QNormReferenceIdeal (hQNormIdeal := hQNormIdeal) (hQNormReferenceIdeal := hQNormReferenceIdeal)
    ∧ preserves_Combine_CombineIdeal
    ∧ algebraic_CombineIdeal_CombineReferenceIdeal (hCombineIdeal := hCombineIdeal) (hCombineReferenceIdeal := hCombineReferenceIdeal)
    ∧ preserves_NormX_NormXIdeal
    ∧ algebraic_NormXIdeal_NormXReferenceIdeal (hNormXIdeal := hNormXIdeal) (hNormXReferenceIdeal := hNormXReferenceIdeal)
    ∧ preserves_SkipX_SkipXIdeal
    ∧ algebraic_SkipXIdeal_SkipXReferenceIdeal (hSkipXIdeal := hSkipXIdeal) (hSkipXReferenceIdeal := hSkipXReferenceIdeal)
    ∧ preserves_QNormX_QNormXIdeal
    ∧ algebraic_QNormXIdeal_QNormXReferenceIdeal (hQNormXIdeal := hQNormXIdeal) (hQNormXReferenceIdeal := hQNormXReferenceIdeal)
    ∧ preserves_KvNormX_KvNormXIdeal
    ∧ algebraic_KvNormXIdeal_KvNormXReferenceIdeal (hKvNormXIdeal := hKvNormXIdeal) (hKvNormXReferenceIdeal := hKvNormXReferenceIdeal)
    ∧ preserves_ResidX_ResidXIdeal
    ∧ algebraic_ResidXIdeal_ResidXReferenceIdeal (hResidXIdeal := hResidXIdeal) (hResidXReferenceIdeal := hResidXReferenceIdeal)
    ∧ preserves_CtxX_CtxXIdeal
    ∧ algebraic_CtxXIdeal_CtxXReferenceIdeal (hCtxXIdeal := hCtxXIdeal) (hCtxXReferenceIdeal := hCtxXReferenceIdeal)
    ∧ preserves_ScanX_ScanXIdeal
    ∧ algebraic_ScanXIdeal_ScanXReferenceIdeal (hScanXIdeal := hScanXIdeal) (hScanXReferenceIdeal := hScanXReferenceIdeal)
-- ==== Pre_finite.lean ====
abbrev S2048x8x192 : Shape := ⟨3, ![2048, 8, 192]⟩
abbrev S2304x8x128 : Shape := ⟨3, ![2304, 8, 128]⟩
abbrev S2304x64 : Shape := ⟨2, ![2304, 64]⟩
abbrev S2048x8x128 : Shape := ⟨3, ![2048, 8, 128]⟩
abbrev S_ : Shape := ⟨0, ![]⟩

class Facts : Prop where
  bcast_S_S2048x8x192 : S_.BroadcastsInDim S2048x8x192 (![] : Fin 0 → Fin S2048x8x192.rank)
  bcast_S_S2304x8x128 : S_.BroadcastsInDim S2304x8x128 (![] : Fin 0 → Fin S2304x8x128.rank)
  bcast_S_S2304x64 : S_.BroadcastsInDim S2304x64 (![] : Fin 0 → Fin S2304x64.rank)
  bcast_S_S2048x8x128 : S_.BroadcastsInDim S2048x8x128 (![] : Fin 0 → Fin S2048x8x128.rank)

variable [Facts]

def fn {F : FTy → Type} [FloatOps F] (main_arg0 : FVec F S2048x8x192 .f32) (main_arg1 : FVec F S2304x8x128 .f32) (main_arg2 : FVec F S2304x64 .f32) (main_arg3 : FVec F S2304x8x128 .f32) (main_arg4 : FVec F S2048x8x128 .f32) : IVec S2048x8x192 1 × IVec S2304x8x128 1 × IVec S2304x64 1 × IVec S2304x8x128 1 × IVec S2048x8x128 1 :=
  let main_v0 : FVec F S2048x8x192 .f32 := Host.absf main_arg0
  let main_cst : FVec F S_ .f32 := constant S_ .f32 0x7F800000#32
  let main_v1 : FVec F S2048x8x192 .f32 := broadcastInDim S2048x8x192 ![] bcast_S_S2048x8x192 main_cst
  let main_v2 : IVec S2048x8x192 1 := cmpf .olt main_v0 main_v1
  let main_v3 : FVec F S2304x8x128 .f32 := Host.absf main_arg1
  let main_cst_0 : FVec F S_ .f32 := constant S_ .f32 0x7F800000#32
  let main_v4 : FVec F S2304x8x128 .f32 := broadcastInDim S2304x8x128 ![] bcast_S_S2304x8x128 main_cst_0
  let main_v5 : IVec S2304x8x128 1 := cmpf .olt main_v3 main_v4
  let main_v6 : FVec F S2304x64 .f32 := Host.absf main_arg2
  let main_cst_1 : FVec F S_ .f32 := constant S_ .f32 0x7F800000#32
  let main_v7 : FVec F S2304x64 .f32 := broadcastInDim S2304x64 ![] bcast_S_S2304x64 main_cst_1
  let main_v8 : IVec S2304x64 1 := cmpf .olt main_v6 main_v7
  let main_v9 : FVec F S2304x8x128 .f32 := Host.absf main_arg3
  let main_cst_2 : FVec F S_ .f32 := constant S_ .f32 0x7F800000#32
  let main_v10 : FVec F S2304x8x128 .f32 := broadcastInDim S2304x8x128 ![] bcast_S_S2304x8x128 main_cst_2
  let main_v11 : IVec S2304x8x128 1 := cmpf .olt main_v9 main_v10
  let main_v12 : FVec F S2048x8x128 .f32 := Host.absf main_arg4
  let main_cst_3 : FVec F S_ .f32 := constant S_ .f32 0x7F800000#32
  let main_v13 : FVec F S2048x8x128 .f32 := broadcastInDim S2048x8x128 ![] bcast_S_S2048x8x128 main_cst_3
  let main_v14 : IVec S2048x8x128 1 := cmpf .olt main_v12 main_v13
  (main_v2, main_v5, main_v8, main_v11, main_v14)
-- ==== Pre_finite_scores.lean ====
abbrev S2048x8x192 : Shape := ⟨3, ![2048, 8, 192]⟩
abbrev S2304x8x128 : Shape := ⟨3, ![2304, 8, 128]⟩
abbrev S2304x64 : Shape := ⟨2, ![2304, 64]⟩
abbrev S_ : Shape := ⟨0, ![]⟩

class Facts : Prop where
  bcast_S_S2048x8x192 : S_.BroadcastsInDim S2048x8x192 (![] : Fin 0 → Fin S2048x8x192.rank)
  bcast_S_S2304x8x128 : S_.BroadcastsInDim S2304x8x128 (![] : Fin 0 → Fin S2304x8x128.rank)
  bcast_S_S2304x64 : S_.BroadcastsInDim S2304x64 (![] : Fin 0 → Fin S2304x64.rank)

variable [Facts]

def fn {F : FTy → Type} [FloatOps F] (main_arg0 : FVec F S2048x8x192 .f32) (main_arg1 : FVec F S2304x8x128 .f32) (main_arg2 : FVec F S2304x64 .f32) (main_arg3 : FVec F S2304x8x128 .f32) : IVec S2048x8x192 1 × IVec S2304x8x128 1 × IVec S2304x64 1 :=
  let main_v0 : FVec F S2048x8x192 .f32 := Host.absf main_arg0
  let main_cst : FVec F S_ .f32 := constant S_ .f32 0x7F800000#32
  let main_v1 : FVec F S2048x8x192 .f32 := broadcastInDim S2048x8x192 ![] bcast_S_S2048x8x192 main_cst
  let main_v2 : IVec S2048x8x192 1 := cmpf .olt main_v0 main_v1
  let main_v3 : FVec F S2304x8x128 .f32 := Host.absf main_arg1
  let main_cst_0 : FVec F S_ .f32 := constant S_ .f32 0x7F800000#32
  let main_v4 : FVec F S2304x8x128 .f32 := broadcastInDim S2304x8x128 ![] bcast_S_S2304x8x128 main_cst_0
  let main_v5 : IVec S2304x8x128 1 := cmpf .olt main_v3 main_v4
  let main_v6 : FVec F S2304x64 .f32 := Host.absf main_arg2
  let main_cst_1 : FVec F S_ .f32 := constant S_ .f32 0x7F800000#32
  let main_v7 : FVec F S2304x64 .f32 := broadcastInDim S2304x64 ![] bcast_S_S2304x64 main_cst_1
  let main_v8 : IVec S2304x64 1 := cmpf .olt main_v6 main_v7
  (main_v2, main_v5, main_v8)
-- ==== Kernel.lean ====
abbrev S2048x8x192 : Shape := ⟨3, ![2048, 8, 192]⟩
abbrev S2304x8x128 : Shape := ⟨3, ![2304, 8, 128]⟩
abbrev S2304x64 : Shape := ⟨2, ![2304, 64]⟩
abbrev S2048x8x128 : Shape := ⟨3, ![2048, 8, 128]⟩
abbrev S2048x1024 : Shape := ⟨2, ![2048, 1024]⟩
abbrev S2048x8x64 : Shape := ⟨3, ![2048, 8, 64]⟩
abbrev S_ : Shape := ⟨0, ![]⟩
abbrev S2304x1024 : Shape := ⟨2, ![2304, 1024]⟩
abbrev S2304x2048 : Shape := ⟨2, ![2304, 2048]⟩
abbrev S2304x128 : Shape := ⟨2, ![2304, 128]⟩
abbrev S2304x1x64 : Shape := ⟨3, ![2304, 1, 64]⟩
abbrev S2304x8x64 : Shape := ⟨3, ![2304, 8, 64]⟩
abbrev S2304x8x192 : Shape := ⟨3, ![2304, 8, 192]⟩
abbrev S8x2048x2304 : Shape := ⟨3, ![8, 2048, 2304]⟩
abbrev S8x2048 : Shape := ⟨2, ![8, 2048]⟩
abbrev S8x2048x1 : Shape := ⟨3, ![8, 2048, 1]⟩
abbrev S512x128 : Shape := ⟨2, ![512, 128]⟩
abbrev S1x512x1 : Shape := ⟨3, ![1, 512, 1]⟩
abbrev S2304x256 : Shape := ⟨2, ![2304, 256]⟩
abbrev S512x256 : Shape := ⟨2, ![512, 256]⟩
abbrev S512x2304 : Shape := ⟨2, ![512, 2304]⟩
abbrev S512x1 : Shape := ⟨2, ![512, 1]⟩
abbrev S512 : Shape := ⟨1, ![512]⟩

abbrev nBuf : Space → Nat
  | .hbm => 47
  | .vmem => 25
  | .smem => 0
  | _ => 0

abbrev bufTy : (tb : Table) → Fin (tcTables nBuf tb) → BufTy
  | .hbm, ⟨0, _⟩ => ⟨S2048x8x192, .f32⟩
  | .hbm, ⟨1, _⟩ => ⟨S2304x8x128, .f32⟩
  | .hbm, ⟨2, _⟩ => ⟨S2304x64, .f32⟩
  | .hbm, ⟨3, _⟩ => ⟨S2304x8x128, .f32⟩
  | .hbm, ⟨4, _⟩ => ⟨S2048x8x128, .f32⟩
  | .hbm, ⟨5, _⟩ => ⟨S2048x8x128, .f32⟩
  | .hbm, ⟨6, _⟩ => ⟨S2048x1024, .f32⟩
  | .hbm, ⟨7, _⟩ => ⟨S2048x1024, .bf16⟩
  | .hbm, ⟨8, _⟩ => ⟨S2048x8x64, .f32⟩
  | .hbm, ⟨9, _⟩ => ⟨S_, .i32⟩
  | .hbm, ⟨10, _⟩ => ⟨S_, .f32⟩
  | .hbm, ⟨11, _⟩ => ⟨S2048x8x128, .f32⟩
  | .hbm, ⟨12, _⟩ => ⟨S2048x1024, .f32⟩
  | .hbm, ⟨13, _⟩ => ⟨S2048x1024, .bf16⟩
  | .hbm, ⟨14, _⟩ => ⟨S2304x1024, .f32⟩
  | .hbm, ⟨15, _⟩ => ⟨S2304x1024, .f32⟩
  | .hbm, ⟨16, _⟩ => ⟨S2304x2048, .f32⟩
  | .hbm, ⟨17, _⟩ => ⟨S2304x2048, .bf16⟩
  | .hbm, ⟨18, _⟩ => ⟨S_, .i32⟩
  | .hbm, ⟨19, _⟩ => ⟨S_, .f32⟩
  | .hbm, ⟨20, _⟩ => ⟨S2304x128, .f32⟩
  | .hbm, ⟨21, _⟩ => ⟨S2304x128, .bf16⟩
  | .hbm, ⟨22, _⟩ => ⟨S2304x1x64, .f32⟩
  | .hbm, ⟨23, _⟩ => ⟨S2304x8x64, .f32⟩
  | .hbm, ⟨24, _⟩ => ⟨S2304x8x192, .f32⟩
  | .hbm, ⟨25, _⟩ => ⟨S8x2048x2304, .f32⟩
  | .hbm, ⟨26, _⟩ => ⟨S_, .f32⟩
  | .hbm, ⟨27, _⟩ => ⟨S8x2048x2304, .f32⟩
  | .hbm, ⟨28, _⟩ => ⟨S8x2048x2304, .f32⟩
  | .hbm, ⟨29, _⟩ => ⟨S_, .f32⟩
  | .hbm, ⟨30, _⟩ => ⟨S8x2048, .f32⟩
  | .hbm, ⟨31, _⟩ => ⟨S8x2048x1, .f32⟩
  | .hbm, ⟨32, _⟩ => ⟨S8x2048x2304, .f32⟩
  | .hbm, ⟨33, _⟩ => ⟨S8x2048x2304, .f32⟩
  | .hbm, ⟨34, _⟩ => ⟨S8x2048x2304, .f32⟩
  | .hbm, ⟨35, _⟩ => ⟨S_, .f32⟩
  | .hbm, ⟨36, _⟩ => ⟨S8x2048, .f32⟩
  | .hbm, ⟨37, _⟩ => ⟨S8x2048x1, .f32⟩
  | .hbm, ⟨38, _⟩ => ⟨S8x2048x1, .f32⟩
  | .hbm, ⟨39, _⟩ => ⟨S8x2048x1, .f32⟩
  | .hbm, ⟨40, _⟩ => ⟨S2048x1024, .f32⟩
  | .hbm, ⟨41, _⟩ => ⟨S2048x1024, .bf16⟩
  | .hbm, ⟨42, _⟩ => ⟨S2048x1024, .bf16⟩
  | .hbm, ⟨43, _⟩ => ⟨S2048x1024, .bf16⟩
  | .hbm, ⟨44, _⟩ => ⟨S2304x1024, .bf16⟩
  | .hbm, ⟨45, _⟩ => ⟨S2304x1024, .bf16⟩
  | .hbm, ⟨46, _⟩ => ⟨S2304x1024, .bf16⟩
  | .local _ .vmem, ⟨0, _⟩ => ⟨S512x128, .bf16⟩
  | .local _ .vmem, ⟨1, _⟩ => ⟨S512x128, .bf16⟩
  | .local _ .vmem, ⟨2, _⟩ => ⟨S512x128, .bf16⟩
  | .local _ .vmem, ⟨3, _⟩ => ⟨S512x128, .bf16⟩
  | .local _ .vmem, ⟨4, _⟩ => ⟨S2304x128, .bf16⟩
  | .local _ .vmem, ⟨5, _⟩ => ⟨S2304x128, .bf16⟩
  | .local _ .vmem, ⟨6, _⟩ => ⟨S2304x128, .bf16⟩
  | .local _ .vmem, ⟨7, _⟩ => ⟨S2304x128, .bf16⟩
  | .local _ .vmem, ⟨8, _⟩ => ⟨S2304x128, .bf16⟩
  | .local _ .vmem, ⟨9, _⟩ => ⟨S512x128, .bf16⟩
  | .local _ .vmem, ⟨10, _⟩ => ⟨S512x128, .bf16⟩
  | .local _ .vmem, ⟨11, _⟩ => ⟨S1x512x1, .f32⟩
  | .local _ .vmem, ⟨12, _⟩ => ⟨S1x512x1, .f32⟩
  | .local _ .vmem, ⟨13, _⟩ => ⟨S512x128, .bf16⟩
  | .local _ .vmem, ⟨14, _⟩ => ⟨S512x128, .bf16⟩
  | .local _ .vmem, ⟨15, _⟩ => ⟨S512x128, .bf16⟩
  | .local _ .vmem, ⟨16, _⟩ => ⟨S512x128, .bf16⟩
  | .local _ .vmem, ⟨17, _⟩ => ⟨S2304x128, .bf16⟩
  | .local _ .vmem, ⟨18, _⟩ => ⟨S2304x128, .bf16⟩
  | .local _ .vmem, ⟨19, _⟩ => ⟨S2304x128, .bf16⟩
  | .local _ .vmem, ⟨20, _⟩ => ⟨S2304x128, .bf16⟩
  | .local _ .vmem, ⟨21, _⟩ => ⟨S2304x128, .bf16⟩
  | .local _ .vmem, ⟨22, _⟩ => ⟨S2304x128, .bf16⟩
  | .local _ .vmem, ⟨23, _⟩ => ⟨S2304x256, .f32⟩
  | .local _ .vmem, ⟨24, _⟩ => ⟨S2304x128, .f32⟩
  | _, _ => ⟨S2048x8x192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_c : Ref sig .tc := ⟨.hbm, 9, rfl⟩
abbrev main_call0_v0 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_c_0 : Ref sig .tc := ⟨.hbm, 18, rfl⟩
abbrev main_call1_v0 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_cst : Ref sig .tc := ⟨.hbm, 26, rfl⟩
abbrev main_v17 : Ref sig .tc := ⟨.hbm, 27, rfl⟩
abbrev main_v18 : Ref sig .tc := ⟨.hbm, 28, rfl⟩
abbrev main_cst_1 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_cst_2 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30_0 : Ref sig .tc := ⟨.hbm, 42, rfl⟩
abbrev main_v30_1 : Ref sig .tc := ⟨.hbm, 43, rfl⟩
abbrev main_v30_2 : Ref sig .tc := ⟨.hbm, 44, rfl⟩
abbrev main_v30_3 : Ref sig .tc := ⟨.hbm, 45, rfl⟩
abbrev main_v30_4 : Ref sig .tc := ⟨.hbm, 46, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg9_0 : Ref sig .tc := ⟨.vmem, 17, rfl⟩
abbrev cc0_stg9_1 : Ref sig .tc := ⟨.vmem, 18, rfl⟩
abbrev cc0_stg10_0 : Ref sig .tc := ⟨.vmem, 19, rfl⟩
abbrev cc0_stg10_1 : Ref sig .tc := ⟨.vmem, 20, rfl⟩
abbrev cc0_stg11_0 : Ref sig .tc := ⟨.vmem, 21, rfl⟩
abbrev cc0_stg11_1 : Ref sig .tc := ⟨.vmem, 22, rfl⟩
abbrev cc0_scratch0 : Ref sig .tc := ⟨.vmem, 23, rfl⟩
abbrev cc0_scratch1 : Ref sig .tc := ⟨.vmem, 24, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem9_1 : DmaSem sig := 18
abbrev cc0_sem10_0 : DmaSem sig := 19
abbrev cc0_sem10_1 : DmaSem sig := 20
abbrev cc0_sem11_0 : DmaSem sig := 21
abbrev cc0_sem11_1 : DmaSem sig := 22

abbrev nD : Nat := 1
abbrev τ : Topo := Topo.v7x

variable {F : FTy → Type} [FloatOps F]

abbrev grid0 : Pipeline.Grid := ⟨2, ![8, 4], ![false, false]⟩

def k0_cond3 (i : grid0.Coords) : BitVec 1 :=
  let arg1 : BitVec 32 := BitVec.ofNat 32 (i 1).val
  let c3_i32 : BitVec 32 := 3#32
  let v48 : BitVec 1 := Scalar.cmpi .eq arg1 c3_i32
  let v49 : BitVec 32 := Scalar.extui v48
  let c0_i32_28 : BitVec 32 := 0#32
  let v50 : BitVec 1 := Scalar.cmpi .ne v49 c0_i32_28
  v50

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.addi c8_i32 arg0
  let c0_i32 : BitVec 32 := 0#32
  let c0_i32_0 : BitVec 32 := 0#32
  ![c0_i32.toNat, v0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S512x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S512x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S2304x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S2304x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 1 → Memref sig .tc .vmem S2304x128 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S512x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x512x1 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S512x128 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S512x128 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S2304x128 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]

abbrev stage0_10 : Fin 2 → Memref sig .tc .vmem S2304x128 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, false]

abbrev stage0_11 : Fin 2 → Memref sig .tc .vmem S2304x128 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, false]
-- ==== ReferenceIdeal.lean ====
abbrev S2048x8x192 : Shape := ⟨3, ![2048, 8, 192]⟩
abbrev S2304x8x128 : Shape := ⟨3, ![2304, 8, 128]⟩
abbrev S2304x64 : Shape := ⟨2, ![2304, 64]⟩
abbrev S2048x8x128 : Shape := ⟨3, ![2048, 8, 128]⟩
abbrev S2304x1x64 : Shape := ⟨3, ![2304, 1, 64]⟩
abbrev S2304x8x64 : Shape := ⟨3, ![2304, 8, 64]⟩
abbrev S2304x8x192 : Shape := ⟨3, ![2304, 8, 192]⟩
abbrev S1x2048x8x192 : Shape := ⟨4, ![1, 2048, 8, 192]⟩
abbrev S1x2304x8x192 : Shape := ⟨4, ![1, 2304, 8, 192]⟩
abbrev S1x2304x8x128 : Shape := ⟨4, ![1, 2304, 8, 128]⟩
abbrev S1x8x2048x2304 : Shape := ⟨4, ![1, 8, 2048, 2304]⟩
abbrev S_ : Shape := ⟨0, ![]⟩
abbrev S1x8x2048 : Shape := ⟨3, ![1, 8, 2048]⟩
abbrev S1x8x2048x1 : Shape := ⟨4, ![1, 8, 2048, 1]⟩
abbrev S1x8x128x2048 : Shape := ⟨4, ![1, 8, 128, 2048]⟩
abbrev S1x2048x8x128 : Shape := ⟨4, ![1, 2048, 8, 128]⟩
abbrev S1x8x128x2304 : Shape := ⟨4, ![1, 8, 128, 2304]⟩
abbrev S8x2048 : Shape := ⟨2, ![8, 2048]⟩
abbrev S1x8x2304x192 : Shape := ⟨4, ![1, 8, 2304, 192]⟩
abbrev S1x8x2048x192 : Shape := ⟨4, ![1, 8, 2048, 192]⟩
abbrev S2048x1024 : Shape := ⟨2, ![2048, 1024]⟩
abbrev S2048x8x64 : Shape := ⟨3, ![2048, 8, 64]⟩
abbrev S2304x1024 : Shape := ⟨2, ![2304, 1024]⟩

abbrev nBuf : Space → Nat
  | .hbm => 105
  | .vmem => 0
  | .smem => 0
  | _ => 0

abbrev bufTy : (tb : Table) → Fin (tcTables nBuf tb) → BufTy
  | .hbm, ⟨0, _⟩ => ⟨S2048x8x192, .f32⟩
  | .hbm, ⟨1, _⟩ => ⟨S2304x8x128, .f32⟩
  | .hbm, ⟨2, _⟩ => ⟨S2304x64, .f32⟩
  | .hbm, ⟨3, _⟩ => ⟨S2304x8x128, .f32⟩
  | .hbm, ⟨4, _⟩ => ⟨S2048x8x128, .f32⟩
  | .hbm, ⟨5, _⟩ => ⟨S2304x1x64, .f32⟩
  | .hbm, ⟨6, _⟩ => ⟨S2304x8x64, .f32⟩
  | .hbm, ⟨7, _⟩ => ⟨S2304x8x192, .f32⟩
  | .hbm, ⟨8, _⟩ => ⟨S1x2048x8x192, .f32⟩
  | .hbm, ⟨9, _⟩ => ⟨S1x2304x8x192, .f32⟩
  | .hbm, ⟨10, _⟩ => ⟨S1x2304x8x128, .f32⟩
  | .hbm, ⟨11, _⟩ => ⟨S1x8x2048x2304, .f32⟩
  | .hbm, ⟨12, _⟩ => ⟨S_, .f32⟩
  | .hbm, ⟨13, _⟩ => ⟨S1x8x2048x2304, .f32⟩
  | .hbm, ⟨14, _⟩ => ⟨S1x8x2048x2304, .f32⟩
  | .hbm, ⟨15, _⟩ => ⟨S_, .f32⟩
  | .hbm, ⟨16, _⟩ => ⟨S1x8x2048, .f32⟩
  | .hbm, ⟨17, _⟩ => ⟨S1x8x2048x1, .f32⟩
  | .hbm, ⟨18, _⟩ => ⟨S1x8x2048x2304, .f32⟩
  | .hbm, ⟨19, _⟩ => ⟨S1x8x2048x2304, .i1⟩
  | .hbm, ⟨20, _⟩ => ⟨S1x8x2048x2304, .f32⟩
  | .hbm, ⟨21, _⟩ => ⟨S_, .f32⟩
  | .hbm, ⟨22, _⟩ => ⟨S1x8x2048, .f32⟩
  | .hbm, ⟨23, _⟩ => ⟨S_, .f32⟩
  | .hbm, ⟨24, _⟩ => ⟨S1x8x2048, .f32⟩
  | .hbm, ⟨25, _⟩ => ⟨S1x8x2048, .f32⟩
  | .hbm, ⟨26, _⟩ => ⟨S_, .f32⟩
  | .hbm, ⟨27, _⟩ => ⟨S1x8x2048, .f32⟩
  | .hbm, ⟨28, _⟩ => ⟨S1x8x2048, .i1⟩
  | .hbm, ⟨29, _⟩ => ⟨S_, .f32⟩
  | .hbm, ⟨30, _⟩ => ⟨S1x8x2048, .f32⟩
  | .hbm, ⟨31, _⟩ => ⟨S1x8x2048, .i1⟩
  | .hbm, ⟨32, _⟩ => ⟨S_, .f32⟩
  | .hbm, ⟨33, _⟩ => ⟨S1x8x2048, .f32⟩
  | .hbm, ⟨34, _⟩ => ⟨S_, .f32⟩
  | .hbm, ⟨35, _⟩ => ⟨S1x8x2048, .f32⟩
  | .hbm, ⟨36, _⟩ => ⟨S_, .f32⟩
  | .hbm, ⟨37, _⟩ => ⟨S1x8x2048, .f32⟩
  | .hbm, ⟨38, _⟩ => ⟨S1x8x2048, .f32⟩
  | .hbm, ⟨39, _⟩ => ⟨S1x8x2048, .f32⟩
  | .hbm, ⟨40, _⟩ => ⟨S1x8x2048x1, .f32⟩
  | .hbm, ⟨41, _⟩ => ⟨S1x8x2048x2304, .f32⟩
  | .hbm, ⟨42, _⟩ => ⟨S1x8x2048x2304, .f32⟩
  | .hbm, ⟨43, _⟩ => ⟨S1x8x2048x2304, .f32⟩
  | .hbm, ⟨44, _⟩ => ⟨S_, .f32⟩
  | .hbm, ⟨45, _⟩ => ⟨S1x8x2048, .f32⟩
  | .hbm, ⟨46, _⟩ => ⟨S1x8x2048x1, .f32⟩
  | .hbm, ⟨47, _⟩ => ⟨S1x8x2048x2304, .f32⟩
  | .hbm, ⟨48, _⟩ => ⟨S1x8x2048x2304, .f32⟩
  | .hbm, ⟨49, _⟩ => ⟨S1x8x2048x1, .f32⟩
  | .hbm, ⟨50, _⟩ => ⟨S_, .f32⟩
  | .hbm, ⟨51, _⟩ => ⟨S1x8x2048x1, .f32⟩
  | .hbm, ⟨52, _⟩ => ⟨S1x8x2048x1, .f32⟩
  | .hbm, ⟨53, _⟩ => ⟨S1x8x128x2048, .f32⟩
  | .hbm, ⟨54, _⟩ => ⟨S1x2048x8x128, .f32⟩
  | .hbm, ⟨55, _⟩ => ⟨S1x2048x8x128, .f32⟩
  | .hbm, ⟨56, _⟩ => ⟨S1x8x128x2048, .f32⟩
  | .hbm, ⟨57, _⟩ => ⟨S1x8x2048x2304, .f32⟩
  | .hbm, ⟨58, _⟩ => ⟨S1x8x128x2304, .f32⟩
  | .hbm, ⟨59, _⟩ => ⟨S1x2304x8x128, .f32⟩
  | .hbm, ⟨60, _⟩ => ⟨S1x8x2048x2304, .f32⟩
  | .hbm, ⟨61, _⟩ => ⟨S1x8x2048x2304, .f32⟩
  | .hbm, ⟨62, _⟩ => ⟨S1x8x2048x2304, .f32⟩
  | .hbm, ⟨63, _⟩ => ⟨S_, .f32⟩
  | .hbm, ⟨64, _⟩ => ⟨S1x8x2048, .f32⟩
  | .hbm, ⟨65, _⟩ => ⟨S1x8x2048x1, .f32⟩
  | .hbm, ⟨66, _⟩ => ⟨S1x8x2048x1, .f32⟩
  | .hbm, ⟨67, _⟩ => ⟨S1x8x2048x2304, .f32⟩
  | .hbm, ⟨68, _⟩ => ⟨S1x8x2048x2304, .f32⟩
  | .hbm, ⟨69, _⟩ => ⟨S_, .f32⟩
  | .hbm, ⟨70, _⟩ => ⟨S8x2048, .f32⟩
  | .hbm, ⟨71, _⟩ => ⟨S1x8x2048, .f32⟩
  | .hbm, ⟨72, _⟩ => ⟨S1x8x2048x2304, .f32⟩
  | .hbm, ⟨73, _⟩ => ⟨S1x8x2048x2304, .f32⟩
  | .hbm, ⟨74, _⟩ => ⟨S1x8x2048x2304, .f32⟩
  | .hbm, ⟨75, _⟩ => ⟨S_, .f32⟩
  | .hbm, ⟨76, _⟩ => ⟨S1x8x2048x2304, .f32⟩
  | .hbm, ⟨77, _⟩ => ⟨S1x8x2048x2304, .f32⟩
  | .hbm, ⟨78, _⟩ => ⟨S1x8x2304x192, .f32⟩
  | .hbm, ⟨79, _⟩ => ⟨S1x2304x8x192, .f32⟩
  | .hbm, ⟨80, _⟩ => ⟨S1x8x2048x192, .f32⟩
  | .hbm, ⟨81, _⟩ => ⟨S1x2048x8x192, .f32⟩
  | .hbm, ⟨82, _⟩ => ⟨S2048x8x192, .f32⟩
  | .hbm, ⟨83, _⟩ => ⟨S2304x8x192, .f32⟩
  | .hbm, ⟨84, _⟩ => ⟨S2304x8x128, .f32⟩
  | .hbm, ⟨85, _⟩ => ⟨S2048x8x128, .f32⟩
  | .hbm, ⟨86, _⟩ => ⟨S2048x1024, .f32⟩
  | .hbm, ⟨87, _⟩ => ⟨S2048x1024, .bf16⟩
  | .hbm, ⟨88, _⟩ => ⟨S2048x8x64, .f32⟩
  | .hbm, ⟨89, _⟩ => ⟨S_, .i32⟩
  | .hbm, ⟨90, _⟩ => ⟨S_, .f32⟩
  | .hbm, ⟨91, _⟩ => ⟨S2048x8x128, .f32⟩
  | .hbm, ⟨92, _⟩ => ⟨S2048x1024, .f32⟩
  | .hbm, ⟨93, _⟩ => ⟨S2048x1024, .bf16⟩
  | .hbm, ⟨94, _⟩ => ⟨S2304x8x128, .f32⟩
  | .hbm, ⟨95, _⟩ => ⟨S2304x1024, .f32⟩
  | .hbm, ⟨96, _⟩ => ⟨S2304x1024, .bf16⟩
  | .hbm, ⟨97, _⟩ => ⟨S2304x8x64, .f32⟩
  | .hbm, ⟨98, _⟩ => ⟨S_, .i32⟩
  | .hbm, ⟨99, _⟩ => ⟨S_, .f32⟩
  | .hbm, ⟨100, _⟩ => ⟨S2304x8x128, .f32⟩
  | .hbm, ⟨101, _⟩ => ⟨S2304x1024, .f32⟩
  | .hbm, ⟨102, _⟩ => ⟨S2304x1024, .bf16⟩
  | .hbm, ⟨103, _⟩ => ⟨S2304x1024, .f32⟩
  | .hbm, ⟨104, _⟩ => ⟨S2304x1024, .bf16⟩
  | _, _ => ⟨S2048x8x192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst : Ref sig .tc := ⟨.hbm, 12, rfl⟩
abbrev main_v7 : Ref sig .tc := ⟨.hbm, 13, rfl⟩
abbrev main_v8 : Ref sig .tc := ⟨.hbm, 14, rfl⟩
abbrev main_cst_0 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_cst_1 : Ref sig .tc := ⟨.hbm, 21, rfl⟩
abbrev main_v14 : Ref sig .tc := ⟨.hbm, 22, rfl⟩
abbrev main_cst_2 : Ref sig .tc := ⟨.hbm, 23, rfl⟩
abbrev main_v15 : Ref sig .tc := ⟨.hbm, 24, rfl⟩
abbrev main_v16 : Ref sig .tc := ⟨.hbm, 25, rfl⟩
abbrev main_cst_3 : Ref sig .tc := ⟨.hbm, 26, rfl⟩
abbrev main_v17 : Ref sig .tc := ⟨.hbm, 27, rfl⟩
abbrev main_v18 : Ref sig .tc := ⟨.hbm, 28, rfl⟩
abbrev main_cst_4 : Ref sig .tc := ⟨.hbm, 29, rfl⟩
abbrev main_v19 : Ref sig .tc := ⟨.hbm, 30, rfl⟩
abbrev main_v20 : Ref sig .tc := ⟨.hbm, 31, rfl⟩
abbrev main_cst_5 : Ref sig .tc := ⟨.hbm, 32, rfl⟩
abbrev main_v21 : Ref sig .tc := ⟨.hbm, 33, rfl⟩
abbrev main_cst_6 : Ref sig .tc := ⟨.hbm, 34, rfl⟩
abbrev main_v22 : Ref sig .tc := ⟨.hbm, 35, rfl⟩
abbrev main_cst_7 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_cst_8 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_cst_9 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_cst_10 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_cst_11 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_v55 : Ref sig .tc := ⟨.hbm, 73, rfl⟩
abbrev main_v56 : Ref sig .tc := ⟨.hbm, 74, rfl⟩
abbrev main_cst_12 : Ref sig .tc := ⟨.hbm, 75, rfl⟩
abbrev main_v57 : Ref sig .tc := ⟨.hbm, 76, rfl⟩
abbrev main_v58 : Ref sig .tc := ⟨.hbm, 77, rfl⟩
abbrev main_v59 : Ref sig .tc := ⟨.hbm, 78, rfl⟩
abbrev main_v60 : Ref sig .tc := ⟨.hbm, 79, rfl⟩
abbrev main_v61 : Ref sig .tc := ⟨.hbm, 80, rfl⟩
abbrev main_v62 : Ref sig .tc := ⟨.hbm, 81, rfl⟩
abbrev main_v63 : Ref sig .tc := ⟨.hbm, 82, rfl⟩
abbrev main_v64 : Ref sig .tc := ⟨.hbm, 83, rfl⟩
abbrev main_v65 : Ref sig .tc := ⟨.hbm, 84, rfl⟩
abbrev main_v66 : Ref sig .tc := ⟨.hbm, 85, rfl⟩
abbrev main_v67 : Ref sig .tc := ⟨.hbm, 86, rfl⟩
abbrev main_v68 : Ref sig .tc := ⟨.hbm, 87, rfl⟩
abbrev main_v69 : Ref sig .tc := ⟨.hbm, 88, rfl⟩
abbrev main_c : Ref sig .tc := ⟨.hbm, 89, rfl⟩
abbrev main_call0_v0 : Ref sig .tc := ⟨.hbm, 90, rfl⟩
abbrev main_v70 : Ref sig .tc := ⟨.hbm, 91, rfl⟩
abbrev main_v71 : Ref sig .tc := ⟨.hbm, 92, rfl⟩
abbrev main_v72 : Ref sig .tc := ⟨.hbm, 93, rfl⟩
abbrev main_v73 : Ref sig .tc := ⟨.hbm, 94, rfl⟩
abbrev main_v74 : Ref sig .tc := ⟨.hbm, 95, rfl⟩
abbrev main_v75 : Ref sig .tc := ⟨.hbm, 96, rfl⟩
abbrev main_v76 : Ref sig .tc := ⟨.hbm, 97, rfl⟩
abbrev main_c_13 : Ref sig .tc := ⟨.hbm, 98, rfl⟩
abbrev main_call1_v0 : Ref sig .tc := ⟨.hbm, 99, rfl⟩
abbrev main_v77 : Ref sig .tc := ⟨.hbm, 100, rfl⟩
abbrev main_v78 : Ref sig .tc := ⟨.hbm, 101, rfl⟩
abbrev main_v79 : Ref sig .tc := ⟨.hbm, 102, rfl⟩
abbrev main_v80 : Ref sig .tc := ⟨.hbm, 103, rfl⟩
abbrev main_v81 : Ref sig .tc := ⟨.hbm, 104, rfl⟩

abbrev nD : Nat := 1
abbrev τ : Topo := Topo.v7x

variable {F : FTy → Type} [FloatOps F]
-- ==== Ffn.lean ====
abbrev S2048x2048 : Shape := ⟨2, ![2048, 2048]⟩
abbrev S2048x11264 : Shape := ⟨2, ![2048, 11264]⟩
abbrev S5632x2048 : Shape := ⟨2, ![5632, 2048]⟩
abbrev S2048x8x1408 : Shape := ⟨3, ![2048, 8, 1408]⟩
abbrev S8x2048x1408 : Shape := ⟨3, ![8, 2048, 1408]⟩
abbrev S2048x5632 : Shape := ⟨2, ![2048, 5632]⟩
abbrev S256x2048 : Shape := ⟨2, ![256, 2048]⟩
abbrev S1x2048x1408 : Shape := ⟨3, ![1, 2048, 1408]⟩
abbrev S256x1408 : Shape := ⟨2, ![256, 1408]⟩
abbrev S2048x1408 : Shape := ⟨2, ![2048, 1408]⟩
abbrev S1024x2048 : Shape := ⟨2, ![1024, 2048]⟩
abbrev S1408x2048 : Shape := ⟨2, ![1408, 2048]⟩
abbrev S1024x1408 : Shape := ⟨2, ![1024, 1408]⟩
abbrev S2048x512 : Shape := ⟨2, ![2048, 512]⟩
abbrev S2048x1024 : Shape := ⟨2, ![2048, 1024]⟩
abbrev S512x1024 : Shape := ⟨2, ![512, 1024]⟩
abbrev S64x5632 : Shape := ⟨2, ![64, 5632]⟩
abbrev S64x11264 : Shape := ⟨2, ![64, 11264]⟩
abbrev S1x1024x1408 : Shape := ⟨3, ![1, 1024, 1408]⟩

abbrev nBuf : Space → Nat
  | .hbm => 19
  | .vmem => 38
  | .smem => 0
  | _ => 0

abbrev bufTy : (tb : Table) → Fin (tcTables nBuf tb) → BufTy
  | .hbm, ⟨0, _⟩ => ⟨S2048x2048, .f32⟩
  | .hbm, ⟨1, _⟩ => ⟨S2048x11264, .f32⟩
  | .hbm, ⟨2, _⟩ => ⟨S5632x2048, .f32⟩
  | .hbm, ⟨3, _⟩ => ⟨S2048x2048, .f32⟩
  | .hbm, ⟨4, _⟩ => ⟨S2048x8x1408, .f32⟩
  | .hbm, ⟨5, _⟩ => ⟨S8x2048x1408, .f32⟩
  | .hbm, ⟨6, _⟩ => ⟨S8x2048x1408, .bf16⟩
  | .hbm, ⟨7, _⟩ => ⟨S2048x2048, .bf16⟩
  | .hbm, ⟨8, _⟩ => ⟨S2048x5632, .bf16⟩
  | .hbm, ⟨9, _⟩ => ⟨S2048x5632, .bf16⟩
  | .hbm, ⟨10, _⟩ => ⟨S2048x5632, .bf16⟩
  | .hbm, ⟨11, _⟩ => ⟨S2048x2048, .bf16⟩
  | .hbm, ⟨12, _⟩ => ⟨S5632x2048, .bf16⟩
  | .hbm, ⟨13, _⟩ => ⟨S2048x5632, .bf16⟩
  | .hbm, ⟨14, _⟩ => ⟨S2048x2048, .bf16⟩
  | .hbm, ⟨15, _⟩ => ⟨S5632x2048, .bf16⟩
  | .hbm, ⟨16, _⟩ => ⟨S2048x11264, .bf16⟩
  | .hbm, ⟨17, _⟩ => ⟨S2048x2048, .bf16⟩
  | .hbm, ⟨18, _⟩ => ⟨S8x2048x1408, .bf16⟩
  | .local _ .vmem, ⟨0, _⟩ => ⟨S256x2048, .bf16⟩
  | .local _ .vmem, ⟨1, _⟩ => ⟨S256x2048, .bf16⟩
  | .local _ .vmem, ⟨2, _⟩ => ⟨S1x2048x1408, .bf16⟩
  | .local _ .vmem, ⟨3, _⟩ => ⟨S1x2048x1408, .bf16⟩
  | .local _ .vmem, ⟨4, _⟩ => ⟨S1x2048x1408, .bf16⟩
  | .local _ .vmem, ⟨5, _⟩ => ⟨S1x2048x1408, .bf16⟩
  | .local _ .vmem, ⟨6, _⟩ => ⟨S256x1408, .bf16⟩
  | .local _ .vmem, ⟨7, _⟩ => ⟨S256x1408, .bf16⟩
  | .local _ .vmem, ⟨8, _⟩ => ⟨S256x1408, .bf16⟩
  | .local _ .vmem, ⟨9, _⟩ => ⟨S256x1408, .bf16⟩
  | .local _ .vmem, ⟨10, _⟩ => ⟨S256x1408, .bf16⟩
  | .local _ .vmem, ⟨11, _⟩ => ⟨S256x1408, .bf16⟩
  | .local _ .vmem, ⟨12, _⟩ => ⟨S1024x2048, .bf16⟩
  | .local _ .vmem, ⟨13, _⟩ => ⟨S1024x2048, .bf16⟩
  | .local _ .vmem, ⟨14, _⟩ => ⟨S1408x2048, .bf16⟩
  | .local _ .vmem, ⟨15, _⟩ => ⟨S1408x2048, .bf16⟩
  | .local _ .vmem, ⟨16, _⟩ => ⟨S1024x1408, .bf16⟩
  | .local _ .vmem, ⟨17, _⟩ => ⟨S1024x1408, .bf16⟩
  | .local _ .vmem, ⟨18, _⟩ => ⟨S2048x512, .bf16⟩
  | .local _ .vmem, ⟨19, _⟩ => ⟨S2048x512, .bf16⟩
  | .local _ .vmem, ⟨20, _⟩ => ⟨S2048x1024, .bf16⟩
  | .local _ .vmem, ⟨21, _⟩ => ⟨S2048x1024, .bf16⟩
  | .local _ .vmem, ⟨22, _⟩ => ⟨S512x1024, .bf16⟩
  | .local _ .vmem, ⟨23, _⟩ => ⟨S512x1024, .bf16⟩
  | .local _ .vmem, ⟨24, _⟩ => ⟨S64x5632, .bf16⟩
  | .local _ .vmem, ⟨25, _⟩ => ⟨S64x5632, .bf16⟩
  | .local _ .vmem, ⟨26, _⟩ => ⟨S64x5632, .bf16⟩
  | .local _ .vmem, ⟨27, _⟩ => ⟨S64x5632, .bf16⟩
  | .local _ .vmem, ⟨28, _⟩ => ⟨S64x5632, .bf16⟩
  | .local _ .vmem, ⟨29, _⟩ => ⟨S64x5632, .bf16⟩
  | .local _ .vmem, ⟨30, _⟩ => ⟨S64x11264, .bf16⟩
  | .local _ .vmem, ⟨31, _⟩ => ⟨S64x11264, .bf16⟩
  | .local _ .vmem, ⟨32, _⟩ => ⟨S2048x1024, .bf16⟩
  | .local _ .vmem, ⟨33, _⟩ => ⟨S2048x1024, .bf16⟩
  | .local _ .vmem, ⟨34, _⟩ => ⟨S2048x1408, .bf16⟩
  | .local _ .vmem, ⟨35, _⟩ => ⟨S2048x1408, .bf16⟩
  | .local _ .vmem, ⟨36, _⟩ => ⟨S1x1024x1408, .bf16⟩
  | .local _ .vmem, ⟨37, _⟩ => ⟨S1x1024x1408, .bf16⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | _, _ => false

abbrev semScoped : Fin 0 → Bool
  | ⟨_, h⟩ => absurd h (Nat.not_lt_zero _)

abbrev dmaSemScoped : Fin 38 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | _ => false

abbrev sig : RefSig :=
  ofTc nBuf bufTy 0 38 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc1_stg0_0 : Ref sig .tc := ⟨.vmem, 12, rfl⟩
abbrev cc1_stg0_1 : Ref sig .tc := ⟨.vmem, 13, rfl⟩
abbrev cc1_stg1_0 : Ref sig .tc := ⟨.vmem, 14, rfl⟩
abbrev cc1_stg1_1 : Ref sig .tc := ⟨.vmem, 15, rfl⟩
abbrev cc1_stg2_0 : Ref sig .tc := ⟨.vmem, 16, rfl⟩
abbrev cc1_stg2_1 : Ref sig .tc := ⟨.vmem, 17, rfl⟩
abbrev cc2_stg0_0 : Ref sig .tc := ⟨.vmem, 18, rfl⟩
abbrev cc2_stg0_1 : Ref sig .tc := ⟨.vmem, 19, rfl⟩
abbrev cc2_stg1_0 : Ref sig .tc := ⟨.vmem, 20, rfl⟩
abbrev cc2_stg1_1 : Ref sig .tc := ⟨.vmem, 21, rfl⟩
abbrev cc2_stg2_0 : Ref sig .tc := ⟨.vmem, 22, rfl⟩
abbrev cc2_stg2_1 : Ref sig .tc := ⟨.vmem, 23, rfl⟩
abbrev cc3_stg0_0 : Ref sig .tc := ⟨.vmem, 24, rfl⟩
abbrev cc3_stg0_1 : Ref sig .tc := ⟨.vmem, 25, rfl⟩
abbrev cc3_stg1_0 : Ref sig .tc := ⟨.vmem, 26, rfl⟩
abbrev cc3_stg1_1 : Ref sig .tc := ⟨.vmem, 27, rfl⟩
abbrev cc3_stg2_0 : Ref sig .tc := ⟨.vmem, 28, rfl⟩
abbrev cc3_stg2_1 : Ref sig .tc := ⟨.vmem, 29, rfl⟩
abbrev cc3_stg3_0 : Ref sig .tc := ⟨.vmem, 30, rfl⟩
abbrev cc3_stg3_1 : Ref sig .tc := ⟨.vmem, 31, rfl⟩
abbrev cc4_stg0_0 : Ref sig .tc := ⟨.vmem, 32, rfl⟩
abbrev cc4_stg0_1 : Ref sig .tc := ⟨.vmem, 33, rfl⟩
abbrev cc4_stg1_0 : Ref sig .tc := ⟨.vmem, 34, rfl⟩
abbrev cc4_stg1_1 : Ref sig .tc := ⟨.vmem, 35, rfl⟩
abbrev cc4_stg2_0 : Ref sig .tc := ⟨.vmem, 36, rfl⟩
abbrev cc4_stg2_1 : Ref sig .tc := ⟨.vmem, 37, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc1_sem0_0 : DmaSem sig := 12
abbrev cc1_sem0_1 : DmaSem sig := 13
abbrev cc1_sem1_0 : DmaSem sig := 14
abbrev cc1_sem1_1 : DmaSem sig := 15
abbrev cc1_sem2_0 : DmaSem sig := 16
abbrev cc1_sem2_1 : DmaSem sig := 17
abbrev cc2_sem0_0 : DmaSem sig := 18
abbrev cc2_sem0_1 : DmaSem sig := 19
abbrev cc2_sem1_0 : DmaSem sig := 20
abbrev cc2_sem1_1 : DmaSem sig := 21
abbrev cc2_sem2_0 : DmaSem sig := 22
abbrev cc2_sem2_1 : DmaSem sig := 23
abbrev cc3_sem0_0 : DmaSem sig := 24
abbrev cc3_sem0_1 : DmaSem sig := 25
abbrev cc3_sem1_0 : DmaSem sig := 26
abbrev cc3_sem1_1 : DmaSem sig := 27
abbrev cc3_sem2_0 : DmaSem sig := 28
abbrev cc3_sem2_1 : DmaSem sig := 29
abbrev cc3_sem3_0 : DmaSem sig := 30
abbrev cc3_sem3_1 : DmaSem sig := 31
abbrev cc4_sem0_0 : DmaSem sig := 32
abbrev cc4_sem0_1 : DmaSem sig := 33
abbrev cc4_sem1_0 : DmaSem sig := 34
abbrev cc4_sem1_1 : DmaSem sig := 35
abbrev cc4_sem2_0 : DmaSem sig := 36
abbrev cc4_sem2_1 : DmaSem sig := 37

abbrev nD : Nat := 1
abbrev τ : Topo := Topo.v7x

variable {F : FTy → Type} [FloatOps F]

abbrev grid0 : Pipeline.Grid := ⟨2, ![4, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.addi arg0 c4_i32
  let c0_i32 : BitVec 32 := 0#32
  let c0_i32_0 : BitVec 32 := 0#32
  let c0_i32_1 : BitVec 32 := 0#32
  ![v0.toNat, c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S256x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x2048x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x2048x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S256x1408 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S256x1408 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S256x1408 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev grid1 : Pipeline.Grid := ⟨3, ![2, 4, 1], ![false, false, false]⟩

def cc1_transform_0 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc1_transform_1 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc1_transform_2 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage1_0 : Fin 2 → Memref sig .tc .vmem S1024x2048 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false, true]

abbrev stage1_1 : Fin 2 → Memref sig .tc .vmem S1408x2048 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true, true]

abbrev stage1_2 : Fin 2 → Memref sig .tc .vmem S1024x1408 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true, false]

abbrev grid2 : Pipeline.Grid := ⟨3, ![11, 2, 1], ![false, false, false]⟩

def cc2_transform_0 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc2_transform_1 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc2_transform_2 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage2_0 : Fin 2 → Memref sig .tc .vmem S2048x512 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, false, true]

abbrev stage2_1 : Fin 2 → Memref sig .tc .vmem S2048x1024 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![false, true, true]

abbrev stage2_2 : Fin 2 → Memref sig .tc .vmem S512x1024 .bf16 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, true, false]

abbrev grid3 : Pipeline.Grid := ⟨1, ![32], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S64x5632 .bf16 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S64x5632 .bf16 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S64x5632 .bf16 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 2 → Memref sig .tc .vmem S64x11264 .bf16 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

abbrev grid4 : Pipeline.Grid := ⟨3, ![2, 8, 1], ![false, false, false]⟩

def cc4_transform_0 (i : grid4.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc4_transform_1 (i : grid4.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc4_transform_2 (i : grid4.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg1 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg0.toNat, v26.toNat]

abbrev stage4_0 : Fin 2 → Memref sig .tc .vmem S2048x1024 .bf16 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true, false, true]

abbrev stage4_1 : Fin 2 → Memref sig .tc .vmem S2048x1408 .bf16 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![false, true, true]

abbrev stage4_2 : Fin 2 → Memref sig .tc .vmem S1x1024x1408 .bf16 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true, true, false]
-- ==== FfnReferenceIdeal.lean ====
abbrev S2048x2048 : Shape := ⟨2, ![2048, 2048]⟩
abbrev S2048x11264 : Shape := ⟨2, ![2048, 11264]⟩
abbrev S5632x2048 : Shape := ⟨2, ![5632, 2048]⟩
abbrev S2048x5632 : Shape := ⟨2, ![2048, 5632]⟩
abbrev S_ : Shape := ⟨0, ![]⟩
abbrev S11264x2048 : Shape := ⟨2, ![11264, 2048]⟩
abbrev S2048x8x1408 : Shape := ⟨3, ![2048, 8, 1408]⟩
abbrev S8x2048x1408 : Shape := ⟨3, ![8, 2048, 1408]⟩

abbrev nBuf : Space → Nat
  | .hbm => 38
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S2048x11264, .f32⟩
  | .hbm, ⟨2, _⟩ => ⟨S5632x2048, .f32⟩
  | .hbm, ⟨3, _⟩ => ⟨S2048x2048, .f32⟩
  | .hbm, ⟨4, _⟩ => ⟨S2048x11264, .f32⟩
  | .hbm, ⟨5, _⟩ => ⟨S2048x5632, .f32⟩
  | .hbm, ⟨6, _⟩ => ⟨S2048x5632, .f32⟩
  | .hbm, ⟨7, _⟩ => ⟨S2048x5632, .f32⟩
  | .hbm, ⟨8, _⟩ => ⟨S2048x5632, .f32⟩
  | .hbm, ⟨9, _⟩ => ⟨S_, .f32⟩
  | .hbm, ⟨10, _⟩ => ⟨S2048x5632, .f32⟩
  | .hbm, ⟨11, _⟩ => ⟨S2048x5632, .f32⟩
  | .hbm, ⟨12, _⟩ => ⟨S_, .f32⟩
  | .hbm, ⟨13, _⟩ => ⟨S2048x5632, .f32⟩
  | .hbm, ⟨14, _⟩ => ⟨S2048x5632, .f32⟩
  | .hbm, ⟨15, _⟩ => ⟨S_, .f32⟩
  | .hbm, ⟨16, _⟩ => ⟨S2048x5632, .f32⟩
  | .hbm, ⟨17, _⟩ => ⟨S2048x5632, .f32⟩
  | .hbm, ⟨18, _⟩ => ⟨S2048x5632, .f32⟩
  | .hbm, ⟨19, _⟩ => ⟨S2048x5632, .f32⟩
  | .hbm, ⟨20, _⟩ => ⟨S2048x5632, .f32⟩
  | .hbm, ⟨21, _⟩ => ⟨S2048x2048, .f32⟩
  | .hbm, ⟨22, _⟩ => ⟨S2048x5632, .f32⟩
  | .hbm, ⟨23, _⟩ => ⟨S5632x2048, .f32⟩
  | .hbm, ⟨24, _⟩ => ⟨S2048x5632, .f32⟩
  | .hbm, ⟨25, _⟩ => ⟨S2048x5632, .f32⟩
  | .hbm, ⟨26, _⟩ => ⟨S2048x5632, .f32⟩
  | .hbm, ⟨27, _⟩ => ⟨S2048x5632, .f32⟩
  | .hbm, ⟨28, _⟩ => ⟨S2048x5632, .f32⟩
  | .hbm, ⟨29, _⟩ => ⟨S2048x5632, .f32⟩
  | .hbm, ⟨30, _⟩ => ⟨S2048x5632, .f32⟩
  | .hbm, ⟨31, _⟩ => ⟨S2048x11264, .f32⟩
  | .hbm, ⟨32, _⟩ => ⟨S11264x2048, .f32⟩
  | .hbm, ⟨33, _⟩ => ⟨S2048x11264, .f32⟩
  | .hbm, ⟨34, _⟩ => ⟨S2048x8x1408, .f32⟩
  | .hbm, ⟨35, _⟩ => ⟨S8x2048x1408, .f32⟩
  | .hbm, ⟨36, _⟩ => ⟨S8x2048x1408, .bf16⟩
  | .hbm, ⟨37, _⟩ => ⟨S5632x2048, .bf16⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_call0_v0 : Ref sig .tc := ⟨.hbm, 7, rfl⟩
abbrev main_call0_v1 : Ref sig .tc := ⟨.hbm, 8, rfl⟩
abbrev main_call0_cst : Ref sig .tc := ⟨.hbm, 9, rfl⟩
abbrev main_call0_v2 : Ref sig .tc := ⟨.hbm, 10, rfl⟩
abbrev main_call0_v3 : Ref sig .tc := ⟨.hbm, 11, rfl⟩
abbrev main_call0_cst_0 : Ref sig .tc := ⟨.hbm, 12, rfl⟩
abbrev main_call0_v4 : Ref sig .tc := ⟨.hbm, 13, rfl⟩
abbrev main_v3_2 : Ref sig .tc := ⟨.hbm, 14, rfl⟩
abbrev main_call0_cst_1 : Ref sig .tc := ⟨.hbm, 15, rfl⟩
abbrev main_call0_v6 : Ref sig .tc := ⟨.hbm, 16, rfl⟩
abbrev main_call0_v7 : Ref sig .tc := ⟨.hbm, 17, rfl⟩
abbrev main_v3_1 : Ref sig .tc := ⟨.hbm, 18, rfl⟩
abbrev main_v3_0 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_call1_v0 : Ref sig .tc := ⟨.hbm, 27, rfl⟩
abbrev main_call1_v1 : Ref sig .tc := ⟨.hbm, 28, rfl⟩
abbrev main_call1_v2 : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩

abbrev nD : Nat := 1
abbrev τ : Topo := Topo.v7x

variable {F : FTy → Type} [FloatOps F]
-- ==== Up.lean ====
abbrev S2048x11264 : Shape := ⟨2, ![2048, 11264]⟩
abbrev S2048x8x1408 : Shape := ⟨3, ![2048, 8, 1408]⟩
abbrev S8x2048x1408 : Shape := ⟨3, ![8, 2048, 1408]⟩
abbrev S2048x2048 : Shape := ⟨2, ![2048, 2048]⟩
abbrev S1024x1408 : Shape := ⟨2, ![1024, 1408]⟩
abbrev S1x1024x1408 : Shape := ⟨3, ![1, 1024, 1408]⟩
abbrev S1024x1024 : Shape := ⟨2, ![1024, 1024]⟩

abbrev nBuf : Space → Nat
  | .hbm => 7
  | .vmem => 6
  | .smem => 0
  | _ => 0

abbrev bufTy : (tb : Table) → Fin (tcTables nBuf tb) → BufTy
  | .hbm, ⟨0, _⟩ => ⟨S2048x11264, .f32⟩
  | .hbm, ⟨1, _⟩ => ⟨S2048x11264, .f32⟩
  | .hbm, ⟨2, _⟩ => ⟨S2048x8x1408, .f32⟩
  | .hbm, ⟨3, _⟩ => ⟨S8x2048x1408, .f32⟩
  | .hbm, ⟨4, _⟩ => ⟨S2048x11264, .bf16⟩
  | .hbm, ⟨5, _⟩ => ⟨S8x2048x1408, .bf16⟩
  | .hbm, ⟨6, _⟩ => ⟨S2048x2048, .f32⟩
  | .local _ .vmem, ⟨0, _⟩ => ⟨S1024x1408, .bf16⟩
  | .local _ .vmem, ⟨1, _⟩ => ⟨S1024x1408, .bf16⟩
  | .local _ .vmem, ⟨2, _⟩ => ⟨S1x1024x1408, .bf16⟩
  | .local _ .vmem, ⟨3, _⟩ => ⟨S1x1024x1408, .bf16⟩
  | .local _ .vmem, ⟨4, _⟩ => ⟨S1024x1024, .f32⟩
  | .local _ .vmem, ⟨5, _⟩ => ⟨S1024x1024, .f32⟩
  | _, _ => ⟨S2048x11264, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 2, 8], ![false, false, false]⟩

def k0_cond1 (i : grid0.Coords) : BitVec 1 :=
  let arg2 : BitVec 32 := BitVec.ofNat 32 (i 2).val
  let c0_i32 : BitVec 32 := 0#32
  let v5 : BitVec 1 := Scalar.cmpi .eq arg2 c0_i32
  let v6 : BitVec 32 := Scalar.extui v5
  let c0_i32_4 : BitVec 32 := 0#32
  let v7 : BitVec 1 := Scalar.cmpi .ne v6 c0_i32_4
  v7

def k0_cond2 (i : grid0.Coords) : BitVec 1 :=
  let arg2 : BitVec 32 := BitVec.ofNat 32 (i 2).val
  let c0_i32_5 : BitVec 32 := 0#32
  let v8 : BitVec 1 := Scalar.cmpi .sgt arg2 c0_i32_5
  let v9 : BitVec 32 := Scalar.extui v8
  let c0_i32_6 : BitVec 32 := 0#32
  let v10 : BitVec 1 := Scalar.cmpi .ne v9 c0_i32_6
  v10

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg2 c1_i32
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg2 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg2 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg1.toNat, v26.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1024x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== UpReferenceIdeal.lean ====
abbrev S2048x11264 : Shape := ⟨2, ![2048, 11264]⟩
abbrev S_ : Shape := ⟨0, ![]⟩
abbrev S2048x2048 : Shape := ⟨2, ![2048, 2048]⟩

abbrev nBuf : Space → Nat
  | .hbm => 6
  | .vmem => 0
  | .smem => 0
  | _ => 0

abbrev bufTy : (tb : Table) → Fin (tcTables nBuf tb) → BufTy
  | .hbm, ⟨0, _⟩ => ⟨S2048x11264, .f32⟩
  | .hbm, ⟨1, _⟩ => ⟨S2048x11264, .f32⟩
  | .hbm, ⟨2, _⟩ => ⟨S_, .f32⟩
  | .hbm, ⟨3, _⟩ => ⟨S2048x2048, .f32⟩
  | .hbm, ⟨4, _⟩ => ⟨S2048x11264, .f32⟩
  | .hbm, ⟨5, _⟩ => ⟨S2048x2048, .f32⟩
  | _, _ => ⟨S2048x11264, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== Down.lean ====
abbrev S2048x5632 : Shape := ⟨2, ![2048, 5632]⟩
abbrev S5632x2048 : Shape := ⟨2, ![5632, 2048]⟩
abbrev S2048x2048 : Shape := ⟨2, ![2048, 2048]⟩
abbrev S512x2816 : Shape := ⟨2, ![512, 2816]⟩
abbrev S2816x1024 : Shape := ⟨2, ![2816, 1024]⟩
abbrev S512x1024 : Shape := ⟨2, ![512, 1024]⟩

abbrev nBuf : Space → Nat
  | .hbm => 5
  | .vmem => 6
  | .smem => 0
  | _ => 0

abbrev bufTy : (tb : Table) → Fin (tcTables nBuf tb) → BufTy
  | .hbm, ⟨0, _⟩ => ⟨S2048x5632, .f32⟩
  | .hbm, ⟨1, _⟩ => ⟨S5632x2048, .f32⟩
  | .hbm, ⟨2, _⟩ => ⟨S2048x5632, .bf16⟩
  | .hbm, ⟨3, _⟩ => ⟨S5632x2048, .bf16⟩
  | .hbm, ⟨4, _⟩ => ⟨S2048x2048, .f32⟩
  | .local _ .vmem, ⟨0, _⟩ => ⟨S512x2816, .bf16⟩
  | .local _ .vmem, ⟨1, _⟩ => ⟨S512x2816, .bf16⟩
  | .local _ .vmem, ⟨2, _⟩ => ⟨S2816x1024, .bf16⟩
  | .local _ .vmem, ⟨3, _⟩ => ⟨S2816x1024, .bf16⟩
  | .local _ .vmem, ⟨4, _⟩ => ⟨S512x1024, .f32⟩
  | .local _ .vmem, ⟨5, _⟩ => ⟨S512x1024, .f32⟩
  | _, _ => ⟨S2048x5632, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 2], ![false, false, false]⟩

def k0_cond1 (i : grid0.Coords) : BitVec 1 :=
  let arg2 : BitVec 32 := BitVec.ofNat 32 (i 2).val
  let c0_i32 : BitVec 32 := 0#32
  let v5 : BitVec 1 := Scalar.cmpi .eq arg2 c0_i32
  let v6 : BitVec 32 := Scalar.extui v5
  let c0_i32_3 : BitVec 32 := 0#32
  let v7 : BitVec 1 := Scalar.cmpi .ne v6 c0_i32_3
  v7

def k0_cond2 (i : grid0.Coords) : BitVec 1 :=
  let arg2 : BitVec 32 := BitVec.ofNat 32 (i 2).val
  let c0_i32_4 : BitVec 32 := 0#32
  let v8 : BitVec 1 := Scalar.cmpi .sgt arg2 c0_i32_4
  let v9 : BitVec 32 := Scalar.extui v8
  let c0_i32_5 : BitVec 32 := 0#32
  let v10 : BitVec 1 := Scalar.cmpi .ne v9 c0_i32_5
  v10

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2816x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DownReferenceIdeal.lean ====
abbrev S2048x5632 : Shape := ⟨2, ![2048, 5632]⟩
abbrev S5632x2048 : Shape := ⟨2, ![5632, 2048]⟩
abbrev S2048x2048 : Shape := ⟨2, ![2048, 2048]⟩

abbrev nBuf : Space → Nat
  | .hbm => 3
  | .vmem => 0
  | .smem => 0
  | _ => 0

abbrev bufTy : (tb : Table) → Fin (tcTables nBuf tb) → BufTy
  | .hbm, ⟨0, _⟩ => ⟨S2048x5632, .f32⟩
  | .hbm, ⟨1, _⟩ => ⟨S5632x2048, .f32⟩
  | .hbm, ⟨2, _⟩ => ⟨S2048x2048, .f32⟩
  | _, _ => ⟨S2048x5632, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== Mix.lean ====
abbrev S2048x1024 : Shape := ⟨2, ![2048, 1024]⟩
abbrev S2304x6144 : Shape := ⟨2, ![2304, 6144]⟩
abbrev S1024x4096 : Shape := ⟨2, ![1024, 4096]⟩
abbrev S1024x2048 : Shape := ⟨2, ![1024, 2048]⟩
abbrev S2048x2048 : Shape := ⟨2, ![2048, 2048]⟩
abbrev S1024x8x512 : Shape := ⟨3, ![1024, 8, 512]⟩
abbrev S8x1024x512 : Shape := ⟨3, ![8, 1024, 512]⟩
abbrev S1024x8x256 : Shape := ⟨3, ![1024, 8, 256]⟩
abbrev S8x1024x256 : Shape := ⟨3, ![8, 1024, 256]⟩
abbrev S2048x4096 : Shape := ⟨2, ![2048, 4096]⟩
abbrev S1024x1024 : Shape := ⟨2, ![1024, 1024]⟩
abbrev S1x1024x512 : Shape := ⟨3, ![1, 1024, 512]⟩
abbrev S1024x512 : Shape := ⟨2, ![1024, 512]⟩
abbrev S1x1024x256 : Shape := ⟨3, ![1, 1024, 256]⟩
abbrev S1024x256 : Shape := ⟨2, ![1024, 256]⟩
abbrev S128x4096 : Shape := ⟨2, ![128, 4096]⟩
abbrev S128x2048 : Shape := ⟨2, ![128, 2048]⟩
abbrev S2048x256 : Shape := ⟨2, ![2048, 256]⟩
abbrev S2048x512 : Shape := ⟨2, ![2048, 512]⟩

abbrev nBuf : Space → Nat
  | .hbm => 32
  | .vmem => 66
  | .smem => 0
  | _ => 0

abbrev bufTy : (tb : Table) → Fin (tcTables nBuf tb) → BufTy
  | .hbm, ⟨0, _⟩ => ⟨S2048x1024, .f32⟩
  | .hbm, ⟨1, _⟩ => ⟨S2048x1024, .f32⟩
  | .hbm, ⟨2, _⟩ => ⟨S2304x6144, .f32⟩
  | .hbm, ⟨3, _⟩ => ⟨S1024x4096, .f32⟩
  | .hbm, ⟨4, _⟩ => ⟨S1024x2048, .f32⟩
  | .hbm, ⟨5, _⟩ => ⟨S2048x2048, .f32⟩
  | .hbm, ⟨6, _⟩ => ⟨S2048x2048, .f32⟩
  | .hbm, ⟨7, _⟩ => ⟨S1024x8x512, .f32⟩
  | .hbm, ⟨8, _⟩ => ⟨S8x1024x512, .f32⟩
  | .hbm, ⟨9, _⟩ => ⟨S8x1024x512, .bf16⟩
  | .hbm, ⟨10, _⟩ => ⟨S1024x8x256, .f32⟩
  | .hbm, ⟨11, _⟩ => ⟨S8x1024x256, .f32⟩
  | .hbm, ⟨12, _⟩ => ⟨S8x1024x256, .bf16⟩
  | .hbm, ⟨13, _⟩ => ⟨S2048x1024, .bf16⟩
  | .hbm, ⟨14, _⟩ => ⟨S2048x4096, .bf16⟩
  | .hbm, ⟨15, _⟩ => ⟨S2048x1024, .bf16⟩
  | .hbm, ⟨16, _⟩ => ⟨S2048x2048, .bf16⟩
  | .hbm, ⟨17, _⟩ => ⟨S2048x2048, .bf16⟩
  | .hbm, ⟨18, _⟩ => ⟨S2048x2048, .bf16⟩
  | .hbm, ⟨19, _⟩ => ⟨S2048x2048, .f32⟩
  | .hbm, ⟨20, _⟩ => ⟨S2048x2048, .bf16⟩
  | .hbm, ⟨21, _⟩ => ⟨S2048x2048, .bf16⟩
  | .hbm, ⟨22, _⟩ => ⟨S2048x2048, .bf16⟩
  | .hbm, ⟨23, _⟩ => ⟨S2048x2048, .bf16⟩
  | .hbm, ⟨24, _⟩ => ⟨S2048x2048, .bf16⟩
  | .hbm, ⟨25, _⟩ => ⟨S2048x4096, .bf16⟩
  | .hbm, ⟨26, _⟩ => ⟨S2048x2048, .bf16⟩
  | .hbm, ⟨27, _⟩ => ⟨S2048x4096, .bf16⟩
  | .hbm, ⟨28, _⟩ => ⟨S2048x1024, .bf16⟩
  | .hbm, ⟨29, _⟩ => ⟨S8x1024x256, .bf16⟩
  | .hbm, ⟨30, _⟩ => ⟨S2048x1024, .bf16⟩
  | .hbm, ⟨31, _⟩ => ⟨S8x1024x512, .bf16⟩
  | .local _ .vmem, ⟨0, _⟩ => ⟨S1024x1024, .bf16⟩
  | .local _ .vmem, ⟨1, _⟩ => ⟨S1024x1024, .bf16⟩
  | .local _ .vmem, ⟨2, _⟩ => ⟨S1x1024x512, .bf16⟩
  | .local _ .vmem, ⟨3, _⟩ => ⟨S1x1024x512, .bf16⟩
  | .local _ .vmem, ⟨4, _⟩ => ⟨S1024x512, .bf16⟩
  | .local _ .vmem, ⟨5, _⟩ => ⟨S1024x512, .bf16⟩
  | .local _ .vmem, ⟨6, _⟩ => ⟨S1024x1024, .bf16⟩
  | .local _ .vmem, ⟨7, _⟩ => ⟨S1024x1024, .bf16⟩
  | .local _ .vmem, ⟨8, _⟩ => ⟨S1x1024x256, .bf16⟩
  | .local _ .vmem, ⟨9, _⟩ => ⟨S1x1024x256, .bf16⟩
  | .local _ .vmem, ⟨10, _⟩ => ⟨S1024x256, .bf16⟩
  | .local _ .vmem, ⟨11, _⟩ => ⟨S1024x256, .bf16⟩
  | .local _ .vmem, ⟨12, _⟩ => ⟨S128x4096, .bf16⟩
  | .local _ .vmem, ⟨13, _⟩ => ⟨S128x4096, .bf16⟩
  | .local _ .vmem, ⟨14, _⟩ => ⟨S128x2048, .bf16⟩
  | .local _ .vmem, ⟨15, _⟩ => ⟨S128x2048, .bf16⟩
  | .local _ .vmem, ⟨16, _⟩ => ⟨S128x2048, .f32⟩
  | .local _ .vmem, ⟨17, _⟩ => ⟨S128x2048, .f32⟩
  | .local _ .vmem, ⟨18, _⟩ => ⟨S128x2048, .f32⟩
  | .local _ .vmem, ⟨19, _⟩ => ⟨S128x2048, .f32⟩
  | .local _ .vmem, ⟨20, _⟩ => ⟨S128x2048, .bf16⟩
  | .local _ .vmem, ⟨21, _⟩ => ⟨S128x2048, .bf16⟩
  | .local _ .vmem, ⟨22, _⟩ => ⟨S1024x2048, .bf16⟩
  | .local _ .vmem, ⟨23, _⟩ => ⟨S1024x2048, .bf16⟩
  | .local _ .vmem, ⟨24, _⟩ => ⟨S2048x1024, .bf16⟩
  | .local _ .vmem, ⟨25, _⟩ => ⟨S2048x1024, .bf16⟩
  | .local _ .vmem, ⟨26, _⟩ => ⟨S1024x1024, .f32⟩
  | .local _ .vmem, ⟨27, _⟩ => ⟨S1024x1024, .f32⟩
  | .local _ .vmem, ⟨28, _⟩ => ⟨S1024x2048, .bf16⟩
  | .local _ .vmem, ⟨29, _⟩ => ⟨S1024x2048, .bf16⟩
  | .local _ .vmem, ⟨30, _⟩ => ⟨S1024x2048, .bf16⟩
  | .local _ .vmem, ⟨31, _⟩ => ⟨S1024x2048, .bf16⟩
  | .local _ .vmem, ⟨32, _⟩ => ⟨S1024x1024, .bf16⟩
  | .local _ .vmem, ⟨33, _⟩ => ⟨S1024x1024, .bf16⟩
  | .local _ .vmem, ⟨34, _⟩ => ⟨S2048x1024, .bf16⟩
  | .local _ .vmem, ⟨35, _⟩ => ⟨S2048x1024, .bf16⟩
  | .local _ .vmem, ⟨36, _⟩ => ⟨S2048x1024, .bf16⟩
  | .local _ .vmem, ⟨37, _⟩ => ⟨S2048x1024, .bf16⟩
  | .local _ .vmem, ⟨38, _⟩ => ⟨S1024x1024, .bf16⟩
  | .local _ .vmem, ⟨39, _⟩ => ⟨S1024x1024, .bf16⟩
  | .local _ .vmem, ⟨40, _⟩ => ⟨S128x4096, .bf16⟩
  | .local _ .vmem, ⟨41, _⟩ => ⟨S128x4096, .bf16⟩
  | .local _ .vmem, ⟨42, _⟩ => ⟨S128x2048, .bf16⟩
  | .local _ .vmem, ⟨43, _⟩ => ⟨S128x2048, .bf16⟩
  | .local _ .vmem, ⟨44, _⟩ => ⟨S128x2048, .f32⟩
  | .local _ .vmem, ⟨45, _⟩ => ⟨S128x2048, .f32⟩
  | .local _ .vmem, ⟨46, _⟩ => ⟨S128x2048, .f32⟩
  | .local _ .vmem, ⟨47, _⟩ => ⟨S128x2048, .f32⟩
  | .local _ .vmem, ⟨48, _⟩ => ⟨S128x2048, .bf16⟩
  | .local _ .vmem, ⟨49, _⟩ => ⟨S128x2048, .bf16⟩
  | .local _ .vmem, ⟨50, _⟩ => ⟨S128x4096, .bf16⟩
  | .local _ .vmem, ⟨51, _⟩ => ⟨S128x4096, .bf16⟩
  | .local _ .vmem, ⟨52, _⟩ => ⟨S128x2048, .bf16⟩
  | .local _ .vmem, ⟨53, _⟩ => ⟨S128x2048, .bf16⟩
  | .local _ .vmem, ⟨54, _⟩ => ⟨S128x4096, .bf16⟩
  | .local _ .vmem, ⟨55, _⟩ => ⟨S128x4096, .bf16⟩
  | .local _ .vmem, ⟨56, _⟩ => ⟨S2048x1024, .bf16⟩
  | .local _ .vmem, ⟨57, _⟩ => ⟨S2048x256, .bf16⟩
  | .local _ .vmem, ⟨58, _⟩ => ⟨S2048x256, .bf16⟩
  | .local _ .vmem, ⟨59, _⟩ => ⟨S1x1024x256, .bf16⟩
  | .local _ .vmem, ⟨60, _⟩ => ⟨S1x1024x256, .bf16⟩
  | .local _ .vmem, ⟨61, _⟩ => ⟨S2048x1024, .bf16⟩
  | .local _ .vmem, ⟨62, _⟩ => ⟨S2048x512, .bf16⟩
  | .local _ .vmem, ⟨63, _⟩ => ⟨S2048x512, .bf16⟩
  | .local _ .vmem, ⟨64, _⟩ => ⟨S1x1024x512, .bf16⟩
  | .local _ .vmem, ⟨65, _⟩ => ⟨S1x1024x512, .bf16⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | .vmem, ⟨65, _⟩ => true
  | _, _ => false

abbrev semScoped : Fin 0 → Bool
  | ⟨_, h⟩ => absurd h (Nat.not_lt_zero _)

abbrev dmaSemScoped : Fin 66 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | _ => false

abbrev sig : RefSig :=
  ofTc nBuf bufTy 0 66 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18_0 : Ref sig .tc := ⟨.hbm, 25, rfl⟩
abbrev main_v18_1 : Ref sig .tc := ⟨.hbm, 26, rfl⟩
abbrev main_v18_2 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg2_1 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg1_1 : Ref sig .tc := ⟨.vmem, 15, rfl⟩
abbrev cc2_stg2_0 : Ref sig .tc := ⟨.vmem, 16, rfl⟩
abbrev cc2_stg2_1 : Ref sig .tc := ⟨.vmem, 17, rfl⟩
abbrev cc2_stg3_0 : Ref sig .tc := ⟨.vmem, 18, rfl⟩
abbrev cc2_stg3_1 : Ref sig .tc := ⟨.vmem, 19, rfl⟩
abbrev cc2_stg4_0 : Ref sig .tc := ⟨.vmem, 20, rfl⟩
abbrev cc2_stg4_1 : Ref sig .tc := ⟨.vmem, 21, rfl⟩
abbrev cc3_stg0_0 : Ref sig .tc := ⟨.vmem, 22, rfl⟩
abbrev cc3_stg0_1 : Ref sig .tc := ⟨.vmem, 23, rfl⟩
abbrev cc3_stg1_0 : Ref sig .tc := ⟨.vmem, 24, rfl⟩
abbrev cc3_stg1_1 : Ref sig .tc := ⟨.vmem, 25, rfl⟩
abbrev cc3_stg2_0 : Ref sig .tc := ⟨.vmem, 26, rfl⟩
abbrev cc3_stg2_1 : Ref sig .tc := ⟨.vmem, 27, rfl⟩
abbrev cc4_stg0_0 : Ref sig .tc := ⟨.vmem, 28, rfl⟩
abbrev cc4_stg0_1 : Ref sig .tc := ⟨.vmem, 29, rfl⟩
abbrev cc4_stg1_0 : Ref sig .tc := ⟨.vmem, 30, rfl⟩
abbrev cc4_stg1_1 : Ref sig .tc := ⟨.vmem, 31, rfl⟩
abbrev cc4_stg2_0 : Ref sig .tc := ⟨.vmem, 32, rfl⟩
abbrev cc4_stg2_1 : Ref sig .tc := ⟨.vmem, 33, rfl⟩
abbrev cc5_stg0_0 : Ref sig .tc := ⟨.vmem, 34, rfl⟩
abbrev cc5_stg0_1 : Ref sig .tc := ⟨.vmem, 35, rfl⟩
abbrev cc5_stg1_0 : Ref sig .tc := ⟨.vmem, 36, rfl⟩
abbrev cc5_stg1_1 : Ref sig .tc := ⟨.vmem, 37, rfl⟩
abbrev cc5_stg2_0 : Ref sig .tc := ⟨.vmem, 38, rfl⟩
abbrev cc5_stg2_1 : Ref sig .tc := ⟨.vmem, 39, rfl⟩
abbrev cc6_stg0_0 : Ref sig .tc := ⟨.vmem, 40, rfl⟩
abbrev cc6_stg0_1 : Ref sig .tc := ⟨.vmem, 41, rfl⟩
abbrev cc6_stg1_0 : Ref sig .tc := ⟨.vmem, 42, rfl⟩
abbrev cc6_stg1_1 : Ref sig .tc := ⟨.vmem, 43, rfl⟩
abbrev cc6_stg2_0 : Ref sig .tc := ⟨.vmem, 44, rfl⟩
abbrev cc6_stg2_1 : Ref sig .tc := ⟨.vmem, 45, rfl⟩
abbrev cc6_stg3_0 : Ref sig .tc := ⟨.vmem, 46, rfl⟩
abbrev cc6_stg3_1 : Ref sig .tc := ⟨.vmem, 47, rfl⟩
abbrev cc6_stg4_0 : Ref sig .tc := ⟨.vmem, 48, rfl⟩
abbrev cc6_stg4_1 : Ref sig .tc := ⟨.vmem, 49, rfl⟩
abbrev cc6_stg5_0 : Ref sig .tc := ⟨.vmem, 50, rfl⟩
abbrev cc6_stg5_1 : Ref sig .tc := ⟨.vmem, 51, rfl⟩
abbrev cc6_stg6_0 : Ref sig .tc := ⟨.vmem, 52, rfl⟩
abbrev cc6_stg6_1 : Ref sig .tc := ⟨.vmem, 53, rfl⟩
abbrev cc6_stg7_0 : Ref sig .tc := ⟨.vmem, 54, rfl⟩
abbrev cc6_stg7_1 : Ref sig .tc := ⟨.vmem, 55, rfl⟩
abbrev cc7_stg0_0 : Ref sig .tc := ⟨.vmem, 56, rfl⟩
abbrev cc7_stg1_0 : Ref sig .tc := ⟨.vmem, 57, rfl⟩
abbrev cc7_stg1_1 : Ref sig .tc := ⟨.vmem, 58, rfl⟩
abbrev cc7_stg2_0 : Ref sig .tc := ⟨.vmem, 59, rfl⟩
abbrev cc7_stg2_1 : Ref sig .tc := ⟨.vmem, 60, rfl⟩
abbrev cc8_stg0_0 : Ref sig .tc := ⟨.vmem, 61, rfl⟩
abbrev cc8_stg1_0 : Ref sig .tc := ⟨.vmem, 62, rfl⟩
abbrev cc8_stg1_1 : Ref sig .tc := ⟨.vmem, 63, rfl⟩
abbrev cc8_stg2_0 : Ref sig .tc := ⟨.vmem, 64, rfl⟩
abbrev cc8_stg2_1 : Ref sig .tc := ⟨.vmem, 65, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11
abbrev cc2_sem0_0 : DmaSem sig := 12
abbrev cc2_sem0_1 : DmaSem sig := 13
abbrev cc2_sem1_0 : DmaSem sig := 14
abbrev cc2_sem1_1 : DmaSem sig := 15
abbrev cc2_sem2_0 : DmaSem sig := 16
abbrev cc2_sem2_1 : DmaSem sig := 17
abbrev cc2_sem3_0 : DmaSem sig := 18
abbrev cc2_sem3_1 : DmaSem sig := 19
abbrev cc2_sem4_0 : DmaSem sig := 20
abbrev cc2_sem4_1 : DmaSem sig := 21
abbrev cc3_sem0_0 : DmaSem sig := 22
abbrev cc3_sem0_1 : DmaSem sig := 23
abbrev cc3_sem1_0 : DmaSem sig := 24
abbrev cc3_sem1_1 : DmaSem sig := 25
abbrev cc3_sem2_0 : DmaSem sig := 26
abbrev cc3_sem2_1 : DmaSem sig := 27
abbrev cc4_sem0_0 : DmaSem sig := 28
abbrev cc4_sem0_1 : DmaSem sig := 29
abbrev cc4_sem1_0 : DmaSem sig := 30
abbrev cc4_sem1_1 : DmaSem sig := 31
abbrev cc4_sem2_0 : DmaSem sig := 32
abbrev cc4_sem2_1 : DmaSem sig := 33
abbrev cc5_sem0_0 : DmaSem sig := 34
abbrev cc5_sem0_1 : DmaSem sig := 35
abbrev cc5_sem1_0 : DmaSem sig := 36
abbrev cc5_sem1_1 : DmaSem sig := 37
abbrev cc5_sem2_0 : DmaSem sig := 38
abbrev cc5_sem2_1 : DmaSem sig := 39
abbrev cc6_sem0_0 : DmaSem sig := 40
abbrev cc6_sem0_1 : DmaSem sig := 41
abbrev cc6_sem1_0 : DmaSem sig := 42
abbrev cc6_sem1_1 : DmaSem sig := 43
abbrev cc6_sem2_0 : DmaSem sig := 44
abbrev cc6_sem2_1 : DmaSem sig := 45
abbrev cc6_sem3_0 : DmaSem sig := 46
abbrev cc6_sem3_1 : DmaSem sig := 47
abbrev cc6_sem4_0 : DmaSem sig := 48
abbrev cc6_sem4_1 : DmaSem sig := 49
abbrev cc6_sem5_0 : DmaSem sig := 50
abbrev cc6_sem5_1 : DmaSem sig := 51
abbrev cc6_sem6_0 : DmaSem sig := 52
abbrev cc6_sem6_1 : DmaSem sig := 53
abbrev cc6_sem7_0 : DmaSem sig := 54
abbrev cc6_sem7_1 : DmaSem sig := 55
abbrev cc7_sem0_0 : DmaSem sig := 56
abbrev cc7_sem1_0 : DmaSem sig := 57
abbrev cc7_sem1_1 : DmaSem sig := 58
abbrev cc7_sem2_0 : DmaSem sig := 59
abbrev cc7_sem2_1 : DmaSem sig := 60
abbrev cc8_sem0_0 : DmaSem sig := 61
abbrev cc8_sem1_0 : DmaSem sig := 62
abbrev cc8_sem1_1 : DmaSem sig := 63
abbrev cc8_sem2_0 : DmaSem sig := 64
abbrev cc8_sem2_1 : DmaSem sig := 65

abbrev nD : Nat := 1
abbrev τ : Topo := Topo.v7x

variable {F : FTy → Type} [FloatOps F]

abbrev grid0 : Pipeline.Grid := ⟨3, ![2, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg1 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg2.toNat, v26.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev grid1 : Pipeline.Grid := ⟨3, ![2, 8, 1], ![false, false, false]⟩

def cc1_transform_0 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc1_transform_1 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg1 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg2.toNat, v26.toNat]

def cc1_transform_2 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage1_0 : Fin 2 → Memref sig .tc .vmem S1024x1024 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false, true]

abbrev stage1_1 : Fin 2 → Memref sig .tc .vmem S1x1024x256 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true, true]

abbrev stage1_2 : Fin 2 → Memref sig .tc .vmem S1024x256 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true, false]

abbrev grid2 : Pipeline.Grid := ⟨1, ![16], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c1_i32 : BitVec 32 := 1#32
  let c0_i32 : BitVec 32 := 0#32
  ![arg0.toNat, c1_i32.toNat]

def cc2_transform_3 (i : grid2.Coords) : Fin 2 → Nat :=
  let arg0 : BitVec 32 := BitVec.ofNat 32 (i 0).val
  let c2_i32 : BitVec 32 := 2#32
  let c0_i32 : BitVec 32 := 0#32
  ![arg0.toNat, c2_i32.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S128x4096 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S128x2048 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S128x2048 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 2 → Memref sig .tc .vmem S128x2048 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev stage2_4 : Fin 2 → Memref sig .tc .vmem S128x2048 .bf16 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

abbrev grid3 : Pipeline.Grid := ⟨3, ![2, 2, 1], ![false, false, false]⟩

def cc3_transform_0 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc3_transform_1 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc3_transform_2 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage3_0 : Fin 2 → Memref sig .tc .vmem S1024x2048 .bf16 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true, false, true]

abbrev stage3_1 : Fin 2 → Memref sig .tc .vmem S2048x1024 .bf16 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![false, true, true]

abbrev stage3_2 : Fin 2 → Memref sig .tc .vmem S1024x1024 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true, true, false]

abbrev grid4 : Pipeline.Grid := ⟨3, ![2, 2, 1], ![false, false, false]⟩

def cc4_transform_0 (i : grid4.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc4_transform_1 (i : grid4.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc4_transform_2 (i : grid4.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage4_0 : Fin 2 → Memref sig .tc .vmem S1024x2048 .bf16 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true, false, true]

abbrev stage4_1 : Fin 2 → Memref sig .tc .vmem S1024x2048 .bf16 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![false, true, true]

abbrev stage4_2 : Fin 2 → Memref sig .tc .vmem S1024x1024 .bf16 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true, true, false]

abbrev grid5 : Pipeline.Grid := ⟨3, ![2, 2, 1], ![false, false, false]⟩

def cc5_transform_0 (i : grid5.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc5_transform_1 (i : grid5.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc5_transform_2 (i : grid5.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage5_0 : Fin 2 → Memref sig .tc .vmem S2048x1024 .bf16 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true, false, true]

abbrev stage5_1 : Fin 2 → Memref sig .tc .vmem S2048x1024 .bf16 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![false, true, true]

abbrev stage5_2 : Fin 2 → Memref sig .tc .vmem S1024x1024 .bf16 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true, true, false]

abbrev grid6 : Pipeline.Grid := ⟨1, ![16], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_2 (i : grid6.Coords) : Fin 2 → Nat :=
  let arg0 : BitVec 32 := BitVec.ofNat 32 (i 0).val
  let c1_i32 : BitVec 32 := 1#32
  let c0_i32 : BitVec 32 := 0#32
  ![arg0.toNat, c1_i32.toNat]

def cc6_transform_3 (i : grid6.Coords) : Fin 2 → Nat :=
  let arg0 : BitVec 32 := BitVec.ofNat 32 (i 0).val
  let c2_i32 : BitVec 32 := 2#32
  let c0_i32 : BitVec 32 := 0#32
  ![arg0.toNat, c2_i32.toNat]

def cc6_transform_4 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_5 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_6 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_7 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S128x4096 .bf16 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 2 → Memref sig .tc .vmem S128x2048 .bf16 := fun | 0 => Memref.whole cc6_stg1_0 | 1 => Memref.whole cc6_stg1_1 | ⟨_ + 2, h⟩ => absurd h (Nat.not_lt.2 (Nat.le_add_left _ _))
abbrev sem6_1 : Fin 2 → DmaSem sig := fun | 0 => cc6_sem1_0 | 1 => cc6_sem1_1 | ⟨_ + 2, h⟩ => absurd h (Nat.not_lt.2 (Nat.le_add_left _ _))
abbrev reads6_1 : Fin grid6.rank → Bool := ![true]

abbrev stage6_2 : Fin 2 → Memref sig .tc .vmem S128x2048 .f32 := fun | 0 => Memref.whole cc6_stg2_0 | 1 => Memref.whole cc6_stg2_1 | ⟨_ + 2, h⟩ => absurd h (Nat.not_lt.2 (Nat.le_add_left _ _))
abbrev sem6_2 : Fin 2 → DmaSem sig := fun | 0 => cc6_sem2_0 | 1 => cc6_sem2_1 | ⟨_ + 2, h⟩ => absurd h (Nat.not_lt.2 (Nat.le_add_left _ _))
abbrev reads6_2 : Fin grid6.rank → Bool := ![true]

abbrev stage6_3 : Fin 2 → Memref sig .tc .vmem S128x2048 .f32 := fun | 0 => Memref.whole cc6_stg3_0 | 1 => Memref.whole cc6_stg3_1 | ⟨_ + 2, h⟩ => absurd h (Nat.not_lt.2 (Nat.le_add_left _ _))
abbrev sem6_3 : Fin 2 → DmaSem sig := fun | 0 => cc6_sem3_0 | 1 => cc6_sem3_1 | ⟨_ + 2, h⟩ => absurd h (Nat.not_lt.2 (Nat.le_add_left _ _))
abbrev reads6_3 : Fin grid6.rank → Bool := ![true]

abbrev stage6_4 : Fin 2 → Memref sig .tc .vmem S128x2048 .bf16 := fun | 0 => Memref.whole cc6_stg4_0 | 1 => Memref.whole cc6_stg4_1 | ⟨_ + 2, h⟩ => absurd h (Nat.not_lt.2 (Nat.le_add_left _ _))
abbrev sem6_4 : Fin 2 → DmaSem sig := fun | 0 => cc6_sem4_0 | 1 => cc6_sem4_1 | ⟨_ + 2, h⟩ => absurd h (Nat.not_lt.2 (Nat.le_add_left _ _))
abbrev reads6_4 : Fin grid6.rank → Bool := ![true]

abbrev stage6_5 : Fin 2 → Memref sig .tc .vmem S128x4096 .bf16 := fun | 0 => Memref.whole cc6_stg5_0 | 1 => Memref.whole cc6_stg5_1 | ⟨_ + 2, h⟩ => absurd h (Nat.not_lt.2 (Nat.le_add_left _ _))
abbrev sem6_5 : Fin 2 → DmaSem sig := fun | 0 => cc6_sem5_0 | 1 => cc6_sem5_1 | ⟨_ + 2, h⟩ => absurd h (Nat.not_lt.2 (Nat.le_add_left _ _))
abbrev reads6_5 : Fin grid6.rank → Bool := ![true]

abbrev stage6_6 : Fin 2 → Memref sig .tc .vmem S128x2048 .bf16 := fun | 0 => Memref.whole cc6_stg6_0 | 1 => Memref.whole cc6_stg6_1 | ⟨_ + 2, h⟩ => absurd h (Nat.not_lt.2 (Nat.le_add_left _ _))
abbrev sem6_6 : Fin 2 → DmaSem sig := fun | 0 => cc6_sem6_0 | 1 => cc6_sem6_1 | ⟨_ + 2, h⟩ => absurd h (Nat.not_lt.2 (Nat.le_add_left _ _))
abbrev reads6_6 : Fin grid6.rank → Bool := ![true]

abbrev stage6_7 : Fin 2 → Memref sig .tc .vmem S128x4096 .bf16 := fun | 0 => Memref.whole cc6_stg7_0 | 1 => Memref.whole cc6_stg7_1 | ⟨_ + 2, h⟩ => absurd h (Nat.not_lt.2 (Nat.le_add_left _ _))
abbrev sem6_7 : Fin 2 → DmaSem sig := fun | 0 => cc6_sem7_0 | 1 => cc6_sem7_1 | ⟨_ + 2, h⟩ => absurd h (Nat.not_lt.2 (Nat.le_add_left _ _))
abbrev reads6_7 : Fin grid6.rank → Bool := ![true]

abbrev grid7 : Pipeline.Grid := ⟨3, ![1, 8, 1], ![false, false, false]⟩

def cc7_transform_0 (i : grid7.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc7_transform_1 (i : grid7.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc7_transform_2 (i : grid7.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg1 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg0.toNat, v26.toNat]

abbrev stage7_0 : Fin 1 → Memref sig .tc .vmem S2048x1024 .bf16 := fun | 0 => Memref.whole cc7_stg0_0 | ⟨_ + 1, h⟩ => absurd h (Nat.not_lt.2 (Nat.le_add_left _ _))
abbrev sem7_0 : Fin 1 → DmaSem sig := fun | 0 => cc7_sem0_0 | ⟨_ + 1, h⟩ => absurd h (Nat.not_lt.2 (Nat.le_add_left _ _))
abbrev reads7_0 : Fin grid7.rank → Bool := ![true, false, true]

abbrev stage7_1 : Fin 2 → Memref sig .tc .vmem S2048x256 .bf16 := fun | 0 => Memref.whole cc7_stg1_0 | 1 => Memref.whole cc7_stg1_1 | ⟨_ + 2, h⟩ => absurd h (Nat.not_lt.2 (Nat.le_add_left _ _))
abbrev sem7_1 : Fin 2 → DmaSem sig := fun | 0 => cc7_sem1_0 | 1 => cc7_sem1_1 | ⟨_ + 2, h⟩ => absurd h (Nat.not_lt.2 (Nat.le_add_left _ _))
abbrev reads7_1 : Fin grid7.rank → Bool := ![false, true, true]

abbrev stage7_2 : Fin 2 → Memref sig .tc .vmem S1x1024x256 .bf16 := fun | 0 => Memref.whole cc7_stg2_0 | 1 => Memref.whole cc7_stg2_1 | ⟨_ + 2, h⟩ => absurd h (Nat.not_lt.2 (Nat.le_add_left _ _))
abbrev sem7_2 : Fin 2 → DmaSem sig := fun | 0 => cc7_sem2_0 | 1 => cc7_sem2_1 | ⟨_ + 2, h⟩ => absurd h (Nat.not_lt.2 (Nat.le_add_left _ _))
abbrev reads7_2 : Fin grid7.rank → Bool := ![true, true, false]

abbrev grid8 : Pipeline.Grid := ⟨3, ![1, 8, 1], ![false, false, false]⟩

def cc8_transform_0 (i : grid8.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc8_transform_1 (i : grid8.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc8_transform_2 (i : grid8.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg1 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg0.toNat, v26.toNat]

abbrev stage8_0 : Fin 1 → Memref sig .tc .vmem S2048x1024 .bf16 := fun | 0 => Memref.whole cc8_stg0_0 | ⟨_ + 1, h⟩ => absurd h (Nat.not_lt.2 (Nat.le_add_left _ _))
abbrev sem8_0 : Fin 1 → DmaSem sig := fun | 0 => cc8_sem0_0 | ⟨_ + 1, h⟩ => absurd h (Nat.not_lt.2 (Nat.le_add_left _ _))
abbrev reads8_0 : Fin grid8.rank → Bool := ![true, false, true]

abbrev stage8_1 : Fin 2 → Memref sig .tc .vmem S2048x512 .bf16 := fun | 0 => Memref.whole cc8_stg1_0 | 1 => Memref.whole cc8_stg1_1 | ⟨_ + 2, h⟩ => absurd h (Nat.not_lt.2 (Nat.le_add_left _ _))
abbrev sem8_1 : Fin 2 → DmaSem sig := fun | 0 => cc8_sem1_0 | 1 => cc8_sem1_1 | ⟨_ + 2, h⟩ => absurd h (Nat.not_lt.2 (Nat.le_add_left _ _))
abbrev reads8_1 : Fin grid8.rank → Bool := ![false, true, true]

abbrev stage8_2 : Fin 2 → Memref sig .tc .vmem S1x1024x512 .bf16 := fun | 0 => Memref.whole cc8_stg2_0 | 1 => Memref.whole cc8_stg2_1 | ⟨_ + 2, h⟩ => absurd h (Nat.not_lt.2 (Nat.le_add_left _ _))
abbrev sem8_2 : Fin 2 → DmaSem sig := fun | 0 => cc8_sem2_0 | 1 => cc8_sem2_1 | ⟨_ + 2, h⟩ => absurd h (Nat.not_lt.2 (Nat.le_add_left _ _))
abbrev reads8_2 : Fin grid8.rank → Bool := ![true, true, false]
-- ==== MixReferenceIdeal.lean ====
abbrev S2048x1024 : Shape := ⟨2, ![2048, 1024]⟩
abbrev S2304x6144 : Shape := ⟨2, ![2304, 6144]⟩
abbrev S1024x4096 : Shape := ⟨2, ![1024, 4096]⟩
abbrev S1024x2048 : Shape := ⟨2, ![1024, 2048]⟩
abbrev S2048x2048 : Shape := ⟨2, ![2048, 2048]⟩
abbrev S2048x4096 : Shape := ⟨2, ![2048, 4096]⟩
abbrev S_ : Shape := ⟨0, ![]⟩
abbrev S4096x1024 : Shape := ⟨2, ![4096, 1024]⟩
abbrev S1024x8x512 : Shape := ⟨3, ![1024, 8, 512]⟩
abbrev S8x1024x512 : Shape := ⟨3, ![8, 1024, 512]⟩
abbrev S1024x8x256 : Shape := ⟨3, ![1024, 8, 256]⟩
abbrev S8x1024x256 : Shape := ⟨3, ![8, 1024, 256]⟩

abbrev nBuf : Space → Nat
  | .hbm => 68
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S2048x1024, .f32⟩
  | .hbm, ⟨2, _⟩ => ⟨S2304x6144, .f32⟩
  | .hbm, ⟨3, _⟩ => ⟨S1024x4096, .f32⟩
  | .hbm, ⟨4, _⟩ => ⟨S1024x2048, .f32⟩
  | .hbm, ⟨5, _⟩ => ⟨S2048x2048, .f32⟩
  | .hbm, ⟨6, _⟩ => ⟨S2048x2048, .f32⟩
  | .hbm, ⟨7, _⟩ => ⟨S2048x4096, .f32⟩
  | .hbm, ⟨8, _⟩ => ⟨S2048x4096, .f32⟩
  | .hbm, ⟨9, _⟩ => ⟨S2048x2048, .f32⟩
  | .hbm, ⟨10, _⟩ => ⟨S2048x2048, .f32⟩
  | .hbm, ⟨11, _⟩ => ⟨S2048x2048, .f32⟩
  | .hbm, ⟨12, _⟩ => ⟨S2048x2048, .f32⟩
  | .hbm, ⟨13, _⟩ => ⟨S_, .f32⟩
  | .hbm, ⟨14, _⟩ => ⟨S2048x2048, .f32⟩
  | .hbm, ⟨15, _⟩ => ⟨S2048x2048, .f32⟩
  | .hbm, ⟨16, _⟩ => ⟨S_, .f32⟩
  | .hbm, ⟨17, _⟩ => ⟨S2048x2048, .f32⟩
  | .hbm, ⟨18, _⟩ => ⟨S2048x2048, .f32⟩
  | .hbm, ⟨19, _⟩ => ⟨S_, .f32⟩
  | .hbm, ⟨20, _⟩ => ⟨S2048x2048, .f32⟩
  | .hbm, ⟨21, _⟩ => ⟨S2048x2048, .f32⟩
  | .hbm, ⟨22, _⟩ => ⟨S2048x2048, .f32⟩
  | .hbm, ⟨23, _⟩ => ⟨S2048x2048, .f32⟩
  | .hbm, ⟨24, _⟩ => ⟨S2048x2048, .f32⟩
  | .hbm, ⟨25, _⟩ => ⟨S2048x4096, .f32⟩
  | .hbm, ⟨26, _⟩ => ⟨S2048x4096, .f32⟩
  | .hbm, ⟨27, _⟩ => ⟨S_, .f32⟩
  | .hbm, ⟨28, _⟩ => ⟨S2048x4096, .f32⟩
  | .hbm, ⟨29, _⟩ => ⟨S2048x4096, .f32⟩
  | .hbm, ⟨30, _⟩ => ⟨S_, .f32⟩
  | .hbm, ⟨31, _⟩ => ⟨S2048x4096, .f32⟩
  | .hbm, ⟨32, _⟩ => ⟨S2048x4096, .f32⟩
  | .hbm, ⟨33, _⟩ => ⟨S_, .f32⟩
  | .hbm, ⟨34, _⟩ => ⟨S2048x4096, .f32⟩
  | .hbm, ⟨35, _⟩ => ⟨S2048x4096, .f32⟩
  | .hbm, ⟨36, _⟩ => ⟨S2048x4096, .f32⟩
  | .hbm, ⟨37, _⟩ => ⟨S2048x2048, .f32⟩
  | .hbm, ⟨38, _⟩ => ⟨S2048x2048, .f32⟩
  | .hbm, ⟨39, _⟩ => ⟨S2048x2048, .f32⟩
  | .hbm, ⟨40, _⟩ => ⟨S2048x2048, .f32⟩
  | .hbm, ⟨41, _⟩ => ⟨S2048x2048, .f32⟩
  | .hbm, ⟨42, _⟩ => ⟨S2048x2048, .f32⟩
  | .hbm, ⟨43, _⟩ => ⟨S2048x2048, .f32⟩
  | .hbm, ⟨44, _⟩ => ⟨S2048x2048, .f32⟩
  | .hbm, ⟨45, _⟩ => ⟨S2048x2048, .f32⟩
  | .hbm, ⟨46, _⟩ => ⟨S2048x2048, .f32⟩
  | .hbm, ⟨47, _⟩ => ⟨S2048x2048, .f32⟩
  | .hbm, ⟨48, _⟩ => ⟨S2048x2048, .f32⟩
  | .hbm, ⟨49, _⟩ => ⟨S2048x2048, .f32⟩
  | .hbm, ⟨50, _⟩ => ⟨S2048x4096, .f32⟩
  | .hbm, ⟨51, _⟩ => ⟨S2048x4096, .f32⟩
  | .hbm, ⟨52, _⟩ => ⟨S2048x1024, .f32⟩
  | .hbm, ⟨53, _⟩ => ⟨S1024x2048, .f32⟩
  | .hbm, ⟨54, _⟩ => ⟨S2048x2048, .f32⟩
  | .hbm, ⟨55, _⟩ => ⟨S2048x2048, .f32⟩
  | .hbm, ⟨56, _⟩ => ⟨S2048x2048, .f32⟩
  | .hbm, ⟨57, _⟩ => ⟨S2048x4096, .f32⟩
  | .hbm, ⟨58, _⟩ => ⟨S4096x1024, .f32⟩
  | .hbm, ⟨59, _⟩ => ⟨S1024x4096, .f32⟩
  | .hbm, ⟨60, _⟩ => ⟨S1024x8x512, .f32⟩
  | .hbm, ⟨61, _⟩ => ⟨S8x1024x512, .f32⟩
  | .hbm, ⟨62, _⟩ => ⟨S8x1024x512, .bf16⟩
  | .hbm, ⟨63, _⟩ => ⟨S1024x8x256, .f32⟩
  | .hbm, ⟨64, _⟩ => ⟨S8x1024x256, .f32⟩
  | .hbm, ⟨65, _⟩ => ⟨S8x1024x256, .bf16⟩
  | .hbm, ⟨66, _⟩ => ⟨S2048x2048, .bf16⟩
  | .hbm, ⟨67, _⟩ => ⟨S2048x4096, .bf16⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst : Ref sig .tc := ⟨.hbm, 13, rfl⟩
abbrev main_v6 : Ref sig .tc := ⟨.hbm, 14, rfl⟩
abbrev main_v7 : Ref sig .tc := ⟨.hbm, 15, rfl⟩
abbrev main_cst_0 : Ref sig .tc := ⟨.hbm, 16, rfl⟩
abbrev main_v8 : Ref sig .tc := ⟨.hbm, 17, rfl⟩
abbrev main_v9 : Ref sig .tc := ⟨.hbm, 18, rfl⟩
abbrev main_cst_1 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_cst_2 : Ref sig .tc := ⟨.hbm, 27, rfl⟩
abbrev main_v17 : Ref sig .tc := ⟨.hbm, 28, rfl⟩
abbrev main_v18 : Ref sig .tc := ⟨.hbm, 29, rfl⟩
abbrev main_cst_3 : Ref sig .tc := ⟨.hbm, 30, rfl⟩
abbrev main_v19 : Ref sig .tc := ⟨.hbm, 31, rfl⟩
abbrev main_v20 : Ref sig .tc := ⟨.hbm, 32, rfl⟩
abbrev main_cst_4 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_v50 : Ref sig .tc := ⟨.hbm, 63, rfl⟩
abbrev main_v51 : Ref sig .tc := ⟨.hbm, 64, rfl⟩
abbrev main_v52 : Ref sig .tc := ⟨.hbm, 65, rfl⟩
abbrev main_v53 : Ref sig .tc := ⟨.hbm, 66, rfl⟩
abbrev main_v54 : Ref sig .tc := ⟨.hbm, 67, rfl⟩

abbrev nD : Nat := 1
abbrev τ : Topo := Topo.v7x

variable {F : FTy → Type} [FloatOps F]
-- ==== Proj.lean ====
abbrev S2304x2048 : Shape := ⟨2, ![2304, 2048]⟩
abbrev S2048x5824 : Shape := ⟨2, ![2048, 5824]⟩
abbrev S2304x6144 : Shape := ⟨2, ![2304, 6144]⟩
abbrev S2048x1728 : Shape := ⟨2, ![2048, 1728]⟩
abbrev S_ : Shape := ⟨0, ![]⟩
abbrev S2048x320 : Shape := ⟨2, ![2048, 320]⟩
abbrev S2048x4096 : Shape := ⟨2, ![2048, 4096]⟩
abbrev S2048x6144 : Shape := ⟨2, ![2048, 6144]⟩
abbrev S768x2048 : Shape := ⟨2, ![768, 2048]⟩
abbrev S2048x1536 : Shape := ⟨2, ![2048, 1536]⟩
abbrev S768x1536 : Shape := ⟨2, ![768, 1536]⟩
abbrev S2304x1024 : Shape := ⟨2, ![2304, 1024]⟩
abbrev S2304x1536 : Shape := ⟨2, ![2304, 1536]⟩
abbrev S1024x1536 : Shape := ⟨2, ![1024, 1536]⟩

abbrev nBuf : Space → Nat
  | .hbm => 17
  | .vmem => 12
  | .smem => 0
  | _ => 0

abbrev bufTy : (tb : Table) → Fin (tcTables nBuf tb) → BufTy
  | .hbm, ⟨0, _⟩ => ⟨S2304x2048, .f32⟩
  | .hbm, ⟨1, _⟩ => ⟨S2048x5824, .f32⟩
  | .hbm, ⟨2, _⟩ => ⟨S2304x6144, .f32⟩
  | .hbm, ⟨3, _⟩ => ⟨S2048x5824, .bf16⟩
  | .hbm, ⟨4, _⟩ => ⟨S2048x1728, .bf16⟩
  | .hbm, ⟨5, _⟩ => ⟨S_, .bf16⟩
  | .hbm, ⟨6, _⟩ => ⟨S2048x320, .bf16⟩
  | .hbm, ⟨7, _⟩ => ⟨S2048x4096, .bf16⟩
  | .hbm, ⟨8, _⟩ => ⟨S2048x6144, .bf16⟩
  | .hbm, ⟨9, _⟩ => ⟨S2304x2048, .bf16⟩
  | .hbm, ⟨10, _⟩ => ⟨S2304x6144, .f32⟩
  | .hbm, ⟨11, _⟩ => ⟨S2304x2048, .bf16⟩
  | .hbm, ⟨12, _⟩ => ⟨S2304x6144, .bf16⟩
  | .hbm, ⟨13, _⟩ => ⟨S2048x6144, .bf16⟩
  | .hbm, ⟨14, _⟩ => ⟨S2048x1728, .bf16⟩
  | .hbm, ⟨15, _⟩ => ⟨S2048x4096, .bf16⟩
  | .hbm, ⟨16, _⟩ => ⟨S2048x5824, .bf16⟩
  | .local _ .vmem, ⟨0, _⟩ => ⟨S768x2048, .bf16⟩
  | .local _ .vmem, ⟨1, _⟩ => ⟨S768x2048, .bf16⟩
  | .local _ .vmem, ⟨2, _⟩ => ⟨S2048x1536, .bf16⟩
  | .local _ .vmem, ⟨3, _⟩ => ⟨S2048x1536, .bf16⟩
  | .local _ .vmem, ⟨4, _⟩ => ⟨S768x1536, .f32⟩
  | .local _ .vmem, ⟨5, _⟩ => ⟨S768x1536, .f32⟩
  | .local _ .vmem, ⟨6, _⟩ => ⟨S2304x1024, .bf16⟩
  | .local _ .vmem, ⟨7, _⟩ => ⟨S2304x1024, .bf16⟩
  | .local _ .vmem, ⟨8, _⟩ => ⟨S2304x1536, .bf16⟩
  | .local _ .vmem, ⟨9, _⟩ => ⟨S2304x1536, .bf16⟩
  | .local _ .vmem, ⟨10, _⟩ => ⟨S1024x1536, .bf16⟩
  | .local _ .vmem, ⟨11, _⟩ => ⟨S1024x1536, .bf16⟩
  | _, _ => ⟨S2304x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg2_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11

abbrev nD : Nat := 1
abbrev τ : Topo := Topo.v7x

variable {F : FTy → Type} [FloatOps F]

abbrev grid0 : Pipeline.Grid := ⟨3, ![3, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S768x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1536 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S768x1536 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev grid1 : Pipeline.Grid := ⟨3, ![2, 4, 1], ![false, false, false]⟩

def cc1_transform_0 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc1_transform_1 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc1_transform_2 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage1_0 : Fin 2 → Memref sig .tc .vmem S2304x1024 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false, true]

abbrev stage1_1 : Fin 2 → Memref sig .tc .vmem S2304x1536 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true, true]

abbrev stage1_2 : Fin 2 → Memref sig .tc .vmem S1024x1536 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true, false]
-- ==== ProjReferenceIdeal.lean ====
abbrev S2304x2048 : Shape := ⟨2, ![2304, 2048]⟩
abbrev S2048x5824 : Shape := ⟨2, ![2048, 5824]⟩
abbrev S2304x6144 : Shape := ⟨2, ![2304, 6144]⟩
abbrev S2304x5824 : Shape := ⟨2, ![2304, 5824]⟩
abbrev S_ : Shape := ⟨0, ![]⟩
abbrev S2304x320 : Shape := ⟨2, ![2304, 320]⟩
abbrev S2304x1728 : Shape := ⟨2, ![2304, 1728]⟩
abbrev S2304x4096 : Shape := ⟨2, ![2304, 4096]⟩
abbrev S5824x2048 : Shape := ⟨2, ![5824, 2048]⟩

abbrev nBuf : Space → Nat
  | .hbm => 15
  | .vmem => 0
  | .smem => 0
  | _ => 0

abbrev bufTy : (tb : Table) → Fin (tcTables nBuf tb) → BufTy
  | .hbm, ⟨0, _⟩ => ⟨S2304x2048, .f32⟩
  | .hbm, ⟨1, _⟩ => ⟨S2048x5824, .f32⟩
  | .hbm, ⟨2, _⟩ => ⟨S2304x6144, .f32⟩
  | .hbm, ⟨3, _⟩ => ⟨S2304x5824, .f32⟩
  | .hbm, ⟨4, _⟩ => ⟨S_, .f32⟩
  | .hbm, ⟨5, _⟩ => ⟨S2304x320, .f32⟩
  | .hbm, ⟨6, _⟩ => ⟨S2304x1728, .f32⟩
  | .hbm, ⟨7, _⟩ => ⟨S2304x4096, .f32⟩
  | .hbm, ⟨8, _⟩ => ⟨S2304x6144, .f32⟩
  | .hbm, ⟨9, _⟩ => ⟨S2304x1728, .f32⟩
  | .hbm, ⟨10, _⟩ => ⟨S2304x4096, .f32⟩
  | .hbm, ⟨11, _⟩ => ⟨S2304x5824, .f32⟩
  | .hbm, ⟨12, _⟩ => ⟨S5824x2048, .f32⟩
  | .hbm, ⟨13, _⟩ => ⟨S2048x5824, .f32⟩
  | .hbm, ⟨14, _⟩ => ⟨S2048x5824, .bf16⟩
  | _, _ => ⟨S2304x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩

abbrev nD : Nat := 1
abbrev τ : Topo := Topo.v7x

variable {F : FTy → Type} [FloatOps F]
-- ==== ProjX.lean ====
abbrev S2048x5824 : Shape := ⟨2, ![2048, 5824]⟩
abbrev S2304x6144 : Shape := ⟨2, ![2304, 6144]⟩
abbrev S2048x1728 : Shape := ⟨2, ![2048, 1728]⟩
abbrev S_ : Shape := ⟨0, ![]⟩
abbrev S2048x320 : Shape := ⟨2, ![2048, 320]⟩
abbrev S2048x4096 : Shape := ⟨2, ![2048, 4096]⟩
abbrev S2048x6144 : Shape := ⟨2, ![2048, 6144]⟩
abbrev S2304x2048 : Shape := ⟨2, ![2304, 2048]⟩
abbrev S768x2048 : Shape := ⟨2, ![768, 2048]⟩
abbrev S1024x2048 : Shape := ⟨2, ![1024, 2048]⟩
abbrev S768x1024 : Shape := ⟨2, ![768, 1024]⟩

abbrev nBuf : Space → Nat
  | .hbm => 10
  | .vmem => 6
  | .smem => 0
  | _ => 0

abbrev bufTy : (tb : Table) → Fin (tcTables nBuf tb) → BufTy
  | .hbm, ⟨0, _⟩ => ⟨S2048x5824, .f32⟩
  | .hbm, ⟨1, _⟩ => ⟨S2304x6144, .f32⟩
  | .hbm, ⟨2, _⟩ => ⟨S2048x5824, .bf16⟩
  | .hbm, ⟨3, _⟩ => ⟨S2048x1728, .bf16⟩
  | .hbm, ⟨4, _⟩ => ⟨S_, .bf16⟩
  | .hbm, ⟨5, _⟩ => ⟨S2048x320, .bf16⟩
  | .hbm, ⟨6, _⟩ => ⟨S2048x4096, .bf16⟩
  | .hbm, ⟨7, _⟩ => ⟨S2048x6144, .bf16⟩
  | .hbm, ⟨8, _⟩ => ⟨S2304x6144, .bf16⟩
  | .hbm, ⟨9, _⟩ => ⟨S2304x2048, .f32⟩
  | .local _ .vmem, ⟨0, _⟩ => ⟨S768x2048, .bf16⟩
  | .local _ .vmem, ⟨1, _⟩ => ⟨S768x2048, .bf16⟩
  | .local _ .vmem, ⟨2, _⟩ => ⟨S1024x2048, .bf16⟩
  | .local _ .vmem, ⟨3, _⟩ => ⟨S1024x2048, .bf16⟩
  | .local _ .vmem, ⟨4, _⟩ => ⟨S768x1024, .f32⟩
  | .local _ .vmem, ⟨5, _⟩ => ⟨S768x1024, .f32⟩
  | _, _ => ⟨S2048x5824, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![3, 2, 3], ![false, false, false]⟩

def k0_cond1 (i : grid0.Coords) : BitVec 1 :=
  let arg2 : BitVec 32 := BitVec.ofNat 32 (i 2).val
  let c0_i32 : BitVec 32 := 0#32
  let v5 : BitVec 1 := Scalar.cmpi .eq arg2 c0_i32
  let v6 : BitVec 32 := Scalar.extui v5
  let c0_i32_3 : BitVec 32 := 0#32
  let v7 : BitVec 1 := Scalar.cmpi .ne v6 c0_i32_3
  v7

def k0_cond2 (i : grid0.Coords) : BitVec 1 :=
  let arg2 : BitVec 32 := BitVec.ofNat 32 (i 2).val
  let c0_i32_4 : BitVec 32 := 0#32
  let v8 : BitVec 1 := Scalar.cmpi .sgt arg2 c0_i32_4
  let v9 : BitVec 32 := Scalar.extui v8
  let c0_i32_5 : BitVec 32 := 0#32
  let v10 : BitVec 1 := Scalar.cmpi .ne v9 c0_i32_5
  v10

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S768x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S768x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ProjXReferenceIdeal.lean ====
abbrev S2048x5824 : Shape := ⟨2, ![2048, 5824]⟩
abbrev S2304x6144 : Shape := ⟨2, ![2304, 6144]⟩
abbrev S_ : Shape := ⟨0, ![]⟩
abbrev S2304x2048 : Shape := ⟨2, ![2304, 2048]⟩
abbrev S2304x5824 : Shape := ⟨2, ![2304, 5824]⟩
abbrev S2304x1728 : Shape := ⟨2, ![2304, 1728]⟩
abbrev S2304x4096 : Shape := ⟨2, ![2304, 4096]⟩

abbrev nBuf : Space → Nat
  | .hbm => 9
  | .vmem => 0
  | .smem => 0
  | _ => 0

abbrev bufTy : (tb : Table) → Fin (tcTables nBuf tb) → BufTy
  | .hbm, ⟨0, _⟩ => ⟨S2048x5824, .f32⟩
  | .hbm, ⟨1, _⟩ => ⟨S2304x6144, .f32⟩
  | .hbm, ⟨2, _⟩ => ⟨S_, .f32⟩
  | .hbm, ⟨3, _⟩ => ⟨S2304x2048, .f32⟩
  | .hbm, ⟨4, _⟩ => ⟨S2304x5824, .f32⟩
  | .hbm, ⟨5, _⟩ => ⟨S2304x1728, .f32⟩
  | .hbm, ⟨6, _⟩ => ⟨S2304x4096, .f32⟩
  | .hbm, ⟨7, _⟩ => ⟨S2304x5824, .f32⟩
  | .hbm, ⟨8, _⟩ => ⟨S2304x2048, .f32⟩
  | _, _ => ⟨S2048x5824, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== GluX.lean ====
abbrev S1024x4096 : Shape := ⟨2, ![1024, 4096]⟩
abbrev S2048x4096 : Shape := ⟨2, ![2048, 4096]⟩
abbrev S1024x8x512 : Shape := ⟨3, ![1024, 8, 512]⟩
abbrev S8x1024x512 : Shape := ⟨3, ![8, 1024, 512]⟩
abbrev S2048x1024 : Shape := ⟨2, ![2048, 1024]⟩
abbrev S1024x512 : Shape := ⟨2, ![1024, 512]⟩
abbrev S1x1024x512 : Shape := ⟨3, ![1, 1024, 512]⟩
abbrev S1024x1024 : Shape := ⟨2, ![1024, 1024]⟩

abbrev nBuf : Space → Nat
  | .hbm => 7
  | .vmem => 7
  | .smem => 0
  | _ => 0

abbrev bufTy : (tb : Table) → Fin (tcTables nBuf tb) → BufTy
  | .hbm, ⟨0, _⟩ => ⟨S1024x4096, .f32⟩
  | .hbm, ⟨1, _⟩ => ⟨S2048x4096, .f32⟩
  | .hbm, ⟨2, _⟩ => ⟨S1024x8x512, .f32⟩
  | .hbm, ⟨3, _⟩ => ⟨S8x1024x512, .f32⟩
  | .hbm, ⟨4, _⟩ => ⟨S2048x4096, .bf16⟩
  | .hbm, ⟨5, _⟩ => ⟨S8x1024x512, .bf16⟩
  | .hbm, ⟨6, _⟩ => ⟨S2048x1024, .bf16⟩
  | .local _ .vmem, ⟨0, _⟩ => ⟨S1024x512, .bf16⟩
  | .local _ .vmem, ⟨1, _⟩ => ⟨S1024x512, .bf16⟩
  | .local _ .vmem, ⟨2, _⟩ => ⟨S1x1024x512, .bf16⟩
  | .local _ .vmem, ⟨3, _⟩ => ⟨S1x1024x512, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .f32⟩
  | _, _ => ⟨S1024x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 1, 8], ![false, false, false]⟩

def k0_cond3 (i : grid0.Coords) : BitVec 1 :=
  let arg2 : BitVec 32 := BitVec.ofNat 32 (i 2).val
  let c7_i32 : BitVec 32 := 7#32
  let v11 : BitVec 1 := Scalar.cmpi .eq arg2 c7_i32
  let v12 : BitVec 32 := Scalar.extui v11
  let c0_i32_7 : BitVec 32 := 0#32
  let v13 : BitVec 1 := Scalar.cmpi .ne v12 c0_i32_7
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg2 c1_i32
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg2 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg2 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg1.toNat, v26.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== GluXReferenceIdeal.lean ====
abbrev S1024x4096 : Shape := ⟨2, ![1024, 4096]⟩
abbrev S2048x4096 : Shape := ⟨2, ![2048, 4096]⟩
abbrev S_ : Shape := ⟨0, ![]⟩
abbrev S2048x1024 : Shape := ⟨2, ![2048, 1024]⟩

abbrev nBuf : Space → Nat
  | .hbm => 7
  | .vmem => 0
  | .smem => 0
  | _ => 0

abbrev bufTy : (tb : Table) → Fin (tcTables nBuf tb) → BufTy
  | .hbm, ⟨0, _⟩ => ⟨S1024x4096, .f32⟩
  | .hbm, ⟨1, _⟩ => ⟨S2048x4096, .f32⟩
  | .hbm, ⟨2, _⟩ => ⟨S_, .f32⟩
  | .hbm, ⟨3, _⟩ => ⟨S2048x1024, .f32⟩
  | .hbm, ⟨4, _⟩ => ⟨S2048x4096, .f32⟩
  | .hbm, ⟨5, _⟩ => ⟨S2048x1024, .f32⟩
  | .hbm, ⟨6, _⟩ => ⟨S2048x1024, .bf16⟩
  | _, _ => ⟨S1024x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== MlaX.lean ====
abbrev S1024x2048 : Shape := ⟨2, ![1024, 2048]⟩
abbrev S2048x2048 : Shape := ⟨2, ![2048, 2048]⟩
abbrev S1024x8x256 : Shape := ⟨3, ![1024, 8, 256]⟩
abbrev S8x1024x256 : Shape := ⟨3, ![8, 1024, 256]⟩
abbrev S2048x1024 : Shape := ⟨2, ![2048, 1024]⟩
abbrev S1024x256 : Shape := ⟨2, ![1024, 256]⟩
abbrev S1x1024x256 : Shape := ⟨3, ![1, 1024, 256]⟩
abbrev S1024x1024 : Shape := ⟨2, ![1024, 1024]⟩

abbrev nBuf : Space → Nat
  | .hbm => 7
  | .vmem => 7
  | .smem => 0
  | _ => 0

abbrev bufTy : (tb : Table) → Fin (tcTables nBuf tb) → BufTy
  | .hbm, ⟨0, _⟩ => ⟨S1024x2048, .f32⟩
  | .hbm, ⟨1, _⟩ => ⟨S2048x2048, .f32⟩
  | .hbm, ⟨2, _⟩ => ⟨S1024x8x256, .f32⟩
  | .hbm, ⟨3, _⟩ => ⟨S8x1024x256, .f32⟩
  | .hbm, ⟨4, _⟩ => ⟨S2048x2048, .bf16⟩
  | .hbm, ⟨5, _⟩ => ⟨S8x1024x256, .bf16⟩
  | .hbm, ⟨6, _⟩ => ⟨S2048x1024, .bf16⟩
  | .local _ .vmem, ⟨0, _⟩ => ⟨S1024x256, .bf16⟩
  | .local _ .vmem, ⟨1, _⟩ => ⟨S1024x256, .bf16⟩
  | .local _ .vmem, ⟨2, _⟩ => ⟨S1x1024x256, .bf16⟩
  | .local _ .vmem, ⟨3, _⟩ => ⟨S1x1024x256, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .f32⟩
  | _, _ => ⟨S1024x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 1, 8], ![false, false, false]⟩

def k0_cond3 (i : grid0.Coords) : BitVec 1 :=
  let arg2 : BitVec 32 := BitVec.ofNat 32 (i 2).val
  let c7_i32 : BitVec 32 := 7#32
  let v11 : BitVec 1 := Scalar.cmpi .eq arg2 c7_i32
  let v12 : BitVec 32 := Scalar.extui v11
  let c0_i32_7 : BitVec 32 := 0#32
  let v13 : BitVec 1 := Scalar.cmpi .ne v12 c0_i32_7
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg2 c1_i32
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg2 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg2 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg1.toNat, v26.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1024x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== MlaXReferenceIdeal.lean ====
abbrev S1024x2048 : Shape := ⟨2, ![1024, 2048]⟩
abbrev S2048x2048 : Shape := ⟨2, ![2048, 2048]⟩
abbrev S_ : Shape := ⟨0, ![]⟩
abbrev S2048x1024 : Shape := ⟨2, ![2048, 1024]⟩

abbrev nBuf : Space → Nat
  | .hbm => 7
  | .vmem => 0
  | .smem => 0
  | _ => 0

abbrev bufTy : (tb : Table) → Fin (tcTables nBuf tb) → BufTy
  | .hbm, ⟨0, _⟩ => ⟨S1024x2048, .f32⟩
  | .hbm, ⟨1, _⟩ => ⟨S2048x2048, .f32⟩
  | .hbm, ⟨2, _⟩ => ⟨S_, .f32⟩
  | .hbm, ⟨3, _⟩ => ⟨S2048x1024, .f32⟩
  | .hbm, ⟨4, _⟩ => ⟨S2048x2048, .f32⟩
  | .hbm, ⟨5, _⟩ => ⟨S2048x1024, .f32⟩
  | .hbm, ⟨6, _⟩ => ⟨S2048x1024, .bf16⟩
  | _, _ => ⟨S1024x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Latent.lean ====
abbrev S2048x512 : Shape := ⟨2, ![2048, 512]⟩
abbrev S2304x256 : Shape := ⟨2, ![2304, 256]⟩
abbrev S512x1536 : Shape := ⟨2, ![512, 1536]⟩
abbrev S256x2048 : Shape := ⟨2, ![256, 2048]⟩
abbrev S2048x2048 : Shape := ⟨2, ![2048, 2048]⟩
abbrev S2304x2048 : Shape := ⟨2, ![2304, 2048]⟩
abbrev S512x8x192 : Shape := ⟨3, ![512, 8, 192]⟩
abbrev S512x8x64 : Shape := ⟨3, ![512, 8, 64]⟩
abbrev S_ : Shape := ⟨0, ![]⟩
abbrev S512x8x128 : Shape := ⟨3, ![512, 8, 128]⟩
abbrev S512x1024 : Shape := ⟨2, ![512, 1024]⟩
abbrev S512x2048 : Shape := ⟨2, ![512, 2048]⟩
abbrev S256x8x256 : Shape := ⟨3, ![256, 8, 256]⟩
abbrev S256x8x128 : Shape := ⟨3, ![256, 8, 128]⟩
abbrev S256x1024 : Shape := ⟨2, ![256, 1024]⟩
abbrev S1024x512 : Shape := ⟨2, ![1024, 512]⟩
abbrev S1024x1024 : Shape := ⟨2, ![1024, 1024]⟩
abbrev S768x256 : Shape := ⟨2, ![768, 256]⟩
abbrev S768x1024 : Shape := ⟨2, ![768, 1024]⟩
abbrev S1024x2048 : Shape := ⟨2, ![1024, 2048]⟩
abbrev S2048x1024 : Shape := ⟨2, ![2048, 1024]⟩
abbrev S768x2048 : Shape := ⟨2, ![768, 2048]⟩
abbrev S2304x1024 : Shape := ⟨2, ![2304, 1024]⟩

abbrev nBuf : Space → Nat
  | .hbm => 50
  | .vmem => 32
  | .smem => 0
  | _ => 0

abbrev bufTy : (tb : Table) → Fin (tcTables nBuf tb) → BufTy
  | .hbm, ⟨0, _⟩ => ⟨S2048x512, .f32⟩
  | .hbm, ⟨1, _⟩ => ⟨S2304x256, .f32⟩
  | .hbm, ⟨2, _⟩ => ⟨S512x1536, .f32⟩
  | .hbm, ⟨3, _⟩ => ⟨S256x2048, .f32⟩
  | .hbm, ⟨4, _⟩ => ⟨S2048x2048, .f32⟩
  | .hbm, ⟨5, _⟩ => ⟨S2304x2048, .f32⟩
  | .hbm, ⟨6, _⟩ => ⟨S512x1536, .bf16⟩
  | .hbm, ⟨7, _⟩ => ⟨S512x8x192, .bf16⟩
  | .hbm, ⟨8, _⟩ => ⟨S512x8x64, .bf16⟩
  | .hbm, ⟨9, _⟩ => ⟨S_, .i32⟩
  | .hbm, ⟨10, _⟩ => ⟨S_, .bf16⟩
  | .hbm, ⟨11, _⟩ => ⟨S512x8x128, .bf16⟩
  | .hbm, ⟨12, _⟩ => ⟨S512x8x128, .bf16⟩
  | .hbm, ⟨13, _⟩ => ⟨S512x1024, .bf16⟩
  | .hbm, ⟨14, _⟩ => ⟨S512x1024, .bf16⟩
  | .hbm, ⟨15, _⟩ => ⟨S512x2048, .bf16⟩
  | .hbm, ⟨16, _⟩ => ⟨S256x2048, .bf16⟩
  | .hbm, ⟨17, _⟩ => ⟨S256x8x256, .bf16⟩
  | .hbm, ⟨18, _⟩ => ⟨S256x8x128, .bf16⟩
  | .hbm, ⟨19, _⟩ => ⟨S256x1024, .bf16⟩
  | .hbm, ⟨20, _⟩ => ⟨S256x8x128, .bf16⟩
  | .hbm, ⟨21, _⟩ => ⟨S256x1024, .bf16⟩
  | .hbm, ⟨22, _⟩ => ⟨S256x2048, .bf16⟩
  | .hbm, ⟨23, _⟩ => ⟨S2048x512, .bf16⟩
  | .hbm, ⟨24, _⟩ => ⟨S2048x2048, .f32⟩
  | .hbm, ⟨25, _⟩ => ⟨S2304x256, .bf16⟩
  | .hbm, ⟨26, _⟩ => ⟨S2304x2048, .bf16⟩
  | .hbm, ⟨27, _⟩ => ⟨S2048x2048, .bf16⟩
  | .hbm, ⟨28, _⟩ => ⟨S2048x512, .f32⟩
  | .hbm, ⟨29, _⟩ => ⟨S2048x512, .bf16⟩
  | .hbm, ⟨30, _⟩ => ⟨S2048x2048, .bf16⟩
  | .hbm, ⟨31, _⟩ => ⟨S512x2048, .bf16⟩
  | .hbm, ⟨32, _⟩ => ⟨S2304x2048, .bf16⟩
  | .hbm, ⟨33, _⟩ => ⟨S2304x256, .f32⟩
  | .hbm, ⟨34, _⟩ => ⟨S2304x256, .bf16⟩
  | .hbm, ⟨35, _⟩ => ⟨S2304x2048, .bf16⟩
  | .hbm, ⟨36, _⟩ => ⟨S256x2048, .bf16⟩
  | .hbm, ⟨37, _⟩ => ⟨S512x1024, .bf16⟩
  | .hbm, ⟨38, _⟩ => ⟨S512x8x128, .bf16⟩
  | .hbm, ⟨39, _⟩ => ⟨S512x1024, .bf16⟩
  | .hbm, ⟨40, _⟩ => ⟨S512x8x128, .bf16⟩
  | .hbm, ⟨41, _⟩ => ⟨S512x8x64, .bf16⟩
  | .hbm, ⟨42, _⟩ => ⟨S512x8x192, .bf16⟩
  | .hbm, ⟨43, _⟩ => ⟨S512x1536, .bf16⟩
  | .hbm, ⟨44, _⟩ => ⟨S256x1024, .bf16⟩
  | .hbm, ⟨45, _⟩ => ⟨S256x8x128, .bf16⟩
  | .hbm, ⟨46, _⟩ => ⟨S256x1024, .bf16⟩
  | .hbm, ⟨47, _⟩ => ⟨S256x8x128, .bf16⟩
  | .hbm, ⟨48, _⟩ => ⟨S256x8x256, .bf16⟩
  | .hbm, ⟨49, _⟩ => ⟨S256x2048, .bf16⟩
  | .local _ .vmem, ⟨0, _⟩ => ⟨S1024x512, .bf16⟩
  | .local _ .vmem, ⟨1, _⟩ => ⟨S1024x512, .bf16⟩
  | .local _ .vmem, ⟨2, _⟩ => ⟨S512x1024, .bf16⟩
  | .local _ .vmem, ⟨3, _⟩ => ⟨S512x1024, .bf16⟩
  | .local _ .vmem, ⟨4, _⟩ => ⟨S1024x1024, .f32⟩
  | .local _ .vmem, ⟨5, _⟩ => ⟨S1024x1024, .f32⟩
  | .local _ .vmem, ⟨6, _⟩ => ⟨S768x256, .bf16⟩
  | .local _ .vmem, ⟨7, _⟩ => ⟨S768x256, .bf16⟩
  | .local _ .vmem, ⟨8, _⟩ => ⟨S256x1024, .bf16⟩
  | .local _ .vmem, ⟨9, _⟩ => ⟨S256x1024, .bf16⟩
  | .local _ .vmem, ⟨10, _⟩ => ⟨S768x1024, .bf16⟩
  | .local _ .vmem, ⟨11, _⟩ => ⟨S768x1024, .bf16⟩
  | .local _ .vmem, ⟨12, _⟩ => ⟨S1024x2048, .bf16⟩
  | .local _ .vmem, ⟨13, _⟩ => ⟨S1024x2048, .bf16⟩
  | .local _ .vmem, ⟨14, _⟩ => ⟨S512x2048, .bf16⟩
  | .local _ .vmem, ⟨15, _⟩ => ⟨S1024x512, .f32⟩
  | .local _ .vmem, ⟨16, _⟩ => ⟨S1024x512, .f32⟩
  | .local _ .vmem, ⟨17, _⟩ => ⟨S2048x512, .bf16⟩
  | .local _ .vmem, ⟨18, _⟩ => ⟨S2048x1024, .bf16⟩
  | .local _ .vmem, ⟨19, _⟩ => ⟨S2048x1024, .bf16⟩
  | .local _ .vmem, ⟨20, _⟩ => ⟨S512x1024, .bf16⟩
  | .local _ .vmem, ⟨21, _⟩ => ⟨S512x1024, .bf16⟩
  | .local _ .vmem, ⟨22, _⟩ => ⟨S768x2048, .bf16⟩
  | .local _ .vmem, ⟨23, _⟩ => ⟨S768x2048, .bf16⟩
  | .local _ .vmem, ⟨24, _⟩ => ⟨S256x2048, .bf16⟩
  | .local _ .vmem, ⟨25, _⟩ => ⟨S768x256, .f32⟩
  | .local _ .vmem, ⟨26, _⟩ => ⟨S768x256, .f32⟩
  | .local _ .vmem, ⟨27, _⟩ => ⟨S2304x256, .bf16⟩
  | .local _ .vmem, ⟨28, _⟩ => ⟨S2304x1024, .bf16⟩
  | .local _ .vmem, ⟨29, _⟩ => ⟨S2304x1024, .bf16⟩
  | .local _ .vmem, ⟨30, _⟩ => ⟨S256x1024, .bf16⟩
  | .local _ .vmem, ⟨31, _⟩ => ⟨S256x1024, .bf16⟩
  | _, _ => ⟨S2048x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | _, _ => false

abbrev semScoped : Fin 0 → Bool
  | ⟨_, h⟩ => absurd h (Nat.not_lt_zero _)

abbrev dmaSemScoped : Fin 32 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | _ => false

abbrev sig : RefSig :=
  ofTc nBuf bufTy 0 32 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_c : Ref sig .tc := ⟨.hbm, 9, rfl⟩
abbrev main_call0_v0 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_v36 : Ref sig .tc := ⟨.hbm, 44, rfl⟩
abbrev main_v37 : Ref sig .tc := ⟨.hbm, 45, rfl⟩
abbrev main_v38 : Ref sig .tc := ⟨.hbm, 46, rfl⟩
abbrev main_v39 : Ref sig .tc := ⟨.hbm, 47, rfl⟩
abbrev main_v40 : Ref sig .tc := ⟨.hbm, 48, rfl⟩
abbrev main_v41 : Ref sig .tc := ⟨.hbm, 49, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg2_1 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg2_0 : Ref sig .tc := ⟨.vmem, 15, rfl⟩
abbrev cc2_stg2_1 : Ref sig .tc := ⟨.vmem, 16, rfl⟩
abbrev cc3_stg0_0 : Ref sig .tc := ⟨.vmem, 17, rfl⟩
abbrev cc3_stg1_0 : Ref sig .tc := ⟨.vmem, 18, rfl⟩
abbrev cc3_stg1_1 : Ref sig .tc := ⟨.vmem, 19, rfl⟩
abbrev cc3_stg2_0 : Ref sig .tc := ⟨.vmem, 20, rfl⟩
abbrev cc3_stg2_1 : Ref sig .tc := ⟨.vmem, 21, rfl⟩
abbrev cc4_stg0_0 : Ref sig .tc := ⟨.vmem, 22, rfl⟩
abbrev cc4_stg0_1 : Ref sig .tc := ⟨.vmem, 23, rfl⟩
abbrev cc4_stg1_0 : Ref sig .tc := ⟨.vmem, 24, rfl⟩
abbrev cc4_stg2_0 : Ref sig .tc := ⟨.vmem, 25, rfl⟩
abbrev cc4_stg2_1 : Ref sig .tc := ⟨.vmem, 26, rfl⟩
abbrev cc5_stg0_0 : Ref sig .tc := ⟨.vmem, 27, rfl⟩
abbrev cc5_stg1_0 : Ref sig .tc := ⟨.vmem, 28, rfl⟩
abbrev cc5_stg1_1 : Ref sig .tc := ⟨.vmem, 29, rfl⟩
abbrev cc5_stg2_0 : Ref sig .tc := ⟨.vmem, 30, rfl⟩
abbrev cc5_stg2_1 : Ref sig .tc := ⟨.vmem, 31, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11
abbrev cc2_sem0_0 : DmaSem sig := 12
abbrev cc2_sem0_1 : DmaSem sig := 13
abbrev cc2_sem1_0 : DmaSem sig := 14
abbrev cc2_sem2_0 : DmaSem sig := 15
abbrev cc2_sem2_1 : DmaSem sig := 16
abbrev cc3_sem0_0 : DmaSem sig := 17
abbrev cc3_sem1_0 : DmaSem sig := 18
abbrev cc3_sem1_1 : DmaSem sig := 19
abbrev cc3_sem2_0 : DmaSem sig := 20
abbrev cc3_sem2_1 : DmaSem sig := 21
abbrev cc4_sem0_0 : DmaSem sig := 22
abbrev cc4_sem0_1 : DmaSem sig := 23
abbrev cc4_sem1_0 : DmaSem sig := 24
abbrev cc4_sem2_0 : DmaSem sig := 25
abbrev cc4_sem2_1 : DmaSem sig := 26
abbrev cc5_sem0_0 : DmaSem sig := 27
abbrev cc5_sem1_0 : DmaSem sig := 28
abbrev cc5_sem1_1 : DmaSem sig := 29
abbrev cc5_sem2_0 : DmaSem sig := 30
abbrev cc5_sem2_1 : DmaSem sig := 31

abbrev nD : Nat := 1
abbrev τ : Topo := Topo.v7x

variable {F : FTy → Type} [FloatOps F]

abbrev grid0 : Pipeline.Grid := ⟨3, ![2, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev grid1 : Pipeline.Grid := ⟨3, ![3, 2, 1], ![false, false, false]⟩

def cc1_transform_0 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc1_transform_1 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc1_transform_2 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage1_0 : Fin 2 → Memref sig .tc .vmem S768x256 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false, true]

abbrev stage1_1 : Fin 2 → Memref sig .tc .vmem S256x1024 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true, true]

abbrev stage1_2 : Fin 2 → Memref sig .tc .vmem S768x1024 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true, false]

abbrev grid2 : Pipeline.Grid := ⟨3, ![2, 1, 1], ![false, false, false]⟩

def cc2_transform_0 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc2_transform_1 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc2_transform_2 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage2_0 : Fin 2 → Memref sig .tc .vmem S1024x2048 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, false, true]

abbrev stage2_1 : Fin 1 → Memref sig .tc .vmem S512x2048 .bf16 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false, true, true]

abbrev stage2_2 : Fin 2 → Memref sig .tc .vmem S1024x512 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, true, false]

abbrev grid3 : Pipeline.Grid := ⟨3, ![1, 2, 1], ![false, false, false]⟩

def cc3_transform_0 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc3_transform_1 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc3_transform_2 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage3_0 : Fin 1 → Memref sig .tc .vmem S2048x512 .bf16 := fun | 0 => Memref.whole cc3_stg0_0 | ⟨_ + 1, h⟩ => absurd h (Nat.not_lt.2 (Nat.le_add_left _ _))
abbrev sem3_0 : Fin 1 → DmaSem sig := fun | 0 => cc3_sem0_0 | ⟨_ + 1, h⟩ => absurd h (Nat.not_lt.2 (Nat.le_add_left _ _))
abbrev reads3_0 : Fin grid3.rank → Bool := ![true, false, true]

abbrev stage3_1 : Fin 2 → Memref sig .tc .vmem S2048x1024 .bf16 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![false, true, true]

abbrev stage3_2 : Fin 2 → Memref sig .tc .vmem S512x1024 .bf16 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true, true, false]

abbrev grid4 : Pipeline.Grid := ⟨3, ![3, 1, 1], ![false, false, false]⟩

def cc4_transform_0 (i : grid4.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc4_transform_1 (i : grid4.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc4_transform_2 (i : grid4.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage4_0 : Fin 2 → Memref sig .tc .vmem S768x2048 .bf16 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true, false, true]

abbrev stage4_1 : Fin 1 → Memref sig .tc .vmem S256x2048 .bf16 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false, true, true]

abbrev stage4_2 : Fin 2 → Memref sig .tc .vmem S768x256 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true, true, false]

abbrev grid5 : Pipeline.Grid := ⟨3, ![1, 2, 1], ![false, false, false]⟩

def cc5_transform_0 (i : grid5.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc5_transform_1 (i : grid5.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc5_transform_2 (i : grid5.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage5_0 : Fin 1 → Memref sig .tc .vmem S2304x256 .bf16 := fun | 0 => Memref.whole cc5_stg0_0 | ⟨_ + 1, h⟩ => absurd h (Nat.not_lt.2 (Nat.le_add_left _ _))
abbrev sem5_0 : Fin 1 → DmaSem sig := fun | 0 => cc5_sem0_0 | ⟨_ + 1, h⟩ => absurd h (Nat.not_lt.2 (Nat.le_add_left _ _))
abbrev reads5_0 : Fin grid5.rank → Bool := ![true, false, true]

abbrev stage5_1 : Fin 2 → Memref sig .tc .vmem S2304x1024 .bf16 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![false, true, true]

abbrev stage5_2 : Fin 2 → Memref sig .tc .vmem S256x1024 .bf16 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true, true, false]
-- ==== LatentReferenceIdeal.lean ====
abbrev S2048x512 : Shape := ⟨2, ![2048, 512]⟩
abbrev S2304x256 : Shape := ⟨2, ![2304, 256]⟩
abbrev S512x1536 : Shape := ⟨2, ![512, 1536]⟩
abbrev S256x2048 : Shape := ⟨2, ![256, 2048]⟩
abbrev S2048x2048 : Shape := ⟨2, ![2048, 2048]⟩
abbrev S2304x2048 : Shape := ⟨2, ![2304, 2048]⟩
abbrev S2048x1536 : Shape := ⟨2, ![2048, 1536]⟩
abbrev S2048x8x192 : Shape := ⟨3, ![2048, 8, 192]⟩
abbrev S2048x8x128 : Shape := ⟨3, ![2048, 8, 128]⟩
abbrev S2048x1024 : Shape := ⟨2, ![2048, 1024]⟩
abbrev S2048x8x64 : Shape := ⟨3, ![2048, 8, 64]⟩
abbrev S2304x8x256 : Shape := ⟨3, ![2304, 8, 256]⟩
abbrev S2304x8x128 : Shape := ⟨3, ![2304, 8, 128]⟩
abbrev S2304x1024 : Shape := ⟨2, ![2304, 1024]⟩
abbrev S_ : Shape := ⟨0, ![]⟩
abbrev S1536x512 : Shape := ⟨2, ![1536, 512]⟩
abbrev S2048x256 : Shape := ⟨2, ![2048, 256]⟩

abbrev nBuf : Space → Nat
  | .hbm => 45
  | .vmem => 0
  | .smem => 0
  | _ => 0

abbrev bufTy : (tb : Table) → Fin (tcTables nBuf tb) → BufTy
  | .hbm, ⟨0, _⟩ => ⟨S2048x512, .f32⟩
  | .hbm, ⟨1, _⟩ => ⟨S2304x256, .f32⟩
  | .hbm, ⟨2, _⟩ => ⟨S512x1536, .f32⟩
  | .hbm, ⟨3, _⟩ => ⟨S256x2048, .f32⟩
  | .hbm, ⟨4, _⟩ => ⟨S2048x2048, .f32⟩
  | .hbm, ⟨5, _⟩ => ⟨S2304x2048, .f32⟩
  | .hbm, ⟨6, _⟩ => ⟨S2048x1536, .f32⟩
  | .hbm, ⟨7, _⟩ => ⟨S2304x2048, .f32⟩
  | .hbm, ⟨8, _⟩ => ⟨S2048x8x192, .f32⟩
  | .hbm, ⟨9, _⟩ => ⟨S2048x8x128, .f32⟩
  | .hbm, ⟨10, _⟩ => ⟨S2048x1024, .f32⟩
  | .hbm, ⟨11, _⟩ => ⟨S2048x8x64, .f32⟩
  | .hbm, ⟨12, _⟩ => ⟨S2304x8x256, .f32⟩
  | .hbm, ⟨13, _⟩ => ⟨S2304x8x128, .f32⟩
  | .hbm, ⟨14, _⟩ => ⟨S2304x1024, .f32⟩
  | .hbm, ⟨15, _⟩ => ⟨S2304x8x128, .f32⟩
  | .hbm, ⟨16, _⟩ => ⟨S_, .i32⟩
  | .hbm, ⟨17, _⟩ => ⟨S_, .f32⟩
  | .hbm, ⟨18, _⟩ => ⟨S2048x8x128, .f32⟩
  | .hbm, ⟨19, _⟩ => ⟨S2048x1024, .f32⟩
  | .hbm, ⟨20, _⟩ => ⟨S2048x1024, .f32⟩
  | .hbm, ⟨21, _⟩ => ⟨S2048x8x128, .f32⟩
  | .hbm, ⟨22, _⟩ => ⟨S2048x1024, .f32⟩
  | .hbm, ⟨23, _⟩ => ⟨S2048x8x128, .f32⟩
  | .hbm, ⟨24, _⟩ => ⟨S2048x8x64, .f32⟩
  | .hbm, ⟨25, _⟩ => ⟨S2048x8x192, .f32⟩
  | .hbm, ⟨26, _⟩ => ⟨S2304x1024, .f32⟩
  | .hbm, ⟨27, _⟩ => ⟨S2304x8x128, .f32⟩
  | .hbm, ⟨28, _⟩ => ⟨S2304x1024, .f32⟩
  | .hbm, ⟨29, _⟩ => ⟨S2304x8x128, .f32⟩
  | .hbm, ⟨30, _⟩ => ⟨S2304x8x256, .f32⟩
  | .hbm, ⟨31, _⟩ => ⟨S2048x1536, .f32⟩
  | .hbm, ⟨32, _⟩ => ⟨S1536x512, .f32⟩
  | .hbm, ⟨33, _⟩ => ⟨S512x1536, .f32⟩
  | .hbm, ⟨34, _⟩ => ⟨S2048x512, .f32⟩
  | .hbm, ⟨35, _⟩ => ⟨S2304x2048, .f32⟩
  | .hbm, ⟨36, _⟩ => ⟨S2048x256, .f32⟩
  | .hbm, ⟨37, _⟩ => ⟨S256x2048, .f32⟩
  | .hbm, ⟨38, _⟩ => ⟨S2304x256, .f32⟩
  | .hbm, ⟨39, _⟩ => ⟨S2048x2048, .f32⟩
  | .hbm, ⟨40, _⟩ => ⟨S2304x1024, .f32⟩
  | .hbm, ⟨41, _⟩ => ⟨S2304x2048, .f32⟩
  | .hbm, ⟨42, _⟩ => ⟨S2304x2048, .bf16⟩
  | .hbm, ⟨43, _⟩ => ⟨S512x1536, .bf16⟩
  | .hbm, ⟨44, _⟩ => ⟨S256x2048, .bf16⟩
  | _, _ => ⟨S2048x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_c : Ref sig .tc := ⟨.hbm, 16, rfl⟩
abbrev main_call0_v0 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_v36 : Ref sig .tc := ⟨.hbm, 44, rfl⟩

abbrev nD : Nat := 1
abbrev τ : Topo := Topo.v7x

variable {F : FTy → Type} [FloatOps F]
-- ==== Attend.lean ====
abbrev S2048x8x192 : Shape := ⟨3, ![2048, 8, 192]⟩
abbrev S2304x8x128 : Shape := ⟨3, ![2304, 8, 128]⟩
abbrev S2304x64 : Shape := ⟨2, ![2304, 64]⟩
abbrev S2048x8x128 : Shape := ⟨3, ![2048, 8, 128]⟩
abbrev S2048x1024 : Shape := ⟨2, ![2048, 1024]⟩
abbrev S2048x8x64 : Shape := ⟨3, ![2048, 8, 64]⟩
abbrev S_ : Shape := ⟨0, ![]⟩
abbrev S2304x1024 : Shape := ⟨2, ![2304, 1024]⟩
abbrev S2304x2048 : Shape := ⟨2, ![2304, 2048]⟩
abbrev S2304x128 : Shape := ⟨2, ![2304, 128]⟩
abbrev S8x2048x1 : Shape := ⟨3, ![8, 2048, 1]⟩
abbrev S256x128 : Shape := ⟨2, ![256, 128]⟩
abbrev S1x256x1 : Shape := ⟨3, ![1, 256, 1]⟩
abbrev S256x256 : Shape := ⟨2, ![256, 256]⟩
abbrev S2304x256 : Shape := ⟨2, ![2304, 256]⟩
abbrev S256x2304 : Shape := ⟨2, ![256, 2304]⟩
abbrev S256 : Shape := ⟨1, ![256]⟩
abbrev S256x1 : Shape := ⟨2, ![256, 1]⟩

abbrev nBuf : Space → Nat
  | .hbm => 23
  | .vmem => 13
  | .smem => 0
  | _ => 0

abbrev bufTy : (tb : Table) → Fin (tcTables nBuf tb) → BufTy
  | .hbm, ⟨0, _⟩ => ⟨S2048x8x192, .f32⟩
  | .hbm, ⟨1, _⟩ => ⟨S2304x8x128, .f32⟩
  | .hbm, ⟨2, _⟩ => ⟨S2304x64, .f32⟩
  | .hbm, ⟨3, _⟩ => ⟨S2304x8x128, .f32⟩
  | .hbm, ⟨4, _⟩ => ⟨S2048x8x128, .f32⟩
  | .hbm, ⟨5, _⟩ => ⟨S2048x1024, .f32⟩
  | .hbm, ⟨6, _⟩ => ⟨S2048x1024, .bf16⟩
  | .hbm, ⟨7, _⟩ => ⟨S2048x8x64, .f32⟩
  | .hbm, ⟨8, _⟩ => ⟨S_, .i32⟩
  | .hbm, ⟨9, _⟩ => ⟨S_, .f32⟩
  | .hbm, ⟨10, _⟩ => ⟨S2048x8x128, .f32⟩
  | .hbm, ⟨11, _⟩ => ⟨S2048x1024, .f32⟩
  | .hbm, ⟨12, _⟩ => ⟨S2048x1024, .bf16⟩
  | .hbm, ⟨13, _⟩ => ⟨S2304x1024, .f32⟩
  | .hbm, ⟨14, _⟩ => ⟨S2304x1024, .f32⟩
  | .hbm, ⟨15, _⟩ => ⟨S2304x2048, .f32⟩
  | .hbm, ⟨16, _⟩ => ⟨S2304x2048, .bf16⟩
  | .hbm, ⟨17, _⟩ => ⟨S_, .i32⟩
  | .hbm, ⟨18, _⟩ => ⟨S_, .f32⟩
  | .hbm, ⟨19, _⟩ => ⟨S2304x128, .f32⟩
  | .hbm, ⟨20, _⟩ => ⟨S2304x128, .bf16⟩
  | .hbm, ⟨21, _⟩ => ⟨S2048x1024, .bf16⟩
  | .hbm, ⟨22, _⟩ => ⟨S8x2048x1, .f32⟩
  | .local _ .vmem, ⟨0, _⟩ => ⟨S256x128, .bf16⟩
  | .local _ .vmem, ⟨1, _⟩ => ⟨S256x128, .bf16⟩
  | .local _ .vmem, ⟨2, _⟩ => ⟨S256x128, .bf16⟩
  | .local _ .vmem, ⟨3, _⟩ => ⟨S256x128, .bf16⟩
  | .local _ .vmem, ⟨4, _⟩ => ⟨S2304x128, .bf16⟩
  | .local _ .vmem, ⟨5, _⟩ => ⟨S2304x128, .bf16⟩
  | .local _ .vmem, ⟨6, _⟩ => ⟨S2304x128, .bf16⟩
  | .local _ .vmem, ⟨7, _⟩ => ⟨S2304x128, .bf16⟩
  | .local _ .vmem, ⟨8, _⟩ => ⟨S2304x128, .bf16⟩
  | .local _ .vmem, ⟨9, _⟩ => ⟨S256x128, .bf16⟩
  | .local _ .vmem, ⟨10, _⟩ => ⟨S256x128, .bf16⟩
  | .local _ .vmem, ⟨11, _⟩ => ⟨S1x256x1, .f32⟩
  | .local _ .vmem, ⟨12, _⟩ => ⟨S1x256x1, .f32⟩
  | _, _ => ⟨S2048x8x192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_c : Ref sig .tc := ⟨.hbm, 8, rfl⟩
abbrev main_call0_v0 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_c_0 : Ref sig .tc := ⟨.hbm, 17, rfl⟩
abbrev main_call1_v0 : Ref sig .tc := ⟨.hbm, 18, rfl⟩
abbrev main_v11 : Ref sig .tc := ⟨.hbm, 19, rfl⟩
abbrev main_v12 : Ref sig .tc := ⟨.hbm, 20, rfl⟩
abbrev main_v13_0 : Ref sig .tc := ⟨.hbm, 21, rfl⟩
abbrev main_v13_1 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem5_1 : DmaSem sig := 10
abbrev cc0_sem6_0 : DmaSem sig := 11
abbrev cc0_sem6_1 : DmaSem sig := 12

abbrev nD : Nat := 1
abbrev τ : Topo := Topo.v7x

variable {F : FTy → Type} [FloatOps F]

abbrev grid0 : Pipeline.Grid := ⟨2, ![8, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.addi c8_i32 arg0
  let c0_i32 : BitVec 32 := 0#32
  let c0_i32_0 : BitVec 32 := 0#32
  ![c0_i32.toNat, v0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S256x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S256x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S2304x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S2304x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 1 → Memref sig .tc .vmem S2304x128 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S256x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x256x1 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== AttendReferenceIdeal.lean ====
abbrev S2048x8x192 : Shape := ⟨3, ![2048, 8, 192]⟩
abbrev S2304x8x128 : Shape := ⟨3, ![2304, 8, 128]⟩
abbrev S2304x64 : Shape := ⟨2, ![2304, 64]⟩
abbrev S2304x1x64 : Shape := ⟨3, ![2304, 1, 64]⟩
abbrev S2304x8x64 : Shape := ⟨3, ![2304, 8, 64]⟩
abbrev S2304x8x192 : Shape := ⟨3, ![2304, 8, 192]⟩
abbrev S8x2048x2304 : Shape := ⟨3, ![8, 2048, 2304]⟩
abbrev S_ : Shape := ⟨0, ![]⟩
abbrev S8x2048 : Shape := ⟨2, ![8, 2048]⟩
abbrev S8x2048x1 : Shape := ⟨3, ![8, 2048, 1]⟩
abbrev S1x2048x8x192 : Shape := ⟨4, ![1, 2048, 8, 192]⟩
abbrev S1x2304x8x192 : Shape := ⟨4, ![1, 2304, 8, 192]⟩
abbrev S1x2304x8x128 : Shape := ⟨4, ![1, 2304, 8, 128]⟩
abbrev S1x8x2048x2304 : Shape := ⟨4, ![1, 8, 2048, 2304]⟩
abbrev S1x8x2048 : Shape := ⟨3, ![1, 8, 2048]⟩
abbrev S1x8x2048x1 : Shape := ⟨4, ![1, 8, 2048, 1]⟩
abbrev S1x8x128x2048 : Shape := ⟨4, ![1, 8, 128, 2048]⟩
abbrev S1x2048x8x128 : Shape := ⟨4, ![1, 2048, 8, 128]⟩
abbrev S2048x8x128 : Shape := ⟨3, ![2048, 8, 128]⟩
abbrev S2048x1024 : Shape := ⟨2, ![2048, 1024]⟩

abbrev nBuf : Space → Nat
  | .hbm => 48
  | .vmem => 0
  | .smem => 0
  | _ => 0

abbrev bufTy : (tb : Table) → Fin (tcTables nBuf tb) → BufTy
  | .hbm, ⟨0, _⟩ => ⟨S2048x8x192, .f32⟩
  | .hbm, ⟨1, _⟩ => ⟨S2304x8x128, .f32⟩
  | .hbm, ⟨2, _⟩ => ⟨S2304x64, .f32⟩
  | .hbm, ⟨3, _⟩ => ⟨S2304x8x128, .f32⟩
  | .hbm, ⟨4, _⟩ => ⟨S2304x1x64, .f32⟩
  | .hbm, ⟨5, _⟩ => ⟨S2304x8x64, .f32⟩
  | .hbm, ⟨6, _⟩ => ⟨S2304x8x192, .f32⟩
  | .hbm, ⟨7, _⟩ => ⟨S8x2048x2304, .f32⟩
  | .hbm, ⟨8, _⟩ => ⟨S_, .f32⟩
  | .hbm, ⟨9, _⟩ => ⟨S8x2048x2304, .f32⟩
  | .hbm, ⟨10, _⟩ => ⟨S8x2048x2304, .f32⟩
  | .hbm, ⟨11, _⟩ => ⟨S_, .f32⟩
  | .hbm, ⟨12, _⟩ => ⟨S8x2048, .f32⟩
  | .hbm, ⟨13, _⟩ => ⟨S8x2048x1, .f32⟩
  | .hbm, ⟨14, _⟩ => ⟨S8x2048x2304, .f32⟩
  | .hbm, ⟨15, _⟩ => ⟨S8x2048x2304, .f32⟩
  | .hbm, ⟨16, _⟩ => ⟨S8x2048x2304, .f32⟩
  | .hbm, ⟨17, _⟩ => ⟨S_, .f32⟩
  | .hbm, ⟨18, _⟩ => ⟨S8x2048, .f32⟩
  | .hbm, ⟨19, _⟩ => ⟨S8x2048x1, .f32⟩
  | .hbm, ⟨20, _⟩ => ⟨S8x2048x1, .f32⟩
  | .hbm, ⟨21, _⟩ => ⟨S8x2048x1, .f32⟩
  | .hbm, ⟨22, _⟩ => ⟨S1x2048x8x192, .f32⟩
  | .hbm, ⟨23, _⟩ => ⟨S1x2304x8x192, .f32⟩
  | .hbm, ⟨24, _⟩ => ⟨S1x2304x8x128, .f32⟩
  | .hbm, ⟨25, _⟩ => ⟨S1x8x2048x2304, .f32⟩
  | .hbm, ⟨26, _⟩ => ⟨S_, .f32⟩
  | .hbm, ⟨27, _⟩ => ⟨S1x8x2048x2304, .f32⟩
  | .hbm, ⟨28, _⟩ => ⟨S1x8x2048x2304, .f32⟩
  | .hbm, ⟨29, _⟩ => ⟨S_, .f32⟩
  | .hbm, ⟨30, _⟩ => ⟨S1x8x2048, .f32⟩
  | .hbm, ⟨31, _⟩ => ⟨S_, .f32⟩
  | .hbm, ⟨32, _⟩ => ⟨S1x8x2048, .f32⟩
  | .hbm, ⟨33, _⟩ => ⟨S1x8x2048, .f32⟩
  | .hbm, ⟨34, _⟩ => ⟨S1x8x2048x1, .f32⟩
  | .hbm, ⟨35, _⟩ => ⟨S1x8x2048x2304, .f32⟩
  | .hbm, ⟨36, _⟩ => ⟨S1x8x2048x2304, .f32⟩
  | .hbm, ⟨37, _⟩ => ⟨S1x8x2048x2304, .f32⟩
  | .hbm, ⟨38, _⟩ => ⟨S_, .f32⟩
  | .hbm, ⟨39, _⟩ => ⟨S1x8x2048, .f32⟩
  | .hbm, ⟨40, _⟩ => ⟨S1x8x2048x1, .f32⟩
  | .hbm, ⟨41, _⟩ => ⟨S1x8x2048x2304, .f32⟩
  | .hbm, ⟨42, _⟩ => ⟨S1x8x2048x2304, .f32⟩
  | .hbm, ⟨43, _⟩ => ⟨S1x8x128x2048, .f32⟩
  | .hbm, ⟨44, _⟩ => ⟨S1x2048x8x128, .f32⟩
  | .hbm, ⟨45, _⟩ => ⟨S2048x8x128, .f32⟩
  | .hbm, ⟨46, _⟩ => ⟨S2048x1024, .f32⟩
  | .hbm, ⟨47, _⟩ => ⟨S2048x1024, .bf16⟩
  | _, _ => ⟨S2048x8x192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_v5 : Ref sig .tc := ⟨.hbm, 10, rfl⟩
abbrev main_cst_0 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_cst_1 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_cst_2 : Ref sig .tc := ⟨.hbm, 26, rfl⟩
abbrev main_v19 : Ref sig .tc := ⟨.hbm, 27, rfl⟩
abbrev main_v20 : Ref sig .tc := ⟨.hbm, 28, rfl⟩
abbrev main_cst_3 : Ref sig .tc := ⟨.hbm, 29, rfl⟩
abbrev main_v21 : Ref sig .tc := ⟨.hbm, 30, rfl⟩
abbrev main_cst_4 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_cst_5 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩

abbrev nD : Nat := 1
abbrev τ : Topo := Topo.v7x

variable {F : FTy → Type} [FloatOps F]
-- ==== Mod.lean ====
abbrev S16x2048 : Shape := ⟨2, ![16, 2048]⟩
abbrev S2048x1536 : Shape := ⟨2, ![2048, 1536]⟩
abbrev S16x1536 : Shape := ⟨2, ![16, 1536]⟩
abbrev S16x1024 : Shape := ⟨2, ![16, 1024]⟩
abbrev S1024x1536 : Shape := ⟨2, ![1024, 1536]⟩

abbrev nBuf : Space → Nat
  | .hbm => 11
  | .vmem => 15
  | .smem => 0
  | _ => 0

abbrev bufTy : (tb : Table) → Fin (tcTables nBuf tb) → BufTy
  | .hbm, ⟨0, _⟩ => ⟨S16x2048, .f32⟩
  | .hbm, ⟨1, _⟩ => ⟨S2048x1536, .f32⟩
  | .hbm, ⟨2, _⟩ => ⟨S16x1536, .f32⟩
  | .hbm, ⟨3, _⟩ => ⟨S16x2048, .bf16⟩
  | .hbm, ⟨4, _⟩ => ⟨S2048x1536, .bf16⟩
  | .hbm, ⟨5, _⟩ => ⟨S16x1536, .f32⟩
  | .hbm, ⟨6, _⟩ => ⟨S16x1536, .bf16⟩
  | .hbm, ⟨7, _⟩ => ⟨S2048x1536, .f32⟩
  | .hbm, ⟨8, _⟩ => ⟨S16x1536, .bf16⟩
  | .hbm, ⟨9, _⟩ => ⟨S2048x1536, .bf16⟩
  | .hbm, ⟨10, _⟩ => ⟨S16x2048, .f32⟩
  | .local _ .vmem, ⟨0, _⟩ => ⟨S16x2048, .f32⟩
  | .local _ .vmem, ⟨1, _⟩ => ⟨S16x2048, .bf16⟩
  | .local _ .vmem, ⟨2, _⟩ => ⟨S16x2048, .bf16⟩
  | .local _ .vmem, ⟨3, _⟩ => ⟨S2048x1536, .bf16⟩
  | .local _ .vmem, ⟨4, _⟩ => ⟨S16x1536, .f32⟩
  | .local _ .vmem, ⟨5, _⟩ => ⟨S16x1024, .bf16⟩
  | .local _ .vmem, ⟨6, _⟩ => ⟨S16x1024, .bf16⟩
  | .local _ .vmem, ⟨7, _⟩ => ⟨S16x1536, .bf16⟩
  | .local _ .vmem, ⟨8, _⟩ => ⟨S1024x1536, .f32⟩
  | .local _ .vmem, ⟨9, _⟩ => ⟨S1024x1536, .f32⟩
  | .local _ .vmem, ⟨10, _⟩ => ⟨S16x1536, .bf16⟩
  | .local _ .vmem, ⟨11, _⟩ => ⟨S1024x1536, .bf16⟩
  | .local _ .vmem, ⟨12, _⟩ => ⟨S1024x1536, .bf16⟩
  | .local _ .vmem, ⟨13, _⟩ => ⟨S16x1024, .f32⟩
  | .local _ .vmem, ⟨14, _⟩ => ⟨S16x1024, .f32⟩
  | _, _ => ⟨S16x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev cc0_stg0_0 : Ref sig .tc := ⟨.vmem, 0, rfl⟩
abbrev cc0_stg1_0 : Ref sig .tc := ⟨.vmem, 1, rfl⟩
abbrev cc1_stg0_0 : Ref sig .tc := ⟨.vmem, 2, rfl⟩
abbrev cc1_stg1_0 : Ref sig .tc := ⟨.vmem, 3, rfl⟩
abbrev cc1_stg2_0 : Ref sig .tc := ⟨.vmem, 4, rfl⟩
abbrev cc2_stg0_0 : Ref sig .tc := ⟨.vmem, 5, rfl⟩
abbrev cc2_stg0_1 : Ref sig .tc := ⟨.vmem, 6, rfl⟩
abbrev cc2_stg1_0 : Ref sig .tc := ⟨.vmem, 7, rfl⟩
abbrev cc2_stg2_0 : Ref sig .tc := ⟨.vmem, 8, rfl⟩
abbrev cc2_stg2_1 : Ref sig .tc := ⟨.vmem, 9, rfl⟩
abbrev cc3_stg0_0 : Ref sig .tc := ⟨.vmem, 10, rfl⟩
abbrev cc3_stg1_0 : Ref sig .tc := ⟨.vmem, 11, rfl⟩
abbrev cc3_stg1_1 : Ref sig .tc := ⟨.vmem, 12, rfl⟩
abbrev cc3_stg2_0 : Ref sig .tc := ⟨.vmem, 13, rfl⟩
abbrev cc3_stg2_1 : Ref sig .tc := ⟨.vmem, 14, rfl⟩
abbrev cc0_sem0_0 : DmaSem sig := 0
abbrev cc0_sem1_0 : DmaSem sig := 1
abbrev cc1_sem0_0 : DmaSem sig := 2
abbrev cc1_sem1_0 : DmaSem sig := 3
abbrev cc1_sem2_0 : DmaSem sig := 4
abbrev cc2_sem0_0 : DmaSem sig := 5
abbrev cc2_sem0_1 : DmaSem sig := 6
abbrev cc2_sem1_0 : DmaSem sig := 7
abbrev cc2_sem2_0 : DmaSem sig := 8
abbrev cc2_sem2_1 : DmaSem sig := 9
abbrev cc3_sem0_0 : DmaSem sig := 10
abbrev cc3_sem1_0 : DmaSem sig := 11
abbrev cc3_sem1_1 : DmaSem sig := 12
abbrev cc3_sem2_0 : DmaSem sig := 13
abbrev cc3_sem2_1 : DmaSem sig := 14

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S16x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S16x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev grid1 : Pipeline.Grid := ⟨3, ![1, 1, 1], ![false, false, false]⟩

def cc1_transform_0 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc1_transform_1 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc1_transform_2 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage1_0 : Fin 1 → Memref sig .tc .vmem S16x2048 .bf16 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![true, false, true]

abbrev stage1_1 : Fin 1 → Memref sig .tc .vmem S2048x1536 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false, true, true]

abbrev stage1_2 : Fin 1 → Memref sig .tc .vmem S16x1536 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![true, true, false]

abbrev grid2 : Pipeline.Grid := ⟨3, ![2, 1, 1], ![false, false, false]⟩

def cc2_transform_0 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc2_transform_1 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc2_transform_2 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage2_0 : Fin 2 → Memref sig .tc .vmem S16x1024 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, false, true]

abbrev stage2_1 : Fin 1 → Memref sig .tc .vmem S16x1536 .bf16 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false, true, true]

abbrev stage2_2 : Fin 2 → Memref sig .tc .vmem S1024x1536 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, true, false]

abbrev grid3 : Pipeline.Grid := ⟨3, ![1, 2, 1], ![false, false, false]⟩

def cc3_transform_0 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc3_transform_1 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc3_transform_2 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage3_0 : Fin 1 → Memref sig .tc .vmem S16x1536 .bf16 := fun | 0 => Memref.whole cc3_stg0_0 | ⟨_ + 1, h⟩ => absurd h (Nat.not_lt.2 (Nat.le_add_left _ _))
abbrev sem3_0 : Fin 1 → DmaSem sig := fun | 0 => cc3_sem0_0 | ⟨_ + 1, h⟩ => absurd h (Nat.not_lt.2 (Nat.le_add_left _ _))
abbrev reads3_0 : Fin grid3.rank → Bool := ![true, false, true]

abbrev stage3_1 : Fin 2 → Memref sig .tc .vmem S1024x1536 .bf16 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![false, true, true]

abbrev stage3_2 : Fin 2 → Memref sig .tc .vmem S16x1024 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true, true, false]
-- ==== ModReferenceIdeal.lean ====
abbrev S16x2048 : Shape := ⟨2, ![16, 2048]⟩
abbrev S2048x1536 : Shape := ⟨2, ![2048, 1536]⟩
abbrev S16x1536 : Shape := ⟨2, ![16, 1536]⟩
abbrev S_ : Shape := ⟨0, ![]⟩
abbrev S1536x2048 : Shape := ⟨2, ![1536, 2048]⟩

abbrev nBuf : Space → Nat
  | .hbm => 16
  | .vmem => 0
  | .smem => 0
  | _ => 0

abbrev bufTy : (tb : Table) → Fin (tcTables nBuf tb) → BufTy
  | .hbm, ⟨0, _⟩ => ⟨S16x2048, .f32⟩
  | .hbm, ⟨1, _⟩ => ⟨S2048x1536, .f32⟩
  | .hbm, ⟨2, _⟩ => ⟨S16x1536, .f32⟩
  | .hbm, ⟨3, _⟩ => ⟨S16x2048, .f32⟩
  | .hbm, ⟨4, _⟩ => ⟨S16x2048, .f32⟩
  | .hbm, ⟨5, _⟩ => ⟨S_, .f32⟩
  | .hbm, ⟨6, _⟩ => ⟨S16x2048, .f32⟩
  | .hbm, ⟨7, _⟩ => ⟨S16x2048, .f32⟩
  | .hbm, ⟨8, _⟩ => ⟨S_, .f32⟩
  | .hbm, ⟨9, _⟩ => ⟨S16x2048, .f32⟩
  | .hbm, ⟨10, _⟩ => ⟨S16x2048, .f32⟩
  | .hbm, ⟨11, _⟩ => ⟨S16x2048, .f32⟩
  | .hbm, ⟨12, _⟩ => ⟨S16x1536, .f32⟩
  | .hbm, ⟨13, _⟩ => ⟨S1536x2048, .f32⟩
  | .hbm, ⟨14, _⟩ => ⟨S2048x1536, .f32⟩
  | .hbm, ⟨15, _⟩ => ⟨S16x2048, .f32⟩
  | _, _ => ⟨S16x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_v0 : Ref sig .tc := ⟨.hbm, 3, rfl⟩
abbrev main_call0_v1 : Ref sig .tc := ⟨.hbm, 4, rfl⟩
abbrev main_call0_cst : Ref sig .tc := ⟨.hbm, 5, rfl⟩
abbrev main_call0_v2 : Ref sig .tc := ⟨.hbm, 6, rfl⟩
abbrev main_call0_v3 : Ref sig .tc := ⟨.hbm, 7, rfl⟩
abbrev main_call0_cst_0 : Ref sig .tc := ⟨.hbm, 8, rfl⟩
abbrev main_call0_v4 : Ref sig .tc := ⟨.hbm, 9, rfl⟩
abbrev main_call0_v5 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩

abbrev nD : Nat := 1
abbrev τ : Topo := Topo.v7x

variable {F : FTy → Type} [FloatOps F]
-- ==== Norms.lean ====
abbrev S2048x2048 : Shape := ⟨2, ![2048, 2048]⟩
abbrev S256x2048 : Shape := ⟨2, ![256, 2048]⟩
abbrev S2304x6144 : Shape := ⟨2, ![2304, 6144]⟩
abbrev S6x2048 : Shape := ⟨2, ![6, 2048]⟩
abbrev S2048 : Shape := ⟨1, ![2048]⟩
abbrev S256 : Shape := ⟨1, ![256]⟩
abbrev S1x2048 : Shape := ⟨2, ![1, 2048]⟩
abbrev S512x2048 : Shape := ⟨2, ![512, 2048]⟩
abbrev S512 : Shape := ⟨1, ![512]⟩
abbrev S512x1 : Shape := ⟨2, ![512, 1]⟩
abbrev S256x1 : Shape := ⟨2, ![256, 1]⟩
abbrev S1x256 : Shape := ⟨2, ![1, 256]⟩
abbrev S2304x256 : Shape := ⟨2, ![2304, 256]⟩
abbrev S256x256 : Shape := ⟨2, ![256, 256]⟩

abbrev nBuf : Space → Nat
  | .hbm => 24
  | .vmem => 29
  | .smem => 0
  | _ => 0

abbrev bufTy : (tb : Table) → Fin (tcTables nBuf tb) → BufTy
  | .hbm, ⟨0, _⟩ => ⟨S2048x2048, .f32⟩
  | .hbm, ⟨1, _⟩ => ⟨S256x2048, .f32⟩
  | .hbm, ⟨2, _⟩ => ⟨S2048x2048, .f32⟩
  | .hbm, ⟨3, _⟩ => ⟨S2304x6144, .f32⟩
  | .hbm, ⟨4, _⟩ => ⟨S6x2048, .f32⟩
  | .hbm, ⟨5, _⟩ => ⟨S6x2048, .f32⟩
  | .hbm, ⟨6, _⟩ => ⟨S2048, .f32⟩
  | .hbm, ⟨7, _⟩ => ⟨S2048, .f32⟩
  | .hbm, ⟨8, _⟩ => ⟨S256, .f32⟩
  | .hbm, ⟨9, _⟩ => ⟨S1x2048, .f32⟩
  | .hbm, ⟨10, _⟩ => ⟨S1x2048, .f32⟩
  | .hbm, ⟨11, _⟩ => ⟨S1x2048, .f32⟩
  | .hbm, ⟨12, _⟩ => ⟨S1x2048, .f32⟩
  | .hbm, ⟨13, _⟩ => ⟨S1x2048, .f32⟩
  | .hbm, ⟨14, _⟩ => ⟨S1x2048, .f32⟩
  | .hbm, ⟨15, _⟩ => ⟨S1x2048, .f32⟩
  | .hbm, ⟨16, _⟩ => ⟨S1x2048, .f32⟩
  | .hbm, ⟨17, _⟩ => ⟨S1x2048, .f32⟩
  | .hbm, ⟨18, _⟩ => ⟨S2048x2048, .bf16⟩
  | .hbm, ⟨19, _⟩ => ⟨S256x2048, .bf16⟩
  | .hbm, ⟨20, _⟩ => ⟨S1x256, .f32⟩
  | .hbm, ⟨21, _⟩ => ⟨S2304x256, .bf16⟩
  | .hbm, ⟨22, _⟩ => ⟨S2048x2048, .f32⟩
  | .hbm, ⟨23, _⟩ => ⟨S2048x2048, .bf16⟩
  | .local _ .vmem, ⟨0, _⟩ => ⟨S512x2048, .f32⟩
  | .local _ .vmem, ⟨1, _⟩ => ⟨S512x2048, .f32⟩
  | .local _ .vmem, ⟨2, _⟩ => ⟨S1x2048, .f32⟩
  | .local _ .vmem, ⟨3, _⟩ => ⟨S1x2048, .f32⟩
  | .local _ .vmem, ⟨4, _⟩ => ⟨S1x2048, .f32⟩
  | .local _ .vmem, ⟨5, _⟩ => ⟨S512x2048, .bf16⟩
  | .local _ .vmem, ⟨6, _⟩ => ⟨S512x2048, .bf16⟩
  | .local _ .vmem, ⟨7, _⟩ => ⟨S256x2048, .f32⟩
  | .local _ .vmem, ⟨8, _⟩ => ⟨S1x2048, .f32⟩
  | .local _ .vmem, ⟨9, _⟩ => ⟨S1x2048, .f32⟩
  | .local _ .vmem, ⟨10, _⟩ => ⟨S1x2048, .f32⟩
  | .local _ .vmem, ⟨11, _⟩ => ⟨S256x2048, .bf16⟩
  | .local _ .vmem, ⟨12, _⟩ => ⟨S256x256, .f32⟩
  | .local _ .vmem, ⟨13, _⟩ => ⟨S256x256, .f32⟩
  | .local _ .vmem, ⟨14, _⟩ => ⟨S1x256, .f32⟩
  | .local _ .vmem, ⟨15, _⟩ => ⟨S256x256, .bf16⟩
  | .local _ .vmem, ⟨16, _⟩ => ⟨S256x256, .bf16⟩
  | .local _ .vmem, ⟨17, _⟩ => ⟨S256x2048, .f32⟩
  | .local _ .vmem, ⟨18, _⟩ => ⟨S256x2048, .f32⟩
  | .local _ .vmem, ⟨19, _⟩ => ⟨S256x2048, .f32⟩
  | .local _ .vmem, ⟨20, _⟩ => ⟨S256x2048, .f32⟩
  | .local _ .vmem, ⟨21, _⟩ => ⟨S1x2048, .f32⟩
  | .local _ .vmem, ⟨22, _⟩ => ⟨S1x2048, .f32⟩
  | .local _ .vmem, ⟨23, _⟩ => ⟨S1x2048, .f32⟩
  | .local _ .vmem, ⟨24, _⟩ => ⟨S1x2048, .f32⟩
  | .local _ .vmem, ⟨25, _⟩ => ⟨S256x2048, .f32⟩
  | .local _ .vmem, ⟨26, _⟩ => ⟨S256x2048, .f32⟩
  | .local _ .vmem, ⟨27, _⟩ => ⟨S256x2048, .bf16⟩
  | .local _ .vmem, ⟨28, _⟩ => ⟨S256x2048, .bf16⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | _, _ => false

abbrev semScoped : Fin 0 → Bool
  | ⟨_, h⟩ => absurd h (Nat.not_lt_zero _)

abbrev dmaSemScoped : Fin 29 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | _ => false

abbrev sig : RefSig :=
  ofTc nBuf bufTy 0 29 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13_0 : Ref sig .tc := ⟨.hbm, 22, rfl⟩
abbrev main_v13_1 : Ref sig .tc := ⟨.hbm, 23, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc1_stg0_0 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg4_0 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg2_0 : Ref sig .tc := ⟨.vmem, 15, rfl⟩
abbrev cc2_stg2_1 : Ref sig .tc := ⟨.vmem, 16, rfl⟩
abbrev cc3_stg0_0 : Ref sig .tc := ⟨.vmem, 17, rfl⟩
abbrev cc3_stg0_1 : Ref sig .tc := ⟨.vmem, 18, rfl⟩
abbrev cc3_stg1_0 : Ref sig .tc := ⟨.vmem, 19, rfl⟩
abbrev cc3_stg1_1 : Ref sig .tc := ⟨.vmem, 20, rfl⟩
abbrev cc3_stg2_0 : Ref sig .tc := ⟨.vmem, 21, rfl⟩
abbrev cc3_stg3_0 : Ref sig .tc := ⟨.vmem, 22, rfl⟩
abbrev cc3_stg4_0 : Ref sig .tc := ⟨.vmem, 23, rfl⟩
abbrev cc3_stg5_0 : Ref sig .tc := ⟨.vmem, 24, rfl⟩
abbrev cc3_stg6_0 : Ref sig .tc := ⟨.vmem, 25, rfl⟩
abbrev cc3_stg6_1 : Ref sig .tc := ⟨.vmem, 26, rfl⟩
abbrev cc3_stg7_0 : Ref sig .tc := ⟨.vmem, 27, rfl⟩
abbrev cc3_stg7_1 : Ref sig .tc := ⟨.vmem, 28, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc1_sem0_0 : DmaSem sig := 7
abbrev cc1_sem1_0 : DmaSem sig := 8
abbrev cc1_sem2_0 : DmaSem sig := 9
abbrev cc1_sem3_0 : DmaSem sig := 10
abbrev cc1_sem4_0 : DmaSem sig := 11
abbrev cc2_sem0_0 : DmaSem sig := 12
abbrev cc2_sem0_1 : DmaSem sig := 13
abbrev cc2_sem1_0 : DmaSem sig := 14
abbrev cc2_sem2_0 : DmaSem sig := 15
abbrev cc2_sem2_1 : DmaSem sig := 16
abbrev cc3_sem0_0 : DmaSem sig := 17
abbrev cc3_sem0_1 : DmaSem sig := 18
abbrev cc3_sem1_0 : DmaSem sig := 19
abbrev cc3_sem1_1 : DmaSem sig := 20
abbrev cc3_sem2_0 : DmaSem sig := 21
abbrev cc3_sem3_0 : DmaSem sig := 22
abbrev cc3_sem4_0 : DmaSem sig := 23
abbrev cc3_sem5_0 : DmaSem sig := 24
abbrev cc3_sem6_0 : DmaSem sig := 25
abbrev cc3_sem6_1 : DmaSem sig := 26
abbrev cc3_sem7_0 : DmaSem sig := 27
abbrev cc3_sem7_1 : DmaSem sig := 28

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev grid1 : Pipeline.Grid := ⟨1, ![1], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 1 → Memref sig .tc .vmem S256x2048 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![true]

abbrev stage1_1 : Fin 1 → Memref sig .tc .vmem S1x2048 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x2048 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x2048 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S256x2048 .bf16 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![true]

abbrev grid2 : Pipeline.Grid := ⟨1, ![9], ![false]⟩

def cc2_transform_0 (i : grid2.Coords) : Fin 2 → Nat :=
  let arg0 : BitVec 32 := BitVec.ofNat 32 (i 0).val
  let c6_i32 : BitVec 32 := 6#32
  let c0_i32 : BitVec 32 := 0#32
  ![arg0.toNat, c6_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S256x256 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1x256 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S256x256 .bf16 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![8], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_6 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_7 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S256x2048 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S256x2048 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S1x2048 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S1x2048 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S1x2048 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 1 → Memref sig .tc .vmem S1x2048 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

abbrev stage3_6 : Fin 2 → Memref sig .tc .vmem S256x2048 .f32 := fun | 0 => Memref.whole cc3_stg6_0 | 1 => Memref.whole cc3_stg6_1 | ⟨_ + 2, h⟩ => absurd h (Nat.not_lt.2 (Nat.le_add_left _ _))
abbrev sem3_6 : Fin 2 → DmaSem sig := fun | 0 => cc3_sem6_0 | 1 => cc3_sem6_1 | ⟨_ + 2, h⟩ => absurd h (Nat.not_lt.2 (Nat.le_add_left _ _))
abbrev reads3_6 : Fin grid3.rank → Bool := ![true]

abbrev stage3_7 : Fin 2 → Memref sig .tc .vmem S256x2048 .bf16 := fun | 0 => Memref.whole cc3_stg7_0 | 1 => Memref.whole cc3_stg7_1 | ⟨_ + 2, h⟩ => absurd h (Nat.not_lt.2 (Nat.le_add_left _ _))
abbrev sem3_7 : Fin 2 → DmaSem sig := fun | 0 => cc3_sem7_0 | 1 => cc3_sem7_1 | ⟨_ + 2, h⟩ => absurd h (Nat.not_lt.2 (Nat.le_add_left _ _))
abbrev reads3_7 : Fin grid3.rank → Bool := ![true]
-- ==== NormsReferenceIdeal.lean ====
abbrev S2048x2048 : Shape := ⟨2, ![2048, 2048]⟩
abbrev S256x2048 : Shape := ⟨2, ![256, 2048]⟩
abbrev S2304x6144 : Shape := ⟨2, ![2304, 6144]⟩
abbrev S6x2048 : Shape := ⟨2, ![6, 2048]⟩
abbrev S2048 : Shape := ⟨1, ![2048]⟩
abbrev S256 : Shape := ⟨1, ![256]⟩
abbrev S1x2048 : Shape := ⟨2, ![1, 2048]⟩
abbrev S2304x256 : Shape := ⟨2, ![2304, 256]⟩
abbrev S_ : Shape := ⟨0, ![]⟩
abbrev S2048x1 : Shape := ⟨2, ![2048, 1]⟩
abbrev S256x1 : Shape := ⟨2, ![256, 1]⟩
abbrev S2304 : Shape := ⟨1, ![2304]⟩
abbrev S2304x1 : Shape := ⟨2, ![2304, 1]⟩
abbrev S1x256 : Shape := ⟨2, ![1, 256]⟩

abbrev nBuf : Space → Nat
  | .hbm => 123
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S256x2048, .f32⟩
  | .hbm, ⟨2, _⟩ => ⟨S2048x2048, .f32⟩
  | .hbm, ⟨3, _⟩ => ⟨S2304x6144, .f32⟩
  | .hbm, ⟨4, _⟩ => ⟨S6x2048, .f32⟩
  | .hbm, ⟨5, _⟩ => ⟨S6x2048, .f32⟩
  | .hbm, ⟨6, _⟩ => ⟨S2048, .f32⟩
  | .hbm, ⟨7, _⟩ => ⟨S2048, .f32⟩
  | .hbm, ⟨8, _⟩ => ⟨S256, .f32⟩
  | .hbm, ⟨9, _⟩ => ⟨S1x2048, .f32⟩
  | .hbm, ⟨10, _⟩ => ⟨S2048, .f32⟩
  | .hbm, ⟨11, _⟩ => ⟨S1x2048, .f32⟩
  | .hbm, ⟨12, _⟩ => ⟨S2048, .f32⟩
  | .hbm, ⟨13, _⟩ => ⟨S1x2048, .f32⟩
  | .hbm, ⟨14, _⟩ => ⟨S2048, .f32⟩
  | .hbm, ⟨15, _⟩ => ⟨S1x2048, .f32⟩
  | .hbm, ⟨16, _⟩ => ⟨S2048, .f32⟩
  | .hbm, ⟨17, _⟩ => ⟨S1x2048, .f32⟩
  | .hbm, ⟨18, _⟩ => ⟨S2048, .f32⟩
  | .hbm, ⟨19, _⟩ => ⟨S1x2048, .f32⟩
  | .hbm, ⟨20, _⟩ => ⟨S2048, .f32⟩
  | .hbm, ⟨21, _⟩ => ⟨S1x2048, .f32⟩
  | .hbm, ⟨22, _⟩ => ⟨S2048, .f32⟩
  | .hbm, ⟨23, _⟩ => ⟨S2304x256, .f32⟩
  | .hbm, ⟨24, _⟩ => ⟨S1x2048, .f32⟩
  | .hbm, ⟨25, _⟩ => ⟨S2048x2048, .f32⟩
  | .hbm, ⟨26, _⟩ => ⟨S2048x2048, .f32⟩
  | .hbm, ⟨27, _⟩ => ⟨S2048x2048, .f32⟩
  | .hbm, ⟨28, _⟩ => ⟨S2048x2048, .f32⟩
  | .hbm, ⟨29, _⟩ => ⟨S_, .f32⟩
  | .hbm, ⟨30, _⟩ => ⟨S2048, .f32⟩
  | .hbm, ⟨31, _⟩ => ⟨S2048x1, .f32⟩
  | .hbm, ⟨32, _⟩ => ⟨S_, .f32⟩
  | .hbm, ⟨33, _⟩ => ⟨S2048x1, .f32⟩
  | .hbm, ⟨34, _⟩ => ⟨S2048x1, .f32⟩
  | .hbm, ⟨35, _⟩ => ⟨S_, .f32⟩
  | .hbm, ⟨36, _⟩ => ⟨S2048x1, .f32⟩
  | .hbm, ⟨37, _⟩ => ⟨S2048x1, .f32⟩
  | .hbm, ⟨38, _⟩ => ⟨S2048x1, .f32⟩
  | .hbm, ⟨39, _⟩ => ⟨S2048x2048, .f32⟩
  | .hbm, ⟨40, _⟩ => ⟨S2048x2048, .f32⟩
  | .hbm, ⟨41, _⟩ => ⟨S1x2048, .f32⟩
  | .hbm, ⟨42, _⟩ => ⟨S2048x2048, .f32⟩
  | .hbm, ⟨43, _⟩ => ⟨S2048x2048, .f32⟩
  | .hbm, ⟨44, _⟩ => ⟨S_, .f32⟩
  | .hbm, ⟨45, _⟩ => ⟨S2048, .f32⟩
  | .hbm, ⟨46, _⟩ => ⟨S2048, .f32⟩
  | .hbm, ⟨47, _⟩ => ⟨S1x2048, .f32⟩
  | .hbm, ⟨48, _⟩ => ⟨S2048x2048, .f32⟩
  | .hbm, ⟨49, _⟩ => ⟨S2048x2048, .f32⟩
  | .hbm, ⟨50, _⟩ => ⟨S1x2048, .f32⟩
  | .hbm, ⟨51, _⟩ => ⟨S2048x2048, .f32⟩
  | .hbm, ⟨52, _⟩ => ⟨S2048x2048, .f32⟩
  | .hbm, ⟨53, _⟩ => ⟨S2048x2048, .bf16⟩
  | .hbm, ⟨54, _⟩ => ⟨S256x2048, .f32⟩
  | .hbm, ⟨55, _⟩ => ⟨S_, .f32⟩
  | .hbm, ⟨56, _⟩ => ⟨S256, .f32⟩
  | .hbm, ⟨57, _⟩ => ⟨S256x1, .f32⟩
  | .hbm, ⟨58, _⟩ => ⟨S_, .f32⟩
  | .hbm, ⟨59, _⟩ => ⟨S256x1, .f32⟩
  | .hbm, ⟨60, _⟩ => ⟨S256x1, .f32⟩
  | .hbm, ⟨61, _⟩ => ⟨S_, .f32⟩
  | .hbm, ⟨62, _⟩ => ⟨S256x1, .f32⟩
  | .hbm, ⟨63, _⟩ => ⟨S256x1, .f32⟩
  | .hbm, ⟨64, _⟩ => ⟨S256x1, .f32⟩
  | .hbm, ⟨65, _⟩ => ⟨S256x2048, .f32⟩
  | .hbm, ⟨66, _⟩ => ⟨S256x2048, .f32⟩
  | .hbm, ⟨67, _⟩ => ⟨S1x2048, .f32⟩
  | .hbm, ⟨68, _⟩ => ⟨S256x2048, .f32⟩
  | .hbm, ⟨69, _⟩ => ⟨S256x2048, .f32⟩
  | .hbm, ⟨70, _⟩ => ⟨S_, .f32⟩
  | .hbm, ⟨71, _⟩ => ⟨S2048, .f32⟩
  | .hbm, ⟨72, _⟩ => ⟨S2048, .f32⟩
  | .hbm, ⟨73, _⟩ => ⟨S1x2048, .f32⟩
  | .hbm, ⟨74, _⟩ => ⟨S256x2048, .f32⟩
  | .hbm, ⟨75, _⟩ => ⟨S256x2048, .f32⟩
  | .hbm, ⟨76, _⟩ => ⟨S1x2048, .f32⟩
  | .hbm, ⟨77, _⟩ => ⟨S256x2048, .f32⟩
  | .hbm, ⟨78, _⟩ => ⟨S256x2048, .f32⟩
  | .hbm, ⟨79, _⟩ => ⟨S256x2048, .bf16⟩
  | .hbm, ⟨80, _⟩ => ⟨S2304x256, .f32⟩
  | .hbm, ⟨81, _⟩ => ⟨S_, .f32⟩
  | .hbm, ⟨82, _⟩ => ⟨S2304, .f32⟩
  | .hbm, ⟨83, _⟩ => ⟨S2304x1, .f32⟩
  | .hbm, ⟨84, _⟩ => ⟨S_, .f32⟩
  | .hbm, ⟨85, _⟩ => ⟨S2304x1, .f32⟩
  | .hbm, ⟨86, _⟩ => ⟨S2304x1, .f32⟩
  | .hbm, ⟨87, _⟩ => ⟨S_, .f32⟩
  | .hbm, ⟨88, _⟩ => ⟨S2304x1, .f32⟩
  | .hbm, ⟨89, _⟩ => ⟨S2304x1, .f32⟩
  | .hbm, ⟨90, _⟩ => ⟨S2304x1, .f32⟩
  | .hbm, ⟨91, _⟩ => ⟨S2304x256, .f32⟩
  | .hbm, ⟨92, _⟩ => ⟨S2304x256, .f32⟩
  | .hbm, ⟨93, _⟩ => ⟨S1x256, .f32⟩
  | .hbm, ⟨94, _⟩ => ⟨S2304x256, .f32⟩
  | .hbm, ⟨95, _⟩ => ⟨S2304x256, .f32⟩
  | .hbm, ⟨96, _⟩ => ⟨S2304x256, .bf16⟩
  | .hbm, ⟨97, _⟩ => ⟨S2048x2048, .f32⟩
  | .hbm, ⟨98, _⟩ => ⟨S_, .f32⟩
  | .hbm, ⟨99, _⟩ => ⟨S2048, .f32⟩
  | .hbm, ⟨100, _⟩ => ⟨S2048x1, .f32⟩
  | .hbm, ⟨101, _⟩ => ⟨S_, .f32⟩
  | .hbm, ⟨102, _⟩ => ⟨S2048x1, .f32⟩
  | .hbm, ⟨103, _⟩ => ⟨S2048x1, .f32⟩
  | .hbm, ⟨104, _⟩ => ⟨S_, .f32⟩
  | .hbm, ⟨105, _⟩ => ⟨S2048x1, .f32⟩
  | .hbm, ⟨106, _⟩ => ⟨S2048x1, .f32⟩
  | .hbm, ⟨107, _⟩ => ⟨S2048x1, .f32⟩
  | .hbm, ⟨108, _⟩ => ⟨S2048x2048, .f32⟩
  | .hbm, ⟨109, _⟩ => ⟨S2048x2048, .f32⟩
  | .hbm, ⟨110, _⟩ => ⟨S1x2048, .f32⟩
  | .hbm, ⟨111, _⟩ => ⟨S2048x2048, .f32⟩
  | .hbm, ⟨112, _⟩ => ⟨S2048x2048, .f32⟩
  | .hbm, ⟨113, _⟩ => ⟨S_, .f32⟩
  | .hbm, ⟨114, _⟩ => ⟨S2048, .f32⟩
  | .hbm, ⟨115, _⟩ => ⟨S2048, .f32⟩
  | .hbm, ⟨116, _⟩ => ⟨S1x2048, .f32⟩
  | .hbm, ⟨117, _⟩ => ⟨S2048x2048, .f32⟩
  | .hbm, ⟨118, _⟩ => ⟨S2048x2048, .f32⟩
  | .hbm, ⟨119, _⟩ => ⟨S1x2048, .f32⟩
  | .hbm, ⟨120, _⟩ => ⟨S2048x2048, .f32⟩
  | .hbm, ⟨121, _⟩ => ⟨S2048x2048, .f32⟩
  | .hbm, ⟨122, _⟩ => ⟨S2048x2048, .bf16⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_cst : Ref sig .tc := ⟨.hbm, 29, rfl⟩
abbrev main_v20 : Ref sig .tc := ⟨.hbm, 30, rfl⟩
abbrev main_v21 : Ref sig .tc := ⟨.hbm, 31, rfl⟩
abbrev main_cst_0 : Ref sig .tc := ⟨.hbm, 32, rfl⟩
abbrev main_v22 : Ref sig .tc := ⟨.hbm, 33, rfl⟩
abbrev main_v23 : Ref sig .tc := ⟨.hbm, 34, rfl⟩
abbrev main_cst_1 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_cst_2 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_cst_3 : Ref sig .tc := ⟨.hbm, 55, rfl⟩
abbrev main_v42 : Ref sig .tc := ⟨.hbm, 56, rfl⟩
abbrev main_v43 : Ref sig .tc := ⟨.hbm, 57, rfl⟩
abbrev main_cst_4 : Ref sig .tc := ⟨.hbm, 58, rfl⟩
abbrev main_v44 : Ref sig .tc := ⟨.hbm, 59, rfl⟩
abbrev main_v45 : Ref sig .tc := ⟨.hbm, 60, rfl⟩
abbrev main_cst_5 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_cst_6 : Ref sig .tc := ⟨.hbm, 70, rfl⟩
abbrev main_v54 : Ref sig .tc := ⟨.hbm, 71, rfl⟩
abbrev main_v55 : Ref sig .tc := ⟨.hbm, 72, rfl⟩
abbrev main_v56 : Ref sig .tc := ⟨.hbm, 73, rfl⟩
abbrev main_v57 : Ref sig .tc := ⟨.hbm, 74, rfl⟩
abbrev main_v58 : Ref sig .tc := ⟨.hbm, 75, rfl⟩
abbrev main_v59 : Ref sig .tc := ⟨.hbm, 76, rfl⟩
abbrev main_v60 : Ref sig .tc := ⟨.hbm, 77, rfl⟩
abbrev main_v61 : Ref sig .tc := ⟨.hbm, 78, rfl⟩
abbrev main_v62 : Ref sig .tc := ⟨.hbm, 79, rfl⟩
abbrev main_v63 : Ref sig .tc := ⟨.hbm, 80, rfl⟩
abbrev main_cst_7 : Ref sig .tc := ⟨.hbm, 81, rfl⟩
abbrev main_v64 : Ref sig .tc := ⟨.hbm, 82, rfl⟩
abbrev main_v65 : Ref sig .tc := ⟨.hbm, 83, rfl⟩
abbrev main_cst_8 : Ref sig .tc := ⟨.hbm, 84, rfl⟩
abbrev main_v66 : Ref sig .tc := ⟨.hbm, 85, rfl⟩
abbrev main_v67 : Ref sig .tc := ⟨.hbm, 86, rfl⟩
abbrev main_cst_9 : Ref sig .tc := ⟨.hbm, 87, rfl⟩
abbrev main_v68 : Ref sig .tc := ⟨.hbm, 88, rfl⟩
abbrev main_v69 : Ref sig .tc := ⟨.hbm, 89, rfl⟩
abbrev main_v70 : Ref sig .tc := ⟨.hbm, 90, rfl⟩
abbrev main_v71 : Ref sig .tc := ⟨.hbm, 91, rfl⟩
abbrev main_v72 : Ref sig .tc := ⟨.hbm, 92, rfl⟩
abbrev main_v73 : Ref sig .tc := ⟨.hbm, 93, rfl⟩
abbrev main_v74 : Ref sig .tc := ⟨.hbm, 94, rfl⟩
abbrev main_v75 : Ref sig .tc := ⟨.hbm, 95, rfl⟩
abbrev main_v76 : Ref sig .tc := ⟨.hbm, 96, rfl⟩
abbrev main_v77 : Ref sig .tc := ⟨.hbm, 97, rfl⟩
abbrev main_cst_10 : Ref sig .tc := ⟨.hbm, 98, rfl⟩
abbrev main_v78 : Ref sig .tc := ⟨.hbm, 99, rfl⟩
abbrev main_v79 : Ref sig .tc := ⟨.hbm, 100, rfl⟩
abbrev main_cst_11 : Ref sig .tc := ⟨.hbm, 101, rfl⟩
abbrev main_v80 : Ref sig .tc := ⟨.hbm, 102, rfl⟩
abbrev main_v81 : Ref sig .tc := ⟨.hbm, 103, rfl⟩
abbrev main_cst_12 : Ref sig .tc := ⟨.hbm, 104, rfl⟩
abbrev main_v82 : Ref sig .tc := ⟨.hbm, 105, rfl⟩
abbrev main_v83 : Ref sig .tc := ⟨.hbm, 106, rfl⟩
abbrev main_v84 : Ref sig .tc := ⟨.hbm, 107, rfl⟩
abbrev main_v85 : Ref sig .tc := ⟨.hbm, 108, rfl⟩
abbrev main_v86 : Ref sig .tc := ⟨.hbm, 109, rfl⟩
abbrev main_v87 : Ref sig .tc := ⟨.hbm, 110, rfl⟩
abbrev main_v88 : Ref sig .tc := ⟨.hbm, 111, rfl⟩
abbrev main_v89 : Ref sig .tc := ⟨.hbm, 112, rfl⟩
abbrev main_cst_13 : Ref sig .tc := ⟨.hbm, 113, rfl⟩
abbrev main_v90 : Ref sig .tc := ⟨.hbm, 114, rfl⟩
abbrev main_v91 : Ref sig .tc := ⟨.hbm, 115, rfl⟩
abbrev main_v92 : Ref sig .tc := ⟨.hbm, 116, rfl⟩
abbrev main_v93 : Ref sig .tc := ⟨.hbm, 117, rfl⟩
abbrev main_v94 : Ref sig .tc := ⟨.hbm, 118, rfl⟩
abbrev main_v95 : Ref sig .tc := ⟨.hbm, 119, rfl⟩
abbrev main_v96 : Ref sig .tc := ⟨.hbm, 120, rfl⟩
abbrev main_v97 : Ref sig .tc := ⟨.hbm, 121, rfl⟩
abbrev main_v98 : Ref sig .tc := ⟨.hbm, 122, rfl⟩

abbrev nD : Nat := 1
abbrev τ : Topo := Topo.v7x

variable {F : FTy → Type} [FloatOps F]
-- ==== QNorm.lean ====
abbrev S2304x6144 : Shape := ⟨2, ![2304, 6144]⟩
abbrev S512 : Shape := ⟨1, ![512]⟩
abbrev S1x512 : Shape := ⟨2, ![1, 512]⟩
abbrev S2048x512 : Shape := ⟨2, ![2048, 512]⟩
abbrev S512x512 : Shape := ⟨2, ![512, 512]⟩
abbrev S512x1 : Shape := ⟨2, ![512, 1]⟩

abbrev nBuf : Space → Nat
  | .hbm => 4
  | .vmem => 5
  | .smem => 0
  | _ => 0

abbrev bufTy : (tb : Table) → Fin (tcTables nBuf tb) → BufTy
  | .hbm, ⟨0, _⟩ => ⟨S2304x6144, .f32⟩
  | .hbm, ⟨1, _⟩ => ⟨S512, .f32⟩
  | .hbm, ⟨2, _⟩ => ⟨S1x512, .f32⟩
  | .hbm, ⟨3, _⟩ => ⟨S2048x512, .bf16⟩
  | .local _ .vmem, ⟨0, _⟩ => ⟨S512x512, .f32⟩
  | .local _ .vmem, ⟨1, _⟩ => ⟨S512x512, .f32⟩
  | .local _ .vmem, ⟨2, _⟩ => ⟨S1x512, .f32⟩
  | .local _ .vmem, ⟨3, _⟩ => ⟨S512x512, .bf16⟩
  | .local _ .vmem, ⟨4, _⟩ => ⟨S512x512, .bf16⟩
  | _, _ => ⟨S2304x6144, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c2_i32 : BitVec 32 := 2#32
  let c0_i32 : BitVec 32 := 0#32
  ![arg0.toNat, c2_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== QNormReferenceIdeal.lean ====
abbrev S2304x6144 : Shape := ⟨2, ![2304, 6144]⟩
abbrev S512 : Shape := ⟨1, ![512]⟩
abbrev S2048x512 : Shape := ⟨2, ![2048, 512]⟩
abbrev S_ : Shape := ⟨0, ![]⟩
abbrev S2048 : Shape := ⟨1, ![2048]⟩
abbrev S2048x1 : Shape := ⟨2, ![2048, 1]⟩
abbrev S1x512 : Shape := ⟨2, ![1, 512]⟩

abbrev nBuf : Space → Nat
  | .hbm => 20
  | .vmem => 0
  | .smem => 0
  | _ => 0

abbrev bufTy : (tb : Table) → Fin (tcTables nBuf tb) → BufTy
  | .hbm, ⟨0, _⟩ => ⟨S2304x6144, .f32⟩
  | .hbm, ⟨1, _⟩ => ⟨S512, .f32⟩
  | .hbm, ⟨2, _⟩ => ⟨S2048x512, .f32⟩
  | .hbm, ⟨3, _⟩ => ⟨S2048x512, .f32⟩
  | .hbm, ⟨4, _⟩ => ⟨S_, .f32⟩
  | .hbm, ⟨5, _⟩ => ⟨S2048, .f32⟩
  | .hbm, ⟨6, _⟩ => ⟨S2048x1, .f32⟩
  | .hbm, ⟨7, _⟩ => ⟨S_, .f32⟩
  | .hbm, ⟨8, _⟩ => ⟨S2048x1, .f32⟩
  | .hbm, ⟨9, _⟩ => ⟨S2048x1, .f32⟩
  | .hbm, ⟨10, _⟩ => ⟨S_, .f32⟩
  | .hbm, ⟨11, _⟩ => ⟨S2048x1, .f32⟩
  | .hbm, ⟨12, _⟩ => ⟨S2048x1, .f32⟩
  | .hbm, ⟨13, _⟩ => ⟨S2048x1, .f32⟩
  | .hbm, ⟨14, _⟩ => ⟨S2048x512, .f32⟩
  | .hbm, ⟨15, _⟩ => ⟨S2048x512, .f32⟩
  | .hbm, ⟨16, _⟩ => ⟨S1x512, .f32⟩
  | .hbm, ⟨17, _⟩ => ⟨S2048x512, .f32⟩
  | .hbm, ⟨18, _⟩ => ⟨S2048x512, .f32⟩
  | .hbm, ⟨19, _⟩ => ⟨S2048x512, .bf16⟩
  | _, _ => ⟨S2304x6144, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_cst_1 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩

abbrev nD : Nat := 1
abbrev τ : Topo := Topo.v7x

variable {F : FTy → Type} [FloatOps F]
-- ==== Combine.lean ====
abbrev S2304x6144 : Shape := ⟨2, ![2304, 6144]⟩
abbrev S2048x1024 : Shape := ⟨2, ![2048, 1024]⟩
abbrev S64x16 : Shape := ⟨2, ![64, 16]⟩
abbrev S1x1024 : Shape := ⟨2, ![1, 1024]⟩
abbrev S512x1024 : Shape := ⟨2, ![512, 1024]⟩

abbrev nBuf : Space → Nat
  | .hbm => 7
  | .vmem => 11
  | .smem => 0
  | _ => 0

abbrev bufTy : (tb : Table) → Fin (tcTables nBuf tb) → BufTy
  | .hbm, ⟨0, _⟩ => ⟨S2304x6144, .f32⟩
  | .hbm, ⟨1, _⟩ => ⟨S2048x1024, .f32⟩
  | .hbm, ⟨2, _⟩ => ⟨S2048x1024, .f32⟩
  | .hbm, ⟨3, _⟩ => ⟨S64x16, .f32⟩
  | .hbm, ⟨4, _⟩ => ⟨S1x1024, .f32⟩
  | .hbm, ⟨5, _⟩ => ⟨S2048x1024, .f32⟩
  | .hbm, ⟨6, _⟩ => ⟨S2048x1024, .bf16⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S1x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .bf16⟩
  | .local _ .vmem, ⟨10, _⟩ => ⟨S512x1024, .bf16⟩
  | _, _ => ⟨S2304x6144, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1_0 : Ref sig .tc := ⟨.hbm, 5, rfl⟩
abbrev main_v1_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== CombineReferenceIdeal.lean ====
abbrev S2304x6144 : Shape := ⟨2, ![2304, 6144]⟩
abbrev S2048x1024 : Shape := ⟨2, ![2048, 1024]⟩
abbrev S64x16 : Shape := ⟨2, ![64, 16]⟩
abbrev S1024 : Shape := ⟨1, ![1024]⟩
abbrev S1x1024 : Shape := ⟨2, ![1, 1024]⟩
abbrev S_ : Shape := ⟨0, ![]⟩

abbrev nBuf : Space → Nat
  | .hbm => 29
  | .vmem => 0
  | .smem => 0
  | _ => 0

abbrev bufTy : (tb : Table) → Fin (tcTables nBuf tb) → BufTy
  | .hbm, ⟨0, _⟩ => ⟨S2304x6144, .f32⟩
  | .hbm, ⟨1, _⟩ => ⟨S2048x1024, .f32⟩
  | .hbm, ⟨2, _⟩ => ⟨S2048x1024, .f32⟩
  | .hbm, ⟨3, _⟩ => ⟨S64x16, .f32⟩
  | .hbm, ⟨4, _⟩ => ⟨S1024, .f32⟩
  | .hbm, ⟨5, _⟩ => ⟨S2048x1024, .f32⟩
  | .hbm, ⟨6, _⟩ => ⟨S1x1024, .f32⟩
  | .hbm, ⟨7, _⟩ => ⟨S2048x1024, .f32⟩
  | .hbm, ⟨8, _⟩ => ⟨S2048x1024, .f32⟩
  | .hbm, ⟨9, _⟩ => ⟨S2048x1024, .f32⟩
  | .hbm, ⟨10, _⟩ => ⟨S2048x1024, .f32⟩
  | .hbm, ⟨11, _⟩ => ⟨S2048x1024, .f32⟩
  | .hbm, ⟨12, _⟩ => ⟨S2048x1024, .f32⟩
  | .hbm, ⟨13, _⟩ => ⟨S_, .f32⟩
  | .hbm, ⟨14, _⟩ => ⟨S2048x1024, .f32⟩
  | .hbm, ⟨15, _⟩ => ⟨S2048x1024, .f32⟩
  | .hbm, ⟨16, _⟩ => ⟨S2048x1024, .f32⟩
  | .hbm, ⟨17, _⟩ => ⟨S_, .f32⟩
  | .hbm, ⟨18, _⟩ => ⟨S2048x1024, .f32⟩
  | .hbm, ⟨19, _⟩ => ⟨S2048x1024, .f32⟩
  | .hbm, ⟨20, _⟩ => ⟨S2048x1024, .f32⟩
  | .hbm, ⟨21, _⟩ => ⟨S_, .f32⟩
  | .hbm, ⟨22, _⟩ => ⟨S2048x1024, .f32⟩
  | .hbm, ⟨23, _⟩ => ⟨S2048x1024, .f32⟩
  | .hbm, ⟨24, _⟩ => ⟨S_, .f32⟩
  | .hbm, ⟨25, _⟩ => ⟨S2048x1024, .f32⟩
  | .hbm, ⟨26, _⟩ => ⟨S2048x1024, .f32⟩
  | .hbm, ⟨27, _⟩ => ⟨S2048x1024, .f32⟩
  | .hbm, ⟨28, _⟩ => ⟨S2048x1024, .bf16⟩
  | _, _ => ⟨S2304x6144, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_cst : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_cst_0 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_cst_1 : Ref sig .tc := ⟨.hbm, 21, rfl⟩
abbrev main_v15 : Ref sig .tc := ⟨.hbm, 22, rfl⟩
abbrev main_v16 : Ref sig .tc := ⟨.hbm, 23, rfl⟩
abbrev main_cst_2 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩

abbrev nD : Nat := 1
abbrev τ : Topo := Topo.v7x

variable {F : FTy → Type} [FloatOps F]
-- ==== NormX.lean ====
abbrev S2048x2048 : Shape := ⟨2, ![2048, 2048]⟩
abbrev S6x2048 : Shape := ⟨2, ![6, 2048]⟩
abbrev S2048 : Shape := ⟨1, ![2048]⟩
abbrev S1x2048 : Shape := ⟨2, ![1, 2048]⟩
abbrev S256x2048 : Shape := ⟨2, ![256, 2048]⟩
abbrev S256 : Shape := ⟨1, ![256]⟩
abbrev S256x1 : Shape := ⟨2, ![256, 1]⟩

abbrev nBuf : Space → Nat
  | .hbm => 12
  | .vmem => 14
  | .smem => 0
  | _ => 0

abbrev bufTy : (tb : Table) → Fin (tcTables nBuf tb) → BufTy
  | .hbm, ⟨0, _⟩ => ⟨S2048x2048, .f32⟩
  | .hbm, ⟨1, _⟩ => ⟨S2048x2048, .f32⟩
  | .hbm, ⟨2, _⟩ => ⟨S2048x2048, .f32⟩
  | .hbm, ⟨3, _⟩ => ⟨S6x2048, .f32⟩
  | .hbm, ⟨4, _⟩ => ⟨S2048, .f32⟩
  | .hbm, ⟨5, _⟩ => ⟨S1x2048, .f32⟩
  | .hbm, ⟨6, _⟩ => ⟨S1x2048, .f32⟩
  | .hbm, ⟨7, _⟩ => ⟨S1x2048, .f32⟩
  | .hbm, ⟨8, _⟩ => ⟨S2048x2048, .f32⟩
  | .hbm, ⟨9, _⟩ => ⟨S1x2048, .f32⟩
  | .hbm, ⟨10, _⟩ => ⟨S1x2048, .f32⟩
  | .hbm, ⟨11, _⟩ => ⟨S1x2048, .f32⟩
  | .local _ .vmem, ⟨0, _⟩ => ⟨S256x2048, .f32⟩
  | .local _ .vmem, ⟨1, _⟩ => ⟨S256x2048, .f32⟩
  | .local _ .vmem, ⟨2, _⟩ => ⟨S256x2048, .f32⟩
  | .local _ .vmem, ⟨3, _⟩ => ⟨S256x2048, .f32⟩
  | .local _ .vmem, ⟨4, _⟩ => ⟨S256x2048, .f32⟩
  | .local _ .vmem, ⟨5, _⟩ => ⟨S256x2048, .f32⟩
  | .local _ .vmem, ⟨6, _⟩ => ⟨S1x2048, .f32⟩
  | .local _ .vmem, ⟨7, _⟩ => ⟨S1x2048, .f32⟩
  | .local _ .vmem, ⟨8, _⟩ => ⟨S1x2048, .f32⟩
  | .local _ .vmem, ⟨9, _⟩ => ⟨S256x2048, .f32⟩
  | .local _ .vmem, ⟨10, _⟩ => ⟨S256x2048, .f32⟩
  | .local _ .vmem, ⟨11, _⟩ => ⟨S1x2048, .f32⟩
  | .local _ .vmem, ⟨12, _⟩ => ⟨S1x2048, .f32⟩
  | .local _ .vmem, ⟨13, _⟩ => ⟨S1x2048, .f32⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3_0 : Ref sig .tc := ⟨.hbm, 8, rfl⟩
abbrev main_v3_1 : Ref sig .tc := ⟨.hbm, 9, rfl⟩
abbrev main_v3_2 : Ref sig .tc := ⟨.hbm, 10, rfl⟩
abbrev main_v3_3 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem8_0 : DmaSem sig := 12
abbrev cc0_sem9_0 : DmaSem sig := 13

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S256x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x2048 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x2048 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x2048 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]
-- ==== NormXReferenceIdeal.lean ====
abbrev S2048x2048 : Shape := ⟨2, ![2048, 2048]⟩
abbrev S6x2048 : Shape := ⟨2, ![6, 2048]⟩
abbrev S2048 : Shape := ⟨1, ![2048]⟩
abbrev S1x2048 : Shape := ⟨2, ![1, 2048]⟩
abbrev S_ : Shape := ⟨0, ![]⟩
abbrev S2048x1 : Shape := ⟨2, ![2048, 1]⟩

abbrev nBuf : Space → Nat
  | .hbm => 81
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S2048x2048, .f32⟩
  | .hbm, ⟨2, _⟩ => ⟨S2048x2048, .f32⟩
  | .hbm, ⟨3, _⟩ => ⟨S6x2048, .f32⟩
  | .hbm, ⟨4, _⟩ => ⟨S2048, .f32⟩
  | .hbm, ⟨5, _⟩ => ⟨S1x2048, .f32⟩
  | .hbm, ⟨6, _⟩ => ⟨S2048, .f32⟩
  | .hbm, ⟨7, _⟩ => ⟨S1x2048, .f32⟩
  | .hbm, ⟨8, _⟩ => ⟨S2048, .f32⟩
  | .hbm, ⟨9, _⟩ => ⟨S2048x2048, .f32⟩
  | .hbm, ⟨10, _⟩ => ⟨S_, .f32⟩
  | .hbm, ⟨11, _⟩ => ⟨S2048, .f32⟩
  | .hbm, ⟨12, _⟩ => ⟨S2048x1, .f32⟩
  | .hbm, ⟨13, _⟩ => ⟨S_, .f32⟩
  | .hbm, ⟨14, _⟩ => ⟨S2048x1, .f32⟩
  | .hbm, ⟨15, _⟩ => ⟨S2048x1, .f32⟩
  | .hbm, ⟨16, _⟩ => ⟨S_, .f32⟩
  | .hbm, ⟨17, _⟩ => ⟨S2048x1, .f32⟩
  | .hbm, ⟨18, _⟩ => ⟨S2048x1, .f32⟩
  | .hbm, ⟨19, _⟩ => ⟨S2048x1, .f32⟩
  | .hbm, ⟨20, _⟩ => ⟨S2048x1, .f32⟩
  | .hbm, ⟨21, _⟩ => ⟨S_, .f32⟩
  | .hbm, ⟨22, _⟩ => ⟨S2048x1, .f32⟩
  | .hbm, ⟨23, _⟩ => ⟨S2048x1, .f32⟩
  | .hbm, ⟨24, _⟩ => ⟨S2048x2048, .f32⟩
  | .hbm, ⟨25, _⟩ => ⟨S2048x2048, .f32⟩
  | .hbm, ⟨26, _⟩ => ⟨S1x2048, .f32⟩
  | .hbm, ⟨27, _⟩ => ⟨S2048x2048, .f32⟩
  | .hbm, ⟨28, _⟩ => ⟨S2048x2048, .f32⟩
  | .hbm, ⟨29, _⟩ => ⟨S_, .f32⟩
  | .hbm, ⟨30, _⟩ => ⟨S2048, .f32⟩
  | .hbm, ⟨31, _⟩ => ⟨S2048, .f32⟩
  | .hbm, ⟨32, _⟩ => ⟨S1x2048, .f32⟩
  | .hbm, ⟨33, _⟩ => ⟨S2048x2048, .f32⟩
  | .hbm, ⟨34, _⟩ => ⟨S2048x2048, .f32⟩
  | .hbm, ⟨35, _⟩ => ⟨S1x2048, .f32⟩
  | .hbm, ⟨36, _⟩ => ⟨S2048x2048, .f32⟩
  | .hbm, ⟨37, _⟩ => ⟨S2048x2048, .f32⟩
  | .hbm, ⟨38, _⟩ => ⟨S2048x2048, .f32⟩
  | .hbm, ⟨39, _⟩ => ⟨S_, .f32⟩
  | .hbm, ⟨40, _⟩ => ⟨S2048, .f32⟩
  | .hbm, ⟨41, _⟩ => ⟨S1x2048, .f32⟩
  | .hbm, ⟨42, _⟩ => ⟨S_, .f32⟩
  | .hbm, ⟨43, _⟩ => ⟨S2048, .f32⟩
  | .hbm, ⟨44, _⟩ => ⟨S2048x2048, .f32⟩
  | .hbm, ⟨45, _⟩ => ⟨S_, .f32⟩
  | .hbm, ⟨46, _⟩ => ⟨S2048, .f32⟩
  | .hbm, ⟨47, _⟩ => ⟨S1x2048, .f32⟩
  | .hbm, ⟨48, _⟩ => ⟨S2048x2048, .f32⟩
  | .hbm, ⟨49, _⟩ => ⟨S2048x2048, .f32⟩
  | .hbm, ⟨50, _⟩ => ⟨S_, .f32⟩
  | .hbm, ⟨51, _⟩ => ⟨S2048, .f32⟩
  | .hbm, ⟨52, _⟩ => ⟨S2048x2048, .f32⟩
  | .hbm, ⟨53, _⟩ => ⟨S_, .f32⟩
  | .hbm, ⟨54, _⟩ => ⟨S2048, .f32⟩
  | .hbm, ⟨55, _⟩ => ⟨S1x2048, .f32⟩
  | .hbm, ⟨56, _⟩ => ⟨S2048x2048, .f32⟩
  | .hbm, ⟨57, _⟩ => ⟨S2048x2048, .f32⟩
  | .hbm, ⟨58, _⟩ => ⟨S_, .f32⟩
  | .hbm, ⟨59, _⟩ => ⟨S2048, .f32⟩
  | .hbm, ⟨60, _⟩ => ⟨S2048x2048, .f32⟩
  | .hbm, ⟨61, _⟩ => ⟨S_, .f32⟩
  | .hbm, ⟨62, _⟩ => ⟨S2048, .f32⟩
  | .hbm, ⟨63, _⟩ => ⟨S2048x1, .f32⟩
  | .hbm, ⟨64, _⟩ => ⟨S2048x2048, .f32⟩
  | .hbm, ⟨65, _⟩ => ⟨S2048x2048, .f32⟩
  | .hbm, ⟨66, _⟩ => ⟨S2048x1, .f32⟩
  | .hbm, ⟨67, _⟩ => ⟨S_, .f32⟩
  | .hbm, ⟨68, _⟩ => ⟨S2048x1, .f32⟩
  | .hbm, ⟨69, _⟩ => ⟨S2048x1, .f32⟩
  | .hbm, ⟨70, _⟩ => ⟨S_, .f32⟩
  | .hbm, ⟨71, _⟩ => ⟨S2048, .f32⟩
  | .hbm, ⟨72, _⟩ => ⟨S2048x2048, .f32⟩
  | .hbm, ⟨73, _⟩ => ⟨S2048x2048, .f32⟩
  | .hbm, ⟨74, _⟩ => ⟨S2048x2048, .f32⟩
  | .hbm, ⟨75, _⟩ => ⟨S2048x2048, .f32⟩
  | .hbm, ⟨76, _⟩ => ⟨S2048x2048, .f32⟩
  | .hbm, ⟨77, _⟩ => ⟨S2048x2048, .f32⟩
  | .hbm, ⟨78, _⟩ => ⟨S1x2048, .f32⟩
  | .hbm, ⟨79, _⟩ => ⟨S1x2048, .f32⟩
  | .hbm, ⟨80, _⟩ => ⟨S1x2048, .f32⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst : Ref sig .tc := ⟨.hbm, 10, rfl⟩
abbrev main_v5 : Ref sig .tc := ⟨.hbm, 11, rfl⟩
abbrev main_v6 : Ref sig .tc := ⟨.hbm, 12, rfl⟩
abbrev main_cst_0 : Ref sig .tc := ⟨.hbm, 13, rfl⟩
abbrev main_v7 : Ref sig .tc := ⟨.hbm, 14, rfl⟩
abbrev main_v8 : Ref sig .tc := ⟨.hbm, 15, rfl⟩
abbrev main_cst_1 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst_2 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_cst_3 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_cst_4 : Ref sig .tc := ⟨.hbm, 39, rfl⟩
abbrev main_v29 : Ref sig .tc := ⟨.hbm, 40, rfl⟩
abbrev main_v30 : Ref sig .tc := ⟨.hbm, 41, rfl⟩
abbrev main_cst_5 : Ref sig .tc := ⟨.hbm, 42, rfl⟩
abbrev main_v31 : Ref sig .tc := ⟨.hbm, 43, rfl⟩
abbrev main_v32 : Ref sig .tc := ⟨.hbm, 44, rfl⟩
abbrev main_cst_6 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_cst_7 : Ref sig .tc := ⟨.hbm, 50, rfl⟩
abbrev main_v37 : Ref sig .tc := ⟨.hbm, 51, rfl⟩
abbrev main_v38 : Ref sig .tc := ⟨.hbm, 52, rfl⟩
abbrev main_cst_8 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_cst_9 : Ref sig .tc := ⟨.hbm, 58, rfl⟩
abbrev main_v43 : Ref sig .tc := ⟨.hbm, 59, rfl⟩
abbrev main_v44 : Ref sig .tc := ⟨.hbm, 60, rfl⟩
abbrev main_cst_10 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_cst_11 : Ref sig .tc := ⟨.hbm, 67, rfl⟩
abbrev main_v50 : Ref sig .tc := ⟨.hbm, 68, rfl⟩
abbrev main_v51 : Ref sig .tc := ⟨.hbm, 69, rfl⟩
abbrev main_cst_12 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev main_v58 : Ref sig .tc := ⟨.hbm, 77, rfl⟩
abbrev main_v59 : Ref sig .tc := ⟨.hbm, 78, rfl⟩
abbrev main_v60 : Ref sig .tc := ⟨.hbm, 79, rfl⟩
abbrev main_v61 : Ref sig .tc := ⟨.hbm, 80, rfl⟩

abbrev nD : Nat := 1
abbrev τ : Topo := Topo.v7x

variable {F : FTy → Type} [FloatOps F]
-- ==== SkipX.lean ====
abbrev S2304x6144 : Shape := ⟨2, ![2304, 6144]⟩
abbrev S2048x1024 : Shape := ⟨2, ![2048, 1024]⟩
abbrev S64x16 : Shape := ⟨2, ![64, 16]⟩
abbrev S1x1024 : Shape := ⟨2, ![1, 1024]⟩
abbrev S512x1024 : Shape := ⟨2, ![512, 1024]⟩
abbrev S1024 : Shape := ⟨1, ![1024]⟩

abbrev nBuf : Space → Nat
  | .hbm => 8
  | .vmem => 10
  | .smem => 0
  | _ => 0

abbrev bufTy : (tb : Table) → Fin (tcTables nBuf tb) → BufTy
  | .hbm, ⟨0, _⟩ => ⟨S2304x6144, .f32⟩
  | .hbm, ⟨1, _⟩ => ⟨S2048x1024, .f32⟩
  | .hbm, ⟨2, _⟩ => ⟨S2048x1024, .f32⟩
  | .hbm, ⟨3, _⟩ => ⟨S64x16, .f32⟩
  | .hbm, ⟨4, _⟩ => ⟨S2048x1024, .bf16⟩
  | .hbm, ⟨5, _⟩ => ⟨S1x1024, .f32⟩
  | .hbm, ⟨6, _⟩ => ⟨S2048x1024, .f32⟩
  | .hbm, ⟨7, _⟩ => ⟨S1x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S512x1024, .bf16⟩
  | .local _ .vmem, ⟨5, _⟩ => ⟨S512x1024, .bf16⟩
  | .local _ .vmem, ⟨6, _⟩ => ⟨S1x1024, .f32⟩
  | .local _ .vmem, ⟨7, _⟩ => ⟨S512x1024, .f32⟩
  | .local _ .vmem, ⟨8, _⟩ => ⟨S512x1024, .f32⟩
  | .local _ .vmem, ⟨9, _⟩ => ⟨S1x1024, .f32⟩
  | _, _ => ⟨S2304x6144, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2_0 : Ref sig .tc := ⟨.hbm, 6, rfl⟩
abbrev main_v2_1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]
-- ==== SkipXReferenceIdeal.lean ====
abbrev S2304x6144 : Shape := ⟨2, ![2304, 6144]⟩
abbrev S2048x1024 : Shape := ⟨2, ![2048, 1024]⟩
abbrev S64x16 : Shape := ⟨2, ![64, 16]⟩
abbrev S_ : Shape := ⟨0, ![]⟩
abbrev S1024 : Shape := ⟨1, ![1024]⟩
abbrev S1x1024 : Shape := ⟨2, ![1, 1024]⟩

abbrev nBuf : Space → Nat
  | .hbm => 60
  | .vmem => 0
  | .smem => 0
  | _ => 0

abbrev bufTy : (tb : Table) → Fin (tcTables nBuf tb) → BufTy
  | .hbm, ⟨0, _⟩ => ⟨S2304x6144, .f32⟩
  | .hbm, ⟨1, _⟩ => ⟨S2048x1024, .f32⟩
  | .hbm, ⟨2, _⟩ => ⟨S2048x1024, .f32⟩
  | .hbm, ⟨3, _⟩ => ⟨S64x16, .f32⟩
  | .hbm, ⟨4, _⟩ => ⟨S2048x1024, .f32⟩
  | .hbm, ⟨5, _⟩ => ⟨S2048x1024, .f32⟩
  | .hbm, ⟨6, _⟩ => ⟨S2048x1024, .f32⟩
  | .hbm, ⟨7, _⟩ => ⟨S_, .f32⟩
  | .hbm, ⟨8, _⟩ => ⟨S2048x1024, .f32⟩
  | .hbm, ⟨9, _⟩ => ⟨S2048x1024, .f32⟩
  | .hbm, ⟨10, _⟩ => ⟨S_, .f32⟩
  | .hbm, ⟨11, _⟩ => ⟨S2048x1024, .f32⟩
  | .hbm, ⟨12, _⟩ => ⟨S2048x1024, .f32⟩
  | .hbm, ⟨13, _⟩ => ⟨S2048x1024, .f32⟩
  | .hbm, ⟨14, _⟩ => ⟨S_, .f32⟩
  | .hbm, ⟨15, _⟩ => ⟨S2048x1024, .f32⟩
  | .hbm, ⟨16, _⟩ => ⟨S2048x1024, .f32⟩
  | .hbm, ⟨17, _⟩ => ⟨S2048x1024, .f32⟩
  | .hbm, ⟨18, _⟩ => ⟨S_, .f32⟩
  | .hbm, ⟨19, _⟩ => ⟨S2048x1024, .f32⟩
  | .hbm, ⟨20, _⟩ => ⟨S2048x1024, .f32⟩
  | .hbm, ⟨21, _⟩ => ⟨S_, .f32⟩
  | .hbm, ⟨22, _⟩ => ⟨S2048x1024, .f32⟩
  | .hbm, ⟨23, _⟩ => ⟨S2048x1024, .f32⟩
  | .hbm, ⟨24, _⟩ => ⟨S2048x1024, .f32⟩
  | .hbm, ⟨25, _⟩ => ⟨S_, .f32⟩
  | .hbm, ⟨26, _⟩ => ⟨S2048x1024, .f32⟩
  | .hbm, ⟨27, _⟩ => ⟨S2048x1024, .f32⟩
  | .hbm, ⟨28, _⟩ => ⟨S_, .f32⟩
  | .hbm, ⟨29, _⟩ => ⟨S2048x1024, .f32⟩
  | .hbm, ⟨30, _⟩ => ⟨S2048x1024, .f32⟩
  | .hbm, ⟨31, _⟩ => ⟨S2048x1024, .f32⟩
  | .hbm, ⟨32, _⟩ => ⟨S2048x1024, .f32⟩
  | .hbm, ⟨33, _⟩ => ⟨S2048x1024, .f32⟩
  | .hbm, ⟨34, _⟩ => ⟨S_, .f32⟩
  | .hbm, ⟨35, _⟩ => ⟨S2048x1024, .f32⟩
  | .hbm, ⟨36, _⟩ => ⟨S2048x1024, .f32⟩
  | .hbm, ⟨37, _⟩ => ⟨S2048x1024, .f32⟩
  | .hbm, ⟨38, _⟩ => ⟨S_, .f32⟩
  | .hbm, ⟨39, _⟩ => ⟨S2048x1024, .f32⟩
  | .hbm, ⟨40, _⟩ => ⟨S2048x1024, .f32⟩
  | .hbm, ⟨41, _⟩ => ⟨S2048x1024, .f32⟩
  | .hbm, ⟨42, _⟩ => ⟨S_, .f32⟩
  | .hbm, ⟨43, _⟩ => ⟨S2048x1024, .f32⟩
  | .hbm, ⟨44, _⟩ => ⟨S2048x1024, .f32⟩
  | .hbm, ⟨45, _⟩ => ⟨S2048x1024, .f32⟩
  | .hbm, ⟨46, _⟩ => ⟨S2048x1024, .f32⟩
  | .hbm, ⟨47, _⟩ => ⟨S1024, .f32⟩
  | .hbm, ⟨48, _⟩ => ⟨S2048x1024, .f32⟩
  | .hbm, ⟨49, _⟩ => ⟨S1x1024, .f32⟩
  | .hbm, ⟨50, _⟩ => ⟨S2048x1024, .f32⟩
  | .hbm, ⟨51, _⟩ => ⟨S2048x1024, .f32⟩
  | .hbm, ⟨52, _⟩ => ⟨S2048x1024, .f32⟩
  | .hbm, ⟨53, _⟩ => ⟨S_, .f32⟩
  | .hbm, ⟨54, _⟩ => ⟨S1024, .f32⟩
  | .hbm, ⟨55, _⟩ => ⟨S1x1024, .f32⟩
  | .hbm, ⟨56, _⟩ => ⟨S_, .f32⟩
  | .hbm, ⟨57, _⟩ => ⟨S1024, .f32⟩
  | .hbm, ⟨58, _⟩ => ⟨S64x16, .f32⟩
  | .hbm, ⟨59, _⟩ => ⟨S1x1024, .f32⟩
  | _, _ => ⟨S2304x6144, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_cst_0 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst_1 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_cst_2 : Ref sig .tc := ⟨.hbm, 18, rfl⟩
abbrev main_v11 : Ref sig .tc := ⟨.hbm, 19, rfl⟩
abbrev main_v12 : Ref sig .tc := ⟨.hbm, 20, rfl⟩
abbrev main_cst_3 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_cst_4 : Ref sig .tc := ⟨.hbm, 25, rfl⟩
abbrev main_v16 : Ref sig .tc := ⟨.hbm, 26, rfl⟩
abbrev main_v17 : Ref sig .tc := ⟨.hbm, 27, rfl⟩
abbrev main_cst_5 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_cst_6 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_cst_7 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_cst_8 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_cst_9 : Ref sig .tc := ⟨.hbm, 53, rfl⟩
abbrev main_v39 : Ref sig .tc := ⟨.hbm, 54, rfl⟩
abbrev main_v40 : Ref sig .tc := ⟨.hbm, 55, rfl⟩
abbrev main_cst_10 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩

abbrev nD : Nat := 1
abbrev τ : Topo := Topo.v7x

variable {F : FTy → Type} [FloatOps F]
-- ==== QNormX.lean ====
abbrev S2304x6144 : Shape := ⟨2, ![2304, 6144]⟩
abbrev S2048x512 : Shape := ⟨2, ![2048, 512]⟩
abbrev S512 : Shape := ⟨1, ![512]⟩
abbrev S1x512 : Shape := ⟨2, ![1, 512]⟩
abbrev S512x512 : Shape := ⟨2, ![512, 512]⟩
abbrev S512x1 : Shape := ⟨2, ![512, 1]⟩

abbrev nBuf : Space → Nat
  | .hbm => 6
  | .vmem => 8
  | .smem => 0
  | _ => 0

abbrev bufTy : (tb : Table) → Fin (tcTables nBuf tb) → BufTy
  | .hbm, ⟨0, _⟩ => ⟨S2304x6144, .f32⟩
  | .hbm, ⟨1, _⟩ => ⟨S2048x512, .f32⟩
  | .hbm, ⟨2, _⟩ => ⟨S512, .f32⟩
  | .hbm, ⟨3, _⟩ => ⟨S1x512, .f32⟩
  | .hbm, ⟨4, _⟩ => ⟨S2048x512, .bf16⟩
  | .hbm, ⟨5, _⟩ => ⟨S1x512, .f32⟩
  | .local _ .vmem, ⟨0, _⟩ => ⟨S512x512, .f32⟩
  | .local _ .vmem, ⟨1, _⟩ => ⟨S512x512, .f32⟩
  | .local _ .vmem, ⟨2, _⟩ => ⟨S512x512, .f32⟩
  | .local _ .vmem, ⟨3, _⟩ => ⟨S512x512, .f32⟩
  | .local _ .vmem, ⟨4, _⟩ => ⟨S1x512, .f32⟩
  | .local _ .vmem, ⟨5, _⟩ => ⟨S512x512, .bf16⟩
  | .local _ .vmem, ⟨6, _⟩ => ⟨S512x512, .bf16⟩
  | .local _ .vmem, ⟨7, _⟩ => ⟨S1x512, .f32⟩
  | _, _ => ⟨S2304x6144, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1_0 : Ref sig .tc := ⟨.hbm, 4, rfl⟩
abbrev main_v1_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c2_i32 : BitVec 32 := 2#32
  let c0_i32 : BitVec 32 := 0#32
  ![arg0.toNat, c2_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]
-- ==== QNormXReferenceIdeal.lean ====
abbrev S2304x6144 : Shape := ⟨2, ![2304, 6144]⟩
abbrev S2048x512 : Shape := ⟨2, ![2048, 512]⟩
abbrev S512 : Shape := ⟨1, ![512]⟩
abbrev S_ : Shape := ⟨0, ![]⟩
abbrev S2048 : Shape := ⟨1, ![2048]⟩
abbrev S2048x1 : Shape := ⟨2, ![2048, 1]⟩
abbrev S1x512 : Shape := ⟨2, ![1, 512]⟩

abbrev nBuf : Space → Nat
  | .hbm => 51
  | .vmem => 0
  | .smem => 0
  | _ => 0

abbrev bufTy : (tb : Table) → Fin (tcTables nBuf tb) → BufTy
  | .hbm, ⟨0, _⟩ => ⟨S2304x6144, .f32⟩
  | .hbm, ⟨1, _⟩ => ⟨S2048x512, .f32⟩
  | .hbm, ⟨2, _⟩ => ⟨S512, .f32⟩
  | .hbm, ⟨3, _⟩ => ⟨S2048x512, .f32⟩
  | .hbm, ⟨4, _⟩ => ⟨S2048x512, .f32⟩
  | .hbm, ⟨5, _⟩ => ⟨S_, .f32⟩
  | .hbm, ⟨6, _⟩ => ⟨S2048, .f32⟩
  | .hbm, ⟨7, _⟩ => ⟨S2048x1, .f32⟩
  | .hbm, ⟨8, _⟩ => ⟨S_, .f32⟩
  | .hbm, ⟨9, _⟩ => ⟨S2048x1, .f32⟩
  | .hbm, ⟨10, _⟩ => ⟨S2048x1, .f32⟩
  | .hbm, ⟨11, _⟩ => ⟨S_, .f32⟩
  | .hbm, ⟨12, _⟩ => ⟨S2048x1, .f32⟩
  | .hbm, ⟨13, _⟩ => ⟨S2048x1, .f32⟩
  | .hbm, ⟨14, _⟩ => ⟨S2048x1, .f32⟩
  | .hbm, ⟨15, _⟩ => ⟨S2048x1, .f32⟩
  | .hbm, ⟨16, _⟩ => ⟨S_, .f32⟩
  | .hbm, ⟨17, _⟩ => ⟨S2048x1, .f32⟩
  | .hbm, ⟨18, _⟩ => ⟨S2048x1, .f32⟩
  | .hbm, ⟨19, _⟩ => ⟨S2048x512, .f32⟩
  | .hbm, ⟨20, _⟩ => ⟨S2048x512, .f32⟩
  | .hbm, ⟨21, _⟩ => ⟨S1x512, .f32⟩
  | .hbm, ⟨22, _⟩ => ⟨S2048x512, .f32⟩
  | .hbm, ⟨23, _⟩ => ⟨S2048x512, .f32⟩
  | .hbm, ⟨24, _⟩ => ⟨S2048x512, .f32⟩
  | .hbm, ⟨25, _⟩ => ⟨S_, .f32⟩
  | .hbm, ⟨26, _⟩ => ⟨S512, .f32⟩
  | .hbm, ⟨27, _⟩ => ⟨S1x512, .f32⟩
  | .hbm, ⟨28, _⟩ => ⟨S2048x512, .f32⟩
  | .hbm, ⟨29, _⟩ => ⟨S2048x512, .f32⟩
  | .hbm, ⟨30, _⟩ => ⟨S_, .f32⟩
  | .hbm, ⟨31, _⟩ => ⟨S512, .f32⟩
  | .hbm, ⟨32, _⟩ => ⟨S2048x512, .f32⟩
  | .hbm, ⟨33, _⟩ => ⟨S_, .f32⟩
  | .hbm, ⟨34, _⟩ => ⟨S2048, .f32⟩
  | .hbm, ⟨35, _⟩ => ⟨S2048x1, .f32⟩
  | .hbm, ⟨36, _⟩ => ⟨S2048x512, .f32⟩
  | .hbm, ⟨37, _⟩ => ⟨S2048x512, .f32⟩
  | .hbm, ⟨38, _⟩ => ⟨S2048x1, .f32⟩
  | .hbm, ⟨39, _⟩ => ⟨S_, .f32⟩
  | .hbm, ⟨40, _⟩ => ⟨S2048x1, .f32⟩
  | .hbm, ⟨41, _⟩ => ⟨S2048x1, .f32⟩
  | .hbm, ⟨42, _⟩ => ⟨S_, .f32⟩
  | .hbm, ⟨43, _⟩ => ⟨S2048, .f32⟩
  | .hbm, ⟨44, _⟩ => ⟨S2048x512, .f32⟩
  | .hbm, ⟨45, _⟩ => ⟨S2048x512, .f32⟩
  | .hbm, ⟨46, _⟩ => ⟨S2048x512, .f32⟩
  | .hbm, ⟨47, _⟩ => ⟨S2048x512, .f32⟩
  | .hbm, ⟨48, _⟩ => ⟨S2048x512, .f32⟩
  | .hbm, ⟨49, _⟩ => ⟨S2048x512, .bf16⟩
  | .hbm, ⟨50, _⟩ => ⟨S1x512, .f32⟩
  | _, _ => ⟨S2304x6144, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_cst_2 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_cst_3 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_cst_4 : Ref sig .tc := ⟨.hbm, 30, rfl⟩
abbrev main_v22 : Ref sig .tc := ⟨.hbm, 31, rfl⟩
abbrev main_v23 : Ref sig .tc := ⟨.hbm, 32, rfl⟩
abbrev main_cst_5 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_cst_6 : Ref sig .tc := ⟨.hbm, 39, rfl⟩
abbrev main_v29 : Ref sig .tc := ⟨.hbm, 40, rfl⟩
abbrev main_v30 : Ref sig .tc := ⟨.hbm, 41, rfl⟩
abbrev main_cst_7 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩

abbrev nD : Nat := 1
abbrev τ : Topo := Topo.v7x

variable {F : FTy → Type} [FloatOps F]
-- ==== KvNormX.lean ====
abbrev S2304x6144 : Shape := ⟨2, ![2304, 6144]⟩
abbrev S2304x256 : Shape := ⟨2, ![2304, 256]⟩
abbrev S256 : Shape := ⟨1, ![256]⟩
abbrev S1x256 : Shape := ⟨2, ![1, 256]⟩
abbrev S256x256 : Shape := ⟨2, ![256, 256]⟩
abbrev S256x1 : Shape := ⟨2, ![256, 1]⟩

abbrev nBuf : Space → Nat
  | .hbm => 6
  | .vmem => 8
  | .smem => 0
  | _ => 0

abbrev bufTy : (tb : Table) → Fin (tcTables nBuf tb) → BufTy
  | .hbm, ⟨0, _⟩ => ⟨S2304x6144, .f32⟩
  | .hbm, ⟨1, _⟩ => ⟨S2304x256, .f32⟩
  | .hbm, ⟨2, _⟩ => ⟨S256, .f32⟩
  | .hbm, ⟨3, _⟩ => ⟨S1x256, .f32⟩
  | .hbm, ⟨4, _⟩ => ⟨S2304x256, .bf16⟩
  | .hbm, ⟨5, _⟩ => ⟨S1x256, .f32⟩
  | .local _ .vmem, ⟨0, _⟩ => ⟨S256x256, .f32⟩
  | .local _ .vmem, ⟨1, _⟩ => ⟨S256x256, .f32⟩
  | .local _ .vmem, ⟨2, _⟩ => ⟨S256x256, .f32⟩
  | .local _ .vmem, ⟨3, _⟩ => ⟨S256x256, .f32⟩
  | .local _ .vmem, ⟨4, _⟩ => ⟨S1x256, .f32⟩
  | .local _ .vmem, ⟨5, _⟩ => ⟨S256x256, .bf16⟩
  | .local _ .vmem, ⟨6, _⟩ => ⟨S256x256, .bf16⟩
  | .local _ .vmem, ⟨7, _⟩ => ⟨S1x256, .f32⟩
  | _, _ => ⟨S2304x6144, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1_0 : Ref sig .tc := ⟨.hbm, 4, rfl⟩
abbrev main_v1_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7

abbrev nD : Nat := 1
abbrev τ : Topo := Topo.v7x

variable {F : FTy → Type} [FloatOps F]

abbrev grid0 : Pipeline.Grid := ⟨1, ![9], ![false]⟩

def cc0_transform_0 (i : grid0.Coords) : Fin 2 → Nat :=
  let arg0 : BitVec 32 := BitVec.ofNat 32 (i 0).val
  let c6_i32 : BitVec 32 := 6#32
  let c0_i32 : BitVec 32 := 0#32
  ![arg0.toNat, c6_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]
-- ==== KvNormXReferenceIdeal.lean ====
abbrev S2304x6144 : Shape := ⟨2, ![2304, 6144]⟩
abbrev S2304x256 : Shape := ⟨2, ![2304, 256]⟩
abbrev S256 : Shape := ⟨1, ![256]⟩
abbrev S_ : Shape := ⟨0, ![]⟩
abbrev S2304 : Shape := ⟨1, ![2304]⟩
abbrev S2304x1 : Shape := ⟨2, ![2304, 1]⟩
abbrev S1x256 : Shape := ⟨2, ![1, 256]⟩

abbrev nBuf : Space → Nat
  | .hbm => 51
  | .vmem => 0
  | .smem => 0
  | _ => 0

abbrev bufTy : (tb : Table) → Fin (tcTables nBuf tb) → BufTy
  | .hbm, ⟨0, _⟩ => ⟨S2304x6144, .f32⟩
  | .hbm, ⟨1, _⟩ => ⟨S2304x256, .f32⟩
  | .hbm, ⟨2, _⟩ => ⟨S256, .f32⟩
  | .hbm, ⟨3, _⟩ => ⟨S2304x256, .f32⟩
  | .hbm, ⟨4, _⟩ => ⟨S2304x256, .f32⟩
  | .hbm, ⟨5, _⟩ => ⟨S_, .f32⟩
  | .hbm, ⟨6, _⟩ => ⟨S2304, .f32⟩
  | .hbm, ⟨7, _⟩ => ⟨S2304x1, .f32⟩
  | .hbm, ⟨8, _⟩ => ⟨S_, .f32⟩
  | .hbm, ⟨9, _⟩ => ⟨S2304x1, .f32⟩
  | .hbm, ⟨10, _⟩ => ⟨S2304x1, .f32⟩
  | .hbm, ⟨11, _⟩ => ⟨S_, .f32⟩
  | .hbm, ⟨12, _⟩ => ⟨S2304x1, .f32⟩
  | .hbm, ⟨13, _⟩ => ⟨S2304x1, .f32⟩
  | .hbm, ⟨14, _⟩ => ⟨S2304x1, .f32⟩
  | .hbm, ⟨15, _⟩ => ⟨S2304x1, .f32⟩
  | .hbm, ⟨16, _⟩ => ⟨S_, .f32⟩
  | .hbm, ⟨17, _⟩ => ⟨S2304x1, .f32⟩
  | .hbm, ⟨18, _⟩ => ⟨S2304x1, .f32⟩
  | .hbm, ⟨19, _⟩ => ⟨S2304x256, .f32⟩
  | .hbm, ⟨20, _⟩ => ⟨S2304x256, .f32⟩
  | .hbm, ⟨21, _⟩ => ⟨S1x256, .f32⟩
  | .hbm, ⟨22, _⟩ => ⟨S2304x256, .f32⟩
  | .hbm, ⟨23, _⟩ => ⟨S2304x256, .f32⟩
  | .hbm, ⟨24, _⟩ => ⟨S2304x256, .f32⟩
  | .hbm, ⟨25, _⟩ => ⟨S_, .f32⟩
  | .hbm, ⟨26, _⟩ => ⟨S256, .f32⟩
  | .hbm, ⟨27, _⟩ => ⟨S1x256, .f32⟩
  | .hbm, ⟨28, _⟩ => ⟨S2304x256, .f32⟩
  | .hbm, ⟨29, _⟩ => ⟨S2304x256, .f32⟩
  | .hbm, ⟨30, _⟩ => ⟨S_, .f32⟩
  | .hbm, ⟨31, _⟩ => ⟨S256, .f32⟩
  | .hbm, ⟨32, _⟩ => ⟨S2304x256, .f32⟩
  | .hbm, ⟨33, _⟩ => ⟨S_, .f32⟩
  | .hbm, ⟨34, _⟩ => ⟨S2304, .f32⟩
  | .hbm, ⟨35, _⟩ => ⟨S2304x1, .f32⟩
  | .hbm, ⟨36, _⟩ => ⟨S2304x256, .f32⟩
  | .hbm, ⟨37, _⟩ => ⟨S2304x256, .f32⟩
  | .hbm, ⟨38, _⟩ => ⟨S2304x1, .f32⟩
  | .hbm, ⟨39, _⟩ => ⟨S_, .f32⟩
  | .hbm, ⟨40, _⟩ => ⟨S2304x1, .f32⟩
  | .hbm, ⟨41, _⟩ => ⟨S2304x1, .f32⟩
  | .hbm, ⟨42, _⟩ => ⟨S_, .f32⟩
  | .hbm, ⟨43, _⟩ => ⟨S2304, .f32⟩
  | .hbm, ⟨44, _⟩ => ⟨S2304x256, .f32⟩
  | .hbm, ⟨45, _⟩ => ⟨S2304x256, .f32⟩
  | .hbm, ⟨46, _⟩ => ⟨S2304x256, .f32⟩
  | .hbm, ⟨47, _⟩ => ⟨S2304x256, .f32⟩
  | .hbm, ⟨48, _⟩ => ⟨S2304x256, .f32⟩
  | .hbm, ⟨49, _⟩ => ⟨S2304x256, .bf16⟩
  | .hbm, ⟨50, _⟩ => ⟨S1x256, .f32⟩
  | _, _ => ⟨S2304x6144, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_cst_2 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_cst_3 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_cst_4 : Ref sig .tc := ⟨.hbm, 30, rfl⟩
abbrev main_v22 : Ref sig .tc := ⟨.hbm, 31, rfl⟩
abbrev main_v23 : Ref sig .tc := ⟨.hbm, 32, rfl⟩
abbrev main_cst_5 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_cst_6 : Ref sig .tc := ⟨.hbm, 39, rfl⟩
abbrev main_v29 : Ref sig .tc := ⟨.hbm, 40, rfl⟩
abbrev main_v30 : Ref sig .tc := ⟨.hbm, 41, rfl⟩
abbrev main_cst_7 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩

abbrev nD : Nat := 1
abbrev τ : Topo := Topo.v7x

variable {F : FTy → Type} [FloatOps F]
-- ==== ResidX.lean ====
abbrev S2048x2048 : Shape := ⟨2, ![2048, 2048]⟩
abbrev S6x2048 : Shape := ⟨2, ![6, 2048]⟩
abbrev S2048 : Shape := ⟨1, ![2048]⟩
abbrev S1x2048 : Shape := ⟨2, ![1, 2048]⟩
abbrev S256x2048 : Shape := ⟨2, ![256, 2048]⟩
abbrev S256 : Shape := ⟨1, ![256]⟩
abbrev S256x1 : Shape := ⟨2, ![256, 1]⟩

abbrev nBuf : Space → Nat
  | .hbm => 16
  | .vmem => 20
  | .smem => 0
  | _ => 0

abbrev bufTy : (tb : Table) → Fin (tcTables nBuf tb) → BufTy
  | .hbm, ⟨0, _⟩ => ⟨S2048x2048, .f32⟩
  | .hbm, ⟨1, _⟩ => ⟨S2048x2048, .f32⟩
  | .hbm, ⟨2, _⟩ => ⟨S2048x2048, .f32⟩
  | .hbm, ⟨3, _⟩ => ⟨S2048x2048, .f32⟩
  | .hbm, ⟨4, _⟩ => ⟨S6x2048, .f32⟩
  | .hbm, ⟨5, _⟩ => ⟨S2048, .f32⟩
  | .hbm, ⟨6, _⟩ => ⟨S1x2048, .f32⟩
  | .hbm, ⟨7, _⟩ => ⟨S1x2048, .f32⟩
  | .hbm, ⟨8, _⟩ => ⟨S1x2048, .f32⟩
  | .hbm, ⟨9, _⟩ => ⟨S1x2048, .f32⟩
  | .hbm, ⟨10, _⟩ => ⟨S2048x2048, .f32⟩
  | .hbm, ⟨11, _⟩ => ⟨S2048x2048, .bf16⟩
  | .hbm, ⟨12, _⟩ => ⟨S1x2048, .f32⟩
  | .hbm, ⟨13, _⟩ => ⟨S1x2048, .f32⟩
  | .hbm, ⟨14, _⟩ => ⟨S1x2048, .f32⟩
  | .hbm, ⟨15, _⟩ => ⟨S1x2048, .f32⟩
  | .local _ .vmem, ⟨0, _⟩ => ⟨S256x2048, .f32⟩
  | .local _ .vmem, ⟨1, _⟩ => ⟨S256x2048, .f32⟩
  | .local _ .vmem, ⟨2, _⟩ => ⟨S256x2048, .f32⟩
  | .local _ .vmem, ⟨3, _⟩ => ⟨S256x2048, .f32⟩
  | .local _ .vmem, ⟨4, _⟩ => ⟨S256x2048, .f32⟩
  | .local _ .vmem, ⟨5, _⟩ => ⟨S256x2048, .f32⟩
  | .local _ .vmem, ⟨6, _⟩ => ⟨S256x2048, .f32⟩
  | .local _ .vmem, ⟨7, _⟩ => ⟨S256x2048, .f32⟩
  | .local _ .vmem, ⟨8, _⟩ => ⟨S1x2048, .f32⟩
  | .local _ .vmem, ⟨9, _⟩ => ⟨S1x2048, .f32⟩
  | .local _ .vmem, ⟨10, _⟩ => ⟨S1x2048, .f32⟩
  | .local _ .vmem, ⟨11, _⟩ => ⟨S1x2048, .f32⟩
  | .local _ .vmem, ⟨12, _⟩ => ⟨S256x2048, .f32⟩
  | .local _ .vmem, ⟨13, _⟩ => ⟨S256x2048, .f32⟩
  | .local _ .vmem, ⟨14, _⟩ => ⟨S256x2048, .bf16⟩
  | .local _ .vmem, ⟨15, _⟩ => ⟨S256x2048, .bf16⟩
  | .local _ .vmem, ⟨16, _⟩ => ⟨S1x2048, .f32⟩
  | .local _ .vmem, ⟨17, _⟩ => ⟨S1x2048, .f32⟩
  | .local _ .vmem, ⟨18, _⟩ => ⟨S1x2048, .f32⟩
  | .local _ .vmem, ⟨19, _⟩ => ⟨S1x2048, .f32⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4_0 : Ref sig .tc := ⟨.hbm, 10, rfl⟩
abbrev main_v4_1 : Ref sig .tc := ⟨.hbm, 11, rfl⟩
abbrev main_v4_2 : Ref sig .tc := ⟨.hbm, 12, rfl⟩
abbrev main_v4_3 : Ref sig .tc := ⟨.hbm, 13, rfl⟩
abbrev main_v4_4 : Ref sig .tc := ⟨.hbm, 14, rfl⟩
abbrev main_v4_5 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg11_0 : Ref sig .tc := ⟨.vmem, 17, rfl⟩
abbrev cc0_stg12_0 : Ref sig .tc := ⟨.vmem, 18, rfl⟩
abbrev cc0_stg13_0 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem8_1 : DmaSem sig := 13
abbrev cc0_sem9_0 : DmaSem sig := 14
abbrev cc0_sem9_1 : DmaSem sig := 15
abbrev cc0_sem10_0 : DmaSem sig := 16
abbrev cc0_sem11_0 : DmaSem sig := 17
abbrev cc0_sem12_0 : DmaSem sig := 18
abbrev cc0_sem13_0 : DmaSem sig := 19

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x2048 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S256x2048 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x2048 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 1 → Memref sig .tc .vmem S1x2048 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x2048 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x2048 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1x2048 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]
-- ==== ResidXReferenceIdeal.lean ====
abbrev S2048x2048 : Shape := ⟨2, ![2048, 2048]⟩
abbrev S6x2048 : Shape := ⟨2, ![6, 2048]⟩
abbrev S2048 : Shape := ⟨1, ![2048]⟩
abbrev S1x2048 : Shape := ⟨2, ![1, 2048]⟩
abbrev S_ : Shape := ⟨0, ![]⟩
abbrev S2048x1 : Shape := ⟨2, ![2048, 1]⟩

abbrev nBuf : Space → Nat
  | .hbm => 99
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S2048x2048, .f32⟩
  | .hbm, ⟨2, _⟩ => ⟨S2048x2048, .f32⟩
  | .hbm, ⟨3, _⟩ => ⟨S2048x2048, .f32⟩
  | .hbm, ⟨4, _⟩ => ⟨S6x2048, .f32⟩
  | .hbm, ⟨5, _⟩ => ⟨S2048, .f32⟩
  | .hbm, ⟨6, _⟩ => ⟨S1x2048, .f32⟩
  | .hbm, ⟨7, _⟩ => ⟨S2048, .f32⟩
  | .hbm, ⟨8, _⟩ => ⟨S1x2048, .f32⟩
  | .hbm, ⟨9, _⟩ => ⟨S2048, .f32⟩
  | .hbm, ⟨10, _⟩ => ⟨S1x2048, .f32⟩
  | .hbm, ⟨11, _⟩ => ⟨S2048, .f32⟩
  | .hbm, ⟨12, _⟩ => ⟨S1x2048, .f32⟩
  | .hbm, ⟨13, _⟩ => ⟨S2048x2048, .f32⟩
  | .hbm, ⟨14, _⟩ => ⟨S2048x2048, .f32⟩
  | .hbm, ⟨15, _⟩ => ⟨S2048x2048, .f32⟩
  | .hbm, ⟨16, _⟩ => ⟨S2048x2048, .f32⟩
  | .hbm, ⟨17, _⟩ => ⟨S_, .f32⟩
  | .hbm, ⟨18, _⟩ => ⟨S2048, .f32⟩
  | .hbm, ⟨19, _⟩ => ⟨S2048x1, .f32⟩
  | .hbm, ⟨20, _⟩ => ⟨S_, .f32⟩
  | .hbm, ⟨21, _⟩ => ⟨S2048x1, .f32⟩
  | .hbm, ⟨22, _⟩ => ⟨S2048x1, .f32⟩
  | .hbm, ⟨23, _⟩ => ⟨S_, .f32⟩
  | .hbm, ⟨24, _⟩ => ⟨S2048x1, .f32⟩
  | .hbm, ⟨25, _⟩ => ⟨S2048x1, .f32⟩
  | .hbm, ⟨26, _⟩ => ⟨S2048x1, .f32⟩
  | .hbm, ⟨27, _⟩ => ⟨S2048x1, .f32⟩
  | .hbm, ⟨28, _⟩ => ⟨S_, .f32⟩
  | .hbm, ⟨29, _⟩ => ⟨S2048x1, .f32⟩
  | .hbm, ⟨30, _⟩ => ⟨S2048x1, .f32⟩
  | .hbm, ⟨31, _⟩ => ⟨S2048x2048, .f32⟩
  | .hbm, ⟨32, _⟩ => ⟨S2048x2048, .f32⟩
  | .hbm, ⟨33, _⟩ => ⟨S1x2048, .f32⟩
  | .hbm, ⟨34, _⟩ => ⟨S2048x2048, .f32⟩
  | .hbm, ⟨35, _⟩ => ⟨S2048x2048, .f32⟩
  | .hbm, ⟨36, _⟩ => ⟨S_, .f32⟩
  | .hbm, ⟨37, _⟩ => ⟨S2048, .f32⟩
  | .hbm, ⟨38, _⟩ => ⟨S2048, .f32⟩
  | .hbm, ⟨39, _⟩ => ⟨S1x2048, .f32⟩
  | .hbm, ⟨40, _⟩ => ⟨S2048x2048, .f32⟩
  | .hbm, ⟨41, _⟩ => ⟨S2048x2048, .f32⟩
  | .hbm, ⟨42, _⟩ => ⟨S1x2048, .f32⟩
  | .hbm, ⟨43, _⟩ => ⟨S2048x2048, .f32⟩
  | .hbm, ⟨44, _⟩ => ⟨S2048x2048, .f32⟩
  | .hbm, ⟨45, _⟩ => ⟨S2048x2048, .f32⟩
  | .hbm, ⟨46, _⟩ => ⟨S_, .f32⟩
  | .hbm, ⟨47, _⟩ => ⟨S2048, .f32⟩
  | .hbm, ⟨48, _⟩ => ⟨S1x2048, .f32⟩
  | .hbm, ⟨49, _⟩ => ⟨S_, .f32⟩
  | .hbm, ⟨50, _⟩ => ⟨S2048, .f32⟩
  | .hbm, ⟨51, _⟩ => ⟨S2048x2048, .f32⟩
  | .hbm, ⟨52, _⟩ => ⟨S_, .f32⟩
  | .hbm, ⟨53, _⟩ => ⟨S2048, .f32⟩
  | .hbm, ⟨54, _⟩ => ⟨S1x2048, .f32⟩
  | .hbm, ⟨55, _⟩ => ⟨S2048x2048, .f32⟩
  | .hbm, ⟨56, _⟩ => ⟨S2048x2048, .f32⟩
  | .hbm, ⟨57, _⟩ => ⟨S_, .f32⟩
  | .hbm, ⟨58, _⟩ => ⟨S2048, .f32⟩
  | .hbm, ⟨59, _⟩ => ⟨S2048x2048, .f32⟩
  | .hbm, ⟨60, _⟩ => ⟨S_, .f32⟩
  | .hbm, ⟨61, _⟩ => ⟨S2048, .f32⟩
  | .hbm, ⟨62, _⟩ => ⟨S1x2048, .f32⟩
  | .hbm, ⟨63, _⟩ => ⟨S2048x2048, .f32⟩
  | .hbm, ⟨64, _⟩ => ⟨S2048x2048, .f32⟩
  | .hbm, ⟨65, _⟩ => ⟨S_, .f32⟩
  | .hbm, ⟨66, _⟩ => ⟨S2048, .f32⟩
  | .hbm, ⟨67, _⟩ => ⟨S2048x2048, .f32⟩
  | .hbm, ⟨68, _⟩ => ⟨S_, .f32⟩
  | .hbm, ⟨69, _⟩ => ⟨S2048, .f32⟩
  | .hbm, ⟨70, _⟩ => ⟨S2048x1, .f32⟩
  | .hbm, ⟨71, _⟩ => ⟨S2048x2048, .f32⟩
  | .hbm, ⟨72, _⟩ => ⟨S2048x2048, .f32⟩
  | .hbm, ⟨73, _⟩ => ⟨S2048x2048, .f32⟩
  | .hbm, ⟨74, _⟩ => ⟨S2048x1, .f32⟩
  | .hbm, ⟨75, _⟩ => ⟨S_, .f32⟩
  | .hbm, ⟨76, _⟩ => ⟨S2048x1, .f32⟩
  | .hbm, ⟨77, _⟩ => ⟨S2048x1, .f32⟩
  | .hbm, ⟨78, _⟩ => ⟨S_, .f32⟩
  | .hbm, ⟨79, _⟩ => ⟨S2048, .f32⟩
  | .hbm, ⟨80, _⟩ => ⟨S2048x2048, .f32⟩
  | .hbm, ⟨81, _⟩ => ⟨S2048x2048, .f32⟩
  | .hbm, ⟨82, _⟩ => ⟨S2048x2048, .f32⟩
  | .hbm, ⟨83, _⟩ => ⟨S2048x2048, .f32⟩
  | .hbm, ⟨84, _⟩ => ⟨S2048x2048, .f32⟩
  | .hbm, ⟨85, _⟩ => ⟨S2048x2048, .f32⟩
  | .hbm, ⟨86, _⟩ => ⟨S2048x2048, .f32⟩
  | .hbm, ⟨87, _⟩ => ⟨S2048x2048, .f32⟩
  | .hbm, ⟨88, _⟩ => ⟨S2048x2048, .f32⟩
  | .hbm, ⟨89, _⟩ => ⟨S_, .f32⟩
  | .hbm, ⟨90, _⟩ => ⟨S2048, .f32⟩
  | .hbm, ⟨91, _⟩ => ⟨S1x2048, .f32⟩
  | .hbm, ⟨92, _⟩ => ⟨S_, .f32⟩
  | .hbm, ⟨93, _⟩ => ⟨S2048, .f32⟩
  | .hbm, ⟨94, _⟩ => ⟨S2048x2048, .bf16⟩
  | .hbm, ⟨95, _⟩ => ⟨S1x2048, .f32⟩
  | .hbm, ⟨96, _⟩ => ⟨S1x2048, .f32⟩
  | .hbm, ⟨97, _⟩ => ⟨S1x2048, .f32⟩
  | .hbm, ⟨98, _⟩ => ⟨S1x2048, .f32⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_cst : Ref sig .tc := ⟨.hbm, 17, rfl⟩
abbrev main_v11 : Ref sig .tc := ⟨.hbm, 18, rfl⟩
abbrev main_v12 : Ref sig .tc := ⟨.hbm, 19, rfl⟩
abbrev main_cst_0 : Ref sig .tc := ⟨.hbm, 20, rfl⟩
abbrev main_v13 : Ref sig .tc := ⟨.hbm, 21, rfl⟩
abbrev main_v14 : Ref sig .tc := ⟨.hbm, 22, rfl⟩
abbrev main_cst_1 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_cst_2 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_cst_3 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_cst_4 : Ref sig .tc := ⟨.hbm, 46, rfl⟩
abbrev main_v35 : Ref sig .tc := ⟨.hbm, 47, rfl⟩
abbrev main_v36 : Ref sig .tc := ⟨.hbm, 48, rfl⟩
abbrev main_cst_5 : Ref sig .tc := ⟨.hbm, 49, rfl⟩
abbrev main_v37 : Ref sig .tc := ⟨.hbm, 50, rfl⟩
abbrev main_v38 : Ref sig .tc := ⟨.hbm, 51, rfl⟩
abbrev main_cst_6 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_cst_7 : Ref sig .tc := ⟨.hbm, 57, rfl⟩
abbrev main_v43 : Ref sig .tc := ⟨.hbm, 58, rfl⟩
abbrev main_v44 : Ref sig .tc := ⟨.hbm, 59, rfl⟩
abbrev main_cst_8 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_cst_9 : Ref sig .tc := ⟨.hbm, 65, rfl⟩
abbrev main_v49 : Ref sig .tc := ⟨.hbm, 66, rfl⟩
abbrev main_v50 : Ref sig .tc := ⟨.hbm, 67, rfl⟩
abbrev main_cst_10 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_v55 : Ref sig .tc := ⟨.hbm, 73, rfl⟩
abbrev main_v56 : Ref sig .tc := ⟨.hbm, 74, rfl⟩
abbrev main_cst_11 : Ref sig .tc := ⟨.hbm, 75, rfl⟩
abbrev main_v57 : Ref sig .tc := ⟨.hbm, 76, rfl⟩
abbrev main_v58 : Ref sig .tc := ⟨.hbm, 77, rfl⟩
abbrev main_cst_12 : Ref sig .tc := ⟨.hbm, 78, rfl⟩
abbrev main_v59 : Ref sig .tc := ⟨.hbm, 79, rfl⟩
abbrev main_v60 : Ref sig .tc := ⟨.hbm, 80, rfl⟩
abbrev main_v61 : Ref sig .tc := ⟨.hbm, 81, rfl⟩
abbrev main_v62 : Ref sig .tc := ⟨.hbm, 82, rfl⟩
abbrev main_v63 : Ref sig .tc := ⟨.hbm, 83, rfl⟩
abbrev main_v64 : Ref sig .tc := ⟨.hbm, 84, rfl⟩
abbrev main_v65 : Ref sig .tc := ⟨.hbm, 85, rfl⟩
abbrev main_v66 : Ref sig .tc := ⟨.hbm, 86, rfl⟩
abbrev main_v67 : Ref sig .tc := ⟨.hbm, 87, rfl⟩
abbrev main_v68 : Ref sig .tc := ⟨.hbm, 88, rfl⟩
abbrev main_cst_13 : Ref sig .tc := ⟨.hbm, 89, rfl⟩
abbrev main_v69 : Ref sig .tc := ⟨.hbm, 90, rfl⟩
abbrev main_v70 : Ref sig .tc := ⟨.hbm, 91, rfl⟩
abbrev main_cst_14 : Ref sig .tc := ⟨.hbm, 92, rfl⟩
abbrev main_v71 : Ref sig .tc := ⟨.hbm, 93, rfl⟩
abbrev main_v72 : Ref sig .tc := ⟨.hbm, 94, rfl⟩
abbrev main_v73 : Ref sig .tc := ⟨.hbm, 95, rfl⟩
abbrev main_v74 : Ref sig .tc := ⟨.hbm, 96, rfl⟩
abbrev main_v75 : Ref sig .tc := ⟨.hbm, 97, rfl⟩
abbrev main_v76 : Ref sig .tc := ⟨.hbm, 98, rfl⟩

abbrev nD : Nat := 1
abbrev τ : Topo := Topo.v7x

variable {F : FTy → Type} [FloatOps F]
-- ==== CtxX.lean ====
abbrev S256x2048 : Shape := ⟨2, ![256, 2048]⟩
abbrev S6x2048 : Shape := ⟨2, ![6, 2048]⟩
abbrev S2048 : Shape := ⟨1, ![2048]⟩
abbrev S1x2048 : Shape := ⟨2, ![1, 2048]⟩
abbrev S256 : Shape := ⟨1, ![256]⟩
abbrev S256x1 : Shape := ⟨2, ![256, 1]⟩

abbrev nBuf : Space → Nat
  | .hbm => 10
  | .vmem => 8
  | .smem => 0
  | _ => 0

abbrev bufTy : (tb : Table) → Fin (tcTables nBuf tb) → BufTy
  | .hbm, ⟨0, _⟩ => ⟨S256x2048, .f32⟩
  | .hbm, ⟨1, _⟩ => ⟨S256x2048, .f32⟩
  | .hbm, ⟨2, _⟩ => ⟨S6x2048, .f32⟩
  | .hbm, ⟨3, _⟩ => ⟨S2048, .f32⟩
  | .hbm, ⟨4, _⟩ => ⟨S1x2048, .f32⟩
  | .hbm, ⟨5, _⟩ => ⟨S1x2048, .f32⟩
  | .hbm, ⟨6, _⟩ => ⟨S1x2048, .f32⟩
  | .hbm, ⟨7, _⟩ => ⟨S1x2048, .f32⟩
  | .hbm, ⟨8, _⟩ => ⟨S1x2048, .f32⟩
  | .hbm, ⟨9, _⟩ => ⟨S1x2048, .f32⟩
  | .local _ .vmem, ⟨0, _⟩ => ⟨S256x2048, .f32⟩
  | .local _ .vmem, ⟨1, _⟩ => ⟨S256x2048, .f32⟩
  | .local _ .vmem, ⟨2, _⟩ => ⟨S1x2048, .f32⟩
  | .local _ .vmem, ⟨3, _⟩ => ⟨S1x2048, .f32⟩
  | .local _ .vmem, ⟨4, _⟩ => ⟨S1x2048, .f32⟩
  | .local _ .vmem, ⟨5, _⟩ => ⟨S1x2048, .f32⟩
  | .local _ .vmem, ⟨6, _⟩ => ⟨S1x2048, .f32⟩
  | .local _ .vmem, ⟨7, _⟩ => ⟨S1x2048, .f32⟩
  | _, _ => ⟨S256x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3_0 : Ref sig .tc := ⟨.hbm, 7, rfl⟩
abbrev main_v3_1 : Ref sig .tc := ⟨.hbm, 8, rfl⟩
abbrev main_v3_2 : Ref sig .tc := ⟨.hbm, 9, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S256x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S256x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x2048 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]
-- ==== CtxXReferenceIdeal.lean ====
abbrev S256x2048 : Shape := ⟨2, ![256, 2048]⟩
abbrev S6x2048 : Shape := ⟨2, ![6, 2048]⟩
abbrev S2048 : Shape := ⟨1, ![2048]⟩
abbrev S1x2048 : Shape := ⟨2, ![1, 2048]⟩
abbrev S_ : Shape := ⟨0, ![]⟩
abbrev S256 : Shape := ⟨1, ![256]⟩
abbrev S256x1 : Shape := ⟨2, ![256, 1]⟩

abbrev nBuf : Space → Nat
  | .hbm => 56
  | .vmem => 0
  | .smem => 0
  | _ => 0

abbrev bufTy : (tb : Table) → Fin (tcTables nBuf tb) → BufTy
  | .hbm, ⟨0, _⟩ => ⟨S256x2048, .f32⟩
  | .hbm, ⟨1, _⟩ => ⟨S256x2048, .f32⟩
  | .hbm, ⟨2, _⟩ => ⟨S6x2048, .f32⟩
  | .hbm, ⟨3, _⟩ => ⟨S2048, .f32⟩
  | .hbm, ⟨4, _⟩ => ⟨S1x2048, .f32⟩
  | .hbm, ⟨5, _⟩ => ⟨S2048, .f32⟩
  | .hbm, ⟨6, _⟩ => ⟨S1x2048, .f32⟩
  | .hbm, ⟨7, _⟩ => ⟨S2048, .f32⟩
  | .hbm, ⟨8, _⟩ => ⟨S256x2048, .f32⟩
  | .hbm, ⟨9, _⟩ => ⟨S_, .f32⟩
  | .hbm, ⟨10, _⟩ => ⟨S256, .f32⟩
  | .hbm, ⟨11, _⟩ => ⟨S256x1, .f32⟩
  | .hbm, ⟨12, _⟩ => ⟨S_, .f32⟩
  | .hbm, ⟨13, _⟩ => ⟨S256x1, .f32⟩
  | .hbm, ⟨14, _⟩ => ⟨S256x1, .f32⟩
  | .hbm, ⟨15, _⟩ => ⟨S_, .f32⟩
  | .hbm, ⟨16, _⟩ => ⟨S256x1, .f32⟩
  | .hbm, ⟨17, _⟩ => ⟨S256x1, .f32⟩
  | .hbm, ⟨18, _⟩ => ⟨S256x1, .f32⟩
  | .hbm, ⟨19, _⟩ => ⟨S256x2048, .f32⟩
  | .hbm, ⟨20, _⟩ => ⟨S256x2048, .f32⟩
  | .hbm, ⟨21, _⟩ => ⟨S1x2048, .f32⟩
  | .hbm, ⟨22, _⟩ => ⟨S256x2048, .f32⟩
  | .hbm, ⟨23, _⟩ => ⟨S256x2048, .f32⟩
  | .hbm, ⟨24, _⟩ => ⟨S_, .f32⟩
  | .hbm, ⟨25, _⟩ => ⟨S2048, .f32⟩
  | .hbm, ⟨26, _⟩ => ⟨S2048, .f32⟩
  | .hbm, ⟨27, _⟩ => ⟨S1x2048, .f32⟩
  | .hbm, ⟨28, _⟩ => ⟨S256x2048, .f32⟩
  | .hbm, ⟨29, _⟩ => ⟨S256x2048, .f32⟩
  | .hbm, ⟨30, _⟩ => ⟨S1x2048, .f32⟩
  | .hbm, ⟨31, _⟩ => ⟨S256x2048, .f32⟩
  | .hbm, ⟨32, _⟩ => ⟨S256x2048, .f32⟩
  | .hbm, ⟨33, _⟩ => ⟨S256x2048, .f32⟩
  | .hbm, ⟨34, _⟩ => ⟨S_, .f32⟩
  | .hbm, ⟨35, _⟩ => ⟨S2048, .f32⟩
  | .hbm, ⟨36, _⟩ => ⟨S1x2048, .f32⟩
  | .hbm, ⟨37, _⟩ => ⟨S_, .f32⟩
  | .hbm, ⟨38, _⟩ => ⟨S2048, .f32⟩
  | .hbm, ⟨39, _⟩ => ⟨S256x2048, .f32⟩
  | .hbm, ⟨40, _⟩ => ⟨S_, .f32⟩
  | .hbm, ⟨41, _⟩ => ⟨S2048, .f32⟩
  | .hbm, ⟨42, _⟩ => ⟨S1x2048, .f32⟩
  | .hbm, ⟨43, _⟩ => ⟨S256x2048, .f32⟩
  | .hbm, ⟨44, _⟩ => ⟨S256x2048, .f32⟩
  | .hbm, ⟨45, _⟩ => ⟨S_, .f32⟩
  | .hbm, ⟨46, _⟩ => ⟨S2048, .f32⟩
  | .hbm, ⟨47, _⟩ => ⟨S256x2048, .f32⟩
  | .hbm, ⟨48, _⟩ => ⟨S_, .f32⟩
  | .hbm, ⟨49, _⟩ => ⟨S2048, .f32⟩
  | .hbm, ⟨50, _⟩ => ⟨S1x2048, .f32⟩
  | .hbm, ⟨51, _⟩ => ⟨S_, .f32⟩
  | .hbm, ⟨52, _⟩ => ⟨S2048, .f32⟩
  | .hbm, ⟨53, _⟩ => ⟨S1x2048, .f32⟩
  | .hbm, ⟨54, _⟩ => ⟨S1x2048, .f32⟩
  | .hbm, ⟨55, _⟩ => ⟨S1x2048, .f32⟩
  | _, _ => ⟨S256x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst : Ref sig .tc := ⟨.hbm, 9, rfl⟩
abbrev main_v5 : Ref sig .tc := ⟨.hbm, 10, rfl⟩
abbrev main_v6 : Ref sig .tc := ⟨.hbm, 11, rfl⟩
abbrev main_cst_0 : Ref sig .tc := ⟨.hbm, 12, rfl⟩
abbrev main_v7 : Ref sig .tc := ⟨.hbm, 13, rfl⟩
abbrev main_v8 : Ref sig .tc := ⟨.hbm, 14, rfl⟩
abbrev main_cst_1 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_cst_2 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_cst_3 : Ref sig .tc := ⟨.hbm, 34, rfl⟩
abbrev main_v26 : Ref sig .tc := ⟨.hbm, 35, rfl⟩
abbrev main_v27 : Ref sig .tc := ⟨.hbm, 36, rfl⟩
abbrev main_cst_4 : Ref sig .tc := ⟨.hbm, 37, rfl⟩
abbrev main_v28 : Ref sig .tc := ⟨.hbm, 38, rfl⟩
abbrev main_v29 : Ref sig .tc := ⟨.hbm, 39, rfl⟩
abbrev main_cst_5 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_cst_6 : Ref sig .tc := ⟨.hbm, 45, rfl⟩
abbrev main_v34 : Ref sig .tc := ⟨.hbm, 46, rfl⟩
abbrev main_v35 : Ref sig .tc := ⟨.hbm, 47, rfl⟩
abbrev main_cst_7 : Ref sig .tc := ⟨.hbm, 48, rfl⟩
abbrev main_v36 : Ref sig .tc := ⟨.hbm, 49, rfl⟩
abbrev main_v37 : Ref sig .tc := ⟨.hbm, 50, rfl⟩
abbrev main_cst_8 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩

abbrev nD : Nat := 1
abbrev τ : Topo := Topo.v7x

variable {F : FTy → Type} [FloatOps F]
-- ==== ScanX.lean ====
abbrev S2304x1024 : Shape := ⟨2, ![2304, 1024]⟩
abbrev S2048x1024 : Shape := ⟨2, ![2048, 1024]⟩
abbrev S64x16 : Shape := ⟨2, ![64, 16]⟩
abbrev S_ : Shape := ⟨0, ![]⟩
abbrev S256x1024 : Shape := ⟨2, ![256, 1024]⟩
abbrev S1x1024 : Shape := ⟨2, ![1, 1024]⟩

abbrev nBuf : Space → Nat
  | .hbm => 9
  | .vmem => 9
  | .smem => 0
  | _ => 0

abbrev bufTy : (tb : Table) → Fin (tcTables nBuf tb) → BufTy
  | .hbm, ⟨0, _⟩ => ⟨S2304x1024, .f32⟩
  | .hbm, ⟨1, _⟩ => ⟨S2304x1024, .f32⟩
  | .hbm, ⟨2, _⟩ => ⟨S2048x1024, .f32⟩
  | .hbm, ⟨3, _⟩ => ⟨S64x16, .f32⟩
  | .hbm, ⟨4, _⟩ => ⟨S_, .f32⟩
  | .hbm, ⟨5, _⟩ => ⟨S256x1024, .f32⟩
  | .hbm, ⟨6, _⟩ => ⟨S2304x1024, .f32⟩
  | .hbm, ⟨7, _⟩ => ⟨S1x1024, .f32⟩
  | .hbm, ⟨8, _⟩ => ⟨S2304x1024, .bf16⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S1x1024, .f32⟩
  | .local _ .vmem, ⟨7, _⟩ => ⟨S256x1024, .bf16⟩
  | .local _ .vmem, ⟨8, _⟩ => ⟨S256x1024, .bf16⟩
  | _, _ => ⟨S2304x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨1, ![9], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== ScanXReferenceIdeal.lean ====
abbrev S2304x1024 : Shape := ⟨2, ![2304, 1024]⟩
abbrev S2048x1024 : Shape := ⟨2, ![2048, 1024]⟩
abbrev S64x16 : Shape := ⟨2, ![64, 16]⟩
abbrev S_ : Shape := ⟨0, ![]⟩
abbrev S1024 : Shape := ⟨1, ![1024]⟩
abbrev S1x1024 : Shape := ⟨2, ![1, 1024]⟩

abbrev nBuf : Space → Nat
  | .hbm => 18
  | .vmem => 0
  | .smem => 0
  | _ => 0

abbrev bufTy : (tb : Table) → Fin (tcTables nBuf tb) → BufTy
  | .hbm, ⟨0, _⟩ => ⟨S2304x1024, .f32⟩
  | .hbm, ⟨1, _⟩ => ⟨S2304x1024, .f32⟩
  | .hbm, ⟨2, _⟩ => ⟨S2048x1024, .f32⟩
  | .hbm, ⟨3, _⟩ => ⟨S64x16, .f32⟩
  | .hbm, ⟨4, _⟩ => ⟨S_, .f32⟩
  | .hbm, ⟨5, _⟩ => ⟨S2304x1024, .f32⟩
  | .hbm, ⟨6, _⟩ => ⟨S1024, .f32⟩
  | .hbm, ⟨7, _⟩ => ⟨S2048x1024, .f32⟩
  | .hbm, ⟨8, _⟩ => ⟨S1x1024, .f32⟩
  | .hbm, ⟨9, _⟩ => ⟨S2048x1024, .f32⟩
  | .hbm, ⟨10, _⟩ => ⟨S2048x1024, .f32⟩
  | .hbm, ⟨11, _⟩ => ⟨S2304x1024, .f32⟩
  | .hbm, ⟨12, _⟩ => ⟨S2048x1024, .f32⟩
  | .hbm, ⟨13, _⟩ => ⟨S2048x1024, .f32⟩
  | .hbm, ⟨14, _⟩ => ⟨S_, .f32⟩
  | .hbm, ⟨15, _⟩ => ⟨S2304x1024, .f32⟩
  | .hbm, ⟨16, _⟩ => ⟨S2304x1024, .f32⟩
  | .hbm, ⟨17, _⟩ => ⟨S2304x1024, .bf16⟩
  | _, _ => ⟨S2304x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_cst_0 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩

abbrev nD : Nat := 1
abbrev τ : Topo := Topo.v7x

variable {F : FTy → Type} [FloatOps F]
-- ==== Proof.Softmax.lean ====
/- The gradient of softmax attention over the real numbers: the maps of one head, and the two ways its terms are
   written. Nothing here mentions a program. -/
module

public import Idealize.ShloMosaic.PureOps.Ideal

@[expose] public section

noncomputable section

namespace Cert.Attn

open Finset Idealize.ShloMosaic

/-! ## Real sums among the extended reals -/

/-- A sum of real numbers, read among the extended reals, is the real sum. -/
theorem coe_sum {ι : Type} (s : Finset ι) (f : ι → ℝ) : ∑ i ∈ s, ((f i : ℝ) : EReal) = ((∑ i ∈ s, f i : ℝ) : EReal) := by
  classical
  induction s using Finset.induction_on with
  | empty => simp
  | insert a s ha ih => rw [Finset.sum_insert ha, Finset.sum_insert ha, ih, EReal.coe_add]

/-- The largest of finitely many real numbers, at least one of them, is a real number. -/
theorem fold_max_real {n : ℕ} (hn : 0 < n) (f : Fin n → ℝ) :
    ∃ r : ℝ, (Finset.univ : Finset (Fin n)).fold max (⊥ : EReal) (fun k => ((f k : ℝ) : EReal)) = (r : EReal) := by
  have key : ∀ s : Finset (Fin n), s.Nonempty →
      ∃ r : ℝ, s.fold max (⊥ : EReal) (fun k => ((f k : ℝ) : EReal)) = (r : EReal) := by
    intro s hs
    induction s using Finset.induction_on with
    | empty => exact absurd hs (by simp)
    | insert a s ha ih =>
      rw [Finset.fold_insert ha]
      rcases s.eq_empty_or_nonempty with rfl | h
      · exact ⟨f a, by simp⟩
      · obtain ⟨r, hr⟩ := ih h
        exact ⟨max (f a) r, by rw [hr]; exact (EReal.coe_strictMono.monotone.map_max).symm⟩
  exact key _ ⟨⟨0, hn⟩, mem_univ _⟩

/-- The quotient of two real numbers, the divisor not zero, among the extended reals. -/
theorem div_real (a b : ℝ) (h : b ≠ 0) : Ideal.div (a : EReal) (b : EReal) = ((a / b : ℝ) : EReal) := by
  rw [Ideal.div_coe h, ← EReal.coe_mul, mul_one_div]

/-! ## One head of the attention -/

variable {T S D E : ℕ} (c : ℝ) (Q : Fin T → Fin D → ℝ) (K : Fin S → Fin D → ℝ) (V : Fin S → Fin E → ℝ) (O : Fin T → Fin E → ℝ)

/-- The score of query `t` against key `s`. -/
def score (t : Fin T) (s : Fin S) : ℝ := (∑ d, Q t d * K s d) * c
/-- The attention weight of query `t` on key `s`: the softmax of the scores. -/
def weight (t : Fin T) (s : Fin S) : ℝ := Real.exp (score c Q K t s) / ∑ s', Real.exp (score c Q K t s')
/-- The cotangent of the weight. -/
def dweight (t : Fin T) (s : Fin S) : ℝ := ∑ e, O t e * V s e
/-- The cotangent of the score before its scaling. -/
def dscore (t : Fin T) (s : Fin S) : ℝ :=
  weight c Q K t s * (dweight V O t s - ∑ s', weight c Q K t s' * dweight V O t s') * c
/-- The cotangent of the queries. -/
def dquery (t : Fin T) (d : Fin D) : ℝ := ∑ s, dscore c Q K V O t s * K s d
/-- The cotangent of the keys. -/
def dkey (s : Fin S) (d : Fin D) : ℝ := ∑ t, dscore c Q K V O t s * Q t d
/-- The cotangent of the values. -/
def dvalue (s : Fin S) (e : Fin E) : ℝ := ∑ t, weight c Q K t s * O t e

/-- A sum of exponentials over at least one key is positive. -/
theorem sum_exp_pos (hS : 0 < S) (f : Fin S → ℝ) : 0 < ∑ s, Real.exp (f s) :=
  Finset.sum_pos (fun s _ => Real.exp_pos _) ⟨⟨0, hS⟩, mem_univ _⟩

/-- The softmax does not change when every score is lowered by the same number. -/
theorem weight_shift (m : ℝ) (t : Fin T) (s : Fin S) :
    Real.exp (score c Q K t s - m) / ∑ s', Real.exp (score c Q K t s' - m) = weight c Q K t s := by
  unfold weight
  simp only [Real.exp_sub, ← Finset.sum_div]
  exact div_div_div_cancel_right₀ (Real.exp_pos m).ne' _ _

/-- The exponential of a score minus the logarithm of the row's sum is the weight. -/
theorem weight_lse (hS : 0 < S) (m : ℝ) (t : Fin T) (s : Fin S) :
    Real.exp (score c Q K t s - (m + Real.log (∑ s', Real.exp (score c Q K t s' - m)))) = weight c Q K t s := by
  rw [← weight_shift c Q K m t s, ← sub_sub, Real.exp_sub, Real.exp_log (sum_exp_pos hS _)]

/-- The cotangent of the score as the quotient rule writes it, with the exponentials of the lowered scores, their sum
    `l` and the sum's square. -/
theorem dscore_quotient (hS : 0 < S) (m : ℝ) (t : Fin T) (s : Fin S) (l : ℝ)
    (hl : l = ∑ s', Real.exp (score c Q K t s' - m)) :
    (dweight V O t s / l + -(∑ s', dweight V O t s' * (1 / (l * l)) * Real.exp (score c Q K t s' - m)))
      * Real.exp (score c Q K t s - m) * c = dscore c Q K V O t s := by
  have hl0 : l ≠ 0 := by rw [hl]; exact (sum_exp_pos hS _).ne'
  have hw : ∀ s', Real.exp (score c Q K t s' - m) = weight c Q K t s' * l := fun s' => by
    rw [← weight_shift c Q K m t s', ← hl]; field_simp
  unfold dscore
  have hsum : ∑ s', dweight V O t s' * (1 / (l * l)) * Real.exp (score c Q K t s' - m)
      = (∑ s', weight c Q K t s' * dweight V O t s') / l := by
    rw [Finset.sum_div]
    refine Finset.sum_congr rfl fun s' _ => ?_
    rw [hw]; field_simp
  rw [hsum, hw]
  field_simp
  ring

end Cert.Attn

end
-- ==== Proof.AttnModel.lean ====
/- The attention of one head, as functions of the five argument arrays: the queries, the keys (their own part and the part
   all heads share), the values and the cotangent of the output, each a real array. -/
module

public import proofs.«01_k».proof.Proof.Softmax
public import Idealize.ShloMosaic.Lib.Pointwise

@[expose] public section

noncomputable section

namespace Cert.Attn

open Idealize.ShloMosaic

/-- A real array read as an array of extended reals. -/
abbrev real {s : Shape} (x : s.Idx → ℝ) : s.Idx → EReal := fun i => ((x i : ℝ) : EReal)

/-- Head `h` of an array of rows, heads and lanes. -/
def head {T D : ℕ} (q : (⟨3, ![T, 8, D]⟩ : Shape).Idx → ℝ) (h : Fin 8) : Fin T → Fin D → ℝ := fun t d => q (ix3 t h d)

/-- The keys of head `h`: its own 128 lanes, then the 64 lanes all heads share. -/
def keys (kn : (⟨3, ![2304, 8, 128]⟩ : Shape).Idx → ℝ) (kr : (⟨2, ![2304, 64]⟩ : Shape).Idx → ℝ) (h : Fin 8) :
    Fin 2304 → Fin 192 → ℝ :=
  fun s d => if hd : d.val < 128 then kn (ix3 s h ⟨d.val, hd⟩) else kr (ix2 s ⟨d.val - 128, by have := d.isLt; omega⟩)

/-- The factor `192^(-1/2)`, as the 32-bit word both programs carry. -/
def scale : ℝ := (Ideal.ofBits .f32 0x3D93CD3A#32 : EReal).toReal

theorem scale_eq : (Ideal.ofBits .f32 0x3D93CD3A#32 : EReal) = ((scale : ℝ) : EReal) := by
  unfold scale
  rw [EReal.coe_toReal]
  · decide
  · decide

theorem ofBits_neg_inf : (Ideal.ofBits .f32 0xFF800000#32 : EReal) = ⊥ := by simp [Ideal.ofBits, Ideal.ieee]

theorem ofBits_zero : (Ideal.ofBits .f32 0x00000000#32 : EReal) = 0 := by simp [Ideal.ofBits, Ideal.ieee]

theorem ofBits_one : (Ideal.ofBits .f32 0x3F800000#32 : EReal) = 1 := by
  simp only [Ideal.ofBits, Ideal.ieee]
  simp
  rw [← EReal.coe_mul]
  norm_num

/-! ## A result: the heads beside each other, 128 lanes each -/

/-- The first 128 lanes of each head. -/
def outa {T D : ℕ} (hD : 128 ≤ D) (f : Fin 8 → Fin T → Fin D → ℝ) (t : Fin T) (l : Fin 1024) : ℝ :=
  f ⟨l.val / 128, by have := l.isLt; omega⟩ t ⟨l.val % 128, by omega⟩

/-- The other 64 lanes of each head, then 64 zeros. -/
def outb {T : ℕ} (f : Fin 8 → Fin T → Fin 192 → ℝ) (t : Fin T) (l : Fin 1024) : ℝ :=
  if h : l.val % 128 < 64 then f ⟨l.val / 128, by have := l.isLt; omega⟩ t ⟨128 + l.val % 128, by omega⟩ else 0

theorem outb_pos {T : ℕ} (f : Fin 8 → Fin T → Fin 192 → ℝ) (t : Fin T) (l : Fin 1024) (h : l.val % 128 < 64) :
    outb f t l = f ⟨l.val / 128, by have := l.isLt; omega⟩ t ⟨128 + l.val % 128, by omega⟩ := dif_pos h

theorem outb_neg {T : ℕ} (f : Fin 8 → Fin T → Fin 192 → ℝ) (t : Fin T) (l : Fin 1024) (h : ¬l.val % 128 < 64) :
    outb f t l = 0 := dif_neg h

end Cert.Attn

end
-- ==== Proof.AttnBlock.lean ====
/- One tile of the attention's backward kernel over the real numbers: what each expression of the tile's body holds at an
   index, when the tile's blocks are finite and its row statistic is the logarithm of the row's sum of exponentials. -/
module

public import proofs.«01_k».proof.Proof.AttnModel
public import proofs.«01_k».proof.Proof.Gen.KernelIdeal.Skeleton

@[expose] public section

set_option maxRecDepth 16384

noncomputable section

namespace Cert.Attn

/-! ## 192 lanes stored as two groups of 128, the second half filled with zeros -/

/-- The 192 lanes, then 64 zeros. -/
def padded (f : Fin 192 → ℝ) (d : Fin 256) : ℝ := if h : d.val < 192 then f ⟨d.val, h⟩ else 0

/-- The first group of 128 lanes. -/
def lo (f : Fin 192 → ℝ) (d : Fin 128) : ℝ := f ⟨d.val, by have := d.isLt; omega⟩

/-- The second group: 64 lanes, then 64 zeros. -/
def hi (f : Fin 192 → ℝ) (d : Fin 128) : ℝ := if h : d.val < 64 then f ⟨128 + d.val, by omega⟩ else 0

/-- The padding adds nothing to an inner product. -/
theorem sum_padded (f g : Fin 192 → ℝ) : ∑ d, padded f d * padded g d = ∑ d, f d * g d := by
  rw [show (∑ d : Fin 256, padded f d * padded g d) = ∑ d : Fin (192 + 64), padded f d * padded g d from rfl, Fin.sum_univ_add]
  rw [Finset.sum_eq_zero (s := Finset.univ) (f := fun i : Fin 64 => padded f (Fin.natAdd 192 i) * padded g (Fin.natAdd 192 i)), add_zero]
  · refine Finset.sum_congr rfl fun d _ => ?_
    unfold padded
    rw [dif_pos (show (Fin.castAdd 64 d).val < 192 from d.isLt), dif_pos (show (Fin.castAdd 64 d).val < 192 from d.isLt)]
    rfl
  · intro d _
    unfold padded
    rw [dif_neg (show ¬(Fin.natAdd 192 d).val < 192 from by simp), zero_mul]

/-- A combination of padded rows is the padded combination. -/
theorem comb_padded {n : ℕ} (w : Fin n → ℝ) (f : Fin n → Fin 192 → ℝ) (d : Fin 256) :
    ∑ s, w s * padded (f s) d = padded (fun d => ∑ s, w s * f s d) d := by
  unfold padded
  split
  · rfl
  · simp

/-- The first half of the padded lanes is the first group. -/
theorem padded_lo (f : Fin 192 → ℝ) (d : Fin 256) (h : d.val < 128) : padded f d = lo f ⟨d.val, h⟩ := dif_pos (by omega)

/-- The second half is the second group. -/
theorem padded_hi (f : Fin 192 → ℝ) (d : Fin 128) : padded f ⟨128 + d.val, by have := d.isLt; omega⟩ = hi f d := by
  unfold padded hi
  by_cases h : d.val < 64
  · rw [dif_pos h, dif_pos (by show 128 + d.val < 192; omega)]
  · rw [dif_neg h, dif_neg (by show ¬128 + d.val < 192; omega)]

theorem padded_hi' (f : Fin 192 → ℝ) (d : Fin 256) (h : ¬d.val < 128) :
    padded f d = hi f ⟨d.val - 128, by have := d.isLt; omega⟩ := by
  rw [← padded_hi]
  exact congrArg _ (Fin.ext (by show d.val = 128 + (d.val - 128); omega))

namespace Block

open Cert.KernelIdeal Cert.KernelIdeal.Gen Idealize.ShloMosaic

variable (Q : Fin 512 → Fin 192 → ℝ) (K : Fin 2304 → Fin 192 → ℝ) (V : Fin 2304 → Fin 128 → ℝ) (O : Fin 512 → Fin 128 → ℝ)
  (M : Fin 512 → ℝ)

/-- The tile's blocks: the queries' two groups of lanes, the keys', the values, the cotangents and the row statistic. -/
def qlo : S512x128.Idx → EReal := fun i => ((lo (Q (i 0)) (i 1) : ℝ) : EReal)
def qhi : S512x128.Idx → EReal := fun i => ((hi (Q (i 0)) (i 1) : ℝ) : EReal)
def klo : S2304x128.Idx → EReal := fun i => ((lo (K (i 0)) (i 1) : ℝ) : EReal)
def khi : S2304x128.Idx → EReal := fun i => ((hi (K (i 0)) (i 1) : ℝ) : EReal)
def vals : S2304x128.Idx → EReal := fun i => ((V (i 0) (i 1) : ℝ) : EReal)
def cots : S512x128.Idx → EReal := fun i => ((O (i 0) (i 1) : ℝ) : EReal)
def stat : S1x512x1.Idx → EReal := fun i =>
  ((M (i 1) + Real.log (∑ s, Real.exp (score scale Q K (i 1) s - M (i 1))) : ℝ) : EReal)

/-- The queries of the tile beside each other. -/
theorem queries (r : Fin 512) (d : Fin 256) :
    k0_pay11 (F := Ideal) (qlo Q) (qhi Q) (ix2 r d) = ((padded (Q r) d : ℝ) : EReal) := by
  pointwise [k0_pay11]
  split
  · rename_i h
    rw [padded_lo _ _ h]; rfl
  · rename_i h
    rw [padded_hi' _ _ h]; rfl

/-- The keys beside each other. -/
theorem keys (s : Fin 2304) (d : Fin 256) :
    k0_pay12 (F := Ideal) (klo K) (khi K) (ix2 s d) = ((padded (K s) d : ℝ) : EReal) := by
  pointwise [k0_pay12]
  split
  · rename_i h
    rw [padded_lo _ _ h]; rfl
  · rename_i h
    rw [padded_hi' _ _ h]; rfl

/-- The attention weights of the tile. -/
theorem weights (r : Fin 512) (s : Fin 2304) :
    k0_pay14 (F := Ideal) (qlo Q) (qhi Q) (klo K) (khi K) (stat Q K M) (ix2 r s) = ((weight scale Q K r s : ℝ) : EReal) := by
  pointwise [k0_pay14]
  simp only [queries, keys, ← EReal.coe_mul]
  rw [coe_sum, sum_padded, scale_eq, ← EReal.coe_mul]
  unfold stat
  rw [← EReal.coe_sub, Ideal.exp_coe]
  exact congrArg _ (weight_lse scale Q K (by decide) _ r s)

/-- The cotangents of the scores of the tile. -/
theorem dscores (r : Fin 512) (s : Fin 2304) :
    k0_pay16 (F := Ideal) (qlo Q) (qhi Q) (klo K) (khi K) (vals V) (cots O) (stat Q K M) (ix2 r s)
      = ((dscore scale Q K V O r s : ℝ) : EReal) := by
  pointwise [k0_pay16, k0_pay13]
  have hd : ∀ s', ∑ x, cots O (ix2 r x) * vals V (ix2 s' x) = ((dweight V O r s' : ℝ) : EReal) := fun s' => by
    simp only [cots, vals, ← EReal.coe_mul]
    exact coe_sum _ _
  simp only [weights, hd, ← EReal.coe_mul]
  rw [coe_sum, scale_eq, ← EReal.coe_sub, ← EReal.coe_mul, ← EReal.coe_mul]
  rfl

/-- The tile's share of the values' cotangent. -/
theorem dvals (s : Fin 2304) (e : Fin 128) :
    k0_pay15 (F := Ideal) (qlo Q) (qhi Q) (klo K) (khi K) (cots O) (stat Q K M) (ix2 s e)
      = ((dvalue scale Q K O s e : ℝ) : EReal) := by
  have h := weights Q K M
  unfold k0_pay15
  generalize k0_pay14 (F := Ideal) (qlo Q) (qhi Q) (klo K) (khi K) (stat Q K M) = P at h ⊢
  pointwise [k0_pay13]
  simp only [h, cots, ← EReal.coe_mul]
  rw [coe_sum]
  rfl

/-- The tile's queries' cotangents. -/
theorem dqueries (r : Fin 512) (d : Fin 256) :
    k0_pay17 (F := Ideal) (qlo Q) (qhi Q) (klo K) (khi K) (vals V) (cots O) (stat Q K M) (ix2 r d)
      = ((padded (dquery scale Q K V O r) d : ℝ) : EReal) := by
  pointwise [k0_pay17]
  simp only [dscores, keys, ← EReal.coe_mul]
  rw [coe_sum, comb_padded]
  rfl

/-- The tile's share of the keys' cotangent. -/
theorem dkeys (s : Fin 2304) (d : Fin 256) :
    k0_pay3 (F := Ideal) (k0_pay11 (F := Ideal) (qlo Q) (qhi Q))
        (k0_pay16 (F := Ideal) (qlo Q) (qhi Q) (klo K) (khi K) (vals V) (cots O) (stat Q K M)) (ix2 s d)
      = ((padded (dkey scale Q K V O s) d : ℝ) : EReal) := by
  pointwise [k0_pay3]
  simp only [dscores, queries, ← EReal.coe_mul]
  rw [coe_sum, comb_padded]
  rfl

end Block

end Cert.Attn

end
-- ==== Proof.AttnTile.lean ====
/- One tile's run of the attention's backward kernel: what it leaves in the results' blocks and in the two accumulators,
   in terms of the blocks it reads and of the accumulators it finds. -/
module

public import proofs.«01_k».proof.Proof.AttnBlock
public import proofs.«01_k».proof.Proof.Gen.KernelIdeal.Value
public import Idealize.ShloMosaic.Lib.Pipeline.ValueKit
public import Idealize.ShloMosaic.Lib.Pipeline.ReadBack

@[expose] public section

set_option maxRecDepth 16384

noncomputable section

namespace Cert.Attn.Tile

open Cert.KernelIdeal Cert.KernelIdeal.Gen Idealize.ShloMosaic Idealize.ShloMosaic.TcCoe Idealize.SL.Sem

variable {F : FTy → Type} [FloatOps F] (m : (ℓ : Loc nD τ sig) → Buf (Elt F) ℓ) (c : Dev nD) (t : Fin cfg0.N)

/-- The queries' cotangent's first lanes, case A. -/
theorem dqn_A (acc) (h0 : t.val % 4 = 0) (h1 : ¬1 ≤ t.val % 4) (h2 : ¬t.val % 4 = 3) :
    (Value.stAt0 m c t.val t.isLt acc).1
      = k0_pay1 (k0_pay18 (iblk m c 0 t) (iblk m c 1 t) (iblk m c 2 t) (iblk m c 4 t) (iblk m c 3 t) (iblk m c 5 t) (iblk m c 6 t)) := by
  rw [Value.stAt0_A m c t acc h0 h1 h2]
  frame_out

/-- Its other lanes. -/
theorem dqr_A (acc) (h0 : t.val % 4 = 0) (h1 : ¬1 ≤ t.val % 4) (h2 : ¬t.val % 4 = 3) :
    (Value.stAt0 m c t.val t.isLt acc).2.1
      = k0_pay2 (k0_pay17 (iblk m c 0 t) (iblk m c 1 t) (iblk m c 2 t) (iblk m c 4 t) (iblk m c 3 t) (iblk m c 5 t) (iblk m c 6 t)) := by
  rw [Value.stAt0_A m c t acc h0 h1 h2]
  frame_out

/-- The keys' accumulator. -/
theorem dk_A (acc) (h0 : t.val % 4 = 0) (h1 : ¬1 ≤ t.val % 4) (h2 : ¬t.val % 4 = 3) :
    (Value.stAt0 m c t.val t.isLt acc).2.2.2.2.2.1
      = k0_pay4 (k0_pay11 (iblk m c 0 t) (iblk m c 1 t)) (k0_pay16 (iblk m c 0 t) (iblk m c 1 t) (iblk m c 2 t) (iblk m c 4 t) (iblk m c 3 t) (iblk m c 5 t) (iblk m c 6 t)) := by
  rw [Value.stAt0_A m c t acc h0 h1 h2]
  frame_out

/-- The values' accumulator. -/
theorem dv_A (acc) (h0 : t.val % 4 = 0) (h1 : ¬1 ≤ t.val % 4) (h2 : ¬t.val % 4 = 3) :
    (Value.stAt0 m c t.val t.isLt acc).2.2.2.2.2.2
      = k0_pay5 (k0_pay15 (iblk m c 0 t) (iblk m c 1 t) (iblk m c 2 t) (iblk m c 4 t) (iblk m c 5 t) (iblk m c 6 t)) := by
  rw [Value.stAt0_A m c t acc h0 h1 h2]
  frame_out

/-- The queries' cotangent's first lanes, case B. -/
theorem dqn_B (acc) (h0 : ¬t.val % 4 = 0) (h1 : 1 ≤ t.val % 4) (h2 : ¬t.val % 4 = 3) :
    (Value.stAt0 m c t.val t.isLt acc).1
      = k0_pay1 (k0_pay18 (iblk m c 0 t) (iblk m c 1 t) (iblk m c 2 t) (iblk m c 4 t) (iblk m c 3 t) (iblk m c 5 t) (iblk m c 6 t)) := by
  rw [Value.stAt0_B m c t acc h0 h1 h2]
  frame_out

/-- Its other lanes. -/
theorem dqr_B (acc) (h0 : ¬t.val % 4 = 0) (h1 : 1 ≤ t.val % 4) (h2 : ¬t.val % 4 = 3) :
    (Value.stAt0 m c t.val t.isLt acc).2.1
      = k0_pay2 (k0_pay17 (iblk m c 0 t) (iblk m c 1 t) (iblk m c 2 t) (iblk m c 4 t) (iblk m c 3 t) (iblk m c 5 t) (iblk m c 6 t)) := by
  rw [Value.stAt0_B m c t acc h0 h1 h2]
  frame_out

/-- The keys' accumulator. -/
theorem dk_B (acc) (h0 : ¬t.val % 4 = 0) (h1 : 1 ≤ t.val % 4) (h2 : ¬t.val % 4 = 3) :
    (Value.stAt0 m c t.val t.isLt acc).2.2.2.2.2.1
      = k0_pay6 (k0_pay11 (iblk m c 0 t) (iblk m c 1 t)) (k0_pay16 (iblk m c 0 t) (iblk m c 1 t) (iblk m c 2 t) (iblk m c 4 t) (iblk m c 3 t) (iblk m c 5 t) (iblk m c 6 t)) acc.2.2.2.2.2.1 := by
  rw [Value.stAt0_B m c t acc h0 h1 h2]
  frame_out
  rw [read_unread_whole]

/-- The values' accumulator. -/
theorem dv_B (acc) (h0 : ¬t.val % 4 = 0) (h1 : 1 ≤ t.val % 4) (h2 : ¬t.val % 4 = 3) :
    (Value.stAt0 m c t.val t.isLt acc).2.2.2.2.2.2
      = k0_pay7 (k0_pay15 (iblk m c 0 t) (iblk m c 1 t) (iblk m c 2 t) (iblk m c 4 t) (iblk m c 5 t) (iblk m c 6 t)) acc.2.2.2.2.2.2 := by
  rw [Value.stAt0_B m c t acc h0 h1 h2]
  frame_out
  rw [read_unread_whole]

/-- The queries' cotangent's first lanes, case C. -/
theorem dqn_C (acc) (h0 : ¬t.val % 4 = 0) (h1 : 1 ≤ t.val % 4) (h2 : t.val % 4 = 3) :
    (Value.stAt0 m c t.val t.isLt acc).1
      = k0_pay1 (k0_pay18 (iblk m c 0 t) (iblk m c 1 t) (iblk m c 2 t) (iblk m c 4 t) (iblk m c 3 t) (iblk m c 5 t) (iblk m c 6 t)) := by
  rw [Value.stAt0_C m c t acc h0 h1 h2]
  frame_out

/-- Its other lanes. -/
theorem dqr_C (acc) (h0 : ¬t.val % 4 = 0) (h1 : 1 ≤ t.val % 4) (h2 : t.val % 4 = 3) :
    (Value.stAt0 m c t.val t.isLt acc).2.1
      = k0_pay2 (k0_pay17 (iblk m c 0 t) (iblk m c 1 t) (iblk m c 2 t) (iblk m c 4 t) (iblk m c 3 t) (iblk m c 5 t) (iblk m c 6 t)) := by
  rw [Value.stAt0_C m c t acc h0 h1 h2]
  frame_out

/-- The keys' accumulator. -/
theorem dk_C (acc) (h0 : ¬t.val % 4 = 0) (h1 : 1 ≤ t.val % 4) (h2 : t.val % 4 = 3) :
    (Value.stAt0 m c t.val t.isLt acc).2.2.2.2.2.1
      = k0_pay6 (k0_pay11 (iblk m c 0 t) (iblk m c 1 t)) (k0_pay16 (iblk m c 0 t) (iblk m c 1 t) (iblk m c 2 t) (iblk m c 4 t) (iblk m c 3 t) (iblk m c 5 t) (iblk m c 6 t)) acc.2.2.2.2.2.1 := by
  rw [Value.stAt0_C m c t acc h0 h1 h2]
  frame_out
  rw [read_unread_whole]

/-- The values' accumulator. -/
theorem dv_C (acc) (h0 : ¬t.val % 4 = 0) (h1 : 1 ≤ t.val % 4) (h2 : t.val % 4 = 3) :
    (Value.stAt0 m c t.val t.isLt acc).2.2.2.2.2.2
      = k0_pay7 (k0_pay15 (iblk m c 0 t) (iblk m c 1 t) (iblk m c 2 t) (iblk m c 4 t) (iblk m c 5 t) (iblk m c 6 t)) acc.2.2.2.2.2.2 := by
  rw [Value.stAt0_C m c t acc h0 h1 h2]
  frame_out
  rw [read_unread_whole]

/-- The keys' cotangent's first lanes. -/
theorem dkn_C (acc) (h0 : ¬t.val % 4 = 0) (h1 : 1 ≤ t.val % 4) (h2 : t.val % 4 = 3) :
    (Value.stAt0 m c t.val t.isLt acc).2.2.1
      = k0_pay8 (View.ld (k0_pay6 (k0_pay11 (iblk m c 0 t) (iblk m c 1 t)) (k0_pay16 (iblk m c 0 t) (iblk m c 1 t) (iblk m c 2 t) (iblk m c 4 t) (iblk m c 3 t) (iblk m c 5 t) (iblk m c 6 t)) acc.2.2.2.2.2.1)
          (Rect.unit (s := S2304x256) ![0, 0] S2304x128.size inb_S2304x256_S2304x128_0_0)) := by
  rw [Value.stAt0_C m c t acc h0 h1 h2]
  frame_out
  rw [read_unread_whole, View.readCov_fill _ _ _ _ _ (by intro a; match a with | ⟨0, _⟩ => rfl | ⟨1, _⟩ => rfl)]

/-- The keys' cotangent's other lanes. -/
theorem dkr_C (acc) (h0 : ¬t.val % 4 = 0) (h1 : 1 ≤ t.val % 4) (h2 : t.val % 4 = 3) :
    (Value.stAt0 m c t.val t.isLt acc).2.2.2.1
      = k0_pay9 (View.ld (k0_pay6 (k0_pay11 (iblk m c 0 t) (iblk m c 1 t)) (k0_pay16 (iblk m c 0 t) (iblk m c 1 t) (iblk m c 2 t) (iblk m c 4 t) (iblk m c 3 t) (iblk m c 5 t) (iblk m c 6 t)) acc.2.2.2.2.2.1)
          (Rect.unit (s := S2304x256) ![0, 128] S2304x128.size inb_S2304x256_S2304x128_0_128)) := by
  rw [Value.stAt0_C m c t acc h0 h1 h2]
  frame_out
  rw [read_unread_whole, View.readCov_fill _ _ _ _ _ (by intro a; match a with | ⟨0, _⟩ => rfl | ⟨1, _⟩ => rfl)]

/-- The values' cotangent. -/
theorem dvo_C (acc) (h0 : ¬t.val % 4 = 0) (h1 : 1 ≤ t.val % 4) (h2 : t.val % 4 = 3) :
    (Value.stAt0 m c t.val t.isLt acc).2.2.2.2.1
      = k0_pay10 (k0_pay7 (k0_pay15 (iblk m c 0 t) (iblk m c 1 t) (iblk m c 2 t) (iblk m c 4 t) (iblk m c 5 t) (iblk m c 6 t)) acc.2.2.2.2.2.2) := by
  rw [Value.stAt0_C m c t acc h0 h1 h2]
  frame_out
  rw [read_unread_whole]

end Cert.Attn.Tile

end
-- ==== Proof.AttnHost.lean ====
/- The host's part of the attention's backward program, at finite arguments: the arrays the kernel reads, and the row
   statistic that the forward pass saves. -/
module

public import proofs.«01_k».proof.Proof.AttnTile

@[expose] public section

set_option maxRecDepth 16384

noncomputable section

namespace Cert.Attn.Host

open Cert.KernelIdeal Cert.KernelIdeal.Gen Idealize.ShloMosaic Idealize.ShloMosaic.TcCoe Idealize.SL.Sem

/-! ## The row statistic, step by step -/

/-- All heads' keys. -/
def hkeys (x1 : FVec Ideal S2304x8x128 .f32) (x2 : FVec Ideal S2304x64 .f32) : FVec Ideal S2304x8x192 .f32 :=
  concatenate S2304x8x192 2 [⟨S2304x8x128, x1⟩, ⟨S2304x8x64, broadcastInDim S2304x8x64 ![0, 1, 2] bcast_S2304x1x64_S2304x8x64_0_1_2
    (broadcastInDim S2304x1x64 ![0, 2] bcast_S2304x64_S2304x1x64_0_2 x2)⟩] concatenates_S2304x8x128_S2304x8x64_S2304x8x192_d2

/-- The scores. -/
def hscores (x0 : FVec Ideal S2048x8x192 .f32) (k : FVec Ideal S2304x8x192 .f32) : FVec Ideal S8x2048x2304 .f32 :=
  mulf (Host.dotGeneral dot_S2048x8x192_S2304x8x192_S8x2048x2304_2_2_0_0_1_1 none x0 k)
    (broadcastInDim S8x2048x2304 ![] bcast_S_S8x2048x2304 (constant S_ FTy.f32 0x3D93CD3A#32))

/-- The rows' largest scores. -/
def hmax (s : FVec Ideal S8x2048x2304 .f32) : FVec Ideal S8x2048 .f32 :=
  Host.reduce FloatOps.maximumf s (constant S_ FTy.f32 0xFF800000#32) reducesTo_S8x2048x2304_S8x2048_d2 h_S_

/-- The exponentials of the lowered scores. -/
def hexp (s : FVec Ideal S8x2048x2304 .f32) (x : FVec Ideal S8x2048 .f32) : FVec Ideal S8x2048x2304 .f32 :=
  Host.exp (subf s (broadcastInDim S8x2048x2304 ![0, 1, 2] bcast_S8x2048x1_S8x2048x2304_0_1_2
    (broadcastInDim S8x2048x1 ![0, 1] bcast_S8x2048_S8x2048x1_0_1 x)))

/-- The rows' sums. -/
def hsum (e : FVec Ideal S8x2048x2304 .f32) : FVec Ideal S8x2048 .f32 :=
  Host.reduceAdd e (constant S_ FTy.f32 0x00000000#32) reducesTo_S8x2048x2304_S8x2048_d2 h_S_

/-- The row statistic. -/
def hstat (x l : FVec Ideal S8x2048 .f32) : FVec Ideal S8x2048x1 .f32 :=
  addf (broadcastInDim S8x2048x1 ![0, 1] bcast_S8x2048_S8x2048x1_0_1 x)
    (Host.log (broadcastInDim S8x2048x1 ![0, 1] bcast_S8x2048_S8x2048x1_0_1 l))

variable (q : S2048x8x192.Idx → ℝ) (kn : S2304x8x128.Idx → ℝ) (kr : S2304x64.Idx → ℝ) (v : S2304x8x128.Idx → ℝ)
  (o : S2048x8x128.Idx → ℝ)

theorem hkeys_real (s : Fin 2304) (h : Fin 8) (d : Fin 192) :
    hkeys (real kn) (real kr) (ix3 s h d) = ((keys kn kr h s d : ℝ) : EReal) := by
  unfold keys
  pointwise [hkeys]
  split <;> rfl

theorem hscores_real (k : FVec Ideal S2304x8x192 .f32)
    (hk : ∀ (s : Fin 2304) (h : Fin 8) (d : Fin 192), k (ix3 s h d) = ((keys kn kr h s d : ℝ) : EReal))
    (h : Fin 8) (t : Fin 2048) (s : Fin 2304) :
    hscores (real q) k (ix3 h t s) = ((score scale (head q h) (keys kn kr h) t s : ℝ) : EReal) := by
  pointwise [hscores]
  simp only [hk, ← EReal.coe_mul]
  rw [coe_sum, scale_eq, ← EReal.coe_mul]
  rfl

theorem hmax_real (f : Fin 8 → Fin 2048 → Fin 2304 → ℝ) (s : FVec Ideal S8x2048x2304 .f32)
    (hs : ∀ h t x, s (ix3 h t x) = ((f h t x : ℝ) : EReal)) (h : Fin 8) (t : Fin 2048) :
    ∃ r : ℝ, hmax s (ix2 h t) = ((r : ℝ) : EReal) := by
  pointwise [hmax]
  simp only [hs, ofBits_neg_inf]
  exact fold_max_real (by decide) fun x => f h t x

theorem hexp_real (f : Fin 8 → Fin 2048 → Fin 2304 → ℝ) (s : FVec Ideal S8x2048x2304 .f32)
    (hs : ∀ h t x, s (ix3 h t x) = ((f h t x : ℝ) : EReal)) (g : Fin 8 → Fin 2048 → ℝ) (x : FVec Ideal S8x2048 .f32)
    (hx : ∀ h t, x (ix2 h t) = ((g h t : ℝ) : EReal)) (h : Fin 8) (t : Fin 2048) (j : Fin 2304) :
    hexp s x (ix3 h t j) = ((Real.exp (f h t j - g h t) : ℝ) : EReal) := by
  pointwise [hexp]
  rw [hs, hx, ← EReal.coe_sub, Ideal.exp_coe]

theorem hsum_real (f : Fin 8 → Fin 2048 → Fin 2304 → ℝ) (s : FVec Ideal S8x2048x2304 .f32)
    (hs : ∀ h t x, s (ix3 h t x) = ((f h t x : ℝ) : EReal)) (h : Fin 8) (t : Fin 2048) :
    hsum s (ix2 h t) = ((∑ j, f h t j : ℝ) : EReal) := by
  pointwise [hsum]
  simp only [hs]
  exact coe_sum _ _

theorem hstat_real (g l : Fin 8 → Fin 2048 → ℝ) (hl : ∀ h t, 0 < l h t) (x y : FVec Ideal S8x2048 .f32)
    (hx : ∀ h t, x (ix2 h t) = ((g h t : ℝ) : EReal)) (hy : ∀ h t, y (ix2 h t) = ((l h t : ℝ) : EReal))
    (h : Fin 8) (t : Fin 2048) (z : Fin 1) : hstat x y (ix3 h t z) = ((g h t + Real.log (l h t) : ℝ) : EReal) := by
  pointwise [hstat]
  rw [hx, hy, Ideal.log_coe, if_neg (not_le.mpr (hl h t)), ← EReal.coe_add]

/-- The largest score of a row. -/
def top (h : Fin 8) (t : Fin 2048) : ℝ := (hmax (hscores (real q) (hkeys (real kn) (real kr))) (ix2 h t)).toReal

theorem top_eq (h : Fin 8) (t : Fin 2048) :
    hmax (hscores (real q) (hkeys (real kn) (real kr))) (ix2 h t) = ((top q kn kr h t : ℝ) : EReal) := by
  obtain ⟨r, hr⟩ := hmax_real (fun h t s => score scale (head q h) (keys kn kr h) t s) _
    (hscores_real q kn kr _ (hkeys_real kn kr)) h t
  unfold top
  rw [hr, EReal.toReal_coe]

/-- The row statistic of the arguments. -/
def lse (x0 : FVec Ideal S2048x8x192 .f32) (x1 : FVec Ideal S2304x8x128 .f32) (x2 : FVec Ideal S2304x64 .f32) :
    FVec Ideal S8x2048x1 .f32 :=
  hstat (hmax (hscores x0 (hkeys x1 x2))) (hsum (hexp (hscores x0 (hkeys x1 x2)) (hmax (hscores x0 (hkeys x1 x2)))))

/-- The row statistic is the largest score plus the logarithm of the row's sum of lowered exponentials. -/
theorem lse_real (h : Fin 8) (t : Fin 2048) (z : Fin 1) : lse (real q) (real kn) (real kr) (ix3 h t z)
    = ((top q kn kr h t + Real.log (∑ s, Real.exp (score scale (head q h) (keys kn kr h) t s - top q kn kr h t)) : ℝ) : EReal) :=
  hstat_real (top q kn kr) (fun h t => ∑ s, Real.exp (score scale (head q h) (keys kn kr h) t s - top q kn kr h t))
    (fun _ _ => sum_exp_pos (by decide) _) _ _ (top_eq q kn kr)
    (hsum_real (fun h t s => Real.exp (score scale (head q h) (keys kn kr h) t s - top q kn kr h t)) _
      (hexp_real (fun h t s => score scale (head q h) (keys kn kr h) t s) _ (hscores_real q kn kr _ (hkeys_real kn kr))
        (top q kn kr) _ (top_eq q kn kr))) h t z

/-! ## The other operands -/

/-- The lanes of the queries that take no position. -/
def opQn (x : FVec Ideal S2048x8x192 .f32) : FVec Ideal S2048x1024 .bf16 :=
  truncf .bf16 (shapeCast S2048x1024 (extractStridedSlice S2048x8x128 ![0, 0, 0] x slices_S2048x8x192_S2048x8x128_0_0_0)
    shapeCasts_S2048x8x128_S2048x1024) bitsLt_bf16_f32

/-- The lanes of the queries that take the position, then zeros. -/
def opQr (x : FVec Ideal S2048x8x192 .f32) : FVec Ideal S2048x1024 .bf16 :=
  truncf .bf16 (shapeCast S2048x1024 (pad S2048x8x128 ![0, 0, 0] ![0, 0, 64] ![0, 0, 0]
    (extractStridedSlice S2048x8x64 ![0, 0, 128] x slices_S2048x8x192_S2048x8x64_0_0_128)
    (sitofp FTy.f32 (constantI S_ 32 0#32) : FVec Ideal S_ .f32) pads_S2048x8x64_S2048x8x128_000_000_0640 h_S_)
    shapeCasts_S2048x8x128_S2048x1024) bitsLt_bf16_f32

/-- The keys beside the values. -/
def opKv (x y : FVec Ideal S2304x8x128 .f32) : FVec Ideal S2304x2048 .bf16 :=
  truncf .bf16 (concatenate S2304x2048 1 [⟨S2304x1024, shapeCast S2304x1024 x shapeCasts_S2304x8x128_S2304x1024⟩,
    ⟨S2304x1024, shapeCast S2304x1024 y shapeCasts_S2304x8x128_S2304x1024⟩]
    concatenates_S2304x1024_S2304x1024_S2304x2048_d1) bitsLt_bf16_f32

/-- The position key, then zeros. -/
def opKr (x : FVec Ideal S2304x64 .f32) : FVec Ideal S2304x128 .bf16 :=
  truncf .bf16 (pad S2304x128 ![0, 0] ![0, 64] ![0, 0] x (sitofp FTy.f32 (constantI S_ 32 0#32) : FVec Ideal S_ .f32)
    pads_S2304x64_S2304x128_000_0640 h_S_) bitsLt_bf16_f32

/-- The gradient of the attention's result. -/
def opDo (x : FVec Ideal S2048x8x128 .f32) : FVec Ideal S2048x1024 .bf16 :=
  truncf .bf16 (shapeCast S2048x1024 x shapeCasts_S2048x8x128_S2048x1024) bitsLt_bf16_f32

theorem zero_int : (FloatOps.sitofp (F := Ideal) FTy.f32 (0#32 : BitVec 32) : EReal) = ((0 : ℝ) : EReal) := by
  show (((0#32 : BitVec 32).toInt : ℝ) : EReal) = _
  simp

theorem opQn_real (i : Fin 2048) (l : Fin 1024) : opQn (real q) (ix2 i l)
    = ((lo (head q ⟨l.val / 128, by have := l.isLt; omega⟩ i) ⟨l.val % 128, by omega⟩ : ℝ) : EReal) := by
  pointwise [opQn]
  rfl

theorem opQr_real (i : Fin 2048) (l : Fin 1024) : opQr (real q) (ix2 i l)
    = ((hi (head q ⟨l.val / 128, by have := l.isLt; omega⟩ i) ⟨l.val % 128, by omega⟩ : ℝ) : EReal) := by
  unfold hi
  pointwise [opQr]
  have hl : l.val / 128 < 8 := by have := l.isLt; omega
  by_cases h : l.val % 128 < 64
  · refine (dif_pos (And.intro hl h)).trans ?_
    refine Eq.trans ?_ (congrArg (fun x : ℝ => (x : EReal)) (dif_pos h).symm)
    rfl
  · refine (dif_neg fun g => h g.2).trans ?_
    refine Eq.trans ?_ (congrArg (fun x : ℝ => (x : EReal)) (dif_neg h).symm)
    exact zero_int

theorem opKv_real (s : Fin 2304) (l : Fin 2048) : opKv (real kn) (real v) (ix2 s l)
    = if h : l.val < 1024 then ((kn (ix3 s ⟨l.val / 128, by omega⟩ ⟨l.val % 128, by omega⟩) : ℝ) : EReal)
      else ((v (ix3 s ⟨(l.val - 1024) / 128, by have := l.isLt; omega⟩ ⟨(l.val - 1024) % 128, by omega⟩) : ℝ) : EReal) := by
  pointwise [opKv]

theorem opKr_real (h : Fin 8) (s : Fin 2304) (d : Fin 128) : opKr (real kr) (ix2 s d) = ((hi (keys kn kr h s) d : ℝ) : EReal) := by
  unfold hi keys
  pointwise [opKr]
  by_cases g : d.val < 64
  · rw [dif_pos g, dif_pos g]
  · rw [dif_neg g, dif_neg g, zero_int]

theorem opDo_real (i : Fin 2048) (l : Fin 1024) : opDo (real o) (ix2 i l)
    = ((o (ix3 i ⟨l.val / 128, by have := l.isLt; omega⟩ ⟨l.val % 128, by omega⟩) : ℝ) : EReal) := by
  pointwise [opDo]

/-! ## The entries of the memory -/

variable (m : (ℓ : Loc nD τ sig) → Buf (Elt Ideal) ℓ) (c : Dev nD)

theorem V27 : V m c main_v27 = lse (m ((c : Thread nD τ).loc main_arg0)) (m ((c : Thread nD τ).loc main_arg1))
    (m ((c : Thread nD τ).loc main_arg2)) := by
  simp only [V, hostOps0, hostOps0_1, hostOps0_2, hostOps0_3, hostOps0_4, List.flatten_cons, List.flatten_nil, List.append_nil,
    List.cons_append, List.nil_append]
  entry_read
  rfl

theorem V2 : V m c main_v2 = opQn (m ((c : Thread nD τ).loc main_arg0)) := by
  simp only [V, hostOps0, hostOps0_1, hostOps0_2, hostOps0_3, hostOps0_4, List.flatten_cons, List.flatten_nil, List.append_nil,
    List.cons_append, List.nil_append]
  entry_read
  rfl

theorem V6 : V m c main_v6 = opQr (m ((c : Thread nD τ).loc main_arg0)) := by
  simp only [V, hostOps0, hostOps0_1, hostOps0_2, hostOps0_3, hostOps0_4, List.flatten_cons, List.flatten_nil, List.append_nil,
    List.cons_append, List.nil_append]
  entry_read
  rfl

theorem V10 : V m c main_v10 = opKv (m ((c : Thread nD τ).loc main_arg1)) (m ((c : Thread nD τ).loc main_arg3)) := by
  simp only [V, hostOps0, hostOps0_1, hostOps0_2, hostOps0_3, hostOps0_4, List.flatten_cons, List.flatten_nil, List.append_nil,
    List.cons_append, List.nil_append]
  entry_read
  rfl

theorem V12 : V m c main_v12 = opKr (m ((c : Thread nD τ).loc main_arg2)) := by
  simp only [V, hostOps0, hostOps0_1, hostOps0_2, hostOps0_3, hostOps0_4, List.flatten_cons, List.flatten_nil, List.append_nil,
    List.cons_append, List.nil_append]
  entry_read
  rfl

theorem V29 : V m c main_v29 = opDo (m ((c : Thread nD τ).loc main_arg4)) := by
  simp only [V, hostOps0, hostOps0_1, hostOps0_2, hostOps0_3, hostOps0_4, List.flatten_cons, List.flatten_nil, List.append_nil,
    List.cons_append, List.nil_append]
  entry_read
  rfl

end Cert.Attn.Host

end
-- ==== Proof.AttnArrays.lean ====
/- The blocks the attention's backward kernel reads: tile `t` works on head `t / 4` and on the 512 query rows from
   `512 * (t % 4)` on. -/
module

public import proofs.«01_k».proof.Proof.AttnHost

@[expose] public section

set_option maxRecDepth 16384

noncomputable section

namespace Cert.Attn.Arrays

open Cert.KernelIdeal Cert.KernelIdeal.Gen Idealize.ShloMosaic Idealize.ShloMosaic.TcCoe Idealize.SL.Sem

theorem idx0 : ∀ t : Fin grid0.N, win0_0.index t = ![t.val % 4, t.val / 4] := by decide +kernel
theorem idx1 : ∀ t : Fin grid0.N, win0_1.index t = ![t.val % 4, t.val / 4] := by decide +kernel
theorem idx2 : ∀ t : Fin grid0.N, win0_2.index t = ![0, t.val / 4] := by decide +kernel
theorem idx3 : ∀ t : Fin grid0.N, win0_3.index t = ![0, 8 + t.val / 4] := by decide +kernel
theorem idx4 : ∀ t : Fin grid0.N, win0_4.index t = ![0, 0] := by decide +kernel
theorem idx5 : ∀ t : Fin grid0.N, win0_5.index t = ![t.val % 4, t.val / 4] := by decide +kernel
theorem idx6 : ∀ t : Fin grid0.N, win0_6.index t = ![t.val / 4, t.val % 4, 0] := by decide +kernel

variable (q : S2048x8x192.Idx → ℝ) (kn : S2304x8x128.Idx → ℝ) (kr : S2304x64.Idx → ℝ) (v : S2304x8x128.Idx → ℝ)
  (o : S2048x8x128.Idx → ℝ)
variable (m : (ℓ : Loc nD τ sig) → Buf (Elt Ideal) ℓ) (c : Dev nD) (t : Fin cfg0.N)

theorem lt32 : t.val < 32 := t.isLt

/-- The tile's head. -/
def hd : Fin 8 := ⟨t.val / 4, by have := lt32 t; omega⟩

/-- The tile's query rows. -/
def row (r : Fin 512) : Fin 2048 := ⟨512 * (t.val % 4) + r.val, by have := r.isLt; omega⟩

/-- The tile's queries. -/
def Q (r : Fin 512) : Fin 192 → ℝ := head q (hd t) (row t r)
/-- The tile's output gradients. -/
def O (r : Fin 512) : Fin 128 → ℝ := head o (hd t) (row t r)
/-- The tile's keys. -/
def K : Fin 2304 → Fin 192 → ℝ := keys kn kr (hd t)
/-- The tile's values. -/
def W : Fin 2304 → Fin 128 → ℝ := head v (hd t)
/-- The tile's largest scores. -/
def M (r : Fin 512) : ℝ := Host.top q kn kr (hd t) (row t r)

/-- The queries' first lanes. -/
theorem blk0 (hq : m ((c : Thread nD τ).loc main_arg0) = real q) : iblk m c 0 t = Block.qlo (Q q t) := by
  funext y
  idx_vars y
  have e : iblk m c 0 t (ix2 y0 y1) = V m c main_v2 (ix2 (row t y0) ⟨128 * (t.val / 4) + y1.val, by have := lt32 t; have := y1.isLt; omega⟩) := by
    blk_ext [iblk, idx0 t, row]
  rw [e, Host.V2, hq, Host.opQn_real]
  exact congrArg₂ (fun a b => ((lo (head q a (row t y0)) b : ℝ) : EReal))
    (Fin.ext (by show (128 * (t.val / 4) + y1.val) / 128 = t.val / 4; have := y1.isLt; omega))
    (Fin.ext (by show (128 * (t.val / 4) + y1.val) % 128 = y1.val; have := y1.isLt; omega))

/-- The queries' other lanes. -/
theorem blk1 (hq : m ((c : Thread nD τ).loc main_arg0) = real q) : iblk m c 1 t = Block.qhi (Q q t) := by
  funext y
  idx_vars y
  have e : iblk m c 1 t (ix2 y0 y1) = V m c main_v6 (ix2 (row t y0) ⟨128 * (t.val / 4) + y1.val, by have := lt32 t; have := y1.isLt; omega⟩) := by
    blk_ext [iblk, idx1 t, row]
  rw [e, Host.V6, hq, Host.opQr_real]
  exact congrArg₂ (fun a b => ((hi (head q a (row t y0)) b : ℝ) : EReal))
    (Fin.ext (by show (128 * (t.val / 4) + y1.val) / 128 = t.val / 4; have := y1.isLt; omega))
    (Fin.ext (by show (128 * (t.val / 4) + y1.val) % 128 = y1.val; have := y1.isLt; omega))

/-- The keys' first lanes. -/
theorem blk2 (hkn : m ((c : Thread nD τ).loc main_arg1) = real kn) (hv : m ((c : Thread nD τ).loc main_arg3) = real v) : iblk m c 2 t = Block.klo (K kn kr t) := by
  funext y
  idx_vars y
  have e : iblk m c 2 t (ix2 y0 y1) = V m c main_v10 (ix2 y0 ⟨128 * (t.val / 4) + y1.val, by have := lt32 t; have := y1.isLt; omega⟩) := by
    blk_ext [iblk, idx2 t]
  rw [e, Host.V10, hkn, hv, Host.opKv_real]
  rw [dif_pos (show 128 * (t.val / 4) + y1.val < 1024 by have := lt32 t; have := y1.isLt; omega)]
  refine (congrArg₂ (fun a b => ((kn (ix3 y0 a b) : ℝ) : EReal)) (x' := hd t) (y' := y1)
    (Fin.ext (by show (128 * (t.val / 4) + y1.val) / 128 = t.val / 4; have := y1.isLt; omega))
    (Fin.ext (by show (128 * (t.val / 4) + y1.val) % 128 = y1.val; have := y1.isLt; omega))).trans ?_
  exact congrArg (fun x : ℝ => (x : EReal)) (show K kn kr t y0 ⟨y1.val, by have := y1.isLt; omega⟩ = kn (ix3 y0 (hd t) y1) from
    dif_pos (show y1.val < 128 from y1.isLt)).symm

/-- The values. -/
theorem blk3 (hkn : m ((c : Thread nD τ).loc main_arg1) = real kn) (hv : m ((c : Thread nD τ).loc main_arg3) = real v) : iblk m c 3 t = Block.vals (W v t) := by
  funext y
  idx_vars y
  have e : iblk m c 3 t (ix2 y0 y1) = V m c main_v10 (ix2 y0 ⟨1024 + (128 * (t.val / 4) + y1.val), by have := lt32 t; have := y1.isLt; omega⟩) := by
    blk_ext [iblk, idx3 t]
  rw [e, Host.V10, hkn, hv, Host.opKv_real]
  rw [dif_neg (show ¬1024 + (128 * (t.val / 4) + y1.val) < 1024 by omega)]
  exact congrArg₂ (fun a b => ((v (ix3 y0 a b) : ℝ) : EReal)) (x' := hd t) (y' := y1)
    (Fin.ext (by show (1024 + (128 * (t.val / 4) + y1.val) - 1024) / 128 = t.val / 4; have := y1.isLt; omega))
    (Fin.ext (by show (1024 + (128 * (t.val / 4) + y1.val) - 1024) % 128 = y1.val; have := y1.isLt; omega))

/-- The keys' other lanes. -/
theorem blk4 (hkr : m ((c : Thread nD τ).loc main_arg2) = real kr) : iblk m c 4 t = Block.khi (K kn kr t) := by
  funext y
  idx_vars y
  have e : iblk m c 4 t (ix2 y0 y1) = V m c main_v12 (ix2 y0 y1) := by
    blk_ext [iblk, idx4 t]
  rw [e, Host.V12, hkr, Host.opKr_real kn kr (hd t)]
  rfl

/-- The output's gradient. -/
theorem blk5 (ho : m ((c : Thread nD τ).loc main_arg4) = real o) : iblk m c 5 t = Block.cots (O o t) := by
  funext y
  idx_vars y
  have e : iblk m c 5 t (ix2 y0 y1) = V m c main_v29 (ix2 (row t y0) ⟨128 * (t.val / 4) + y1.val, by have := lt32 t; have := y1.isLt; omega⟩) := by
    blk_ext [iblk, idx5 t, row]
  rw [e, Host.V29, ho, Host.opDo_real]
  exact congrArg₂ (fun a b => ((o (ix3 (row t y0) a b) : ℝ) : EReal))
    (Fin.ext (by show (128 * (t.val / 4) + y1.val) / 128 = t.val / 4; have := y1.isLt; omega))
    (Fin.ext (by show (128 * (t.val / 4) + y1.val) % 128 = y1.val; have := y1.isLt; omega))

/-- The place in the whole array of an index of the row statistic's block. -/
theorem emb6 (r : Fin 512) : (win0_6.blk t).view.emb (ix3 (0 : Fin 1) r (0 : Fin 1)) = ix3 (hd t) (row t r) 0 := by
  refine funext fun a => Fin.ext ?_
  fin_cases a
  · blk_simp [idx6 t]
    rfl
  · blk_simp [idx6 t]
    show t.val % 4 * 512 + r.val = 512 * (t.val % 4) + r.val
    omega
  · blk_simp [idx6 t]

/-- The block of any such array. -/
theorem read6 (X : Buf (Elt Ideal) ((c : Thread nD τ).loc main_v27)) (r : Fin 512) :
    View.read (Elt Ideal) (win0_6.blk t).view X (ix3 (0 : Fin 1) r (0 : Fin 1)) = X (ix3 (hd t) (row t r) 0) := by
  blk_simp
  exact congrArg X (emb6 t r)

/-- The row statistic. -/
theorem blk6 (hq : m ((c : Thread nD τ).loc main_arg0) = real q) (hkn : m ((c : Thread nD τ).loc main_arg1) = real kn)
    (hkr : m ((c : Thread nD τ).loc main_arg2) = real kr) : iblk m c 6 t = Block.stat (Q q t) (K kn kr t) (M q kn kr t) := by
  have hV := Host.V27 m c
  rw [hq, hkn, hkr] at hV
  funext y
  idx_vars y
  obtain rfl : y0 = (0 : Fin 1) := Subsingleton.elim _ _
  obtain rfl : y2 = (0 : Fin 1) := Subsingleton.elim _ _
  refine (read6 c t (V m c main_v27) y1).trans ?_
  rw [hV]
  exact Host.lse_real q kn kr (hd t) (row t y1) 0

end Cert.Attn.Arrays

end
-- ==== Proof.AttnAcc.lean ====
/- What the attention's backward kernel holds after a grid point: the tile's rows of the queries' gradient, and, over the
   four points of a head, the sums that become the gradients of the keys and of the values. -/
module

public import proofs.«01_k».proof.Proof.AttnArrays

@[expose] public section

set_option maxRecDepth 16384

noncomputable section

namespace Cert.Attn.Acc

open Cert.KernelIdeal Cert.KernelIdeal.Gen Idealize.ShloMosaic Idealize.ShloMosaic.TcCoe Idealize.SL.Sem Cert.Attn.Arrays

/-! ## One point from the point before -/

section Step
variable {F : FTy → Type} [FloatOps F] (m : (ℓ : Loc nD τ sig) → Buf (Elt F) ℓ) (c : Dev nD) (t : Fin cfg0.N)

/-- A point that is not the first works from what the point before left. -/
theorem step (h : ¬t.val % 4 = 0) : outsAt0 m c t.val t.isLt
    = Value.stAt0 m c t.val t.isLt (outsAt0 m c (t.val - 1) (Nat.lt_of_le_of_lt (Nat.sub_le _ _) t.isLt)) := by
  obtain ⟨n, hn⟩ := t
  cases n with
  | zero => exact absurd rfl h
  | succ n => exact Value.outsAt0_succ m c n hn

/-- Every point works from some contents. -/
theorem any : ∃ acc, outsAt0 m c t.val t.isLt = Value.stAt0 m c t.val t.isLt acc := by
  obtain ⟨n, hn⟩ := t
  cases n with
  | zero => exact ⟨_, Value.outsAt0_zero m c hn⟩
  | succ n => exact ⟨_, Value.outsAt0_succ m c n hn⟩

end Step

/-! ## The payloads at an index -/

theorem pay1_at (x : FVec Ideal S512x128 .f32) : k0_pay1 x = x := rfl
theorem pay18_at (a0 a1 a2 a3 a4 a5 a6) (r : Fin 512) (d : Fin 128) :
    k0_pay18 (F := Ideal) a0 a1 a2 a3 a4 a5 a6 (ix2 r d) = k0_pay17 (F := Ideal) a0 a1 a2 a3 a4 a5 a6 (ix2 r ⟨d.val, by have := d.isLt; omega⟩) := by
  unfold k0_pay18
  generalize k0_pay17 (F := Ideal) a0 a1 a2 a3 a4 a5 a6 = x
  pointwise
theorem pay2_at (x : FVec Ideal S512x256 .f32) (r : Fin 512) (d : Fin 128) :
    k0_pay2 x (ix2 r d) = x (ix2 r ⟨128 + d.val, by have := d.isLt; omega⟩) := by
  pointwise [k0_pay2]
theorem pay4_at (x : FVec Ideal S512x256 .bf16) (y : FVec Ideal S512x2304 .bf16) (s : Fin 2304) (d : Fin 256) :
    k0_pay4 x y (ix2 s d) = k0_pay3 x y (ix2 s d) := by
  unfold k0_pay4
  generalize k0_pay3 x y = z
  pointwise
theorem pay6_at (x : FVec Ideal S512x256 .bf16) (y : FVec Ideal S512x2304 .bf16) (z : FVec Ideal S2304x256 .f32)
    (s : Fin 2304) (d : Fin 256) : k0_pay6 x y z (ix2 s d) = z (ix2 s d) + k0_pay3 x y (ix2 s d) := by
  unfold k0_pay6
  generalize k0_pay3 x y = w
  pointwise
theorem pay5_at (x : FVec Ideal S2304x128 .f32) (s : Fin 2304) (d : Fin 128) : k0_pay5 x (ix2 s d) = x (ix2 s d) := by
  pointwise [k0_pay5]
theorem pay7_at (x z : FVec Ideal S2304x128 .f32) (s : Fin 2304) (d : Fin 128) :
    k0_pay7 x z (ix2 s d) = z (ix2 s d) + x (ix2 s d) := by
  pointwise [k0_pay7]
theorem pay8_at (x : FVec Ideal S2304x256 .f32) (s : Fin 2304) (d : Fin 128) :
    k0_pay8 (F := Ideal) (View.ld x (Rect.unit (s := S2304x256) ![0, 0] S2304x128.size inb_S2304x256_S2304x128_0_0)) (ix2 s d)
      = x (ix2 s ⟨d.val, by have := d.isLt; omega⟩) := by
  pointwise [k0_pay8]
theorem pay9_at (x : FVec Ideal S2304x256 .f32) (s : Fin 2304) (d : Fin 128) :
    k0_pay9 (F := Ideal) (View.ld x (Rect.unit (s := S2304x256) ![0, 128] S2304x128.size inb_S2304x256_S2304x128_0_128)) (ix2 s d)
      = x (ix2 s ⟨128 + d.val, by have := d.isLt; omega⟩) := by
  pointwise [k0_pay9]

/-! ## At finite arguments -/

variable (q : S2048x8x192.Idx → ℝ) (kn : S2304x8x128.Idx → ℝ) (kr : S2304x64.Idx → ℝ) (v : S2304x8x128.Idx → ℝ)
  (o : S2048x8x128.Idx → ℝ)
variable (m : (ℓ : Loc nD τ sig) → Buf (Elt Ideal) ℓ) (c : Dev nD) (t : Fin cfg0.N)

/-- The memory holds these finite arguments. -/
structure Holds : Prop where
  q : m ((c : Thread nD τ).loc main_arg0) = real q
  kn : m ((c : Thread nD τ).loc main_arg1) = real kn
  kr : m ((c : Thread nD τ).loc main_arg2) = real kr
  v : m ((c : Thread nD τ).loc main_arg3) = real v
  o : m ((c : Thread nD τ).loc main_arg4) = real o

variable (H : Holds q kn kr v o m c)
include H

/-- The tile's rows of the queries' gradient, first lanes. -/
theorem dqn (r : Fin 512) (d : Fin 128) : (outsAt0 m c t.val t.isLt).1 (ix2 r d)
    = ((lo (dquery scale (Q q t) (K kn kr t) (W v t) (O o t) r) d : ℝ) : EReal) := by
  obtain ⟨acc, h⟩ := any m c t
  have e : (Value.stAt0 m c t.val t.isLt acc).1
      = k0_pay1 (k0_pay18 (iblk m c 0 t) (iblk m c 1 t) (iblk m c 2 t) (iblk m c 4 t) (iblk m c 3 t) (iblk m c 5 t) (iblk m c 6 t)) := by
    by_cases h0 : t.val % 4 = 0
    · exact Tile.dqn_A m c t acc h0 (by omega) (by omega)
    · by_cases h2 : t.val % 4 = 3
      · exact Tile.dqn_C m c t acc h0 (by omega) h2
      · exact Tile.dqn_B m c t acc h0 (by omega) h2
  rw [h, e, blk0 q m c t H.q, blk1 q m c t H.q, blk2 kn kr v m c t H.kn H.v, blk3 kn v m c t H.kn H.v,
    blk4 kn kr m c t H.kr, blk5 o m c t H.o, blk6 q kn kr m c t H.q H.kn H.kr, pay1_at, pay18_at, Block.dqueries, padded_lo]

/-- Its other lanes. -/
theorem dqr (r : Fin 512) (d : Fin 128) : (outsAt0 m c t.val t.isLt).2.1 (ix2 r d)
    = ((hi (dquery scale (Q q t) (K kn kr t) (W v t) (O o t) r) d : ℝ) : EReal) := by
  obtain ⟨acc, h⟩ := any m c t
  have e : (Value.stAt0 m c t.val t.isLt acc).2.1
      = k0_pay2 (k0_pay17 (iblk m c 0 t) (iblk m c 1 t) (iblk m c 2 t) (iblk m c 4 t) (iblk m c 3 t) (iblk m c 5 t) (iblk m c 6 t)) := by
    by_cases h0 : t.val % 4 = 0
    · exact Tile.dqr_A m c t acc h0 (by omega) (by omega)
    · by_cases h2 : t.val % 4 = 3
      · exact Tile.dqr_C m c t acc h0 (by omega) h2
      · exact Tile.dqr_B m c t acc h0 (by omega) h2
  rw [h, e, blk0 q m c t H.q, blk1 q m c t H.q, blk2 kn kr v m c t H.kn H.v, blk3 kn v m c t H.kn H.v,
    blk4 kn kr m c t H.kr, blk5 o m c t H.o, blk6 q kn kr m c t H.q H.kn H.kr, pay2_at, Block.dqueries, padded_hi]

/-- The tile's share of the keys' gradient. -/
def termK (t : Fin cfg0.N) (i : S2304x256.Idx) : EReal :=
  ((padded (dkey scale (Q q t) (K kn kr t) (W v t) (O o t) (i 0)) (i 1) : ℝ) : EReal)

/-- The tile's share of the values' gradient. -/
def termV (t : Fin cfg0.N) (i : S2304x128.Idx) : EReal :=
  ((dvalue scale (Q q t) (K kn kr t) (O o t) (i 0) (i 1) : ℝ) : EReal)

theorem shareK (i : S2304x256.Idx) :
    k0_pay3 (F := Ideal) (k0_pay11 (iblk m c 0 t) (iblk m c 1 t)) (k0_pay16 (iblk m c 0 t) (iblk m c 1 t) (iblk m c 2 t)
      (iblk m c 4 t) (iblk m c 3 t) (iblk m c 5 t) (iblk m c 6 t)) i = termK q kn kr v o t i := by
  idx_vars i
  rw [blk0 q m c t H.q, blk1 q m c t H.q, blk2 kn kr v m c t H.kn H.v, blk3 kn v m c t H.kn H.v,
    blk4 kn kr m c t H.kr, blk5 o m c t H.o, blk6 q kn kr m c t H.q H.kn H.kr, Block.dkeys]
  rfl

theorem shareV (i : S2304x128.Idx) :
    k0_pay15 (F := Ideal) (iblk m c 0 t) (iblk m c 1 t) (iblk m c 2 t) (iblk m c 4 t) (iblk m c 5 t) (iblk m c 6 t) i
      = termV q kn kr o t i := by
  idx_vars i
  rw [blk0 q m c t H.q, blk1 q m c t H.q, blk2 kn kr v m c t H.kn H.v,
    blk4 kn kr m c t H.kr, blk5 o m c t H.o, blk6 q kn kr m c t H.q H.kn H.kr, Block.dvals]
  rfl

/-- The first point of a head starts the keys' sum. -/
theorem startK (h : t.val % 4 = 0) (i : S2304x256.Idx) :
    (outsAt0 m c t.val t.isLt).2.2.2.2.2.1 i = 0 + termK q kn kr v o t i := by
  obtain ⟨acc, e⟩ := any m c t
  rw [e, Tile.dk_A m c t acc h (by omega) (by omega), zero_add, ← shareK q kn kr v o m c t H i]
  idx_vars i
  exact pay4_at _ _ _ _

/-- The other points add to it. -/
theorem stepK (h : ¬t.val % 4 = 0) (i : S2304x256.Idx) : (outsAt0 m c t.val t.isLt).2.2.2.2.2.1 i
    = (outsAt0 m c (t.val - 1) (Nat.lt_of_le_of_lt (Nat.sub_le _ _) t.isLt)).2.2.2.2.2.1 i + termK q kn kr v o t i := by
  rw [step m c t h, ← shareK q kn kr v o m c t H i]
  generalize outsAt0 m c (t.val - 1) (Nat.lt_of_le_of_lt (Nat.sub_le _ _) t.isLt) = acc
  idx_vars i
  by_cases h2 : t.val % 4 = 3
  · rw [Tile.dk_C m c t acc h (by omega) h2]
    exact pay6_at _ _ _ _ _
  · rw [Tile.dk_B m c t acc h (by omega) h2]
    exact pay6_at _ _ _ _ _

/-- The first point of a head starts the values' sum. -/
theorem startV (h : t.val % 4 = 0) (i : S2304x128.Idx) :
    (outsAt0 m c t.val t.isLt).2.2.2.2.2.2 i = 0 + termV q kn kr o t i := by
  obtain ⟨acc, e⟩ := any m c t
  rw [e, Tile.dv_A m c t acc h (by omega) (by omega), zero_add, ← shareV q kn kr v o m c t H i]
  idx_vars i
  exact pay5_at _ _ _

/-- The other points add to it. -/
theorem stepV (h : ¬t.val % 4 = 0) (i : S2304x128.Idx) : (outsAt0 m c t.val t.isLt).2.2.2.2.2.2 i
    = (outsAt0 m c (t.val - 1) (Nat.lt_of_le_of_lt (Nat.sub_le _ _) t.isLt)).2.2.2.2.2.2 i + termV q kn kr o t i := by
  rw [step m c t h, ← shareV q kn kr v o m c t H i]
  generalize outsAt0 m c (t.val - 1) (Nat.lt_of_le_of_lt (Nat.sub_le _ _) t.isLt) = acc
  idx_vars i
  by_cases h2 : t.val % 4 = 3
  · rw [Tile.dv_C m c t acc h (by omega) h2]
    exact pay7_at _ _ _ _
  · rw [Tile.dv_B m c t acc h (by omega) h2]
    exact pay7_at _ _ _ _

/-! ## The four tiles of a head -/

omit H in
/-- A sum over the four tiles' rows is the sum over all rows. -/
theorem sum_rows (t : Fin cfg0.N) (ht : t.val % 4 = 3) (f : Fin 2048 → ℝ) :
    ∑ s : Fin 4, ∑ r : Fin 512, f (row ⟨4 * (t.val / 4) + s.val, Pipeline.run_point_lt_of_flush (J := 4) t ht s⟩ r) = ∑ x, f x := by
  rw [← Fin.sum_mul_add_fin 4 512 f]
  refine Finset.sum_congr rfl fun s _ => Finset.sum_congr rfl fun r _ => congrArg f (Fin.ext ?_)
  show 512 * ((4 * (t.val / 4) + s.val) % 4) + r.val = s.val * 512 + r.val
  have := s.isLt
  omega

omit H in
/-- The four tiles work on one head. -/
theorem hd_tile (t : Fin cfg0.N) (ht : t.val % 4 = 3) (s : Fin 4) :
    hd ⟨4 * (t.val / 4) + s.val, Pipeline.run_point_lt_of_flush (J := 4) t ht s⟩ = hd t := by
  apply Fin.ext
  show (4 * (t.val / 4) + s.val) / 4 = t.val / 4
  have := s.isLt
  omega

omit H in
/-- The four tiles' shares of the keys' gradient add up to it. -/
theorem sum_padded_rows (t : Fin cfg0.N) (h : t.val % 4 = 3) (s : Fin 2304) (d : Fin 256) :
    ∑ x : Fin 4, padded (dkey scale (Q q ⟨4 * (t.val / 4) + x.val, Pipeline.run_point_lt_of_flush (J := 4) t h x⟩)
        (K kn kr ⟨4 * (t.val / 4) + x.val, Pipeline.run_point_lt_of_flush (J := 4) t h x⟩)
        (W v ⟨4 * (t.val / 4) + x.val, Pipeline.run_point_lt_of_flush (J := 4) t h x⟩)
        (O o ⟨4 * (t.val / 4) + x.val, Pipeline.run_point_lt_of_flush (J := 4) t h x⟩) s) d
      = padded (dkey scale (head q (hd t)) (keys kn kr (hd t)) (head v (hd t)) (head o (hd t)) s) d := by
  unfold padded
  by_cases g : d.val < 192
  · simp only [dif_pos g]
    refine (Finset.sum_congr rfl fun x _ => ?_).trans (sum_rows t h fun x => dscore scale (head q (hd t)) (keys kn kr (hd t))
      (head v (hd t)) (head o (hd t)) x s * head q (hd t) x ⟨d.val, g⟩)
    rw [← hd_tile t h x]
    rfl
  · simp only [dif_neg g, Finset.sum_const_zero]

/-- After a head's last tile the keys' sum is the gradient of the head's keys. -/
theorem sumK (h : t.val % 4 = 3) (s : Fin 2304) (d : Fin 256) : (outsAt0 m c t.val t.isLt).2.2.2.2.2.1 (ix2 s d)
    = ((padded (dkey scale (head q (hd t)) (keys kn kr (hd t)) (head v (hd t)) (head o (hd t)) s) d : ℝ) : EReal) := by
  rw [Pipeline.eq_sum_fin_of_reset_step_apply_of_flush (fun n hn => (outsAt0 m c n hn).2.2.2.2.2.1) 4 0 (termK q kn kr v o)
    (fun t ht i => startK q kn kr v o m c t H ht i) (fun t ht i => stepK q kn kr v o m c t H ht i) t h (ix2 s d)]
  refine (zero_add _).trans ((coe_sum _ _).trans (congrArg (fun x : ℝ => (x : EReal)) ?_))
  refine Eq.trans ?_ (sum_padded_rows q kn kr v o t h s d)
  rfl

/-- After a head's last tile the values' sum is the gradient of the head's values. -/
theorem sumV (h : t.val % 4 = 3) (s : Fin 2304) (d : Fin 128) : (outsAt0 m c t.val t.isLt).2.2.2.2.2.2 (ix2 s d)
    = ((dvalue scale (head q (hd t)) (keys kn kr (hd t)) (head o (hd t)) s d : ℝ) : EReal) := by
  rw [Pipeline.eq_sum_fin_of_reset_step_apply_of_flush (fun n hn => (outsAt0 m c n hn).2.2.2.2.2.2) 4 0 (termV q kn kr o)
    (fun t ht i => startV q kn kr v o m c t H ht i) (fun t ht i => stepV q kn kr v o m c t H ht i) t h (ix2 s d)]
  refine (zero_add _).trans ((coe_sum _ _).trans (congrArg (fun x : ℝ => (x : EReal)) ?_))
  refine (Finset.sum_congr rfl fun x _ => ?_).trans (sum_rows t h fun x => weight scale (head q (hd t)) (keys kn kr (hd t)) x s
    * head o (hd t) x d)
  rw [← hd_tile t h x]
  rfl

/-- What the head's last tile leaves for the keys' gradient, first lanes. -/
theorem dkn (h : t.val % 4 = 3) (s : Fin 2304) (d : Fin 128) : (outsAt0 m c t.val t.isLt).2.2.1 (ix2 s d)
    = ((lo (dkey scale (head q (hd t)) (keys kn kr (hd t)) (head v (hd t)) (head o (hd t)) s) d : ℝ) : EReal) := by
  have e := sumK q kn kr v o m c t H h s ⟨d.val, by have := d.isLt; omega⟩
  rw [step m c t (by omega)] at e ⊢
  rw [Tile.dk_C m c t _ (by omega) (by omega) h] at e
  rw [Tile.dkn_C m c t _ (by omega) (by omega) h]
  exact (pay8_at _ s d).trans (e.trans (congrArg (fun x : ℝ => (x : EReal)) (padded_lo _ _ d.isLt)))

/-- The other lanes. -/
theorem dkr (h : t.val % 4 = 3) (s : Fin 2304) (d : Fin 128) : (outsAt0 m c t.val t.isLt).2.2.2.1 (ix2 s d)
    = ((hi (dkey scale (head q (hd t)) (keys kn kr (hd t)) (head v (hd t)) (head o (hd t)) s) d : ℝ) : EReal) := by
  have e := sumK q kn kr v o m c t H h s ⟨128 + d.val, by have := d.isLt; omega⟩
  rw [step m c t (by omega)] at e ⊢
  rw [Tile.dk_C m c t _ (by omega) (by omega) h] at e
  rw [Tile.dkr_C m c t _ (by omega) (by omega) h]
  exact (pay9_at _ s d).trans (e.trans (congrArg (fun x : ℝ => (x : EReal)) (padded_hi _ d)))

/-- What it leaves for the values' gradient. -/
theorem dv (h : t.val % 4 = 3) (s : Fin 2304) (d : Fin 128) : (outsAt0 m c t.val t.isLt).2.2.2.2.1 (ix2 s d)
    = ((dvalue scale (head q (hd t)) (keys kn kr (hd t)) (head o (hd t)) s d : ℝ) : EReal) := by
  have e := sumV q kn kr v o m c t H h s d
  rw [step m c t (by omega)] at e ⊢
  rw [Tile.dv_C m c t _ (by omega) (by omega) h] at e
  rw [Tile.dvo_C m c t _ (by omega) (by omega) h]
  exact e

end Cert.Attn.Acc

end
-- ==== Proof.AttnResults.lean ====
/- The five result arrays of the attention's backward kernel, at finite arguments. -/
module

public import proofs.«01_k».proof.Proof.AttnAcc

@[expose] public section

set_option maxRecDepth 16384

noncomputable section

namespace Cert.Attn.Results

open Cert.KernelIdeal Cert.KernelIdeal.Gen Idealize.ShloMosaic Idealize.ShloMosaic.TcCoe Idealize.SL.Sem Cert.Attn.Arrays Cert.Attn.Acc

variable (q : S2048x8x192.Idx → ℝ) (kn : S2304x8x128.Idx → ℝ) (kr : S2304x64.Idx → ℝ) (v : S2304x8x128.Idx → ℝ)
  (o : S2048x8x128.Idx → ℝ)
variable (m : (ℓ : Loc nD τ sig) → Buf (Elt Ideal) ℓ) (c : Dev nD)

/-- The second lanes of a head, written by the place in the whole row. -/
theorem outb_hi {T : ℕ} (f : Fin 8 → Fin T → Fin 192 → ℝ) (t : Fin T) (l : Fin 1024) :
    outb f t l = hi (f ⟨l.val / 128, by have := l.isLt; omega⟩ t) ⟨l.val % 128, by omega⟩ := rfl

section Places

/-- The point that writes an index of a queries' array. -/
def ptQ (i : S2048x1024.Idx) : Fin cfg0.N :=
  ⟨1 * ((i 0).val / 512 - 0) + 4 * ((i 1).val / 128 - 0), lt_of_lt_of_eq (by
    have h0 : (i 0).val < 2048 := (i 0).isLt
    have h1 : (i 1).val < 1024 := (i 1).isLt
    omega) N_0.symm⟩

/-- The point that writes an index of a keys' array. -/
def ptK (i : S2304x1024.Idx) : Fin cfg0.N :=
  ⟨4 * (8 * ((i 0).val / 2304 - 0) + 1 * ((i 1).val / 128 - 0)) + 3, lt_of_lt_of_eq (by
    have h0 : (i 0).val < 2304 := (i 0).isLt
    have h1 : (i 1).val < 1024 := (i 1).isLt
    omega) N_0.symm⟩

theorem hdQ (i : S2048x1024.Idx) : hd (ptQ i) = ⟨(i 1).val / 128, by have h1 : (i 1).val < 1024 := (i 1).isLt; omega⟩ := by
  apply Fin.ext
  show (1 * ((i 0).val / 512 - 0) + 4 * ((i 1).val / 128 - 0)) / 4 = (i 1).val / 128
  have h0 : (i 0).val < 2048 := (i 0).isLt
  omega

theorem rowQ (i : S2048x1024.Idx) : row (ptQ i) ⟨(i 0).val % 512, Nat.mod_lt _ (by decide)⟩ = i 0 := by
  apply Fin.ext
  show 512 * ((1 * ((i 0).val / 512 - 0) + 4 * ((i 1).val / 128 - 0)) % 4) + (i 0).val % 512 = (i 0).val
  have h0 : (i 0).val < 2048 := (i 0).isLt
  omega

theorem hdK (i : S2304x1024.Idx) : hd (ptK i) = ⟨(i 1).val / 128, by have h1 : (i 1).val < 1024 := (i 1).isLt; omega⟩ := by
  apply Fin.ext
  show (4 * (8 * ((i 0).val / 2304 - 0) + 1 * ((i 1).val / 128 - 0)) + 3) / 4 = (i 1).val / 128
  have h0 : (i 0).val < 2304 := (i 0).isLt
  omega

theorem modK (i : S2304x1024.Idx) : (ptK i).val % 4 = 3 := by
  show (4 * (8 * ((i 0).val / 2304 - 0) + 1 * ((i 1).val / 128 - 0)) + 3) % 4 = 3
  omega

theorem rowK (i : S2304x1024.Idx) : (⟨(i 0).val % 2304, Nat.mod_lt _ (by decide)⟩ : Fin 2304) = i 0 :=
  Fin.ext (Nat.mod_eq_of_lt (i 0).isLt)

theorem locQ (i : S2048x1024.Idx) : Value.loc7Of i
    = ix2 ⟨(i 0).val % 512, Nat.mod_lt _ (by decide)⟩ ⟨(i 1).val % 128, Nat.mod_lt _ (by decide)⟩ := by
  funext a
  match a with
  | ⟨0, _⟩ => rfl
  | ⟨1, _⟩ => rfl

theorem locK (i : S2304x1024.Idx) : Value.loc9Of i
    = ix2 ⟨(i 0).val % 2304, Nat.mod_lt _ (by decide)⟩ ⟨(i 1).val % 128, Nat.mod_lt _ (by decide)⟩ := by
  funext a
  match a with
  | ⟨0, _⟩ => rfl
  | ⟨1, _⟩ => rfl

end Places

section Read
variable (i : S2048x1024.Idx) (j : S2304x1024.Idx)

theorem read7 : Value.G7 m c i = (outsAt0 m c (ptQ i).val (ptQ i).isLt).1 (Value.loc7Of i) := by
  rw [Value.outsAt0_sweep]
  exact dif_pos (ptQ i).isLt
theorem read8 : Value.G8 m c i = (outsAt0 m c (ptQ i).val (ptQ i).isLt).2.1 (Value.loc7Of i) := by
  rw [Value.outsAt0_sweep]
  exact dif_pos (ptQ i).isLt
theorem read9 : Value.G9 m c j = (outsAt0 m c (ptK j).val (ptK j).isLt).2.2.1 (Value.loc9Of j) := by
  rw [Value.outsAt0_sweep]
  exact dif_pos (ptK j).isLt
theorem read10 : Value.G10 m c j = (outsAt0 m c (ptK j).val (ptK j).isLt).2.2.2.1 (Value.loc9Of j) := by
  rw [Value.outsAt0_sweep]
  exact dif_pos (ptK j).isLt
theorem read11 : Value.G11 m c j = (outsAt0 m c (ptK j).val (ptK j).isLt).2.2.2.2.1 (Value.loc9Of j) := by
  rw [Value.outsAt0_sweep]
  exact dif_pos (ptK j).isLt

end Read

variable (H : Holds q kn kr v o m c)
include H

/-- A row of the queries' gradient does not depend on the other rows. -/
theorem dquery_at (i : S2048x1024.Idx) : dquery scale (Q q (ptQ i)) (K kn kr (ptQ i)) (W v (ptQ i)) (O o (ptQ i))
      ⟨(i 0).val % 512, Nat.mod_lt _ (by decide)⟩
    = (fun h => dquery scale (head q h) (keys kn kr h) (head v h) (head o h))
      ⟨(i 1).val / 128, by have h1 : (i 1).val < 1024 := (i 1).isLt; omega⟩ (i 0) := by
  refine Eq.trans (b := dquery scale (head q (hd (ptQ i))) (keys kn kr (hd (ptQ i))) (head v (hd (ptQ i))) (head o (hd (ptQ i)))
    (row (ptQ i) ⟨(i 0).val % 512, Nat.mod_lt _ (by decide)⟩)) rfl ?_
  rw [hdQ, rowQ]

/-- The first lanes of the queries' gradient. -/
theorem result7 : Value.G7 m c = fun i =>
    ((outa (by decide) (fun h => dquery scale (head q h) (keys kn kr h) (head v h) (head o h)) (i 0) (i 1) : ℝ) : EReal) := by
  funext i
  rw [read7, locQ, dqn q kn kr v o m c _ H]
  exact congrArg (fun x : ℝ => (x : EReal)) (congrFun (congrArg lo (dquery_at q kn kr v o m c H i)) _)

/-- The other lanes of the queries' gradient, then zeros. -/
theorem result8 : Value.G8 m c = fun i =>
    ((outb (fun h => dquery scale (head q h) (keys kn kr h) (head v h) (head o h)) (i 0) (i 1) : ℝ) : EReal) := by
  funext i
  rw [read8, locQ, dqr q kn kr v o m c _ H]
  exact congrArg (fun x : ℝ => (x : EReal)) (congrFun (congrArg hi (dquery_at q kn kr v o m c H i)) _)

/-- The first lanes of the keys' gradient. -/
theorem result9 : Value.G9 m c = fun i =>
    ((outa (by decide) (fun h => dkey scale (head q h) (keys kn kr h) (head v h) (head o h)) (i 0) (i 1) : ℝ) : EReal) := by
  funext i
  rw [read9, locK, dkn q kn kr v o m c _ H (modK i), hdK, rowK]
  rfl

/-- The other lanes of the keys' gradient, then zeros. -/
theorem result10 : Value.G10 m c = fun i =>
    ((outb (fun h => dkey scale (head q h) (keys kn kr h) (head v h) (head o h)) (i 0) (i 1) : ℝ) : EReal) := by
  funext i
  rw [read10, locK, dkr q kn kr v o m c _ H (modK i), hdK, rowK]
  rfl

/-- The values' gradient. -/
theorem result11 : Value.G11 m c = fun i =>
    ((outa (by decide) (fun h => dvalue scale (head q h) (keys kn kr h) (head o h)) (i 0) (i 1) : ℝ) : EReal) := by
  funext i
  rw [read11, locK, dv q kn kr v o m c _ H (modK i), hdK, rowK]
  rfl

end Cert.Attn.Results

end
-- ==== Proof.AttnReference.lean ====
/- The reference program of the attention's gradient, read at an index at finite arguments: each result is the real
   cotangent of the attention of one head. -/
module

public import proofs.«01_k».proof.Proof.AttnModel
public import proofs.«01_k».proof.Proof.Gen.ReferenceIdeal.Read

@[expose] public section

set_option maxRecDepth 16384

noncomputable section

namespace Cert.Attn.Ref

open Cert.ReferenceIdeal Cert.ReferenceIdeal.Gen Cert.ReferenceIdeal.Read Idealize.ShloMosaic

variable (q : S2048x8x192.Idx → ℝ) (kn : S2304x8x128.Idx → ℝ) (kr : S2304x64.Idx → ℝ) (v : S2304x8x128.Idx → ℝ)
  (o : S2048x8x128.Idx → ℝ)

/-- The queries, the keys, the values and the cotangent under a batch axis of one. -/
theorem queries (i : S1x2048x8x192.Idx) : val_main_v3 (F := Ideal) (real q) i = ((head q (i 2) (i 1) (i 3) : ℝ) : EReal) := by
  rw [val_main_v3_apply]
  exact congrArg (fun j => ((q j : ℝ) : EReal)) (eq_ix3 _)

theorem catkeys (i : S2304x8x192.Idx) : val_main_v2 (F := Ideal) (real kn) (real kr) i = ((keys kn kr (i 1) (i 0) (i 2) : ℝ) : EReal) := by
  idx_vars i
  unfold val_main_v2 keys
  pointwise [val_main_v1, val_main_v0]
  split <;> rfl

theorem batchkeys (i : S1x2304x8x192.Idx) :
    val_main_v4 (F := Ideal) (real kn) (real kr) i = ((keys kn kr (i 2) (i 1) (i 3) : ℝ) : EReal) := by
  rw [val_main_v4_apply, catkeys]
  rfl

theorem values (i : S1x2304x8x128.Idx) : val_main_v5 (F := Ideal) (real v) i = ((head v (i 2) (i 1) (i 3) : ℝ) : EReal) := by
  rw [val_main_v5_apply]
  exact congrArg (fun j => ((v j : ℝ) : EReal)) (eq_ix3 _)

theorem cotangent (i : S1x8x128x2048.Idx) : val_main_v40 (F := Ideal) (real o) i = ((head o (i 1) (i 3) (i 2) : ℝ) : EReal) := by
  rw [val_main_v40_apply, val_main_v39_apply]
  exact congrArg (fun j => ((o j : ℝ) : EReal)) (eq_ix3 _)

/-- The padding is zero. -/
theorem padq (i : S_.Idx) : val_main_call0_v0 (F := Ideal) i = ((0 : ℝ) : EReal) := by
  rw [val_main_call0_v0_apply, val_main_c_apply]
  show (((0x00000000#32 : BitVec 32).toInt : ℝ) : EReal) = _
  simp

theorem padk (i : S_.Idx) : val_main_call1_v0 (F := Ideal) i = ((0 : ℝ) : EReal) := by
  rw [val_main_call1_v0_apply, val_main_c_13_apply]
  show (((0x00000000#32 : BitVec 32).toInt : ℝ) : EReal) = _
  simp

/-- The score array. -/
theorem scores (i : S1x8x2048x2304.Idx) : val_main_v8 (F := Ideal) (real q) (real kn) (real kr) i
    = ((score scale (head q (i 1)) (keys kn kr (i 1)) (i 2) (i 3) : ℝ) : EReal) := by
  rw [val_main_v8_apply, val_main_v6_apply, val_main_v7_apply, val_main_cst_apply, Ideal.mulf_def, Ideal.ofBits_def, scale_eq]
  simp only [queries, batchkeys, ← EReal.coe_mul]
  rw [coe_sum, ← EReal.coe_mul]
  rfl

/-- Every row's largest score is a real number. -/
theorem rowmax (i : S1x8x2048.Idx) : ∃ r : ℝ, val_main_v16 (F := Ideal) (real q) (real kn) (real kr) i = ((r : ℝ) : EReal) := by
  idx_vars i
  rw [val_main_v16_apply, val_main_v15_apply, val_main_cst_2_apply, Ideal.maximumf_def]
  unfold val_main_v9
  pointwise [val_main_cst_0]
  simp only [scores, ofBits_neg_inf]
  obtain ⟨r, hr⟩ := fold_max_real (by decide) fun x => score scale (head q i1) (keys kn kr i1) i2 x
  exact ⟨r, (congrArg (max ⊥) hr).trans (by simp)⟩

/-- The largest score of the row of query `t` in head `h`. -/
def top (h : Fin 8) (t : Fin 2048) : ℝ := (val_main_v16 (F := Ideal) (real q) (real kn) (real kr) (ix3 0 h t)).toReal

theorem rowmax_eq (i : S1x8x2048.Idx) :
    val_main_v16 (F := Ideal) (real q) (real kn) (real kr) i = ((top q kn kr (i 1) (i 2) : ℝ) : EReal) := by
  idx_vars i
  obtain rfl : i0 = 0 := Subsingleton.elim _ _
  obtain ⟨r, hr⟩ := rowmax q kn kr (ix3 0 i1 i2)
  unfold top
  show _ = (((val_main_v16 (F := Ideal) (real q) (real kn) (real kr) (ix3 0 i1 i2)).toReal : ℝ) : EReal)
  rw [hr, EReal.toReal_coe]

/-- The exponential of the score lowered by the row's largest. -/
theorem exps (i : S1x8x2048x2304.Idx) : val_main_v29 (F := Ideal) (real q) (real kn) (real kr) i
    = ((Real.exp (score scale (head q (i 1)) (keys kn kr (i 1)) (i 2) (i 3) - top q kn kr (i 1) (i 2)) : ℝ) : EReal) := by
  rw [val_main_v29_apply, val_main_v28_apply, val_main_v27_apply, val_main_v26_apply, scores, rowmax_eq, Ideal.hostUnary_exp_def,
    Ideal.subf_def, ← EReal.coe_sub, Ideal.exp_coe]
  rfl

/-- The sum of a row's exponentials. -/
def total (h : Fin 8) (t : Fin 2048) : ℝ :=
  ∑ s, Real.exp (score scale (head q h) (keys kn kr h) t s - top q kn kr h t)

theorem total_ne (h : Fin 8) (t : Fin 2048) : total q kn kr h t ≠ 0 := (sum_exp_pos (by decide) _).ne'

theorem totals (i : S1x8x2048x1.Idx) : val_main_v31 (F := Ideal) (real q) (real kn) (real kr) i
    = ((total q kn kr (i 1) (i 2) : ℝ) : EReal) := by
  rw [val_main_v31_apply, val_main_v30_apply, val_main_cst_8_apply, Ideal.ofBits_def, ofBits_zero, zero_add]
  simp only [exps]
  rw [coe_sum]
  rfl

/-- The attention weights. -/
theorem weights (i : S1x8x2048x2304.Idx) : val_main_v33 (F := Ideal) (real q) (real kn) (real kr) i
    = ((weight scale (head q (i 1)) (keys kn kr (i 1)) (i 2) (i 3) : ℝ) : EReal) := by
  rw [val_main_v33_apply, val_main_v32_apply, exps, totals, Ideal.hostDivf_def]
  exact (div_real _ _ (total_ne q kn kr _ _)).trans (congrArg _ (weight_shift _ _ _ _ _ _))

/-- The cotangents of the weights. -/
theorem dweights (i : S1x8x2048x2304.Idx) : val_main_v41 (F := Ideal) (real v) (real o) i
    = ((dweight (head v (i 1)) (head o (i 1)) (i 2) (i 3) : ℝ) : EReal) := by
  rw [val_main_v41_apply]
  simp only [values, cotangent, ← EReal.coe_mul]
  rw [coe_sum]
  rfl

/-- The reciprocal of the square of a row's sum. -/
theorem squares (i : S1x8x2048x1.Idx) : val_main_v36 (F := Ideal) (real q) (real kn) (real kr) i
    = ((1 / (total q kn kr (i 1) (i 2) * total q kn kr (i 1) (i 2)) : ℝ) : EReal) := by
  rw [val_main_v36_apply, val_main_v35_apply, val_main_cst_9_apply, val_main_v34_apply, totals, Ideal.ofBits_def, ofBits_one,
    Ideal.mulf_def, Ideal.hostDivf_def, ← EReal.coe_mul, ← EReal.coe_one]
  exact div_real _ _ (mul_ne_zero (total_ne q kn kr _ _) (total_ne q kn kr _ _))

theorem terms (i : S1x8x2048x2304.Idx) : val_main_v46 (F := Ideal) (real q) (real kn) (real kr) (real v) (real o) i
    = ((dweight (head v (i 1)) (head o (i 1)) (i 2) (i 3) * (1 / (total q kn kr (i 1) (i 2) * total q kn kr (i 1) (i 2)))
        * Real.exp (score scale (head q (i 1)) (keys kn kr (i 1)) (i 2) (i 3) - top q kn kr (i 1) (i 2)) : ℝ) : EReal) := by
  rw [val_main_v46_apply, val_main_v45_apply, val_main_v44_apply, dweights, exps, squares, Ideal.mulf_def, Ideal.mulf_def,
    ← EReal.coe_mul, ← EReal.coe_mul]
  rfl

/-- The row's part of the quotient rule. -/
def rowpart (h : Fin 8) (t : Fin 2048) : ℝ :=
  ∑ s, dweight (head v h) (head o h) t s * (1 / (total q kn kr h t * total q kn kr h t))
    * Real.exp (score scale (head q h) (keys kn kr h) t s - top q kn kr h t)

theorem rowparts (i : S1x8x2048.Idx) : val_main_v47 (F := Ideal) (real q) (real kn) (real kr) (real v) (real o) i
    = ((rowpart q kn kr v o (i 1) (i 2) : ℝ) : EReal) := by
  rw [val_main_v47_apply, val_main_cst_10_apply, Ideal.ofBits_def, ofBits_zero, zero_add]
  simp only [terms]
  rw [coe_sum]
  rfl

theorem rowparts' (i : S8x2048.Idx) : val_main_v52 (F := Ideal) (real q) (real kn) (real kr) (real v) (real o) i
    = ((-rowpart q kn kr v o (i 0) (i 1) : ℝ) : EReal) := by
  idx_vars i
  unfold val_main_v52
  show val_main_cst_11 (F := Ideal) (Shape.Idx.first h_S_)
    + ∑ i ∈ Finset.univ.filter (fun i => reducesTo_S1x8x2048x1_S8x2048_d0_3.drop i = ix2 i0 i1),
      val_main_v49 (F := Ideal) (real q) (real kn) (real kr) (real v) (real o) i = _
  rw [show Finset.univ.filter (fun i => reducesTo_S1x8x2048x1_S8x2048_d0_3.drop i = ix2 i0 i1) = {ix4 0 i0 i1 0} from ?_,
    Finset.sum_singleton, val_main_cst_11_apply, Ideal.ofBits_def, ofBits_zero, zero_add]
  · pointwise [val_main_v49, val_main_v48]
    rw [rowparts]
    rfl
  · ext j
    idx_vars j
    obtain rfl : j0 = 0 := Subsingleton.elim _ _
    obtain rfl : j3 = 0 := Subsingleton.elim _ _
    rw [Finset.mem_filter, Finset.mem_singleton]
    constructor
    · rintro ⟨-, h⟩
      obtain rfl : j1 = i0 := congrFun h 0
      obtain rfl : j2 = i1 := congrFun h 1
      rfl
    · intro h
      obtain rfl : j1 = i0 := congrFun h 1
      obtain rfl : j2 = i1 := congrFun h 2
      refine ⟨Finset.mem_univ _, funext fun a => ?_⟩
      match a with
      | ⟨0, _⟩ => rfl
      | ⟨1, _⟩ => rfl

/-- The cotangents of the scores. -/
theorem dscores (i : S1x8x2048x2304.Idx) : val_main_v58 (F := Ideal) (real q) (real kn) (real kr) (real v) (real o) i
    = ((dscore scale (head q (i 1)) (keys kn kr (i 1)) (head v (i 1)) (head o (i 1)) (i 2) (i 3) : ℝ) : EReal) := by
  rw [val_main_v58_apply, val_main_v57_apply, val_main_cst_12_apply, val_main_v56_apply, val_main_v55_apply, val_main_v51_apply,
    val_main_v50_apply, val_main_v54_apply, val_main_v53_apply, rowparts', dweights, totals, exps, Ideal.hostDivf_def]
  refine (congrArg (fun z => (z + _) * _ * _) (div_real _ _ (total_ne q kn kr _ _))).trans ?_
  rw [Ideal.ofBits_def, scale_eq, ← EReal.coe_add, ← EReal.coe_mul, ← EReal.coe_mul]
  exact congrArg _ (dscore_quotient _ _ _ _ _ (by decide) _ _ _ _ rfl)

/-- The cotangents of the queries. -/
theorem dqueries1 (i : S1x8x2048x192.Idx) : val_main_v61 (F := Ideal) (real q) (real kn) (real kr) (real v) (real o) i
    = ((dquery scale (head q (i 1)) (keys kn kr (i 1)) (head v (i 1)) (head o (i 1)) (i 2) (i 3) : ℝ) : EReal) := by
  rw [val_main_v61_apply]
  simp only [dscores, batchkeys, ← EReal.coe_mul]
  rw [coe_sum]
  rfl

theorem dqueries (i : S2048x8x192.Idx) : val_main_v63 (F := Ideal) (real q) (real kn) (real kr) (real v) (real o) i
    = ((dquery scale (head q (i 1)) (keys kn kr (i 1)) (head v (i 1)) (head o (i 1)) (i 0) (i 2) : ℝ) : EReal) := by
  idx_vars i
  pointwise [val_main_v63, val_main_v62]
  rw [dqueries1]
  rfl

/-- The cotangents of the keys. -/
theorem dkeys1 (i : S1x8x2304x192.Idx) : val_main_v59 (F := Ideal) (real q) (real kn) (real kr) (real v) (real o) i
    = ((dkey scale (head q (i 1)) (keys kn kr (i 1)) (head v (i 1)) (head o (i 1)) (i 2) (i 3) : ℝ) : EReal) := by
  rw [val_main_v59_apply]
  simp only [dscores, queries, ← EReal.coe_mul]
  rw [coe_sum]
  rfl

theorem dkeys (i : S2304x8x192.Idx) : val_main_v64 (F := Ideal) (real q) (real kn) (real kr) (real v) (real o) i
    = ((dkey scale (head q (i 1)) (keys kn kr (i 1)) (head v (i 1)) (head o (i 1)) (i 0) (i 2) : ℝ) : EReal) := by
  idx_vars i
  pointwise [val_main_v64, val_main_v60]
  rw [dkeys1]
  rfl

/-- The cotangents of the values. -/
theorem dvalues1 (i : S1x8x128x2304.Idx) : val_main_v42 (F := Ideal) (real q) (real kn) (real kr) (real o) i
    = ((dvalue scale (head q (i 1)) (keys kn kr (i 1)) (head o (i 1)) (i 3) (i 2) : ℝ) : EReal) := by
  rw [val_main_v42_apply]
  simp only [weights, cotangent, ← EReal.coe_mul]
  rw [coe_sum]
  exact congrArg _ (Finset.sum_congr rfl fun _ _ => mul_comm _ _)

theorem dvalues (i : S2304x8x128.Idx) : val_main_v65 (F := Ideal) (real q) (real kn) (real kr) (real o) i
    = ((dvalue scale (head q (i 1)) (keys kn kr (i 1)) (head o (i 1)) (i 0) (i 2) : ℝ) : EReal) := by
  idx_vars i
  pointwise [val_main_v65, val_main_v43]
  rw [dvalues1]
  rfl

/-! ## The results -/

/-- The first result: the queries' cotangent, the first 128 lanes of each head. -/
theorem result0 (i : S2048x1024.Idx) : val_main_v68 (F := Ideal) (real q) (real kn) (real kr) (real v) (real o) i
    = ((outa (by decide) (fun h => dquery scale (head q h) (keys kn kr h) (head v h) (head o h)) (i 0) (i 1) : ℝ) : EReal) := by
  idx_vars i
  pointwise [val_main_v68, val_main_v67, val_main_v66]
  exact dqueries q kn kr v o _

/-- The second result: its other lanes. -/
theorem result1 (i : S2048x1024.Idx) : val_main_v72 (F := Ideal) (real q) (real kn) (real kr) (real v) (real o) i
    = ((outb (fun h => dquery scale (head q h) (keys kn kr h) (head v h) (head o h)) (i 0) (i 1) : ℝ) : EReal) := by
  idx_vars i
  pointwise [val_main_v72, val_main_v71, val_main_v70, val_main_v69]
  by_cases h : i1.val % 128 < 64
  · rw [dif_pos (show i1.val / 128 < 8 ∧ i1.val % 128 < 64 from ⟨by have := i1.isLt; omega, h⟩)]
    refine Eq.trans ?_ (congrArg _ (outb_pos _ i0 i1 h).symm)
    exact dqueries q kn kr v o _
  · rw [dif_neg (show ¬(i1.val / 128 < 8 ∧ i1.val % 128 < 64) from fun h' => h h'.2)]
    refine Eq.trans ?_ (congrArg _ (outb_neg _ i0 i1 h).symm)
    exact padq _

/-- The third result: the keys' cotangent, the first 128 lanes of each head. -/
theorem result2 (i : S2304x1024.Idx) : val_main_v75 (F := Ideal) (real q) (real kn) (real kr) (real v) (real o) i
    = ((outa (by decide) (fun h => dkey scale (head q h) (keys kn kr h) (head v h) (head o h)) (i 0) (i 1) : ℝ) : EReal) := by
  idx_vars i
  pointwise [val_main_v75, val_main_v74, val_main_v73]
  exact dkeys q kn kr v o _

/-- The fourth result: its other lanes. -/
theorem result3 (i : S2304x1024.Idx) : val_main_v79 (F := Ideal) (real q) (real kn) (real kr) (real v) (real o) i
    = ((outb (fun h => dkey scale (head q h) (keys kn kr h) (head v h) (head o h)) (i 0) (i 1) : ℝ) : EReal) := by
  idx_vars i
  pointwise [val_main_v79, val_main_v78, val_main_v77, val_main_v76]
  by_cases h : i1.val % 128 < 64
  · rw [dif_pos (show i1.val / 128 < 8 ∧ i1.val % 128 < 64 from ⟨by have := i1.isLt; omega, h⟩)]
    refine Eq.trans ?_ (congrArg _ (outb_pos _ i0 i1 h).symm)
    exact dkeys q kn kr v o _
  · rw [dif_neg (show ¬(i1.val / 128 < 8 ∧ i1.val % 128 < 64) from fun h' => h h'.2)]
    refine Eq.trans ?_ (congrArg _ (outb_neg _ i0 i1 h).symm)
    exact padk _

/-- The fifth result: the values' cotangent. -/
theorem result4 (i : S2304x1024.Idx) : val_main_v81 (F := Ideal) (real q) (real kn) (real kr) (real o) i
    = ((outa (by decide) (fun h => dvalue scale (head q h) (keys kn kr h) (head o h)) (i 0) (i 1) : ℝ) : EReal) := by
  idx_vars i
  pointwise [val_main_v81, val_main_v80]
  exact dvalues q kn kr o _

end Cert.Attn.Ref

end
-- ==== Proof.Finite.lean ====
/- An array of the extended reals whose absolute values are below the positive infinity is an array of real numbers. -/
module

public import proofs.«01_k».proof.Proof.AttnModel
public import proofs.«01_k».proof.Pre_finite
public import proofs.«01_k».proof.Proof.Gen.Pre_finite

@[expose] public section

set_option maxRecDepth 16384

noncomputable section

namespace Cert.Attn

open Idealize.ShloMosaic

theorem ofBits_pos_inf : (Ideal.ofBits .f32 0x7F800000#32 : EReal) = ⊤ := by simp [Ideal.ofBits, Ideal.ieee]

/-- One value. -/
theorem real_of_abs (x : EReal) (h : Ideal.cmp .olt (max x (-x)) (Ideal.ofBits .f32 0x7F800000#32) = 1#1) :
    ∃ r : ℝ, x = ((r : ℝ) : EReal) := by
  rw [ofBits_pos_inf] at h
  induction x using EReal.rec with
  | coe r => exact ⟨r, rfl⟩
  | bot => simp [Ideal.cmp] at h
  | top => simp [Ideal.cmp] at h

/-- A whole array. -/
theorem reals {s : Shape} (x : FVec Ideal s .f32) (h : ∀ i, Ideal.cmp .olt (max (x i : EReal) (-(x i : EReal)))
    (Ideal.ofBits .f32 0x7F800000#32) = 1#1) :
    ∃ f : s.Idx → ℝ, x = real f :=
  ⟨fun i => (real_of_abs (x i) (h i)).choose, funext fun i => (real_of_abs (x i) (h i)).choose_spec⟩

variable (a0 : FVec Ideal Pre_finite.S2048x8x192 .f32) (a1 : FVec Ideal Pre_finite.S2304x8x128 .f32) (a2 : FVec Ideal Pre_finite.S2304x64 .f32)
  (a3 : FVec Ideal Pre_finite.S2304x8x128 .f32) (a4 : FVec Ideal Pre_finite.S2048x8x128 .f32)

attribute [local instance] Cert.Pre_finite.Gen.facts

theorem finite0 (h : (Cert.Pre_finite.fn a0 a1 a2 a3 a4).1 = fun _ => 1#1) : ∃ f : Pre_finite.S2048x8x192.Idx → ℝ, a0 = real f :=
  reals a0 fun i => congrFun h i
theorem finite1 (h : (Cert.Pre_finite.fn a0 a1 a2 a3 a4).2.1 = fun _ => 1#1) : ∃ f : Pre_finite.S2304x8x128.Idx → ℝ, a1 = real f :=
  reals a1 fun i => congrFun h i
theorem finite2 (h : (Cert.Pre_finite.fn a0 a1 a2 a3 a4).2.2.1 = fun _ => 1#1) : ∃ f : Pre_finite.S2304x64.Idx → ℝ, a2 = real f :=
  reals a2 fun i => congrFun h i
theorem finite3 (h : (Cert.Pre_finite.fn a0 a1 a2 a3 a4).2.2.2.1 = fun _ => 1#1) : ∃ f : Pre_finite.S2304x8x128.Idx → ℝ, a3 = real f :=
  reals a3 fun i => congrFun h i
theorem finite4 (h : (Cert.Pre_finite.fn a0 a1 a2 a3 a4).2.2.2.2 = fun _ => 1#1) : ∃ f : Pre_finite.S2048x8x128.Idx → ℝ, a4 = real f :=
  reals a4 fun i => congrFun h i

end Cert.Attn

end
-- ==== Proof.AttnEquation.lean ====
/- The attention's backward kernel and its reference compute the same five arrays at finite arguments. -/
module

public import proofs.«01_k».proof.Defs
public import proofs.«01_k».proof.Proof.AttnResults
public import proofs.«01_k».proof.Proof.AttnReference
public import proofs.«01_k».proof.Proof.Finite
public import proofs.«01_k».proof.Proof.Gen.ReferenceIdeal.Run

@[expose] public section

set_option maxRecDepth 16384

noncomputable section

namespace Cert.Attn

open Idealize.ShloMosaic Idealize.SL.Sem

attribute [local instance] Cert.Pre_finite.Gen.facts Cert.KernelIdeal.Gen.facts Cert.ReferenceIdeal.Gen.facts

section Reference
variable (q : Cert.KernelIdeal.S2048x8x192.Idx → ℝ) (kn : Cert.KernelIdeal.S2304x8x128.Idx → ℝ) (kr : Cert.KernelIdeal.S2304x64.Idx → ℝ)
  (v : Cert.KernelIdeal.S2304x8x128.Idx → ℝ) (o : Cert.KernelIdeal.S2048x8x128.Idx → ℝ)
variable (m : (ℓ : Loc Cert.ReferenceIdeal.nD Cert.ReferenceIdeal.τ Cert.ReferenceIdeal.sig) → Buf (Elt Ideal) ℓ) (c : Dev Cert.ReferenceIdeal.nD)

/-- The reference's memory holds these finite arguments. -/
structure RefHolds : Prop where
  q : m ((c.tc : Thread Cert.ReferenceIdeal.nD Cert.ReferenceIdeal.τ).loc Cert.ReferenceIdeal.main_arg0) = real q
  kn : m ((c.tc : Thread Cert.ReferenceIdeal.nD Cert.ReferenceIdeal.τ).loc Cert.ReferenceIdeal.main_arg1) = real kn
  kr : m ((c.tc : Thread Cert.ReferenceIdeal.nD Cert.ReferenceIdeal.τ).loc Cert.ReferenceIdeal.main_arg2) = real kr
  v : m ((c.tc : Thread Cert.ReferenceIdeal.nD Cert.ReferenceIdeal.τ).loc Cert.ReferenceIdeal.main_arg3) = real v
  o : m ((c.tc : Thread Cert.ReferenceIdeal.nD Cert.ReferenceIdeal.τ).loc Cert.ReferenceIdeal.main_arg4) = real o

variable (H : RefHolds q kn kr v o m c)
include H

theorem ref0 : Cert.ReferenceIdeal.Value.res_main_v68 m c = fun i =>
    ((outa (by decide) (fun h => dquery scale (head q h) (keys kn kr h) (head v h) (head o h)) (i 0) (i 1) : ℝ) : EReal) := by
  rw [Cert.ReferenceIdeal.Read.val_main_v68_eq, H.q, H.kn, H.kr, H.v, H.o]
  exact funext fun i => Ref.result0 q kn kr v o i
theorem ref1 : Cert.ReferenceIdeal.Value.res_main_v72 m c = fun i =>
    ((outb (fun h => dquery scale (head q h) (keys kn kr h) (head v h) (head o h)) (i 0) (i 1) : ℝ) : EReal) := by
  rw [Cert.ReferenceIdeal.Read.val_main_v72_eq, H.q, H.kn, H.kr, H.v, H.o]
  exact funext fun i => Ref.result1 q kn kr v o i
theorem ref2 : Cert.ReferenceIdeal.Value.res_main_v75 m c = fun i =>
    ((outa (by decide) (fun h => dkey scale (head q h) (keys kn kr h) (head v h) (head o h)) (i 0) (i 1) : ℝ) : EReal) := by
  rw [Cert.ReferenceIdeal.Read.val_main_v75_eq, H.q, H.kn, H.kr, H.v, H.o]
  exact funext fun i => Ref.result2 q kn kr v o i
theorem ref3 : Cert.ReferenceIdeal.Value.res_main_v79 m c = fun i =>
    ((outb (fun h => dkey scale (head q h) (keys kn kr h) (head v h) (head o h)) (i 0) (i 1) : ℝ) : EReal) := by
  rw [Cert.ReferenceIdeal.Read.val_main_v79_eq, H.q, H.kn, H.kr, H.v, H.o]
  exact funext fun i => Ref.result3 q kn kr v o i
theorem ref4 : Cert.ReferenceIdeal.Value.res_main_v81 m c = fun i =>
    ((outa (by decide) (fun h => dvalue scale (head q h) (keys kn kr h) (head o h)) (i 0) (i 1) : ℝ) : EReal) := by
  rw [Cert.ReferenceIdeal.Read.val_main_v81_eq, H.q, H.kn, H.kr, H.o]
  exact funext fun i => Ref.result4 q kn kr o i

end Reference

/-- Finite arguments are real arrays. -/
theorem holds_of_finite (m : (ℓ : Loc Cert.KernelIdeal.nD Cert.KernelIdeal.τ Cert.KernelIdeal.sig) → Buf (Elt Ideal) ℓ)
    (h : Pre_KernelIdeal_finite m) (c : Dev Cert.KernelIdeal.nD) : ∃ q kn kr v o, Acc.Holds q kn kr v o m c := by
  obtain ⟨h0, h1, h2, h3, h4⟩ := h c
  obtain ⟨q, hq⟩ := finite0 _ _ _ _ _ h0
  obtain ⟨kn, hkn⟩ := finite1 _ _ _ _ _ h1
  obtain ⟨kr, hkr⟩ := finite2 _ _ _ _ _ h2
  obtain ⟨v, hv⟩ := finite3 _ _ _ _ _ h3
  obtain ⟨o, ho⟩ := finite4 _ _ _ _ _ h4
  exact ⟨q, kn, kr, v, o, ⟨hq, hkn, hkr, hv, ho⟩⟩

/-- The kernel's run and the reference's run leave the same five arrays. -/
theorem equation : algebraic_KernelIdeal_ReferenceIdeal_pre_finite := by
  intro m g m' g' hpre hargs
  have hkr : ∀ c, Cert.ReferenceIdeal.Value.res_main_v68 m' c = Cert.KernelIdeal.Value.G7 m c
      ∧ Cert.ReferenceIdeal.Value.res_main_v72 m' c = Cert.KernelIdeal.Value.G8 m c
      ∧ Cert.ReferenceIdeal.Value.res_main_v75 m' c = Cert.KernelIdeal.Value.G9 m c
      ∧ Cert.ReferenceIdeal.Value.res_main_v79 m' c = Cert.KernelIdeal.Value.G10 m c
      ∧ Cert.ReferenceIdeal.Value.res_main_v81 m' c = Cert.KernelIdeal.Value.G11 m c := by
    intro c
    obtain ⟨q, kn, kr, v, o, H⟩ := holds_of_finite m hpre c
    obtain ⟨e0, e1, e2, e3, e4⟩ := hargs c
    have H' : RefHolds q kn kr v o m' c := ⟨e0.trans H.q, e1.trans H.kn, e2.trans H.kr, e3.trans H.v, e4.trans H.o⟩
    exact ⟨(ref0 q kn kr v o m' c H').trans (Results.result7 q kn kr v o m c H).symm,
      (ref1 q kn kr v o m' c H').trans (Results.result8 q kn kr v o m c H).symm,
      (ref2 q kn kr v o m' c H').trans (Results.result9 q kn kr v o m c H).symm,
      (ref3 q kn kr v o m' c H').trans (Results.result10 q kn kr v o m c H).symm,
      (ref4 q kn kr v o m' c H').trans (Results.result11 q kn kr v o m c H).symm⟩
  refine ⟨fun c => Cert.KernelIdeal.Value.G7 m c, fun c => Cert.KernelIdeal.Value.G8 m c, fun c => Cert.KernelIdeal.Value.G9 m c,
    fun c => Cert.KernelIdeal.Value.G10 m c, fun c => Cert.KernelIdeal.Value.G11 m c, Cert.KernelIdeal.Value.run m g,
    (θ_run _ _ _).mono (fun r h c => ?_) (Cert.ReferenceIdeal.Value.run m' g')⟩
  obtain ⟨r0, r1, r2, r3, r4, rest⟩ := h c
  obtain ⟨k0, k1, k2, k3, k4⟩ := hkr c
  exact ⟨r0.trans k0, r1.trans k1, r2.trans k2, r3.trans k3, r4.trans k4, rest⟩

end Cert.Attn

end
-- ==== Proof.FfnRun.lean ====
/- The feed-forward layer's weight gradients: a run of the five calls ends with every array at the contents the calls
   leave, call by call. -/
module

public import proofs.«01_k».proof.Proof.Gen.FfnIdeal.Frame

@[expose] public section

set_option maxRecDepth 16384

noncomputable section

namespace Cert.FfnProduct

open Cert.FfnIdeal Cert.FfnIdeal.Gen
open Idealize.ShloMosaic Idealize.ShloMosaic.TcCoe
open Idealize.SL Idealize.SL.RA Idealize.SL.BI
open scoped Idealize.SL.BI
open Idealize.ShloMosaic.Rounds
open Idealize.SL.BI.BIBase Idealize.SL.BI.Laws Idealize.SL.ProofMode Idealize.SL.Sem

variable {F : FTy → Type} [FloatOps F] (m : (ℓ : Loc nD τ sig) → Buf (Elt F) ℓ) (ρ : Dev nD → PrngReg)

set_option backward.isDefEq.respectTransparency.types false in
/-- Every array a run can end with is the one the last call's exit holds. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W9 m ρ c b) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp (MT nD τ sig Unit (Elt F) ℕ (UR sig nD τ) ℕ))
            ⊢ BI.own (emb₁ (initOf (Pipeline.cells cfgs cellOf_inj) (Pipeline.launchToks cfgs cellOf_inj))) from .rfl)
        iexact Hu
      iapply (show (BI.emp : sProp (MT nD τ sig Unit (Elt F) ℕ (UR sig nD τ) ℕ)) ⊢ bigSep Finset.univ (fun _ : Dev nD => (BI.emp : sProp (MT nD τ sig Unit (Elt F) ℕ (UR sig nD τ) ℕ))) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W9 m ρ c b)
    (hfin := fun c s' => by
      iintro ⟨⟨Hh, -⟩, HSI⟩
      unfold StableHlo.held
      imodintro
      iapply (pointsTo_read_all (Pipeline.ucRefs τ sig) (fun b => (((c : Thread nD τ)).1, b)) (W9 m ρ c) s')
      isplitl [Hh] <;> iassumption)
    (hQ := fun s h _ => h)

/-- A run ends with the two gradients the last call's exit holds and with the arguments as they were. -/
theorem run : θ_run defs (onTc (τ := τ) (main (F := F))) ⟨m, fun _ => 0, ρ⟩ (fun r => ∀ c : Dev nD,
      r.2.mem ((c : Thread nD τ).loc main_v12) = W9 m ρ c (Proc.devRef .tc main_v12)
      ∧ r.2.mem ((c : Thread nD τ).loc main_v9) = W9 m ρ c (Proc.devRef .tc main_v9)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)) :=
  (θ_run defs _ _).mono (fun _ h c =>
    ⟨h c _ (mem_uc main_v12 (by decide)), h c _ (mem_uc main_v9 (by decide)),
      (h c _ (mem_uc main_arg0 (by decide))).trans (W9_main_arg0 m ρ c),
      (h c _ (mem_uc main_arg1 (by decide))).trans (W9_main_arg1 m ρ c),
      (h c _ (mem_uc main_arg2 (by decide))).trans (W9_main_arg2 m ρ c),
      (h c _ (mem_uc main_arg3 (by decide))).trans (W9_main_arg3 m ρ c)⟩) (run_all m ρ)

end Cert.FfnProduct

end
-- ==== Proof.FfnProducts.lean ====
/- The three plain products among the calls that give the feed-forward layer's weight gradients: what each call leaves in
   its result, from whatever its operands hold when it starts. -/
module

public import proofs.«01_k».proof.Proof.Gen.FfnIdeal.Frame
public import Idealize.ShloMosaic.Lib.Pipeline.ValueKit
public import Idealize.ShloMosaic.Lib.Pipeline.ReadBack

@[expose] public section

set_option maxRecDepth 16384

noncomputable section

namespace Cert.FfnProduct

open Cert.FfnIdeal Cert.FfnIdeal.Gen Idealize.ShloMosaic Idealize.ShloMosaic.TcCoe Idealize.SL.Sem

variable (V : (c : Dev nD) → (b : Ref sig .tc) → Buf (Elt Ideal) ((c : Thread nD τ).loc b)) (c : Dev nD)

/-! ## The layer's inner cotangent: rows of the cotangent by rows of the output weights -/

namespace Inner

theorem idx0 : ∀ t : Fin grid1.N, win1_0.index t = ![t.val / 4, 0] := by decide +kernel
theorem idx1 : ∀ t : Fin grid1.N, win1_1.index t = ![t.val % 4, 0] := by decide +kernel
theorem idx2 : ∀ t : Fin grid1.N, win1_2.index t = ![t.val / 4, t.val % 4] := by decide +kernel

theorem lt8 (t : Fin cfg1.N) : t.val < 8 := t.isLt

theorem pay_at (x : FVec Ideal S1024x2048 .bf16) (y : FVec Ideal S1408x2048 .bf16) (r : Fin 1024) (s : Fin 1408) :
    k1_pay1 (F := Ideal) x y (ix2 r s) = ∑ k : Fin 2048, x (ix2 r k) * y (ix2 s k) := by
  pointwise [k1_pay1]

/-- Rows by rows. -/
def product (x : FVec Ideal S2048x2048 .bf16) (w : FVec Ideal S5632x2048 .bf16) : FVec Ideal S2048x5632 .bf16 :=
  fun i => ∑ k : Fin 2048, x (ix2 (i 0) k) * w (ix2 (i 1) k)

variable (t : Fin cfg1.N)

def row (r : Fin 1024) : Fin 2048 := ⟨1024 * (t.val / 4) + r.val, by have := lt8 t; have := r.isLt; omega⟩
def col (s : Fin 1408) : Fin 5632 := ⟨1408 * (t.val % 4) + s.val, by have := s.isLt; omega⟩

theorem blk0 (r : Fin 1024) (k : Fin 2048) : iblk1 V c 0 t (ix2 r k) = V c main_v5 (ix2 (row t r) k) := by
  blk_ext [iblk1, idx0 t, row]
theorem blk1 (s : Fin 1408) (k : Fin 2048) : iblk1 V c 1 t (ix2 s k) = V c main_v6 (ix2 (col t s) k) := by
  blk_ext [iblk1, idx1 t, col]

theorem body (x : FVec Ideal S1024x2048 .bf16) (y : FVec Ideal S1408x2048 .bf16) : out1_2 (F := Ideal) x y = k1_pay1 (F := Ideal) x y := by
  unfold out1_2
  rw [View.canon_unit_zero, View.ld_unit_zero (S := S1024x2048), View.ld_unit_zero (S := S1408x2048)] <;> (funext a; fin_cases a <;> rfl)

theorem place (r : Fin 1024) (s : Fin 1408) : ((cfg1.win 2).blk t).view.emb (ix2 r s) = ix2 (row t r) (col t s) := by
  funext a
  match a with
  | ⟨0, _⟩ => exact Fin.ext (by show win1_2.index t (0 : Fin 2) * 1024 + 1 * r.val = 1024 * (t.val / 4) + r.val; rw [idx2]; show t.val / 4 * 1024 + 1 * r.val = _; omega)
  | ⟨1, _⟩ => exact Fin.ext (by show win1_2.index t (1 : Fin 2) * 1408 + 1 * s.val = 1408 * (t.val % 4) + s.val; rw [idx2]; show t.val % 4 * 1408 + 1 * s.val = _; omega)

/-- The call leaves the product of its operands. -/
theorem final : (dat1 V c).arrAt 2 cfg1.N = product (V c main_v5) (V c main_v6) := by
  refine (dat1 V c).arrAt_eq_of_cover 2 _ (fun t _ => ?_) (fun i => ?_)
  · show (cfg1.win 2).cut (grid1.coords t) ((dat1 V c).after 2 t) = _
    rw [after1_2, body]
    funext y
    idx_vars y
    refine (pay_at _ _ y0 y1).trans (Eq.trans ?_ (congrArg (product (V c main_v5) (V c main_v6)) (place t y0 y1).symm))
    exact Finset.sum_congr rfl fun k _ => congrArg₂ (· * ·) (blk0 V c t y0 k) (blk1 V c t y1 k)
  · have h0 : (i 0).val < 2048 := (i 0).isLt
    have h1 : (i 1).val < 5632 := (i 1).isLt
    let t : Fin cfg1.N := ⟨4 * ((i 0).val / 1024) + (i 1).val / 1408, lt_of_lt_of_eq (by omega) N_1.symm⟩
    refine ⟨t, flush1_2 t, ?_⟩
    have e : ((cfg1.win 2).blk t).view.emb (ix2 ⟨(i 0).val % 1024, by omega⟩ ⟨(i 1).val % 1408, by omega⟩) = i := by
      rw [place]
      funext a
      match a with
      | ⟨0, _⟩ => exact Fin.ext (by show 1024 * ((4 * ((i 0).val / 1024) + (i 1).val / 1408) / 4) + (i 0).val % 1024 = (i 0).val; omega)
      | ⟨1, _⟩ => exact Fin.ext (by show 1408 * ((4 * ((i 0).val / 1024) + (i 1).val / 1408) % 4) + (i 1).val % 1408 = (i 1).val; omega)
    rw [← e]
    exact View.emb_mem_set _ _

end Inner

/-! ## The output weights' gradient: columns of the activations by columns of the cotangent -/

namespace Outer

theorem idx0 : ∀ t : Fin grid2.N, win2_0.index t = ![0, t.val / 2] := by decide +kernel
theorem idx1 : ∀ t : Fin grid2.N, win2_1.index t = ![0, t.val % 2] := by decide +kernel
theorem idx2 : ∀ t : Fin grid2.N, win2_2.index t = ![t.val / 2, t.val % 2] := by decide +kernel

theorem lt22 (t : Fin cfg2.N) : t.val < 22 := t.isLt

theorem pay_at (x : FVec Ideal S2048x512 .bf16) (y : FVec Ideal S2048x1024 .bf16) (r : Fin 512) (s : Fin 1024) :
    k2_pay1 (F := Ideal) x y (ix2 r s) = ∑ k : Fin 2048, x (ix2 k r) * y (ix2 k s) := by
  pointwise [k2_pay1]

/-- Columns by columns. -/
def product (x : FVec Ideal S2048x5632 .bf16) (w : FVec Ideal S2048x2048 .bf16) : FVec Ideal S5632x2048 .bf16 :=
  fun i => ∑ k : Fin 2048, x (ix2 k (i 0)) * w (ix2 k (i 1))

variable (t : Fin cfg2.N)

def row (r : Fin 512) : Fin 5632 := ⟨512 * (t.val / 2) + r.val, by have := lt22 t; have := r.isLt; omega⟩
def col (s : Fin 1024) : Fin 2048 := ⟨1024 * (t.val % 2) + s.val, by have := s.isLt; omega⟩

theorem blk0 (r : Fin 512) (k : Fin 2048) : iblk2 V c 0 t (ix2 k r) = V c main_v4_2 (ix2 k (row t r)) := by
  blk_ext [iblk2, idx0 t, row]
theorem blk1 (s : Fin 1024) (k : Fin 2048) : iblk2 V c 1 t (ix2 k s) = V c main_v8 (ix2 k (col t s)) := by
  blk_ext [iblk2, idx1 t, col]

theorem body (x : FVec Ideal S2048x512 .bf16) (y : FVec Ideal S2048x1024 .bf16) : out2_2 (F := Ideal) x y = k2_pay1 (F := Ideal) x y := by
  unfold out2_2
  rw [View.canon_unit_zero, View.ld_unit_zero (S := S2048x512), View.ld_unit_zero (S := S2048x1024)] <;> (funext a; fin_cases a <;> rfl)

theorem place (r : Fin 512) (s : Fin 1024) : ((cfg2.win 2).blk t).view.emb (ix2 r s) = ix2 (row t r) (col t s) := by
  funext a
  match a with
  | ⟨0, _⟩ => exact Fin.ext (by show win2_2.index t (0 : Fin 2) * 512 + 1 * r.val = 512 * (t.val / 2) + r.val; rw [idx2]; show t.val / 2 * 512 + 1 * r.val = _; omega)
  | ⟨1, _⟩ => exact Fin.ext (by show win2_2.index t (1 : Fin 2) * 1024 + 1 * s.val = 1024 * (t.val % 2) + s.val; rw [idx2]; show t.val % 2 * 1024 + 1 * s.val = _; omega)

/-- The call leaves the product of its operands. -/
theorem final : (dat2 V c).arrAt 2 cfg2.N = product (V c main_v4_2) (V c main_v8) := by
  refine (dat2 V c).arrAt_eq_of_cover 2 _ (fun t _ => ?_) (fun i => ?_)
  · show (cfg2.win 2).cut (grid2.coords t) ((dat2 V c).after 2 t) = _
    rw [after2_2, body]
    funext y
    idx_vars y
    refine (pay_at _ _ y0 y1).trans (Eq.trans ?_ (congrArg (product (V c main_v4_2) (V c main_v8)) (place t y0 y1).symm))
    exact Finset.sum_congr rfl fun k _ => congrArg₂ (· * ·) (blk0 V c t y0 k) (blk1 V c t y1 k)
  · have h0 : (i 0).val < 5632 := (i 0).isLt
    have h1 : (i 1).val < 2048 := (i 1).isLt
    let t : Fin cfg2.N := ⟨2 * ((i 0).val / 512) + (i 1).val / 1024, lt_of_lt_of_eq (by omega) N_2.symm⟩
    refine ⟨t, flush2_2 t, ?_⟩
    have e : ((cfg2.win 2).blk t).view.emb (ix2 ⟨(i 0).val % 512, by omega⟩ ⟨(i 1).val % 1024, by omega⟩) = i := by
      rw [place]
      funext a
      match a with
      | ⟨0, _⟩ => exact Fin.ext (by show 512 * ((2 * ((i 0).val / 512) + (i 1).val / 1024) / 2) + (i 0).val % 512 = (i 0).val; omega)
      | ⟨1, _⟩ => exact Fin.ext (by show 1024 * ((2 * ((i 0).val / 512) + (i 1).val / 1024) % 2) + (i 1).val % 1024 = (i 1).val; omega)
    rw [← e]
    exact View.emb_mem_set _ _

end Outer

/-! ## The input weights' gradient, by column blocks: columns of the input by columns of the inner cotangent -/

namespace Slots

theorem idx0 : ∀ t : Fin grid4.N, win4_0.index t = ![0, t.val / 8] := by decide +kernel
theorem idx1 : ∀ t : Fin grid4.N, win4_1.index t = ![0, t.val % 8] := by decide +kernel
theorem idx2 : ∀ t : Fin grid4.N, win4_2.index t = ![t.val % 8, t.val / 8, 0] := by decide +kernel

theorem lt16 (t : Fin cfg4.N) : t.val < 16 := t.isLt

theorem pay_at (x : FVec Ideal S2048x1024 .bf16) (y : FVec Ideal S2048x1408 .bf16) (r : Fin 1024) (s : Fin 1408) :
    k4_pay1 (F := Ideal) x y (ix3 0 r s) = ∑ k : Fin 2048, x (ix2 k r) * y (ix2 k s) := by
  pointwise [k4_pay1]

/-- Columns by columns, the second's by blocks of 1408. -/
def product (x : FVec Ideal S2048x2048 .bf16) (w : FVec Ideal S2048x11264 .bf16) : FVec Ideal S8x2048x1408 .bf16 :=
  fun i => ∑ k : Fin 2048, x (ix2 k (i 1)) * w (ix2 k ⟨1408 * (i 0).val + (i 2).val, by
    have h0 : (i 0).val < 8 := (i 0).isLt
    have h2 : (i 2).val < 1408 := (i 2).isLt
    omega⟩)

variable (t : Fin cfg4.N)

def slot : Fin 8 := ⟨t.val % 8, by omega⟩
def row (r : Fin 1024) : Fin 2048 := ⟨1024 * (t.val / 8) + r.val, by have := lt16 t; have := r.isLt; omega⟩
def col (s : Fin 1408) : Fin 11264 := ⟨1408 * (t.val % 8) + s.val, by have := s.isLt; omega⟩

theorem blk0 (r : Fin 1024) (k : Fin 2048) : iblk4 V c 0 t (ix2 k r) = V c main_v11 (ix2 k (row t r)) := by
  blk_ext [iblk4, idx0 t, row]
theorem blk1 (s : Fin 1408) (k : Fin 2048) : iblk4 V c 1 t (ix2 k s) = V c main_v10 (ix2 k (col t s)) := by
  blk_ext [iblk4, idx1 t, col]

theorem body (x : FVec Ideal S2048x1024 .bf16) (y : FVec Ideal S2048x1408 .bf16) : out4_2 (F := Ideal) x y = k4_pay1 (F := Ideal) x y := by
  unfold out4_2
  rw [View.canon_unit_zero, View.ld_unit_zero (S := S2048x1024), View.ld_unit_zero (S := S2048x1408)] <;> (funext a; fin_cases a <;> rfl)

theorem place (r : Fin 1024) (s : Fin 1408) : ((cfg4.win 2).blk t).view.emb (ix3 (0 : Fin 1) r s) = ix3 (slot t) (row t r) s := by
  funext a
  match a with
  | ⟨0, _⟩ => exact Fin.ext (by show win4_2.index t (0 : Fin 3) * 1 + 1 * 0 = t.val % 8; rw [idx2]; show t.val % 8 * 1 + 1 * 0 = _; omega)
  | ⟨1, _⟩ => exact Fin.ext (by show win4_2.index t (1 : Fin 3) * 1024 + 1 * r.val = 1024 * (t.val / 8) + r.val; rw [idx2]; show t.val / 8 * 1024 + 1 * r.val = _; omega)
  | ⟨2, _⟩ => exact Fin.ext (by show win4_2.index t (2 : Fin 3) * 1408 + 1 * s.val = s.val; rw [idx2]; show 0 * 1408 + 1 * s.val = _; omega)

/-- The call leaves the product of its operands. -/
theorem final : (dat4 V c).arrAt 2 cfg4.N = product (V c main_v11) (V c main_v10) := by
  refine (dat4 V c).arrAt_eq_of_cover 2 _ (fun t _ => ?_) (fun i => ?_)
  · show (cfg4.win 2).cut (grid4.coords t) ((dat4 V c).after 2 t) = _
    rw [after4_2, body]
    funext y
    idx_vars y
    obtain rfl : y0 = 0 := Subsingleton.elim _ _
    refine (pay_at _ _ y1 y2).trans (Eq.trans ?_ (congrArg (product (V c main_v11) (V c main_v10)) (place t y1 y2).symm))
    exact Finset.sum_congr rfl fun k _ => congrArg₂ (· * ·) (blk0 V c t y1 k) (blk1 V c t y2 k)
  · have h0 : (i 0).val < 8 := (i 0).isLt
    have h1 : (i 1).val < 2048 := (i 1).isLt
    have h2 : (i 2).val < 1408 := (i 2).isLt
    let t : Fin cfg4.N := ⟨8 * ((i 1).val / 1024) + (i 0).val, lt_of_lt_of_eq (by omega) N_4.symm⟩
    refine ⟨t, flush4_2 t, ?_⟩
    have e : ((cfg4.win 2).blk t).view.emb (ix3 (0 : Fin 1) ⟨(i 1).val % 1024, by omega⟩ ⟨(i 2).val, h2⟩) = i := by
      rw [place]
      funext a
      match a with
      | ⟨0, _⟩ => exact Fin.ext (by show (8 * ((i 1).val / 1024) + (i 0).val) % 8 = (i 0).val; omega)
      | ⟨1, _⟩ => exact Fin.ext (by show 1024 * ((8 * ((i 1).val / 1024) + (i 0).val) / 8) + (i 1).val % 1024 = (i 1).val; omega)
      | ⟨2, _⟩ => rfl
    rw [← e]
    exact View.emb_mem_set _ _

end Slots

end Cert.FfnProduct

end
-- ==== Proof.FfnSwiglu.lean ====
/- The gated activation: what the call leaves in its three results, from whatever its operands hold when it starts. -/
module

public import proofs.«01_k».proof.Proof.Gen.FfnIdeal.Frame
public import Idealize.ShloMosaic.Lib.Pipeline.ValueKit
public import Idealize.ShloMosaic.Lib.Pipeline.ReadBack

@[expose] public section

set_option maxRecDepth 16384

noncomputable section

namespace Cert.FfnProduct.Gate

open Cert.FfnIdeal Cert.FfnIdeal.Gen Idealize.ShloMosaic Idealize.ShloMosaic.TcCoe Idealize.SL.Sem

variable (V : (c : Dev nD) → (b : Ref sig .tc) → Buf (Elt Ideal) ((c : Thread nD τ).loc b)) (c : Dev nD)

theorem idx0 : ∀ t : Fin grid0.N, win0_0.index t = ![t.val % 8, 0] := by decide +kernel
theorem idx1 : ∀ t : Fin grid0.N, win0_1.index t = ![t.val / 8, 0, 0] := by decide +kernel
theorem idx2 : ∀ t : Fin grid0.N, win0_2.index t = ![t.val / 8 + 4, 0, 0] := by decide +kernel
theorem idx3 : ∀ t : Fin grid0.N, win0_3.index t = ![t.val % 8, t.val / 8] := by decide +kernel
theorem idx4 : ∀ t : Fin grid0.N, win0_4.index t = ![t.val % 8, t.val / 8] := by decide +kernel
theorem idx5 : ∀ t : Fin grid0.N, win0_5.index t = ![t.val % 8, t.val / 8] := by decide +kernel

/-! ## The body at an index -/

theorem pay1_at (x : FVec Ideal S256x2048 .bf16) (y : FVec Ideal S1x2048x1408 .bf16) (r : Fin 256) (s : Fin 1408) :
    k0_pay1 (F := Ideal) x y (ix2 r s) = ∑ k : Fin 2048, x (ix2 r k) * y (ix3 0 k s) := by
  pointwise [k0_pay1]
theorem pay2_at (x : FVec Ideal S256x2048 .bf16) (y : FVec Ideal S1x2048x1408 .bf16) (r : Fin 256) (s : Fin 1408) :
    k0_pay2 (F := Ideal) x y (ix2 r s) = ∑ k : Fin 2048, x (ix2 r k) * y (ix3 0 k s) := by
  pointwise [k0_pay2]
theorem pay3_at (x : FVec Ideal S256x2048 .bf16) (y : FVec Ideal S1x2048x1408 .bf16) (i : S256x1408.Idx) :
    k0_pay3 (F := Ideal) x y i = k0_pay1 (F := Ideal) x y i := rfl
theorem pay4_at (x : FVec Ideal S256x2048 .bf16) (y : FVec Ideal S1x2048x1408 .bf16) (i : S256x1408.Idx) :
    k0_pay4 (F := Ideal) x y i = k0_pay2 (F := Ideal) x y i := rfl
/-- `a · σ(a) · b`. -/
def gate (a b : EReal) : EReal := a * Ideal.logistic a * b
theorem pay5_at (x : FVec Ideal S256x2048 .bf16) (y : FVec Ideal S1x2048x1408 .bf16) (x' : FVec Ideal S256x2048 .bf16) (y' : FVec Ideal S1x2048x1408 .bf16)
    (i : S256x1408.Idx) : k0_pay5 (F := Ideal) x y x' y' i = gate (k0_pay1 (F := Ideal) x y i) (k0_pay2 (F := Ideal) x' y' i) := rfl

theorem body3 (x : FVec Ideal S256x2048 .bf16) (y z : FVec Ideal S1x2048x1408 .bf16) : out0_3 (F := Ideal) x y z = k0_pay3 (F := Ideal) x y := by
  unfold out0_3
  rw [View.canon_unit_zero, View.ld_unit_zero (S := S256x2048), View.ld_unit_zero (S := S1x2048x1408)] <;> (funext a; fin_cases a <;> rfl)
theorem body4 (x : FVec Ideal S256x2048 .bf16) (y z : FVec Ideal S1x2048x1408 .bf16) : out0_4 (F := Ideal) x y z = k0_pay4 (F := Ideal) x z := by
  unfold out0_4
  rw [View.canon_unit_zero, View.ld_unit_zero (S := S256x2048), View.ld_unit_zero (S := S1x2048x1408)] <;> (funext a; fin_cases a <;> rfl)
theorem body5 (x : FVec Ideal S256x2048 .bf16) (y z : FVec Ideal S1x2048x1408 .bf16) : out0_5 (F := Ideal) x y z = k0_pay5 (F := Ideal) x y x z := by
  unfold out0_5
  rw [View.canon_unit_zero, View.ld_unit_zero (S := S256x2048), View.ld_unit_zero (S := S1x2048x1408), View.ld_unit_zero (S := S1x2048x1408)] <;> (funext a; fin_cases a <;> rfl)

/-! ## The blocks -/

/-- The input by the weights' column block `4 p + s`'s columns: the first half of the columns for `p = 0`, the second for `p = 1`. -/
def half (p : Fin 2) (x : FVec Ideal S2048x2048 .bf16) (w : FVec Ideal S8x2048x1408 .bf16) : FVec Ideal S2048x5632 .bf16 :=
  fun i => ∑ k : Fin 2048, x (ix2 (i 0) k) * w (ix3 ⟨(i 1).val / 1408 + 4 * p.val, by
    have h1 : (i 1).val < 5632 := (i 1).isLt
    have := p.isLt
    omega⟩ k ⟨(i 1).val % 1408, Nat.mod_lt _ (by decide)⟩)

/-- The gated activation of the two halves. -/
def gated (x : FVec Ideal S2048x2048 .bf16) (w : FVec Ideal S8x2048x1408 .bf16) : FVec Ideal S2048x5632 .bf16 :=
  fun i => gate (half 0 x w i) (half 1 x w i)

variable (t : Fin cfg0.N)

theorem lt32 : t.val < 32 := t.isLt

def row (r : Fin 256) : Fin 2048 := ⟨256 * (t.val % 8) + r.val, by have := r.isLt; omega⟩
def col (s : Fin 1408) : Fin 5632 := ⟨1408 * (t.val / 8) + s.val, by have := lt32 t; have := s.isLt; omega⟩
def slot (p : Fin 2) : Fin 8 := ⟨t.val / 8 + 4 * p.val, by have := lt32 t; have := p.isLt; omega⟩

theorem blk0 (r : Fin 256) (k : Fin 2048) : iblk0 V c 0 t (ix2 r k) = V c main_v3 (ix2 (row t r) k) := by
  blk_ext [iblk0, idx0 t, row]
theorem blk1 (k : Fin 2048) (s : Fin 1408) : iblk0 V c 1 t (ix3 0 k s) = V c main_v2 (ix3 (slot t 0) k s) := by
  blk_ext [iblk0, idx1 t, slot]
theorem blk2 (k : Fin 2048) (s : Fin 1408) : iblk0 V c 2 t (ix3 0 k s) = V c main_v2 (ix3 (slot t 1) k s) := by
  blk_ext [iblk0, idx2 t, slot]

theorem half_at (p : Fin 2) (x : FVec Ideal S2048x2048 .bf16) (w : FVec Ideal S8x2048x1408 .bf16) (r : Fin 256) (s : Fin 1408) :
    half p x w (ix2 (row t r) (col t s)) = ∑ k : Fin 2048, x (ix2 (row t r) k) * w (ix3 (slot t p) k s) := by
  have hs := s.isLt
  refine Finset.sum_congr rfl fun k _ => congrArg (fun j => x (ix2 (row t r) k) * w j) ?_
  funext a
  match a with
  | ⟨0, _⟩ => exact Fin.ext (by show (1408 * (t.val / 8) + s.val) / 1408 + 4 * p.val = t.val / 8 + 4 * p.val; omega)
  | ⟨1, _⟩ => rfl
  | ⟨2, _⟩ => exact Fin.ext (by show (1408 * (t.val / 8) + s.val) % 1408 = s.val; omega)

theorem first (r : Fin 256) (s : Fin 1408) : k0_pay1 (F := Ideal) (iblk0 V c 0 t) (iblk0 V c 1 t) (ix2 r s)
    = half 0 (V c main_v3) (V c main_v2) (ix2 (row t r) (col t s)) := by
  refine (pay1_at _ _ r s).trans (Eq.trans ?_ (half_at t 0 _ _ r s).symm)
  exact Finset.sum_congr rfl fun k _ => congrArg₂ (· * ·) (blk0 V c t r k) (blk1 V c t k s)
theorem second (r : Fin 256) (s : Fin 1408) : k0_pay2 (F := Ideal) (iblk0 V c 0 t) (iblk0 V c 2 t) (ix2 r s)
    = half 1 (V c main_v3) (V c main_v2) (ix2 (row t r) (col t s)) := by
  refine (pay2_at _ _ r s).trans (Eq.trans ?_ (half_at t 1 _ _ r s).symm)
  exact Finset.sum_congr rfl fun k _ => congrArg₂ (· * ·) (blk0 V c t r k) (blk2 V c t k s)

/-! ## The three results -/

/-- The point that writes an index. -/
def pt (i : S2048x5632.Idx) : Fin cfg0.N := ⟨8 * ((i 1).val / 1408) + (i 0).val / 256, lt_of_lt_of_eq (by
  have h0 : (i 0).val < 2048 := (i 0).isLt
  have h1 : (i 1).val < 5632 := (i 1).isLt
  omega) N_0.symm⟩

theorem at_pt (i : S2048x5632.Idx) : (ix2 (row (pt i) ⟨(i 0).val % 256, Nat.mod_lt _ (by decide)⟩) (col (pt i) ⟨(i 1).val % 1408, Nat.mod_lt _ (by decide)⟩) : S2048x5632.Idx) = i := by
  have h0 : (i 0).val < 2048 := (i 0).isLt
  have h1 : (i 1).val < 5632 := (i 1).isLt
  funext a
  match a with
  | ⟨0, _⟩ => exact Fin.ext (by show 256 * ((8 * ((i 1).val / 1408) + (i 0).val / 256) % 8) + (i 0).val % 256 = (i 0).val; omega)
  | ⟨1, _⟩ => exact Fin.ext (by show 1408 * ((8 * ((i 1).val / 1408) + (i 0).val / 256) / 8) + (i 1).val % 1408 = (i 1).val; omega)

theorem place3 (r : Fin 256) (s : Fin 1408) : ((cfg0.win 3).blk t).view.emb (ix2 r s) = ix2 (row t r) (col t s) := by
  funext a
  match a with
  | ⟨0, _⟩ => exact Fin.ext (by show win0_3.index t (0 : Fin 2) * 256 + 1 * r.val = 256 * (t.val % 8) + r.val; rw [idx3]; show t.val % 8 * 256 + 1 * r.val = _; omega)
  | ⟨1, _⟩ => exact Fin.ext (by show win0_3.index t (1 : Fin 2) * 1408 + 1 * s.val = 1408 * (t.val / 8) + s.val; rw [idx3]; show t.val / 8 * 1408 + 1 * s.val = _; omega)
theorem place4 (r : Fin 256) (s : Fin 1408) : ((cfg0.win 4).blk t).view.emb (ix2 r s) = ix2 (row t r) (col t s) := place3 t r s
theorem place5 (r : Fin 256) (s : Fin 1408) : ((cfg0.win 5).blk t).view.emb (ix2 r s) = ix2 (row t r) (col t s) := place3 t r s

theorem final3 : (dat0 V c).arrAt 3 cfg0.N = half 0 (V c main_v3) (V c main_v2) := by
  refine (dat0 V c).arrAt_eq_of_cover 3 _ (fun t _ => ?_) (fun i => ⟨pt i, flush0_3 _, ?_⟩)
  · show (cfg0.win 3).cut (grid0.coords t) ((dat0 V c).after 3 t) = _
    rw [after0_3, body3]
    funext y
    idx_vars y
    exact ((pay3_at _ _ _).trans (first V c t y0 y1)).trans (congrArg (half 0 (V c main_v3) (V c main_v2)) (place3 t y0 y1).symm)
  · have e := (place3 (pt i) ⟨(i 0).val % 256, Nat.mod_lt _ (by decide)⟩ ⟨(i 1).val % 1408, Nat.mod_lt _ (by decide)⟩).trans (at_pt i)
    generalize pt i = t at e ⊢
    rw [← e]
    exact View.emb_mem_set _ _

theorem final4 : (dat0 V c).arrAt 4 cfg0.N = half 1 (V c main_v3) (V c main_v2) := by
  refine (dat0 V c).arrAt_eq_of_cover 4 _ (fun t _ => ?_) (fun i => ⟨pt i, flush0_4 _, ?_⟩)
  · show (cfg0.win 4).cut (grid0.coords t) ((dat0 V c).after 4 t) = _
    rw [after0_4, body4]
    funext y
    idx_vars y
    exact ((pay4_at _ _ _).trans (second V c t y0 y1)).trans (congrArg (half 1 (V c main_v3) (V c main_v2)) (place4 t y0 y1).symm)
  · have e := (place4 (pt i) ⟨(i 0).val % 256, Nat.mod_lt _ (by decide)⟩ ⟨(i 1).val % 1408, Nat.mod_lt _ (by decide)⟩).trans (at_pt i)
    generalize pt i = t at e ⊢
    rw [← e]
    exact View.emb_mem_set _ _

theorem final5 : (dat0 V c).arrAt 5 cfg0.N = gated (V c main_v3) (V c main_v2) := by
  refine (dat0 V c).arrAt_eq_of_cover 5 _ (fun t _ => ?_) (fun i => ⟨pt i, flush0_5 _, ?_⟩)
  · show (cfg0.win 5).cut (grid0.coords t) ((dat0 V c).after 5 t) = _
    rw [after0_5, body5]
    funext y
    idx_vars y
    exact ((pay5_at _ _ _ _ _).trans (congrArg₂ gate (first V c t y0 y1) (second V c t y0 y1))).trans
      (congrArg (gated (V c main_v3) (V c main_v2)) (place5 t y0 y1).symm)
  · have e := (place5 (pt i) ⟨(i 0).val % 256, Nat.mod_lt _ (by decide)⟩ ⟨(i 1).val % 1408, Nat.mod_lt _ (by decide)⟩).trans (at_pt i)
    generalize pt i = t at e ⊢
    rw [← e]
    exact View.emb_mem_set _ _

end Cert.FfnProduct.Gate

end
-- ==== Proof.FfnAct.lean ====
/- The derivative of the gated activation: what the call leaves in its result, from whatever its operands hold when it starts. -/
module

public import proofs.«01_k».proof.Proof.Gen.FfnIdeal.Frame
public import Idealize.ShloMosaic.Lib.Pipeline.ValueKit
public import Idealize.ShloMosaic.Lib.Pipeline.ReadBack

@[expose] public section

set_option maxRecDepth 16384

noncomputable section

namespace Cert.FfnProduct.Act

open Cert.FfnIdeal Cert.FfnIdeal.Gen Idealize.ShloMosaic Idealize.ShloMosaic.TcCoe Idealize.SL.Sem

variable (V : (c : Dev nD) → (b : Ref sig .tc) → Buf (Elt Ideal) ((c : Thread nD τ).loc b)) (c : Dev nD)

theorem idx0 : ∀ t : Fin grid3.N, win3_0.index t = ![t.val, 0] := by decide +kernel
theorem idx1 : ∀ t : Fin grid3.N, win3_1.index t = ![t.val, 0] := by decide +kernel
theorem idx2 : ∀ t : Fin grid3.N, win3_2.index t = ![t.val, 0] := by decide +kernel
theorem idx3 : ∀ t : Fin grid3.N, win3_3.index t = ![t.val, 0] := by decide +kernel

/-- `1 - σ(a)`, with the literal as the call has it. -/
def rest (a : EReal) : EReal := Ideal.ofBits .f32 0x3F800000#32 - Ideal.logistic a

/-- The derivative by the activated half at one entry: `d b σ(a) + a (d b) (σ(a) (1 - σ(a)))`. -/
def byGate (a b d : EReal) : EReal := d * b * Ideal.logistic a + a * (d * b) * (Ideal.logistic a * rest a)
/-- The derivative by the other half at one entry: `a σ(a) d`. -/
def byLin (a d : EReal) : EReal := a * Ideal.logistic a * d

theorem pay_left (a b d : FVec Ideal S64x5632 .bf16) (r : Fin 64) (s : Fin 5632) :
    k3_pay1 (F := Ideal) a b d (ix2 r ⟨s.val, by have := s.isLt; omega⟩ : S64x11264.Idx) = byGate (a (ix2 r s)) (b (ix2 r s)) (d (ix2 r s)) :=
  (concatenate_pair_apply_left (t := S64x11264) (s₁ := S64x5632) (s₂ := S64x5632) 1 _ _ concatenates_S64x5632_S64x5632_S64x11264_d1 _ rfl (ix2 r s)
    (fun e => match e with | ⟨0, _⟩ => rfl | ⟨1, _⟩ => rfl)).trans (by pointwise [byGate, rest])
theorem pay_right (a b d : FVec Ideal S64x5632 .bf16) (r : Fin 64) (s : Fin 5632) :
    k3_pay1 (F := Ideal) a b d (ix2 r ⟨5632 + s.val, by have := s.isLt; omega⟩ : S64x11264.Idx) = byLin (a (ix2 r s)) (d (ix2 r s)) :=
  (concatenate_pair_apply_right (t := S64x11264) (s₁ := S64x5632) (s₂ := S64x5632) 1 _ _ concatenates_S64x5632_S64x5632_S64x11264_d1 _ rfl rfl (ix2 r s)
    (fun e he => match e with | ⟨0, _⟩ => rfl | ⟨1, _⟩ => (he rfl).elim) (by show s.val + 5632 = 5632 + s.val; omega)).trans (by pointwise [byLin])

theorem body (a b d : FVec Ideal S64x5632 .bf16) : out3_3 (F := Ideal) a b d = k3_pay1 (F := Ideal) a b d := by
  unfold out3_3
  rw [View.canon_unit_zero, View.ld_unit_zero (S := S64x5632), View.ld_unit_zero (S := S64x5632), View.ld_unit_zero (S := S64x5632)] <;> (funext a; fin_cases a <;> rfl)

/-- The two derivatives side by side. -/
def joined (a b d : FVec Ideal S2048x5632 .bf16) : FVec Ideal S2048x11264 .bf16 := fun i =>
  if h : (i 1).val < 5632 then byGate (a (ix2 (i 0) ⟨(i 1).val, h⟩)) (b (ix2 (i 0) ⟨(i 1).val, h⟩)) (d (ix2 (i 0) ⟨(i 1).val, h⟩))
  else byLin (a (ix2 (i 0) ⟨(i 1).val - 5632, by have h1 : (i 1).val < 11264 := (i 1).isLt; omega⟩))
    (d (ix2 (i 0) ⟨(i 1).val - 5632, by have h1 : (i 1).val < 11264 := (i 1).isLt; omega⟩))

theorem joined_left (a b d : FVec Ideal S2048x5632 .bf16) (r : Fin 2048) (s : Fin 5632) :
    joined a b d (ix2 r ⟨s.val, by have := s.isLt; omega⟩ : S2048x11264.Idx) = byGate (a (ix2 r s)) (b (ix2 r s)) (d (ix2 r s)) := dif_pos s.isLt
theorem joined_right (a b d : FVec Ideal S2048x5632 .bf16) (r : Fin 2048) (s : Fin 5632) :
    joined a b d (ix2 r ⟨5632 + s.val, by have := s.isLt; omega⟩ : S2048x11264.Idx) = byLin (a (ix2 r s)) (d (ix2 r s)) := by
  have e : (⟨5632 + s.val - 5632, by have := s.isLt; omega⟩ : Fin 5632) = s := Fin.ext (Nat.add_sub_cancel_left _ _)
  refine (dif_neg (show ¬ 5632 + s.val < 5632 by omega)).trans ?_
  show byLin (a (ix2 r ⟨5632 + s.val - 5632, _⟩)) (d (ix2 r ⟨5632 + s.val - 5632, _⟩)) = _
  rw [e]

variable (t : Fin cfg3.N)

theorem lt32 : t.val < 32 := t.isLt

def row (r : Fin 64) : Fin 2048 := ⟨64 * t.val + r.val, by have := lt32 t; have := r.isLt; omega⟩

theorem blk0 (r : Fin 64) (s : Fin 5632) : iblk3 V c 0 t (ix2 r s) = V c main_v4_0 (ix2 (row t r) s) := by
  blk_ext [iblk3, idx0 t, row]
theorem blk1 (r : Fin 64) (s : Fin 5632) : iblk3 V c 1 t (ix2 r s) = V c main_v4_1 (ix2 (row t r) s) := by
  blk_ext [iblk3, idx1 t, row]
theorem blk2 (r : Fin 64) (s : Fin 5632) : iblk3 V c 2 t (ix2 r s) = V c main_v7 (ix2 (row t r) s) := by
  blk_ext [iblk3, idx2 t, row]

theorem place (r : Fin 64) (s : Fin 11264) : ((cfg3.win 3).blk t).view.emb (ix2 r s) = ix2 (row t r) s := by
  funext a
  match a with
  | ⟨0, _⟩ => exact Fin.ext (by show win3_3.index t (0 : Fin 2) * 64 + 1 * r.val = 64 * t.val + r.val; rw [idx3]; show t.val * 64 + 1 * r.val = _; omega)
  | ⟨1, _⟩ => exact Fin.ext (by show win3_3.index t (1 : Fin 2) * 11264 + 1 * s.val = s.val; rw [idx3]; show 0 * 11264 + 1 * s.val = _; omega)

theorem value (r : Fin 64) (s : Fin 11264) : k3_pay1 (F := Ideal) (iblk3 V c 0 t) (iblk3 V c 1 t) (iblk3 V c 2 t) (ix2 r s)
    = joined (V c main_v4_0) (V c main_v4_1) (V c main_v7) (ix2 (row t r) s) := by
  by_cases h : s.val < 5632
  · refine (pay_left _ _ _ r ⟨s.val, h⟩).trans (Eq.trans ?_ (joined_left _ _ _ (row t r) ⟨s.val, h⟩).symm)
    rw [blk0, blk1, blk2]
  · obtain ⟨u, hu⟩ : ∃ u : Fin 5632, s = ⟨5632 + u.val, by have := u.isLt; omega⟩ :=
      ⟨⟨s.val - 5632, by have := s.isLt; omega⟩, Fin.ext (by show s.val = 5632 + (s.val - 5632); omega)⟩
    rw [hu]
    refine (pay_right _ _ _ r u).trans (Eq.trans ?_ (joined_right _ _ _ (row t r) u).symm)
    rw [blk0, blk2]

theorem final : (dat3 V c).arrAt 3 cfg3.N = joined (V c main_v4_0) (V c main_v4_1) (V c main_v7) := by
  refine (dat3 V c).arrAt_eq_of_cover 3 _ (fun t _ => ?_) (fun i => ?_)
  · show (cfg3.win 3).cut (grid3.coords t) ((dat3 V c).after 3 t) = _
    rw [after3_3, body]
    funext y
    idx_vars y
    exact (value V c t y0 y1).trans (congrArg (joined (V c main_v4_0) (V c main_v4_1) (V c main_v7)) (place t y0 y1).symm)
  · have h0 : (i 0).val < 2048 := (i 0).isLt
    have hN : (i 0).val / 64 < cfg3.N := lt_of_lt_of_eq (by omega) N_3.symm
    refine ⟨⟨(i 0).val / 64, hN⟩, flush3_3 _, ?_⟩
    have e : ((cfg3.win 3).blk ⟨(i 0).val / 64, hN⟩).view.emb (ix2 ⟨(i 0).val % 64, Nat.mod_lt _ (by decide)⟩ (i 1)) = i := by
      refine (place _ _ _).trans ?_
      funext a
      match a with
      | ⟨0, _⟩ => exact Fin.ext (by show 64 * ((i 0).val / 64) + (i 0).val % 64 = (i 0).val; omega)
      | ⟨1, _⟩ => rfl
    generalize (⟨(i 0).val / 64, hN⟩ : Fin cfg3.N) = t at e ⊢
    rw [← e]
    exact View.emb_mem_set _ _

end Cert.FfnProduct.Act

end
-- ==== Proof.FfnChain.lean ====
/- The feed-forward layer's weight gradients: the contents the five calls leave, followed from the last call back to the arguments. -/
module

public import proofs.«01_k».proof.Proof.FfnRun
public import proofs.«01_k».proof.Proof.FfnProducts
public import proofs.«01_k».proof.Proof.FfnSwiglu
public import proofs.«01_k».proof.Proof.FfnAct

@[expose] public section

set_option maxRecDepth 16384

noncomputable section

namespace Cert.FfnProduct

open Cert.FfnIdeal Cert.FfnIdeal.Gen Idealize.ShloMosaic Idealize.ShloMosaic.TcCoe Idealize.SL.Sem

/-- An array rounded to the calls' operand type. -/
def low {S : Shape} (x : FVec Ideal S .f32) : FVec Ideal S .bf16 := truncf .bf16 x bitsLt_bf16_f32

/-- The weights by column blocks. -/
def blocks (w : FVec Ideal S2048x11264 .f32) : FVec Ideal S8x2048x1408 .bf16 :=
  truncf .bf16 (transpose S8x2048x1408 [1, 0, 2] (shapeCast S2048x8x1408 w shapeCasts_S2048x11264_S2048x8x1408)
    transposes_S2048x8x1408_S8x2048x1408_1_0_2) bitsLt_bf16_f32

theorem blocks_at (w : FVec Ideal S2048x11264 .f32) (p : Fin 8) (d : Fin 2048) (l : Fin 1408) :
    blocks w (ix3 p d l) = w (ix2 d ⟨p.val * 1408 + l.val, by have := p.isLt; have := l.isLt; omega⟩) := by
  pointwise [blocks]

/-- The output weights' gradient, from the input, the input weights and the cotangent. -/
def gradOut (h : FVec Ideal S2048x2048 .f32) (w : FVec Ideal S2048x11264 .f32) (d : FVec Ideal S2048x2048 .f32) : FVec Ideal S5632x2048 .bf16 :=
  Outer.product (Gate.gated (low h) (blocks w)) (low d)

/-- The input weights' gradient, from the input, both weights and the cotangent. -/
def gradIn (h : FVec Ideal S2048x2048 .f32) (w : FVec Ideal S2048x11264 .f32) (v : FVec Ideal S5632x2048 .f32) (d : FVec Ideal S2048x2048 .f32) :
    FVec Ideal S8x2048x1408 .bf16 :=
  Slots.product (low h) (Act.joined (Gate.half 0 (low h) (blocks w)) (Gate.half 1 (low h) (blocks w)) (Inner.product (low d) (low v)))

variable (m : (ℓ : Loc nD τ sig) → Buf (Elt Ideal) ℓ) (ρ : Dev nD → PrngReg) (c : Dev nD)

/-- The arguments. -/
def hid : FVec Ideal S2048x2048 .f32 := m ((c : Thread nD τ).loc main_arg0)
def wIn : FVec Ideal S2048x11264 .f32 := m ((c : Thread nD τ).loc main_arg1)
def wOut : FVec Ideal S5632x2048 .f32 := m ((c : Thread nD τ).loc main_arg2)
def cot : FVec Ideal S2048x2048 .f32 := m ((c : Thread nD τ).loc main_arg3)

/-! ## What the host code prepares -/

theorem V1_v3 : V1 m ρ c main_v3 = low (hid m c) := by
  simp only [V1, W1, hostOps0]
  entry_read
  rfl
theorem V1_v2 : V1 m ρ c main_v2 = blocks (wIn m c) := by
  simp only [V1, W1, hostOps0]
  entry_read
  rfl
theorem V3_v5 : V3 m ρ c main_v5 = low (cot m c) := by
  have e := W2_args m ρ c main_arg3 (by decide)
  simp only [V3, W3, hostOps1]
  generalize W2 m ρ c = W at e ⊢
  entry_read
  exact congrArg low e
theorem V3_v6 : V3 m ρ c main_v6 = low (wOut m c) := by
  have e := W2_args m ρ c main_arg2 (by decide)
  simp only [V3, W3, hostOps1]
  generalize W2 m ρ c = W at e ⊢
  entry_read
  exact congrArg low e
theorem V5_v8 : V5 m ρ c main_v8 = low (cot m c) := by
  have e := W4_args m ρ c main_arg3 (by decide)
  simp only [V5, W5, hostOps2]
  generalize W4 m ρ c = W at e ⊢
  entry_read
  exact congrArg low e
theorem V8_v11 : V8 m ρ c main_v11 = low (hid m c) := by
  have e := W7_args m ρ c main_arg0 (by decide)
  simp only [V8, W8, hostOps4]
  generalize W7 m ρ c = W at e ⊢
  entry_read
  exact congrArg low e

/-! ## What the calls leave -/

theorem W2_a : W2 m ρ c (Proc.devRef .tc main_v4_0) = Gate.half 0 (low (hid m c)) (blocks (wIn m c)) :=
  ((W2_arr m ρ c 3).trans (Gate.final3 (V1 m ρ) c)).trans (congrArg₂ (Gate.half 0) (V1_v3 m ρ c) (V1_v2 m ρ c))
theorem W2_b : W2 m ρ c (Proc.devRef .tc main_v4_1) = Gate.half 1 (low (hid m c)) (blocks (wIn m c)) :=
  ((W2_arr m ρ c 4).trans (Gate.final4 (V1 m ρ) c)).trans (congrArg₂ (Gate.half 1) (V1_v3 m ρ c) (V1_v2 m ρ c))
theorem W2_f : W2 m ρ c (Proc.devRef .tc main_v4_2) = Gate.gated (low (hid m c)) (blocks (wIn m c)) :=
  ((W2_arr m ρ c 5).trans (Gate.final5 (V1 m ρ) c)).trans (congrArg₂ Gate.gated (V1_v3 m ρ c) (V1_v2 m ρ c))
theorem W4_d : W4 m ρ c (Proc.devRef .tc main_v7) = Inner.product (low (cot m c)) (low (wOut m c)) :=
  ((W4_arr m ρ c 2).trans (Inner.final (V3 m ρ) c)).trans (congrArg₂ Inner.product (V3_v5 m ρ c) (V3_v6 m ρ c))

theorem V5_f : V5 m ρ c main_v4_2 = Gate.gated (low (hid m c)) (blocks (wIn m c)) :=
  (W5_of m ρ c main_v4_2 (by decide)).trans ((W4_of m ρ c main_v4_2 (by decide)).trans
    ((W3_of m ρ c main_v4_2 (by decide)).trans (W2_f m ρ c)))
theorem W6_g : W6 m ρ c (Proc.devRef .tc main_v9) = gradOut (hid m c) (wIn m c) (cot m c) :=
  ((W6_arr m ρ c 2).trans (Outer.final (V5 m ρ) c)).trans (congrArg₂ Outer.product (V5_f m ρ c) (V5_v8 m ρ c))

theorem V6_a : V6 m ρ c main_v4_0 = Gate.half 0 (low (hid m c)) (blocks (wIn m c)) :=
  (W6_of m ρ c main_v4_0 (by decide)).trans ((W5_of m ρ c main_v4_0 (by decide)).trans ((W4_of m ρ c main_v4_0 (by decide)).trans
    ((W3_of m ρ c main_v4_0 (by decide)).trans (W2_a m ρ c))))
theorem V6_b : V6 m ρ c main_v4_1 = Gate.half 1 (low (hid m c)) (blocks (wIn m c)) :=
  (W6_of m ρ c main_v4_1 (by decide)).trans ((W5_of m ρ c main_v4_1 (by decide)).trans ((W4_of m ρ c main_v4_1 (by decide)).trans
    ((W3_of m ρ c main_v4_1 (by decide)).trans (W2_b m ρ c))))
theorem V6_d : V6 m ρ c main_v7 = Inner.product (low (cot m c)) (low (wOut m c)) :=
  (W6_of m ρ c main_v7 (by decide)).trans ((W5_of m ρ c main_v7 (by decide)).trans (W4_d m ρ c))

theorem W7_j : W7 m ρ c (Proc.devRef .tc main_v10) = Act.joined (Gate.half 0 (low (hid m c)) (blocks (wIn m c)))
      (Gate.half 1 (low (hid m c)) (blocks (wIn m c))) (Inner.product (low (cot m c)) (low (wOut m c))) := by
  refine ((W7_arr m ρ c 3).trans (Act.final (V6 m ρ) c)).trans ?_
  rw [V6_a, V6_b, V6_d]

theorem V8_j : V8 m ρ c main_v10 = Act.joined (Gate.half 0 (low (hid m c)) (blocks (wIn m c)))
      (Gate.half 1 (low (hid m c)) (blocks (wIn m c))) (Inner.product (low (cot m c)) (low (wOut m c))) :=
  (W8_of m ρ c main_v10 (by decide)).trans (W7_j m ρ c)

/-- The first result is the input weights' gradient. -/
theorem final_in : W9 m ρ c (Proc.devRef .tc main_v12) = gradIn (hid m c) (wIn m c) (wOut m c) (cot m c) :=
  ((W9_arr m ρ c 2).trans (Slots.final (V8 m ρ) c)).trans (congrArg₂ Slots.product (V8_v11 m ρ c) (V8_j m ρ c))

/-- The second is the output weights' gradient. -/
theorem final_out : W9 m ρ c (Proc.devRef .tc main_v9) = gradOut (hid m c) (wIn m c) (cot m c) :=
  (W9_of m ρ c main_v9 (by decide)).trans ((W8_of m ρ c main_v9 (by decide)).trans ((W7_of m ρ c main_v9 (by decide)).trans (W6_g m ρ c)))

end Cert.FfnProduct

end
-- ==== Proof.FfnEquation.lean ====
/- The feed-forward layer's weight gradients and their reference are the same arrays. -/
module

public import proofs.«01_k».proof.Defs
public import proofs.«01_k».proof.Proof.FfnChain
public import Idealize.ShloMosaic.Lib.IdealHost
public import proofs.«01_k».proof.Proof.Gen.FfnReferenceIdeal.Run
public import proofs.«01_k».proof.Proof.Gen.FfnReferenceIdeal.Read

@[expose] public section

set_option maxRecDepth 16384

noncomputable section

namespace Cert.FfnProduct

open Cert.FfnReferenceIdeal Cert.FfnReferenceIdeal.Read Idealize.ShloMosaic Idealize.SL.Sem

attribute [local instance] Cert.FfnIdeal.Gen.facts Cert.FfnReferenceIdeal.Gen.facts

variable (h : FVec Ideal S2048x2048 .f32) (w : FVec Ideal S2048x11264 .f32) (v : FVec Ideal S5632x2048 .f32) (d : FVec Ideal S2048x2048 .f32)

/-! ## The forward quantities -/

theorem ref_a : val_main_v1 (F := Ideal) h w = Gate.half 0 (low h) (blocks w) := by
  funext i
  have h1 : (i 1).val < 5632 := (i 1).isLt
  rw [val_main_v1_apply, val_main_v0_apply]
  refine Finset.sum_congr rfl fun k _ => congrArg₂ (· * ·) (congrArg h ?_) (Eq.trans (congrArg w ?_) (blocks_at w _ _ _).symm)
  · funext a
    match a with
    | ⟨0, _⟩ => rfl
    | ⟨1, _⟩ => rfl
  · funext a
    match a with
    | ⟨0, _⟩ => rfl
    | ⟨1, _⟩ => exact Fin.ext (by show (i 1).val = ((i 1).val / 1408 + 4 * 0) * 1408 + (i 1).val % 1408; omega)

theorem ref_b : val_main_v2 (F := Ideal) h w = Gate.half 1 (low h) (blocks w) := by
  funext i
  have h1 : (i 1).val < 5632 := (i 1).isLt
  rw [val_main_v2_apply, val_main_v0_apply]
  refine Finset.sum_congr rfl fun k _ => congrArg₂ (· * ·) (congrArg h ?_) (Eq.trans (congrArg w ?_) (blocks_at w _ _ _).symm)
  · funext a
    match a with
    | ⟨0, _⟩ => rfl
    | ⟨1, _⟩ => rfl
  · funext a
    match a with
    | ⟨0, _⟩ => rfl
    | ⟨1, _⟩ => exact Fin.ext (by show 5632 + (i 1).val = ((i 1).val / 1408 + 4 * 1) * 1408 + (i 1).val % 1408; omega)

/-- The reference's `1 / (1 + exp (-a))`. -/
theorem ref_s (i : S2048x5632.Idx) : val_main_v3_2 (F := Ideal) h w i = Ideal.logistic (Gate.half 0 (low h) (blocks w) i) := by
  rw [val_main_v3_2_apply, val_main_call0_v4_apply, val_main_call0_v3_apply, val_main_call0_v2_apply, val_main_call0_v1_apply,
    val_main_call0_v0_apply, val_main_call0_cst_apply, val_main_call0_cst_0_apply, ref_a]
  generalize Gate.half 0 (low h) (blocks w) i = a
  show Ideal.div (Ideal.ofBits .f32 0x3F800000#32) (Ideal.ofBits .f32 0x3F800000#32 + Ideal.exp (-a)) = Ideal.logistic a
  rw [Ideal.ofBits_one_f32]
  rfl

theorem ref_f : val_main_v4 (F := Ideal) h w = Gate.gated (low h) (blocks w) := by
  funext i
  rw [val_main_v4_apply, val_main_v3_0_apply, ref_s, ref_a, ref_b]
  rfl

theorem ref_d : val_main_v8 (F := Ideal) v d = Inner.product (low d) (low v) := by
  funext i
  rw [val_main_v8_apply]
  refine Finset.sum_congr rfl fun k _ => congrArg₂ (· * ·) (congrArg d ?_) (congrArg v ?_) <;>
    · funext a
      match a with
      | ⟨0, _⟩ => rfl
      | ⟨1, _⟩ => rfl

/-! ## The output weights' gradient -/

theorem ref_out : val_main_v18 (F := Ideal) h w d = gradOut h w d := by
  funext i
  refine (val_main_v18_apply (F := Ideal) h w d i).trans ?_
  show val_main_v7 (F := Ideal) h w d i = _
  rw [val_main_v7_apply, val_main_v6_apply, ref_f]
  show _ = ∑ k : Fin 2048, Gate.gated (low h) (blocks w) (ix2 k (i 0)) * low d (ix2 k (i 1))
  refine Finset.sum_congr rfl fun k _ => (mul_comm _ _).trans (congrArg₂ (· * ·) (congrArg (Gate.gated (low h) (blocks w)) ?_) (congrArg d ?_)) <;>
    · funext a
      match a with
      | ⟨0, _⟩ => rfl
      | ⟨1, _⟩ => rfl

/-! ## The input weights' gradient -/

theorem ref_gate (i : S2048x5632.Idx) : val_main_v11 (F := Ideal) h w v d i
    = Act.byGate (Gate.half 0 (low h) (blocks w) i) (Gate.half 1 (low h) (blocks w) i) (Inner.product (low d) (low v) i) := by
  rw [val_main_v11_apply, val_main_call1_v1_apply, val_main_call1_v2_apply, val_main_call1_v0_apply, val_main_v10_apply, val_main_v3_1_apply,
    val_main_call0_v7_apply, val_main_call0_v6_apply, val_main_call0_cst_1_apply, ref_s, ref_a, ref_b, ref_d]
  rfl

theorem ref_lin (i : S2048x5632.Idx) : val_main_v9 (F := Ideal) h w v d i
    = Act.byLin (Gate.half 0 (low h) (blocks w) i) (Inner.product (low d) (low v) i) := by
  rw [val_main_v9_apply, val_main_v3_0_apply, ref_s, ref_a, ref_d]
  rfl

theorem ref_joined (k : Fin 2048) (s : Fin 11264) : val_main_v12 (F := Ideal) h w v d (ix2 k s)
    = Act.joined (Gate.half 0 (low h) (blocks w)) (Gate.half 1 (low h) (blocks w)) (Inner.product (low d) (low v)) (ix2 k s) := by
  unfold val_main_v12
  by_cases hs : s.val < 5632
  · refine (concatenate_pair_apply_left (t := S2048x11264) (s₁ := S2048x5632) (s₂ := S2048x5632) 1 _ _ _ _ rfl
      (ix2 k ⟨s.val, hs⟩) (fun e => match e with | ⟨0, _⟩ => rfl | ⟨1, _⟩ => rfl)).trans ?_
    exact (ref_gate h w v d _).trans (Act.joined_left _ _ _ k ⟨s.val, hs⟩).symm
  · obtain ⟨u, hu⟩ : ∃ u : Fin 5632, s = ⟨5632 + u.val, by have := u.isLt; omega⟩ :=
      ⟨⟨s.val - 5632, by have := s.isLt; omega⟩, Fin.ext (by show s.val = 5632 + (s.val - 5632); omega)⟩
    rw [hu]
    refine (concatenate_pair_apply_right (t := S2048x11264) (s₁ := S2048x5632) (s₂ := S2048x5632) 1 _ _ _ _ rfl rfl
      (ix2 k u) (fun e he => match e with | ⟨0, _⟩ => rfl | ⟨1, _⟩ => (he rfl).elim) (by show u.val + 5632 = 5632 + u.val; omega)).trans ?_
    exact (ref_lin h w v d _).trans (Act.joined_right _ _ _ k u).symm

theorem ref_in : val_main_v17 (F := Ideal) h w v d = gradIn h w v d := by
  funext i
  have h0 : (i 0).val < 8 := (i 0).isLt
  have h1 : (i 1).val < 2048 := (i 1).isLt
  have h2 : (i 2).val < 1408 := (i 2).isLt
  refine (val_main_v17_apply (F := Ideal) h w v d i).trans (Eq.trans (b := val_main_v16 (F := Ideal) h w v d i) rfl ?_)
  rw [val_main_v16_apply, val_main_v15_apply, val_main_v14_apply, val_main_v13_apply]
  show _ = ∑ k : Fin 2048, low h (ix2 k (i 1)) * Act.joined (Gate.half 0 (low h) (blocks w)) (Gate.half 1 (low h) (blocks w))
    (Inner.product (low d) (low v)) (ix2 k ⟨1408 * (i 0).val + (i 2).val, by omega⟩)
  refine Finset.sum_congr rfl fun k _ => (mul_comm _ _).trans (congrArg₂ (· * ·) (congrArg h ?_) (Eq.trans (congrArg (val_main_v12 (F := Ideal) h w v d) ?_)
    (ref_joined h w v d k ⟨1408 * (i 0).val + (i 2).val, by omega⟩)))
  · funext a
    match a with
    | ⟨0, _⟩ => rfl
    | ⟨1, _⟩ => exact Fin.ext (by show (((i 1).val * 8 + (i 0).val) * 1408 + (i 2).val) / 11264 = (i 1).val; omega)
  · funext a
    match a with
    | ⟨0, _⟩ => rfl
    | ⟨1, _⟩ => exact Fin.ext (by show (((i 1).val * 8 + (i 0).val) * 1408 + (i 2).val) % 11264 = 1408 * (i 0).val + (i 2).val; omega)

/-- The kernel's run and the reference's run leave the same two arrays. -/
theorem equation : algebraic_FfnIdeal_FfnReferenceIdeal := by
  intro m g m' g' _ hargs
  refine ⟨fun c => gradIn (hid m c) (wIn m c) (wOut m c) (cot m c), fun c => gradOut (hid m c) (wIn m c) (cot m c),
    (θ_run _ _ _).mono (fun r h c => ⟨(h c).1.trans (final_in m g c), (h c).2.1.trans (final_out m g c), (h c).2.2⟩) (run m g),
    (θ_run _ _ _).mono (fun r h c => ⟨(h c).1.trans ?_, (h c).2.1.trans ?_, (h c).2.2⟩) (Cert.FfnReferenceIdeal.Value.run m' g')⟩
  · obtain ⟨e0, e1, e2, e3⟩ := hargs c
    rw [val_main_v17_eq, e0, e1, e2, e3]
    exact ref_in _ _ _ _
  · obtain ⟨e0, e1, e2, e3⟩ := hargs c
    rw [val_main_v18_eq, e0, e1, e3]
    exact ref_out _ _ _

end Cert.FfnProduct

end
-- ==== Proof.MixRun.lean ====
/- The mixing of the two branches: a run of the nine calls ends with every array at the contents the calls
   leave, call by call. -/
module

public import proofs.«01_k».proof.Proof.Gen.MixIdeal.Frame

@[expose] public section

set_option maxRecDepth 16384

noncomputable section

namespace Cert.Mixing

open Cert.MixIdeal Cert.MixIdeal.Gen
open Idealize.ShloMosaic Idealize.ShloMosaic.TcCoe
open Idealize.SL Idealize.SL.RA Idealize.SL.BI
open scoped Idealize.SL.BI
open Idealize.ShloMosaic.Rounds
open Idealize.SL.BI.BIBase Idealize.SL.BI.Laws Idealize.SL.ProofMode Idealize.SL.Sem

variable {F : FTy → Type} [FloatOps F] (m : (ℓ : Loc nD τ sig) → Buf (Elt F) ℓ) (ρ : Dev nD → PrngReg)

set_option backward.isDefEq.respectTransparency.types false in
/-- Every array a run can end with is the one the last call's exit holds. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W16 m ρ c b) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp (MT nD τ sig Unit (Elt F) ℕ (UR sig nD τ) ℕ))
            ⊢ BI.own (emb₁ (initOf (Pipeline.cells cfgs cellOf_inj) (Pipeline.launchToks cfgs cellOf_inj))) from .rfl)
        iexact Hu
      iapply (show (BI.emp : sProp (MT nD τ sig Unit (Elt F) ℕ (UR sig nD τ) ℕ)) ⊢ bigSep Finset.univ (fun _ : Dev nD => (BI.emp : sProp (MT nD τ sig Unit (Elt F) ℕ (UR sig nD τ) ℕ))) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W16 m ρ c b)
    (hfin := fun c s' => by
      iintro ⟨⟨Hh, -⟩, HSI⟩
      unfold StableHlo.held
      imodintro
      iapply (pointsTo_read_all (Pipeline.ucRefs τ sig) (fun b => (((c : Thread nD τ)).1, b)) (W16 m ρ c) s')
      isplitl [Hh] <;> iassumption)
    (hQ := fun s h _ => h)

/-- A run ends with the five results the last call's exit holds and with the arguments as they were. -/
theorem run : θ_run defs (onTc (τ := τ) (main (F := F))) ⟨m, fun _ => 0, ρ⟩ (fun r => ∀ c : Dev nD,
      r.2.mem ((c : Thread nD τ).loc main_v12) = W16 m ρ c (Proc.devRef .tc main_v12)
      ∧ r.2.mem ((c : Thread nD τ).loc main_v22) = W16 m ρ c (Proc.devRef .tc main_v22)
      ∧ r.2.mem ((c : Thread nD τ).loc main_v20) = W16 m ρ c (Proc.devRef .tc main_v20)
      ∧ r.2.mem ((c : Thread nD τ).loc main_v17) = W16 m ρ c (Proc.devRef .tc main_v17)
      ∧ r.2.mem ((c : Thread nD τ).loc main_v18_2) = W16 m ρ c (Proc.devRef .tc main_v18_2)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)) :=
  (θ_run defs _ _).mono (fun _ h c =>
    ⟨h c _ (mem_uc main_v12 (by decide)), h c _ (mem_uc main_v22 (by decide)), h c _ (mem_uc main_v20 (by decide)),
      h c _ (mem_uc main_v17 (by decide)), h c _ (mem_uc main_v18_2 (by decide)),
      (h c _ (mem_uc main_arg0 (by decide))).trans (W16_main_arg0 m ρ c),
      (h c _ (mem_uc main_arg1 (by decide))).trans (W16_main_arg1 m ρ c),
      (h c _ (mem_uc main_arg2 (by decide))).trans (W16_main_arg2 m ρ c),
      (h c _ (mem_uc main_arg3 (by decide))).trans (W16_main_arg3 m ρ c),
      (h c _ (mem_uc main_arg4 (by decide))).trans (W16_main_arg4 m ρ c),
      (h c _ (mem_uc main_arg5 (by decide))).trans (W16_main_arg5 m ρ c),
      (h c _ (mem_uc main_arg6 (by decide))).trans (W16_main_arg6 m ρ c)⟩) (run_all m ρ)

end Cert.Mixing

end
-- ==== Proof.Products.lean ====
/- Products of matrices over the extended reals, entry by entry. -/
module

public import Idealize.ShloMosaic.Lib.Pointwise.Index
public import Idealize.ShloMosaic.PureOps.Ideal.Laws

@[expose] public section

noncomputable section

namespace Cert.Products

open Idealize.ShloMosaic

variable {φ ψ : FTy} {a b n : ℕ}

/-- Rows by columns: `(x w) i j = ∑ k, x i k · w k j`. -/
def rowsCols (ψ : FTy) (x : FVec Ideal ⟨2, ![a, n]⟩ φ) (w : FVec Ideal ⟨2, ![n, b]⟩ φ) : FVec Ideal ⟨2, ![a, b]⟩ ψ :=
  fun i => ∑ k : Fin n, (x (ix2 (i 0) k) : EReal) * w (ix2 k (i 1))

/-- Rows by rows: `∑ k, x i k · w j k`. -/
def rowsRows (ψ : FTy) (x : FVec Ideal ⟨2, ![a, n]⟩ φ) (w : FVec Ideal ⟨2, ![b, n]⟩ φ) : FVec Ideal ⟨2, ![a, b]⟩ ψ :=
  fun i => ∑ k : Fin n, (x (ix2 (i 0) k) : EReal) * w (ix2 (i 1) k)

/-- Columns by columns: `∑ k, x k i · w k j`. -/
def colsCols (ψ : FTy) (x : FVec Ideal ⟨2, ![n, a]⟩ φ) (w : FVec Ideal ⟨2, ![n, b]⟩ φ) : FVec Ideal ⟨2, ![a, b]⟩ ψ :=
  fun i => ∑ k : Fin n, (x (ix2 k (i 0)) : EReal) * w (ix2 k (i 1))

end Cert.Products

end
-- ==== Proof.MixProducts.lean ====
/- The products among the calls that mix the two branches: what each call leaves in its result, from whatever its operands
   hold when it starts. -/
module

public import proofs.«01_k».proof.Proof.Gen.MixIdeal.Frame
public import proofs.«01_k».proof.Proof.Products
public import Idealize.ShloMosaic.Lib.Pipeline.ValueKit
public import Idealize.ShloMosaic.Lib.Pipeline.ReadBack

@[expose] public section

set_option maxRecDepth 16384

noncomputable section

namespace Cert.Mixing

open Cert.MixIdeal Cert.MixIdeal.Gen Cert.Products Idealize.ShloMosaic Idealize.ShloMosaic.TcCoe Idealize.SL.Sem

variable (V : (c : Dev nD) → (b : Ref sig .tc) → Buf (Elt Ideal) ((c : Thread nD τ).loc b)) (c : Dev nD)

/-! ## The gated branch's input: rows of `z` by the column blocks of its weights -/

namespace Glu

theorem idx0 : ∀ t : Fin grid0.N, win0_0.index t = ![t.val / 8, 0] := by decide +kernel
theorem idx1 : ∀ t : Fin grid0.N, win0_1.index t = ![t.val % 8, 0, 0] := by decide +kernel
theorem idx2 : ∀ t : Fin grid0.N, win0_2.index t = ![t.val / 8, t.val % 8] := by decide +kernel

theorem pay_at (x : FVec Ideal S1024x1024 .bf16) (y : FVec Ideal S1x1024x512 .bf16) (r : Fin 1024) (s : Fin 512) :
    k0_pay1 (F := Ideal) x y (ix2 r s) = ∑ k : Fin 1024, x (ix2 r k) * y (ix3 0 k s) := by
  pointwise [k0_pay1]

/-- Rows by columns, the columns by blocks of 512. -/
def product (x : FVec Ideal S2048x1024 .bf16) (w : FVec Ideal S8x1024x512 .bf16) : FVec Ideal S2048x4096 .bf16 :=
  fun i => ∑ k : Fin 1024, x (ix2 (i 0) k) * w (ix3 ⟨(i 1).val / 512, by
    have h1 : (i 1).val < 4096 := (i 1).isLt
    omega⟩ k ⟨(i 1).val % 512, Nat.mod_lt _ (by decide)⟩)

variable (t : Fin cfg0.N)

theorem lt16 : t.val < 16 := t.isLt

def slot : Fin 8 := ⟨t.val % 8, by omega⟩
def row (r : Fin 1024) : Fin 2048 := ⟨1024 * (t.val / 8) + r.val, by have := lt16 t; have := r.isLt; omega⟩
def col (s : Fin 512) : Fin 4096 := ⟨512 * (t.val % 8) + s.val, by have := s.isLt; omega⟩

theorem blk0 (r : Fin 1024) (k : Fin 1024) : iblk0 V c 0 t (ix2 r k) = V c main_v6 (ix2 (row t r) k) := by
  blk_ext [iblk0, idx0 t, row]
theorem blk1 (k : Fin 1024) (s : Fin 512) : iblk0 V c 1 t (ix3 0 k s) = V c main_v2 (ix3 (slot t) k s) := by
  blk_ext [iblk0, idx1 t, slot]

theorem body (x : FVec Ideal S1024x1024 .bf16) (y : FVec Ideal S1x1024x512 .bf16) : out0_2 (F := Ideal) x y = k0_pay1 (F := Ideal) x y := by
  unfold out0_2
  rw [View.canon_unit_zero, View.ld_unit_zero (S := S1024x1024), View.ld_unit_zero (S := S1x1024x512)] <;> (funext a; fin_cases a <;> rfl)

theorem place (r : Fin 1024) (s : Fin 512) : ((cfg0.win 2).blk t).view.emb (ix2 r s) = ix2 (row t r) (col t s) := by
  funext a
  match a with
  | ⟨0, _⟩ => exact Fin.ext (by show win0_2.index t (0 : Fin 2) * 1024 + 1 * r.val = 1024 * (t.val / 8) + r.val; rw [idx2]; show t.val / 8 * 1024 + 1 * r.val = _; omega)
  | ⟨1, _⟩ => exact Fin.ext (by show win0_2.index t (1 : Fin 2) * 512 + 1 * s.val = 512 * (t.val % 8) + s.val; rw [idx2]; show t.val % 8 * 512 + 1 * s.val = _; omega)

theorem product_at (x : FVec Ideal S2048x1024 .bf16) (w : FVec Ideal S8x1024x512 .bf16) (r : Fin 1024) (s : Fin 512) :
    product x w (ix2 (row t r) (col t s)) = ∑ k : Fin 1024, x (ix2 (row t r) k) * w (ix3 (slot t) k s) := by
  have hs := s.isLt
  refine Finset.sum_congr rfl fun k _ => congrArg (fun j => x (ix2 (row t r) k) * w j) ?_
  funext a
  match a with
  | ⟨0, _⟩ => exact Fin.ext (by show (512 * (t.val % 8) + s.val) / 512 = t.val % 8; omega)
  | ⟨1, _⟩ => rfl
  | ⟨2, _⟩ => exact Fin.ext (by show (512 * (t.val % 8) + s.val) % 512 = s.val; omega)

/-- The call leaves the product of its operands. -/
theorem final : (dat0 V c).arrAt 2 cfg0.N = product (V c main_v6) (V c main_v2) := by
  refine (dat0 V c).arrAt_eq_of_covers 2 _ (by decide +kernel) fun t _ y => ?_
  idx_vars y
  refine Eq.trans ?_ (congrArg (product (V c main_v6) (V c main_v2)) (place t y0 y1).symm)
  show (dat0 V c).after 2 t (ix2 y0 y1) = _
  rw [after0_2, body]
  refine (pay_at _ _ y0 y1).trans ((Finset.sum_congr rfl fun k _ => ?_).trans (product_at t _ _ y0 y1).symm)
  exact congrArg₂ (· * ·) (blk0 V c t y0 k) (blk1 V c t k y1)

end Glu

/-! ## The attention branch: rows of the attention's output by the column blocks of its weights -/

namespace Mla

theorem idx0 : ∀ t : Fin grid1.N, win1_0.index t = ![t.val / 8, 0] := by decide +kernel
theorem idx1 : ∀ t : Fin grid1.N, win1_1.index t = ![t.val % 8, 0, 0] := by decide +kernel
theorem idx2 : ∀ t : Fin grid1.N, win1_2.index t = ![t.val / 8, t.val % 8] := by decide +kernel

theorem pay_at (x : FVec Ideal S1024x1024 .bf16) (y : FVec Ideal S1x1024x256 .bf16) (r : Fin 1024) (s : Fin 256) :
    k1_pay1 (F := Ideal) x y (ix2 r s) = ∑ k : Fin 1024, x (ix2 r k) * y (ix3 0 k s) := by
  pointwise [k1_pay1]

/-- Rows by columns, the columns by blocks of 256. -/
def product (x : FVec Ideal S2048x1024 .bf16) (w : FVec Ideal S8x1024x256 .bf16) : FVec Ideal S2048x2048 .bf16 :=
  fun i => ∑ k : Fin 1024, x (ix2 (i 0) k) * w (ix3 ⟨(i 1).val / 256, by
    have h1 : (i 1).val < 2048 := (i 1).isLt
    omega⟩ k ⟨(i 1).val % 256, Nat.mod_lt _ (by decide)⟩)

variable (t : Fin cfg1.N)

theorem lt16 : t.val < 16 := t.isLt

def slot : Fin 8 := ⟨t.val % 8, by omega⟩
def row (r : Fin 1024) : Fin 2048 := ⟨1024 * (t.val / 8) + r.val, by have := lt16 t; have := r.isLt; omega⟩
def col (s : Fin 256) : Fin 2048 := ⟨256 * (t.val % 8) + s.val, by have := s.isLt; omega⟩

theorem blk0 (r : Fin 1024) (k : Fin 1024) : iblk1 V c 0 t (ix2 r k) = V c main_v8 (ix2 (row t r) k) := by
  blk_ext [iblk1, idx0 t, row]
theorem blk1 (k : Fin 1024) (s : Fin 256) : iblk1 V c 1 t (ix3 0 k s) = V c main_v5 (ix3 (slot t) k s) := by
  blk_ext [iblk1, idx1 t, slot]

theorem body (x : FVec Ideal S1024x1024 .bf16) (y : FVec Ideal S1x1024x256 .bf16) : out1_2 (F := Ideal) x y = k1_pay1 (F := Ideal) x y := by
  unfold out1_2
  rw [View.canon_unit_zero, View.ld_unit_zero (S := S1024x1024), View.ld_unit_zero (S := S1x1024x256)] <;> (funext a; fin_cases a <;> rfl)

theorem place (r : Fin 1024) (s : Fin 256) : ((cfg1.win 2).blk t).view.emb (ix2 r s) = ix2 (row t r) (col t s) := by
  funext a
  match a with
  | ⟨0, _⟩ => exact Fin.ext (by show win1_2.index t (0 : Fin 2) * 1024 + 1 * r.val = 1024 * (t.val / 8) + r.val; rw [idx2]; show t.val / 8 * 1024 + 1 * r.val = _; omega)
  | ⟨1, _⟩ => exact Fin.ext (by show win1_2.index t (1 : Fin 2) * 256 + 1 * s.val = 256 * (t.val % 8) + s.val; rw [idx2]; show t.val % 8 * 256 + 1 * s.val = _; omega)

theorem product_at (x : FVec Ideal S2048x1024 .bf16) (w : FVec Ideal S8x1024x256 .bf16) (r : Fin 1024) (s : Fin 256) :
    product x w (ix2 (row t r) (col t s)) = ∑ k : Fin 1024, x (ix2 (row t r) k) * w (ix3 (slot t) k s) := by
  have hs := s.isLt
  refine Finset.sum_congr rfl fun k _ => congrArg (fun j => x (ix2 (row t r) k) * w j) ?_
  funext a
  match a with
  | ⟨0, _⟩ => exact Fin.ext (by show (256 * (t.val % 8) + s.val) / 256 = t.val % 8; omega)
  | ⟨1, _⟩ => rfl
  | ⟨2, _⟩ => exact Fin.ext (by show (256 * (t.val % 8) + s.val) % 256 = s.val; omega)

/-- The call leaves the product of its operands. -/
theorem final : (dat1 V c).arrAt 2 cfg1.N = product (V c main_v8) (V c main_v5) := by
  refine (dat1 V c).arrAt_eq_of_covers 2 _ (by decide +kernel) fun t _ y => ?_
  idx_vars y
  refine Eq.trans ?_ (congrArg (product (V c main_v8) (V c main_v5)) (place t y0 y1).symm)
  show (dat1 V c).after 2 t (ix2 y0 y1) = _
  rw [after1_2, body]
  refine (pay_at _ _ y0 y1).trans ((Finset.sum_congr rfl fun k _ => ?_).trans (product_at t _ _ y0 y1).symm)
  exact congrArg₂ (· * ·) (blk0 V c t y0 k) (blk1 V c t k y1)

end Mla

/-! ## The output: rows of the mixture by columns of the output weights -/

namespace Out

theorem idx0 : ∀ t : Fin grid3.N, win3_0.index t = ![t.val / 2, 0] := by decide +kernel
theorem idx1 : ∀ t : Fin grid3.N, win3_1.index t = ![0, t.val % 2] := by decide +kernel
theorem idx2 : ∀ t : Fin grid3.N, win3_2.index t = ![t.val / 2, t.val % 2] := by decide +kernel

theorem pay_at (x : FVec Ideal S1024x2048 .bf16) (y : FVec Ideal S2048x1024 .bf16) (r s : Fin 1024) :
    k3_pay1 (F := Ideal) x y (ix2 r s) = ∑ k : Fin 2048, x (ix2 r k) * y (ix2 k s) := by
  pointwise [k3_pay1]

variable (t : Fin cfg3.N)

theorem lt4 : t.val < 4 := t.isLt

def row (r : Fin 1024) : Fin 2048 := ⟨1024 * (t.val / 2) + r.val, by have := lt4 t; have := r.isLt; omega⟩
def col (s : Fin 1024) : Fin 2048 := ⟨1024 * (t.val % 2) + s.val, by have := s.isLt; omega⟩

theorem blk0 (r : Fin 1024) (k : Fin 2048) : iblk3 V c 0 t (ix2 r k) = V c main_v10 (ix2 (row t r) k) := by
  blk_ext [iblk3, idx0 t, row]
theorem blk1 (k : Fin 2048) (s : Fin 1024) : iblk3 V c 1 t (ix2 k s) = V c main_v11 (ix2 k (col t s)) := by
  blk_ext [iblk3, idx1 t, col]

theorem body (x : FVec Ideal S1024x2048 .bf16) (y : FVec Ideal S2048x1024 .bf16) : out3_2 (F := Ideal) x y = k3_pay1 (F := Ideal) x y := by
  unfold out3_2
  rw [View.canon_unit_zero, View.ld_unit_zero (S := S1024x2048), View.ld_unit_zero (S := S2048x1024)] <;> (funext a; fin_cases a <;> rfl)

theorem place (r s : Fin 1024) : ((cfg3.win 2).blk t).view.emb (ix2 r s) = ix2 (row t r) (col t s) := by
  funext a
  match a with
  | ⟨0, _⟩ => exact Fin.ext (by show win3_2.index t (0 : Fin 2) * 1024 + 1 * r.val = 1024 * (t.val / 2) + r.val; rw [idx2]; show t.val / 2 * 1024 + 1 * r.val = _; omega)
  | ⟨1, _⟩ => exact Fin.ext (by show win3_2.index t (1 : Fin 2) * 1024 + 1 * s.val = 1024 * (t.val % 2) + s.val; rw [idx2]; show t.val % 2 * 1024 + 1 * s.val = _; omega)

/-- The call leaves the product of its operands. -/
theorem final : (dat3 V c).arrAt 2 cfg3.N = rowsCols (φ := .bf16) (a := 2048) (n := 2048) (b := 2048) .f32 (V c main_v10) (V c main_v11) := by
  refine (dat3 V c).arrAt_eq_of_covers 2 _ (by decide +kernel) fun t _ y => ?_
  idx_vars y
  refine Eq.trans ?_ (congrArg (rowsCols (φ := .bf16) (a := 2048) (n := 2048) (b := 2048) .f32 (V c main_v10) (V c main_v11)) (place t y0 y1).symm)
  show (dat3 V c).after 2 t (ix2 y0 y1) = _
  rw [after3_2, body]
  refine (pay_at _ _ y0 y1).trans (Finset.sum_congr rfl fun k _ => ?_)
  exact congrArg₂ (· * ·) (blk0 V c t y0 k) (blk1 V c t k y1)

end Out

/-! ## The mixture's cotangent: rows of the output's cotangent by rows of the output weights -/

namespace OutX

theorem idx0 : ∀ t : Fin grid4.N, win4_0.index t = ![t.val / 2, 0] := by decide +kernel
theorem idx1 : ∀ t : Fin grid4.N, win4_1.index t = ![t.val % 2, 0] := by decide +kernel
theorem idx2 : ∀ t : Fin grid4.N, win4_2.index t = ![t.val / 2, t.val % 2] := by decide +kernel

theorem pay_at (x y : FVec Ideal S1024x2048 .bf16) (r s : Fin 1024) :
    k4_pay1 (F := Ideal) x y (ix2 r s) = ∑ k : Fin 2048, x (ix2 r k) * y (ix2 s k) := by
  pointwise [k4_pay1]

variable (t : Fin cfg4.N)

theorem lt4 : t.val < 4 := t.isLt

def row (r : Fin 1024) : Fin 2048 := ⟨1024 * (t.val / 2) + r.val, by have := lt4 t; have := r.isLt; omega⟩
def col (s : Fin 1024) : Fin 2048 := ⟨1024 * (t.val % 2) + s.val, by have := s.isLt; omega⟩

theorem blk0 (r : Fin 1024) (k : Fin 2048) : iblk4 V c 0 t (ix2 r k) = V c main_v13 (ix2 (row t r) k) := by
  blk_ext [iblk4, idx0 t, row]
theorem blk1 (s : Fin 1024) (k : Fin 2048) : iblk4 V c 1 t (ix2 s k) = V c main_v14 (ix2 (col t s) k) := by
  blk_ext [iblk4, idx1 t, col]

theorem body (x y : FVec Ideal S1024x2048 .bf16) : out4_2 (F := Ideal) x y = k4_pay1 (F := Ideal) x y := by
  unfold out4_2
  rw [View.canon_unit_zero, View.ld_unit_zero (S := S1024x2048), View.ld_unit_zero (S := S1024x2048)] <;> (funext a; fin_cases a <;> rfl)

theorem place (r s : Fin 1024) : ((cfg4.win 2).blk t).view.emb (ix2 r s) = ix2 (row t r) (col t s) := by
  funext a
  match a with
  | ⟨0, _⟩ => exact Fin.ext (by show win4_2.index t (0 : Fin 2) * 1024 + 1 * r.val = 1024 * (t.val / 2) + r.val; rw [idx2]; show t.val / 2 * 1024 + 1 * r.val = _; omega)
  | ⟨1, _⟩ => exact Fin.ext (by show win4_2.index t (1 : Fin 2) * 1024 + 1 * s.val = 1024 * (t.val % 2) + s.val; rw [idx2]; show t.val % 2 * 1024 + 1 * s.val = _; omega)

/-- The call leaves the product of its operands. -/
theorem final : (dat4 V c).arrAt 2 cfg4.N = rowsRows (φ := .bf16) (a := 2048) (n := 2048) (b := 2048) .bf16 (V c main_v13) (V c main_v14) := by
  refine (dat4 V c).arrAt_eq_of_covers 2 _ (by decide +kernel) fun t _ y => ?_
  idx_vars y
  refine Eq.trans ?_ (congrArg (rowsRows (φ := .bf16) (a := 2048) (n := 2048) (b := 2048) .bf16 (V c main_v13) (V c main_v14)) (place t y0 y1).symm)
  show (dat4 V c).after 2 t (ix2 y0 y1) = _
  rw [after4_2, body]
  refine (pay_at _ _ y0 y1).trans (Finset.sum_congr rfl fun k _ => ?_)
  exact congrArg₂ (· * ·) (blk0 V c t y0 k) (blk1 V c t y1 k)

end OutX

/-! ## The output weights' gradient: columns of the mixture by columns of the output's cotangent -/

namespace OutW

theorem idx0 : ∀ t : Fin grid5.N, win5_0.index t = ![0, t.val / 2] := by decide +kernel
theorem idx1 : ∀ t : Fin grid5.N, win5_1.index t = ![0, t.val % 2] := by decide +kernel
theorem idx2 : ∀ t : Fin grid5.N, win5_2.index t = ![t.val / 2, t.val % 2] := by decide +kernel

theorem pay_at (x y : FVec Ideal S2048x1024 .bf16) (r s : Fin 1024) :
    k5_pay1 (F := Ideal) x y (ix2 r s) = ∑ k : Fin 2048, x (ix2 k r) * y (ix2 k s) := by
  pointwise [k5_pay1]

variable (t : Fin cfg5.N)

theorem lt4 : t.val < 4 := t.isLt

def row (r : Fin 1024) : Fin 2048 := ⟨1024 * (t.val / 2) + r.val, by have := lt4 t; have := r.isLt; omega⟩
def col (s : Fin 1024) : Fin 2048 := ⟨1024 * (t.val % 2) + s.val, by have := s.isLt; omega⟩

theorem blk0 (k : Fin 2048) (r : Fin 1024) : iblk5 V c 0 t (ix2 k r) = V c main_v10 (ix2 k (row t r)) := by
  blk_ext [iblk5, idx0 t, row]
theorem blk1 (k : Fin 2048) (s : Fin 1024) : iblk5 V c 1 t (ix2 k s) = V c main_v16 (ix2 k (col t s)) := by
  blk_ext [iblk5, idx1 t, col]

theorem body (x y : FVec Ideal S2048x1024 .bf16) : out5_2 (F := Ideal) x y = k5_pay1 (F := Ideal) x y := by
  unfold out5_2
  rw [View.canon_unit_zero, View.ld_unit_zero (S := S2048x1024), View.ld_unit_zero (S := S2048x1024)] <;> (funext a; fin_cases a <;> rfl)

theorem place (r s : Fin 1024) : ((cfg5.win 2).blk t).view.emb (ix2 r s) = ix2 (row t r) (col t s) := by
  funext a
  match a with
  | ⟨0, _⟩ => exact Fin.ext (by show win5_2.index t (0 : Fin 2) * 1024 + 1 * r.val = 1024 * (t.val / 2) + r.val; rw [idx2]; show t.val / 2 * 1024 + 1 * r.val = _; omega)
  | ⟨1, _⟩ => exact Fin.ext (by show win5_2.index t (1 : Fin 2) * 1024 + 1 * s.val = 1024 * (t.val % 2) + s.val; rw [idx2]; show t.val % 2 * 1024 + 1 * s.val = _; omega)

/-- The call leaves the product of its operands. -/
theorem final : (dat5 V c).arrAt 2 cfg5.N = colsCols (φ := .bf16) (a := 2048) (n := 2048) (b := 2048) .bf16 (V c main_v10) (V c main_v16) := by
  refine (dat5 V c).arrAt_eq_of_covers 2 _ (by decide +kernel) fun t _ y => ?_
  idx_vars y
  refine Eq.trans ?_ (congrArg (colsCols (φ := .bf16) (a := 2048) (n := 2048) (b := 2048) .bf16 (V c main_v10) (V c main_v16)) (place t y0 y1).symm)
  show (dat5 V c).after 2 t (ix2 y0 y1) = _
  rw [after5_2, body]
  refine (pay_at _ _ y0 y1).trans (Finset.sum_congr rfl fun k _ => ?_)
  exact congrArg₂ (· * ·) (blk0 V c t k y0) (blk1 V c t k y1)

end OutW

/-! ## The attention branch's weights: columns of the attention's output by columns of the branch's cotangent, by blocks -/

namespace MlaW

theorem idx0 : ∀ t : Fin grid7.N, win7_0.index t = ![0, 0] := by decide +kernel
theorem idx1 : ∀ t : Fin grid7.N, win7_1.index t = ![0, t.val] := by decide +kernel
theorem idx2 : ∀ t : Fin grid7.N, win7_2.index t = ![t.val, 0, 0] := by decide +kernel

theorem pay_at (x : FVec Ideal S2048x1024 .bf16) (y : FVec Ideal S2048x256 .bf16) (r : Fin 1024) (s : Fin 256) :
    k7_pay1 (F := Ideal) x y (ix3 0 r s) = ∑ k : Fin 2048, x (ix2 k r) * y (ix2 k s) := by
  pointwise [k7_pay1]

/-- Columns by columns, the second's by blocks of 256. -/
def product (x : FVec Ideal S2048x1024 .bf16) (w : FVec Ideal S2048x2048 .bf16) : FVec Ideal S8x1024x256 .bf16 :=
  fun i => ∑ k : Fin 2048, x (ix2 k (i 1)) * w (ix2 k ⟨256 * (i 0).val + (i 2).val, by
    have h0 : (i 0).val < 8 := (i 0).isLt
    have h2 : (i 2).val < 256 := (i 2).isLt
    omega⟩)

variable (t : Fin cfg7.N)

theorem lt8 : t.val < 8 := t.isLt

def slot : Fin 8 := ⟨t.val, lt8 t⟩
def col (s : Fin 256) : Fin 2048 := ⟨256 * t.val + s.val, by have := lt8 t; have := s.isLt; omega⟩

theorem blk0 (k : Fin 2048) (r : Fin 1024) : iblk7 V c 0 t (ix2 k r) = V c main_v19 (ix2 k r) := by
  blk_ext [iblk7, idx0 t]
theorem blk1 (k : Fin 2048) (s : Fin 256) : iblk7 V c 1 t (ix2 k s) = V c main_v18_1 (ix2 k (col t s)) := by
  blk_ext [iblk7, idx1 t, col]

theorem body (x : FVec Ideal S2048x1024 .bf16) (y : FVec Ideal S2048x256 .bf16) : out7_2 (F := Ideal) x y = k7_pay1 (F := Ideal) x y := by
  unfold out7_2
  rw [View.canon_unit_zero, View.ld_unit_zero (S := S2048x1024), View.ld_unit_zero (S := S2048x256)] <;> (funext a; fin_cases a <;> rfl)

theorem place (r : Fin 1024) (s : Fin 256) : ((cfg7.win 2).blk t).view.emb (ix3 (0 : Fin 1) r s) = ix3 (slot t) r s := by
  funext a
  match a with
  | ⟨0, _⟩ => exact Fin.ext (by show win7_2.index t (0 : Fin 3) * 1 + 1 * 0 = t.val; rw [idx2]; show t.val * 1 + 1 * 0 = _; omega)
  | ⟨1, _⟩ => exact Fin.ext (by show win7_2.index t (1 : Fin 3) * 1024 + 1 * r.val = r.val; rw [idx2]; show 0 * 1024 + 1 * r.val = _; omega)
  | ⟨2, _⟩ => exact Fin.ext (by show win7_2.index t (2 : Fin 3) * 256 + 1 * s.val = s.val; rw [idx2]; show 0 * 256 + 1 * s.val = _; omega)

/-- The call leaves the product of its operands. -/
theorem final : (dat7 V c).arrAt 2 cfg7.N = product (V c main_v19) (V c main_v18_1) := by
  refine (dat7 V c).arrAt_eq_of_covers 2 _ (by decide +kernel) fun t _ y => ?_
  idx_vars y
  obtain rfl : y0 = 0 := Subsingleton.elim _ _
  refine Eq.trans ?_ (congrArg (product (V c main_v19) (V c main_v18_1)) (place t y1 y2).symm)
  show (dat7 V c).after 2 t (ix3 (0 : Fin 1) y1 y2) = _
  rw [after7_2, body]
  refine (pay_at _ _ y1 y2).trans (Finset.sum_congr rfl fun k _ => ?_)
  exact congrArg₂ (· * ·) (blk0 V c t k y1) (blk1 V c t k y2)

end MlaW

/-! ## The gated branch's weights: columns of `z` by columns of the branch's cotangent, by blocks -/

namespace GluW

theorem idx0 : ∀ t : Fin grid8.N, win8_0.index t = ![0, 0] := by decide +kernel
theorem idx1 : ∀ t : Fin grid8.N, win8_1.index t = ![0, t.val] := by decide +kernel
theorem idx2 : ∀ t : Fin grid8.N, win8_2.index t = ![t.val, 0, 0] := by decide +kernel

theorem pay_at (x : FVec Ideal S2048x1024 .bf16) (y : FVec Ideal S2048x512 .bf16) (r : Fin 1024) (s : Fin 512) :
    k8_pay1 (F := Ideal) x y (ix3 0 r s) = ∑ k : Fin 2048, x (ix2 k r) * y (ix2 k s) := by
  pointwise [k8_pay1]

/-- Columns by columns, the second's by blocks of 512. -/
def product (x : FVec Ideal S2048x1024 .bf16) (w : FVec Ideal S2048x4096 .bf16) : FVec Ideal S8x1024x512 .bf16 :=
  fun i => ∑ k : Fin 2048, x (ix2 k (i 1)) * w (ix2 k ⟨512 * (i 0).val + (i 2).val, by
    have h0 : (i 0).val < 8 := (i 0).isLt
    have h2 : (i 2).val < 512 := (i 2).isLt
    omega⟩)

variable (t : Fin cfg8.N)

theorem lt8 : t.val < 8 := t.isLt

def slot : Fin 8 := ⟨t.val, lt8 t⟩
def col (s : Fin 512) : Fin 4096 := ⟨512 * t.val + s.val, by have := lt8 t; have := s.isLt; omega⟩

theorem blk0 (k : Fin 2048) (r : Fin 1024) : iblk8 V c 0 t (ix2 k r) = V c main_v21 (ix2 k r) := by
  blk_ext [iblk8, idx0 t]
theorem blk1 (k : Fin 2048) (s : Fin 512) : iblk8 V c 1 t (ix2 k s) = V c main_v18_0 (ix2 k (col t s)) := by
  blk_ext [iblk8, idx1 t, col]

theorem body (x : FVec Ideal S2048x1024 .bf16) (y : FVec Ideal S2048x512 .bf16) : out8_2 (F := Ideal) x y = k8_pay1 (F := Ideal) x y := by
  unfold out8_2
  rw [View.canon_unit_zero, View.ld_unit_zero (S := S2048x1024), View.ld_unit_zero (S := S2048x512)] <;> (funext a; fin_cases a <;> rfl)

theorem place (r : Fin 1024) (s : Fin 512) : ((cfg8.win 2).blk t).view.emb (ix3 (0 : Fin 1) r s) = ix3 (slot t) r s := by
  funext a
  match a with
  | ⟨0, _⟩ => exact Fin.ext (by show win8_2.index t (0 : Fin 3) * 1 + 1 * 0 = t.val; rw [idx2]; show t.val * 1 + 1 * 0 = _; omega)
  | ⟨1, _⟩ => exact Fin.ext (by show win8_2.index t (1 : Fin 3) * 1024 + 1 * r.val = r.val; rw [idx2]; show 0 * 1024 + 1 * r.val = _; omega)
  | ⟨2, _⟩ => exact Fin.ext (by show win8_2.index t (2 : Fin 3) * 512 + 1 * s.val = s.val; rw [idx2]; show 0 * 512 + 1 * s.val = _; omega)

/-- The call leaves the product of its operands. -/
theorem final : (dat8 V c).arrAt 2 cfg8.N = product (V c main_v21) (V c main_v18_0) := by
  refine (dat8 V c).arrAt_eq_of_covers 2 _ (by decide +kernel) fun t _ y => ?_
  idx_vars y
  obtain rfl : y0 = 0 := Subsingleton.elim _ _
  refine Eq.trans ?_ (congrArg (product (V c main_v21) (V c main_v18_0)) (place t y1 y2).symm)
  show (dat8 V c).after 2 t (ix3 (0 : Fin 1) y1 y2) = _
  rw [after8_2, body]
  refine (pay_at _ _ y1 y2).trans (Finset.sum_congr rfl fun k _ => ?_)
  exact congrArg₂ (· * ·) (blk0 V c t k y1) (blk1 V c t k y2)

end GluW

end Cert.Mixing

end
-- ==== Proof.MixGate.lean ====
/- The gated mixture of the two branches and its derivative: what the two calls leave in their results, from whatever their
   operands hold when they start. -/
module

public import proofs.«01_k».proof.Proof.Gen.MixIdeal.Frame
public import Idealize.ShloMosaic.Lib.IdealHost
public import Idealize.ShloMosaic.Lib.Pipeline.ValueKit
public import Idealize.ShloMosaic.Lib.Pipeline.ReadBack

@[expose] public section

set_option maxRecDepth 16384

noncomputable section

namespace Cert.Mixing

open Cert.MixIdeal Cert.MixIdeal.Gen Idealize.ShloMosaic Idealize.ShloMosaic.TcCoe Idealize.SL.Sem

variable (V : (c : Dev nD) → (b : Ref sig .tc) → Buf (Elt Ideal) ((c : Thread nD τ).loc b)) (c : Dev nD)

/-! ## The scalars -/

/-- `σ(x) (1 - σ(x))`, with the literal as the call has it. -/
def slope (x : EReal) : EReal := Ideal.logistic x * (Ideal.ofBits .f32 0x3F800000#32 - Ideal.logistic x)
/-- The gated branch: `a σ(b)`. -/
def gluOf (a b : EReal) : EReal := a * Ideal.logistic b
/-- The mixture: `σ(p) (a σ(b)) + σ(q) u`. -/
def mixOf (a b u p q : EReal) : EReal := Ideal.logistic p * gluOf a b + Ideal.logistic q * u
/-- Its derivatives by `a`, `b`, `u`, `p` and `q`, times the cotangent `d`. -/
def byA (b p d : EReal) : EReal := Ideal.logistic p * d * Ideal.logistic b
def byB (a b p d : EReal) : EReal := a * (Ideal.logistic p * d) * slope b
def byU (q d : EReal) : EReal := Ideal.logistic q * d
def byP (a b p d : EReal) : EReal := d * gluOf a b * slope p
def byQ (u q d : EReal) : EReal := d * u * slope q

/-- Column `s` of the left half and of the right half of 4096 columns. -/
def lft (s : Fin 2048) : Fin 4096 := ⟨s.val, by have := s.isLt; omega⟩
def rgt (s : Fin 2048) : Fin 4096 := ⟨2048 + s.val, by have := s.isLt; omega⟩

/-- A column is one of the left half or one of the right half. -/
theorem halves (s : Fin 4096) : (∃ u, s = lft u) ∨ ∃ u, s = rgt u := by
  by_cases h : s.val < 2048
  · exact .inl ⟨⟨s.val, h⟩, rfl⟩
  · exact .inr ⟨⟨s.val - 2048, by have := s.isLt; omega⟩, Fin.ext (by show s.val = 2048 + (s.val - 2048); omega)⟩

/-- The two gates' columns and the rows among the projections. -/
def gateS (s : Fin 2048) : Fin 6144 := ⟨2048 + s.val, by have := s.isLt; omega⟩
def gateM (s : Fin 2048) : Fin 6144 := ⟨4096 + s.val, by have := s.isLt; omega⟩
def up (r : Fin 2048) : Fin 2304 := ⟨r.val, by have := r.isLt; omega⟩

/-- Two arrays side by side. -/
def beside (x y : Fin 2048 → Fin 2048 → EReal) : FVec Ideal S2048x4096 .bf16 := fun i =>
  if h : (i 1).val < 2048 then x (i 0) ⟨(i 1).val, h⟩ else y (i 0) ⟨(i 1).val - 2048, by have h1 : (i 1).val < 4096 := (i 1).isLt; omega⟩

theorem beside_lft (x y : Fin 2048 → Fin 2048 → EReal) (r s : Fin 2048) : beside x y (ix2 r (lft s)) = x r s := dif_pos s.isLt
theorem beside_rgt (x y : Fin 2048 → Fin 2048 → EReal) (r s : Fin 2048) : beside x y (ix2 r (rgt s)) = y r s := by
  refine (dif_neg (show ¬ 2048 + s.val < 2048 by omega)).trans ?_
  show y r ⟨2048 + s.val - 2048, _⟩ = _
  exact congrArg (y r) (Fin.ext (Nat.add_sub_cancel_left _ _))

/-! ## The arrays -/

section arrays
variable (zz : FVec Ideal S2048x4096 .bf16) (u : FVec Ideal S2048x2048 .bf16) (g : FVec Ideal S2304x6144 .f32) (d : FVec Ideal S2048x2048 .bf16)

/-- The mixture of the gated branch of `zz` and the branch `u` under the gates in `g`. -/
def mixture : FVec Ideal S2048x2048 .bf16 := fun i =>
  mixOf (zz (ix2 (i 0) (lft (i 1)))) (zz (ix2 (i 0) (rgt (i 1)))) (u i) (g (ix2 (up (i 0)) (gateS (i 1)))) (g (ix2 (up (i 0)) (gateM (i 1))))
/-- Its cotangents: of `zz`, of `u` and of the gates. -/
def cotZ : FVec Ideal S2048x4096 .bf16 := beside
  (fun r s => byA (zz (ix2 r (rgt s))) (g (ix2 (up r) (gateS s))) (d (ix2 r s)))
  (fun r s => byB (zz (ix2 r (lft s))) (zz (ix2 r (rgt s))) (g (ix2 (up r) (gateS s))) (d (ix2 r s)))
def cotU : FVec Ideal S2048x2048 .bf16 := fun i => byU (g (ix2 (up (i 0)) (gateM (i 1)))) (d i)
def cotG : FVec Ideal S2048x4096 .bf16 := beside
  (fun r s => byP (zz (ix2 r (lft s))) (zz (ix2 r (rgt s))) (g (ix2 (up r) (gateS s))) (d (ix2 r s)))
  (fun r s => byQ (u (ix2 r s)) (g (ix2 (up r) (gateM s))) (d (ix2 r s)))
end arrays

/-! ## The mixture's call -/

namespace Merge

theorem idx0 : ∀ t : Fin grid2.N, win2_0.index t = ![t.val, 0] := by decide +kernel
theorem idx1 : ∀ t : Fin grid2.N, win2_1.index t = ![t.val, 0] := by decide +kernel
theorem idx2 : ∀ t : Fin grid2.N, win2_2.index t = ![t.val, 1] := by decide +kernel
theorem idx3 : ∀ t : Fin grid2.N, win2_3.index t = ![t.val, 2] := by decide +kernel
theorem idx4 : ∀ t : Fin grid2.N, win2_4.index t = ![t.val, 0] := by decide +kernel

theorem pay_at (z : FVec Ideal S128x4096 .bf16) (u : FVec Ideal S128x2048 .bf16) (p q : FVec Ideal S128x2048 .f32) (r : Fin 128) (s : Fin 2048) :
    k2_pay1 (F := Ideal) z u p q (ix2 r s) = mixOf (z (ix2 r (lft s))) (z (ix2 r (rgt s))) (u (ix2 r s)) (p (ix2 r s)) (q (ix2 r s)) := by
  pointwise [k2_pay1, mixOf, gluOf, lft, rgt]

variable (t : Fin cfg2.N)

theorem lt16 : t.val < 16 := t.isLt

def row (r : Fin 128) : Fin 2048 := ⟨128 * t.val + r.val, by have := lt16 t; have := r.isLt; omega⟩

theorem blk0 (r : Fin 128) (s : Fin 4096) : iblk2 V c 0 t (ix2 r s) = V c main_v7 (ix2 (row t r) s) := by
  blk_ext [iblk2, idx0 t, row]
theorem blk1 (r : Fin 128) (s : Fin 2048) : iblk2 V c 1 t (ix2 r s) = V c main_v9 (ix2 (row t r) s) := by
  blk_ext [iblk2, idx1 t, row]
theorem blk2 (r : Fin 128) (s : Fin 2048) : iblk2 V c 2 t (ix2 r s) = V c main_arg2 (ix2 (up (row t r)) (gateS s)) := by
  blk_ext [iblk2, idx2 t, row, up, gateS]
theorem blk3 (r : Fin 128) (s : Fin 2048) : iblk2 V c 3 t (ix2 r s) = V c main_arg2 (ix2 (up (row t r)) (gateM s)) := by
  blk_ext [iblk2, idx3 t, row, up, gateM]

theorem body (z : FVec Ideal S128x4096 .bf16) (u : FVec Ideal S128x2048 .bf16) (p q : FVec Ideal S128x2048 .f32) :
    out2_4 (F := Ideal) z u p q = k2_pay1 (F := Ideal) z u p q := by
  unfold out2_4
  rw [View.canon_unit_zero, View.ld_unit_zero (S := S128x4096), View.ld_unit_zero (S := S128x2048), View.ld_unit_zero (S := S128x2048),
    View.ld_unit_zero (S := S128x2048)] <;> (funext a; fin_cases a <;> rfl)

theorem place (r : Fin 128) (s : Fin 2048) : ((cfg2.win 4).blk t).view.emb (ix2 r s) = ix2 (row t r) s := by
  funext a
  match a with
  | ⟨0, _⟩ => exact Fin.ext (by show win2_4.index t (0 : Fin 2) * 128 + 1 * r.val = 128 * t.val + r.val; rw [idx4]; show t.val * 128 + 1 * r.val = _; omega)
  | ⟨1, _⟩ => exact Fin.ext (by show win2_4.index t (1 : Fin 2) * 2048 + 1 * s.val = s.val; rw [idx4]; show 0 * 2048 + 1 * s.val = _; omega)

/-- The call leaves the mixture of its operands. -/
theorem final : (dat2 V c).arrAt 4 cfg2.N = mixture (V c main_v7) (V c main_v9) (V c main_arg2) := by
  refine (dat2 V c).arrAt_eq_of_covers 4 _ (by decide +kernel) fun t _ y => ?_
  idx_vars y
  refine Eq.trans ?_ (congrArg (mixture (V c main_v7) (V c main_v9) (V c main_arg2)) (place t y0 y1).symm)
  show (dat2 V c).after 4 t (ix2 y0 y1) = _
  rw [after2_4, body]
  refine (pay_at _ _ _ _ y0 y1).trans ?_
  rw [blk0, blk0, blk1, blk2, blk3]
  rfl

end Merge

/-! ## The derivative's call -/

namespace MergeX

theorem idx0 : ∀ t : Fin grid6.N, win6_0.index t = ![t.val, 0] := by decide +kernel
theorem idx1 : ∀ t : Fin grid6.N, win6_1.index t = ![t.val, 0] := by decide +kernel
theorem idx2 : ∀ t : Fin grid6.N, win6_2.index t = ![t.val, 1] := by decide +kernel
theorem idx3 : ∀ t : Fin grid6.N, win6_3.index t = ![t.val, 2] := by decide +kernel
theorem idx4 : ∀ t : Fin grid6.N, win6_4.index t = ![t.val, 0] := by decide +kernel
theorem idx5 : ∀ t : Fin grid6.N, win6_5.index t = ![t.val, 0] := by decide +kernel
theorem idx6 : ∀ t : Fin grid6.N, win6_6.index t = ![t.val, 0] := by decide +kernel
theorem idx7 : ∀ t : Fin grid6.N, win6_7.index t = ![t.val, 0] := by decide +kernel

/-- Two arrays of 128 rows joined along their columns, read in either half. -/
theorem joined_lft (x y : FVec Ideal S128x2048 .f32) (r : Fin 128) (s : Fin 2048) :
    concatenate S128x4096 1 [⟨S128x2048, x⟩, ⟨S128x2048, y⟩] concatenates_S128x2048_S128x2048_S128x4096_d1 (ix2 r (lft s)) = x (ix2 r s) :=
  concatenate_pair_apply_left (t := S128x4096) (s₁ := S128x2048) (s₂ := S128x2048) 1 _ _ concatenates_S128x2048_S128x2048_S128x4096_d1 _ rfl (ix2 r s)
    (fun e => match e with | ⟨0, _⟩ => rfl | ⟨1, _⟩ => rfl)
theorem joined_rgt (x y : FVec Ideal S128x2048 .f32) (r : Fin 128) (s : Fin 2048) :
    concatenate S128x4096 1 [⟨S128x2048, x⟩, ⟨S128x2048, y⟩] concatenates_S128x2048_S128x2048_S128x4096_d1 (ix2 r (rgt s)) = y (ix2 r s) :=
  concatenate_pair_apply_right (t := S128x4096) (s₁ := S128x2048) (s₂ := S128x2048) 1 _ _ concatenates_S128x2048_S128x2048_S128x4096_d1 _ rfl rfl (ix2 r s)
    (fun e he => match e with | ⟨0, _⟩ => rfl | ⟨1, _⟩ => (he rfl).elim) (by show s.val + 2048 = 2048 + s.val; omega)

section pay
variable (z : FVec Ideal S128x4096 .bf16) (u : FVec Ideal S128x2048 .bf16) (p q : FVec Ideal S128x2048 .f32) (d : FVec Ideal S128x2048 .bf16)
  (r : Fin 128) (s : Fin 2048)

theorem payZ_lft : k6_pay11 (F := Ideal) z p d (ix2 r (lft s)) = byA (z (ix2 r (rgt s))) (p (ix2 r s)) (d (ix2 r s)) := by
  refine (congrArg₂ (· + ·) (joined_lft _ _ r s) (joined_lft _ _ r s)).trans ?_
  show Ideal.ofBits .f32 0x00000000#32 + _ = _
  rw [Ideal.ofBits_zero_f32, zero_add]
  pointwise [k6_pay7, k6_pay6, k6_pay4, k6_pay3, byA, rgt]
theorem payZ_rgt : k6_pay11 (F := Ideal) z p d (ix2 r (rgt s)) = byB (z (ix2 r (lft s))) (z (ix2 r (rgt s))) (p (ix2 r s)) (d (ix2 r s)) := by
  refine (congrArg₂ (· + ·) (joined_rgt _ _ r s) (joined_rgt _ _ r s)).trans ?_
  show _ + Ideal.ofBits .f32 0x00000000#32 = _
  rw [Ideal.ofBits_zero_f32, add_zero]
  pointwise [k6_pay7, k6_pay6, k6_pay5, k6_pay4, k6_pay3, byB, slope, lft, rgt]
theorem payU_at : k6_pay1 (F := Ideal) (k6_pay9 q d) (ix2 r s) = byU (q (ix2 r s)) (d (ix2 r s)) := by
  pointwise [k6_pay1, k6_pay9, k6_pay8, k6_pay4, byU]
theorem payG_lft : k6_pay2 (F := Ideal) (k6_pay10 z u p q d) (ix2 r (lft s))
    = byP (z (ix2 r (lft s))) (z (ix2 r (rgt s))) (p (ix2 r s)) (d (ix2 r s)) := by
  refine (joined_lft _ _ r s).trans ?_
  pointwise [k6_pay7, k6_pay6, k6_pay5, k6_pay4, k6_pay3, byP, gluOf, slope, lft, rgt]
theorem payG_rgt : k6_pay2 (F := Ideal) (k6_pay10 z u p q d) (ix2 r (rgt s)) = byQ (u (ix2 r s)) (q (ix2 r s)) (d (ix2 r s)) := by
  refine (joined_rgt _ _ r s).trans ?_
  pointwise [k6_pay8, k6_pay4, byQ, slope]

theorem body5 : out6_5 (F := Ideal) z u p q d = k6_pay11 (F := Ideal) z p d := by
  unfold out6_5
  rw [View.canon_unit_zero, View.ld_unit_zero (S := S128x4096), View.ld_unit_zero (S := S128x2048), View.ld_unit_zero (S := S128x2048)]
    <;> (funext a; fin_cases a <;> rfl)
theorem body6 : out6_6 (F := Ideal) z u p q d = k6_pay1 (F := Ideal) (k6_pay9 q d) := by
  unfold out6_6
  rw [View.canon_unit_zero, View.ld_unit_zero (S := S128x2048), View.ld_unit_zero (S := S128x2048)] <;> (funext a; fin_cases a <;> rfl)
theorem body7 : out6_7 (F := Ideal) z u p q d = k6_pay2 (F := Ideal) (k6_pay10 z u p q d) := by
  unfold out6_7
  rw [View.canon_unit_zero, View.ld_unit_zero (S := S128x4096), View.ld_unit_zero (S := S128x2048), View.ld_unit_zero (S := S128x2048),
    View.ld_unit_zero (S := S128x2048), View.ld_unit_zero (S := S128x2048)] <;> (funext a; fin_cases a <;> rfl)
end pay

variable (t : Fin cfg6.N)

theorem lt16 : t.val < 16 := t.isLt

def row (r : Fin 128) : Fin 2048 := ⟨128 * t.val + r.val, by have := lt16 t; have := r.isLt; omega⟩

theorem blk0 (r : Fin 128) (s : Fin 4096) : iblk6 V c 0 t (ix2 r s) = V c main_v7 (ix2 (row t r) s) := by
  blk_ext [iblk6, idx0 t, row]
theorem blk1 (r : Fin 128) (s : Fin 2048) : iblk6 V c 1 t (ix2 r s) = V c main_v9 (ix2 (row t r) s) := by
  blk_ext [iblk6, idx1 t, row]
theorem blk2 (r : Fin 128) (s : Fin 2048) : iblk6 V c 2 t (ix2 r s) = V c main_arg2 (ix2 (up (row t r)) (gateS s)) := by
  blk_ext [iblk6, idx2 t, row, up, gateS]
theorem blk3 (r : Fin 128) (s : Fin 2048) : iblk6 V c 3 t (ix2 r s) = V c main_arg2 (ix2 (up (row t r)) (gateM s)) := by
  blk_ext [iblk6, idx3 t, row, up, gateM]
theorem blk4 (r : Fin 128) (s : Fin 2048) : iblk6 V c 4 t (ix2 r s) = V c main_v15 (ix2 (row t r) s) := by
  blk_ext [iblk6, idx4 t, row]

theorem place5 (r : Fin 128) (s : Fin 4096) : ((cfg6.win 5).blk t).view.emb (ix2 r s) = ix2 (row t r) s := by
  funext a
  match a with
  | ⟨0, _⟩ => exact Fin.ext (by show win6_5.index t (0 : Fin 2) * 128 + 1 * r.val = 128 * t.val + r.val; rw [idx5]; show t.val * 128 + 1 * r.val = _; omega)
  | ⟨1, _⟩ => exact Fin.ext (by show win6_5.index t (1 : Fin 2) * 4096 + 1 * s.val = s.val; rw [idx5]; show 0 * 4096 + 1 * s.val = _; omega)
theorem place6 (r : Fin 128) (s : Fin 2048) : ((cfg6.win 6).blk t).view.emb (ix2 r s) = ix2 (row t r) s := by
  funext a
  match a with
  | ⟨0, _⟩ => exact Fin.ext (by show win6_6.index t (0 : Fin 2) * 128 + 1 * r.val = 128 * t.val + r.val; rw [idx6]; show t.val * 128 + 1 * r.val = _; omega)
  | ⟨1, _⟩ => exact Fin.ext (by show win6_6.index t (1 : Fin 2) * 2048 + 1 * s.val = s.val; rw [idx6]; show 0 * 2048 + 1 * s.val = _; omega)
theorem place7 (r : Fin 128) (s : Fin 4096) : ((cfg6.win 7).blk t).view.emb (ix2 r s) = ix2 (row t r) s := by
  funext a
  match a with
  | ⟨0, _⟩ => exact Fin.ext (by show win6_7.index t (0 : Fin 2) * 128 + 1 * r.val = 128 * t.val + r.val; rw [idx7]; show t.val * 128 + 1 * r.val = _; omega)
  | ⟨1, _⟩ => exact Fin.ext (by show win6_7.index t (1 : Fin 2) * 4096 + 1 * s.val = s.val; rw [idx7]; show 0 * 4096 + 1 * s.val = _; omega)

/-- The call leaves the cotangent of the gated branch's input. -/
theorem final5 : (dat6 V c).arrAt 5 cfg6.N = cotZ (V c main_v7) (V c main_arg2) (V c main_v15) := by
  refine (dat6 V c).arrAt_eq_of_covers 5 _ (by decide +kernel) fun t _ y => ?_
  idx_vars y
  refine Eq.trans ?_ (congrArg (cotZ (V c main_v7) (V c main_arg2) (V c main_v15)) (place5 t y0 y1).symm)
  show (dat6 V c).after 5 t (ix2 y0 y1) = _
  rw [after6_5, body5]
  obtain ⟨s, rfl⟩ | ⟨s, rfl⟩ := halves y1
  · refine (payZ_lft _ _ _ y0 s).trans (Eq.trans ?_ (beside_lft _ _ _ s).symm)
    rw [blk0, blk2, blk4]
  · refine (payZ_rgt _ _ _ y0 s).trans (Eq.trans ?_ (beside_rgt _ _ _ s).symm)
    rw [blk0, blk0, blk2, blk4]

/-- The call leaves the cotangent of the other branch. -/
theorem final6 : (dat6 V c).arrAt 6 cfg6.N = cotU (V c main_arg2) (V c main_v15) := by
  refine (dat6 V c).arrAt_eq_of_covers 6 _ (by decide +kernel) fun t _ y => ?_
  idx_vars y
  refine Eq.trans ?_ (congrArg (cotU (V c main_arg2) (V c main_v15)) (place6 t y0 y1).symm)
  show (dat6 V c).after 6 t (ix2 y0 y1) = _
  rw [after6_6, body6]
  refine (payU_at _ _ y0 y1).trans ?_
  rw [blk3, blk4]
  rfl

/-- The call leaves the cotangent of the gates. -/
theorem final7 : (dat6 V c).arrAt 7 cfg6.N = cotG (V c main_v7) (V c main_v9) (V c main_arg2) (V c main_v15) := by
  refine (dat6 V c).arrAt_eq_of_covers 7 _ (by decide +kernel) fun t _ y => ?_
  idx_vars y
  refine Eq.trans ?_ (congrArg (cotG (V c main_v7) (V c main_v9) (V c main_arg2) (V c main_v15)) (place7 t y0 y1).symm)
  show (dat6 V c).after 7 t (ix2 y0 y1) = _
  rw [after6_7, body7]
  obtain ⟨s, rfl⟩ | ⟨s, rfl⟩ := halves y1
  · refine (payG_lft _ _ _ _ _ y0 s).trans (Eq.trans ?_ (beside_lft _ _ _ s).symm)
    rw [blk0, blk0, blk2, blk4]
  · refine (payG_rgt _ _ _ _ _ y0 s).trans (Eq.trans ?_ (beside_rgt _ _ _ s).symm)
    rw [blk1, blk3, blk4]

end MergeX

end Cert.Mixing

end
-- ==== Proof.MixChain.lean ====
/- The mixing of the two branches: the contents the nine calls leave, followed from the last call back to the arguments. -/
module

public import proofs.«01_k».proof.Proof.MixRun
public import proofs.«01_k».proof.Proof.MixProducts
public import proofs.«01_k».proof.Proof.MixGate

@[expose] public section

set_option maxRecDepth 16384

noncomputable section

namespace Cert.Mixing

open Cert.MixIdeal Cert.MixIdeal.Gen Cert.Products Idealize.ShloMosaic Idealize.ShloMosaic.TcCoe Idealize.SL.Sem

/-- An array rounded to the calls' operand type. -/
def low {S : Shape} (x : FVec Ideal S .f32) : FVec Ideal S .bf16 := truncf .bf16 x bitsLt_bf16_f32

/-- The two branches' weights by column blocks. -/
def gluBlocks (w : FVec Ideal S1024x4096 .f32) : FVec Ideal S8x1024x512 .bf16 :=
  truncf .bf16 (transpose S8x1024x512 [1, 0, 2] (shapeCast S1024x8x512 w shapeCasts_S1024x4096_S1024x8x512)
    transposes_S1024x8x512_S8x1024x512_1_0_2) bitsLt_bf16_f32
def mlaBlocks (w : FVec Ideal S1024x2048 .f32) : FVec Ideal S8x1024x256 .bf16 :=
  truncf .bf16 (transpose S8x1024x256 [1, 0, 2] (shapeCast S1024x8x256 w shapeCasts_S1024x2048_S1024x8x256)
    transposes_S1024x8x256_S8x1024x256_1_0_2) bitsLt_bf16_f32

theorem gluBlocks_at (w : FVec Ideal S1024x4096 .f32) (p : Fin 8) (d : Fin 1024) (l : Fin 512) :
    gluBlocks w (ix3 p d l) = w (ix2 d ⟨p.val * 512 + l.val, by have := p.isLt; have := l.isLt; omega⟩) := by
  pointwise [gluBlocks]
theorem mlaBlocks_at (w : FVec Ideal S1024x2048 .f32) (p : Fin 8) (d : Fin 1024) (l : Fin 256) :
    mlaBlocks w (ix3 p d l) = w (ix2 d ⟨p.val * 256 + l.val, by have := p.isLt; have := l.isLt; omega⟩) := by
  pointwise [mlaBlocks]

/-! ## The quantities, from the arguments -/

section quantities
variable (z o : FVec Ideal S2048x1024 .f32) (g : FVec Ideal S2304x6144 .f32) (wg : FVec Ideal S1024x4096 .f32) (wm : FVec Ideal S1024x2048 .f32)
  (wo d : FVec Ideal S2048x2048 .f32)

/-- The gated branch's input, the attention branch, and the mixture. -/
def gluIn : FVec Ideal S2048x4096 .bf16 := Glu.product (low z) (gluBlocks wg)
def mlaOut : FVec Ideal S2048x2048 .bf16 := Mla.product (low o) (mlaBlocks wm)
def mixed : FVec Ideal S2048x2048 .bf16 := mixture (gluIn z wg) (mlaOut o wm) g
/-- The mixture's cotangent. -/
def mixedX : FVec Ideal S2048x2048 .bf16 := rowsRows (φ := .bf16) (a := 2048) (n := 2048) (b := 2048) .bf16 (low d) (low wo)

/-- The five results: the output, the gradients of the three weights, and the gates' cotangent. -/
def resOut : FVec Ideal S2048x2048 .f32 := rowsCols (φ := .bf16) (a := 2048) (n := 2048) (b := 2048) .f32 (mixed z o g wg wm) (low wo)
def resGlu : FVec Ideal S8x1024x512 .bf16 := GluW.product (low z) (cotZ (gluIn z wg) g (mixedX wo d))
def resMla : FVec Ideal S8x1024x256 .bf16 := MlaW.product (low o) (cotU g (mixedX wo d))
def resW : FVec Ideal S2048x2048 .bf16 := colsCols (φ := .bf16) (a := 2048) (n := 2048) (b := 2048) .bf16 (mixed z o g wg wm) (low d)
def resGates : FVec Ideal S2048x4096 .bf16 := cotG (gluIn z wg) (mlaOut o wm) g (mixedX wo d)
end quantities

variable (m : (ℓ : Loc nD τ sig) → Buf (Elt Ideal) ℓ) (ρ : Dev nD → PrngReg) (c : Dev nD)

/-- The arguments. -/
def aZ : FVec Ideal S2048x1024 .f32 := m ((c : Thread nD τ).loc main_arg0)
def aO : FVec Ideal S2048x1024 .f32 := m ((c : Thread nD τ).loc main_arg1)
def aG : FVec Ideal S2304x6144 .f32 := m ((c : Thread nD τ).loc main_arg2)
def aWg : FVec Ideal S1024x4096 .f32 := m ((c : Thread nD τ).loc main_arg3)
def aWm : FVec Ideal S1024x2048 .f32 := m ((c : Thread nD τ).loc main_arg4)
def aWo : FVec Ideal S2048x2048 .f32 := m ((c : Thread nD τ).loc main_arg5)
def aD : FVec Ideal S2048x2048 .f32 := m ((c : Thread nD τ).loc main_arg6)

/-! ## What the host code prepares -/

theorem V1_v6 : V1 m ρ c main_v6 = low (aZ m c) := by
  simp only [V1, W1, hostOps0]
  entry_read
  rfl
theorem V1_v2 : V1 m ρ c main_v2 = gluBlocks (aWg m c) := by
  simp only [V1, W1, hostOps0]
  entry_read
  rfl
theorem V1_v5 : V1 m ρ c main_v5 = mlaBlocks (aWm m c) := by
  simp only [V1, W1, hostOps0]
  entry_read
  rfl
theorem V3_v8 : V3 m ρ c main_v8 = low (aO m c) := by
  have e := W2_args m ρ c main_arg1 (by decide)
  simp only [V3, W3, hostOps1]
  generalize W2 m ρ c = W at e ⊢
  entry_read
  exact congrArg low e
theorem V6_v11 : V6 m ρ c main_v11 = low (aWo m c) := by
  have e := W5_args m ρ c main_arg5 (by decide)
  simp only [V6, W6, hostOps3]
  generalize W5 m ρ c = W at e ⊢
  entry_read
  exact congrArg low e
theorem V8_v13 : V8 m ρ c main_v13 = low (aD m c) := by
  have e := W7_args m ρ c main_arg6 (by decide)
  simp only [V8, W8, hostOps4]
  generalize W7 m ρ c = W at e ⊢
  entry_read
  exact congrArg low e
theorem V8_v14 : V8 m ρ c main_v14 = low (aWo m c) := by
  have e := W7_args m ρ c main_arg5 (by decide)
  simp only [V8, W8, hostOps4]
  generalize W7 m ρ c = W at e ⊢
  entry_read
  exact congrArg low e
theorem V10_v16 : V10 m ρ c main_v16 = low (aD m c) := by
  have e := W9_args m ρ c main_arg6 (by decide)
  simp only [V10, W10, hostOps5]
  generalize W9 m ρ c = W at e ⊢
  entry_read
  exact congrArg low e
theorem V13_v19 : V13 m ρ c main_v19 = low (aO m c) := by
  have e := W12_args m ρ c main_arg1 (by decide)
  simp only [V13, W13, hostOps7]
  generalize W12 m ρ c = W at e ⊢
  entry_read
  exact congrArg low e
theorem V15_v21 : V15 m ρ c main_v21 = low (aZ m c) := by
  have e := W14_args m ρ c main_arg0 (by decide)
  simp only [V15, W15, hostOps8]
  generalize W14 m ρ c = W at e ⊢
  entry_read
  exact congrArg low e

/-! ## What the calls leave -/

theorem W2_z : W2 m ρ c (Proc.devRef .tc main_v7) = gluIn (aZ m c) (aWg m c) :=
  ((W2_arr m ρ c 2).trans (Glu.final (V1 m ρ) c)).trans (congrArg₂ Glu.product (V1_v6 m ρ c) (V1_v2 m ρ c))
theorem V3_v5 : V3 m ρ c main_v5 = mlaBlocks (aWm m c) :=
  (W3_of m ρ c main_v5 (by decide)).trans ((W2_of m ρ c main_v5 (by decide)).trans (V1_v5 m ρ c))
theorem W4_u : W4 m ρ c (Proc.devRef .tc main_v9) = mlaOut (aO m c) (aWm m c) :=
  ((W4_arr m ρ c 2).trans (Mla.final (V3 m ρ) c)).trans (congrArg₂ Mla.product (V3_v8 m ρ c) (V3_v5 m ρ c))
theorem V4_z : V4 m ρ c main_v7 = gluIn (aZ m c) (aWg m c) :=
  (W4_of m ρ c main_v7 (by decide)).trans ((W3_of m ρ c main_v7 (by decide)).trans (W2_z m ρ c))
theorem W5_mix : W5 m ρ c (Proc.devRef .tc main_v10) = mixed (aZ m c) (aO m c) (aG m c) (aWg m c) (aWm m c) := by
  refine ((W5_arr m ρ c 4).trans (Merge.final (V4 m ρ) c)).trans ?_
  rw [V4_z, show V4 m ρ c main_v9 = _ from W4_u m ρ c, show V4 m ρ c main_arg2 = _ from W4_args m ρ c main_arg2 (by decide)]
  rfl
theorem V6_mix : V6 m ρ c main_v10 = mixed (aZ m c) (aO m c) (aG m c) (aWg m c) (aWm m c) :=
  (W6_of m ρ c main_v10 (by decide)).trans (W5_mix m ρ c)
theorem W7_out : W7 m ρ c (Proc.devRef .tc main_v12) = resOut (aZ m c) (aO m c) (aG m c) (aWg m c) (aWm m c) (aWo m c) :=
  ((W7_arr m ρ c 2).trans (Out.final (V6 m ρ) c)).trans (congrArg₂ (rowsCols .f32) (V6_mix m ρ c) (V6_v11 m ρ c))
theorem W9_x : W9 m ρ c (Proc.devRef .tc main_v15) = mixedX (aWo m c) (aD m c) :=
  ((W9_arr m ρ c 2).trans (OutX.final (V8 m ρ) c)).trans (congrArg₂ (rowsRows .bf16) (V8_v13 m ρ c) (V8_v14 m ρ c))
theorem V10_mix : V10 m ρ c main_v10 = mixed (aZ m c) (aO m c) (aG m c) (aWg m c) (aWm m c) :=
  (W10_of m ρ c main_v10 (by decide)).trans ((W9_of m ρ c main_v10 (by decide)).trans ((W8_of m ρ c main_v10 (by decide)).trans
    ((W7_of m ρ c main_v10 (by decide)).trans (V6_mix m ρ c))))
theorem W11_w : W11 m ρ c (Proc.devRef .tc main_v17) = resW (aZ m c) (aO m c) (aG m c) (aWg m c) (aWm m c) (aD m c) :=
  ((W11_arr m ρ c 2).trans (OutW.final (V10 m ρ) c)).trans (congrArg₂ (colsCols .bf16) (V10_mix m ρ c) (V10_v16 m ρ c))

theorem V11_x : V11 m ρ c main_v15 = mixedX (aWo m c) (aD m c) :=
  (W11_of m ρ c main_v15 (by decide)).trans ((W10_of m ρ c main_v15 (by decide)).trans (W9_x m ρ c))
theorem V11_z : V11 m ρ c main_v7 = gluIn (aZ m c) (aWg m c) :=
  (W11_of m ρ c main_v7 (by decide)).trans ((W10_of m ρ c main_v7 (by decide)).trans ((W9_of m ρ c main_v7 (by decide)).trans
    ((W8_of m ρ c main_v7 (by decide)).trans ((W7_of m ρ c main_v7 (by decide)).trans ((W6_of m ρ c main_v7 (by decide)).trans
      ((W5_of m ρ c main_v7 (by decide)).trans (V4_z m ρ c)))))))
theorem V11_u : V11 m ρ c main_v9 = mlaOut (aO m c) (aWm m c) :=
  (W11_of m ρ c main_v9 (by decide)).trans ((W10_of m ρ c main_v9 (by decide)).trans ((W9_of m ρ c main_v9 (by decide)).trans
    ((W8_of m ρ c main_v9 (by decide)).trans ((W7_of m ρ c main_v9 (by decide)).trans ((W6_of m ρ c main_v9 (by decide)).trans
      ((W5_of m ρ c main_v9 (by decide)).trans (W4_u m ρ c)))))))
theorem V11_g : V11 m ρ c main_arg2 = aG m c := W11_args m ρ c main_arg2 (by decide)

theorem W12_z : W12 m ρ c (Proc.devRef .tc main_v18_0) = cotZ (gluIn (aZ m c) (aWg m c)) (aG m c) (mixedX (aWo m c) (aD m c)) := by
  refine ((W12_arr m ρ c 5).trans (MergeX.final5 (V11 m ρ) c)).trans ?_
  rw [V11_z, V11_g, V11_x]
theorem W12_u : W12 m ρ c (Proc.devRef .tc main_v18_1) = cotU (aG m c) (mixedX (aWo m c) (aD m c)) := by
  refine ((W12_arr m ρ c 6).trans (MergeX.final6 (V11 m ρ) c)).trans ?_
  rw [V11_g, V11_x]
theorem W12_g : W12 m ρ c (Proc.devRef .tc main_v18_2) = resGates (aZ m c) (aO m c) (aG m c) (aWg m c) (aWm m c) (aWo m c) (aD m c) := by
  refine ((W12_arr m ρ c 7).trans (MergeX.final7 (V11 m ρ) c)).trans ?_
  rw [V11_z, V11_u, V11_g, V11_x]
  rfl
theorem V13_u : V13 m ρ c main_v18_1 = cotU (aG m c) (mixedX (aWo m c) (aD m c)) :=
  (W13_of m ρ c main_v18_1 (by decide)).trans (W12_u m ρ c)
theorem W14_m : W14 m ρ c (Proc.devRef .tc main_v20) = resMla (aO m c) (aG m c) (aWo m c) (aD m c) :=
  ((W14_arr m ρ c 2).trans (MlaW.final (V13 m ρ) c)).trans (congrArg₂ MlaW.product (V13_v19 m ρ c) (V13_u m ρ c))
theorem V15_z : V15 m ρ c main_v18_0 = cotZ (gluIn (aZ m c) (aWg m c)) (aG m c) (mixedX (aWo m c) (aD m c)) :=
  (W15_of m ρ c main_v18_0 (by decide)).trans ((W14_of m ρ c main_v18_0 (by decide)).trans ((W13_of m ρ c main_v18_0 (by decide)).trans (W12_z m ρ c)))

/-! ## The results after the last call -/

theorem final_glu : W16 m ρ c (Proc.devRef .tc main_v22) = resGlu (aZ m c) (aG m c) (aWg m c) (aWo m c) (aD m c) :=
  ((W16_arr m ρ c 2).trans (GluW.final (V15 m ρ) c)).trans (congrArg₂ GluW.product (V15_v21 m ρ c) (V15_z m ρ c))
theorem final_mla : W16 m ρ c (Proc.devRef .tc main_v20) = resMla (aO m c) (aG m c) (aWo m c) (aD m c) :=
  (W16_of m ρ c main_v20 (by decide)).trans ((W15_of m ρ c main_v20 (by decide)).trans (W14_m m ρ c))
theorem final_gates : W16 m ρ c (Proc.devRef .tc main_v18_2) = resGates (aZ m c) (aO m c) (aG m c) (aWg m c) (aWm m c) (aWo m c) (aD m c) :=
  (W16_of m ρ c main_v18_2 (by decide)).trans ((W15_of m ρ c main_v18_2 (by decide)).trans ((W14_of m ρ c main_v18_2 (by decide)).trans
    ((W13_of m ρ c main_v18_2 (by decide)).trans (W12_g m ρ c))))
theorem final_w : W16 m ρ c (Proc.devRef .tc main_v17) = resW (aZ m c) (aO m c) (aG m c) (aWg m c) (aWm m c) (aD m c) :=
  (W16_of m ρ c main_v17 (by decide)).trans ((W15_of m ρ c main_v17 (by decide)).trans ((W14_of m ρ c main_v17 (by decide)).trans
    ((W13_of m ρ c main_v17 (by decide)).trans ((W12_of m ρ c main_v17 (by decide)).trans (W11_w m ρ c)))))
theorem final_out : W16 m ρ c (Proc.devRef .tc main_v12) = resOut (aZ m c) (aO m c) (aG m c) (aWg m c) (aWm m c) (aWo m c) :=
  (W16_of m ρ c main_v12 (by decide)).trans ((W15_of m ρ c main_v12 (by decide)).trans ((W14_of m ρ c main_v12 (by decide)).trans
    ((W13_of m ρ c main_v12 (by decide)).trans ((W12_of m ρ c main_v12 (by decide)).trans ((W11_of m ρ c main_v12 (by decide)).trans
      ((W10_of m ρ c main_v12 (by decide)).trans ((W9_of m ρ c main_v12 (by decide)).trans ((W8_of m ρ c main_v12 (by decide)).trans
        (W7_out m ρ c)))))))))

end Cert.Mixing

end
-- ==== Proof.MixEquation.lean ====
/- The mixing of the two branches and its reference give the same arrays. -/
module

public import proofs.«01_k».proof.Defs
public import proofs.«01_k».proof.Proof.MixChain
public import Idealize.ShloMosaic.Lib.IdealHost
public import proofs.«01_k».proof.Proof.Gen.MixReferenceIdeal.Run
public import proofs.«01_k».proof.Proof.Gen.MixReferenceIdeal.Read

@[expose] public section

set_option maxRecDepth 16384

noncomputable section

namespace Cert.Mixing

open Cert.MixReferenceIdeal Cert.MixReferenceIdeal.Read Cert.Products Idealize.ShloMosaic Idealize.SL.Sem

attribute [local instance] Cert.MixIdeal.Gen.facts Cert.MixReferenceIdeal.Gen.facts

variable (z o : FVec Ideal S2048x1024 .f32) (g : FVec Ideal S2304x6144 .f32) (wg : FVec Ideal S1024x4096 .f32) (wm : FVec Ideal S1024x2048 .f32)
  (wo d : FVec Ideal S2048x2048 .f32)

/-! ## The forward quantities -/

theorem ref_zz : val_main_v1 (F := Ideal) z wg = gluIn z wg := by
  funext i
  have h1 : (i 1).val < 4096 := (i 1).isLt
  rw [val_main_v1_apply]
  show _ = ∑ k : Fin 1024, low z (ix2 (i 0) k) * gluBlocks wg (ix3 ⟨(i 1).val / 512, by omega⟩ k ⟨(i 1).val % 512, Nat.mod_lt _ (by decide)⟩)
  refine Finset.sum_congr rfl fun k _ => congrArg₂ (· * ·) (congrArg z ?_) (Eq.trans (congrArg wg ?_) (gluBlocks_at wg _ _ _).symm)
  · funext a
    match a with
    | ⟨0, _⟩ => rfl
    | ⟨1, _⟩ => rfl
  · funext a
    match a with
    | ⟨0, _⟩ => rfl
    | ⟨1, _⟩ => exact Fin.ext (by show (i 1).val = (i 1).val / 512 * 512 + (i 1).val % 512; omega)

theorem ref_u : val_main_v14 (F := Ideal) o wm = mlaOut o wm := by
  funext i
  have h1 : (i 1).val < 2048 := (i 1).isLt
  rw [val_main_v14_apply]
  show _ = ∑ k : Fin 1024, low o (ix2 (i 0) k) * mlaBlocks wm (ix3 ⟨(i 1).val / 256, by omega⟩ k ⟨(i 1).val % 256, Nat.mod_lt _ (by decide)⟩)
  refine Finset.sum_congr rfl fun k _ => congrArg₂ (· * ·) (congrArg o ?_) (Eq.trans (congrArg wm ?_) (mlaBlocks_at wm _ _ _).symm)
  · funext a
    match a with
    | ⟨0, _⟩ => rfl
    | ⟨1, _⟩ => rfl
  · funext a
    match a with
    | ⟨0, _⟩ => rfl
    | ⟨1, _⟩ => exact Fin.ext (by show (i 1).val = (i 1).val / 256 * 256 + (i 1).val % 256; omega)

theorem ref_a (r s : Fin 2048) : val_main_v2 (F := Ideal) z wg (ix2 r s) = gluIn z wg (ix2 r (lft s)) := by
  rw [val_main_v2_apply, ref_zz]
  refine congrArg (gluIn z wg) ?_
  funext a
  match a with
  | ⟨0, _⟩ => rfl
  | ⟨1, _⟩ => rfl
theorem ref_b (r s : Fin 2048) : val_main_v3 (F := Ideal) z wg (ix2 r s) = gluIn z wg (ix2 r (rgt s)) := by
  rw [val_main_v3_apply, ref_zz]
  refine congrArg (gluIn z wg) ?_
  funext a
  match a with
  | ⟨0, _⟩ => rfl
  | ⟨1, _⟩ => rfl

/-- `1 / (1 + exp (-x))` with the literals as they are spelled is `σ(x)`. -/
theorem spelled (x : EReal) : Ideal.div (Ideal.ofBits .f32 0x3F800000#32) (Ideal.ofBits .f32 0x3F800000#32 + Ideal.exp (-x)) = Ideal.logistic x := by
  rw [Ideal.ofBits_one_f32]
  rfl

theorem ref_sb (i : S2048x2048.Idx) : val_main_v9 (F := Ideal) z wg i = Ideal.logistic (val_main_v3 (F := Ideal) z wg i) := by
  rw [val_main_v9_apply, val_main_v8_apply, val_main_v7_apply, val_main_v6_apply, val_main_v5_apply, val_main_v4_apply, val_main_cst_apply,
    val_main_cst_0_apply]
  exact spelled _
theorem ref_sg (i : S2048x4096.Idx) : val_main_v20 (F := Ideal) g i = Ideal.logistic (val_main_v0 (F := Ideal) g i) := by
  rw [val_main_v20_apply, val_main_v19_apply, val_main_v18_apply, val_main_v17_apply, val_main_v16_apply, val_main_v15_apply, val_main_cst_2_apply,
    val_main_cst_3_apply]
  exact spelled _
theorem ref_slope_b (i : S2048x2048.Idx) : val_main_v12 (F := Ideal) z wg i = slope (val_main_v3 (F := Ideal) z wg i) := by
  rw [val_main_v12_apply, val_main_v11_apply, val_main_v10_apply, val_main_cst_1_apply, ref_sb]
  rfl
theorem ref_slope_g (i : S2048x4096.Idx) : val_main_v23 (F := Ideal) g i = slope (val_main_v0 (F := Ideal) g i) := by
  rw [val_main_v23_apply, val_main_v22_apply, val_main_v21_apply, val_main_cst_4_apply, ref_sg]
  rfl

theorem ref_gateS (r s : Fin 2048) : val_main_v0 (F := Ideal) g (ix2 r (lft s)) = g (ix2 (up r) (gateS s)) := by
  rw [val_main_v0_apply]
  refine congrArg g ?_
  funext a
  match a with
  | ⟨0, _⟩ => rfl
  | ⟨1, _⟩ => rfl
theorem ref_gateM (r s : Fin 2048) : val_main_v0 (F := Ideal) g (ix2 r (rgt s)) = g (ix2 (up r) (gateM s)) := by
  rw [val_main_v0_apply]
  refine congrArg g ?_
  funext a
  match a with
  | ⟨0, _⟩ => rfl
  | ⟨1, _⟩ => exact Fin.ext (by show 2048 + (2048 + s.val) = 4096 + s.val; omega)

theorem ref_p (r s : Fin 2048) : val_main_v24 (F := Ideal) g (ix2 r s) = Ideal.logistic (g (ix2 (up r) (gateS s))) := by
  rw [val_main_v24_apply, ref_sg, ← ref_gateS g r s]
  refine congrArg (fun j => Ideal.logistic (val_main_v0 (F := Ideal) g j)) ?_
  funext a
  match a with
  | ⟨0, _⟩ => rfl
  | ⟨1, _⟩ => rfl
theorem ref_q (r s : Fin 2048) : val_main_v25 (F := Ideal) g (ix2 r s) = Ideal.logistic (g (ix2 (up r) (gateM s))) := by
  rw [val_main_v25_apply, ref_sg, ← ref_gateM g r s]
  refine congrArg (fun j => Ideal.logistic (val_main_v0 (F := Ideal) g j)) ?_
  funext a
  match a with
  | ⟨0, _⟩ => rfl
  | ⟨1, _⟩ => rfl

theorem ref_glu (r s : Fin 2048) : val_main_v13 (F := Ideal) z wg (ix2 r s) = gluOf (gluIn z wg (ix2 r (lft s))) (gluIn z wg (ix2 r (rgt s))) := by
  rw [val_main_v13_apply, ref_sb, ref_a, ref_b]
  rfl

theorem ref_mixed : val_main_v28 (F := Ideal) z o g wg wm = mixed z o g wg wm := by
  funext i
  idx_vars i
  rw [val_main_v28_apply, val_main_v26_apply, val_main_v27_apply, ref_p, ref_q, ref_glu, ref_u]
  rfl

/-! ## The output and its weights' gradient -/

theorem ref_out : val_main_v29 (F := Ideal) z o g wg wm wo = resOut z o g wg wm wo := by
  funext i
  rw [val_main_v29_apply, ref_mixed]
  show _ = ∑ k : Fin 2048, mixed z o g wg wm (ix2 (i 0) k) * low wo (ix2 k (i 1))
  refine Finset.sum_congr rfl fun k _ => congrArg₂ (· * ·) (congrArg (mixed z o g wg wm) ?_) (congrArg wo ?_) <;>
    · funext a
      match a with
      | ⟨0, _⟩ => rfl
      | ⟨1, _⟩ => rfl

theorem ref_w : val_main_v53 (F := Ideal) z o g wg wm d = resW z o g wg wm d := by
  funext i
  refine (val_main_v53_apply (F := Ideal) z o g wg wm d i).trans (Eq.trans (b := val_main_v31 (F := Ideal) z o g wg wm d i) rfl ?_)
  rw [val_main_v31_apply, val_main_v30_apply, ref_mixed]
  show _ = ∑ k : Fin 2048, mixed z o g wg wm (ix2 k (i 0)) * low d (ix2 k (i 1))
  refine Finset.sum_congr rfl fun k _ => (mul_comm _ _).trans (congrArg₂ (· * ·) (congrArg (mixed z o g wg wm) ?_) (congrArg d ?_)) <;>
    · funext a
      match a with
      | ⟨0, _⟩ => rfl
      | ⟨1, _⟩ => rfl

/-! ## The cotangents -/

theorem ref_x : val_main_v32 (F := Ideal) wo d = mixedX wo d := by
  funext i
  rw [val_main_v32_apply]
  show _ = ∑ k : Fin 2048, low d (ix2 (i 0) k) * low wo (ix2 (i 1) k)
  refine Finset.sum_congr rfl fun k _ => congrArg₂ (· * ·) (congrArg d ?_) (congrArg wo ?_) <;>
    · funext a
      match a with
      | ⟨0, _⟩ => rfl
      | ⟨1, _⟩ => rfl

theorem ref_cotU : val_main_v33 (F := Ideal) g wo d = cotU g (mixedX wo d) := by
  funext i
  idx_vars i
  rw [val_main_v33_apply, ref_q, ref_x]
  rfl

theorem ref_pd (r s : Fin 2048) : val_main_v35 (F := Ideal) g wo d (ix2 r s) = Ideal.logistic (g (ix2 (up r) (gateS s))) * mixedX wo d (ix2 r s) := by
  rw [val_main_v35_apply, ref_p, ref_x]
  rfl

/-- Two arrays joined along their columns, read in either half. -/
theorem ref_joined_lft (x y : FVec Ideal S2048x2048 .f32) (h) (r s : Fin 2048) :
    concatenate S2048x4096 1 [⟨S2048x2048, x⟩, ⟨S2048x2048, y⟩] h (ix2 r (lft s)) = x (ix2 r s) :=
  concatenate_pair_apply_left (t := S2048x4096) (s₁ := S2048x2048) (s₂ := S2048x2048) 1 _ _ _ _ rfl (ix2 r s)
    (fun e => match e with | ⟨0, _⟩ => rfl | ⟨1, _⟩ => rfl)
theorem ref_joined_rgt (x y : FVec Ideal S2048x2048 .f32) (h) (r s : Fin 2048) :
    concatenate S2048x4096 1 [⟨S2048x2048, x⟩, ⟨S2048x2048, y⟩] h (ix2 r (rgt s)) = y (ix2 r s) :=
  concatenate_pair_apply_right (t := S2048x4096) (s₁ := S2048x2048) (s₂ := S2048x2048) 1 _ _ _ _ rfl rfl (ix2 r s)
    (fun e he => match e with | ⟨0, _⟩ => rfl | ⟨1, _⟩ => (he rfl).elim) (by show s.val + 2048 = 2048 + s.val; omega)

theorem ref_cotZ : val_main_v44 (F := Ideal) z g wg wo d = cotZ (gluIn z wg) g (mixedX wo d) := by
  funext i
  idx_vars i
  unfold val_main_v44
  obtain ⟨s, rfl⟩ | ⟨s, rfl⟩ := halves i1
  · refine (ref_joined_lft _ _ _ i0 s).trans (Eq.trans ?_ (beside_lft _ _ i0 s).symm)
    rw [val_main_v42_apply, ref_pd, ref_sb, ref_b]
    rfl
  · refine (ref_joined_rgt _ _ _ i0 s).trans (Eq.trans ?_ (beside_rgt _ _ i0 s).symm)
    rw [val_main_v43_apply, val_main_v41_apply, ref_pd, ref_slope_b, ref_a, ref_b]
    rfl

theorem ref_gates : val_main_v54 (F := Ideal) z o g wg wm wo d = resGates z o g wg wm wo d := by
  funext i
  refine (val_main_v54_apply (F := Ideal) z o g wg wm wo d i).trans (Eq.trans (b := val_main_v38 (F := Ideal) z o g wg wm wo d i) rfl ?_)
  idx_vars i
  rw [val_main_v38_apply, ref_slope_g]
  unfold val_main_v37 resGates cotG
  obtain ⟨s, rfl⟩ | ⟨s, rfl⟩ := halves i1
  · refine (congrArg₂ (· * ·) (ref_joined_lft _ _ _ i0 s) (congrArg slope (ref_gateS g i0 s))).trans (Eq.trans ?_ (beside_lft _ _ i0 s).symm)
    rw [val_main_v36_apply, ref_x, ref_glu]
    rfl
  · refine (congrArg₂ (· * ·) (ref_joined_rgt _ _ _ i0 s) (congrArg slope (ref_gateM g i0 s))).trans (Eq.trans ?_ (beside_rgt _ _ i0 s).symm)
    rw [val_main_v34_apply, ref_x, ref_u]
    rfl

/-! ## The branches' weights' gradients -/

theorem ref_gGlu : val_main_v49 (F := Ideal) z g wg wo d = resGlu z g wg wo d := by
  funext i
  have h0 : (i 0).val < 8 := (i 0).isLt
  have h1 : (i 1).val < 1024 := (i 1).isLt
  have h2 : (i 2).val < 512 := (i 2).isLt
  refine (val_main_v49_apply (F := Ideal) z g wg wo d i).trans (Eq.trans (b := val_main_v48 (F := Ideal) z g wg wo d i) rfl ?_)
  rw [val_main_v48_apply, val_main_v47_apply, val_main_v46_apply, val_main_v45_apply, ref_cotZ]
  show _ = ∑ k : Fin 2048, low z (ix2 k (i 1)) * cotZ (gluIn z wg) g (mixedX wo d) (ix2 k ⟨512 * (i 0).val + (i 2).val, by omega⟩)
  refine Finset.sum_congr rfl fun k _ => (mul_comm _ _).trans (congrArg₂ (· * ·) (congrArg z ?_) (congrArg (cotZ (gluIn z wg) g (mixedX wo d)) ?_))
  · funext a
    match a with
    | ⟨0, _⟩ => rfl
    | ⟨1, _⟩ => exact Fin.ext (by show (((i 1).val * 8 + (i 0).val) * 512 + (i 2).val) / 4096 = (i 1).val; omega)
  · funext a
    match a with
    | ⟨0, _⟩ => rfl
    | ⟨1, _⟩ => exact Fin.ext (by show (((i 1).val * 8 + (i 0).val) * 512 + (i 2).val) % 4096 = 512 * (i 0).val + (i 2).val; omega)

theorem ref_gMla : val_main_v52 (F := Ideal) o g wo d = resMla o g wo d := by
  funext i
  have h0 : (i 0).val < 8 := (i 0).isLt
  have h1 : (i 1).val < 1024 := (i 1).isLt
  have h2 : (i 2).val < 256 := (i 2).isLt
  refine (val_main_v52_apply (F := Ideal) o g wo d i).trans (Eq.trans (b := val_main_v51 (F := Ideal) o g wo d i) rfl ?_)
  rw [val_main_v51_apply, val_main_v50_apply, val_main_v40_apply, val_main_v39_apply, ref_cotU]
  show _ = ∑ k : Fin 2048, low o (ix2 k (i 1)) * cotU g (mixedX wo d) (ix2 k ⟨256 * (i 0).val + (i 2).val, by omega⟩)
  refine Finset.sum_congr rfl fun k _ => (mul_comm _ _).trans (congrArg₂ (· * ·) (congrArg o ?_) (congrArg (cotU g (mixedX wo d)) ?_))
  · funext a
    match a with
    | ⟨0, _⟩ => rfl
    | ⟨1, _⟩ => exact Fin.ext (by show (((i 1).val * 8 + (i 0).val) * 256 + (i 2).val) / 2048 = (i 1).val; omega)
  · funext a
    match a with
    | ⟨0, _⟩ => rfl
    | ⟨1, _⟩ => exact Fin.ext (by show (((i 1).val * 8 + (i 0).val) * 256 + (i 2).val) % 2048 = 256 * (i 0).val + (i 2).val; omega)

/-- The kernel's run and the reference's run leave the same five arrays. -/
theorem equation : algebraic_MixIdeal_MixReferenceIdeal := by
  intro m ρ m' ρ' _ hargs
  refine ⟨fun c => resOut (aZ m c) (aO m c) (aG m c) (aWg m c) (aWm m c) (aWo m c),
    fun c => resGlu (aZ m c) (aG m c) (aWg m c) (aWo m c) (aD m c), fun c => resMla (aO m c) (aG m c) (aWo m c) (aD m c),
    fun c => resW (aZ m c) (aO m c) (aG m c) (aWg m c) (aWm m c) (aD m c),
    fun c => resGates (aZ m c) (aO m c) (aG m c) (aWg m c) (aWm m c) (aWo m c) (aD m c),
    (θ_run _ _ _).mono (fun r h c => ⟨(h c).1.trans (final_out m ρ c), (h c).2.1.trans (final_glu m ρ c), (h c).2.2.1.trans (final_mla m ρ c),
      (h c).2.2.2.1.trans (final_w m ρ c), (h c).2.2.2.2.1.trans (final_gates m ρ c), (h c).2.2.2.2.2⟩) (run m ρ),
    (θ_run _ _ _).mono (fun r h c => ⟨(h c).1.trans ?_, (h c).2.1.trans ?_, (h c).2.2.1.trans ?_, (h c).2.2.2.1.trans ?_, (h c).2.2.2.2.1.trans ?_,
      (h c).2.2.2.2.2⟩) (Cert.MixReferenceIdeal.Value.run m' ρ')⟩
  · obtain ⟨e0, e1, e2, e3, e4, e5, e6⟩ := hargs c
    rw [val_main_v29_eq, e0, e1, e2, e3, e4, e5]
    exact ref_out _ _ _ _ _ _
  · obtain ⟨e0, e1, e2, e3, e4, e5, e6⟩ := hargs c
    rw [val_main_v49_eq, e0, e2, e3, e5, e6]
    exact ref_gGlu _ _ _ _ _
  · obtain ⟨e0, e1, e2, e3, e4, e5, e6⟩ := hargs c
    rw [val_main_v52_eq, e1, e2, e5, e6]
    exact ref_gMla _ _ _ _
  · obtain ⟨e0, e1, e2, e3, e4, e5, e6⟩ := hargs c
    rw [val_main_v53_eq, e0, e1, e2, e3, e4, e6]
    exact ref_w _ _ _ _ _ _
  · obtain ⟨e0, e1, e2, e3, e4, e5, e6⟩ := hargs c
    rw [val_main_v54_eq, e0, e1, e2, e3, e4, e5, e6]
    exact ref_gates _ _ _ _ _ _ _

end Cert.Mixing

end
-- ==== Proof.Up.lean ====
/- The gradient of the feed-forward layer's input: over the eight column blocks of the weights the four tiles of the
   result add up to the whole product. -/
module

public import proofs.«01_k».proof.Proof.Gen.UpIdeal.Value
public import Idealize.ShloMosaic.Lib.Pipeline.ValueKit
public import Idealize.ShloMosaic.Lib.Pipeline.ReadBack

@[expose] public section

set_option maxRecDepth 16384

noncomputable section

namespace Cert.UpProduct

open Cert.UpIdeal Cert.UpIdeal.Gen Idealize.ShloMosaic Idealize.ShloMosaic.TcCoe Idealize.SL.Sem

theorem idx0 : ∀ t : Fin grid0.N, win0_0.index t = ![t.val / 16, t.val % 8] := by decide +kernel
theorem idx1 : ∀ t : Fin grid0.N, win0_1.index t = ![t.val % 8, t.val / 8 % 2, 0] := by decide +kernel
theorem idx2 : ∀ t : Fin grid0.N, win0_2.index t = ![t.val / 16, t.val / 8 % 2] := by decide +kernel

/-! ## The body's two cases -/

section Body
variable {F : FTy → Type} [FloatOps F] (m : (ℓ : Loc nD τ sig) → Buf (Elt F) ℓ) (c : Dev nD) (t : Fin cfg0.N)

theorem body_A (h0 : t.val % 8 = 0) : outsAt0 m c t.val t.isLt = k0_pay1 (iblk m c 0 t) (iblk m c 1 t) := by
  rw [outsAt0_A m c t h0 (by omega)]
  frame_out

theorem body_B (h0 : ¬t.val % 8 = 0) : outsAt0 m c t.val t.isLt
    = k0_pay2 (iblk m c 0 t) (iblk m c 1 t) (outsAt0 m c (t.val - 1) (Nat.lt_of_le_of_lt (Nat.sub_le _ _) t.isLt)) := by
  rw [outsAt0_B m c t h0 (by omega)]
  generalize outsAt0 m c (t.val - 1) (Nat.lt_of_le_of_lt (Nat.sub_le _ _) t.isLt) = acc
  frame_out

end Body

/-- A block's product at an index. -/
theorem pay1_at (x : FVec Ideal S1024x1408 .bf16) (y : FVec Ideal S1x1024x1408 .bf16) (r : Fin 1024) (s : Fin 1024) :
    k0_pay1 (F := Ideal) x y (ix2 r s) = ∑ k : Fin 1408, x (ix2 r k) * y (ix3 0 s k) := by
  pointwise [k0_pay1]

theorem pay2_at (x : FVec Ideal S1024x1408 .bf16) (y : FVec Ideal S1x1024x1408 .bf16) (z : FVec Ideal S1024x1024 .f32) (r : Fin 1024) (s : Fin 1024) :
    k0_pay2 (F := Ideal) x y z (ix2 r s) = z (ix2 r s) + k0_pay1 (F := Ideal) x y (ix2 r s) := by
  unfold k0_pay2
  generalize k0_pay1 (F := Ideal) x y = w
  pointwise

variable (m : (ℓ : Loc nD τ sig) → Buf (Elt Ideal) ℓ) (c : Dev nD) (t : Fin cfg0.N)

theorem lt32 : t.val < 32 := t.isLt

/-- The product of one whole array by another's transpose. -/
def product (f : FVec Ideal S2048x11264 .f32) (w : FVec Ideal S2048x11264 .f32) : FVec Ideal S2048x2048 .f32 :=
  fun i => ∑ k : Fin 11264, f (ix2 (i 0) k) * w (ix2 (i 1) k)

def row (r : Fin 1024) : Fin 2048 := ⟨1024 * (t.val / 16) + r.val, by have := lt32 t; have := r.isLt; omega⟩
def mid (k : Fin 1408) : Fin 11264 := ⟨(t.val % 8) * 1408 + k.val, by have := k.isLt; omega⟩
def col (s : Fin 1024) : Fin 2048 := ⟨1024 * (t.val / 8 % 2) + s.val, by have := s.isLt; omega⟩

/-- The factors. -/
def lhs : FVec Ideal S2048x11264 .f32 := m ((c : Thread nD τ).loc main_arg1)
def rhs : FVec Ideal S2048x11264 .f32 := m ((c : Thread nD τ).loc main_arg0)

/-- The weights by column blocks. -/
def slots (w : FVec Ideal S2048x11264 .f32) : FVec Ideal S8x2048x1408 .bf16 :=
  truncf .bf16 (transpose S8x2048x1408 [1, 0, 2] (shapeCast S2048x8x1408 w shapeCasts_S2048x11264_S2048x8x1408)
    transposes_S2048x8x1408_S8x2048x1408_1_0_2) bitsLt_bf16_f32

theorem slots_at (w : FVec Ideal S2048x11264 .f32) (p : Fin 8) (d : Fin 2048) (l : Fin 1408) :
    slots w (ix3 p d l) = w (ix2 d ⟨p.val * 1408 + l.val, by have := p.isLt; have := l.isLt; omega⟩) := by
  pointwise [slots]

theorem host0 : V m c main_v2 = lhs m c := by
  simp only [V, hostOps0]
  entry_read
  rfl

theorem host1 : V m c main_v3 = slots (rhs m c) := by
  simp only [V, hostOps0]
  entry_read
  rfl

theorem blk0 (r : Fin 1024) (k : Fin 1408) : iblk m c 0 t (ix2 r k) = lhs m c (ix2 (row t r) (mid t k)) := by
  have e : iblk m c 0 t (ix2 r k) = V m c main_v2 (ix2 (row t r) (mid t k)) := by
    blk_ext [iblk, idx0 t, row, mid]
  exact e.trans (congrFun (host0 m c) _)

theorem blk1 (k : Fin 1408) (s : Fin 1024) : iblk m c 1 t (ix3 0 s k) = rhs m c (ix2 (col t s) (mid t k)) := by
  have e : iblk m c 1 t (ix3 0 s k) = V m c main_v3 (ix3 ⟨t.val % 8, by omega⟩ (col t s) k) := by
    blk_ext [iblk, idx1 t, col]
  exact e.trans ((congrFun (host1 m c) _).trans (slots_at _ _ _ _))

/-- A tile's share of the product. -/
def term (t : Fin cfg0.N) (i : S1024x1024.Idx) : EReal :=
  ∑ k : Fin 1408, lhs m c (ix2 (row t (i 0)) (mid t k)) * rhs m c (ix2 (col t (i 1)) (mid t k))

theorem share (i : S1024x1024.Idx) : k0_pay1 (F := Ideal) (iblk m c 0 t) (iblk m c 1 t) i = term m c t i := by
  idx_vars i
  refine (pay1_at (iblk m c 0 t) (iblk m c 1 t) i0 i1).trans (Finset.sum_congr rfl fun k _ => ?_)
  exact congrArg₂ (· * ·) (blk0 m c t i0 k) (blk1 m c t k i1)

theorem start (h : t.val % 8 = 0) (i : S1024x1024.Idx) : outsAt0 m c t.val t.isLt i = 0 + term m c t i := by
  rw [body_A m c t h, zero_add]
  exact share m c t i

theorem step (h : ¬t.val % 8 = 0) (i : S1024x1024.Idx) : outsAt0 m c t.val t.isLt i
    = outsAt0 m c (t.val - 1) (Nat.lt_of_le_of_lt (Nat.sub_le _ _) t.isLt) i + term m c t i := by
  rw [body_B m c t h, ← share m c t i]
  generalize outsAt0 m c (t.val - 1) (Nat.lt_of_le_of_lt (Nat.sub_le _ _) t.isLt) = acc
  idx_vars i
  exact pay2_at _ _ _ _ _

/-- The arguments' product. -/
def result : FVec Ideal S2048x2048 .f32 :=
  product (lhs m c) (rhs m c)

/-- After the last tile of a block the block is the product's. -/
theorem block (ht : t.val % 8 = 7) (r : Fin 1024) (s : Fin 1024) :
    outsAt0 m c t.val t.isLt (ix2 r s) = result m c (ix2 (row t r) (col t s)) := by
  rw [Pipeline.eq_sum_fin_of_reset_step_apply_of_flush (fun n h => outsAt0 m c n h) 8 (fun _ => 0) (term m c)
    (fun t h i => start m c t h i) (fun t h i => step m c t h i) t ht (ix2 r s), zero_add]
  refine Eq.trans (Finset.sum_congr rfl fun p _ => ?_)
    (Fin.sum_mul_add_fin 8 1408 fun k : Fin 11264 => lhs m c (ix2 (row t r) k) * rhs m c (ix2 (col t s) k))
  have hp := p.isLt
  refine Finset.sum_congr rfl fun k _ => ?_
  have e0 : row ⟨8 * (t.val / 8) + p.val, Pipeline.run_point_lt_of_flush (J := 8) t ht p⟩ r = row t r :=
    Fin.ext (by show 1024 * ((8 * (t.val / 8) + p.val) / 16) + r.val = 1024 * (t.val / 16) + r.val; omega)
  have e1 : col ⟨8 * (t.val / 8) + p.val, Pipeline.run_point_lt_of_flush (J := 8) t ht p⟩ s = col t s :=
    Fin.ext (by show 1024 * ((8 * (t.val / 8) + p.val) / 8 % 2) + s.val = 1024 * (t.val / 8 % 2) + s.val; omega)
  have e2 : mid ⟨8 * (t.val / 8) + p.val, Pipeline.run_point_lt_of_flush (J := 8) t ht p⟩ k
      = ⟨p.val * 1408 + k.val, by have := k.isLt; omega⟩ :=
    Fin.ext (by show (8 * (t.val / 8) + p.val) % 8 * 1408 + k.val = p.val * 1408 + k.val; omega)
  exact congrArg₂ (· * ·) (congrArg (lhs m c) (congrArg₂ ix2 e0 e2)) (congrArg (rhs m c) (congrArg₂ ix2 e1 e2))

/-! ## The result's array -/

theorem place (r : Fin 1024) (s : Fin 1024) : ((cfg0.win 2).blk t).view.emb (ix2 r s) = ix2 (row t r) (col t s) := by
  funext a
  match a with
  | ⟨0, _⟩ => exact Fin.ext (by show win0_2.index t (0 : Fin 2) * 1024 + 1 * r.val = 1024 * (t.val / 16) + r.val; rw [idx2]; show t.val / 16 * 1024 + 1 * r.val = _; omega)
  | ⟨1, _⟩ => exact Fin.ext (by show win0_2.index t (1 : Fin 2) * 1024 + 1 * s.val = 1024 * (t.val / 8 % 2) + s.val; rw [idx2]; show t.val / 8 % 2 * 1024 + 1 * s.val = _; omega)

theorem final : (dats m 0 c).arrAt 2 cfg0.N = result m c := by
  refine (dats m 0 c).arrAt_eq_of_cover 2 _ (fun t hf => ?_) (fun i => ?_)
  · have ht := (flush0_2 t).1 hf
    rw [Value.flushed2]
    funext y
    idx_vars y
    exact (block m c t ht y0 y1).trans (congrArg (result m c) (place t y0 y1).symm)
  · have h0 : (i 0).val < 2048 := (i 0).isLt
    have h1 : (i 1).val < 2048 := (i 1).isLt
    let t : Fin cfg0.N := ⟨16 * ((i 0).val / 1024) + 8 * ((i 1).val / 1024) + 7, lt_of_lt_of_eq (by omega) N_0.symm⟩
    refine ⟨t, (flush0_2 t).2 (by show (16 * ((i 0).val / 1024) + 8 * ((i 1).val / 1024) + 7) % 8 = 7; omega), ?_⟩
    have e : ((cfg0.win 2).blk t).view.emb (ix2 ⟨(i 0).val % 1024, by omega⟩ ⟨(i 1).val % 1024, by omega⟩) = i := by
      rw [place]
      funext a
      match a with
      | ⟨0, _⟩ => exact Fin.ext (by show 1024 * ((16 * ((i 0).val / 1024) + 8 * ((i 1).val / 1024) + 7) / 16) + (i 0).val % 1024 = (i 0).val; omega)
      | ⟨1, _⟩ => exact Fin.ext (by show 1024 * ((16 * ((i 0).val / 1024) + 8 * ((i 1).val / 1024) + 7) / 8 % 2) + (i 1).val % 1024 = (i 1).val; omega)
    rw [← e]
    exact View.emb_mem_set _ _

end Cert.UpProduct

end
-- ==== Proof.UpEquation.lean ====
/- The gradient of the feed-forward layer's input and its reference are the same array. -/
module

public import proofs.«01_k».proof.Defs
public import proofs.«01_k».proof.Proof.Up
public import proofs.«01_k».proof.Proof.Gen.UpReferenceIdeal.Run
public import proofs.«01_k».proof.Proof.Gen.UpReferenceIdeal.Read

@[expose] public section

set_option maxRecDepth 16384

noncomputable section

namespace Cert.UpProduct

open Idealize.ShloMosaic Idealize.SL.Sem

attribute [local instance] Cert.UpIdeal.Gen.facts Cert.UpReferenceIdeal.Gen.facts

/-- The reference's product is the sum over the whole inner dimension. -/
theorem reference (w ct : FVec Ideal Cert.UpIdeal.S2048x11264 .f32) :
    Cert.UpReferenceIdeal.Read.val_main_v2 (F := Ideal) w ct = product ct w := by
  funext i
  rw [Cert.UpReferenceIdeal.Read.val_main_v2_apply]
  refine Finset.sum_congr rfl fun k _ => congrArg₂ (· * ·) (congrArg ct ?_) (congrArg w ?_) <;>
    · funext a
      match a with
      | ⟨0, _⟩ => rfl
      | ⟨1, _⟩ => rfl

/-- The kernel's run and the reference's run leave the same array. -/
theorem equation : algebraic_UpIdeal_UpReferenceIdeal := by
  intro m g m' g' _ hargs
  refine ⟨fun c => result m c,
    (θ_run _ _ _).mono (fun r h c => ⟨(h c).1.trans (final m c), (h c).2⟩) (Cert.UpIdeal.Value.run_blocks m g),
    (θ_run _ _ _).mono (fun r h c => ⟨(h c).1.trans ?_, (h c).2⟩) (Cert.UpReferenceIdeal.Value.run m' g')⟩
  obtain ⟨e0, e1⟩ := hargs c
  rw [Cert.UpReferenceIdeal.Read.val_main_v2_eq, e0, e1]
  exact reference _ _

end Cert.UpProduct

end
-- ==== Proof.Down.lean ====
/- The output product of the feed-forward layer: the grid's sixteen tiles, two partial products each, are the whole product. -/
module

public import proofs.«01_k».proof.Proof.Gen.DownIdeal.Value
public import Idealize.ShloMosaic.Lib.Pipeline.ValueKit
public import Idealize.ShloMosaic.Lib.Pipeline.ReadBack

@[expose] public section

set_option maxRecDepth 16384

noncomputable section

namespace Cert.DownProduct

open Cert.DownIdeal Cert.DownIdeal.Gen Idealize.ShloMosaic Idealize.ShloMosaic.TcCoe Idealize.SL.Sem

theorem idx0 : ∀ t : Fin grid0.N, win0_0.index t = ![t.val / 4, t.val % 2] := by decide +kernel
theorem idx1 : ∀ t : Fin grid0.N, win0_1.index t = ![t.val % 2, t.val / 2 % 2] := by decide +kernel
theorem idx2 : ∀ t : Fin grid0.N, win0_2.index t = ![t.val / 4, t.val / 2 % 2] := by decide +kernel

/-! ## The body's two cases -/

section Body
variable {F : FTy → Type} [FloatOps F] (m : (ℓ : Loc nD τ sig) → Buf (Elt F) ℓ) (c : Dev nD) (t : Fin cfg0.N)

theorem body_A (h0 : t.val % 2 = 0) : outsAt0 m c t.val t.isLt = k0_pay1 (iblk m c 0 t) (iblk m c 1 t) := by
  rw [outsAt0_A m c t h0 (by omega)]
  frame_out

theorem body_B (h0 : ¬t.val % 2 = 0) : outsAt0 m c t.val t.isLt
    = k0_pay2 (iblk m c 0 t) (iblk m c 1 t) (outsAt0 m c (t.val - 1) (Nat.lt_of_le_of_lt (Nat.sub_le _ _) t.isLt)) := by
  rw [outsAt0_B m c t h0 (by omega)]
  generalize outsAt0 m c (t.val - 1) (Nat.lt_of_le_of_lt (Nat.sub_le _ _) t.isLt) = acc
  frame_out

end Body

/-- A block's product at an index. -/
theorem pay1_at (x : FVec Ideal S512x2816 .bf16) (y : FVec Ideal S2816x1024 .bf16) (r : Fin 512) (s : Fin 1024) :
    k0_pay1 (F := Ideal) x y (ix2 r s) = ∑ k : Fin 2816, x (ix2 r k) * y (ix2 k s) := by
  pointwise [k0_pay1]

theorem pay2_at (x : FVec Ideal S512x2816 .bf16) (y : FVec Ideal S2816x1024 .bf16) (z : FVec Ideal S512x1024 .f32) (r : Fin 512) (s : Fin 1024) :
    k0_pay2 (F := Ideal) x y z (ix2 r s) = z (ix2 r s) + k0_pay1 (F := Ideal) x y (ix2 r s) := by
  unfold k0_pay2
  generalize k0_pay1 (F := Ideal) x y = w
  pointwise

variable (m : (ℓ : Loc nD τ sig) → Buf (Elt Ideal) ℓ) (c : Dev nD) (t : Fin cfg0.N)

theorem lt16 : t.val < 16 := t.isLt

/-- The product of two whole arrays. -/
def product (f : FVec Ideal S2048x5632 .f32) (w : FVec Ideal S5632x2048 .f32) : FVec Ideal S2048x2048 .f32 :=
  fun i => ∑ k : Fin 5632, f (ix2 (i 0) k) * w (ix2 k (i 1))

def row (r : Fin 512) : Fin 2048 := ⟨512 * (t.val / 4) + r.val, by have := lt16 t; have := r.isLt; omega⟩
def mid (k : Fin 2816) : Fin 5632 := ⟨(t.val % 2) * 2816 + k.val, by have := k.isLt; omega⟩
def col (s : Fin 1024) : Fin 2048 := ⟨1024 * (t.val / 2 % 2) + s.val, by have := s.isLt; omega⟩

/-- The factors. -/
def lhs : FVec Ideal S2048x5632 .f32 := m ((c : Thread nD τ).loc main_arg0)
def rhs : FVec Ideal S5632x2048 .f32 := m ((c : Thread nD τ).loc main_arg1)

theorem host0 : V m c main_v0 = lhs m c := by
  simp only [V, hostOps0]
  entry_read
  rfl

theorem host1 : V m c main_v1 = rhs m c := by
  simp only [V, hostOps0]
  entry_read
  rfl

theorem blk0 (r : Fin 512) (k : Fin 2816) : iblk m c 0 t (ix2 r k) = lhs m c (ix2 (row t r) (mid t k)) := by
  have e : iblk m c 0 t (ix2 r k) = V m c main_v0 (ix2 (row t r) (mid t k)) := by
    blk_ext [iblk, idx0 t, row, mid]
  exact e.trans (congrFun (host0 m c) _)

theorem blk1 (k : Fin 2816) (s : Fin 1024) : iblk m c 1 t (ix2 k s) = rhs m c (ix2 (mid t k) (col t s)) := by
  have e : iblk m c 1 t (ix2 k s) = V m c main_v1 (ix2 (mid t k) (col t s)) := by
    blk_ext [iblk, idx1 t, mid, col]
  exact e.trans (congrFun (host1 m c) _)

/-- A tile's share of the product. -/
def term (t : Fin cfg0.N) (i : S512x1024.Idx) : EReal :=
  ∑ k : Fin 2816, lhs m c (ix2 (row t (i 0)) (mid t k)) * rhs m c (ix2 (mid t k) (col t (i 1)))

theorem share (i : S512x1024.Idx) : k0_pay1 (F := Ideal) (iblk m c 0 t) (iblk m c 1 t) i = term m c t i := by
  idx_vars i
  refine (pay1_at (iblk m c 0 t) (iblk m c 1 t) i0 i1).trans (Finset.sum_congr rfl fun k _ => ?_)
  exact congrArg₂ (· * ·) (blk0 m c t i0 k) (blk1 m c t k i1)

theorem start (h : t.val % 2 = 0) (i : S512x1024.Idx) : outsAt0 m c t.val t.isLt i = 0 + term m c t i := by
  rw [body_A m c t h, zero_add]
  exact share m c t i

theorem step (h : ¬t.val % 2 = 0) (i : S512x1024.Idx) : outsAt0 m c t.val t.isLt i
    = outsAt0 m c (t.val - 1) (Nat.lt_of_le_of_lt (Nat.sub_le _ _) t.isLt) i + term m c t i := by
  rw [body_B m c t h, ← share m c t i]
  generalize outsAt0 m c (t.val - 1) (Nat.lt_of_le_of_lt (Nat.sub_le _ _) t.isLt) = acc
  idx_vars i
  exact pay2_at _ _ _ _ _

/-- The arguments' product. -/
def result : FVec Ideal S2048x2048 .f32 :=
  product (lhs m c) (rhs m c)

/-- After the second tile of a block the block is the product's. -/
theorem block (ht : t.val % 2 = 1) (r : Fin 512) (s : Fin 1024) :
    outsAt0 m c t.val t.isLt (ix2 r s) = result m c (ix2 (row t r) (col t s)) := by
  rw [Pipeline.eq_sum_fin_of_reset_step_apply_of_flush (fun n h => outsAt0 m c n h) 2 (fun _ => 0) (term m c)
    (fun t h i => start m c t h i) (fun t h i => step m c t h i) t ht (ix2 r s), zero_add]
  refine Eq.trans (Finset.sum_congr rfl fun p _ => ?_)
    (Fin.sum_mul_add_fin 2 2816 fun k : Fin 5632 => lhs m c (ix2 (row t r) k) * rhs m c (ix2 k (col t s)))
  have hp := p.isLt
  refine Finset.sum_congr rfl fun k _ => ?_
  have e0 : row ⟨2 * (t.val / 2) + p.val, Pipeline.run_point_lt_of_flush (J := 2) t ht p⟩ r = row t r :=
    Fin.ext (by show 512 * ((2 * (t.val / 2) + p.val) / 4) + r.val = 512 * (t.val / 4) + r.val; omega)
  have e1 : col ⟨2 * (t.val / 2) + p.val, Pipeline.run_point_lt_of_flush (J := 2) t ht p⟩ s = col t s :=
    Fin.ext (by show 1024 * ((2 * (t.val / 2) + p.val) / 2 % 2) + s.val = 1024 * (t.val / 2 % 2) + s.val; omega)
  have e2 : mid ⟨2 * (t.val / 2) + p.val, Pipeline.run_point_lt_of_flush (J := 2) t ht p⟩ k
      = ⟨p.val * 2816 + k.val, by have := k.isLt; omega⟩ :=
    Fin.ext (by show (2 * (t.val / 2) + p.val) % 2 * 2816 + k.val = p.val * 2816 + k.val; omega)
  exact congrArg₂ (· * ·) (congrArg (lhs m c) (congrArg₂ ix2 e0 e2)) (congrArg (rhs m c) (congrArg₂ ix2 e2 e1))

/-! ## The result's array -/

theorem place (r : Fin 512) (s : Fin 1024) : ((cfg0.win 2).blk t).view.emb (ix2 r s) = ix2 (row t r) (col t s) := by
  funext a
  match a with
  | ⟨0, _⟩ => exact Fin.ext (by show win0_2.index t (0 : Fin 2) * 512 + 1 * r.val = 512 * (t.val / 4) + r.val; rw [idx2]; show t.val / 4 * 512 + 1 * r.val = _; omega)
  | ⟨1, _⟩ => exact Fin.ext (by show win0_2.index t (1 : Fin 2) * 1024 + 1 * s.val = 1024 * (t.val / 2 % 2) + s.val; rw [idx2]; show t.val / 2 % 2 * 1024 + 1 * s.val = _; omega)

theorem final : (dats m 0 c).arrAt 2 cfg0.N = result m c := by
  refine (dats m 0 c).arrAt_eq_of_cover 2 _ (fun t hf => ?_) (fun i => ?_)
  · have ht := (flush0_2 t).1 hf
    rw [Value.flushed2]
    funext y
    idx_vars y
    exact (block m c t ht y0 y1).trans (congrArg (result m c) (place t y0 y1).symm)
  · have h0 : (i 0).val < 2048 := (i 0).isLt
    have h1 : (i 1).val < 2048 := (i 1).isLt
    let t : Fin cfg0.N := ⟨4 * ((i 0).val / 512) + 2 * ((i 1).val / 1024) + 1, lt_of_lt_of_eq (by omega) N_0.symm⟩
    refine ⟨t, (flush0_2 t).2 (by show (4 * ((i 0).val / 512) + 2 * ((i 1).val / 1024) + 1) % 2 = 1; omega), ?_⟩
    have e : ((cfg0.win 2).blk t).view.emb (ix2 ⟨(i 0).val % 512, by omega⟩ ⟨(i 1).val % 1024, by omega⟩) = i := by
      rw [place]
      funext a
      match a with
      | ⟨0, _⟩ => exact Fin.ext (by show 512 * ((4 * ((i 0).val / 512) + 2 * ((i 1).val / 1024) + 1) / 4) + (i 0).val % 512 = (i 0).val; omega)
      | ⟨1, _⟩ => exact Fin.ext (by show 1024 * ((4 * ((i 0).val / 512) + 2 * ((i 1).val / 1024) + 1) / 2 % 2) + (i 1).val % 1024 = (i 1).val; omega)
    rw [← e]
    exact View.emb_mem_set _ _

end Cert.DownProduct

end
-- ==== Proof.DownEquation.lean ====
/- The output product of the feed-forward layer and its reference are the same array. -/
module

public import proofs.«01_k».proof.Defs
public import proofs.«01_k».proof.Proof.Down
public import proofs.«01_k».proof.Proof.Gen.DownReferenceIdeal.Run
public import proofs.«01_k».proof.Proof.Gen.DownReferenceIdeal.Read

@[expose] public section

set_option maxRecDepth 16384

noncomputable section

namespace Cert.DownProduct

open Idealize.ShloMosaic Idealize.SL.Sem

attribute [local instance] Cert.DownIdeal.Gen.facts Cert.DownReferenceIdeal.Gen.facts

/-- The reference's product is the sum over the whole inner dimension. -/
theorem reference (f : FVec Ideal Cert.DownIdeal.S2048x5632 .f32) (w : FVec Ideal Cert.DownIdeal.S5632x2048 .f32) :
    Cert.DownReferenceIdeal.Read.val_main_v0 (F := Ideal) f w = product f w := by
  funext i
  rw [Cert.DownReferenceIdeal.Read.val_main_v0_apply]
  refine Finset.sum_congr rfl fun k _ => congrArg₂ (· * ·) (congrArg f ?_) (congrArg w ?_) <;>
    · funext a
      match a with
      | ⟨0, _⟩ => rfl
      | ⟨1, _⟩ => rfl

/-- The kernel's run and the reference's run leave the same array. -/
theorem equation : algebraic_DownIdeal_DownReferenceIdeal := by
  intro m g m' g' _ hargs
  refine ⟨fun c => result m c,
    (θ_run _ _ _).mono (fun r h c => ⟨(h c).1.trans (final m c), (h c).2⟩) (Cert.DownIdeal.Value.run_blocks m g),
    (θ_run _ _ _).mono (fun r h c => ⟨(h c).1.trans ?_, (h c).2⟩) (Cert.DownReferenceIdeal.Value.run m' g')⟩
  obtain ⟨e0, e1⟩ := hargs c
  rw [Cert.DownReferenceIdeal.Read.val_main_v0_eq, e0, e1]
  exact reference _ _

end Cert.DownProduct

end
-- ==== Proof.ProjRun.lean ====
/- The first projection: a run of the two calls ends with every array at the contents the calls
   leave, call by call. -/
module

public import proofs.«01_k».proof.Proof.Gen.ProjIdeal.Frame

@[expose] public section

set_option maxRecDepth 16384

noncomputable section

namespace Cert.Projection

open Cert.ProjIdeal Cert.ProjIdeal.Gen
open Idealize.ShloMosaic Idealize.ShloMosaic.TcCoe
open Idealize.SL Idealize.SL.RA Idealize.SL.BI
open scoped Idealize.SL.BI
open Idealize.ShloMosaic.Rounds
open Idealize.SL.BI.BIBase Idealize.SL.BI.Laws Idealize.SL.ProofMode Idealize.SL.Sem

variable {F : FTy → Type} [FloatOps F] (m : (ℓ : Loc nD τ sig) → Buf (Elt F) ℓ) (ρ : Dev nD → PrngReg)

set_option backward.isDefEq.respectTransparency.types false in
/-- Every array a run can end with is the one held after the last host operation. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W5 m ρ c b) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp (MT nD τ sig Unit (Elt F) ℕ (UR sig nD τ) ℕ))
            ⊢ BI.own (emb₁ (initOf (Pipeline.cells cfgs cellOf_inj) (Pipeline.launchToks cfgs cellOf_inj))) from .rfl)
        iexact Hu
      iapply (show (BI.emp : sProp (MT nD τ sig Unit (Elt F) ℕ (UR sig nD τ) ℕ)) ⊢ bigSep Finset.univ (fun _ : Dev nD => (BI.emp : sProp (MT nD τ sig Unit (Elt F) ℕ (UR sig nD τ) ℕ))) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h _ => h)

/-- A run ends with the two results held after the last host operation and with the arguments as they were. -/
theorem run : θ_run defs (onTc (τ := τ) (main (F := F))) ⟨m, fun _ => 0, ρ⟩ (fun r => ∀ c : Dev nD,
      r.2.mem ((c : Thread nD τ).loc main_v6) = W5 m ρ c (Proc.devRef .tc main_v6)
      ∧ r.2.mem ((c : Thread nD τ).loc main_v12) = W5 m ρ c (Proc.devRef .tc main_v12)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)) :=
  (θ_run defs _ _).mono (fun _ h c =>
    ⟨h c _ (mem_uc main_v6 (by decide)), h c _ (mem_uc main_v12 (by decide)),
      (h c _ (mem_uc main_arg0 (by decide))).trans (W5_main_arg0 m ρ c),
      (h c _ (mem_uc main_arg1 (by decide))).trans (W5_main_arg1 m ρ c),
      (h c _ (mem_uc main_arg2 (by decide))).trans (W5_main_arg2 m ρ c)⟩) (run_all m ρ)

end Cert.Projection

end
-- ==== Proof.ProjProducts.lean ====
/- The first projection: what its two products leave, from whatever their operands hold when they start. -/
module

public import proofs.«01_k».proof.Proof.Gen.ProjIdeal.Frame
public import proofs.«01_k».proof.Proof.Products
public import Idealize.ShloMosaic.Lib.Pipeline.ValueKit
public import Idealize.ShloMosaic.Lib.Pipeline.ReadBack

@[expose] public section

set_option maxRecDepth 16384

noncomputable section

namespace Cert.Projection

open Cert.ProjIdeal Cert.ProjIdeal.Gen Cert.Products Idealize.ShloMosaic Idealize.ShloMosaic.TcCoe Idealize.SL.Sem

variable (V : (c : Dev nD) → (b : Ref sig .tc) → Buf (Elt Ideal) ((c : Thread nD τ).loc b)) (c : Dev nD)

/-! ## The projection: rows of the input by columns of the weights -/

namespace In

theorem idx0 : ∀ t : Fin grid0.N, win0_0.index t = ![t.val / 4, 0] := by decide +kernel
theorem idx1 : ∀ t : Fin grid0.N, win0_1.index t = ![0, t.val % 4] := by decide +kernel
theorem idx2 : ∀ t : Fin grid0.N, win0_2.index t = ![t.val / 4, t.val % 4] := by decide +kernel

theorem pay_at (x : FVec Ideal S768x2048 .bf16) (y : FVec Ideal S2048x1536 .bf16) (r : Fin 768) (s : Fin 1536) :
    k0_pay1 (F := Ideal) x y (ix2 r s) = ∑ k : Fin 2048, x (ix2 r k) * y (ix2 k s) := by
  pointwise [k0_pay1]

variable (t : Fin cfg0.N)

theorem lt12 : t.val < 12 := t.isLt

def row (r : Fin 768) : Fin 2304 := ⟨768 * (t.val / 4) + r.val, by have := lt12 t; have := r.isLt; omega⟩
def col (s : Fin 1536) : Fin 6144 := ⟨1536 * (t.val % 4) + s.val, by have := s.isLt; omega⟩

theorem blk0 (r : Fin 768) (k : Fin 2048) : iblk0 V c 0 t (ix2 r k) = V c main_v5 (ix2 (row t r) k) := by
  blk_ext [iblk0, idx0 t, row]
theorem blk1 (k : Fin 2048) (s : Fin 1536) : iblk0 V c 1 t (ix2 k s) = V c main_v4 (ix2 k (col t s)) := by
  blk_ext [iblk0, idx1 t, col]

theorem body (x : FVec Ideal S768x2048 .bf16) (y : FVec Ideal S2048x1536 .bf16) : out0_2 (F := Ideal) x y = k0_pay1 (F := Ideal) x y := by
  unfold out0_2
  rw [View.canon_unit_zero, View.ld_unit_zero (S := S768x2048), View.ld_unit_zero (S := S2048x1536)] <;> (funext a; fin_cases a <;> rfl)

theorem place (r : Fin 768) (s : Fin 1536) : ((cfg0.win 2).blk t).view.emb (ix2 r s) = ix2 (row t r) (col t s) := by
  funext a
  match a with
  | ⟨0, _⟩ => exact Fin.ext (by show win0_2.index t (0 : Fin 2) * 768 + 1 * r.val = 768 * (t.val / 4) + r.val; rw [idx2]; show t.val / 4 * 768 + 1 * r.val = _; omega)
  | ⟨1, _⟩ => exact Fin.ext (by show win0_2.index t (1 : Fin 2) * 1536 + 1 * s.val = 1536 * (t.val % 4) + s.val; rw [idx2]; show t.val % 4 * 1536 + 1 * s.val = _; omega)

/-- The call leaves the product of its operands. -/
theorem final : (dat0 V c).arrAt 2 cfg0.N = rowsCols (φ := .bf16) (a := 2304) (n := 2048) (b := 6144) .f32 (V c main_v5) (V c main_v4) := by
  refine (dat0 V c).arrAt_eq_of_covers 2 _ (by decide +kernel) fun t _ y => ?_
  idx_vars y
  refine Eq.trans ?_ (congrArg (rowsCols (φ := .bf16) (a := 2304) (n := 2048) (b := 6144) .f32 (V c main_v5) (V c main_v4)) (place t y0 y1).symm)
  show (dat0 V c).after 2 t (ix2 y0 y1) = _
  rw [after0_2, body]
  refine (pay_at _ _ y0 y1).trans (Finset.sum_congr rfl fun k _ => ?_)
  exact congrArg₂ (· * ·) (blk0 V c t y0 k) (blk1 V c t k y1)

end In

/-! ## The weights' gradient: columns of the input by columns of the cotangent -/

namespace InW

theorem idx0 : ∀ t : Fin grid1.N, win1_0.index t = ![0, t.val / 4] := by decide +kernel
theorem idx1 : ∀ t : Fin grid1.N, win1_1.index t = ![0, t.val % 4] := by decide +kernel
theorem idx2 : ∀ t : Fin grid1.N, win1_2.index t = ![t.val / 4, t.val % 4] := by decide +kernel

theorem pay_at (x : FVec Ideal S2304x1024 .bf16) (y : FVec Ideal S2304x1536 .bf16) (r : Fin 1024) (s : Fin 1536) :
    k1_pay1 (F := Ideal) x y (ix2 r s) = ∑ k : Fin 2304, x (ix2 k r) * y (ix2 k s) := by
  pointwise [k1_pay1]

variable (t : Fin cfg1.N)

theorem lt8 : t.val < 8 := t.isLt

def row (r : Fin 1024) : Fin 2048 := ⟨1024 * (t.val / 4) + r.val, by have := lt8 t; have := r.isLt; omega⟩
def col (s : Fin 1536) : Fin 6144 := ⟨1536 * (t.val % 4) + s.val, by have := s.isLt; omega⟩

theorem blk0 (k : Fin 2304) (r : Fin 1024) : iblk1 V c 0 t (ix2 k r) = V c main_v7 (ix2 k (row t r)) := by
  blk_ext [iblk1, idx0 t, row]
theorem blk1 (k : Fin 2304) (s : Fin 1536) : iblk1 V c 1 t (ix2 k s) = V c main_v8 (ix2 k (col t s)) := by
  blk_ext [iblk1, idx1 t, col]

theorem body (x : FVec Ideal S2304x1024 .bf16) (y : FVec Ideal S2304x1536 .bf16) : out1_2 (F := Ideal) x y = k1_pay1 (F := Ideal) x y := by
  unfold out1_2
  rw [View.canon_unit_zero, View.ld_unit_zero (S := S2304x1024), View.ld_unit_zero (S := S2304x1536)] <;> (funext a; fin_cases a <;> rfl)

theorem place (r : Fin 1024) (s : Fin 1536) : ((cfg1.win 2).blk t).view.emb (ix2 r s) = ix2 (row t r) (col t s) := by
  funext a
  match a with
  | ⟨0, _⟩ => exact Fin.ext (by show win1_2.index t (0 : Fin 2) * 1024 + 1 * r.val = 1024 * (t.val / 4) + r.val; rw [idx2]; show t.val / 4 * 1024 + 1 * r.val = _; omega)
  | ⟨1, _⟩ => exact Fin.ext (by show win1_2.index t (1 : Fin 2) * 1536 + 1 * s.val = 1536 * (t.val % 4) + s.val; rw [idx2]; show t.val % 4 * 1536 + 1 * s.val = _; omega)

/-- The call leaves the product of its operands. -/
theorem final : (dat1 V c).arrAt 2 cfg1.N = colsCols (φ := .bf16) (a := 2048) (n := 2304) (b := 6144) .bf16 (V c main_v7) (V c main_v8) := by
  refine (dat1 V c).arrAt_eq_of_covers 2 _ (by decide +kernel) fun t _ y => ?_
  idx_vars y
  refine Eq.trans ?_ (congrArg (colsCols (φ := .bf16) (a := 2048) (n := 2304) (b := 6144) .bf16 (V c main_v7) (V c main_v8)) (place t y0 y1).symm)
  show (dat1 V c).after 2 t (ix2 y0 y1) = _
  rw [after1_2, body]
  refine (pay_at _ _ y0 y1).trans (Finset.sum_congr rfl fun k _ => ?_)
  exact congrArg₂ (· * ·) (blk0 V c t k y0) (blk1 V c t k y1)

end InW

end Cert.Projection

end
-- ==== Proof.Gap.lean ====
/- Columns with a gap: 5824 columns spread over 6144, the first 1728 kept in place and the rest moved up by 320, and the
   products of matrices whose columns are spread. -/
module

public import proofs.«01_k».proof.Proof.Products
public import Idealize.ShloMosaic.Lib.Pipeline.ValueKit

@[expose] public section

noncomputable section

namespace Cert.Gap

open Cert.Products Idealize.ShloMosaic

variable {φ ψ : FTy} {a b n : ℕ}

/-- Where a column goes. -/
def up (k : Fin 5824) : Fin 6144 := if k.val < 1728 then ⟨k.val, by omega⟩ else ⟨k.val + 320, by omega⟩

/-- The columns spread, with zeros in the gap. -/
def spread (ψ : FTy) (x : FVec Ideal ⟨2, ![a, 5824]⟩ φ) : FVec Ideal ⟨2, ![a, 6144]⟩ ψ := fun i =>
  if h : (i 1).val < 1728 then (x (ix2 (i 0) ⟨(i 1).val, by omega⟩) : EReal)
  else if h' : (i 1).val < 2048 then (0 : EReal)
  else x (ix2 (i 0) ⟨(i 1).val - 320, by have h1 : (i 1).val < 6144 := (i 1).isLt; omega⟩)

/-- The columns outside the gap. -/
def kept (ψ : FTy) (x : FVec Ideal ⟨2, ![a, 6144]⟩ φ) : FVec Ideal ⟨2, ![a, 5824]⟩ ψ := fun i => (x (ix2 (i 0) (up (i 1))) : EReal)

theorem spread_up (x : FVec Ideal ⟨2, ![a, 5824]⟩ φ) (r : Fin a) (k : Fin 5824) : spread ψ x (ix2 r (up k)) = x (ix2 r k) := by
  have hk := k.isLt
  unfold up
  by_cases h : k.val < 1728
  · rw [if_pos h]
    exact dif_pos h
  · rw [if_neg h]
    refine (dif_neg (show ¬ k.val + 320 < 1728 by omega)).trans ((dif_neg (show ¬ k.val + 320 < 2048 by omega)).trans ?_)
    exact congrArg (fun j => x (ix2 r j)) (Fin.ext (Nat.add_sub_cancel _ _))

theorem spread_gap (x : FVec Ideal ⟨2, ![a, 5824]⟩ φ) (r : Fin a) (k : Fin 6144) (h : 1728 ≤ k.val) (h' : k.val < 2048) :
    spread ψ x (ix2 r k) = (0 : EReal) :=
  (dif_neg (show ¬ k.val < 1728 by omega)).trans (dif_pos h')

/-- A column is in the gap, or is some column's place. -/
theorem cases (k : Fin 6144) : (1728 ≤ k.val ∧ k.val < 2048) ∨ ∃ j, k = up j := by
  have hk := k.isLt
  by_cases h : k.val < 1728
  · exact .inr ⟨⟨k.val, by omega⟩, by unfold up; rw [if_pos h]⟩
  · by_cases h' : k.val < 2048
    · exact .inl ⟨by omega, h'⟩
    · refine .inr ⟨⟨k.val - 320, by omega⟩, ?_⟩
      unfold up
      rw [if_neg (show ¬ k.val - 320 < 1728 by omega)]
      exact Fin.ext (show k.val = k.val - 320 + 320 by omega)

/-- A sum over all columns, zero in the gap, is the sum over the columns spread. -/
theorem sum_up (f : Fin 6144 → EReal) (hf : ∀ k : Fin 6144, 1728 ≤ k.val → k.val < 2048 → f k = 0) :
    ∑ k, f k = ∑ k : Fin 5824, f (up k) := by
  have inj : Function.Injective up := fun i j e => by
    have e := congrArg Fin.val e
    unfold up at e
    by_cases hi : i.val < 1728 <;> by_cases hj : j.val < 1728 <;> simp only [hi, hj, if_true, if_false] at e <;>
      exact Fin.ext (by omega)
  rw [← Finset.sum_image (s := Finset.univ) (g := up) (f := f) fun i _ j _ e => inj e]
  refine (Finset.sum_subset (Finset.subset_univ _) fun k _ hk => ?_).symm
  rcases cases k with h | ⟨j, rfl⟩
  · exact hf k h.1 h.2
  · exact absurd (Finset.mem_image_of_mem _ (Finset.mem_univ j)) hk

/-- An index is its two coordinates. -/
theorem split (i : (⟨2, ![a, b]⟩ : Shape).Idx) : ∃ (r : Fin a) (s : Fin b), i = ix2 r s :=
  ⟨i 0, i 1, funext fun e => match e with | ⟨0, _⟩ => rfl | ⟨1, _⟩ => rfl⟩

/-- A product by spread columns is the product, spread. -/
theorem rowsCols_spread (x : FVec Ideal ⟨2, ![a, n]⟩ φ) (w : FVec Ideal ⟨2, ![n, 5824]⟩ φ) :
    rowsCols ψ x (spread φ w) = spread ψ (rowsCols ψ x w) := by
  funext i
  obtain ⟨i0, i1, rfl⟩ := split i
  rcases cases i1 with h | ⟨j, rfl⟩
  · rw [spread_gap _ _ _ h.1 h.2]
    show ∑ k : Fin n, (x (ix2 i0 k) : EReal) * spread φ w (ix2 k i1) = 0
    refine Finset.sum_eq_zero fun k _ => ?_
    rw [spread_gap _ _ _ h.1 h.2, mul_zero]
  · rw [spread_up]
    show ∑ k : Fin n, (x (ix2 i0 k) : EReal) * spread φ w (ix2 k (up j)) = ∑ k : Fin n, (x (ix2 i0 k) : EReal) * w (ix2 k j)
    refine Finset.sum_congr rfl fun k _ => ?_
    rw [spread_up]

/-- A product of rows by spread rows is the product of the columns kept. -/
theorem rowsRows_spread (x : FVec Ideal ⟨2, ![a, 6144]⟩ φ) (w : FVec Ideal ⟨2, ![b, 5824]⟩ φ) :
    rowsRows ψ x (spread φ w) = rowsRows ψ (kept φ x) w := by
  funext i
  obtain ⟨i0, i1, rfl⟩ := split i
  show ∑ k : Fin 6144, (x (ix2 i0 k) : EReal) * spread φ w (ix2 i1 k) = ∑ k : Fin 5824, (x (ix2 i0 (up k)) : EReal) * w (ix2 i1 k)
  rw [sum_up _ fun k h h' => by rw [spread_gap _ _ _ h h', mul_zero]]
  refine Finset.sum_congr rfl fun k _ => ?_
  rw [spread_up]

end Cert.Gap

end
-- ==== Proof.ProjChain.lean ====
/- The first projection: the contents its two calls leave, followed from the last host operation back to the arguments. -/
module

public import proofs.«01_k».proof.Proof.ProjRun
public import proofs.«01_k».proof.Proof.ProjProducts
public import proofs.«01_k».proof.Proof.Gap
public import Idealize.ShloMosaic.Lib.IdealHost

@[expose] public section

set_option maxRecDepth 16384

noncomputable section

namespace Cert.Projection

open Cert.ProjIdeal Cert.ProjIdeal.Gen Cert.Products Cert.Gap Idealize.ShloMosaic Idealize.ShloMosaic.TcCoe Idealize.SL.Sem

/-- An array rounded to the calls' operand type. -/
def low {S : Shape} (x : FVec Ideal S .f32) : FVec Ideal S .bf16 := truncf .bf16 x bitsLt_bf16_f32

/-- The weights' columns with the gap, as the host code joins them. -/
def joined (w : FVec Ideal S2048x5824 .bf16) : FVec Ideal S2048x6144 .bf16 :=
  concatenate S2048x6144 1 [⟨S2048x1728, extractStridedSlice S2048x1728 ![0, 0] w slices_S2048x5824_S2048x1728_0_0⟩,
    ⟨S2048x320, broadcastInDim S2048x320 ![] bcast_S_S2048x320 (constant (F := Ideal) S_ .bf16 0x0000#16)⟩,
    ⟨S2048x4096, extractStridedSlice S2048x4096 ![0, 1728] w slices_S2048x5824_S2048x4096_0_1728⟩]
    concatenates_S2048x1728_S2048x320_S2048x4096_S2048x6144_d1

/-- The two column ranges of the weights' gradient, joined. -/
def rejoined (w : FVec Ideal S2048x6144 .bf16) : FVec Ideal S2048x5824 .bf16 :=
  concatenate S2048x5824 1 [⟨S2048x1728, extractStridedSlice S2048x1728 ![0, 0] w slices_S2048x6144_S2048x1728_0_0⟩,
    ⟨S2048x4096, extractStridedSlice S2048x4096 ![0, 2048] w slices_S2048x6144_S2048x4096_0_2048⟩]
    concatenates_S2048x1728_S2048x4096_S2048x5824_d1

theorem joined_eq (w : FVec Ideal S2048x5824 .bf16) : joined w = spread .bf16 w := by
  funext i
  idx_vars i
  unfold spread
  pointwise [joined]
  by_cases h : i1.val < 1728
  · rw [dif_pos h, dif_pos h]
  · rw [dif_neg h, dif_neg h]
    by_cases h' : i1.val < 2048
    · rw [dif_pos (show i1.val - 1728 < 320 by omega), dif_pos h']
    · rw [dif_neg (show ¬ i1.val - 1728 < 320 by omega), dif_neg h']
      exact congrArg (fun j => w (ix2 i0 j)) (Fin.ext (show 1728 + (i1.val - 1728 - 320) = i1.val - 320 by omega))

theorem rejoined_eq (w : FVec Ideal S2048x6144 .bf16) : rejoined w = kept .bf16 w := by
  funext i
  idx_vars i
  unfold kept up
  pointwise [rejoined]
  by_cases h : i1.val < 1728
  · rw [dif_pos h, if_pos h]
  · rw [dif_neg h, if_neg h]
    exact congrArg (fun j => w (ix2 i0 j)) (Fin.ext (show 2048 + (i1.val - 1728) = i1.val + 320 by omega))

/-! ## The two results, from the arguments -/

/-- The projection, with the gap among its columns. -/
def resH (x : FVec Ideal S2304x2048 .f32) (w : FVec Ideal S2048x5824 .f32) : FVec Ideal S2304x6144 .f32 :=
  spread .f32 (rowsCols (φ := .bf16) (a := 2304) (n := 2048) (b := 5824) .f32 (low x) (low w))
/-- The weights' gradient. -/
def resW (x : FVec Ideal S2304x2048 .f32) (d : FVec Ideal S2304x6144 .f32) : FVec Ideal S2048x5824 .bf16 :=
  colsCols (φ := .bf16) (a := 2048) (n := 2304) (b := 5824) .bf16 (low x) (kept .bf16 d)

variable (m : (ℓ : Loc nD τ sig) → Buf (Elt Ideal) ℓ) (ρ : Dev nD → PrngReg) (c : Dev nD)

/-- The arguments. -/
def aX : FVec Ideal S2304x2048 .f32 := m ((c : Thread nD τ).loc main_arg0)
def aW : FVec Ideal S2048x5824 .f32 := m ((c : Thread nD τ).loc main_arg1)
def aD : FVec Ideal S2304x6144 .f32 := m ((c : Thread nD τ).loc main_arg2)

theorem V1_v5 : V1 m ρ c main_v5 = low (aX m c) := by
  simp only [V1, W1, hostOps0]
  entry_read
  rfl
theorem V1_v4 : V1 m ρ c main_v4 = joined (low (aW m c)) := by
  show StableHlo.after _ _ (Proc.devRef .tc main_v4) = _
  unfold hostOps0
  after_results <;> rfl
theorem V3_v7 : V3 m ρ c main_v7 = low (aX m c) := by
  have e := W2_args m ρ c main_arg0 (by decide)
  simp only [V3, W3, hostOps1]
  generalize W2 m ρ c = W at e ⊢
  entry_read
  exact congrArg low e
theorem V3_v8 : V3 m ρ c main_v8 = low (aD m c) := by
  have e := W2_args m ρ c main_arg2 (by decide)
  simp only [V3, W3, hostOps1]
  generalize W2 m ρ c = W at e ⊢
  entry_read
  exact congrArg low e

theorem W2_h : W2 m ρ c (Proc.devRef .tc main_v6) = resH (aX m c) (aW m c) := by
  refine ((W2_arr m ρ c 2).trans (In.final (V1 m ρ) c)).trans ((congrArg₂ (rowsCols .f32) (V1_v5 m ρ c) (V1_v4 m ρ c)).trans ?_)
  rw [joined_eq]
  exact rowsCols_spread (ψ := .f32) (low (aX m c)) (low (aW m c))
theorem W4_w : W4 m ρ c (Proc.devRef .tc main_v9)
    = colsCols (φ := .bf16) (a := 2048) (n := 2304) (b := 6144) .bf16 (low (aX m c)) (low (aD m c)) :=
  ((W4_arr m ρ c 2).trans (InW.final (V3 m ρ) c)).trans (congrArg₂ (colsCols .bf16) (V3_v7 m ρ c) (V3_v8 m ρ c))

/-! ## The results after the last host operation -/

theorem final_h : W5 m ρ c (Proc.devRef .tc main_v6) = resH (aX m c) (aW m c) :=
  (W5_of m ρ c main_v6 (by decide)).trans ((W4_of m ρ c main_v6 (by decide)).trans ((W3_of m ρ c main_v6 (by decide)).trans (W2_h m ρ c)))
theorem final_w : W5 m ρ c (Proc.devRef .tc main_v12) = resW (aX m c) (aD m c) := by
  have e := W4_w m ρ c
  simp only [W5, hostOps2]
  generalize W4 m ρ c = W at e ⊢
  entry_read
  exact (congrArg rejoined e).trans (rejoined_eq _)

end Cert.Projection

end
-- ==== Proof.ProjEquation.lean ====
/- The first projection, its weights' gradient and their reference are the same arrays. -/
module

public import proofs.«01_k».proof.Defs
public import proofs.«01_k».proof.Proof.ProjChain
public import proofs.«01_k».proof.Proof.Gen.ProjReferenceIdeal.Run
public import proofs.«01_k».proof.Proof.Gen.ProjReferenceIdeal.Read

@[expose] public section

set_option maxRecDepth 16384

noncomputable section

namespace Cert.Projection

open Cert.ProjIdeal Cert.ProjReferenceIdeal.Read Cert.Products Cert.Gap Idealize.ShloMosaic Idealize.SL.Sem

attribute [local instance] Cert.ProjIdeal.Gen.facts Cert.ProjReferenceIdeal.Gen.facts

variable (x : FVec Ideal S2304x2048 .f32) (w : FVec Ideal S2048x5824 .f32) (d : FVec Ideal S2304x6144 .f32)

/-- The reference's plain product. -/
theorem ref_dot : val_main_v0 (F := Ideal) x w = rowsCols (φ := .bf16) (a := 2304) (n := 2048) (b := 5824) .f32 (low x) (low w) := by
  funext i
  rw [val_main_v0_apply]
  show _ = ∑ k : Fin 2048, low x (ix2 (i 0) k) * low w (ix2 k (i 1))
  refine Finset.sum_congr rfl fun k _ => congrArg₂ (· * ·) (congrArg x ?_) (congrArg w ?_) <;>
    · funext a
      match a with
      | ⟨0, _⟩ => rfl
      | ⟨1, _⟩ => rfl

/-- The reference joins zeros into the gap. -/
theorem ref_h : val_main_v4 (F := Ideal) x w = resH x w := by
  unfold resH
  rw [← ref_dot]
  unfold val_main_v4 val_main_v2 val_main_v3 val_main_v1 val_main_cst
  generalize val_main_v0 (F := Ideal) x w = y
  funext i
  idx_vars i
  unfold spread
  pointwise
  by_cases h : i1.val < 1728
  · rw [dif_pos h, dif_pos h]
  · rw [dif_neg h, dif_neg h]
    by_cases h' : i1.val < 2048
    · rw [dif_pos (show i1.val - 1728 < 320 by omega), dif_pos h']
    · rw [dif_neg (show ¬ i1.val - 1728 < 320 by omega), dif_neg h']
      exact congrArg (fun j => y (ix2 i0 j)) (Fin.ext (show 1728 + (i1.val - 1728 - 320) = i1.val - 320 by omega))

/-- The reference's cotangent is the columns kept. -/
theorem ref_kept : val_main_v7 (F := Ideal) d = kept .f32 d := by
  unfold val_main_v7 val_main_v5 val_main_v6
  funext i
  idx_vars i
  unfold kept up
  pointwise
  by_cases h : i1.val < 1728
  · rw [dif_pos h, if_pos h]
  · rw [dif_neg h, if_neg h]
    exact congrArg (fun j => d (ix2 i0 j)) (Fin.ext (show 2048 + (i1.val - 1728) = i1.val + 320 by omega))

theorem ref_w : val_main_v10 (F := Ideal) x d = resW x d := by
  funext i
  refine (val_main_v10_apply (F := Ideal) x d i).trans (Eq.trans (b := val_main_v9 (F := Ideal) x d i) rfl ?_)
  rw [val_main_v9_apply, val_main_v8_apply, ref_kept]
  show _ = ∑ k : Fin 2304, low x (ix2 k (i 0)) * kept .bf16 d (ix2 k (i 1))
  refine Finset.sum_congr rfl fun k _ => (mul_comm _ _).trans (congrArg₂ (· * ·) (congrArg x ?_) (congrArg (kept .f32 d) ?_)) <;>
    · funext a
      match a with
      | ⟨0, _⟩ => rfl
      | ⟨1, _⟩ => rfl

/-- The kernel's run and the reference's run leave the same two arrays. -/
theorem equation : algebraic_ProjIdeal_ProjReferenceIdeal := by
  intro m ρ m' ρ' _ hargs
  refine ⟨fun c => resH (aX m c) (aW m c), fun c => resW (aX m c) (aD m c),
    (θ_run _ _ _).mono (fun r h c => ⟨(h c).1.trans (final_h m ρ c), (h c).2.1.trans (final_w m ρ c), (h c).2.2⟩) (run m ρ),
    (θ_run _ _ _).mono (fun r h c => ⟨(h c).1.trans ?_, (h c).2.1.trans ?_, (h c).2.2⟩) (Cert.ProjReferenceIdeal.Value.run m' ρ')⟩
  · obtain ⟨e0, e1, e2⟩ := hargs c
    rw [val_main_v4_eq, e0, e1]
    exact ref_h _ _
  · obtain ⟨e0, e1, e2⟩ := hargs c
    rw [val_main_v10_eq, e0, e2]
    exact ref_w _ _

end Cert.Projection

end
-- ==== Proof.Accumulate.lean ====
/- Sums accumulated over the steps of an inner dimension: a run of grid points that starts from the first step's share and
   adds one further step's share at every point ends with the sum over the whole inner dimension. -/
module

public import proofs.«01_k».proof.Proof.Products
public import Idealize.ShloMosaic.Lib.Pipeline.ValueKit

@[expose] public section

noncomputable section

namespace Cert.Accumulate

open Cert.Products Idealize.ShloMosaic

variable {N J w : ℕ} [NeZero J] {ι : Type}

/-- The place of a step's column in the whole inner dimension. -/
def mid (J w : ℕ) [NeZero J] (t : ℕ) (k : Fin w) : Fin (J * w) :=
  ⟨(t % J) * w + k.val, by
    have h := Nat.mod_lt t (Nat.pos_of_ne_zero (NeZero.ne J))
    have hk := k.isLt
    calc (t % J) * w + k.val < (t % J) * w + w := by omega
      _ = (t % J + 1) * w := by ring
      _ ≤ J * w := Nat.mul_le_mul_right w h⟩

/-- After a run's last point the accumulator holds the whole sum. `f t i k` is the summand at point `t`, entry `i` and inner
    column `k`; it is the same at all points of a run. -/
theorem whole (acc : (n : ℕ) → n < N → ι → EReal) (f : Fin N → ι → Fin (J * w) → EReal)
    (same : ∀ s t : Fin N, s.val / J = t.val / J → f s = f t)
    (start : ∀ t : Fin N, t.val % J = 0 → ∀ i, acc t.val t.isLt i = ∑ k : Fin w, f t i (mid J w t.val k))
    (step : ∀ t : Fin N, ¬t.val % J = 0 → ∀ i, acc t.val t.isLt i
      = acc (t.val - 1) (Nat.lt_of_le_of_lt (Nat.sub_le _ _) t.isLt) i + ∑ k : Fin w, f t i (mid J w t.val k))
    (t : Fin N) (ht : t.val % J = J - 1) (i : ι) : acc t.val t.isLt i = ∑ k, f t i k := by
  have hJ : 0 < J := Nat.pos_of_ne_zero (NeZero.ne J)
  rw [Pipeline.eq_sum_fin_of_reset_step_apply_of_flush acc J (fun _ => 0) (fun t i => ∑ k : Fin w, f t i (mid J w t.val k))
    (fun t h i => (start t h i).trans (zero_add _).symm) step t ht i, zero_add]
  refine Eq.trans (Finset.sum_congr rfl fun p _ => ?_) (Fin.sum_mul_add_fin J w (f t i))
  have hp := p.isLt
  refine Finset.sum_congr rfl fun k _ => ?_
  rw [same ⟨J * (t.val / J) + p.val, Pipeline.run_point_lt_of_flush (J := J) t ht p⟩ t
    (by show (J * (t.val / J) + p.val) / J = _; rw [Nat.mul_add_div hJ, Nat.div_eq_of_lt hp, Nat.add_zero])]
  refine congrArg (f t i) (Fin.ext ?_)
  show (J * (t.val / J) + p.val) % J * w + k.val = p.val * w + k.val
  rw [Nat.mul_add_mod, Nat.mod_eq_of_lt hp]

/-! ## A product of 2048 rows by 1024 rows, in two tiles of eight steps -/

/-- The tile's row in the whole array. -/
def row (t : Fin 16) (r : Fin 1024) : Fin 2048 := ⟨1024 * (t.val / 8) + r.val, by have := t.isLt; have := r.isLt; omega⟩

variable {φ χ ψ : FTy}

/-- After a tile's last point the accumulator holds the tile's part of the product. `x t` and `y t` are the blocks a point
    reads of the factors `l` and `q`. -/
theorem tall (acc : (n : ℕ) → n < 16 → FVec Ideal ⟨2, ![1024, 1024]⟩ ψ)
    (x : Fin 16 → FVec Ideal ⟨2, ![1024, w]⟩ χ) (y : Fin 16 → FVec Ideal ⟨3, ![1, 1024, w]⟩ χ)
    (l : FVec Ideal ⟨2, ![2048, 8 * w]⟩ φ) (q : FVec Ideal ⟨2, ![1024, 8 * w]⟩ φ)
    (hx : ∀ t r k, (x t (ix2 r k) : EReal) = l (ix2 (row t r) (mid 8 w t.val k)))
    (hy : ∀ t s k, (y t (ix3 0 s k) : EReal) = q (ix2 s (mid 8 w t.val k)))
    (first : ∀ t : Fin 16, t.val % 8 = 0 → ∀ r s,
      (acc t.val t.isLt (ix2 r s) : EReal) = ∑ k : Fin w, (x t (ix2 r k) : EReal) * y t (ix3 0 s k))
    (next : ∀ t : Fin 16, ¬t.val % 8 = 0 → ∀ r s, (acc t.val t.isLt (ix2 r s) : EReal)
      = (acc (t.val - 1) (Nat.lt_of_le_of_lt (Nat.sub_le _ _) t.isLt) (ix2 r s) : EReal) + ∑ k : Fin w, (x t (ix2 r k) : EReal) * y t (ix3 0 s k))
    (t : Fin 16) (ht : t.val % 8 = 7) (r s : Fin 1024) :
    (acc t.val t.isLt (ix2 r s) : EReal) = rowsRows (a := 2048) (n := 8 * w) (b := 1024) ψ l q (ix2 (row t r) s) := by
  have e : ∀ t r s, ∑ k : Fin w, (x t (ix2 r k) : EReal) * y t (ix3 0 s k)
      = ∑ k : Fin w, (l (ix2 (row t r) (mid 8 w t.val k)) : EReal) * q (ix2 s (mid 8 w t.val k)) :=
    fun t r s => Finset.sum_congr rfl fun k _ => congrArg₂ (· * ·) (hx t r k) (hy t s k)
  refine whole (J := 8) (w := w) (ι := Fin 1024 × Fin 1024) (fun n h i => acc n h (ix2 i.1 i.2))
    (fun t i k => (l (ix2 (row t i.1) k) : EReal) * q (ix2 i.2 k)) (fun s t h => ?_)
    (fun t h i => (first t h i.1 i.2).trans (e t i.1 i.2))
    (fun t h i => (next t h i.1 i.2).trans (congrArg _ (e t i.1 i.2))) t ht (r, s)
  have e0 : row s = row t := funext fun r => Fin.ext (by show 1024 * (s.val / 8) + r.val = 1024 * (t.val / 8) + r.val; omega)
  rw [e0]

end Cert.Accumulate

end
-- ==== Proof.ProjX.lean ====
/- The gradient of the first projection's input: over the three column ranges of the weights the six tiles of the result
   add up to the whole product. -/
module

public import proofs.«01_k».proof.Proof.Gen.ProjXIdeal.Value
public import proofs.«01_k».proof.Proof.ProjChain
public import proofs.«01_k».proof.Proof.Accumulate
public import Idealize.ShloMosaic.Lib.Pipeline.ReadBack

@[expose] public section

set_option maxRecDepth 16384

noncomputable section

namespace Cert.ProjectionX

open Cert.ProjXIdeal Cert.ProjXIdeal.Gen Cert.Products Cert.Accumulate Idealize.ShloMosaic Idealize.ShloMosaic.TcCoe Idealize.SL.Sem

theorem idx0 : ∀ t : Fin grid0.N, win0_0.index t = ![t.val / 6, t.val % 3] := by decide +kernel
theorem idx1 : ∀ t : Fin grid0.N, win0_1.index t = ![t.val / 3 % 2, t.val % 3] := by decide +kernel
theorem idx2 : ∀ t : Fin grid0.N, win0_2.index t = ![t.val / 6, t.val / 3 % 2] := by decide +kernel

/-! ## The body's two cases -/

section Body
variable {F : FTy → Type} [FloatOps F] (m : (ℓ : Loc nD τ sig) → Buf (Elt F) ℓ) (c : Dev nD) (t : Fin cfg0.N)

theorem body_A (h0 : t.val % 3 = 0) : outsAt0 m c t.val t.isLt = k0_pay1 (iblk m c 0 t) (iblk m c 1 t) := by
  rw [outsAt0_A m c t h0 (by omega)]
  frame_out

theorem body_B (h0 : ¬t.val % 3 = 0) : outsAt0 m c t.val t.isLt
    = k0_pay2 (iblk m c 0 t) (iblk m c 1 t) (outsAt0 m c (t.val - 1) (Nat.lt_of_le_of_lt (Nat.sub_le _ _) t.isLt)) := by
  rw [outsAt0_B m c t h0 (by omega)]
  generalize outsAt0 m c (t.val - 1) (Nat.lt_of_le_of_lt (Nat.sub_le _ _) t.isLt) = acc
  frame_out

end Body

theorem pay1_at (x : FVec Ideal S768x2048 .bf16) (y : FVec Ideal S1024x2048 .bf16) (r : Fin 768) (s : Fin 1024) :
    k0_pay1 (F := Ideal) x y (ix2 r s) = ∑ k : Fin 2048, x (ix2 r k) * y (ix2 s k) := by
  pointwise [k0_pay1]

theorem pay2_at (x : FVec Ideal S768x2048 .bf16) (y : FVec Ideal S1024x2048 .bf16) (z : FVec Ideal S768x1024 .f32) (r : Fin 768) (s : Fin 1024) :
    k0_pay2 (F := Ideal) x y z (ix2 r s) = z (ix2 r s) + k0_pay1 (F := Ideal) x y (ix2 r s) := by
  unfold k0_pay2
  generalize k0_pay1 (F := Ideal) x y = w
  pointwise

variable (m : (ℓ : Loc nD τ sig) → Buf (Elt Ideal) ℓ) (c : Dev nD) (t : Fin cfg0.N)

theorem lt18 : t.val < 18 := t.isLt

def row (r : Fin 768) : Fin 2304 := ⟨768 * (t.val / 6) + r.val, by have := lt18 t; have := r.isLt; omega⟩
def col (s : Fin 1024) : Fin 2048 := ⟨1024 * (t.val / 3 % 2) + s.val, by have := s.isLt; omega⟩

/-- The call's operands: the cotangent rounded, and the weights' columns with the gap. -/
def lhs : FVec Ideal S2304x6144 .bf16 := Projection.low (m ((c : Thread nD τ).loc main_arg1))
def rhs : FVec Ideal S2048x6144 .bf16 := Projection.joined (Projection.low (m ((c : Thread nD τ).loc main_arg0)))

theorem host0 : V m c main_v5 = lhs m c := by
  show StableHlo.after _ _ (Proc.devRef .tc main_v5) = _
  simp only [hostOps0, List.flatten_cons, List.flatten_nil, List.append_nil, List.cons_append, List.nil_append]
  after_results <;> rfl

theorem host1 : V m c main_v4 = rhs m c := by
  show StableHlo.after _ _ (Proc.devRef .tc main_v4) = _
  simp only [hostOps0, List.flatten_cons, List.flatten_nil, List.append_nil, List.cons_append, List.nil_append]
  after_results <;> rfl

theorem blk0 (r : Fin 768) (k : Fin 2048) : iblk m c 0 t (ix2 r k) = lhs m c (ix2 (row t r) (mid 3 2048 t.val k)) := by
  have e : iblk m c 0 t (ix2 r k) = V m c main_v5 (ix2 (row t r) (mid 3 2048 t.val k)) := by
    blk_ext [iblk, idx0 t, row, mid]
  exact e.trans (congrFun (host0 m c) _)

theorem blk1 (s : Fin 1024) (k : Fin 2048) : iblk m c 1 t (ix2 s k) = rhs m c (ix2 (col t s) (mid 3 2048 t.val k)) := by
  have e : iblk m c 1 t (ix2 s k) = V m c main_v4 (ix2 (col t s) (mid 3 2048 t.val k)) := by
    blk_ext [iblk, idx1 t, col, mid]
  exact e.trans (congrFun (host1 m c) _)

/-- The product's summand at a point. -/
def term (t : Fin cfg0.N) (i : S768x1024.Idx) (k : Fin (3 * 2048)) : EReal :=
  lhs m c (ix2 (row t (i 0)) k) * rhs m c (ix2 (col t (i 1)) k)

theorem same (s t : Fin cfg0.N) (h : s.val / 3 = t.val / 3) : term m c s = term m c t := by
  have e0 : row s = row t := funext fun r => Fin.ext (by show 768 * (s.val / 6) + r.val = 768 * (t.val / 6) + r.val; omega)
  have e1 : col s = col t := funext fun r => Fin.ext (by show 1024 * (s.val / 3 % 2) + r.val = 1024 * (t.val / 3 % 2) + r.val; omega)
  unfold term
  rw [e0, e1]

theorem share (i : S768x1024.Idx) : k0_pay1 (F := Ideal) (iblk m c 0 t) (iblk m c 1 t) i = ∑ k : Fin 2048, term m c t i (mid 3 2048 t.val k) := by
  idx_vars i
  refine (pay1_at (iblk m c 0 t) (iblk m c 1 t) i0 i1).trans (Finset.sum_congr rfl fun k _ => ?_)
  exact congrArg₂ (· * ·) (blk0 m c t i0 k) (blk1 m c t i1 k)

theorem start (h : t.val % 3 = 0) (i : S768x1024.Idx) : outsAt0 m c t.val t.isLt i = ∑ k : Fin 2048, term m c t i (mid 3 2048 t.val k) := by
  rw [body_A m c t h]
  exact share m c t i

theorem step (h : ¬t.val % 3 = 0) (i : S768x1024.Idx) : outsAt0 m c t.val t.isLt i
    = outsAt0 m c (t.val - 1) (Nat.lt_of_le_of_lt (Nat.sub_le _ _) t.isLt) i + ∑ k : Fin 2048, term m c t i (mid 3 2048 t.val k) := by
  rw [body_B m c t h, ← share m c t i]
  generalize outsAt0 m c (t.val - 1) (Nat.lt_of_le_of_lt (Nat.sub_le _ _) t.isLt) = acc
  idx_vars i
  exact pay2_at _ _ _ _ _

/-- The operands' product, rows by rows. -/
def result : FVec Ideal S2304x2048 .f32 :=
  rowsRows (φ := .bf16) (a := 2304) (n := 6144) (b := 2048) .f32 (lhs m c) (rhs m c)

/-- After the last point of a tile the tile is the product's. -/
theorem block (ht : t.val % 3 = 2) (r : Fin 768) (s : Fin 1024) :
    outsAt0 m c t.val t.isLt (ix2 r s) = result m c (ix2 (row t r) (col t s)) :=
  whole (J := 3) (w := 2048) (fun n h => outsAt0 m c n h) (term m c) (same m c) (fun t h i => start m c t h i)
    (fun t h i => step m c t h i) t ht (ix2 r s)

/-! ## The result's array -/

theorem place (r : Fin 768) (s : Fin 1024) : ((cfg0.win 2).blk t).view.emb (ix2 r s) = ix2 (row t r) (col t s) := by
  funext a
  match a with
  | ⟨0, _⟩ => exact Fin.ext (by show win0_2.index t (0 : Fin 2) * 768 + 1 * r.val = 768 * (t.val / 6) + r.val; rw [idx2]; show t.val / 6 * 768 + 1 * r.val = _; omega)
  | ⟨1, _⟩ => exact Fin.ext (by show win0_2.index t (1 : Fin 2) * 1024 + 1 * s.val = 1024 * (t.val / 3 % 2) + s.val; rw [idx2]; show t.val / 3 % 2 * 1024 + 1 * s.val = _; omega)

theorem final : (dats m 0 c).arrAt 2 cfg0.N = result m c := by
  refine (dats m 0 c).arrAt_eq_of_cover 2 _ (fun t hf => ?_) (fun i => ?_)
  · have ht := (flush0_2 t).1 hf
    rw [Value.flushed2]
    funext y
    idx_vars y
    exact (block m c t ht y0 y1).trans (congrArg (result m c) (place t y0 y1).symm)
  · have h0 : (i 0).val < 2304 := (i 0).isLt
    have h1 : (i 1).val < 2048 := (i 1).isLt
    let t : Fin cfg0.N := ⟨6 * ((i 0).val / 768) + 3 * ((i 1).val / 1024) + 2, lt_of_lt_of_eq (by omega) N_0.symm⟩
    refine ⟨t, (flush0_2 t).2 (by show (6 * ((i 0).val / 768) + 3 * ((i 1).val / 1024) + 2) % 3 = 2; omega), ?_⟩
    have e : ((cfg0.win 2).blk t).view.emb (ix2 ⟨(i 0).val % 768, by omega⟩ ⟨(i 1).val % 1024, by omega⟩) = i := by
      rw [place]
      funext a
      match a with
      | ⟨0, _⟩ => exact Fin.ext (by show 768 * ((6 * ((i 0).val / 768) + 3 * ((i 1).val / 1024) + 2) / 6) + (i 0).val % 768 = (i 0).val; omega)
      | ⟨1, _⟩ => exact Fin.ext (by show 1024 * ((6 * ((i 0).val / 768) + 3 * ((i 1).val / 1024) + 2) / 3 % 2) + (i 1).val % 1024 = (i 1).val; omega)
    rw [← e]
    exact View.emb_mem_set _ _

end Cert.ProjectionX

end
-- ==== Proof.ProjXEquation.lean ====
/- The gradient of the first projection's input and its reference are the same array. -/
module

public import proofs.«01_k».proof.Defs
public import proofs.«01_k».proof.Proof.ProjX
public import proofs.«01_k».proof.Proof.Gen.ProjXReferenceIdeal.Run
public import proofs.«01_k».proof.Proof.Gen.ProjXReferenceIdeal.Read

@[expose] public section

set_option maxRecDepth 16384

noncomputable section

namespace Cert.ProjectionX

open Cert.ProjXIdeal Cert.ProjXReferenceIdeal.Read Cert.Products Cert.Gap Idealize.ShloMosaic Idealize.SL.Sem

attribute [local instance] Cert.ProjXIdeal.Gen.facts Cert.ProjXReferenceIdeal.Gen.facts

/-- The reference's cotangent is the columns kept. -/
theorem ref_kept (d : FVec Ideal S2304x6144 .f32) : val_main_v4 (F := Ideal) d = kept .f32 d := by
  unfold val_main_v4 val_main_v2 val_main_v3
  funext i
  idx_vars i
  unfold kept up
  pointwise
  by_cases h : i1.val < 1728
  · rw [dif_pos h, if_pos h]
  · rw [dif_neg h, if_neg h]
    exact congrArg (fun j => d (ix2 i0 j)) (Fin.ext (show 2048 + (i1.val - 1728) = i1.val + 320 by omega))

/-- The reference's product is the product by the weights with the gap. -/
theorem reference (w : FVec Ideal S2048x5824 .f32) (d : FVec Ideal S2304x6144 .f32) : val_main_v5 (F := Ideal) w d
    = rowsRows (φ := .bf16) (a := 2304) (n := 6144) (b := 2048) .f32 (Projection.low d) (Projection.joined (Projection.low w)) := by
  refine Eq.trans ?_ ((congrArg (rowsRows (φ := .bf16) (a := 2304) (n := 6144) (b := 2048) .f32 (Projection.low d))
    (Projection.joined_eq (Projection.low w))).trans
    (rowsRows_spread (ψ := .f32) (φ := .bf16) (a := 2304) (b := 2048) (Projection.low d) (Projection.low w))).symm
  funext i
  rw [val_main_v5_apply, ref_kept]
  show _ = ∑ k : Fin 5824, kept .bf16 (Projection.low d) (ix2 (i 0) k) * Projection.low w (ix2 (i 1) k)
  refine Finset.sum_congr rfl fun k _ => congrArg₂ (· * ·) (congrArg (kept .f32 d) ?_) (congrArg w ?_) <;>
    · funext a
      match a with
      | ⟨0, _⟩ => rfl
      | ⟨1, _⟩ => rfl

/-- The kernel's run and the reference's run leave the same array. -/
theorem equation : algebraic_ProjXIdeal_ProjXReferenceIdeal := by
  intro m g m' g' _ hargs
  refine ⟨fun c => result m c,
    (θ_run _ _ _).mono (fun r h c => ⟨(h c).1.trans (final m c), (h c).2⟩) (Cert.ProjXIdeal.Value.run_blocks m g),
    (θ_run _ _ _).mono (fun r h c => ⟨(h c).1.trans ?_, (h c).2⟩) (Cert.ProjXReferenceIdeal.Value.run m' g')⟩
  obtain ⟨e0, e1⟩ := hargs c
  rw [val_main_v5_eq, e0, e1]
  exact reference _ _

end Cert.ProjectionX

end
-- ==== Proof.GluX.lean ====
/- The gradient of the gelu branch's input: over the eight column blocks of the weights the scratch adds up to the whole
   product of its tile, which the last block's point rounds into the result. -/
module

public import proofs.«01_k».proof.Proof.Gen.GluXIdeal.Value
public import proofs.«01_k».proof.Proof.Products
public import proofs.«01_k».proof.Proof.Accumulate
public import Idealize.ShloMosaic.Lib.Pipeline.ReadBack

@[expose] public section

set_option maxRecDepth 16384

noncomputable section

namespace Cert.GluGradient

open Cert.GluXIdeal Cert.GluXIdeal.Gen Cert.Products Cert.Accumulate Idealize.ShloMosaic Idealize.ShloMosaic.TcCoe Idealize.SL.Sem

theorem idx0 : ∀ t : Fin grid0.N, win0_0.index t = ![t.val / 8, t.val % 8] := by decide +kernel
theorem idx1 : ∀ t : Fin grid0.N, win0_1.index t = ![t.val % 8, 0, 0] := by decide +kernel
theorem idx2 : ∀ t : Fin grid0.N, win0_2.index t = ![t.val / 8, 0] := by decide +kernel

/-! ## The body's cases -/

section Body
variable {F : FTy → Type} [FloatOps F] (m : (ℓ : Loc nD τ sig) → Buf (Elt F) ℓ) (c : Dev nD) (t : Fin cfg0.N)

/-- What the scratch holds after a point. -/
def acc (n : ℕ) (h : n < cfg0.N) : FVec F S1024x1024 .f32 := (outsAt0 m c n h).2

theorem first (h0 : t.val % 8 = 0) : acc m c t.val t.isLt = k0_pay2 (iblk m c 0 t) (iblk m c 1 t) := by
  unfold acc
  rw [outsAt0_A m c t h0 (by omega) (by omega)]
  frame_out

theorem next (h0 : ¬t.val % 8 = 0) : acc m c t.val t.isLt
    = k0_pay3 (iblk m c 0 t) (iblk m c 1 t) (acc m c (t.val - 1) (Nat.lt_of_le_of_lt (Nat.sub_le _ _) t.isLt)) := by
  unfold acc
  by_cases h2 : t.val % 8 = 7
  · rw [outsAt0_C m c t h0 (by omega) h2]
    generalize outsAt0 m c (t.val - 1) (Nat.lt_of_le_of_lt (Nat.sub_le _ _) t.isLt) = z
    frame_out
    rw [read_unread_whole]
  · rw [outsAt0_B m c t h0 (by omega) h2]
    generalize outsAt0 m c (t.val - 1) (Nat.lt_of_le_of_lt (Nat.sub_le _ _) t.isLt) = z
    frame_out
    rw [read_unread_whole]

theorem last (h2 : t.val % 8 = 7) : (outsAt0 m c t.val t.isLt).1 = k0_pay4 (acc m c t.val t.isLt) := by
  rw [next m c t (by omega)]
  unfold acc
  rw [outsAt0_C m c t (by omega) (by omega) h2]
  generalize outsAt0 m c (t.val - 1) (Nat.lt_of_le_of_lt (Nat.sub_le _ _) t.isLt) = z
  frame_out
  rw [read_unread_whole]

end Body

theorem pay1_at (x : FVec Ideal S1024x512 .bf16) (y : FVec Ideal S1x1024x512 .bf16) (r : Fin 1024) (s : Fin 1024) :
    k0_pay1 (F := Ideal) x y (ix2 r s) = ∑ k : Fin 512, x (ix2 r k) * y (ix3 0 s k) := by
  pointwise [k0_pay1]

theorem pay2_at (x : FVec Ideal S1024x512 .bf16) (y : FVec Ideal S1x1024x512 .bf16) (r : Fin 1024) (s : Fin 1024) :
    k0_pay2 (F := Ideal) x y (ix2 r s) = k0_pay1 (F := Ideal) x y (ix2 r s) := by
  unfold k0_pay2
  generalize k0_pay1 (F := Ideal) x y = w
  pointwise

theorem pay3_at (x : FVec Ideal S1024x512 .bf16) (y : FVec Ideal S1x1024x512 .bf16) (z : FVec Ideal S1024x1024 .f32) (r : Fin 1024) (s : Fin 1024) :
    k0_pay3 (F := Ideal) x y z (ix2 r s) = z (ix2 r s) + k0_pay1 (F := Ideal) x y (ix2 r s) := by
  unfold k0_pay3
  generalize k0_pay1 (F := Ideal) x y = w
  pointwise

variable (m : (ℓ : Loc nD τ sig) → Buf (Elt Ideal) ℓ) (c : Dev nD) (t : Fin cfg0.N)

/-- The factors. -/
def lhs : FVec Ideal S2048x4096 .f32 := m ((c : Thread nD τ).loc main_arg1)
def rhs : FVec Ideal S1024x4096 .f32 := m ((c : Thread nD τ).loc main_arg0)

/-- The weights by column blocks. -/
def slots (w : FVec Ideal S1024x4096 .f32) : FVec Ideal S8x1024x512 .bf16 :=
  truncf .bf16 (transpose S8x1024x512 [1, 0, 2] (shapeCast S1024x8x512 w shapeCasts_S1024x4096_S1024x8x512)
    transposes_S1024x8x512_S8x1024x512_1_0_2) bitsLt_bf16_f32

theorem slots_at (w : FVec Ideal S1024x4096 .f32) (p : Fin 8) (d : Fin 1024) (l : Fin 512) :
    slots w (ix3 p d l) = w (ix2 d ⟨p.val * 512 + l.val, by have := p.isLt; have := l.isLt; omega⟩) := by
  pointwise [slots]

theorem host0 : V m c main_v2 = lhs m c := by
  simp only [V, hostOps0]
  entry_read
  rfl

theorem host1 : V m c main_v3 = slots (rhs m c) := by
  simp only [V, hostOps0]
  entry_read
  rfl

theorem blk0 (r : Fin 1024) (k : Fin 512) : iblk m c 0 t (ix2 r k) = lhs m c (ix2 (row t r) (mid 8 512 t.val k)) := by
  have e : iblk m c 0 t (ix2 r k) = V m c main_v2 (ix2 (row t r) (mid 8 512 t.val k)) := by
    blk_ext [iblk, idx0 t, row, mid]
  exact e.trans (congrFun (host0 m c) _)

theorem blk1 (s : Fin 1024) (k : Fin 512) : iblk m c 1 t (ix3 0 s k) = rhs m c (ix2 s (mid 8 512 t.val k)) := by
  have e : iblk m c 1 t (ix3 0 s k) = V m c main_v3 (ix3 ⟨t.val % 8, by omega⟩ s k) := by
    blk_ext [iblk, idx1 t]
  exact e.trans ((congrFun (host1 m c) _).trans (slots_at _ _ _ _))

/-- The factors' product, rows by rows, rounded. -/
def result : FVec Ideal S2048x1024 .bf16 :=
  rowsRows (φ := .f32) (a := 2048) (n := 4096) (b := 1024) .bf16 (lhs m c) (rhs m c)

/-- At the last point of a tile the tile is the product's. -/
theorem block (ht : t.val % 8 = 7) (r : Fin 1024) (s : Fin 1024) :
    (outsAt0 m c t.val t.isLt).1 (ix2 r s) = result m c (ix2 (row t r) s) :=
  (congrFun (last m c t ht) (ix2 r s)).trans
    (tall (w := 512) (acc m c) (fun t => iblk m c 0 t) (fun t => iblk m c 1 t) (lhs m c) (rhs m c) (blk0 m c) (blk1 m c)
      (fun t h r s => (congrFun (first m c t h) (ix2 r s)).trans ((pay2_at _ _ _ _).trans (pay1_at _ _ _ _)))
      (fun t h r s => (congrFun (next m c t h) (ix2 r s)).trans ((pay3_at _ _ _ _ _).trans (congrArg _ (pay1_at _ _ _ _))))
      t ht r s)

/-! ## The result's array -/

theorem place (r : Fin 1024) (s : Fin 1024) : ((cfg0.win 2).blk t).view.emb (ix2 r s) = ix2 (row t r) s := by
  funext a
  match a with
  | ⟨0, _⟩ => exact Fin.ext (by show win0_2.index t (0 : Fin 2) * 1024 + 1 * r.val = 1024 * (t.val / 8) + r.val; rw [idx2]; show t.val / 8 * 1024 + 1 * r.val = _; omega)
  | ⟨1, _⟩ => exact Fin.ext (by show win0_2.index t (1 : Fin 2) * 1024 + 1 * s.val = s.val; rw [idx2]; show 0 * 1024 + 1 * s.val = _; omega)

theorem final : (dats m 0 c).arrAt 2 cfg0.N = result m c := by
  refine (dats m 0 c).arrAt_eq_of_cover 2 _ (fun t hf => ?_) (fun i => ?_)
  · have ht := (flush0_2 t).1 hf
    rw [Value.flushed2]
    funext y
    idx_vars y
    exact (block m c t ht y0 y1).trans (congrArg (result m c) (place t y0 y1).symm)
  · have h0 : (i 0).val < 2048 := (i 0).isLt
    let s : Fin 1024 := i 1
    let t : Fin cfg0.N := ⟨8 * ((i 0).val / 1024) + 7, lt_of_lt_of_eq (by omega) N_0.symm⟩
    refine ⟨t, (flush0_2 t).2 (by show (8 * ((i 0).val / 1024) + 7) % 8 = 7; omega), ?_⟩
    have e : ((cfg0.win 2).blk t).view.emb (ix2 ⟨(i 0).val % 1024, by omega⟩ s) = i := by
      rw [place]
      funext a
      match a with
      | ⟨0, _⟩ => exact Fin.ext (by show 1024 * ((8 * ((i 0).val / 1024) + 7) / 8) + (i 0).val % 1024 = (i 0).val; omega)
      | ⟨1, _⟩ => rfl
    rw [← e]
    exact View.emb_mem_set _ _

end Cert.GluGradient

end
-- ==== Proof.GluXEquation.lean ====
/- The gradient of the gelu branch's input and its reference are the same array. -/
module

public import proofs.«01_k».proof.Defs
public import proofs.«01_k».proof.Proof.GluX
public import proofs.«01_k».proof.Proof.Gen.GluXReferenceIdeal.Run
public import proofs.«01_k».proof.Proof.Gen.GluXReferenceIdeal.Read

@[expose] public section

set_option maxRecDepth 16384

noncomputable section

namespace Cert.GluGradient

open Cert.GluXIdeal Cert.GluXReferenceIdeal.Read Cert.Products Idealize.ShloMosaic Idealize.SL.Sem

attribute [local instance] Cert.GluXIdeal.Gen.facts Cert.GluXReferenceIdeal.Gen.facts

/-- The reference's product is the sum over the whole inner dimension. -/
theorem reference (w : FVec Ideal S1024x4096 .f32) (d : FVec Ideal S2048x4096 .f32) : val_main_v3 (F := Ideal) w d
    = rowsRows (φ := .f32) (a := 2048) (n := 4096) (b := 1024) .bf16 d w := by
  funext i
  refine (val_main_v3_apply (F := Ideal) w d i).trans (Eq.trans (b := val_main_v2 (F := Ideal) w d i) rfl ?_)
  rw [val_main_v2_apply]
  show _ = ∑ k : Fin 4096, d (ix2 (i 0) k) * w (ix2 (i 1) k)
  refine Finset.sum_congr rfl fun k _ => congrArg₂ (· * ·) (congrArg d ?_) (congrArg w ?_) <;>
    · funext a
      match a with
      | ⟨0, _⟩ => rfl
      | ⟨1, _⟩ => rfl

/-- The kernel's run and the reference's run leave the same array. -/
theorem equation : algebraic_GluXIdeal_GluXReferenceIdeal := by
  intro m g m' g' _ hargs
  refine ⟨fun c => result m c,
    (θ_run _ _ _).mono (fun r h c => ⟨(h c).1.trans (final m c), (h c).2⟩) (Cert.GluXIdeal.Value.run_blocks m g),
    (θ_run _ _ _).mono (fun r h c => ⟨(h c).1.trans ?_, (h c).2⟩) (Cert.GluXReferenceIdeal.Value.run m' g')⟩
  obtain ⟨e0, e1⟩ := hargs c
  rw [val_main_v3_eq, e0, e1]
  exact reference _ _

end Cert.GluGradient

end
-- ==== Proof.MlaX.lean ====
/- The gradient of the attention branch's output projection's input: over the eight column blocks of the weights the scratch adds up to the whole
   product of its tile, which the last block's point rounds into the result. -/
module

public import proofs.«01_k».proof.Proof.Gen.MlaXIdeal.Value
public import proofs.«01_k».proof.Proof.Products
public import proofs.«01_k».proof.Proof.Accumulate
public import Idealize.ShloMosaic.Lib.Pipeline.ReadBack

@[expose] public section

set_option maxRecDepth 16384

noncomputable section

namespace Cert.MlaGradient

open Cert.MlaXIdeal Cert.MlaXIdeal.Gen Cert.Products Cert.Accumulate Idealize.ShloMosaic Idealize.ShloMosaic.TcCoe Idealize.SL.Sem

theorem idx0 : ∀ t : Fin grid0.N, win0_0.index t = ![t.val / 8, t.val % 8] := by decide +kernel
theorem idx1 : ∀ t : Fin grid0.N, win0_1.index t = ![t.val % 8, 0, 0] := by decide +kernel
theorem idx2 : ∀ t : Fin grid0.N, win0_2.index t = ![t.val / 8, 0] := by decide +kernel

/-! ## The body's cases -/

section Body
variable {F : FTy → Type} [FloatOps F] (m : (ℓ : Loc nD τ sig) → Buf (Elt F) ℓ) (c : Dev nD) (t : Fin cfg0.N)

/-- What the scratch holds after a point. -/
def acc (n : ℕ) (h : n < cfg0.N) : FVec F S1024x1024 .f32 := (outsAt0 m c n h).2

theorem first (h0 : t.val % 8 = 0) : acc m c t.val t.isLt = k0_pay2 (iblk m c 0 t) (iblk m c 1 t) := by
  unfold acc
  rw [outsAt0_A m c t h0 (by omega) (by omega)]
  frame_out

theorem next (h0 : ¬t.val % 8 = 0) : acc m c t.val t.isLt
    = k0_pay3 (iblk m c 0 t) (iblk m c 1 t) (acc m c (t.val - 1) (Nat.lt_of_le_of_lt (Nat.sub_le _ _) t.isLt)) := by
  unfold acc
  by_cases h2 : t.val % 8 = 7
  · rw [outsAt0_C m c t h0 (by omega) h2]
    generalize outsAt0 m c (t.val - 1) (Nat.lt_of_le_of_lt (Nat.sub_le _ _) t.isLt) = z
    frame_out
    rw [read_unread_whole]
  · rw [outsAt0_B m c t h0 (by omega) h2]
    generalize outsAt0 m c (t.val - 1) (Nat.lt_of_le_of_lt (Nat.sub_le _ _) t.isLt) = z
    frame_out
    rw [read_unread_whole]

theorem last (h2 : t.val % 8 = 7) : (outsAt0 m c t.val t.isLt).1 = k0_pay4 (acc m c t.val t.isLt) := by
  rw [next m c t (by omega)]
  unfold acc
  rw [outsAt0_C m c t (by omega) (by omega) h2]
  generalize outsAt0 m c (t.val - 1) (Nat.lt_of_le_of_lt (Nat.sub_le _ _) t.isLt) = z
  frame_out
  rw [read_unread_whole]

end Body

theorem pay1_at (x : FVec Ideal S1024x256 .bf16) (y : FVec Ideal S1x1024x256 .bf16) (r : Fin 1024) (s : Fin 1024) :
    k0_pay1 (F := Ideal) x y (ix2 r s) = ∑ k : Fin 256, x (ix2 r k) * y (ix3 0 s k) := by
  pointwise [k0_pay1]

theorem pay2_at (x : FVec Ideal S1024x256 .bf16) (y : FVec Ideal S1x1024x256 .bf16) (r : Fin 1024) (s : Fin 1024) :
    k0_pay2 (F := Ideal) x y (ix2 r s) = k0_pay1 (F := Ideal) x y (ix2 r s) := by
  unfold k0_pay2
  generalize k0_pay1 (F := Ideal) x y = w
  pointwise

theorem pay3_at (x : FVec Ideal S1024x256 .bf16) (y : FVec Ideal S1x1024x256 .bf16) (z : FVec Ideal S1024x1024 .f32) (r : Fin 1024) (s : Fin 1024) :
    k0_pay3 (F := Ideal) x y z (ix2 r s) = z (ix2 r s) + k0_pay1 (F := Ideal) x y (ix2 r s) := by
  unfold k0_pay3
  generalize k0_pay1 (F := Ideal) x y = w
  pointwise

variable (m : (ℓ : Loc nD τ sig) → Buf (Elt Ideal) ℓ) (c : Dev nD) (t : Fin cfg0.N)

/-- The factors. -/
def lhs : FVec Ideal S2048x2048 .f32 := m ((c : Thread nD τ).loc main_arg1)
def rhs : FVec Ideal S1024x2048 .f32 := m ((c : Thread nD τ).loc main_arg0)

/-- The weights by column blocks. -/
def slots (w : FVec Ideal S1024x2048 .f32) : FVec Ideal S8x1024x256 .bf16 :=
  truncf .bf16 (transpose S8x1024x256 [1, 0, 2] (shapeCast S1024x8x256 w shapeCasts_S1024x2048_S1024x8x256)
    transposes_S1024x8x256_S8x1024x256_1_0_2) bitsLt_bf16_f32

theorem slots_at (w : FVec Ideal S1024x2048 .f32) (p : Fin 8) (d : Fin 1024) (l : Fin 256) :
    slots w (ix3 p d l) = w (ix2 d ⟨p.val * 256 + l.val, by have := p.isLt; have := l.isLt; omega⟩) := by
  pointwise [slots]

theorem host0 : V m c main_v2 = lhs m c := by
  simp only [V, hostOps0]
  entry_read
  rfl

theorem host1 : V m c main_v3 = slots (rhs m c) := by
  simp only [V, hostOps0]
  entry_read
  rfl

theorem blk0 (r : Fin 1024) (k : Fin 256) : iblk m c 0 t (ix2 r k) = lhs m c (ix2 (row t r) (mid 8 256 t.val k)) := by
  have e : iblk m c 0 t (ix2 r k) = V m c main_v2 (ix2 (row t r) (mid 8 256 t.val k)) := by
    blk_ext [iblk, idx0 t, row, mid]
  exact e.trans (congrFun (host0 m c) _)

theorem blk1 (s : Fin 1024) (k : Fin 256) : iblk m c 1 t (ix3 0 s k) = rhs m c (ix2 s (mid 8 256 t.val k)) := by
  have e : iblk m c 1 t (ix3 0 s k) = V m c main_v3 (ix3 ⟨t.val % 8, by omega⟩ s k) := by
    blk_ext [iblk, idx1 t]
  exact e.trans ((congrFun (host1 m c) _).trans (slots_at _ _ _ _))

/-- The factors' product, rows by rows, rounded. -/
def result : FVec Ideal S2048x1024 .bf16 :=
  rowsRows (φ := .f32) (a := 2048) (n := 2048) (b := 1024) .bf16 (lhs m c) (rhs m c)

/-- At the last point of a tile the tile is the product's. -/
theorem block (ht : t.val % 8 = 7) (r : Fin 1024) (s : Fin 1024) :
    (outsAt0 m c t.val t.isLt).1 (ix2 r s) = result m c (ix2 (row t r) s) :=
  (congrFun (last m c t ht) (ix2 r s)).trans
    (tall (w := 256) (acc m c) (fun t => iblk m c 0 t) (fun t => iblk m c 1 t) (lhs m c) (rhs m c) (blk0 m c) (blk1 m c)
      (fun t h r s => (congrFun (first m c t h) (ix2 r s)).trans ((pay2_at _ _ _ _).trans (pay1_at _ _ _ _)))
      (fun t h r s => (congrFun (next m c t h) (ix2 r s)).trans ((pay3_at _ _ _ _ _).trans (congrArg _ (pay1_at _ _ _ _))))
      t ht r s)

/-! ## The result's array -/

theorem place (r : Fin 1024) (s : Fin 1024) : ((cfg0.win 2).blk t).view.emb (ix2 r s) = ix2 (row t r) s := by
  funext a
  match a with
  | ⟨0, _⟩ => exact Fin.ext (by show win0_2.index t (0 : Fin 2) * 1024 + 1 * r.val = 1024 * (t.val / 8) + r.val; rw [idx2]; show t.val / 8 * 1024 + 1 * r.val = _; omega)
  | ⟨1, _⟩ => exact Fin.ext (by show win0_2.index t (1 : Fin 2) * 1024 + 1 * s.val = s.val; rw [idx2]; show 0 * 1024 + 1 * s.val = _; omega)

theorem final : (dats m 0 c).arrAt 2 cfg0.N = result m c := by
  refine (dats m 0 c).arrAt_eq_of_cover 2 _ (fun t hf => ?_) (fun i => ?_)
  · have ht := (flush0_2 t).1 hf
    rw [Value.flushed2]
    funext y
    idx_vars y
    exact (block m c t ht y0 y1).trans (congrArg (result m c) (place t y0 y1).symm)
  · have h0 : (i 0).val < 2048 := (i 0).isLt
    let s : Fin 1024 := i 1
    let t : Fin cfg0.N := ⟨8 * ((i 0).val / 1024) + 7, lt_of_lt_of_eq (by omega) N_0.symm⟩
    refine ⟨t, (flush0_2 t).2 (by show (8 * ((i 0).val / 1024) + 7) % 8 = 7; omega), ?_⟩
    have e : ((cfg0.win 2).blk t).view.emb (ix2 ⟨(i 0).val % 1024, by omega⟩ s) = i := by
      rw [place]
      funext a
      match a with
      | ⟨0, _⟩ => exact Fin.ext (by show 1024 * ((8 * ((i 0).val / 1024) + 7) / 8) + (i 0).val % 1024 = (i 0).val; omega)
      | ⟨1, _⟩ => rfl
    rw [← e]
    exact View.emb_mem_set _ _

end Cert.MlaGradient

end
-- ==== Proof.MlaXEquation.lean ====
/- The gradient of the attention branch's output projection's input and its reference are the same array. -/
module

public import proofs.«01_k».proof.Defs
public import proofs.«01_k».proof.Proof.MlaX
public import proofs.«01_k».proof.Proof.Gen.MlaXReferenceIdeal.Run
public import proofs.«01_k».proof.Proof.Gen.MlaXReferenceIdeal.Read

@[expose] public section

set_option maxRecDepth 16384

noncomputable section

namespace Cert.MlaGradient

open Cert.MlaXIdeal Cert.MlaXReferenceIdeal.Read Cert.Products Idealize.ShloMosaic Idealize.SL.Sem

attribute [local instance] Cert.MlaXIdeal.Gen.facts Cert.MlaXReferenceIdeal.Gen.facts

/-- The reference's product is the sum over the whole inner dimension. -/
theorem reference (w : FVec Ideal S1024x2048 .f32) (d : FVec Ideal S2048x2048 .f32) : val_main_v3 (F := Ideal) w d
    = rowsRows (φ := .f32) (a := 2048) (n := 2048) (b := 1024) .bf16 d w := by
  funext i
  refine (val_main_v3_apply (F := Ideal) w d i).trans (Eq.trans (b := val_main_v2 (F := Ideal) w d i) rfl ?_)
  rw [val_main_v2_apply]
  show _ = ∑ k : Fin 2048, d (ix2 (i 0) k) * w (ix2 (i 1) k)
  refine Finset.sum_congr rfl fun k _ => congrArg₂ (· * ·) (congrArg d ?_) (congrArg w ?_) <;>
    · funext a
      match a with
      | ⟨0, _⟩ => rfl
      | ⟨1, _⟩ => rfl

/-- The kernel's run and the reference's run leave the same array. -/
theorem equation : algebraic_MlaXIdeal_MlaXReferenceIdeal := by
  intro m g m' g' _ hargs
  refine ⟨fun c => result m c,
    (θ_run _ _ _).mono (fun r h c => ⟨(h c).1.trans (final m c), (h c).2⟩) (Cert.MlaXIdeal.Value.run_blocks m g),
    (θ_run _ _ _).mono (fun r h c => ⟨(h c).1.trans ?_, (h c).2⟩) (Cert.MlaXReferenceIdeal.Value.run m' g')⟩
  obtain ⟨e0, e1⟩ := hargs c
  rw [val_main_v3_eq, e0, e1]
  exact reference _ _

end Cert.MlaGradient

end
-- ==== Proof.LatentRun.lean ====
/- The latent projections: a run of the six calls ends with every array at the contents the calls
   leave, call by call. -/
module

public import proofs.«01_k».proof.Proof.Gen.LatentIdeal.Frame

@[expose] public section

set_option maxRecDepth 16384

noncomputable section

namespace Cert.Latents

open Cert.LatentIdeal Cert.LatentIdeal.Gen
open Idealize.ShloMosaic Idealize.ShloMosaic.TcCoe
open Idealize.SL Idealize.SL.RA Idealize.SL.BI
open scoped Idealize.SL.BI
open Idealize.ShloMosaic.Rounds
open Idealize.SL.BI.BIBase Idealize.SL.BI.Laws Idealize.SL.ProofMode Idealize.SL.Sem

variable {F : FTy → Type} [FloatOps F] (m : (ℓ : Loc nD τ sig) → Buf (Elt F) ℓ) (ρ : Dev nD → PrngReg)

set_option backward.isDefEq.respectTransparency.types false in
/-- Every array a run can end with is the one the host code after the last call leaves. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W15 m ρ c b) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp (MT nD τ sig Unit (Elt F) ℕ (UR sig nD τ) ℕ))
            ⊢ BI.own (emb₁ (initOf (Pipeline.cells cfgs cellOf_inj) (Pipeline.launchToks cfgs cellOf_inj))) from .rfl)
        iexact Hu
      iapply (show (BI.emp : sProp (MT nD τ sig Unit (Elt F) ℕ (UR sig nD τ) ℕ)) ⊢ bigSep Finset.univ (fun _ : Dev nD => (BI.emp : sProp (MT nD τ sig Unit (Elt F) ℕ (UR sig nD τ) ℕ))) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W15 m ρ c b)
    (hfin := fun c s' => by
      iintro ⟨⟨Hh, -⟩, HSI⟩
      unfold StableHlo.held
      imodintro
      iapply (pointsTo_read_all (Pipeline.ucRefs τ sig) (fun b => (((c : Thread nD τ)).1, b)) (W15 m ρ c) s')
      isplitl [Hh] <;> iassumption)
    (hQ := fun s h _ => h)

/-- A run ends with the six results the host code after the last call leaves and with the arguments as they were. -/
theorem run : θ_run defs (onTc (τ := τ) (main (F := F))) ⟨m, fun _ => 0, ρ⟩ (fun r => ∀ c : Dev nD,
      r.2.mem ((c : Thread nD τ).loc main_v16) = W15 m ρ c (Proc.devRef .tc main_v16)
      ∧ r.2.mem ((c : Thread nD τ).loc main_v18) = W15 m ρ c (Proc.devRef .tc main_v18)
      ∧ r.2.mem ((c : Thread nD τ).loc main_v20) = W15 m ρ c (Proc.devRef .tc main_v20)
      ∧ r.2.mem ((c : Thread nD τ).loc main_v35) = W15 m ρ c (Proc.devRef .tc main_v35)
      ∧ r.2.mem ((c : Thread nD τ).loc main_v25) = W15 m ρ c (Proc.devRef .tc main_v25)
      ∧ r.2.mem ((c : Thread nD τ).loc main_v41) = W15 m ρ c (Proc.devRef .tc main_v41)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)) :=
  (θ_run defs _ _).mono (fun _ h c =>
    ⟨h c _ (mem_uc main_v16 (by decide)), h c _ (mem_uc main_v18 (by decide)), h c _ (mem_uc main_v20 (by decide)),
      h c _ (mem_uc main_v35 (by decide)), h c _ (mem_uc main_v25 (by decide)), h c _ (mem_uc main_v41 (by decide)),
      (h c _ (mem_uc main_arg0 (by decide))).trans (W15_main_arg0 m ρ c),
      (h c _ (mem_uc main_arg1 (by decide))).trans (W15_main_arg1 m ρ c),
      (h c _ (mem_uc main_arg2 (by decide))).trans (W15_main_arg2 m ρ c),
      (h c _ (mem_uc main_arg3 (by decide))).trans (W15_main_arg3 m ρ c),
      (h c _ (mem_uc main_arg4 (by decide))).trans (W15_main_arg4 m ρ c),
      (h c _ (mem_uc main_arg5 (by decide))).trans (W15_main_arg5 m ρ c)⟩) (run_all m ρ)

end Cert.Latents

end
-- ==== Proof.LatentProducts.lean ====
/- The latent projections: what their six products leave, from whatever their operands hold when they start. -/
module

public import proofs.«01_k».proof.Proof.Gen.LatentIdeal.Frame
public import proofs.«01_k».proof.Proof.Products
public import Idealize.ShloMosaic.Lib.Pipeline.ValueKit
public import Idealize.ShloMosaic.Lib.Pipeline.ReadBack

@[expose] public section

set_option maxRecDepth 16384

noncomputable section

namespace Cert.Latents

open Cert.LatentIdeal Cert.LatentIdeal.Gen Cert.Products Idealize.ShloMosaic Idealize.ShloMosaic.TcCoe Idealize.SL.Sem

variable (V : (c : Dev nD) → (b : Ref sig .tc) → Buf (Elt Ideal) ((c : Thread nD τ).loc b)) (c : Dev nD)

/-! ## The queries: rows of the query latent by columns of the weights -/

namespace Query

theorem idx0 : ∀ t : Fin grid0.N, win0_0.index t = ![t.val / 2, 0] := by decide +kernel
theorem idx1 : ∀ t : Fin grid0.N, win0_1.index t = ![0, t.val % 2] := by decide +kernel
theorem idx2 : ∀ t : Fin grid0.N, win0_2.index t = ![t.val / 2, t.val % 2] := by decide +kernel

theorem pay_at (x : FVec Ideal S1024x512 .bf16) (y : FVec Ideal S512x1024 .bf16) (r s : Fin 1024) :
    k0_pay1 (F := Ideal) x y (ix2 r s) = ∑ k : Fin 512, x (ix2 r k) * y (ix2 k s) := by
  pointwise [k0_pay1]

variable (t : Fin cfg0.N)

theorem lt4 : t.val < 4 := t.isLt

def row (r : Fin 1024) : Fin 2048 := ⟨1024 * (t.val / 2) + r.val, by have := lt4 t; have := r.isLt; omega⟩
def col (s : Fin 1024) : Fin 2048 := ⟨1024 * (t.val % 2) + s.val, by have := s.isLt; omega⟩

theorem blk0 (r : Fin 1024) (k : Fin 512) : iblk0 V c 0 t (ix2 r k) = V c main_v15 (ix2 (row t r) k) := by
  blk_ext [iblk0, idx0 t, row]
theorem blk1 (k : Fin 512) (s : Fin 1024) : iblk0 V c 1 t (ix2 k s) = V c main_v7 (ix2 k (col t s)) := by
  blk_ext [iblk0, idx1 t, col]

theorem body (x : FVec Ideal S1024x512 .bf16) (y : FVec Ideal S512x1024 .bf16) : out0_2 (F := Ideal) x y = k0_pay1 (F := Ideal) x y := by
  unfold out0_2
  rw [View.canon_unit_zero, View.ld_unit_zero (S := S1024x512), View.ld_unit_zero (S := S512x1024)] <;> (funext a; fin_cases a <;> rfl)

theorem place (r s : Fin 1024) : ((cfg0.win 2).blk t).view.emb (ix2 r s) = ix2 (row t r) (col t s) := by
  funext a
  match a with
  | ⟨0, _⟩ => exact Fin.ext (by show win0_2.index t (0 : Fin 2) * 1024 + 1 * r.val = 1024 * (t.val / 2) + r.val; rw [idx2]; show t.val / 2 * 1024 + 1 * r.val = _; omega)
  | ⟨1, _⟩ => exact Fin.ext (by show win0_2.index t (1 : Fin 2) * 1024 + 1 * s.val = 1024 * (t.val % 2) + s.val; rw [idx2]; show t.val % 2 * 1024 + 1 * s.val = _; omega)

/-- The call leaves the product of its operands. -/
theorem final : (dat0 V c).arrAt 2 cfg0.N = rowsCols (φ := .bf16) (a := 2048) (n := 512) (b := 2048) .f32 (V c main_v15) (V c main_v7) := by
  refine (dat0 V c).arrAt_eq_of_covers 2 _ (by decide +kernel) fun t _ y => ?_
  idx_vars y
  refine Eq.trans ?_ (congrArg (rowsCols (φ := .bf16) (a := 2048) (n := 512) (b := 2048) .f32 (V c main_v15) (V c main_v7)) (place t y0 y1).symm)
  show (dat0 V c).after 2 t (ix2 y0 y1) = _
  rw [after0_2, body]
  refine (pay_at _ _ y0 y1).trans (Finset.sum_congr rfl fun k _ => ?_)
  exact congrArg₂ (· * ·) (blk0 V c t y0 k) (blk1 V c t k y1)

end Query

/-! ## The keys and values: rows of the key latent by columns of the weights -/

namespace KeyValue

theorem idx0 : ∀ t : Fin grid1.N, win1_0.index t = ![t.val / 2, 0] := by decide +kernel
theorem idx1 : ∀ t : Fin grid1.N, win1_1.index t = ![0, t.val % 2] := by decide +kernel
theorem idx2 : ∀ t : Fin grid1.N, win1_2.index t = ![t.val / 2, t.val % 2] := by decide +kernel

theorem pay_at (x : FVec Ideal S768x256 .bf16) (y : FVec Ideal S256x1024 .bf16) (r : Fin 768) (s : Fin 1024) :
    k1_pay1 (F := Ideal) x y (ix2 r s) = ∑ k : Fin 256, x (ix2 r k) * y (ix2 k s) := by
  pointwise [k1_pay1]

variable (t : Fin cfg1.N)

theorem lt6 : t.val < 6 := t.isLt

def row (r : Fin 768) : Fin 2304 := ⟨768 * (t.val / 2) + r.val, by have := lt6 t; have := r.isLt; omega⟩
def col (s : Fin 1024) : Fin 2048 := ⟨1024 * (t.val % 2) + s.val, by have := s.isLt; omega⟩

theorem blk0 (r : Fin 768) (k : Fin 256) : iblk1 V c 0 t (ix2 r k) = V c main_v17 (ix2 (row t r) k) := by
  blk_ext [iblk1, idx0 t, row]
theorem blk1 (k : Fin 256) (s : Fin 1024) : iblk1 V c 1 t (ix2 k s) = V c main_v14 (ix2 k (col t s)) := by
  blk_ext [iblk1, idx1 t, col]

theorem body (x : FVec Ideal S768x256 .bf16) (y : FVec Ideal S256x1024 .bf16) : out1_2 (F := Ideal) x y = k1_pay1 (F := Ideal) x y := by
  unfold out1_2
  rw [View.canon_unit_zero, View.ld_unit_zero (S := S768x256), View.ld_unit_zero (S := S256x1024)] <;> (funext a; fin_cases a <;> rfl)

theorem place (r : Fin 768) (s : Fin 1024) : ((cfg1.win 2).blk t).view.emb (ix2 r s) = ix2 (row t r) (col t s) := by
  funext a
  match a with
  | ⟨0, _⟩ => exact Fin.ext (by show win1_2.index t (0 : Fin 2) * 768 + 1 * r.val = 768 * (t.val / 2) + r.val; rw [idx2]; show t.val / 2 * 768 + 1 * r.val = _; omega)
  | ⟨1, _⟩ => exact Fin.ext (by show win1_2.index t (1 : Fin 2) * 1024 + 1 * s.val = 1024 * (t.val % 2) + s.val; rw [idx2]; show t.val % 2 * 1024 + 1 * s.val = _; omega)

/-- The call leaves the product of its operands. -/
theorem final : (dat1 V c).arrAt 2 cfg1.N = rowsCols (φ := .bf16) (a := 2304) (n := 256) (b := 2048) .bf16 (V c main_v17) (V c main_v14) := by
  refine (dat1 V c).arrAt_eq_of_covers 2 _ (by decide +kernel) fun t _ y => ?_
  idx_vars y
  refine Eq.trans ?_ (congrArg (rowsCols (φ := .bf16) (a := 2304) (n := 256) (b := 2048) .bf16 (V c main_v17) (V c main_v14)) (place t y0 y1).symm)
  show (dat1 V c).after 2 t (ix2 y0 y1) = _
  rw [after1_2, body]
  refine (pay_at _ _ y0 y1).trans (Finset.sum_congr rfl fun k _ => ?_)
  exact congrArg₂ (· * ·) (blk0 V c t y0 k) (blk1 V c t k y1)

end KeyValue

/-! ## The query latent's cotangent: rows of the queries' cotangent by rows of the weights -/

namespace QueryX

theorem idx0 : ∀ t : Fin grid2.N, win2_0.index t = ![t.val, 0] := by decide +kernel
theorem idx1 : ∀ t : Fin grid2.N, win2_1.index t = ![0, 0] := by decide +kernel
theorem idx2 : ∀ t : Fin grid2.N, win2_2.index t = ![t.val, 0] := by decide +kernel

theorem pay_at (x : FVec Ideal S1024x2048 .bf16) (y : FVec Ideal S512x2048 .bf16) (r : Fin 1024) (s : Fin 512) :
    k2_pay1 (F := Ideal) x y (ix2 r s) = ∑ k : Fin 2048, x (ix2 r k) * y (ix2 s k) := by
  pointwise [k2_pay1]

variable (t : Fin cfg2.N)

theorem lt2 : t.val < 2 := t.isLt

def row (r : Fin 1024) : Fin 2048 := ⟨1024 * t.val + r.val, by have := lt2 t; have := r.isLt; omega⟩

theorem blk0 (r : Fin 1024) (k : Fin 2048) : iblk2 V c 0 t (ix2 r k) = V c main_v19 (ix2 (row t r) k) := by
  blk_ext [iblk2, idx0 t, row]
theorem blk1 (s : Fin 512) (k : Fin 2048) : iblk2 V c 1 t (ix2 s k) = V c main_v7 (ix2 s k) := by
  blk_ext [iblk2, idx1 t]

theorem body (x : FVec Ideal S1024x2048 .bf16) (y : FVec Ideal S512x2048 .bf16) : out2_2 (F := Ideal) x y = k2_pay1 (F := Ideal) x y := by
  unfold out2_2
  rw [View.canon_unit_zero, View.ld_unit_zero (S := S1024x2048), View.ld_unit_zero (S := S512x2048)] <;> (funext a; fin_cases a <;> rfl)

theorem place (r : Fin 1024) (s : Fin 512) : ((cfg2.win 2).blk t).view.emb (ix2 r s) = ix2 (row t r) s := by
  funext a
  match a with
  | ⟨0, _⟩ => exact Fin.ext (by show win2_2.index t (0 : Fin 2) * 1024 + 1 * r.val = 1024 * t.val + r.val; rw [idx2]; show t.val * 1024 + 1 * r.val = _; omega)
  | ⟨1, _⟩ => exact Fin.ext (by show win2_2.index t (1 : Fin 2) * 512 + 1 * s.val = s.val; rw [idx2]; show 0 * 512 + 1 * s.val = _; omega)

/-- The call leaves the product of its operands. -/
theorem final : (dat2 V c).arrAt 2 cfg2.N = rowsRows (φ := .bf16) (a := 2048) (n := 2048) (b := 512) .f32 (V c main_v19) (V c main_v7) := by
  refine (dat2 V c).arrAt_eq_of_covers 2 _ (by decide +kernel) fun t _ y => ?_
  idx_vars y
  refine Eq.trans ?_ (congrArg (rowsRows (φ := .bf16) (a := 2048) (n := 2048) (b := 512) .f32 (V c main_v19) (V c main_v7)) (place t y0 y1).symm)
  show (dat2 V c).after 2 t (ix2 y0 y1) = _
  rw [after2_2, body]
  refine (pay_at _ _ y0 y1).trans (Finset.sum_congr rfl fun k _ => ?_)
  exact congrArg₂ (· * ·) (blk0 V c t y0 k) (blk1 V c t y1 k)

end QueryX

/-! ## The query weights' gradient: columns of the query latent by columns of the queries' cotangent -/

namespace QueryW

theorem idx0 : ∀ t : Fin grid3.N, win3_0.index t = ![0, 0] := by decide +kernel
theorem idx1 : ∀ t : Fin grid3.N, win3_1.index t = ![0, t.val] := by decide +kernel
theorem idx2 : ∀ t : Fin grid3.N, win3_2.index t = ![0, t.val] := by decide +kernel

theorem pay_at (x : FVec Ideal S2048x512 .bf16) (y : FVec Ideal S2048x1024 .bf16) (r : Fin 512) (s : Fin 1024) :
    k3_pay1 (F := Ideal) x y (ix2 r s) = ∑ k : Fin 2048, x (ix2 k r) * y (ix2 k s) := by
  pointwise [k3_pay1]

variable (t : Fin cfg3.N)

theorem lt2 : t.val < 2 := t.isLt

def col (s : Fin 1024) : Fin 2048 := ⟨1024 * t.val + s.val, by have := lt2 t; have := s.isLt; omega⟩

theorem blk0 (k : Fin 2048) (r : Fin 512) : iblk3 V c 0 t (ix2 k r) = V c main_v21 (ix2 k r) := by
  blk_ext [iblk3, idx0 t]
theorem blk1 (k : Fin 2048) (s : Fin 1024) : iblk3 V c 1 t (ix2 k s) = V c main_v22 (ix2 k (col t s)) := by
  blk_ext [iblk3, idx1 t, col]

theorem body (x : FVec Ideal S2048x512 .bf16) (y : FVec Ideal S2048x1024 .bf16) : out3_2 (F := Ideal) x y = k3_pay1 (F := Ideal) x y := by
  unfold out3_2
  rw [View.canon_unit_zero, View.ld_unit_zero (S := S2048x512), View.ld_unit_zero (S := S2048x1024)] <;> (funext a; fin_cases a <;> rfl)

theorem place (r : Fin 512) (s : Fin 1024) : ((cfg3.win 2).blk t).view.emb (ix2 r s) = ix2 r (col t s) := by
  funext a
  match a with
  | ⟨0, _⟩ => exact Fin.ext (by show win3_2.index t (0 : Fin 2) * 512 + 1 * r.val = r.val; rw [idx2]; show 0 * 512 + 1 * r.val = _; omega)
  | ⟨1, _⟩ => exact Fin.ext (by show win3_2.index t (1 : Fin 2) * 1024 + 1 * s.val = 1024 * t.val + s.val; rw [idx2]; show t.val * 1024 + 1 * s.val = _; omega)

/-- The call leaves the product of its operands. -/
theorem final : (dat3 V c).arrAt 2 cfg3.N = colsCols (φ := .bf16) (a := 512) (n := 2048) (b := 2048) .bf16 (V c main_v21) (V c main_v22) := by
  refine (dat3 V c).arrAt_eq_of_covers 2 _ (by decide +kernel) fun t _ y => ?_
  idx_vars y
  refine Eq.trans ?_ (congrArg (colsCols (φ := .bf16) (a := 512) (n := 2048) (b := 2048) .bf16 (V c main_v21) (V c main_v22)) (place t y0 y1).symm)
  show (dat3 V c).after 2 t (ix2 y0 y1) = _
  rw [after3_2, body]
  refine (pay_at _ _ y0 y1).trans (Finset.sum_congr rfl fun k _ => ?_)
  exact congrArg₂ (· * ·) (blk0 V c t k y0) (blk1 V c t k y1)

end QueryW

/-! ## The key latent's cotangent: rows of the keys' and values' cotangent by rows of the weights -/

namespace KeyValueX

theorem idx0 : ∀ t : Fin grid4.N, win4_0.index t = ![t.val, 0] := by decide +kernel
theorem idx1 : ∀ t : Fin grid4.N, win4_1.index t = ![0, 0] := by decide +kernel
theorem idx2 : ∀ t : Fin grid4.N, win4_2.index t = ![t.val, 0] := by decide +kernel

theorem pay_at (x : FVec Ideal S768x2048 .bf16) (y : FVec Ideal S256x2048 .bf16) (r : Fin 768) (s : Fin 256) :
    k4_pay1 (F := Ideal) x y (ix2 r s) = ∑ k : Fin 2048, x (ix2 r k) * y (ix2 s k) := by
  pointwise [k4_pay1]

variable (t : Fin cfg4.N)

theorem lt3 : t.val < 3 := t.isLt

def row (r : Fin 768) : Fin 2304 := ⟨768 * t.val + r.val, by have := lt3 t; have := r.isLt; omega⟩

theorem blk0 (r : Fin 768) (k : Fin 2048) : iblk4 V c 0 t (ix2 r k) = V c main_v24 (ix2 (row t r) k) := by
  blk_ext [iblk4, idx0 t, row]
theorem blk1 (s : Fin 256) (k : Fin 2048) : iblk4 V c 1 t (ix2 s k) = V c main_v14 (ix2 s k) := by
  blk_ext [iblk4, idx1 t]

theorem body (x : FVec Ideal S768x2048 .bf16) (y : FVec Ideal S256x2048 .bf16) : out4_2 (F := Ideal) x y = k4_pay1 (F := Ideal) x y := by
  unfold out4_2
  rw [View.canon_unit_zero, View.ld_unit_zero (S := S768x2048), View.ld_unit_zero (S := S256x2048)] <;> (funext a; fin_cases a <;> rfl)

theorem place (r : Fin 768) (s : Fin 256) : ((cfg4.win 2).blk t).view.emb (ix2 r s) = ix2 (row t r) s := by
  funext a
  match a with
  | ⟨0, _⟩ => exact Fin.ext (by show win4_2.index t (0 : Fin 2) * 768 + 1 * r.val = 768 * t.val + r.val; rw [idx2]; show t.val * 768 + 1 * r.val = _; omega)
  | ⟨1, _⟩ => exact Fin.ext (by show win4_2.index t (1 : Fin 2) * 256 + 1 * s.val = s.val; rw [idx2]; show 0 * 256 + 1 * s.val = _; omega)

/-- The call leaves the product of its operands. -/
theorem final : (dat4 V c).arrAt 2 cfg4.N = rowsRows (φ := .bf16) (a := 2304) (n := 2048) (b := 256) .f32 (V c main_v24) (V c main_v14) := by
  refine (dat4 V c).arrAt_eq_of_covers 2 _ (by decide +kernel) fun t _ y => ?_
  idx_vars y
  refine Eq.trans ?_ (congrArg (rowsRows (φ := .bf16) (a := 2304) (n := 2048) (b := 256) .f32 (V c main_v24) (V c main_v14)) (place t y0 y1).symm)
  show (dat4 V c).after 2 t (ix2 y0 y1) = _
  rw [after4_2, body]
  refine (pay_at _ _ y0 y1).trans (Finset.sum_congr rfl fun k _ => ?_)
  exact congrArg₂ (· * ·) (blk0 V c t y0 k) (blk1 V c t y1 k)

end KeyValueX

/-! ## The key weights' gradient: columns of the key latent by columns of the keys' and values' cotangent -/

namespace KeyValueW

theorem idx0 : ∀ t : Fin grid5.N, win5_0.index t = ![0, 0] := by decide +kernel
theorem idx1 : ∀ t : Fin grid5.N, win5_1.index t = ![0, t.val] := by decide +kernel
theorem idx2 : ∀ t : Fin grid5.N, win5_2.index t = ![0, t.val] := by decide +kernel

theorem pay_at (x : FVec Ideal S2304x256 .bf16) (y : FVec Ideal S2304x1024 .bf16) (r : Fin 256) (s : Fin 1024) :
    k5_pay1 (F := Ideal) x y (ix2 r s) = ∑ k : Fin 2304, x (ix2 k r) * y (ix2 k s) := by
  pointwise [k5_pay1]

variable (t : Fin cfg5.N)

theorem lt2 : t.val < 2 := t.isLt

def col (s : Fin 1024) : Fin 2048 := ⟨1024 * t.val + s.val, by have := lt2 t; have := s.isLt; omega⟩

theorem blk0 (k : Fin 2304) (r : Fin 256) : iblk5 V c 0 t (ix2 k r) = V c main_v26 (ix2 k r) := by
  blk_ext [iblk5, idx0 t]
theorem blk1 (k : Fin 2304) (s : Fin 1024) : iblk5 V c 1 t (ix2 k s) = V c main_v27 (ix2 k (col t s)) := by
  blk_ext [iblk5, idx1 t, col]

theorem body (x : FVec Ideal S2304x256 .bf16) (y : FVec Ideal S2304x1024 .bf16) : out5_2 (F := Ideal) x y = k5_pay1 (F := Ideal) x y := by
  unfold out5_2
  rw [View.canon_unit_zero, View.ld_unit_zero (S := S2304x256), View.ld_unit_zero (S := S2304x1024)] <;> (funext a; fin_cases a <;> rfl)

theorem place (r : Fin 256) (s : Fin 1024) : ((cfg5.win 2).blk t).view.emb (ix2 r s) = ix2 r (col t s) := by
  funext a
  match a with
  | ⟨0, _⟩ => exact Fin.ext (by show win5_2.index t (0 : Fin 2) * 256 + 1 * r.val = r.val; rw [idx2]; show 0 * 256 + 1 * r.val = _; omega)
  | ⟨1, _⟩ => exact Fin.ext (by show win5_2.index t (1 : Fin 2) * 1024 + 1 * s.val = 1024 * t.val + s.val; rw [idx2]; show t.val * 1024 + 1 * s.val = _; omega)

/-- The call leaves the product of its operands. -/
theorem final : (dat5 V c).arrAt 2 cfg5.N = colsCols (φ := .bf16) (a := 256) (n := 2304) (b := 2048) .bf16 (V c main_v26) (V c main_v27) := by
  refine (dat5 V c).arrAt_eq_of_covers 2 _ (by decide +kernel) fun t _ y => ?_
  idx_vars y
  refine Eq.trans ?_ (congrArg (colsCols (φ := .bf16) (a := 256) (n := 2304) (b := 2048) .bf16 (V c main_v26) (V c main_v27)) (place t y0 y1).symm)
  show (dat5 V c).after 2 t (ix2 y0 y1) = _
  rw [after5_2, body]
  refine (pay_at _ _ y0 y1).trans (Finset.sum_congr rfl fun k _ => ?_)
  exact congrArg₂ (· * ·) (blk0 V c t k y0) (blk1 V c t k y1)

end KeyValueW

end Cert.Latents

end
-- ==== Proof.LatentLayout.lean ====
/- Columns laid out by parts: matrices whose columns are moved to other places, with zeros in the places nothing moves to, the
   products of such matrices, and the two layouts of the heads' columns. -/
module

public import proofs.«01_k».proof.Proof.Gap

@[expose] public section

noncomputable section

namespace Cert.Layout

open Cert.Products Cert.Gap Idealize.ShloMosaic

/-- A layout: where each column goes, and which column, if any, a place takes. -/
structure Layout (n p : ℕ) where
  place : Fin n → Fin p
  back : Fin p → Option (Fin n)
  back_place : ∀ k, back (place k) = some k
  place_back : ∀ j k, back j = some k → j = place k

variable {φ ψ : FTy} {a b n p q : ℕ} (L : Layout n p)

/-- The columns laid out, with zeros in the places left. -/
def laid (ψ : FTy) (x : FVec Ideal ⟨2, ![a, n]⟩ φ) : FVec Ideal ⟨2, ![a, p]⟩ ψ := fun i =>
  (L.back (i 1)).elim (0 : EReal) fun k => x (ix2 (i 0) k)

/-- The columns read back from their places. -/
def taken (ψ : FTy) (x : FVec Ideal ⟨2, ![a, p]⟩ φ) : FVec Ideal ⟨2, ![a, n]⟩ ψ := fun i => (x (ix2 (i 0) (L.place (i 1))) : EReal)

theorem laid_some (x : FVec Ideal ⟨2, ![a, n]⟩ φ) (r : Fin a) (j : Fin p) (k : Fin n) (h : L.back j = some k) :
    laid L ψ x (ix2 r j) = x (ix2 r k) := by
  show (L.back j).elim (0 : EReal) (fun k => x (ix2 r k)) = _
  rw [h]
  rfl

theorem laid_none (x : FVec Ideal ⟨2, ![a, n]⟩ φ) (r : Fin a) (j : Fin p) (h : L.back j = none) : laid L ψ x (ix2 r j) = (0 : EReal) := by
  show (L.back j).elim (0 : EReal) (fun k => x (ix2 r k)) = _
  rw [h]
  rfl

/-- A sum over all places, zero where no column goes, is the sum over the columns. -/
theorem sum_place (f : Fin p → EReal) (hf : ∀ j, L.back j = none → f j = 0) : ∑ j, f j = ∑ k, f (L.place k) := by
  have inj : ∀ i j, L.place i = L.place j → i = j := fun i j e =>
    Option.some.inj ((L.back_place i).symm.trans ((congrArg L.back e).trans (L.back_place j)))
  rw [← Finset.sum_image (s := Finset.univ) (g := L.place) (f := f) fun i _ j _ e => inj i j e]
  refine (Finset.sum_subset (Finset.subset_univ _) fun j _ hj => ?_).symm
  cases e : L.back j with
  | none => exact hf j e
  | some k => exact absurd (L.place_back j k e ▸ Finset.mem_image_of_mem _ (Finset.mem_univ k)) hj

/-- A product by columns laid out is the product, laid out. -/
theorem rowsCols_laid (x : FVec Ideal ⟨2, ![a, q]⟩ φ) (w : FVec Ideal ⟨2, ![q, n]⟩ φ) :
    rowsCols ψ x (laid L φ w) = laid L ψ (rowsCols ψ x w) := by
  funext i
  obtain ⟨i0, j, rfl⟩ := split i
  show ∑ k : Fin q, (x (ix2 i0 k) : EReal) * laid L φ w (ix2 k j) = _
  cases e : L.back j with
  | none =>
    rw [laid_none L _ _ _ e]
    refine Finset.sum_eq_zero fun k _ => ?_
    rw [laid_none L _ _ _ e, mul_zero]
  | some l =>
    rw [laid_some L _ _ _ l e]
    show _ = ∑ k : Fin q, (x (ix2 i0 k) : EReal) * w (ix2 k l)
    refine Finset.sum_congr rfl fun k _ => ?_
    rw [laid_some L _ _ _ l e]

/-- A product of rows by rows laid out is the product of the columns read back. -/
theorem rowsRows_laid (x : FVec Ideal ⟨2, ![a, p]⟩ φ) (w : FVec Ideal ⟨2, ![b, n]⟩ φ) :
    rowsRows ψ x (laid L φ w) = rowsRows ψ (taken L φ x) w := by
  funext i
  obtain ⟨i0, i1, rfl⟩ := split i
  show ∑ j : Fin p, (x (ix2 i0 j) : EReal) * laid L φ w (ix2 i1 j) = ∑ k : Fin n, (x (ix2 i0 (L.place k)) : EReal) * w (ix2 i1 k)
  rw [sum_place L _ fun j h => by rw [laid_none L _ _ _ h, mul_zero]]
  refine Finset.sum_congr rfl fun k _ => ?_
  rw [laid_some L _ _ _ k (L.back_place k)]

/-- The columns of a product, read back. -/
theorem colsCols_taken (x : FVec Ideal ⟨2, ![q, a]⟩ φ) (w : FVec Ideal ⟨2, ![q, p]⟩ φ) :
    taken L ψ (colsCols ψ x w) = colsCols ψ x (taken L φ w) := rfl

/-! ## The two layouts -/

/-- The queries' columns: eight heads of 128 plain lanes and 64 rotated ones become the eight heads' plain lanes, then the eight
    heads' rotated lanes, each head in 128 places of which it fills the first 64. -/
def queries : Layout 1536 2048 where
  place k := if k.val % 192 < 128 then ⟨k.val / 192 * 128 + k.val % 192, by omega⟩
    else ⟨1024 + (k.val / 192 * 128 + (k.val % 192 - 128)), by omega⟩
  back j := if h : j.val < 1024 then some ⟨j.val / 128 * 192 + j.val % 128, by omega⟩
    else if h' : (j.val - 1024) % 128 < 64 then some ⟨(j.val - 1024) / 128 * 192 + (128 + (j.val - 1024) % 128), by omega⟩ else none
  back_place k := by
    have hk := k.isLt
    by_cases h : k.val % 192 < 128
    · rw [if_pos h]
      refine (dif_pos (show k.val / 192 * 128 + k.val % 192 < 1024 by omega)).trans (congrArg some (Fin.ext ?_))
      show (k.val / 192 * 128 + k.val % 192) / 128 * 192 + (k.val / 192 * 128 + k.val % 192) % 128 = k.val
      omega
    · rw [if_neg h]
      refine (dif_neg (show ¬ 1024 + (k.val / 192 * 128 + (k.val % 192 - 128)) < 1024 by omega)).trans ?_
      refine (dif_pos (show (1024 + (k.val / 192 * 128 + (k.val % 192 - 128)) - 1024) % 128 < 64 by omega)).trans (congrArg some (Fin.ext ?_))
      show (1024 + (k.val / 192 * 128 + (k.val % 192 - 128)) - 1024) / 128 * 192
        + (128 + (1024 + (k.val / 192 * 128 + (k.val % 192 - 128)) - 1024) % 128) = k.val
      omega
  place_back j k e := by
    have hj := j.isLt
    by_cases h : j.val < 1024
    · rw [dif_pos h] at e
      obtain rfl := Option.some.inj e
      rw [if_pos (show (j.val / 128 * 192 + j.val % 128) % 192 < 128 by omega)]
      exact Fin.ext (show j.val = (j.val / 128 * 192 + j.val % 128) / 192 * 128 + (j.val / 128 * 192 + j.val % 128) % 192 by omega)
    · rw [dif_neg h] at e
      by_cases h' : (j.val - 1024) % 128 < 64
      · rw [dif_pos h'] at e
        obtain rfl := Option.some.inj e
        rw [if_neg (show ¬ ((j.val - 1024) / 128 * 192 + (128 + (j.val - 1024) % 128)) % 192 < 128 by omega)]
        exact Fin.ext (show j.val = 1024 + (((j.val - 1024) / 128 * 192 + (128 + (j.val - 1024) % 128)) / 192 * 128
          + (((j.val - 1024) / 128 * 192 + (128 + (j.val - 1024) % 128)) % 192 - 128)) by omega)
      · rw [dif_neg h'] at e
        exact absurd e (by simp)

/-- The keys' and values' columns: eight heads of 128 key lanes and 128 value lanes become the keys of all heads, then their values. -/
def keyValues : Layout 2048 2048 where
  place k := if k.val % 256 < 128 then ⟨k.val / 256 * 128 + k.val % 256, by omega⟩
    else ⟨1024 + (k.val / 256 * 128 + (k.val % 256 - 128)), by omega⟩
  back j := if h : j.val < 1024 then some ⟨j.val / 128 * 256 + j.val % 128, by omega⟩
    else some ⟨(j.val - 1024) / 128 * 256 + (128 + (j.val - 1024) % 128), by omega⟩
  back_place k := by
    have hk := k.isLt
    by_cases h : k.val % 256 < 128
    · rw [if_pos h]
      refine (dif_pos (show k.val / 256 * 128 + k.val % 256 < 1024 by omega)).trans (congrArg some (Fin.ext ?_))
      show (k.val / 256 * 128 + k.val % 256) / 128 * 256 + (k.val / 256 * 128 + k.val % 256) % 128 = k.val
      omega
    · rw [if_neg h]
      refine (dif_neg (show ¬ 1024 + (k.val / 256 * 128 + (k.val % 256 - 128)) < 1024 by omega)).trans (congrArg some (Fin.ext ?_))
      show (1024 + (k.val / 256 * 128 + (k.val % 256 - 128)) - 1024) / 128 * 256
        + (128 + (1024 + (k.val / 256 * 128 + (k.val % 256 - 128)) - 1024) % 128) = k.val
      omega
  place_back j k e := by
    have hj := j.isLt
    by_cases h : j.val < 1024
    · rw [dif_pos h] at e
      obtain rfl := Option.some.inj e
      rw [if_pos (show (j.val / 128 * 256 + j.val % 128) % 256 < 128 by omega)]
      exact Fin.ext (show j.val = (j.val / 128 * 256 + j.val % 128) / 256 * 128 + (j.val / 128 * 256 + j.val % 128) % 256 by omega)
    · rw [dif_neg h] at e
      obtain rfl := Option.some.inj e
      rw [if_neg (show ¬ ((j.val - 1024) / 128 * 256 + (128 + (j.val - 1024) % 128)) % 256 < 128 by omega)]
      exact Fin.ext (show j.val = 1024 + (((j.val - 1024) / 128 * 256 + (128 + (j.val - 1024) % 128)) / 256 * 128
        + (((j.val - 1024) / 128 * 256 + (128 + (j.val - 1024) % 128)) % 256 - 128)) by omega)

theorem queries_low (j : Fin 2048) (h : j.val < 1024) : queries.back j = some ⟨j.val / 128 * 192 + j.val % 128, by omega⟩ := dif_pos h
theorem queries_high (j : Fin 2048) (h : ¬ j.val < 1024) (h' : (j.val - 1024) % 128 < 64) :
    queries.back j = some ⟨(j.val - 1024) / 128 * 192 + (128 + (j.val - 1024) % 128), by omega⟩ := (dif_neg h).trans (dif_pos h')
theorem queries_none (j : Fin 2048) (h : ¬ j.val < 1024) (h' : ¬ (j.val - 1024) % 128 < 64) : queries.back j = none :=
  (dif_neg h).trans (dif_neg h')
theorem keyValues_low (j : Fin 2048) (h : j.val < 1024) : keyValues.back j = some ⟨j.val / 128 * 256 + j.val % 128, by omega⟩ := dif_pos h
theorem keyValues_high (j : Fin 2048) (h : ¬ j.val < 1024) :
    keyValues.back j = some ⟨(j.val - 1024) / 128 * 256 + (128 + (j.val - 1024) % 128), by omega⟩ := dif_neg h
theorem queries_plain (k : Fin 1536) (h : k.val % 192 < 128) : queries.place k = ⟨k.val / 192 * 128 + k.val % 192, by omega⟩ := if_pos h
theorem queries_turned (k : Fin 1536) (h : ¬ k.val % 192 < 128) :
    queries.place k = ⟨1024 + (k.val / 192 * 128 + (k.val % 192 - 128)), by omega⟩ := if_neg h
theorem keyValues_key (k : Fin 2048) (h : k.val % 256 < 128) : keyValues.place k = ⟨k.val / 256 * 128 + k.val % 256, by omega⟩ := if_pos h
theorem keyValues_value (k : Fin 2048) (h : ¬ k.val % 256 < 128) :
    keyValues.place k = ⟨1024 + (k.val / 256 * 128 + (k.val % 256 - 128)), by omega⟩ := if_neg h

end Cert.Layout

end
-- ==== Proof.LatentChain.lean ====
/- The latent projections: the contents the six calls leave, followed from the last call back to the arguments. -/
module

public import proofs.«01_k».proof.Proof.LatentRun
public import proofs.«01_k».proof.Proof.LatentProducts
public import proofs.«01_k».proof.Proof.LatentLayout

@[expose] public section

set_option maxRecDepth 16384

noncomputable section

namespace Cert.Latents

open Cert.LatentIdeal Cert.LatentIdeal.Gen Cert.Products Cert.Layout Idealize.ShloMosaic Idealize.ShloMosaic.TcCoe Idealize.SL.Sem

/-- An array rounded to the calls' operand type. -/
def low {S : Shape} (x : FVec Ideal S .f32) : FVec Ideal S .bf16 := truncf .bf16 x bitsLt_bf16_f32

/-! ## The layouts as the host code makes them -/

/-- The queries' weights by heads, their rotated lanes, and those lanes in the first half of 128. -/
def heads (w : FVec Ideal S512x1536 .f32) : FVec Ideal S512x8x192 .bf16 := shapeCast S512x8x192 (low w) shapeCasts_S512x1536_S512x8x192
def turned (w : FVec Ideal S512x1536 .f32) : FVec Ideal S512x8x64 .bf16 :=
  extractStridedSlice S512x8x64 ![0, 0, 128] (heads w) slices_S512x8x192_S512x8x64_0_0_128
def zero : FVec Ideal S_ .bf16 := sitofp .bf16 (constantI S_ 32 0#32)
def widened (w : FVec Ideal S512x1536 .f32) : FVec Ideal S512x8x128 .bf16 :=
  pad S512x8x128 ![0, 0, 0] ![0, 0, 64] ![0, 0, 0] (turned w) zero pads_S512x8x64_S512x8x128_000_000_0640 h_S_

/-- The queries' weights by parts. -/
def queryParts (w : FVec Ideal S512x1536 .f32) : FVec Ideal S512x2048 .bf16 :=
  concatenate S512x2048 1
    [⟨S512x1024, shapeCast S512x1024 (extractStridedSlice S512x8x128 ![0, 0, 0] (heads w) slices_S512x8x192_S512x8x128_0_0_0)
      shapeCasts_S512x8x128_S512x1024⟩,
     ⟨S512x1024, shapeCast S512x1024 (widened w) shapeCasts_S512x8x128_S512x1024⟩] concatenates_S512x1024_S512x1024_S512x2048_d1

/-- The keys' and values' weights by parts. -/
def keyParts (w : FVec Ideal S256x2048 .f32) : FVec Ideal S256x2048 .bf16 :=
  concatenate S256x2048 1
    [⟨S256x1024, shapeCast S256x1024 (extractStridedSlice S256x8x128 ![0, 0, 0]
      (shapeCast S256x8x256 (low w) shapeCasts_S256x2048_S256x8x256) slices_S256x8x256_S256x8x128_0_0_0) shapeCasts_S256x8x128_S256x1024⟩,
     ⟨S256x1024, shapeCast S256x1024 (extractStridedSlice S256x8x128 ![0, 0, 128]
      (shapeCast S256x8x256 (low w) shapeCasts_S256x2048_S256x8x256) slices_S256x8x256_S256x8x128_0_0_128) shapeCasts_S256x8x128_S256x1024⟩]
    concatenates_S256x1024_S256x1024_S256x2048_d1

/-- The queries' weights' gradient back by heads. -/
def queryHeads (g : FVec Ideal S512x2048 .bf16) : FVec Ideal S512x1536 .bf16 :=
  shapeCast S512x1536 (concatenate S512x8x192 2
    [⟨S512x8x128, shapeCast S512x8x128 (extractStridedSlice S512x1024 ![0, 0] g slices_S512x2048_S512x1024_0_0) shapeCasts_S512x1024_S512x8x128⟩,
     ⟨S512x8x64, extractStridedSlice S512x8x64 ![0, 0, 0]
      (shapeCast S512x8x128 (extractStridedSlice S512x1024 ![0, 1024] g slices_S512x2048_S512x1024_0_1024) shapeCasts_S512x1024_S512x8x128)
      slices_S512x8x128_S512x8x64_0_0_0⟩] concatenates_S512x8x128_S512x8x64_S512x8x192_d2) shapeCasts_S512x8x192_S512x1536

/-- The keys' and values' weights' gradient back by heads. -/
def keyHeads (g : FVec Ideal S256x2048 .bf16) : FVec Ideal S256x2048 .bf16 :=
  shapeCast S256x2048 (concatenate S256x8x256 2
    [⟨S256x8x128, shapeCast S256x8x128 (extractStridedSlice S256x1024 ![0, 0] g slices_S256x2048_S256x1024_0_0) shapeCasts_S256x1024_S256x8x128⟩,
     ⟨S256x8x128, shapeCast S256x8x128 (extractStridedSlice S256x1024 ![0, 1024] g slices_S256x2048_S256x1024_0_1024)
      shapeCasts_S256x1024_S256x8x128⟩] concatenates_S256x8x128_S256x8x128_S256x8x256_d2) shapeCasts_S256x8x256_S256x2048

theorem queryParts_eq (w : FVec Ideal S512x1536 .f32) : queryParts w = laid queries .bf16 (low w) := by
  funext i
  idx_vars i
  unfold queryParts widened turned heads
  generalize low w = y
  have hz : ∀ j, zero j = (0 : EReal) := fun j => show (((0#32 : BitVec 32).toInt : ℝ) : EReal) = 0 by norm_num
  generalize zero = z at hz ⊢
  by_cases h : i1.val < 1024
  · rw [laid_some queries _ _ _ _ (queries_low i1 h)]
    pointwise
    exact dif_pos h
  · by_cases h' : (i1.val - 1024) % 128 < 64
    · rw [laid_some queries _ _ _ _ (queries_high i1 h h')]
      pointwise
      exact (dif_neg h).trans (dif_pos ⟨by omega, h'⟩)
    · rw [laid_none queries _ _ _ (queries_none i1 h h')]
      pointwise
      have hg : ¬ ((i1.val - 1024) / 128 < 8 ∧ (i1.val - 1024) % 128 < 64) := fun g => h' g.2
      refine (dif_neg h).trans ((dif_neg hg).trans ?_)
      exact hz _

theorem keyParts_eq (w : FVec Ideal S256x2048 .f32) : keyParts w = laid keyValues .bf16 (low w) := by
  funext i
  idx_vars i
  unfold keyParts
  generalize low w = y
  by_cases h : i1.val < 1024
  · rw [laid_some keyValues _ _ _ _ (keyValues_low i1 h)]
    pointwise
    exact dif_pos h
  · rw [laid_some keyValues _ _ _ _ (keyValues_high i1 h)]
    pointwise
    exact dif_neg h

theorem queryHeads_eq (g : FVec Ideal S512x2048 .bf16) : queryHeads g = taken queries .bf16 g := by
  funext i
  idx_vars i
  show _ = g (ix2 i0 (queries.place i1))
  unfold queryHeads
  by_cases h : i1.val % 192 < 128
  · rw [queries_plain i1 h]
    pointwise
    exact dif_pos h
  · rw [queries_turned i1 h]
    pointwise
    exact dif_neg h

theorem keyHeads_eq (g : FVec Ideal S256x2048 .bf16) : keyHeads g = taken keyValues .bf16 g := by
  funext i
  idx_vars i
  show _ = g (ix2 i0 (keyValues.place i1))
  unfold keyHeads
  by_cases h : i1.val % 256 < 128
  · rw [keyValues_key i1 h]
    pointwise
    exact dif_pos h
  · rw [keyValues_value i1 h]
    pointwise
    exact dif_neg h

/-! ## The quantities, from the arguments -/

section quantities
variable (q : FVec Ideal S2048x512 .f32) (k : FVec Ideal S2304x256 .f32) (wq : FVec Ideal S512x1536 .f32) (wk : FVec Ideal S256x2048 .f32)
  (dq : FVec Ideal S2048x2048 .f32) (dk : FVec Ideal S2304x2048 .f32)

/-- The queries, and the keys and values, by parts. -/
def resQ : FVec Ideal S2048x2048 .f32 :=
  laid queries .f32 (rowsCols (φ := .bf16) (a := 2048) (n := 512) (b := 1536) .f32 (low q) (low wq))
def resK : FVec Ideal S2304x2048 .bf16 :=
  laid keyValues .bf16 (rowsCols (φ := .bf16) (a := 2304) (n := 256) (b := 2048) .bf16 (low k) (low wk))
/-- The latents' cotangents. -/
def resDQ : FVec Ideal S2048x512 .f32 :=
  rowsRows (φ := .bf16) (a := 2048) (n := 1536) (b := 512) .f32 (taken queries .bf16 (low dq)) (low wq)
def resDK : FVec Ideal S2304x256 .f32 :=
  rowsRows (φ := .bf16) (a := 2304) (n := 2048) (b := 256) .f32 (taken keyValues .bf16 (low dk)) (low wk)
/-- The weights' gradients. -/
def resWQ : FVec Ideal S512x1536 .bf16 :=
  colsCols (φ := .bf16) (a := 512) (n := 2048) (b := 1536) .bf16 (low q) (taken queries .bf16 (low dq))
def resWK : FVec Ideal S256x2048 .bf16 :=
  colsCols (φ := .bf16) (a := 256) (n := 2304) (b := 2048) .bf16 (low k) (taken keyValues .bf16 (low dk))
end quantities

variable (m : (ℓ : Loc nD τ sig) → Buf (Elt Ideal) ℓ) (ρ : Dev nD → PrngReg) (c : Dev nD)

/-- The arguments. -/
def aQ : FVec Ideal S2048x512 .f32 := m ((c : Thread nD τ).loc main_arg0)
def aK : FVec Ideal S2304x256 .f32 := m ((c : Thread nD τ).loc main_arg1)
def aWQ : FVec Ideal S512x1536 .f32 := m ((c : Thread nD τ).loc main_arg2)
def aWK : FVec Ideal S256x2048 .f32 := m ((c : Thread nD τ).loc main_arg3)
def aDQ : FVec Ideal S2048x2048 .f32 := m ((c : Thread nD τ).loc main_arg4)
def aDK : FVec Ideal S2304x2048 .f32 := m ((c : Thread nD τ).loc main_arg5)

/-! ## What the host code prepares -/

theorem W1_v1 : W1 m ρ c (Proc.devRef .tc main_v1) = heads (aWQ m c) := by
  show StableHlo.after _ _ (Proc.devRef .tc main_v1) = _
  unfold hostOps0
  after_results <;> rfl
theorem W1_v2 : W1 m ρ c (Proc.devRef .tc main_v2) = turned (aWQ m c) := by
  show StableHlo.after _ _ (Proc.devRef .tc main_v2) = _
  unfold hostOps0
  after_results <;> rfl
theorem W1_c : W1 m ρ c (Proc.devRef .tc main_c) = constantI S_ 32 0#32 := by
  show StableHlo.after _ _ (Proc.devRef .tc main_c) = _
  unfold hostOps0
  after_results <;> rfl
theorem W2_v3 : W2 m ρ c (Proc.devRef .tc main_v3) = widened (aWQ m c) := by
  have e := W1_v2 m ρ c
  have e' := W1_c m ρ c
  simp only [W2, hostOps0_1]
  generalize W1 m ρ c = W at e e' ⊢
  entry_read
  rw [e, e']
  rfl
theorem W2_v1 : W2 m ρ c (Proc.devRef .tc main_v1) = heads (aWQ m c) := (W2_of m ρ c main_v1 (by decide)).trans (W1_v1 m ρ c)
theorem V3_v7 : V3 m ρ c main_v7 = laid queries .bf16 (low (aWQ m c)) := by
  have e := W2_v1 m ρ c
  have e' := W2_v3 m ρ c
  refine Eq.trans ?_ (queryParts_eq (aWQ m c))
  unfold queryParts
  rw [← e, ← e']
  show StableHlo.after _ _ (Proc.devRef .tc main_v7) = _
  unfold hostOps0_2
  generalize W2 m ρ c = W
  after_results <;> rfl
theorem V3_v14 : V3 m ρ c main_v14 = laid keyValues .bf16 (low (aWK m c)) := by
  have e : W2 m ρ c (Proc.devRef .tc main_arg3) = aWK m c := W2_args m ρ c main_arg3 (by decide)
  refine Eq.trans ?_ (keyParts_eq (aWK m c))
  rw [← e]
  show StableHlo.after _ _ (Proc.devRef .tc main_v14) = _
  unfold hostOps0_2 keyParts
  generalize W2 m ρ c = W
  after_results <;> rfl
theorem V3_v15 : V3 m ρ c main_v15 = low (aQ m c) := by
  have e := W2_args m ρ c main_arg0 (by decide)
  simp only [V3, W3, hostOps0_2]
  generalize W2 m ρ c = W at e ⊢
  entry_read
  exact congrArg low e
theorem V5_v17 : V5 m ρ c main_v17 = low (aK m c) := by
  have e := W4_args m ρ c main_arg1 (by decide)
  simp only [V5, W5, hostOps1]
  generalize W4 m ρ c = W at e ⊢
  entry_read
  exact congrArg low e
theorem V7_v19 : V7 m ρ c main_v19 = low (aDQ m c) := by
  have e := W6_args m ρ c main_arg4 (by decide)
  simp only [V7, W7, hostOps2]
  generalize W6 m ρ c = W at e ⊢
  entry_read
  exact congrArg low e
theorem V9_v21 : V9 m ρ c main_v21 = low (aQ m c) := by
  have e := W8_args m ρ c main_arg0 (by decide)
  simp only [V9, W9, hostOps3]
  generalize W8 m ρ c = W at e ⊢
  entry_read
  exact congrArg low e
theorem V9_v22 : V9 m ρ c main_v22 = low (aDQ m c) := by
  have e := W8_args m ρ c main_arg4 (by decide)
  simp only [V9, W9, hostOps3]
  generalize W8 m ρ c = W at e ⊢
  entry_read
  exact congrArg low e
theorem V11_v24 : V11 m ρ c main_v24 = low (aDK m c) := by
  have e := W10_args m ρ c main_arg5 (by decide)
  simp only [V11, W11, hostOps4]
  generalize W10 m ρ c = W at e ⊢
  entry_read
  exact congrArg low e
theorem V13_v26 : V13 m ρ c main_v26 = low (aK m c) := by
  have e := W12_args m ρ c main_arg1 (by decide)
  simp only [V13, W13, hostOps5]
  generalize W12 m ρ c = W at e ⊢
  entry_read
  exact congrArg low e
theorem V13_v27 : V13 m ρ c main_v27 = low (aDK m c) := by
  have e := W12_args m ρ c main_arg5 (by decide)
  simp only [V13, W13, hostOps5]
  generalize W12 m ρ c = W at e ⊢
  entry_read
  exact congrArg low e

/-! ## What the calls leave -/

theorem W4_q : W4 m ρ c (Proc.devRef .tc main_v16) = resQ (aQ m c) (aWQ m c) :=
  (((W4_arr m ρ c 2).trans (Query.final (V3 m ρ) c)).trans (congrArg₂ (rowsCols .f32) (V3_v15 m ρ c) (V3_v7 m ρ c))).trans
    (rowsCols_laid queries _ _)
theorem V5_v14 : V5 m ρ c main_v14 = laid keyValues .bf16 (low (aWK m c)) :=
  (W5_of m ρ c main_v14 (by decide)).trans ((W4_of m ρ c main_v14 (by decide)).trans (V3_v14 m ρ c))
theorem W6_k : W6 m ρ c (Proc.devRef .tc main_v18) = resK (aK m c) (aWK m c) :=
  (((W6_arr m ρ c 2).trans (KeyValue.final (V5 m ρ) c)).trans (congrArg₂ (rowsCols .bf16) (V5_v17 m ρ c) (V5_v14 m ρ c))).trans
    (rowsCols_laid keyValues _ _)
theorem V7_v7 : V7 m ρ c main_v7 = laid queries .bf16 (low (aWQ m c)) :=
  (W7_of m ρ c main_v7 (by decide)).trans ((W6_of m ρ c main_v7 (by decide)).trans ((W5_of m ρ c main_v7 (by decide)).trans
    ((W4_of m ρ c main_v7 (by decide)).trans (V3_v7 m ρ c))))
theorem W8_dq : W8 m ρ c (Proc.devRef .tc main_v20) = resDQ (aWQ m c) (aDQ m c) :=
  (((W8_arr m ρ c 2).trans (QueryX.final (V7 m ρ) c)).trans (congrArg₂ (rowsRows .f32) (V7_v19 m ρ c) (V7_v7 m ρ c))).trans
    (rowsRows_laid queries _ _)
theorem W10_wq : W10 m ρ c (Proc.devRef .tc main_v23)
    = colsCols (φ := .bf16) (a := 512) (n := 2048) (b := 2048) .bf16 (low (aQ m c)) (low (aDQ m c)) :=
  ((W10_arr m ρ c 2).trans (QueryW.final (V9 m ρ) c)).trans (congrArg₂ (colsCols .bf16) (V9_v21 m ρ c) (V9_v22 m ρ c))
theorem V11_v14 : V11 m ρ c main_v14 = laid keyValues .bf16 (low (aWK m c)) :=
  (W11_of m ρ c main_v14 (by decide)).trans ((W10_of m ρ c main_v14 (by decide)).trans ((W9_of m ρ c main_v14 (by decide)).trans
    ((W8_of m ρ c main_v14 (by decide)).trans ((W7_of m ρ c main_v14 (by decide)).trans ((W6_of m ρ c main_v14 (by decide)).trans
      (V5_v14 m ρ c))))))
theorem W12_dk : W12 m ρ c (Proc.devRef .tc main_v25) = resDK (aWK m c) (aDK m c) :=
  (((W12_arr m ρ c 2).trans (KeyValueX.final (V11 m ρ) c)).trans (congrArg₂ (rowsRows .f32) (V11_v24 m ρ c) (V11_v14 m ρ c))).trans
    (rowsRows_laid keyValues _ _)
theorem W14_wk : W14 m ρ c (Proc.devRef .tc main_v28)
    = colsCols (φ := .bf16) (a := 256) (n := 2304) (b := 2048) .bf16 (low (aK m c)) (low (aDK m c)) :=
  ((W14_arr m ρ c 2).trans (KeyValueW.final (V13 m ρ) c)).trans (congrArg₂ (colsCols .bf16) (V13_v26 m ρ c) (V13_v27 m ρ c))
theorem W14_wq : W14 m ρ c (Proc.devRef .tc main_v23)
    = colsCols (φ := .bf16) (a := 512) (n := 2048) (b := 2048) .bf16 (low (aQ m c)) (low (aDQ m c)) :=
  (W14_of m ρ c main_v23 (by decide)).trans ((W13_of m ρ c main_v23 (by decide)).trans ((W12_of m ρ c main_v23 (by decide)).trans
    ((W11_of m ρ c main_v23 (by decide)).trans (W10_wq m ρ c))))

/-! ## The results after the last call -/

theorem final_q : W15 m ρ c (Proc.devRef .tc main_v16) = resQ (aQ m c) (aWQ m c) :=
  (W15_of m ρ c main_v16 (by decide)).trans ((W14_of m ρ c main_v16 (by decide)).trans ((W13_of m ρ c main_v16 (by decide)).trans
    ((W12_of m ρ c main_v16 (by decide)).trans ((W11_of m ρ c main_v16 (by decide)).trans ((W10_of m ρ c main_v16 (by decide)).trans
      ((W9_of m ρ c main_v16 (by decide)).trans ((W8_of m ρ c main_v16 (by decide)).trans ((W7_of m ρ c main_v16 (by decide)).trans
        ((W6_of m ρ c main_v16 (by decide)).trans ((W5_of m ρ c main_v16 (by decide)).trans (W4_q m ρ c)))))))))))
theorem final_k : W15 m ρ c (Proc.devRef .tc main_v18) = resK (aK m c) (aWK m c) :=
  (W15_of m ρ c main_v18 (by decide)).trans ((W14_of m ρ c main_v18 (by decide)).trans ((W13_of m ρ c main_v18 (by decide)).trans
    ((W12_of m ρ c main_v18 (by decide)).trans ((W11_of m ρ c main_v18 (by decide)).trans ((W10_of m ρ c main_v18 (by decide)).trans
      ((W9_of m ρ c main_v18 (by decide)).trans ((W8_of m ρ c main_v18 (by decide)).trans ((W7_of m ρ c main_v18 (by decide)).trans
        (W6_k m ρ c)))))))))
theorem final_dq : W15 m ρ c (Proc.devRef .tc main_v20) = resDQ (aWQ m c) (aDQ m c) :=
  (W15_of m ρ c main_v20 (by decide)).trans ((W14_of m ρ c main_v20 (by decide)).trans ((W13_of m ρ c main_v20 (by decide)).trans
    ((W12_of m ρ c main_v20 (by decide)).trans ((W11_of m ρ c main_v20 (by decide)).trans ((W10_of m ρ c main_v20 (by decide)).trans
      ((W9_of m ρ c main_v20 (by decide)).trans (W8_dq m ρ c)))))))
theorem final_dk : W15 m ρ c (Proc.devRef .tc main_v25) = resDK (aWK m c) (aDK m c) :=
  (W15_of m ρ c main_v25 (by decide)).trans ((W14_of m ρ c main_v25 (by decide)).trans ((W13_of m ρ c main_v25 (by decide)).trans
    (W12_dk m ρ c)))
theorem final_wq : W15 m ρ c (Proc.devRef .tc main_v35) = resWQ (aQ m c) (aDQ m c) := by
  refine Eq.trans ?_ (queryHeads_eq (colsCols (φ := .bf16) (a := 512) (n := 2048) (b := 2048) .bf16 (low (aQ m c)) (low (aDQ m c))))
  rw [← W14_wq m ρ c]
  show StableHlo.after _ _ (Proc.devRef .tc main_v35) = _
  unfold hostOps6 queryHeads
  generalize W14 m ρ c = W
  after_results <;> rfl
theorem final_wk : W15 m ρ c (Proc.devRef .tc main_v41) = resWK (aK m c) (aDK m c) := by
  refine Eq.trans ?_ (keyHeads_eq (colsCols (φ := .bf16) (a := 256) (n := 2304) (b := 2048) .bf16 (low (aK m c)) (low (aDK m c))))
  rw [← W14_wk m ρ c]
  show StableHlo.after _ _ (Proc.devRef .tc main_v41) = _
  unfold hostOps6 keyHeads
  generalize W14 m ρ c = W
  after_results <;> rfl

end Cert.Latents

end
-- ==== Proof.LatentEquation.lean ====
/- The latent projections, their cotangents and their reference are the same arrays. -/
module

public import proofs.«01_k».proof.Defs
public import proofs.«01_k».proof.Proof.LatentChain
public import proofs.«01_k».proof.Proof.Gen.LatentReferenceIdeal.Run
public import proofs.«01_k».proof.Proof.Gen.LatentReferenceIdeal.Read

@[expose] public section

set_option maxRecDepth 16384

noncomputable section

namespace Cert.Latents

open Cert.LatentIdeal Cert.LatentReferenceIdeal.Read Cert.Products Cert.Layout Idealize.ShloMosaic Idealize.SL.Sem

attribute [local instance] Cert.LatentIdeal.Gen.facts Cert.LatentReferenceIdeal.Gen.facts

variable (q : FVec Ideal S2048x512 .f32) (k : FVec Ideal S2304x256 .f32) (wq : FVec Ideal S512x1536 .f32) (wk : FVec Ideal S256x2048 .f32)
  (dq : FVec Ideal S2048x2048 .f32) (dk : FVec Ideal S2304x2048 .f32)

/-! ## The reference's two forward products, and their columns by parts -/

theorem ref_dotQ : val_main_v0 (F := Ideal) q wq = rowsCols (φ := .bf16) (a := 2048) (n := 512) (b := 1536) .f32 (low q) (low wq) := by
  funext i
  rw [val_main_v0_apply]
  show _ = ∑ l : Fin 512, low q (ix2 (i 0) l) * low wq (ix2 l (i 1))
  refine Finset.sum_congr rfl fun l _ => congrArg₂ (· * ·) (congrArg q ?_) (congrArg wq ?_) <;>
    · funext a
      match a with
      | ⟨0, _⟩ => rfl
      | ⟨1, _⟩ => rfl

theorem ref_dotK : val_main_v1 (F := Ideal) k wk = rowsCols (φ := .bf16) (a := 2304) (n := 256) (b := 2048) .f32 (low k) (low wk) := by
  funext i
  rw [val_main_v1_apply]
  show _ = ∑ l : Fin 256, low k (ix2 (i 0) l) * low wk (ix2 l (i 1))
  refine Finset.sum_congr rfl fun l _ => congrArg₂ (· * ·) (congrArg k ?_) (congrArg wk ?_) <;>
    · funext a
      match a with
      | ⟨0, _⟩ => rfl
      | ⟨1, _⟩ => rfl

theorem ref_q : val_main_v31 (F := Ideal) q wq = resQ q wq := by
  unfold resQ
  rw [← ref_dotQ]
  have hz : ∀ j, val_main_call0_v0 (F := Ideal) j = (0 : EReal) := fun j => show (((0#32 : BitVec 32).toInt : ℝ) : EReal) = 0 by norm_num
  unfold val_main_v31 val_main_v4 val_main_v3 val_main_v11 val_main_v10 val_main_v5 val_main_v2
  generalize val_main_v0 (F := Ideal) q wq = y
  generalize val_main_call0_v0 (F := Ideal) = z at hz ⊢
  funext i
  idx_vars i
  by_cases h : i1.val < 1024
  · rw [laid_some queries _ _ _ _ (queries_low i1 h)]
    pointwise
    exact dif_pos h
  · by_cases h' : (i1.val - 1024) % 128 < 64
    · rw [laid_some queries _ _ _ _ (queries_high i1 h h')]
      pointwise
      exact (dif_neg h).trans (dif_pos ⟨by omega, h'⟩)
    · rw [laid_none queries _ _ _ (queries_none i1 h h')]
      pointwise
      have hg : ¬ ((i1.val - 1024) / 128 < 8 ∧ (i1.val - 1024) % 128 < 64) := fun g => h' g.2
      refine (dif_neg h).trans ((dif_neg hg).trans ?_)
      exact hz _

theorem ref_parts : val_main_v33 (F := Ideal) k wk
    = laid keyValues .f32 (rowsCols (φ := .bf16) (a := 2304) (n := 256) (b := 2048) .f32 (low k) (low wk)) := by
  rw [← ref_dotK]
  unfold val_main_v33 val_main_v8 val_main_v7 val_main_v32 val_main_v9 val_main_v6
  generalize val_main_v1 (F := Ideal) k wk = y
  funext i
  idx_vars i
  by_cases h : i1.val < 1024
  · rw [laid_some keyValues _ _ _ _ (keyValues_low i1 h)]
    pointwise
    exact dif_pos h
  · rw [laid_some keyValues _ _ _ _ (keyValues_high i1 h)]
    pointwise
    exact dif_neg h

theorem ref_k : val_main_v34 (F := Ideal) k wk = resK k wk := by
  funext i
  exact (val_main_v34_apply (F := Ideal) k wk i).trans (Eq.trans (b := val_main_v33 (F := Ideal) k wk i) rfl (congrFun (ref_parts k wk) i))

/-! ## The reference's cotangents, back by heads -/

theorem ref_takenQ : val_main_v23 (F := Ideal) dq = taken queries .f32 dq := by
  unfold val_main_v23 val_main_v17 val_main_v13 val_main_v12 val_main_v16 val_main_v15 val_main_v14
  funext i
  idx_vars i
  show _ = dq (ix2 i0 (queries.place i1))
  by_cases h : i1.val % 192 < 128
  · rw [queries_plain i1 h]
    pointwise
    exact dif_pos h
  · rw [queries_turned i1 h]
    pointwise
    exact dif_neg h

theorem ref_takenK : val_main_v27 (F := Ideal) dk = taken keyValues .f32 dk := by
  unfold val_main_v27 val_main_v22 val_main_v19 val_main_v18 val_main_v21 val_main_v20
  funext i
  idx_vars i
  show _ = dk (ix2 i0 (keyValues.place i1))
  by_cases h : i1.val % 256 < 128
  · rw [keyValues_key i1 h]
    pointwise
    exact dif_pos h
  · rw [keyValues_value i1 h]
    pointwise
    exact dif_neg h

theorem ref_dq : val_main_v26 (F := Ideal) wq dq = resDQ wq dq := by
  funext i
  rw [val_main_v26_apply, ref_takenQ]
  show _ = ∑ l : Fin 1536, taken queries .bf16 (low dq) (ix2 (i 0) l) * low wq (ix2 (i 1) l)
  refine Finset.sum_congr rfl fun l _ => congrArg₂ (· * ·) (congrArg (taken queries .f32 dq) ?_) (congrArg wq ?_) <;>
    · funext a
      match a with
      | ⟨0, _⟩ => rfl
      | ⟨1, _⟩ => rfl

theorem ref_dk : val_main_v30 (F := Ideal) wk dk = resDK wk dk := by
  funext i
  rw [val_main_v30_apply, ref_takenK]
  show _ = ∑ l : Fin 2048, taken keyValues .bf16 (low dk) (ix2 (i 0) l) * low wk (ix2 (i 1) l)
  refine Finset.sum_congr rfl fun l _ => congrArg₂ (· * ·) (congrArg (taken keyValues .f32 dk) ?_) (congrArg wk ?_) <;>
    · funext a
      match a with
      | ⟨0, _⟩ => rfl
      | ⟨1, _⟩ => rfl

theorem ref_wq : val_main_v35 (F := Ideal) q dq = resWQ q dq := by
  funext i
  refine (val_main_v35_apply (F := Ideal) q dq i).trans (Eq.trans (b := val_main_v25 (F := Ideal) q dq i) rfl ?_)
  rw [val_main_v25_apply, val_main_v24_apply, ref_takenQ]
  show _ = ∑ l : Fin 2048, low q (ix2 l (i 0)) * taken queries .bf16 (low dq) (ix2 l (i 1))
  refine Finset.sum_congr rfl fun l _ => (mul_comm _ _).trans (congrArg₂ (· * ·) (congrArg q ?_) (congrArg (taken queries .f32 dq) ?_)) <;>
    · funext a
      match a with
      | ⟨0, _⟩ => rfl
      | ⟨1, _⟩ => rfl

theorem ref_wk : val_main_v36 (F := Ideal) k dk = resWK k dk := by
  funext i
  refine (val_main_v36_apply (F := Ideal) k dk i).trans (Eq.trans (b := val_main_v29 (F := Ideal) k dk i) rfl ?_)
  rw [val_main_v29_apply, val_main_v28_apply, ref_takenK]
  show _ = ∑ l : Fin 2304, low k (ix2 l (i 0)) * taken keyValues .bf16 (low dk) (ix2 l (i 1))
  refine Finset.sum_congr rfl fun l _ => (mul_comm _ _).trans (congrArg₂ (· * ·) (congrArg k ?_) (congrArg (taken keyValues .f32 dk) ?_)) <;>
    · funext a
      match a with
      | ⟨0, _⟩ => rfl
      | ⟨1, _⟩ => rfl

/-- The kernel's run and the reference's run leave the same six arrays. -/
theorem equation : algebraic_LatentIdeal_LatentReferenceIdeal := by
  intro m ρ m' ρ' _ hargs
  refine ⟨fun c => resQ (aQ m c) (aWQ m c), fun c => resK (aK m c) (aWK m c), fun c => resDQ (aWQ m c) (aDQ m c),
    fun c => resWQ (aQ m c) (aDQ m c), fun c => resDK (aWK m c) (aDK m c), fun c => resWK (aK m c) (aDK m c),
    (θ_run _ _ _).mono (fun r h c => ⟨(h c).1.trans (final_q m ρ c), (h c).2.1.trans (final_k m ρ c), (h c).2.2.1.trans (final_dq m ρ c),
      (h c).2.2.2.1.trans (final_wq m ρ c), (h c).2.2.2.2.1.trans (final_dk m ρ c), (h c).2.2.2.2.2.1.trans (final_wk m ρ c),
      (h c).2.2.2.2.2.2⟩) (run m ρ),
    (θ_run _ _ _).mono (fun r h c => ⟨(h c).1.trans ?_, (h c).2.1.trans ?_, (h c).2.2.1.trans ?_, (h c).2.2.2.1.trans ?_,
      (h c).2.2.2.2.1.trans ?_, (h c).2.2.2.2.2.1.trans ?_, (h c).2.2.2.2.2.2⟩) (Cert.LatentReferenceIdeal.Value.run m' ρ')⟩
  · obtain ⟨e0, e1, e2, e3, e4, e5⟩ := hargs c
    rw [val_main_v31_eq, e0, e2]
    exact ref_q _ _
  · obtain ⟨e0, e1, e2, e3, e4, e5⟩ := hargs c
    rw [val_main_v34_eq, e1, e3]
    exact ref_k _ _
  · obtain ⟨e0, e1, e2, e3, e4, e5⟩ := hargs c
    rw [val_main_v26_eq, e2, e4]
    exact ref_dq _ _
  · obtain ⟨e0, e1, e2, e3, e4, e5⟩ := hargs c
    rw [val_main_v35_eq, e0, e4]
    exact ref_wq _ _
  · obtain ⟨e0, e1, e2, e3, e4, e5⟩ := hargs c
    rw [val_main_v30_eq, e3, e5]
    exact ref_dk _ _
  · obtain ⟨e0, e1, e2, e3, e4, e5⟩ := hargs c
    rw [val_main_v36_eq, e1, e5]
    exact ref_wk _ _

end Cert.Latents

end
-- ==== Proof.AttendModel.lean ====
/- One row of softmax attention over the extended reals: its weights, its output and its row statistic, as functions of
   the row's scores; and a row of 192 lanes kept as two rows of 128. Nothing here mentions a program. -/
module

public import proofs.«01_k».proof.Proof.AttnModel

@[expose] public section

noncomputable section

namespace Cert.Attending

open Idealize.ShloMosaic

variable {n : ℕ}

/-- The score of a query against a key. -/
def score (f g : Fin 192 → EReal) : EReal := (∑ d, f d * g d) * Ideal.ofBits .f32 0x3D93CD3A#32

/-- The largest score of a row. -/
def top (s : Fin n → EReal) : EReal := (Finset.univ : Finset (Fin n)).fold max ⊥ s

/-- The exponential of a score lowered by the largest. -/
def lowered (s : Fin n → EReal) (j : Fin n) : EReal := Ideal.exp (s j - top s)

/-- The sum of a row's lowered exponentials. -/
def total (s : Fin n → EReal) : EReal := ∑ j, lowered s j

/-- The average of the values with the softmax of the scores as weights. -/
def average (s v : Fin n → EReal) : EReal := ∑ j, Ideal.div (lowered s j) (total s) * v j

/-- The row statistic. -/
def stat (s : Fin n → EReal) : EReal := top s + Ideal.log (total s)

/-- A sum of lowered exponentials of real scores, at least one of them, is not zero. -/
theorem total_ne (hn : 0 < n) (f : Fin n → ℝ) : total (fun j => ((f j : ℝ) : EReal)) ≠ 0 := by
  obtain ⟨r, hr⟩ := Cert.Attn.fold_max_real hn f
  unfold total lowered top
  rw [hr]
  simp only [← EReal.coe_sub, Ideal.exp_coe]
  rw [Cert.Attn.coe_sum]
  exact fun h => (Cert.Attn.sum_exp_pos hn fun j => f j - r).ne' (EReal.coe_eq_zero.mp h)

/-- A quotient by a number that is not zero is the product with the reciprocal. -/
theorem div_eq (p l : EReal) (h : l ≠ 0) : p * Ideal.div 1 l = Ideal.div p l := by
  unfold Ideal.div
  rw [if_neg h, if_neg h, one_mul]

/-! ## A row of 192 lanes, kept as two rows of 128 -/

/-- The first 128 lanes. -/
def low (f : Fin 192 → EReal) (d : Fin 128) : EReal := f ⟨d.val, by have := d.isLt; omega⟩

/-- The other 64 lanes, then zeros. -/
def high (f : Fin 192 → EReal) (d : Fin 128) : EReal := if h : d.val < 64 then f ⟨128 + d.val, by omega⟩ else 0

/-- The zeros add nothing to a product of two such rows. -/
theorem sum_parts (f g : Fin 192 → EReal) : ∑ d, low f d * low g d + ∑ d, high f d * high g d = ∑ d, f d * g d := by
  rw [show (∑ d : Fin 192, f d * g d) = ∑ d : Fin (128 + 64), f d * g d from rfl, Fin.sum_univ_add,
    show (∑ d : Fin 128, high f d * high g d) = ∑ d : Fin (64 + 64), high f d * high g d from rfl, Fin.sum_univ_add]
  have h1 : ∀ i : Fin 64, high f (Fin.castAdd 64 i) * high g (Fin.castAdd 64 i) = f (Fin.natAdd 128 i) * g (Fin.natAdd 128 i) :=
    fun i => congrArg₂ (· * ·) (dif_pos i.isLt) (dif_pos i.isLt)
  have h2 : ∀ i : Fin 64, high f (Fin.natAdd 64 i) * high g (Fin.natAdd 64 i) = 0 := fun i => by
    rw [show high f (Fin.natAdd 64 i) = 0 from dif_neg (by simp), zero_mul]
  rw [Finset.sum_congr rfl fun i _ => h1 i, Finset.sum_congr rfl fun i _ => h2 i, Finset.sum_const_zero, add_zero]
  rfl

/-! ## The heads of the arguments -/

/-- Head `h`'s row of an array of rows, heads and lanes. -/
def row {T D : ℕ} (q : (⟨3, ![T, 8, D]⟩ : Shape).Idx → EReal) (h : Fin 8) (t : Fin T) : Fin D → EReal := fun d => q (ix3 t h d)

/-- Head `h`'s key: its own 128 lanes, then the 64 lanes all heads share. -/
def key (kn : (⟨3, ![2304, 8, 128]⟩ : Shape).Idx → EReal) (kr : (⟨2, ![2304, 64]⟩ : Shape).Idx → EReal) (h : Fin 8) (s : Fin 2304) :
    Fin 192 → EReal :=
  fun d => if hd : d.val < 128 then kn (ix3 s h ⟨d.val, hd⟩) else kr (ix2 s ⟨d.val - 128, by have := d.isLt; omega⟩)

/-- The scores of query `t` in head `h`. -/
def scores (q : (⟨3, ![2048, 8, 192]⟩ : Shape).Idx → EReal) (kn : (⟨3, ![2304, 8, 128]⟩ : Shape).Idx → EReal)
    (kr : (⟨2, ![2304, 64]⟩ : Shape).Idx → EReal) (h : Fin 8) (t : Fin 2048) : Fin 2304 → EReal :=
  fun s => score (row q h t) (key kn kr h s)

/-- At finite queries and keys the scores are real. -/
theorem scores_real (q : (⟨3, ![2048, 8, 192]⟩ : Shape).Idx → ℝ) (kn : (⟨3, ![2304, 8, 128]⟩ : Shape).Idx → ℝ)
    (kr : (⟨2, ![2304, 64]⟩ : Shape).Idx → ℝ) (h : Fin 8) (t : Fin 2048) :
    scores (Cert.Attn.real q) (Cert.Attn.real kn) (Cert.Attn.real kr) h t
      = fun s => ((Cert.Attn.score Cert.Attn.scale (Cert.Attn.head q h) (Cert.Attn.keys kn kr h) t s : ℝ) : EReal) := by
  funext s
  unfold scores score
  rw [Cert.Attn.scale_eq]
  have hk : ∀ d, key (Cert.Attn.real kn) (Cert.Attn.real kr) h s d = ((Cert.Attn.keys kn kr h s d : ℝ) : EReal) := fun d => by
    unfold key Cert.Attn.keys
    split <;> rfl
  have hq : ∀ d, row (Cert.Attn.real q) h t d = ((Cert.Attn.head q h t d : ℝ) : EReal) := fun d => rfl
  simp only [hk, hq, ← EReal.coe_mul]
  rw [Cert.Attn.coe_sum, ← EReal.coe_mul]
  rfl

/-- The output: for each query the heads' averages beside each other. -/
def output (q : (⟨3, ![2048, 8, 192]⟩ : Shape).Idx → EReal) (kn : (⟨3, ![2304, 8, 128]⟩ : Shape).Idx → EReal)
    (kr : (⟨2, ![2304, 64]⟩ : Shape).Idx → EReal) (v : (⟨3, ![2304, 8, 128]⟩ : Shape).Idx → EReal) (t : Fin 2048) (l : Fin 1024) : EReal :=
  average (scores q kn kr ⟨l.val / 128, by have := l.isLt; omega⟩ t)
    fun s => v (ix3 s ⟨l.val / 128, by have := l.isLt; omega⟩ ⟨l.val % 128, by omega⟩)

end Cert.Attending

end
-- ==== Proof.Attend.lean ====
/- The attention's forward kernel: tile `t` works on head `t / 8` and on the 256 query rows from `256 * (t % 8)` on. What it
   reads, what it writes and the arrays it leaves. -/
module

public import proofs.«01_k».proof.Proof.AttendModel
public import proofs.«01_k».proof.Proof.Gen.AttendIdeal.Value
public import Idealize.ShloMosaic.Lib.Pipeline.ValueKit
public import Idealize.ShloMosaic.Lib.Pipeline.ReadBack
public import Idealize.ShloMosaic.Lib.Pointwise

@[expose] public section

set_option maxRecDepth 16384

noncomputable section

namespace Cert.Attending

open Cert.AttendIdeal Cert.AttendIdeal.Gen Idealize.ShloMosaic Idealize.ShloMosaic.TcCoe Idealize.SL.Sem

/-! ## The host's operands -/

/-- The lanes of the queries that take no position. -/
def opQn (x : FVec Ideal S2048x8x192 .f32) : FVec Ideal S2048x1024 .bf16 :=
  truncf .bf16 (shapeCast S2048x1024 (extractStridedSlice S2048x8x128 ![0, 0, 0] x slices_S2048x8x192_S2048x8x128_0_0_0)
    shapeCasts_S2048x8x128_S2048x1024) bitsLt_bf16_f32

/-- The lanes of the queries that take the position, then zeros. -/
def opQr (x : FVec Ideal S2048x8x192 .f32) : FVec Ideal S2048x1024 .bf16 :=
  truncf .bf16 (shapeCast S2048x1024 (pad S2048x8x128 ![0, 0, 0] ![0, 0, 64] ![0, 0, 0]
    (extractStridedSlice S2048x8x64 ![0, 0, 128] x slices_S2048x8x192_S2048x8x64_0_0_128)
    (sitofp FTy.f32 (constantI S_ 32 0#32) : FVec Ideal S_ .f32) pads_S2048x8x64_S2048x8x128_000_000_0640 h_S_)
    shapeCasts_S2048x8x128_S2048x1024) bitsLt_bf16_f32

/-- The keys beside the values. -/
def opKv (x y : FVec Ideal S2304x8x128 .f32) : FVec Ideal S2304x2048 .bf16 :=
  truncf .bf16 (concatenate S2304x2048 1 [⟨S2304x1024, shapeCast S2304x1024 x shapeCasts_S2304x8x128_S2304x1024⟩,
    ⟨S2304x1024, shapeCast S2304x1024 y shapeCasts_S2304x8x128_S2304x1024⟩]
    concatenates_S2304x1024_S2304x1024_S2304x2048_d1) bitsLt_bf16_f32

/-- The position key, then zeros. -/
def opKr (x : FVec Ideal S2304x64 .f32) : FVec Ideal S2304x128 .bf16 :=
  truncf .bf16 (pad S2304x128 ![0, 0] ![0, 64] ![0, 0] x (sitofp FTy.f32 (constantI S_ 32 0#32) : FVec Ideal S_ .f32)
    pads_S2304x64_S2304x128_000_0640 h_S_) bitsLt_bf16_f32

theorem zero_int : (FloatOps.sitofp (F := Ideal) FTy.f32 (0#32 : BitVec 32) : EReal) = 0 := by
  show (((0#32 : BitVec 32).toInt : ℝ) : EReal) = _
  simp

section Operands
variable (q : FVec Ideal S2048x8x192 .f32) (kn v : FVec Ideal S2304x8x128 .f32) (kr : FVec Ideal S2304x64 .f32)

theorem opQn_at (i : Fin 2048) (l : Fin 1024) (h : Fin 8) (d : Fin 128) (e : l.val = 128 * h.val + d.val) :
    opQn q (ix2 i l) = low (row q h i) d := by
  pointwise [opQn]
  refine congrArg q ?_
  exact congrArg₂ (ix3 i) (Fin.ext (show l.val / 128 = h.val by have := d.isLt; omega))
    (Fin.ext (show l.val % 128 = d.val by have := d.isLt; omega))

theorem opQr_at (i : Fin 2048) (l : Fin 1024) (h : Fin 8) (d : Fin 128) (e : l.val = 128 * h.val + d.val) :
    opQr q (ix2 i l) = high (row q h i) d := by
  unfold high
  pointwise [opQr]
  have hl : l.val / 128 < 8 := by have := l.isLt; omega
  by_cases g : d.val < 64
  · refine (dif_pos (And.intro hl (show l.val % 128 < 64 by omega))).trans (Eq.trans ?_ (dif_pos g).symm)
    refine congrArg q ?_
    exact congrArg₂ (ix3 i) (Fin.ext (show l.val / 128 = h.val by have := d.isLt; omega))
      (Fin.ext (show 128 + l.val % 128 = 128 + d.val by have := d.isLt; omega))
  · have hg : ¬(l.val / 128 < 8 ∧ l.val % 128 < 64) := fun f => by
      have := f.2
      have := d.isLt
      omega
    refine (dif_neg hg).trans ?_
    refine Eq.trans ?_ (dif_neg g).symm
    exact zero_int

theorem opKn_at (s : Fin 2304) (l : Fin 2048) (h : Fin 8) (d : Fin 128) (e : l.val = 128 * h.val + d.val) :
    opKv kn v (ix2 s l) = kn (ix3 s h d) := by
  pointwise [opKv]
  have := h.isLt
  have := d.isLt
  rw [dif_pos (show l.val < 1024 by omega)]
  exact congrArg kn (congrArg₂ (ix3 s) (Fin.ext (show l.val / 128 = h.val by omega)) (Fin.ext (show l.val % 128 = d.val by omega)))

theorem opV_at (s : Fin 2304) (l : Fin 2048) (h : Fin 8) (d : Fin 128) (e : l.val = 1024 + (128 * h.val + d.val)) :
    opKv kn v (ix2 s l) = v (ix3 s h d) := by
  pointwise [opKv]
  have := h.isLt
  have := d.isLt
  rw [dif_neg (show ¬l.val < 1024 by omega)]
  exact congrArg v (congrArg₂ (ix3 s) (Fin.ext (show (l.val - 1024) / 128 = h.val by omega))
    (Fin.ext (show (l.val - 1024) % 128 = d.val by omega)))

theorem opKr_at (h : Fin 8) (s : Fin 2304) (d : Fin 128) : opKr kr (ix2 s d) = high (key kn kr h s) d := by
  unfold high key
  pointwise [opKr]
  by_cases g : d.val < 64
  · rw [dif_pos g, dif_pos g]
  · rw [dif_neg g, dif_neg g, zero_int]

end Operands

section Entries
variable (m : (ℓ : Loc nD τ sig) → Buf (Elt Ideal) ℓ) (c : Dev nD)

theorem V2 : V m c main_v2 = opQn (m ((c : Thread nD τ).loc main_arg0)) := by
  simp only [V, hostOps0, hostOps0_1, hostOps0_2, hostOps0_3, hostOps0_4, List.flatten_cons, List.flatten_nil, List.append_nil,
    List.cons_append, List.nil_append]
  entry_read
  rfl

theorem V6 : V m c main_v6 = opQr (m ((c : Thread nD τ).loc main_arg0)) := by
  simp only [V, hostOps0, hostOps0_1, hostOps0_2, hostOps0_3, hostOps0_4, List.flatten_cons, List.flatten_nil, List.append_nil,
    List.cons_append, List.nil_append]
  entry_read
  rfl

theorem V10 : V m c main_v10 = opKv (m ((c : Thread nD τ).loc main_arg1)) (m ((c : Thread nD τ).loc main_arg3)) := by
  simp only [V, hostOps0, hostOps0_1, hostOps0_2, hostOps0_3, hostOps0_4, List.flatten_cons, List.flatten_nil, List.append_nil,
    List.cons_append, List.nil_append]
  entry_read
  rfl

theorem V12 : V m c main_v12 = opKr (m ((c : Thread nD τ).loc main_arg2)) := by
  simp only [V, hostOps0, hostOps0_1, hostOps0_2, hostOps0_3, hostOps0_4, List.flatten_cons, List.flatten_nil, List.append_nil,
    List.cons_append, List.nil_append]
  entry_read
  rfl

end Entries

/-! ## One tile -/

section Tile
variable (qlo qhi : FVec Ideal S256x128 .bf16) (klo khi vals : FVec Ideal S2304x128 .bf16)
variable (Q : Fin 256 → Fin 192 → EReal) (K : Fin 2304 → Fin 192 → EReal)
variable (h0 : ∀ r d, qlo (ix2 r d) = low (Q r) d) (h1 : ∀ r d, qhi (ix2 r d) = high (Q r) d)
variable (h2 : ∀ s d, klo (ix2 s d) = low (K s) d) (h3 : ∀ s d, khi (ix2 s d) = high (K s) d)
include h0 h1 h2 h3

/-- The tile's scores. -/
theorem tile_scores (r : Fin 256) (s : Fin 2304) : k0_pay1 (F := Ideal) qlo qhi klo khi (ix2 r s) = score (Q r) (K s) := by
  pointwise [k0_pay1]
  unfold score
  rw [← sum_parts]
  simp only [h0, h1, h2, h3]

/-- The rows' largest scores. -/
theorem tile_top (r : Fin 256) (z : Fin 1) : k0_pay2 (F := Ideal) qlo qhi klo khi (ix2 r z) = top fun s => score (Q r) (K s) := by
  have h := tile_scores qlo qhi klo khi Q K h0 h1 h2 h3
  unfold k0_pay2
  generalize k0_pay1 (F := Ideal) qlo qhi klo khi = S at h ⊢
  pointwise
  simp only [h, Cert.Attn.ofBits_neg_inf]
  rfl

/-- The lowered exponentials. -/
theorem tile_exp (r : Fin 256) (s : Fin 2304) :
    k0_pay3 (F := Ideal) qlo qhi klo khi (ix2 r s) = lowered (fun s => score (Q r) (K s)) s := by
  have h := tile_scores qlo qhi klo khi Q K h0 h1 h2 h3
  have g := tile_top qlo qhi klo khi Q K h0 h1 h2 h3
  unfold k0_pay3
  generalize k0_pay1 (F := Ideal) qlo qhi klo khi = S at h ⊢
  generalize k0_pay2 (F := Ideal) qlo qhi klo khi = M at g ⊢
  pointwise
  rw [h, g]
  rfl

/-- Their sums. -/
theorem tile_total (r : Fin 256) (z : Fin 1) : k0_pay4 (F := Ideal) qlo qhi klo khi (ix2 r z) = total fun s => score (Q r) (K s) := by
  have h := tile_exp qlo qhi klo khi Q K h0 h1 h2 h3
  unfold k0_pay4
  generalize k0_pay3 (F := Ideal) qlo qhi klo khi = S at h ⊢
  pointwise
  simp only [h]
  rfl

/-- The tile's outputs. -/
theorem tile_out (hz : ∀ r, total (fun s => score (Q r) (K s)) ≠ 0) (r : Fin 256) (d : Fin 128) :
    k0_pay5 (F := Ideal) qlo qhi klo khi vals (ix2 r d) = average (fun s => score (Q r) (K s)) fun s => vals (ix2 s d) := by
  have h := tile_exp qlo qhi klo khi Q K h0 h1 h2 h3
  have g := tile_total qlo qhi klo khi Q K h0 h1 h2 h3
  unfold k0_pay5
  generalize k0_pay3 (F := Ideal) qlo qhi klo khi = S at h ⊢
  generalize k0_pay4 (F := Ideal) qlo qhi klo khi = L at g ⊢
  pointwise
  simp only [h, g, Cert.Attn.ofBits_one, div_eq _ _ (hz r)]
  rfl

/-- The tile's row statistics. -/
theorem tile_stat (y : Fin 1) (r : Fin 256) (z : Fin 1) :
    k0_pay6 (F := Ideal) qlo qhi klo khi (ix3 y r z) = stat fun s => score (Q r) (K s) := by
  have h := tile_top qlo qhi klo khi Q K h0 h1 h2 h3
  have g := tile_total qlo qhi klo khi Q K h0 h1 h2 h3
  unfold k0_pay6
  generalize k0_pay2 (F := Ideal) qlo qhi klo khi = M at h ⊢
  generalize k0_pay4 (F := Ideal) qlo qhi klo khi = L at g ⊢
  pointwise
  rw [h, g]
  rfl

end Tile

/-! ## The blocks -/

theorem idx0 : ∀ t : Fin grid0.N, win0_0.index t = ![t.val % 8, t.val / 8] := by decide +kernel
theorem idx1 : ∀ t : Fin grid0.N, win0_1.index t = ![t.val % 8, t.val / 8] := by decide +kernel
theorem idx2 : ∀ t : Fin grid0.N, win0_2.index t = ![0, t.val / 8] := by decide +kernel
theorem idx3 : ∀ t : Fin grid0.N, win0_3.index t = ![0, 8 + t.val / 8] := by decide +kernel
theorem idx4 : ∀ t : Fin grid0.N, win0_4.index t = ![0, 0] := by decide +kernel
theorem idx5 : ∀ t : Fin grid0.N, win0_5.index t = ![t.val % 8, t.val / 8] := by decide +kernel
theorem idx6 : ∀ t : Fin grid0.N, win0_6.index t = ![t.val / 8, t.val % 8, 0] := by decide +kernel

variable (m : (ℓ : Loc nD τ sig) → Buf (Elt Ideal) ℓ) (c : Dev nD) (t : Fin cfg0.N)

theorem lt64 : t.val < 64 := t.isLt

/-- The tile's head. -/
def hd : Fin 8 := ⟨t.val / 8, by have := lt64 t; omega⟩

/-- The tile's query rows. -/
def rw (r : Fin 256) : Fin 2048 := ⟨256 * (t.val % 8) + r.val, by have := r.isLt; omega⟩

/-- The tile's lanes of the heads beside each other. -/
def lane (d : Fin 128) : Fin 1024 := ⟨128 * (t.val / 8) + d.val, by have := lt64 t; have := d.isLt; omega⟩

abbrev argQ : FVec Ideal S2048x8x192 .f32 := m ((c : Thread nD τ).loc main_arg0)
abbrev argKn : FVec Ideal S2304x8x128 .f32 := m ((c : Thread nD τ).loc main_arg1)
abbrev argKr : FVec Ideal S2304x64 .f32 := m ((c : Thread nD τ).loc main_arg2)
abbrev argV : FVec Ideal S2304x8x128 .f32 := m ((c : Thread nD τ).loc main_arg3)

theorem blk0 (r : Fin 256) (d : Fin 128) : iblk m c 0 t (ix2 r d) = low (row (argQ m c) (hd t) (rw t r)) d := by
  have e : iblk m c 0 t (ix2 r d) = V m c main_v2 (ix2 (rw t r) (lane t d)) := by blk_ext [iblk, idx0 t, rw, lane]
  rewrite [e, V2]
  exact opQn_at _ _ _ (hd t) d rfl

theorem blk1 (r : Fin 256) (d : Fin 128) : iblk m c 1 t (ix2 r d) = high (row (argQ m c) (hd t) (rw t r)) d := by
  have e : iblk m c 1 t (ix2 r d) = V m c main_v6 (ix2 (rw t r) (lane t d)) := by blk_ext [iblk, idx1 t, rw, lane]
  rewrite [e, V6]
  exact opQr_at _ _ _ (hd t) d rfl

theorem blk2 (s : Fin 2304) (d : Fin 128) : iblk m c 2 t (ix2 s d) = low (key (argKn m c) (argKr m c) (hd t) s) d := by
  have e : iblk m c 2 t (ix2 s d) = V m c main_v10 (ix2 s ⟨128 * (t.val / 8) + d.val, by have := lt64 t; have := d.isLt; omega⟩) := by
    blk_ext [iblk, idx2 t]
  rewrite [e, V10, opKn_at _ _ _ _ (hd t) d rfl]
  exact (show low (key (argKn m c) (argKr m c) (hd t) s) d = argKn m c (ix3 s (hd t) d) from dif_pos (show d.val < 128 from d.isLt)).symm

theorem blk3 (s : Fin 2304) (d : Fin 128) : iblk m c 3 t (ix2 s d) = argV m c (ix3 s (hd t) d) := by
  have e : iblk m c 3 t (ix2 s d) = V m c main_v10 (ix2 s ⟨1024 + (128 * (t.val / 8) + d.val), by have := lt64 t; have := d.isLt; omega⟩) := by
    blk_ext [iblk, idx3 t]
  rewrite [e, V10]
  exact opV_at _ _ _ _ (hd t) d rfl

theorem blk4 (s : Fin 2304) (d : Fin 128) : iblk m c 4 t (ix2 s d) = high (key (argKn m c) (argKr m c) (hd t) s) d := by
  have e : iblk m c 4 t (ix2 s d) = V m c main_v12 (ix2 s d) := by blk_ext [iblk, idx4 t]
  rewrite [e, V12]
  exact opKr_at _ _ _ _ _

/-! ## The arrays -/

/-- The scores of a tile's row. -/
abbrev rowScores (r : Fin 256) : Fin 2304 → EReal := scores (argQ m c) (argKn m c) (argKr m c) (hd t) (rw t r)

theorem out5 (hz : ∀ r, total (rowScores m c t r) ≠ 0) (r : Fin 256) (d : Fin 128) :
    out0_5 (iblk m c 0 t) (iblk m c 1 t) (iblk m c 2 t) (iblk m c 3 t) (iblk m c 4 t) (ix2 r d)
      = average (rowScores m c t r) fun s => argV m c (ix3 s (hd t) d) := by
  have e : out0_5 (iblk m c 0 t) (iblk m c 1 t) (iblk m c 2 t) (iblk m c 3 t) (iblk m c 4 t)
      = k0_pay5 (F := Ideal) (iblk m c 0 t) (iblk m c 1 t) (iblk m c 2 t) (iblk m c 4 t) (iblk m c 3 t) := by
    frame_out
  rewrite [e, tile_out _ _ _ _ _ _ _ (blk0 m c t) (blk1 m c t) (blk2 m c t) (blk4 m c t) hz]
  exact congrArg (average _) (funext fun s => blk3 m c t s d)

theorem out6 (y : Fin 1) (r : Fin 256) (z : Fin 1) :
    out0_6 (iblk m c 0 t) (iblk m c 1 t) (iblk m c 2 t) (iblk m c 3 t) (iblk m c 4 t) (ix3 y r z) = stat (rowScores m c t r) := by
  have e : out0_6 (iblk m c 0 t) (iblk m c 1 t) (iblk m c 2 t) (iblk m c 3 t) (iblk m c 4 t)
      = k0_pay6 (F := Ideal) (iblk m c 0 t) (iblk m c 1 t) (iblk m c 2 t) (iblk m c 4 t) := by
    frame_out
  rewrite [e]
  exact tile_stat _ _ _ _ _ _ (blk0 m c t) (blk1 m c t) (blk2 m c t) (blk4 m c t) y r z

/-- The output's array. -/
def result5 : FVec Ideal S2048x1024 .bf16 := fun i => output (argQ m c) (argKn m c) (argKr m c) (argV m c) (i 0) (i 1)

/-- The row statistics' array. -/
def result6 : FVec Ideal S8x2048x1 .f32 := fun i => stat (scores (argQ m c) (argKn m c) (argKr m c) (i 0) (i 1))

/-- Where a tile's output lies in the whole array. -/
theorem place5 (r : Fin 256) (d : Fin 128) : ((cfg0.win 5).blk t).view.emb (ix2 r d) = ix2 (rw t r) (lane t d) := by
  funext a
  match a with
  | ⟨0, _⟩ => exact Fin.ext (by show win0_5.index t (0 : Fin 2) * 256 + 1 * r.val = 256 * (t.val % 8) + r.val; rw [idx5]; show t.val % 8 * 256 + 1 * r.val = _; omega)
  | ⟨1, _⟩ => exact Fin.ext (by show win0_5.index t (1 : Fin 2) * 128 + 1 * d.val = 128 * (t.val / 8) + d.val; rw [idx5]; show t.val / 8 * 128 + 1 * d.val = _; omega)

/-- Where a tile's row statistics lie in the whole array. -/
theorem place6 (y : Fin 1) (r : Fin 256) (z : Fin 1) : ((cfg0.win 6).blk t).view.emb (ix3 y r z) = ix3 (hd t) (rw t r) z := by
  funext a
  match a with
  | ⟨0, _⟩ => exact Fin.ext (by show win0_6.index t (0 : Fin 3) * 1 + 1 * y.val = t.val / 8; rw [idx6]; show t.val / 8 * 1 + 1 * y.val = _; omega)
  | ⟨1, _⟩ => exact Fin.ext (by show win0_6.index t (1 : Fin 3) * 256 + 1 * r.val = 256 * (t.val % 8) + r.val; rw [idx6]; show t.val % 8 * 256 + 1 * r.val = _; omega)
  | ⟨2, _⟩ => exact Fin.ext (by show win0_6.index t (2 : Fin 3) * 1 + 1 * z.val = z.val; rw [idx6]; show 0 * 1 + 1 * z.val = _; omega)

theorem final5 (hz : ∀ h i, total (scores (argQ m c) (argKn m c) (argKr m c) h i) ≠ 0) :
    (dats m 0 c).arrAt 5 cfg0.N = result5 m c := by
  refine (dats m 0 c).arrAt_eq_of_cover 5 _ (fun t _ => ?_) (fun i => ?_)
  · rw [Value.flushed5]
    funext y
    idx_vars y
    refine Eq.trans ?_ (congrArg (result5 m c) (place5 t y0 y1).symm)
    refine (out5 m c t (fun r => hz _ _) y0 y1).trans ?_
    have e0 : (⟨(lane t y1).val / 128, by have := (lane t y1).isLt; omega⟩ : Fin 8) = hd t :=
      Fin.ext (by show (128 * (t.val / 8) + y1.val) / 128 = t.val / 8; have := y1.isLt; omega)
    have e1 : (⟨(lane t y1).val % 128, by omega⟩ : Fin 128) = y1 :=
      Fin.ext (by show (128 * (t.val / 8) + y1.val) % 128 = y1.val; have := y1.isLt; omega)
    show _ = output (argQ m c) (argKn m c) (argKr m c) (argV m c) (rw t y0) (lane t y1)
    unfold output
    rw [e0, e1]
  · have h0 : (i 0).val < 2048 := (i 0).isLt
    have h1 : (i 1).val < 1024 := (i 1).isLt
    let t : Fin cfg0.N := ⟨8 * ((i 1).val / 128) + (i 0).val / 256, lt_of_lt_of_eq (by omega) N_0.symm⟩
    refine ⟨t, flush0_5 t, ?_⟩
    have e : ((cfg0.win 5).blk t).view.emb (ix2 ⟨(i 0).val % 256, by omega⟩ ⟨(i 1).val % 128, by omega⟩) = i := by
      rw [place5]
      funext a
      match a with
      | ⟨0, _⟩ => exact Fin.ext (by show 256 * ((8 * ((i 1).val / 128) + (i 0).val / 256) % 8) + (i 0).val % 256 = (i 0).val; omega)
      | ⟨1, _⟩ => exact Fin.ext (by show 128 * ((8 * ((i 1).val / 128) + (i 0).val / 256) / 8) + (i 1).val % 128 = (i 1).val; omega)
    rw [← e]
    exact View.emb_mem_set _ _

theorem final6 : (dats m 0 c).arrAt 6 cfg0.N = result6 m c := by
  refine (dats m 0 c).arrAt_eq_of_cover 6 _ (fun t _ => ?_) (fun i => ?_)
  · rw [Value.flushed6]
    funext y
    idx_vars y
    refine Eq.trans ?_ (congrArg (result6 m c) (place6 t y0 y1 y2).symm)
    exact out6 m c t y0 y1 y2
  · have h0 : (i 0).val < 8 := (i 0).isLt
    have h1 : (i 1).val < 2048 := (i 1).isLt
    have h2 : (i 2).val < 1 := (i 2).isLt
    let t : Fin cfg0.N := ⟨8 * (i 0).val + (i 1).val / 256, lt_of_lt_of_eq (by omega) N_0.symm⟩
    refine ⟨t, flush0_6 t, ?_⟩
    have e : ((cfg0.win 6).blk t).view.emb (ix3 0 ⟨(i 1).val % 256, by omega⟩ ⟨(i 2).val, h2⟩) = i := by
      rw [place6]
      funext a
      match a with
      | ⟨0, _⟩ => exact Fin.ext (by show (8 * (i 0).val + (i 1).val / 256) / 8 = (i 0).val; omega)
      | ⟨1, _⟩ => exact Fin.ext (by show 256 * ((8 * (i 0).val + (i 1).val / 256) % 8) + (i 1).val % 256 = (i 1).val; omega)
      | ⟨2, _⟩ => rfl
    rw [← e]
    exact View.emb_mem_set _ _

end Cert.Attending

end
-- ==== Proof.AttendEquation.lean ====
/- The attention's forward kernel and its reference compute the same output and the same row statistics at finite queries
   and keys. -/
module

public import proofs.«01_k».proof.Defs
public import proofs.«01_k».proof.Proof.Attend
public import proofs.«01_k».proof.Proof.Finite
public import proofs.«01_k».proof.Proof.Gen.Pre_finite_scores
public import proofs.«01_k».proof.Proof.Gen.AttendReferenceIdeal.Run
public import proofs.«01_k».proof.Proof.Gen.AttendReferenceIdeal.Read

@[expose] public section

set_option maxRecDepth 16384

noncomputable section

namespace Cert.Attending

open Idealize.ShloMosaic Idealize.SL.Sem

attribute [local instance] Cert.Pre_finite_scores.Gen.facts Cert.AttendIdeal.Gen.facts Cert.AttendReferenceIdeal.Gen.facts

namespace Ref

open Cert.AttendReferenceIdeal Cert.AttendReferenceIdeal.Gen Cert.AttendReferenceIdeal.Read

variable (q : FVec Ideal S2048x8x192 .f32) (kn v : FVec Ideal S2304x8x128 .f32) (kr : FVec Ideal S2304x64 .f32)

/-- All heads' keys. -/
theorem keys (i : S2304x8x192.Idx) : val_main_v2 (F := Ideal) kn kr i = key kn kr (i 1) (i 0) (i 2) := by
  idx_vars i
  unfold val_main_v2 key
  pointwise [val_main_v1, val_main_v0]

/-- The scores. -/
theorem sc (i : S8x2048x2304.Idx) : val_main_v5 (F := Ideal) q kn kr i = scores q kn kr (i 0) (i 1) (i 2) := by
  rw [val_main_v5_apply, val_main_v3_apply, val_main_v4_apply, val_main_cst_apply]
  show (∑ d, _) * _ = (∑ d, _) * _
  refine congrArg (· * _) (Finset.sum_congr rfl fun d _ => congrArg₂ (· * ·) (congrArg q (eq_ix3 _)) ?_)
  exact (keys kn kr _).trans rfl

/-- The largest scores. -/
theorem mx (i : S8x2048.Idx) : val_main_v6 (F := Ideal) q kn kr i = top (scores q kn kr (i 0) (i 1)) := by
  have h := sc q kn kr
  unfold val_main_v6
  generalize val_main_v5 (F := Ideal) q kn kr = s at h ⊢
  idx_vars i
  pointwise [val_main_cst_0]
  simp only [h, Cert.Attn.ofBits_neg_inf]
  rfl

/-- The lowered exponentials. -/
theorem ex (i : S8x2048x2304.Idx) : val_main_v10 (F := Ideal) q kn kr i = lowered (scores q kn kr (i 0) (i 1)) (i 2) := by
  rw [val_main_v10_apply, val_main_v9_apply, val_main_v8_apply, val_main_v7_apply, sc, mx]
  rfl

/-- Their sums. -/
theorem tot (i : S8x2048.Idx) : val_main_v11 (F := Ideal) q kn kr i = total (scores q kn kr (i 0) (i 1)) := by
  rw [val_main_v11_apply, val_main_cst_1_apply, Ideal.ofBits_def, Cert.Attn.ofBits_zero, zero_add]
  exact Finset.sum_congr rfl fun j _ => ex q kn kr _

/-- The row statistics. -/
theorem st (i : S8x2048x1.Idx) : val_main_v14 (F := Ideal) q kn kr i = stat (scores q kn kr (i 0) (i 1)) := by
  rw [val_main_v14_apply, val_main_v13_apply, val_main_v12_apply, val_main_v7_apply, mx, tot]
  rfl

/-! ## The same steps under a batch axis of one, as the output takes them -/

theorem sc' (i : S1x8x2048x2304.Idx) : val_main_v20 (F := Ideal) q kn kr i = scores q kn kr (i 1) (i 2) (i 3) := by
  rw [val_main_v20_apply, val_main_v18_apply, val_main_v19_apply, val_main_cst_2_apply]
  show (∑ d, _) * _ = (∑ d, _) * _
  refine congrArg (· * _) (Finset.sum_congr rfl fun d _ => ?_)
  rw [val_main_v15_apply, val_main_v16_apply, keys]
  exact congrArg₂ (· * ·) (congrArg q (eq_ix3 _)) rfl

theorem mx' (i : S1x8x2048.Idx) : val_main_v23 (F := Ideal) q kn kr i = top (scores q kn kr (i 1) (i 2)) := by
  have h := sc' q kn kr
  rw [val_main_v23_apply, val_main_v22_apply, val_main_cst_4_apply, Ideal.maximumf_def, Ideal.ofBits_def, Cert.Attn.ofBits_neg_inf]
  refine (max_eq_right bot_le).trans ?_
  unfold val_main_v21
  generalize val_main_v20 (F := Ideal) q kn kr = s at h ⊢
  idx_vars i
  pointwise [val_main_cst_3]
  simp only [h, Cert.Attn.ofBits_neg_inf]
  rfl

theorem ex' (i : S1x8x2048x2304.Idx) : val_main_v27 (F := Ideal) q kn kr i = lowered (scores q kn kr (i 1) (i 2)) (i 3) := by
  rw [val_main_v27_apply, val_main_v26_apply, val_main_v25_apply, val_main_v24_apply, sc', mx']
  rfl

theorem tot' (i : S1x8x2048.Idx) : val_main_v28 (F := Ideal) q kn kr i = total (scores q kn kr (i 1) (i 2)) := by
  rw [val_main_v28_apply, val_main_cst_5_apply, Ideal.ofBits_def, Cert.Attn.ofBits_zero, zero_add]
  exact Finset.sum_congr rfl fun j _ => ex' q kn kr _

theorem weights (i : S1x8x2048x2304.Idx) : val_main_v31 (F := Ideal) q kn kr i
    = Ideal.div (lowered (scores q kn kr (i 1) (i 2)) (i 3)) (total (scores q kn kr (i 1) (i 2))) := by
  rw [val_main_v31_apply, val_main_v30_apply, val_main_v29_apply, ex', tot']
  rfl

theorem av (i : S1x8x128x2048.Idx) : val_main_v32 (F := Ideal) q kn kr v i
    = average (scores q kn kr (i 1) (i 3)) fun s => v (ix3 s (i 1) (i 2)) := by
  rw [val_main_v32_apply]
  show _ = ∑ j, Ideal.div (lowered (scores q kn kr (i 1) (i 3)) j) (total (scores q kn kr (i 1) (i 3))) * v (ix3 j (i 1) (i 2))
  refine Finset.sum_congr rfl fun j _ => ?_
  rw [val_main_v17_apply, weights]
  exact (mul_comm _ _).trans (congrArg₂ (· * ·) rfl (congrArg v (eq_ix3 _)))

/-- The output. -/
theorem out (i : S2048x1024.Idx) : val_main_v36 (F := Ideal) q kn kr v i = output q kn kr v (i 0) (i 1) := by
  refine Eq.trans (b := val_main_v35 (F := Ideal) q kn kr v i) rfl ?_
  have h := av q kn v kr
  unfold val_main_v35 val_main_v34 val_main_v33
  generalize val_main_v32 (F := Ideal) q kn kr v = s at h ⊢
  idx_vars i
  pointwise
  rw [h]
  rfl

end Ref

/-- The kernel's run and the reference's run leave the same two arrays. -/
theorem equation : algebraic_AttendIdeal_AttendReferenceIdeal_pre_finite_scores := by
  intro m g m' g' hpre hargs
  have hz : ∀ c h i, total (scores (argQ m c) (argKn m c) (argKr m c) h i) ≠ 0 := by
    intro c h i
    obtain ⟨f0, f1, f2⟩ := hpre c
    obtain ⟨q, hq⟩ := Cert.Attn.reals (argQ m c) fun i => congrFun f0 i
    obtain ⟨kn, hkn⟩ := Cert.Attn.reals (argKn m c) fun i => congrFun f1 i
    obtain ⟨kr, hkr⟩ := Cert.Attn.reals (argKr m c) fun i => congrFun f2 i
    rw [hq, hkn, hkr, scores_real]
    exact total_ne (by decide) _
  refine ⟨fun c => result5 m c, fun c => result6 m c,
    (θ_run _ _ _).mono (fun r h c => ⟨(h c).1.trans (final5 m c (hz c)), (h c).2.1.trans (final6 m c), (h c).2.2⟩)
      (Cert.AttendIdeal.Value.run_blocks m g),
    (θ_run _ _ _).mono (fun r h c => ⟨(h c).1.trans ?_, (h c).2.1.trans ?_, (h c).2.2⟩) (Cert.AttendReferenceIdeal.Value.run m' g')⟩
  · obtain ⟨e0, e1, e2, e3⟩ := hargs c
    rw [Cert.AttendReferenceIdeal.Read.val_main_v36_eq, e0, e1, e2, e3]
    exact funext fun i => Ref.out _ _ _ _ i
  · obtain ⟨e0, e1, e2, e3⟩ := hargs c
    rw [Cert.AttendReferenceIdeal.Read.val_main_v14_eq, e0, e1, e2]
    exact funext fun i => Ref.st _ _ _ i

end Cert.Attending

end
-- ==== Proof.ModRun.lean ====
/- The modulation: a run of the four calls ends with every array at the contents the calls leave, call by call. -/
module

public import proofs.«01_k».proof.Proof.Gen.ModIdeal.Frame

@[expose] public section

set_option maxRecDepth 16384

noncomputable section

namespace Cert.Modulation

open Cert.ModIdeal Cert.ModIdeal.Gen
open Idealize.ShloMosaic Idealize.ShloMosaic.TcCoe
open Idealize.SL Idealize.SL.RA Idealize.SL.BI
open scoped Idealize.SL.BI
open Idealize.ShloMosaic.Rounds
open Idealize.SL.BI.BIBase Idealize.SL.BI.Laws Idealize.SL.ProofMode Idealize.SL.Sem

variable {F : FTy → Type} [FloatOps F] (m : (ℓ : Loc nD τ sig) → Buf (Elt F) ℓ) (ρ : Dev nD → PrngReg)

set_option backward.isDefEq.respectTransparency.types false in
/-- Every array a run can end with is the one the last call's exit holds. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W7 m ρ c b) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp (MT nD τ sig Unit (Elt F) ℕ (UR sig nD τ) ℕ))
            ⊢ BI.own (emb₁ (initOf (Pipeline.cells cfgs cellOf_inj) (Pipeline.launchToks cfgs cellOf_inj))) from .rfl)
        iexact Hu
      iapply (show (BI.emp : sProp (MT nD τ sig Unit (Elt F) ℕ (UR sig nD τ) ℕ)) ⊢ bigSep Finset.univ (fun _ : Dev nD => (BI.emp : sProp (MT nD τ sig Unit (Elt F) ℕ (UR sig nD τ) ℕ))) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m ρ c b)
    (hfin := fun c s' => by
      iintro ⟨⟨Hh, -⟩, HSI⟩
      unfold StableHlo.held
      imodintro
      iapply (pointsTo_read_all (Pipeline.ucRefs τ sig) (fun b => (((c : Thread nD τ)).1, b)) (W7 m ρ c) s')
      isplitl [Hh] <;> iassumption)
    (hQ := fun s h _ => h)

/-- A run ends with the three results that the last call's exit holds and with the arguments as they were. -/
theorem run : θ_run defs (onTc (τ := τ) (main (F := F))) ⟨m, fun _ => 0, ρ⟩ (fun r => ∀ c : Dev nD,
      r.2.mem ((c : Thread nD τ).loc main_v2) = W7 m ρ c (Proc.devRef .tc main_v2)
      ∧ r.2.mem ((c : Thread nD τ).loc main_v4) = W7 m ρ c (Proc.devRef .tc main_v4)
      ∧ r.2.mem ((c : Thread nD τ).loc main_v7) = W7 m ρ c (Proc.devRef .tc main_v7)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)) :=
  (θ_run defs _ _).mono (fun _ h c =>
    ⟨h c _ (mem_uc main_v2 (by decide)), h c _ (mem_uc main_v4 (by decide)), h c _ (mem_uc main_v7 (by decide)),
      (h c _ (mem_uc main_arg0 (by decide))).trans (W7_main_arg0 m ρ c),
      (h c _ (mem_uc main_arg1 (by decide))).trans (W7_main_arg1 m ρ c),
      (h c _ (mem_uc main_arg2 (by decide))).trans (W7_main_arg2 m ρ c)⟩) (run_all m ρ)

end Cert.Modulation

end
-- ==== Proof.ModProducts.lean ====
/- The modulation: what its activation and its three products leave, from whatever their operands hold when they start. -/
module

public import proofs.«01_k».proof.Proof.Gen.ModIdeal.Frame
public import proofs.«01_k».proof.Proof.Products
public import Idealize.ShloMosaic.Lib.Pipeline.ValueKit
public import Idealize.ShloMosaic.Lib.Pipeline.ReadBack

@[expose] public section

set_option maxRecDepth 16384

noncomputable section

namespace Cert.Modulation

open Cert.ModIdeal Cert.ModIdeal.Gen Cert.Products Idealize.ShloMosaic Idealize.ShloMosaic.TcCoe Idealize.SL.Sem

variable (V : (c : Dev nD) → (b : Ref sig .tc) → Buf (Elt Ideal) ((c : Thread nD τ).loc b)) (c : Dev nD)

/-! ## The activation -/

/-- `a σ(a)`, entry by entry. -/
def active (x : FVec Ideal S16x2048 .f32) : FVec Ideal S16x2048 .bf16 := fun i => (x i : EReal) * Ideal.logistic (x i)

namespace Silu

theorem idx0 : ∀ t : Fin grid0.N, win0_0.index t = ![0, 0] := by decide +kernel
theorem idx1 : ∀ t : Fin grid0.N, win0_1.index t = ![0, 0] := by decide +kernel

variable (t : Fin cfg0.N)

theorem blk0 (r : Fin 16) (s : Fin 2048) : iblk0 V c 0 t (ix2 r s) = V c main_arg0 (ix2 r s) := by
  blk_ext [iblk0, idx0 t]

theorem body (x : FVec Ideal S16x2048 .f32) : out0_1 (F := Ideal) x = k0_pay1 (F := Ideal) x := by
  unfold out0_1
  rw [View.canon_unit_zero, View.ld_unit_zero (S := S16x2048)] <;> (funext a; fin_cases a <;> rfl)

theorem place (r : Fin 16) (s : Fin 2048) : ((cfg0.win 1).blk t).view.emb (ix2 r s) = ix2 r s := by
  funext a
  match a with
  | ⟨0, _⟩ => exact Fin.ext (by show win0_1.index t (0 : Fin 2) * 16 + 1 * r.val = r.val; rw [idx1]; show 0 * 16 + 1 * r.val = _; omega)
  | ⟨1, _⟩ => exact Fin.ext (by show win0_1.index t (1 : Fin 2) * 2048 + 1 * s.val = s.val; rw [idx1]; show 0 * 2048 + 1 * s.val = _; omega)

/-- The call leaves its operand's activation. -/
theorem final : (dat0 V c).arrAt 1 cfg0.N = active (V c main_arg0) := by
  refine (dat0 V c).arrAt_eq_of_covers 1 _ (by decide +kernel) fun t _ y => ?_
  idx_vars y
  refine Eq.trans ?_ (congrArg (active (V c main_arg0)) (place t y0 y1).symm)
  show (dat0 V c).after 1 t (ix2 y0 y1) = _
  rw [after0_1, body]
  exact congrArg (fun a : EReal => a * Ideal.logistic a) (blk0 V c t y0 y1)

end Silu

/-! ## The modulation: rows of the activation by columns of the weights -/

namespace Out

theorem idx0 : ∀ t : Fin grid1.N, win1_0.index t = ![0, 0] := by decide +kernel
theorem idx1 : ∀ t : Fin grid1.N, win1_1.index t = ![0, 0] := by decide +kernel
theorem idx2 : ∀ t : Fin grid1.N, win1_2.index t = ![0, 0] := by decide +kernel

theorem pay_at (x : FVec Ideal S16x2048 .bf16) (y : FVec Ideal S2048x1536 .bf16) (r : Fin 16) (s : Fin 1536) :
    k1_pay1 (F := Ideal) x y (ix2 r s) = ∑ k : Fin 2048, x (ix2 r k) * y (ix2 k s) := by
  pointwise [k1_pay1]

variable (t : Fin cfg1.N)

theorem blk0 (r : Fin 16) (k : Fin 2048) : iblk1 V c 0 t (ix2 r k) = V c main_v0 (ix2 r k) := by
  blk_ext [iblk1, idx0 t]
theorem blk1 (k : Fin 2048) (s : Fin 1536) : iblk1 V c 1 t (ix2 k s) = V c main_v1 (ix2 k s) := by
  blk_ext [iblk1, idx1 t]

theorem body (x : FVec Ideal S16x2048 .bf16) (y : FVec Ideal S2048x1536 .bf16) : out1_2 (F := Ideal) x y = k1_pay1 (F := Ideal) x y := by
  unfold out1_2
  rw [View.canon_unit_zero, View.ld_unit_zero (S := S16x2048), View.ld_unit_zero (S := S2048x1536)] <;> (funext a; fin_cases a <;> rfl)

theorem place (r : Fin 16) (s : Fin 1536) : ((cfg1.win 2).blk t).view.emb (ix2 r s) = ix2 r s := by
  funext a
  match a with
  | ⟨0, _⟩ => exact Fin.ext (by show win1_2.index t (0 : Fin 2) * 16 + 1 * r.val = r.val; rw [idx2]; show 0 * 16 + 1 * r.val = _; omega)
  | ⟨1, _⟩ => exact Fin.ext (by show win1_2.index t (1 : Fin 2) * 1536 + 1 * s.val = s.val; rw [idx2]; show 0 * 1536 + 1 * s.val = _; omega)

/-- The call leaves the product of its operands. -/
theorem final : (dat1 V c).arrAt 2 cfg1.N = rowsCols (φ := .bf16) (a := 16) (n := 2048) (b := 1536) .f32 (V c main_v0) (V c main_v1) := by
  refine (dat1 V c).arrAt_eq_of_covers 2 _ (by decide +kernel) fun t _ y => ?_
  idx_vars y
  refine Eq.trans ?_ (congrArg (rowsCols (φ := .bf16) (a := 16) (n := 2048) (b := 1536) .f32 (V c main_v0) (V c main_v1)) (place t y0 y1).symm)
  show (dat1 V c).after 2 t (ix2 y0 y1) = _
  rw [after1_2, body]
  refine (pay_at _ _ y0 y1).trans (Finset.sum_congr rfl fun k _ => ?_)
  exact congrArg₂ (· * ·) (blk0 V c t y0 k) (blk1 V c t k y1)

end Out

/-! ## The weights' gradient: columns of the activation by columns of the cotangent -/

namespace OutW

theorem idx0 : ∀ t : Fin grid2.N, win2_0.index t = ![0, t.val] := by decide +kernel
theorem idx1 : ∀ t : Fin grid2.N, win2_1.index t = ![0, 0] := by decide +kernel
theorem idx2 : ∀ t : Fin grid2.N, win2_2.index t = ![t.val, 0] := by decide +kernel

theorem pay_at (x : FVec Ideal S16x1024 .bf16) (y : FVec Ideal S16x1536 .bf16) (r : Fin 1024) (s : Fin 1536) :
    k2_pay1 (F := Ideal) x y (ix2 r s) = ∑ k : Fin 16, x (ix2 k r) * y (ix2 k s) := by
  pointwise [k2_pay1]

variable (t : Fin cfg2.N)

theorem lt2 : t.val < 2 := t.isLt

def row (r : Fin 1024) : Fin 2048 := ⟨1024 * t.val + r.val, by have := lt2 t; have := r.isLt; omega⟩

theorem blk0 (k : Fin 16) (r : Fin 1024) : iblk2 V c 0 t (ix2 k r) = V c main_v0 (ix2 k (row t r)) := by
  blk_ext [iblk2, idx0 t, row]
theorem blk1 (k : Fin 16) (s : Fin 1536) : iblk2 V c 1 t (ix2 k s) = V c main_v3 (ix2 k s) := by
  blk_ext [iblk2, idx1 t]

theorem body (x : FVec Ideal S16x1024 .bf16) (y : FVec Ideal S16x1536 .bf16) : out2_2 (F := Ideal) x y = k2_pay1 (F := Ideal) x y := by
  unfold out2_2
  rw [View.canon_unit_zero, View.ld_unit_zero (S := S16x1024), View.ld_unit_zero (S := S16x1536)] <;> (funext a; fin_cases a <;> rfl)

theorem place (r : Fin 1024) (s : Fin 1536) : ((cfg2.win 2).blk t).view.emb (ix2 r s) = ix2 (row t r) s := by
  funext a
  match a with
  | ⟨0, _⟩ => exact Fin.ext (by show win2_2.index t (0 : Fin 2) * 1024 + 1 * r.val = 1024 * t.val + r.val; rw [idx2]; show t.val * 1024 + 1 * r.val = _; omega)
  | ⟨1, _⟩ => exact Fin.ext (by show win2_2.index t (1 : Fin 2) * 1536 + 1 * s.val = s.val; rw [idx2]; show 0 * 1536 + 1 * s.val = _; omega)

/-- The call leaves the product of its operands. -/
theorem final : (dat2 V c).arrAt 2 cfg2.N = colsCols (φ := .bf16) (a := 2048) (n := 16) (b := 1536) .f32 (V c main_v0) (V c main_v3) := by
  refine (dat2 V c).arrAt_eq_of_covers 2 _ (by decide +kernel) fun t _ y => ?_
  idx_vars y
  refine Eq.trans ?_ (congrArg (colsCols (φ := .bf16) (a := 2048) (n := 16) (b := 1536) .f32 (V c main_v0) (V c main_v3)) (place t y0 y1).symm)
  show (dat2 V c).after 2 t (ix2 y0 y1) = _
  rw [after2_2, body]
  refine (pay_at _ _ y0 y1).trans (Finset.sum_congr rfl fun k _ => ?_)
  exact congrArg₂ (· * ·) (blk0 V c t k y0) (blk1 V c t k y1)

end OutW

/-! ## The activation's gradient: rows of the cotangent by rows of the weights -/

namespace OutX

theorem idx0 : ∀ t : Fin grid3.N, win3_0.index t = ![0, 0] := by decide +kernel
theorem idx1 : ∀ t : Fin grid3.N, win3_1.index t = ![t.val, 0] := by decide +kernel
theorem idx2 : ∀ t : Fin grid3.N, win3_2.index t = ![0, t.val] := by decide +kernel

theorem pay_at (x : FVec Ideal S16x1536 .bf16) (y : FVec Ideal S1024x1536 .bf16) (r : Fin 16) (s : Fin 1024) :
    k3_pay1 (F := Ideal) x y (ix2 r s) = ∑ k : Fin 1536, x (ix2 r k) * y (ix2 s k) := by
  pointwise [k3_pay1]

variable (t : Fin cfg3.N)

theorem lt2 : t.val < 2 := t.isLt

def col (s : Fin 1024) : Fin 2048 := ⟨1024 * t.val + s.val, by have := lt2 t; have := s.isLt; omega⟩

theorem blk0 (r : Fin 16) (k : Fin 1536) : iblk3 V c 0 t (ix2 r k) = V c main_v5 (ix2 r k) := by
  blk_ext [iblk3, idx0 t]
theorem blk1 (s : Fin 1024) (k : Fin 1536) : iblk3 V c 1 t (ix2 s k) = V c main_v6 (ix2 (col t s) k) := by
  blk_ext [iblk3, idx1 t, col]

theorem body (x : FVec Ideal S16x1536 .bf16) (y : FVec Ideal S1024x1536 .bf16) : out3_2 (F := Ideal) x y = k3_pay1 (F := Ideal) x y := by
  unfold out3_2
  rw [View.canon_unit_zero, View.ld_unit_zero (S := S16x1536), View.ld_unit_zero (S := S1024x1536)] <;> (funext a; fin_cases a <;> rfl)

theorem place (r : Fin 16) (s : Fin 1024) : ((cfg3.win 2).blk t).view.emb (ix2 r s) = ix2 r (col t s) := by
  funext a
  match a with
  | ⟨0, _⟩ => exact Fin.ext (by show win3_2.index t (0 : Fin 2) * 16 + 1 * r.val = r.val; rw [idx2]; show 0 * 16 + 1 * r.val = _; omega)
  | ⟨1, _⟩ => exact Fin.ext (by show win3_2.index t (1 : Fin 2) * 1024 + 1 * s.val = 1024 * t.val + s.val; rw [idx2]; show t.val * 1024 + 1 * s.val = _; omega)

/-- The call leaves the product of its operands. -/
theorem final : (dat3 V c).arrAt 2 cfg3.N = rowsRows (φ := .bf16) (a := 16) (n := 1536) (b := 2048) .f32 (V c main_v5) (V c main_v6) := by
  refine (dat3 V c).arrAt_eq_of_covers 2 _ (by decide +kernel) fun t _ y => ?_
  idx_vars y
  refine Eq.trans ?_ (congrArg (rowsRows (φ := .bf16) (a := 16) (n := 1536) (b := 2048) .f32 (V c main_v5) (V c main_v6)) (place t y0 y1).symm)
  show (dat3 V c).after 2 t (ix2 y0 y1) = _
  rw [after3_2, body]
  refine (pay_at _ _ y0 y1).trans (Finset.sum_congr rfl fun k _ => ?_)
  exact congrArg₂ (· * ·) (blk0 V c t y0 k) (blk1 V c t y1 k)

end OutX

end Cert.Modulation

end
-- ==== Proof.ModChain.lean ====
/- The modulation: the contents the four calls leave, followed from the last call back to the arguments. -/
module

public import proofs.«01_k».proof.Proof.ModRun
public import proofs.«01_k».proof.Proof.ModProducts

@[expose] public section

set_option maxRecDepth 16384

noncomputable section

namespace Cert.Modulation

open Cert.ModIdeal Cert.ModIdeal.Gen Cert.Products Idealize.ShloMosaic Idealize.ShloMosaic.TcCoe Idealize.SL.Sem

/-- An array rounded to the products' operand type. -/
def low {S : Shape} (x : FVec Ideal S .f32) : FVec Ideal S .bf16 := truncf .bf16 x bitsLt_bf16_f32

/-- The modulation of a conditioning vector. -/
def modulation (x : FVec Ideal S16x2048 .f32) (w : FVec Ideal S2048x1536 .f32) : FVec Ideal S16x1536 .f32 :=
  rowsCols (φ := .bf16) (a := 16) (n := 2048) (b := 1536) .f32 (active x) (low w)

/-- The weights' gradient. -/
def gradW (x : FVec Ideal S16x2048 .f32) (d : FVec Ideal S16x1536 .f32) : FVec Ideal S2048x1536 .f32 :=
  colsCols (φ := .bf16) (a := 2048) (n := 16) (b := 1536) .f32 (active x) (low d)

/-- The activation's gradient. -/
def gradS (w : FVec Ideal S2048x1536 .f32) (d : FVec Ideal S16x1536 .f32) : FVec Ideal S16x2048 .f32 :=
  rowsRows (φ := .bf16) (a := 16) (n := 1536) (b := 2048) .f32 (low d) (low w)

variable (m : (ℓ : Loc nD τ sig) → Buf (Elt Ideal) ℓ) (ρ : Dev nD → PrngReg) (c : Dev nD)

/-- The arguments. -/
def cond : FVec Ideal S16x2048 .f32 := m ((c : Thread nD τ).loc main_arg0)
def wgt : FVec Ideal S2048x1536 .f32 := m ((c : Thread nD τ).loc main_arg1)
def cot : FVec Ideal S16x1536 .f32 := m ((c : Thread nD τ).loc main_arg2)

/-! ## The activation, where the two products read it -/

theorem W1_v0 : W1 m ρ c (Proc.devRef .tc main_v0) = active (cond m c) :=
  (W1_arr m ρ c 1).trans (Silu.final (V0 m ρ) c)
theorem W2_v0 : W2 m ρ c (Proc.devRef .tc main_v0) = active (cond m c) :=
  (W2_of m ρ c main_v0 (by decide)).trans (W1_v0 m ρ c)
theorem W4_v0 : W4 m ρ c (Proc.devRef .tc main_v0) = active (cond m c) :=
  ((W4_of m ρ c main_v0 (by decide)).trans (W3_of m ρ c main_v0 (by decide))).trans (W2_v0 m ρ c)

/-! ## What the host code prepares -/

theorem V2_v1 : V2 m ρ c main_v1 = low (wgt m c) := by
  have e := W1_args m ρ c main_arg1 (by decide)
  simp only [V2, W2, hostOps1]
  generalize W1 m ρ c = W at e ⊢
  entry_read
  exact congrArg low e
theorem V4_v3 : V4 m ρ c main_v3 = low (cot m c) := by
  have e := W3_args m ρ c main_arg2 (by decide)
  simp only [V4, W4, hostOps2]
  generalize W3 m ρ c = W at e ⊢
  entry_read
  exact congrArg low e
theorem V6_v5 : V6 m ρ c main_v5 = low (cot m c) := by
  have e := W5_args m ρ c main_arg2 (by decide)
  simp only [V6, W6, hostOps3]
  generalize W5 m ρ c = W at e ⊢
  entry_read
  exact congrArg low e
theorem V6_v6 : V6 m ρ c main_v6 = low (wgt m c) := by
  have e := W5_args m ρ c main_arg1 (by decide)
  simp only [V6, W6, hostOps3]
  generalize W5 m ρ c = W at e ⊢
  entry_read
  exact congrArg low e

/-! ## What the calls leave -/

theorem W3_v2 : W3 m ρ c (Proc.devRef .tc main_v2) = modulation (cond m c) (wgt m c) :=
  ((W3_arr m ρ c 2).trans (Out.final (V2 m ρ) c)).trans
    (congrArg₂ (rowsCols (φ := .bf16) (a := 16) (n := 2048) (b := 1536) .f32) (W2_v0 m ρ c) (V2_v1 m ρ c))
theorem W5_v4 : W5 m ρ c (Proc.devRef .tc main_v4) = gradW (cond m c) (cot m c) :=
  ((W5_arr m ρ c 2).trans (OutW.final (V4 m ρ) c)).trans
    (congrArg₂ (colsCols (φ := .bf16) (a := 2048) (n := 16) (b := 1536) .f32) (W4_v0 m ρ c) (V4_v3 m ρ c))

/-- The first result ends as the modulation. -/
theorem final_mod : W7 m ρ c (Proc.devRef .tc main_v2) = modulation (cond m c) (wgt m c) :=
  ((((W7_of m ρ c main_v2 (by decide)).trans (W6_of m ρ c main_v2 (by decide))).trans (W5_of m ρ c main_v2 (by decide))).trans
    (W4_of m ρ c main_v2 (by decide))).trans (W3_v2 m ρ c)
/-- The second ends as the weights' gradient. -/
theorem final_w : W7 m ρ c (Proc.devRef .tc main_v4) = gradW (cond m c) (cot m c) :=
  ((W7_of m ρ c main_v4 (by decide)).trans (W6_of m ρ c main_v4 (by decide))).trans (W5_v4 m ρ c)
/-- The third ends as the activation's gradient. -/
theorem final_s : W7 m ρ c (Proc.devRef .tc main_v7) = gradS (wgt m c) (cot m c) :=
  ((W7_arr m ρ c 2).trans (OutX.final (V6 m ρ) c)).trans
    (congrArg₂ (rowsRows (φ := .bf16) (a := 16) (n := 1536) (b := 2048) .f32) (V6_v5 m ρ c) (V6_v6 m ρ c))

end Cert.Modulation

end
-- ==== Proof.ModEquation.lean ====
/- The modulation over the extended reals: the four calls leave the modulation and its two gradients. -/
module

public import proofs.«01_k».proof.Defs
public import proofs.«01_k».proof.Proof.ModChain
public import Idealize.ShloMosaic.Lib.IdealHost
public import proofs.«01_k».proof.Proof.Gen.ModReferenceIdeal.Run
public import proofs.«01_k».proof.Proof.Gen.ModReferenceIdeal.Read

@[expose] public section

set_option maxRecDepth 16384

noncomputable section

namespace Cert.Modulation

open Cert.ModReferenceIdeal Cert.ModReferenceIdeal.Read Idealize.ShloMosaic Idealize.SL.Sem

variable (x : FVec Ideal S16x2048 .f32) (w : FVec Ideal S2048x1536 .f32) (d : FVec Ideal S16x1536 .f32)

/-- The reference's activation. -/
theorem ref_active (i : S16x2048.Idx) : val_main_v0 (F := Ideal) x i = active x i := by
  rw [val_main_v0_apply, val_main_call0_v5_apply, val_main_call0_v4_apply, val_main_call0_v3_apply, val_main_call0_v2_apply,
    val_main_call0_v1_apply, val_main_call0_v0_apply, val_main_call0_cst_apply, val_main_call0_cst_0_apply]
  refine congrArg (fun e : EReal => x i * e) ?_
  show Ideal.div (Ideal.ofBits .f32 0x3F800000#32) (Ideal.ofBits .f32 0x3F800000#32 + Ideal.exp (-(x i : EReal))) = Ideal.logistic (x i)
  rw [Ideal.ofBits_one_f32]
  rfl

theorem ref_mod : val_main_v1 (F := Ideal) x w = modulation x w := by
  funext i
  rw [val_main_v1_apply]
  show _ = ∑ k : Fin 2048, active x (ix2 (i 0) k) * low w (ix2 k (i 1))
  exact Finset.sum_congr rfl fun k _ => congrArg₂ (· * ·)
    ((ref_active x _).trans (congrArg (active x) (by funext a; fin_cases a <;> rfl))) (congrArg w (by funext a; fin_cases a <;> rfl))

theorem ref_w : val_main_v3 (F := Ideal) x d = gradW x d := by
  funext i
  rw [val_main_v3_apply, val_main_v2_apply]
  show _ = ∑ k : Fin 16, active x (ix2 k (i 0)) * low d (ix2 k (i 1))
  exact Finset.sum_congr rfl fun k _ => (mul_comm _ _).trans (congrArg₂ (· * ·)
    ((ref_active x _).trans (congrArg (active x) (by funext a; fin_cases a <;> rfl))) (congrArg d (by funext a; fin_cases a <;> rfl)))

theorem ref_s : val_main_v4 (F := Ideal) w d = gradS w d := by
  funext i
  rw [val_main_v4_apply]
  exact Finset.sum_congr rfl fun k _ => congrArg₂ (· * ·)
    (congrArg d (by funext a; fin_cases a <;> rfl)) (congrArg w (by funext a; fin_cases a <;> rfl))

/-- The kernel's run and the reference's run leave the same three arrays. -/
theorem equation : algebraic_ModIdeal_ModReferenceIdeal := by
  intro m g m' g' _ hargs
  refine ⟨fun c => modulation (cond m c) (wgt m c), fun c => gradW (cond m c) (cot m c), fun c => gradS (wgt m c) (cot m c),
    (θ_run _ _ _).mono (fun r h c => ⟨(h c).1.trans (final_mod m g c), (h c).2.1.trans (final_w m g c), (h c).2.2.1.trans (final_s m g c),
      (h c).2.2.2⟩) (run m g),
    (θ_run _ _ _).mono (fun r h c => ⟨(h c).1.trans ?_, (h c).2.1.trans ?_, (h c).2.2.1.trans ?_, (h c).2.2.2⟩)
      (Cert.ModReferenceIdeal.Value.run m' g')⟩
  · obtain ⟨e0, e1, e2⟩ := hargs c
    rw [val_main_v1_eq, e0, e1]
    exact ref_mod _ _
  · obtain ⟨e0, e1, e2⟩ := hargs c
    rw [val_main_v3_eq, e0, e2]
    exact ref_w _ _
  · obtain ⟨e0, e1, e2⟩ := hargs c
    rw [val_main_v4_eq, e1, e2]
    exact ref_s _ _

end Cert.Modulation

end
-- ==== Proof.NormsRun.lean ====
/- The row norms: a run of the four calls ends with every array at the contents the calls leave, call by call. -/
module

public import proofs.«01_k».proof.Proof.Gen.NormsIdeal.Frame

@[expose] public section

set_option maxRecDepth 16384

noncomputable section

namespace Cert.Norms

open Cert.NormsIdeal Cert.NormsIdeal.Gen
open Idealize.ShloMosaic Idealize.ShloMosaic.TcCoe
open Idealize.SL Idealize.SL.RA Idealize.SL.BI
open scoped Idealize.SL.BI
open Idealize.ShloMosaic.Rounds
open Idealize.SL.BI.BIBase Idealize.SL.BI.Laws Idealize.SL.ProofMode Idealize.SL.Sem

variable {F : FTy → Type} [FloatOps F] (m : (ℓ : Loc nD τ sig) → Buf (Elt F) ℓ) (ρ : Dev nD → PrngReg)

set_option backward.isDefEq.respectTransparency.types false in
/-- Every array a run can end with is the one the last call's exit holds. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W6 m ρ c b) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp (MT nD τ sig Unit (Elt F) ℕ (UR sig nD τ) ℕ))
            ⊢ BI.own (emb₁ (initOf (Pipeline.cells cfgs cellOf_inj) (Pipeline.launchToks cfgs cellOf_inj))) from .rfl)
        iexact Hu
      iapply (show (BI.emp : sProp (MT nD τ sig Unit (Elt F) ℕ (UR sig nD τ) ℕ)) ⊢ bigSep Finset.univ (fun _ : Dev nD => (BI.emp : sProp (MT nD τ sig Unit (Elt F) ℕ (UR sig nD τ) ℕ))) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h _ => h)

/-- A run ends with the five results that the last call's exit holds and with the arguments as they were. -/
theorem run : θ_run defs (onTc (τ := τ) (main (F := F))) ⟨m, fun _ => 0, ρ⟩ (fun r => ∀ c : Dev nD,
      r.2.mem ((c : Thread nD τ).loc main_v9) = W6 m ρ c (Proc.devRef .tc main_v9)
      ∧ r.2.mem ((c : Thread nD τ).loc main_v10) = W6 m ρ c (Proc.devRef .tc main_v10)
      ∧ r.2.mem ((c : Thread nD τ).loc main_v12) = W6 m ρ c (Proc.devRef .tc main_v12)
      ∧ r.2.mem ((c : Thread nD τ).loc main_v13_0) = W6 m ρ c (Proc.devRef .tc main_v13_0)
      ∧ r.2.mem ((c : Thread nD τ).loc main_v13_1) = W6 m ρ c (Proc.devRef .tc main_v13_1)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)) :=
  (θ_run defs _ _).mono (fun _ h c =>
    ⟨h c _ (mem_uc main_v9 (by decide)),
      h c _ (mem_uc main_v10 (by decide)),
      h c _ (mem_uc main_v12 (by decide)),
      h c _ (mem_uc main_v13_0 (by decide)),
      h c _ (mem_uc main_v13_1 (by decide)),
      (h c _ (mem_uc main_arg0 (by decide))).trans (W6_main_arg0 m ρ c),
      (h c _ (mem_uc main_arg1 (by decide))).trans (W6_main_arg1 m ρ c),
      (h c _ (mem_uc main_arg2 (by decide))).trans (W6_main_arg2 m ρ c),
      (h c _ (mem_uc main_arg3 (by decide))).trans (W6_main_arg3 m ρ c),
      (h c _ (mem_uc main_arg4 (by decide))).trans (W6_main_arg4 m ρ c),
      (h c _ (mem_uc main_arg5 (by decide))).trans (W6_main_arg5 m ρ c),
      (h c _ (mem_uc main_arg6 (by decide))).trans (W6_main_arg6 m ρ c),
      (h c _ (mem_uc main_arg7 (by decide))).trans (W6_main_arg7 m ρ c),
      (h c _ (mem_uc main_arg8 (by decide))).trans (W6_main_arg8 m ρ c)⟩) (run_all m ρ)

end Cert.Norms

end
-- ==== Proof.RowScale.lean ====
/- The root-mean-square norm of rows over the extended reals, entry by entry. -/
module

public import Idealize.ShloMosaic.Lib.Pointwise.Index
public import Idealize.ShloMosaic.PureOps.Ideal.Laws

@[expose] public section

noncomputable section

namespace Cert.RowScale

open Idealize.ShloMosaic

variable {φ ψ : FTy} {a n : ℕ}

/-- Entry `s` of a row over the root of the mean of its squares, the row's length being the literal `N` and the floor
    `1e-6`. -/
def rms (N : BitVec 32) (f : Fin n → EReal) (s : Fin n) : EReal :=
  f s * Ideal.rsqrt (Ideal.div (∑ k, f k * f k) (Ideal.ofBits .f32 N) + Ideal.ofBits .f32 0x358637BD#32)

/-- Every row normed, then weighted column by column. -/
def normed (ψ : FTy) (N : BitVec 32) (x : FVec Ideal ⟨2, ![a, n]⟩ .f32) (g : FVec Ideal ⟨2, ![1, n]⟩ .f32) : FVec Ideal ⟨2, ![a, n]⟩ ψ :=
  fun i => rms N (fun k => x (ix2 (i 0) k)) (i 1) * g (ix2 0 (i 1))

/-- Every row normed and weighted, then scaled by one more than `p` and shifted by `q`. -/
def modulated (ψ : FTy) (N : BitVec 32) (x : FVec Ideal ⟨2, ![a, n]⟩ .f32) (g p q : FVec Ideal ⟨2, ![1, n]⟩ .f32) : FVec Ideal ⟨2, ![a, n]⟩ ψ :=
  fun i => rms N (fun k => x (ix2 (i 0) k)) (i 1) * g (ix2 0 (i 1)) * (Ideal.ofBits .f32 0x3F800000#32 + p (ix2 0 (i 1))) + q (ix2 0 (i 1))

/-- An array and a multiple of another, column by column. -/
def residual (x y : FVec Ideal ⟨2, ![a, n]⟩ .f32) (g : FVec Ideal ⟨2, ![1, n]⟩ .f32) : FVec Ideal ⟨2, ![a, n]⟩ .f32 :=
  fun i => (x i : EReal) + g (ix2 0 (i 1)) * y i

end Cert.RowScale

end
-- ==== Proof.NormsProducts.lean ====
/- The row norms: what the four calls leave in their results, from whatever their operands hold when they start. -/
module

public import proofs.«01_k».proof.Proof.Gen.NormsIdeal.Frame
public import proofs.«01_k».proof.Proof.RowScale
public import Idealize.ShloMosaic.Lib.IdealHost
public import Idealize.ShloMosaic.Lib.Pipeline.ValueKit
public import Idealize.ShloMosaic.Lib.Pipeline.ReadBack

@[expose] public section

set_option maxRecDepth 16384

noncomputable section

namespace Cert.Norms

open Cert.NormsIdeal Cert.NormsIdeal.Gen Cert.RowScale Idealize.ShloMosaic Idealize.ShloMosaic.TcCoe Idealize.SL.Sem

variable (V : (c : Dev nD) → (b : Ref sig .tc) → Buf (Elt Ideal) ((c : Thread nD τ).loc b)) (c : Dev nD)

/-- The latents' columns of the projections. -/
def latent (h : FVec Ideal S2304x6144 .f32) : FVec Ideal S2304x256 .f32 :=
  fun i => h (ix2 (i 0) ⟨1536 + (i 1).val, by have h1 : (i 1).val < 256 := (i 1).isLt; omega⟩)

/-! ## The latent tokens' norm -/

namespace Lat

theorem idx0 : ∀ t : Fin grid0.N, win0_0.index t = ![t.val, 0] := by decide +kernel
theorem idx1 : ∀ t : Fin grid0.N, win0_1.index t = ![0, 0] := by decide +kernel
theorem idx2 : ∀ t : Fin grid0.N, win0_2.index t = ![0, 0] := by decide +kernel
theorem idx3 : ∀ t : Fin grid0.N, win0_3.index t = ![0, 0] := by decide +kernel
theorem idx4 : ∀ t : Fin grid0.N, win0_4.index t = ![t.val, 0] := by decide +kernel

theorem pay_at (x : FVec Ideal S512x2048 .f32) (g p q : FVec Ideal S1x2048 .f32) (r : Fin 512) (s : Fin 2048) :
    k0_pay1 (F := Ideal) x g p q (ix2 r s)
      = rms 0x45000000#32 (fun k => x (ix2 r k)) s * g (ix2 0 s) * (Ideal.ofBits .f32 0x3F800000#32 + p (ix2 0 s)) + q (ix2 0 s) := by
  pointwise [k0_pay1, rms]

variable (t : Fin cfg0.N)

theorem lt4 : t.val < 4 := t.isLt

def row (r : Fin 512) : Fin 2048 := ⟨512 * t.val + r.val, by have := lt4 t; have := r.isLt; omega⟩

theorem blk0 (r : Fin 512) (s : Fin 2048) : iblk0 V c 0 t (ix2 r s) = V c main_arg0 (ix2 (row t r) s) := by
  blk_ext [iblk0, idx0 t, row]
theorem blk1 (s : Fin 2048) : iblk0 V c 1 t (ix2 0 s) = V c main_v7 (ix2 0 s) := by
  blk_ext [iblk0, idx1 t]
theorem blk2 (s : Fin 2048) : iblk0 V c 2 t (ix2 0 s) = V c main_v1 (ix2 0 s) := by
  blk_ext [iblk0, idx2 t]
theorem blk3 (s : Fin 2048) : iblk0 V c 3 t (ix2 0 s) = V c main_v0 (ix2 0 s) := by
  blk_ext [iblk0, idx3 t]

theorem body (x : FVec Ideal S512x2048 .f32) (g p q : FVec Ideal S1x2048 .f32) : out0_4 (F := Ideal) x g p q = k0_pay1 (F := Ideal) x g p q := by
  unfold out0_4
  rw [View.canon_unit_zero, View.ld_unit_zero (S := S512x2048), View.ld_unit_zero (S := S1x2048), View.ld_unit_zero (S := S1x2048),
    View.ld_unit_zero (S := S1x2048)] <;> (funext a; fin_cases a <;> rfl)

theorem place (r : Fin 512) (s : Fin 2048) : ((cfg0.win 4).blk t).view.emb (ix2 r s) = ix2 (row t r) s := by
  funext a
  match a with
  | ⟨0, _⟩ => exact Fin.ext (by show win0_4.index t (0 : Fin 2) * 512 + 1 * r.val = 512 * t.val + r.val; rw [idx4]; show t.val * 512 + 1 * r.val = _; omega)
  | ⟨1, _⟩ => exact Fin.ext (by show win0_4.index t (1 : Fin 2) * 2048 + 1 * s.val = s.val; rw [idx4]; show 0 * 2048 + 1 * s.val = _; omega)

/-- The call leaves its operand normed and modulated. -/
theorem final : (dat0 V c).arrAt 4 cfg0.N
    = modulated (a := 2048) (n := 2048) .bf16 0x45000000#32 (V c main_arg0) (V c main_v7) (V c main_v1) (V c main_v0) := by
  refine (dat0 V c).arrAt_eq_of_covers 4 _ (by decide +kernel) fun t _ y => ?_
  idx_vars y
  refine Eq.trans ?_ (congrArg
    (modulated (a := 2048) (n := 2048) .bf16 0x45000000#32 (V c main_arg0) (V c main_v7) (V c main_v1) (V c main_v0)) (place t y0 y1).symm)
  show (dat0 V c).after 4 t (ix2 y0 y1) = _
  rw [after0_4, body]
  refine (pay_at _ _ _ _ y0 y1).trans ?_
  simp only [blk0, blk1, blk2, blk3]
  rfl

end Lat

/-! ## The context tokens' norm -/

namespace Ctx

theorem idx0 : ∀ t : Fin grid1.N, win1_0.index t = ![0, 0] := by decide +kernel
theorem idx1 : ∀ t : Fin grid1.N, win1_1.index t = ![0, 0] := by decide +kernel
theorem idx2 : ∀ t : Fin grid1.N, win1_2.index t = ![0, 0] := by decide +kernel
theorem idx3 : ∀ t : Fin grid1.N, win1_3.index t = ![0, 0] := by decide +kernel
theorem idx4 : ∀ t : Fin grid1.N, win1_4.index t = ![0, 0] := by decide +kernel

theorem pay_at (x : FVec Ideal S256x2048 .f32) (g p q : FVec Ideal S1x2048 .f32) (r : Fin 256) (s : Fin 2048) :
    k1_pay1 (F := Ideal) x g p q (ix2 r s)
      = rms 0x45000000#32 (fun k => x (ix2 r k)) s * g (ix2 0 s) * (Ideal.ofBits .f32 0x3F800000#32 + p (ix2 0 s)) + q (ix2 0 s) := by
  pointwise [k1_pay1, rms]

variable (t : Fin cfg1.N)

theorem blk0 (r : Fin 256) (s : Fin 2048) : iblk1 V c 0 t (ix2 r s) = V c main_arg1 (ix2 r s) := by
  blk_ext [iblk1, idx0 t]
theorem blk1 (s : Fin 2048) : iblk1 V c 1 t (ix2 0 s) = V c main_v7 (ix2 0 s) := by
  blk_ext [iblk1, idx1 t]
theorem blk2 (s : Fin 2048) : iblk1 V c 2 t (ix2 0 s) = V c main_v6 (ix2 0 s) := by
  blk_ext [iblk1, idx2 t]
theorem blk3 (s : Fin 2048) : iblk1 V c 3 t (ix2 0 s) = V c main_v5 (ix2 0 s) := by
  blk_ext [iblk1, idx3 t]

theorem body (x : FVec Ideal S256x2048 .f32) (g p q : FVec Ideal S1x2048 .f32) : out1_4 (F := Ideal) x g p q = k1_pay1 (F := Ideal) x g p q := by
  unfold out1_4
  rw [View.canon_unit_zero, View.ld_unit_zero (S := S256x2048), View.ld_unit_zero (S := S1x2048), View.ld_unit_zero (S := S1x2048),
    View.ld_unit_zero (S := S1x2048)] <;> (funext a; fin_cases a <;> rfl)

theorem place (r : Fin 256) (s : Fin 2048) : ((cfg1.win 4).blk t).view.emb (ix2 r s) = ix2 r s := by
  funext a
  match a with
  | ⟨0, _⟩ => exact Fin.ext (by show win1_4.index t (0 : Fin 2) * 256 + 1 * r.val = r.val; rw [idx4]; show 0 * 256 + 1 * r.val = _; omega)
  | ⟨1, _⟩ => exact Fin.ext (by show win1_4.index t (1 : Fin 2) * 2048 + 1 * s.val = s.val; rw [idx4]; show 0 * 2048 + 1 * s.val = _; omega)

/-- The call leaves its operand normed and modulated. -/
theorem final : (dat1 V c).arrAt 4 cfg1.N
    = modulated (a := 256) (n := 2048) .bf16 0x45000000#32 (V c main_arg1) (V c main_v7) (V c main_v6) (V c main_v5) := by
  refine (dat1 V c).arrAt_eq_of_covers 4 _ (by decide +kernel) fun t _ y => ?_
  idx_vars y
  refine Eq.trans ?_ (congrArg
    (modulated (a := 256) (n := 2048) .bf16 0x45000000#32 (V c main_arg1) (V c main_v7) (V c main_v6) (V c main_v5)) (place t y0 y1).symm)
  show (dat1 V c).after 4 t (ix2 y0 y1) = _
  rw [after1_4, body]
  refine (pay_at _ _ _ _ y0 y1).trans ?_
  simp only [blk0, blk1, blk2, blk3]
  rfl

end Ctx

/-! ## The latents' norm -/

namespace Kv

theorem idx0 : ∀ t : Fin grid2.N, win2_0.index t = ![t.val, 6] := by decide +kernel
theorem idx1 : ∀ t : Fin grid2.N, win2_1.index t = ![0, 0] := by decide +kernel
theorem idx2 : ∀ t : Fin grid2.N, win2_2.index t = ![t.val, 0] := by decide +kernel

theorem pay_at (x : FVec Ideal S256x256 .f32) (g : FVec Ideal S1x256 .f32) (r s : Fin 256) :
    k2_pay1 (F := Ideal) x g (ix2 r s) = rms 0x43800000#32 (fun k => x (ix2 r k)) s * g (ix2 0 s) := by
  pointwise [k2_pay1, rms]

variable (t : Fin cfg2.N)

theorem lt9 : t.val < 9 := t.isLt

def row (r : Fin 256) : Fin 2304 := ⟨256 * t.val + r.val, by have := lt9 t; have := r.isLt; omega⟩

theorem blk0 (r s : Fin 256) : iblk2 V c 0 t (ix2 r s) = latent (V c main_arg3) (ix2 (row t r) s) := by
  show _ = V c main_arg3 (ix2 (row t r) ⟨1536 + s.val, by have := s.isLt; omega⟩)
  blk_ext [iblk2, idx0 t, row]
theorem blk1 (s : Fin 256) : iblk2 V c 1 t (ix2 0 s) = V c main_v11 (ix2 0 s) := by
  blk_ext [iblk2, idx1 t]

theorem body (x : FVec Ideal S256x256 .f32) (g : FVec Ideal S1x256 .f32) : out2_2 (F := Ideal) x g = k2_pay1 (F := Ideal) x g := by
  unfold out2_2
  rw [View.canon_unit_zero, View.ld_unit_zero (S := S256x256), View.ld_unit_zero (S := S1x256)] <;> (funext a; fin_cases a <;> rfl)

theorem place (r s : Fin 256) : ((cfg2.win 2).blk t).view.emb (ix2 r s) = ix2 (row t r) s := by
  funext a
  match a with
  | ⟨0, _⟩ => exact Fin.ext (by show win2_2.index t (0 : Fin 2) * 256 + 1 * r.val = 256 * t.val + r.val; rw [idx2]; show t.val * 256 + 1 * r.val = _; omega)
  | ⟨1, _⟩ => exact Fin.ext (by show win2_2.index t (1 : Fin 2) * 256 + 1 * s.val = s.val; rw [idx2]; show 0 * 256 + 1 * s.val = _; omega)

/-- The call leaves the latents normed. -/
theorem final : (dat2 V c).arrAt 2 cfg2.N = normed (a := 2304) (n := 256) .bf16 0x43800000#32 (latent (V c main_arg3)) (V c main_v11) := by
  refine (dat2 V c).arrAt_eq_of_covers 2 _ (by decide +kernel) fun t _ y => ?_
  idx_vars y
  refine Eq.trans ?_ (congrArg
    (normed (a := 2304) (n := 256) .bf16 0x43800000#32 (latent (V c main_arg3)) (V c main_v11)) (place t y0 y1).symm)
  show (dat2 V c).after 2 t (ix2 y0 y1) = _
  rw [after2_2, body]
  refine (pay_at _ _ y0 y1).trans ?_
  simp only [blk0, blk1]
  rfl

end Kv

/-! ## The residual and its norm -/

namespace Res

theorem idx0 : ∀ t : Fin grid3.N, win3_0.index t = ![t.val, 0] := by decide +kernel
theorem idx1 : ∀ t : Fin grid3.N, win3_1.index t = ![t.val, 0] := by decide +kernel
theorem idx2 : ∀ t : Fin grid3.N, win3_2.index t = ![0, 0] := by decide +kernel
theorem idx3 : ∀ t : Fin grid3.N, win3_3.index t = ![0, 0] := by decide +kernel
theorem idx4 : ∀ t : Fin grid3.N, win3_4.index t = ![0, 0] := by decide +kernel
theorem idx5 : ∀ t : Fin grid3.N, win3_5.index t = ![0, 0] := by decide +kernel
theorem idx6 : ∀ t : Fin grid3.N, win3_6.index t = ![t.val, 0] := by decide +kernel
theorem idx7 : ∀ t : Fin grid3.N, win3_7.index t = ![t.val, 0] := by decide +kernel

theorem sum_at (x y : FVec Ideal S256x2048 .f32) (u : FVec Ideal S1x2048 .f32) (r : Fin 256) (s : Fin 2048) :
    k3_pay1 (F := Ideal) x y u (ix2 r s) = x (ix2 r s) + u (ix2 0 s) * y (ix2 r s) := by
  pointwise [k3_pay1]

theorem pay_at (x y : FVec Ideal S256x2048 .f32) (u g p q : FVec Ideal S1x2048 .f32) (r : Fin 256) (s : Fin 2048) :
    k3_pay2 (F := Ideal) x y u g p q (ix2 r s)
      = rms 0x45000000#32 (fun k => k3_pay1 (F := Ideal) x y u (ix2 r k)) s * g (ix2 0 s) * (Ideal.ofBits .f32 0x3F800000#32 + p (ix2 0 s)) + q (ix2 0 s) := by
  unfold k3_pay2
  generalize k3_pay1 (F := Ideal) x y u = z
  pointwise [rms]

variable (t : Fin cfg3.N)

theorem lt8 : t.val < 8 := t.isLt

def row (r : Fin 256) : Fin 2048 := ⟨256 * t.val + r.val, by have := lt8 t; have := r.isLt; omega⟩

theorem blk0 (r : Fin 256) (s : Fin 2048) : iblk3 V c 0 t (ix2 r s) = V c main_arg0 (ix2 (row t r) s) := by
  blk_ext [iblk3, idx0 t, row]
theorem blk1 (r : Fin 256) (s : Fin 2048) : iblk3 V c 1 t (ix2 r s) = V c main_arg2 (ix2 (row t r) s) := by
  blk_ext [iblk3, idx1 t, row]
theorem blk2 (s : Fin 2048) : iblk3 V c 2 t (ix2 0 s) = V c main_v2 (ix2 0 s) := by
  blk_ext [iblk3, idx2 t]
theorem blk3 (s : Fin 2048) : iblk3 V c 3 t (ix2 0 s) = V c main_v8 (ix2 0 s) := by
  blk_ext [iblk3, idx3 t]
theorem blk4 (s : Fin 2048) : iblk3 V c 4 t (ix2 0 s) = V c main_v4 (ix2 0 s) := by
  blk_ext [iblk3, idx4 t]
theorem blk5 (s : Fin 2048) : iblk3 V c 5 t (ix2 0 s) = V c main_v3 (ix2 0 s) := by
  blk_ext [iblk3, idx5 t]

theorem body6 (x y : FVec Ideal S256x2048 .f32) (u g p q : FVec Ideal S1x2048 .f32) : out3_6 (F := Ideal) x y u g p q = k3_pay1 (F := Ideal) x y u := by
  unfold out3_6
  rw [View.canon_unit_zero, View.ld_unit_zero (S := S256x2048), View.ld_unit_zero (S := S256x2048), View.ld_unit_zero (S := S1x2048)]
    <;> (funext a; fin_cases a <;> rfl)
theorem body7 (x y : FVec Ideal S256x2048 .f32) (u g p q : FVec Ideal S1x2048 .f32) :
    out3_7 (F := Ideal) x y u g p q = k3_pay2 (F := Ideal) x y u g p q := by
  unfold out3_7
  rw [View.canon_unit_zero, View.ld_unit_zero (S := S256x2048), View.ld_unit_zero (S := S256x2048), View.ld_unit_zero (S := S1x2048),
    View.ld_unit_zero (S := S1x2048), View.ld_unit_zero (S := S1x2048), View.ld_unit_zero (S := S1x2048)] <;> (funext a; fin_cases a <;> rfl)

theorem place6 (r : Fin 256) (s : Fin 2048) : ((cfg3.win 6).blk t).view.emb (ix2 r s) = ix2 (row t r) s := by
  funext a
  match a with
  | ⟨0, _⟩ => exact Fin.ext (by show win3_6.index t (0 : Fin 2) * 256 + 1 * r.val = 256 * t.val + r.val; rw [idx6]; show t.val * 256 + 1 * r.val = _; omega)
  | ⟨1, _⟩ => exact Fin.ext (by show win3_6.index t (1 : Fin 2) * 2048 + 1 * s.val = s.val; rw [idx6]; show 0 * 2048 + 1 * s.val = _; omega)
theorem place7 (r : Fin 256) (s : Fin 2048) : ((cfg3.win 7).blk t).view.emb (ix2 r s) = ix2 (row t r) s := by
  funext a
  match a with
  | ⟨0, _⟩ => exact Fin.ext (by show win3_7.index t (0 : Fin 2) * 256 + 1 * r.val = 256 * t.val + r.val; rw [idx7]; show t.val * 256 + 1 * r.val = _; omega)
  | ⟨1, _⟩ => exact Fin.ext (by show win3_7.index t (1 : Fin 2) * 2048 + 1 * s.val = s.val; rw [idx7]; show 0 * 2048 + 1 * s.val = _; omega)

/-- The call leaves the residual. -/
theorem final6 : (dat3 V c).arrAt 6 cfg3.N = residual (a := 2048) (n := 2048) (V c main_arg0) (V c main_arg2) (V c main_v2) := by
  refine (dat3 V c).arrAt_eq_of_covers 6 _ (by decide +kernel) fun t _ y => ?_
  idx_vars y
  refine Eq.trans ?_ (congrArg (residual (a := 2048) (n := 2048) (V c main_arg0) (V c main_arg2) (V c main_v2)) (place6 t y0 y1).symm)
  show (dat3 V c).after 6 t (ix2 y0 y1) = _
  rw [after3_6, body6]
  refine (sum_at _ _ _ y0 y1).trans ?_
  simp only [blk0, blk1, blk2]
  rfl

/-- The call leaves the residual normed and modulated. -/
theorem final7 : (dat3 V c).arrAt 7 cfg3.N = modulated (a := 2048) (n := 2048) .bf16 0x45000000#32
    (residual (a := 2048) (n := 2048) (V c main_arg0) (V c main_arg2) (V c main_v2)) (V c main_v8) (V c main_v4) (V c main_v3) := by
  refine (dat3 V c).arrAt_eq_of_covers 7 _ (by decide +kernel) fun t _ y => ?_
  idx_vars y
  refine Eq.trans ?_ (congrArg (modulated (a := 2048) (n := 2048) .bf16 0x45000000#32
    (residual (a := 2048) (n := 2048) (V c main_arg0) (V c main_arg2) (V c main_v2)) (V c main_v8) (V c main_v4) (V c main_v3)) (place7 t y0 y1).symm)
  show (dat3 V c).after 7 t (ix2 y0 y1) = _
  rw [after3_7, body7]
  refine (pay_at _ _ _ _ _ _ y0 y1).trans ?_
  simp only [sum_at, blk0, blk1, blk2, blk3, blk4, blk5]
  rfl

end Res

end Cert.Norms

end
-- ==== Proof.NormsChain.lean ====
/- The row norms: the contents the four calls leave, followed from the last call back to the arguments. -/
module

public import proofs.«01_k».proof.Proof.NormsRun
public import proofs.«01_k».proof.Proof.NormsProducts

@[expose] public section

set_option maxRecDepth 16384

noncomputable section

namespace Cert.Norms

open Cert.NormsIdeal Cert.NormsIdeal.Gen Cert.RowScale Idealize.ShloMosaic Idealize.ShloMosaic.TcCoe Idealize.SL.Sem

/-- Row `k` of a modulation. -/
def slot (k : Fin 6) (x : FVec Ideal S6x2048 .f32) : FVec Ideal S1x2048 .f32 := fun i => x (ix2 k (i 1))

/-- A weight as a single row. -/
def asRow (x : FVec Ideal S2048 .f32) : FVec Ideal S1x2048 .f32 := fun i => x (ix1 (i 1))
def asRowK (x : FVec Ideal S256 .f32) : FVec Ideal S1x256 .f32 := fun i => x (ix1 (i 1))

theorem asRow_eq (x : FVec Ideal S2048 .f32) : broadcastInDim S1x2048 ![1] bcast_S2048_S1x2048_1 x = asRow x := by
  funext i
  refine congrArg x ?_
  funext a
  fin_cases a
  rfl
theorem asRowK_eq (x : FVec Ideal S256 .f32) : broadcastInDim S1x256 ![1] bcast_S256_S1x256_1 x = asRowK x := by
  funext i
  refine congrArg x ?_
  funext a
  fin_cases a
  rfl

/-- A slice of one row is that row. -/
theorem slot_eq (k : Fin 6) (h : Shape.Slices S6x2048 ![k.val, 0] S1x2048) (x : FVec Ideal S6x2048 .f32) :
    extractStridedSlice S1x2048 ![k.val, 0] x h = slot k x := by
  funext i
  refine congrArg x ?_
  funext a
  match a with
  | ⟨0, _⟩ => exact Fin.ext (by have h0 : (i 0).val < 1 := (i 0).isLt; show k.val + (i 0).val = k.val; omega)
  | ⟨1, _⟩ => exact Fin.ext (by show 0 + (i 1).val = (i 1).val; omega)

/-! ## The five results -/

section results
variable (x : FVec Ideal S2048x2048 .f32) (z : FVec Ideal S256x2048 .f32) (o : FVec Ideal S2048x2048 .f32) (h : FVec Ideal S2304x6144 .f32)
  (p q : FVec Ideal S6x2048 .f32) (g n : FVec Ideal S2048 .f32) (v : FVec Ideal S256 .f32)

def normX : FVec Ideal S2048x2048 .bf16 := modulated (a := 2048) (n := 2048) .bf16 0x45000000#32 x (asRow g) (slot 1 p) (slot 0 p)
def normC : FVec Ideal S256x2048 .bf16 := modulated (a := 256) (n := 2048) .bf16 0x45000000#32 z (asRow g) (slot 1 q) (slot 0 q)
def normK : FVec Ideal S2304x256 .bf16 := normed (a := 2304) (n := 256) .bf16 0x43800000#32 (latent h) (asRowK v)
def sumX : FVec Ideal S2048x2048 .f32 := residual (a := 2048) (n := 2048) x o (slot 2 p)
def normS : FVec Ideal S2048x2048 .bf16 :=
  modulated (a := 2048) (n := 2048) .bf16 0x45000000#32 (sumX x o p) (asRow n) (slot 4 p) (slot 3 p)
end results

variable (m : (ℓ : Loc nD τ sig) → Buf (Elt Ideal) ℓ) (ρ : Dev nD → PrngReg) (c : Dev nD)

/-- The arguments. -/
def lat : FVec Ideal S2048x2048 .f32 := m ((c : Thread nD τ).loc main_arg0)
def ctx : FVec Ideal S256x2048 .f32 := m ((c : Thread nD τ).loc main_arg1)
def att : FVec Ideal S2048x2048 .f32 := m ((c : Thread nD τ).loc main_arg2)
def prj : FVec Ideal S2304x6144 .f32 := m ((c : Thread nD τ).loc main_arg3)
def modX : FVec Ideal S6x2048 .f32 := m ((c : Thread nD τ).loc main_arg4)
def modC : FVec Ideal S6x2048 .f32 := m ((c : Thread nD τ).loc main_arg5)
def wg1 : FVec Ideal S2048 .f32 := m ((c : Thread nD τ).loc main_arg6)
def wg2 : FVec Ideal S2048 .f32 := m ((c : Thread nD τ).loc main_arg7)
def wgK : FVec Ideal S256 .f32 := m ((c : Thread nD τ).loc main_arg8)

/-! ## What the host code prepares -/

theorem V1_v0 : V1 m ρ c main_v0 = slot 0 (modX m c) := by
  refine Eq.trans ?_ (slot_eq 0 slices_S6x2048_S1x2048_0_0 (modX m c))
  simp only [V1, W1, hostOps0]
  entry_read
  rfl
theorem V1_v1 : V1 m ρ c main_v1 = slot 1 (modX m c) := by
  refine Eq.trans ?_ (slot_eq 1 slices_S6x2048_S1x2048_1_0 (modX m c))
  simp only [V1, W1, hostOps0]
  entry_read
  rfl
theorem V1_v2 : V1 m ρ c main_v2 = slot 2 (modX m c) := by
  refine Eq.trans ?_ (slot_eq 2 slices_S6x2048_S1x2048_2_0 (modX m c))
  simp only [V1, W1, hostOps0]
  entry_read
  rfl
theorem V1_v3 : V1 m ρ c main_v3 = slot 3 (modX m c) := by
  refine Eq.trans ?_ (slot_eq 3 slices_S6x2048_S1x2048_3_0 (modX m c))
  simp only [V1, W1, hostOps0]
  entry_read
  rfl
theorem V1_v4 : V1 m ρ c main_v4 = slot 4 (modX m c) := by
  refine Eq.trans ?_ (slot_eq 4 slices_S6x2048_S1x2048_4_0 (modX m c))
  simp only [V1, W1, hostOps0]
  entry_read
  rfl
theorem V1_v5 : V1 m ρ c main_v5 = slot 0 (modC m c) := by
  refine Eq.trans ?_ (slot_eq 0 slices_S6x2048_S1x2048_0_0 (modC m c))
  simp only [V1, W1, hostOps0]
  entry_read
  rfl
theorem V1_v6 : V1 m ρ c main_v6 = slot 1 (modC m c) := by
  refine Eq.trans ?_ (slot_eq 1 slices_S6x2048_S1x2048_1_0 (modC m c))
  simp only [V1, W1, hostOps0]
  entry_read
  rfl
theorem V1_v7 : V1 m ρ c main_v7 = asRow (wg1 m c) := by
  refine Eq.trans ?_ (asRow_eq (wg1 m c))
  simp only [V1, W1, hostOps0]
  entry_read
  rfl
theorem V1_v8 : V1 m ρ c main_v8 = asRow (wg2 m c) := by
  refine Eq.trans ?_ (asRow_eq (wg2 m c))
  simp only [V1, W1, hostOps0]
  entry_read
  rfl
theorem V4_v11 : V4 m ρ c main_v11 = asRowK (wgK m c) := by
  have e := W3_args m ρ c main_arg8 (by decide)
  refine Eq.trans ?_ (asRowK_eq (wgK m c))
  simp only [V4, W4, hostOps2]
  generalize W3 m ρ c = W at e ⊢
  entry_read
  exact congrArg (broadcastInDim S1x256 ![1] bcast_S256_S1x256_1) e

/-- What the first stretch of host code leaves, where the last call reads it. -/
theorem W5_of_W1 (r : Ref sig .tc) (h0 : ∀ w : Fin cfg0.W, Pipeline.arrRef spec0 w = r → (cfg0.win w).isOut = false)
    (h1 : ∀ w : Fin cfg1.W, Pipeline.arrRef spec1 w = r → (cfg1.win w).isOut = false) (h2 : r ∉ hostOps2_W)
    (h3 : ∀ w : Fin cfg2.W, Pipeline.arrRef spec2 w = r → (cfg2.win w).isOut = false) :
    W5 m ρ c (Proc.devRef .tc r) = W1 m ρ c (Proc.devRef .tc r) :=
  (((W5_of m ρ c r h3).trans (W4_of m ρ c r h2)).trans (W3_of m ρ c r h1)).trans (W2_of m ρ c r h0)

/-! ## What the calls leave -/

theorem V1_arg0 : V1 m ρ c main_arg0 = lat m c := W1_args m ρ c main_arg0 (by decide)
theorem V2_arg1 : V2 m ρ c main_arg1 = ctx m c := W2_args m ρ c main_arg1 (by decide)
theorem V2_v5 : V2 m ρ c main_v5 = slot 0 (modC m c) := (W2_of m ρ c main_v5 (by decide)).trans (V1_v5 m ρ c)
theorem V2_v6 : V2 m ρ c main_v6 = slot 1 (modC m c) := (W2_of m ρ c main_v6 (by decide)).trans (V1_v6 m ρ c)
theorem V2_v7 : V2 m ρ c main_v7 = asRow (wg1 m c) := (W2_of m ρ c main_v7 (by decide)).trans (V1_v7 m ρ c)
theorem V4_arg3 : V4 m ρ c main_arg3 = prj m c := W4_args m ρ c main_arg3 (by decide)
theorem V5_arg0 : V5 m ρ c main_arg0 = lat m c := W5_args m ρ c main_arg0 (by decide)
theorem V5_arg2 : V5 m ρ c main_arg2 = att m c := W5_args m ρ c main_arg2 (by decide)
theorem V5_v2 : V5 m ρ c main_v2 = slot 2 (modX m c) :=
  (W5_of_W1 m ρ c main_v2 (by decide) (by decide) (by decide) (by decide)).trans (V1_v2 m ρ c)
theorem V5_v3 : V5 m ρ c main_v3 = slot 3 (modX m c) :=
  (W5_of_W1 m ρ c main_v3 (by decide) (by decide) (by decide) (by decide)).trans (V1_v3 m ρ c)
theorem V5_v4 : V5 m ρ c main_v4 = slot 4 (modX m c) :=
  (W5_of_W1 m ρ c main_v4 (by decide) (by decide) (by decide) (by decide)).trans (V1_v4 m ρ c)
theorem V5_v8 : V5 m ρ c main_v8 = asRow (wg2 m c) :=
  (W5_of_W1 m ρ c main_v8 (by decide) (by decide) (by decide) (by decide)).trans (V1_v8 m ρ c)

theorem W2_v9 : W2 m ρ c (Proc.devRef .tc main_v9) = normX (lat m c) (modX m c) (wg1 m c) := by
  refine (W2_arr m ρ c 4).trans ((Lat.final (V1 m ρ) c).trans ?_)
  rw [V1_arg0, V1_v7, V1_v1, V1_v0]
  rfl
theorem W3_v10 : W3 m ρ c (Proc.devRef .tc main_v10) = normC (ctx m c) (modC m c) (wg1 m c) := by
  refine (W3_arr m ρ c 4).trans ((Ctx.final (V2 m ρ) c).trans ?_)
  rw [V2_arg1, V2_v7, V2_v6, V2_v5]
  rfl
theorem W5_v12 : W5 m ρ c (Proc.devRef .tc main_v12) = normK (prj m c) (wgK m c) := by
  refine (W5_arr m ρ c 2).trans ((Kv.final (V4 m ρ) c).trans ?_)
  rw [V4_arg3, V4_v11]
  rfl

/-- The first result ends as the latent tokens' norm. -/
theorem final_x : W6 m ρ c (Proc.devRef .tc main_v9) = normX (lat m c) (modX m c) (wg1 m c) :=
  ((((W6_of m ρ c main_v9 (by decide)).trans (W5_of m ρ c main_v9 (by decide))).trans (W4_of m ρ c main_v9 (by decide))).trans
    (W3_of m ρ c main_v9 (by decide))).trans (W2_v9 m ρ c)
/-- The second ends as the context tokens' norm. -/
theorem final_c : W6 m ρ c (Proc.devRef .tc main_v10) = normC (ctx m c) (modC m c) (wg1 m c) :=
  (((W6_of m ρ c main_v10 (by decide)).trans (W5_of m ρ c main_v10 (by decide))).trans (W4_of m ρ c main_v10 (by decide))).trans (W3_v10 m ρ c)
/-- The third ends as the latents' norm. -/
theorem final_k : W6 m ρ c (Proc.devRef .tc main_v12) = normK (prj m c) (wgK m c) :=
  (W6_of m ρ c main_v12 (by decide)).trans (W5_v12 m ρ c)
/-- The fourth ends as the residual. -/
theorem final_r : W6 m ρ c (Proc.devRef .tc main_v13_0) = sumX (lat m c) (att m c) (modX m c) := by
  refine (W6_arr m ρ c 6).trans ((Res.final6 (V5 m ρ) c).trans ?_)
  rw [V5_arg0, V5_arg2, V5_v2]
  rfl
/-- The fifth ends as the residual's norm. -/
theorem final_s : W6 m ρ c (Proc.devRef .tc main_v13_1) = normS (lat m c) (att m c) (modX m c) (wg2 m c) := by
  refine (W6_arr m ρ c 7).trans ((Res.final7 (V5 m ρ) c).trans ?_)
  rw [V5_arg0, V5_arg2, V5_v2, V5_v8, V5_v4, V5_v3]
  rfl

end Cert.Norms

end
-- ==== Proof.NormsEquation.lean ====
/- The row norms over the extended reals: the four calls and the reference leave the same five arrays. -/
module

public import proofs.«01_k».proof.Defs
public import proofs.«01_k».proof.Proof.NormsChain
public import proofs.«01_k».proof.Proof.Gen.NormsReferenceIdeal.Run
public import proofs.«01_k».proof.Proof.Gen.NormsReferenceIdeal.Read

@[expose] public section

set_option maxRecDepth 16384

noncomputable section

namespace Cert.Norms

open Cert.NormsReferenceIdeal Cert.NormsReferenceIdeal.Read Cert.RowScale Idealize.ShloMosaic Idealize.SL.Sem

variable (x : FVec Ideal S2048x2048 .f32) (z : FVec Ideal S256x2048 .f32) (o : FVec Ideal S2048x2048 .f32) (h : FVec Ideal S2304x6144 .f32)
  (p q : FVec Ideal S6x2048 .f32) (g n : FVec Ideal S2048 .f32) (v : FVec Ideal S256 .f32)

/-- The norm of a row, its sum starting from the literal zero. -/
theorem rms_of {a : ℕ} (N : BitVec 32) (f e : Fin a → EReal) (s : Fin a) (he : ∀ k, e k = f k * f k) :
    f s * Ideal.rsqrt (Ideal.div (Ideal.ofBits .f32 0x00000000#32 + ∑ k, e k) (Ideal.ofBits .f32 N) + Ideal.ofBits .f32 0x358637BD#32) = rms N f s := by
  rw [Ideal.ofBits_zero_f32, zero_add, Finset.sum_congr rfl fun k _ => he k]
  rfl

/-! ## The modulation's rows -/

theorem row_x0 (j : S2048.Idx) : val_main_v1 (F := Ideal) p j = slot 0 p (ix2 0 (j 0)) := by
  have hj : (j 0).val < 2048 := (j 0).isLt
  rw [val_main_v1_apply, val_main_v0_apply]
  exact congrArg p (by funext a; match a with | ⟨0, _⟩ => rfl | ⟨1, _⟩ => exact Fin.ext (Nat.mod_eq_of_lt hj))
theorem row_x1 (j : S2048.Idx) : val_main_v3 (F := Ideal) p j = slot 1 p (ix2 0 (j 0)) := by
  have hj : (j 0).val < 2048 := (j 0).isLt
  rw [val_main_v3_apply, val_main_v2_apply]
  exact congrArg p (by funext a; match a with | ⟨0, _⟩ => rfl | ⟨1, _⟩ => exact Fin.ext (Nat.mod_eq_of_lt hj))
theorem row_x2 (j : S2048.Idx) : val_main_v5 (F := Ideal) p j = slot 2 p (ix2 0 (j 0)) := by
  have hj : (j 0).val < 2048 := (j 0).isLt
  rw [val_main_v5_apply, val_main_v4_apply]
  exact congrArg p (by funext a; match a with | ⟨0, _⟩ => rfl | ⟨1, _⟩ => exact Fin.ext (Nat.mod_eq_of_lt hj))
theorem row_x3 (j : S2048.Idx) : val_main_v7 (F := Ideal) p j = slot 3 p (ix2 0 (j 0)) := by
  have hj : (j 0).val < 2048 := (j 0).isLt
  rw [val_main_v7_apply, val_main_v6_apply]
  exact congrArg p (by funext a; match a with | ⟨0, _⟩ => rfl | ⟨1, _⟩ => exact Fin.ext (Nat.mod_eq_of_lt hj))
theorem row_x4 (j : S2048.Idx) : val_main_v9 (F := Ideal) p j = slot 4 p (ix2 0 (j 0)) := by
  have hj : (j 0).val < 2048 := (j 0).isLt
  rw [val_main_v9_apply, val_main_v8_apply]
  exact congrArg p (by funext a; match a with | ⟨0, _⟩ => rfl | ⟨1, _⟩ => exact Fin.ext (Nat.mod_eq_of_lt hj))
theorem row_c0 (j : S2048.Idx) : val_main_v11 (F := Ideal) q j = slot 0 q (ix2 0 (j 0)) := by
  have hj : (j 0).val < 2048 := (j 0).isLt
  rw [val_main_v11_apply, val_main_v10_apply]
  exact congrArg q (by funext a; match a with | ⟨0, _⟩ => rfl | ⟨1, _⟩ => exact Fin.ext (Nat.mod_eq_of_lt hj))
theorem row_c1 (j : S2048.Idx) : val_main_v13 (F := Ideal) q j = slot 1 q (ix2 0 (j 0)) := by
  have hj : (j 0).val < 2048 := (j 0).isLt
  rw [val_main_v13_apply, val_main_v12_apply]
  exact congrArg q (by funext a; match a with | ⟨0, _⟩ => rfl | ⟨1, _⟩ => exact Fin.ext (Nat.mod_eq_of_lt hj))

/-! ## The latent tokens' norm -/

theorem rms_x (r s : Fin 2048) : val_main_v28 (F := Ideal) x (ix2 r s) = rms 0x45000000#32 (fun k => x (ix2 r k)) s := by
  rw [val_main_v28_apply, val_main_v27_apply, val_main_v26_apply, val_main_v25_apply, val_main_v24_apply, val_main_cst_1_apply, val_main_v23_apply,
    val_main_v22_apply, val_main_cst_0_apply, val_main_v21_apply, val_main_v20_apply, val_main_cst_apply]
  exact rms_of _ (fun k => x (ix2 r k)) _ s fun k => by
    rw [val_main_v19_apply]
    exact congrArg (fun i => (x i : EReal) * x i) (show _ = ix2 r k by funext a; fin_cases a <;> rfl)

theorem ref_x : val_main_v40 (F := Ideal) x p g = normX x p g := by
  funext i
  idx_vars i
  refine (val_main_v40_apply (F := Ideal) x p g _).trans (Eq.trans (b := val_main_v39 (F := Ideal) x p g (ix2 i0 i1)) rfl ?_)
  rw [val_main_v39_apply, val_main_v38_apply, val_main_v37_apply, row_x0, val_main_v36_apply, val_main_v35_apply, val_main_v34_apply,
    val_main_v33_apply, row_x1, val_main_v32_apply, val_main_cst_2_apply, val_main_v31_apply, rms_x, val_main_v30_apply, val_main_v29_apply]
  exact congrArg (fun e : EReal => rms 0x45000000#32 (fun k => x (ix2 i0 k)) i1 * e * _ + _) (congrArg g (by funext a; fin_cases a; rfl))

/-! ## The context tokens' norm -/

theorem rms_c (r : Fin 256) (s : Fin 2048) : val_main_v50 (F := Ideal) z (ix2 r s) = rms 0x45000000#32 (fun k => z (ix2 r k)) s := by
  rw [val_main_v50_apply, val_main_v49_apply, val_main_v48_apply, val_main_v47_apply, val_main_v46_apply, val_main_cst_5_apply, val_main_v45_apply,
    val_main_v44_apply, val_main_cst_4_apply, val_main_v43_apply, val_main_v42_apply, val_main_cst_3_apply]
  exact rms_of _ (fun k => z (ix2 r k)) _ s fun k => by
    rw [val_main_v41_apply]
    exact congrArg (fun i => (z i : EReal) * z i) (show _ = ix2 r k by funext a; fin_cases a <;> rfl)

theorem ref_c : val_main_v62 (F := Ideal) z q g = normC z q g := by
  funext i
  idx_vars i
  refine (val_main_v62_apply (F := Ideal) z q g _).trans (Eq.trans (b := val_main_v61 (F := Ideal) z q g (ix2 i0 i1)) rfl ?_)
  rw [val_main_v61_apply, val_main_v60_apply, val_main_v59_apply, row_c0, val_main_v58_apply, val_main_v57_apply, val_main_v56_apply,
    val_main_v55_apply, row_c1, val_main_v54_apply, val_main_cst_6_apply, val_main_v53_apply, rms_c, val_main_v52_apply, val_main_v51_apply]
  exact congrArg (fun e : EReal => rms 0x45000000#32 (fun k => z (ix2 i0 k)) i1 * e * _ + _) (congrArg g (by funext a; fin_cases a; rfl))

/-! ## The latents' norm -/

theorem ref_lat (r : Fin 2304) (s : Fin 256) : val_main_v14 (F := Ideal) h (ix2 r s) = latent h (ix2 r s) := by
  rw [val_main_v14_apply]
  exact congrArg h (by funext a; fin_cases a <;> rfl)

theorem rms_k (r : Fin 2304) (s : Fin 256) : val_main_v72 (F := Ideal) h (ix2 r s) = rms 0x43800000#32 (fun k => latent h (ix2 r k)) s := by
  rw [val_main_v72_apply, ref_lat, val_main_v71_apply, val_main_v70_apply, val_main_v69_apply, val_main_v68_apply, val_main_cst_9_apply,
    val_main_v67_apply, val_main_v66_apply, val_main_cst_8_apply, val_main_v65_apply, val_main_v64_apply, val_main_cst_7_apply]
  exact rms_of _ (fun k => latent h (ix2 r k)) _ s fun k => by
    rw [val_main_v63_apply, show idx_main_v64 (idx_main_v65 (idx_main_v71 (ix2 r s))) k = ix2 r k by funext a; fin_cases a <;> rfl, ref_lat]
    rfl

theorem ref_k : val_main_v76 (F := Ideal) h v = normK h v := by
  funext i
  idx_vars i
  refine (val_main_v76_apply (F := Ideal) h v _).trans (Eq.trans (b := val_main_v75 (F := Ideal) h v (ix2 i0 i1)) rfl ?_)
  rw [val_main_v75_apply, rms_k, val_main_v74_apply, val_main_v73_apply]
  exact congrArg (fun e : EReal => rms 0x43800000#32 (fun k => latent h (ix2 i0 k)) i1 * e) (congrArg v (by funext a; fin_cases a; rfl))

/-! ## The residual and its norm -/

theorem ref_r : val_main_v18 (F := Ideal) x o p = sumX x o p := by
  funext i
  rw [val_main_v18_apply, val_main_v17_apply, val_main_v16_apply, val_main_v15_apply, row_x2]
  rfl

theorem rms_r (r s : Fin 2048) : val_main_v86 (F := Ideal) x o p (ix2 r s) = rms 0x45000000#32 (fun k => sumX x o p (ix2 r k)) s := by
  rw [val_main_v86_apply, ref_r, val_main_v85_apply, val_main_v84_apply, val_main_v83_apply, val_main_v82_apply, val_main_cst_12_apply,
    val_main_v81_apply, val_main_v80_apply, val_main_cst_11_apply, val_main_v79_apply, val_main_v78_apply, val_main_cst_10_apply]
  exact rms_of _ (fun k => sumX x o p (ix2 r k)) _ s fun k => by
    rw [val_main_v77_apply, ref_r]
    exact congrArg (fun i => (sumX x o p i : EReal) * sumX x o p i) (show _ = ix2 r k by funext a; fin_cases a <;> rfl)

theorem ref_s : val_main_v98 (F := Ideal) x o p n = normS x o p n := by
  funext i
  idx_vars i
  refine (val_main_v98_apply (F := Ideal) x o p n _).trans (Eq.trans (b := val_main_v97 (F := Ideal) x o p n (ix2 i0 i1)) rfl ?_)
  rw [val_main_v97_apply, val_main_v96_apply, val_main_v95_apply, row_x3, val_main_v94_apply, val_main_v93_apply, val_main_v92_apply,
    val_main_v91_apply, row_x4, val_main_v90_apply, val_main_cst_13_apply, val_main_v89_apply, rms_r, val_main_v88_apply, val_main_v87_apply]
  exact congrArg (fun e : EReal => rms 0x45000000#32 (fun k => sumX x o p (ix2 i0 k)) i1 * e * _ + _) (congrArg n (by funext a; fin_cases a; rfl))

/-- The kernel's run and the reference's run leave the same five arrays. -/
theorem equation : algebraic_NormsIdeal_NormsReferenceIdeal := by
  intro m g m' g' _ hargs
  refine ⟨fun c => normX (lat m c) (modX m c) (wg1 m c), fun c => normC (ctx m c) (modC m c) (wg1 m c), fun c => normK (prj m c) (wgK m c),
    fun c => sumX (lat m c) (att m c) (modX m c), fun c => normS (lat m c) (att m c) (modX m c) (wg2 m c),
    (θ_run _ _ _).mono (fun r h c => ⟨(h c).1.trans (final_x m g c), (h c).2.1.trans (final_c m g c), (h c).2.2.1.trans (final_k m g c),
      (h c).2.2.2.1.trans (final_r m g c), (h c).2.2.2.2.1.trans (final_s m g c), (h c).2.2.2.2.2⟩) (run m g),
    (θ_run _ _ _).mono (fun r h c => ⟨(h c).1.trans ?_, (h c).2.1.trans ?_, (h c).2.2.1.trans ?_, (h c).2.2.2.1.trans ?_,
      (h c).2.2.2.2.1.trans ?_, (h c).2.2.2.2.2⟩) (Cert.NormsReferenceIdeal.Value.run m' g')⟩
  · obtain ⟨e0, e1, e2, e3, e4, e5, e6, e7, e8⟩ := hargs c
    rw [val_main_v40_eq, e0, e4, e6]
    exact ref_x _ _ _
  · obtain ⟨e0, e1, e2, e3, e4, e5, e6, e7, e8⟩ := hargs c
    rw [val_main_v62_eq, e1, e5, e6]
    exact ref_c _ _ _
  · obtain ⟨e0, e1, e2, e3, e4, e5, e6, e7, e8⟩ := hargs c
    rw [val_main_v76_eq, e3, e8]
    exact ref_k _ _
  · obtain ⟨e0, e1, e2, e3, e4, e5, e6, e7, e8⟩ := hargs c
    rw [val_main_v18_eq, e0, e2, e4]
    exact ref_r _ _ _
  · obtain ⟨e0, e1, e2, e3, e4, e5, e6, e7, e8⟩ := hargs c
    rw [val_main_v98_eq, e0, e2, e4, e7]
    exact ref_s _ _ _ _

end Cert.Norms

end
-- ==== Proof.QNorm.lean ====
/- The query latents' norm: what its call leaves in its result. -/
module

public import proofs.«01_k».proof.Proof.Gen.QNormIdeal.Value
public import proofs.«01_k».proof.Proof.RowScale
public import Idealize.ShloMosaic.Lib.IdealHost
public import Idealize.ShloMosaic.Lib.Pipeline.ValueKit
public import Idealize.ShloMosaic.Lib.Pipeline.ReadBack

@[expose] public section

set_option maxRecDepth 16384

noncomputable section

namespace Cert.QueryNorm

open Cert.QNormIdeal Cert.QNormIdeal.Gen Cert.RowScale Idealize.ShloMosaic Idealize.ShloMosaic.TcCoe Idealize.SL.Sem

theorem idx0 : ∀ t : Fin grid0.N, win0_0.index t = ![t.val, 2] := by decide +kernel
theorem idx1 : ∀ t : Fin grid0.N, win0_1.index t = ![0, 0] := by decide +kernel
theorem idx2 : ∀ t : Fin grid0.N, win0_2.index t = ![t.val, 0] := by decide +kernel

theorem pay_at (x : FVec Ideal S512x512 .f32) (g : FVec Ideal S1x512 .f32) (r s : Fin 512) :
    k0_pay1 (F := Ideal) x g (ix2 r s) = rms 0x44000000#32 (fun k => x (ix2 r k)) s * g (ix2 0 s) := by
  pointwise [k0_pay1, rms]

/-- The query latents' columns of the projections, the latent tokens' rows. -/
def latent (h : FVec Ideal S2304x6144 .f32) : FVec Ideal S2048x512 .f32 := fun i =>
  h (ix2 ⟨(i 0).val, by have h0 : (i 0).val < 2048 := (i 0).isLt; omega⟩ ⟨1024 + (i 1).val, by have h1 : (i 1).val < 512 := (i 1).isLt; omega⟩)

/-- The weight as a single row. -/
def asRow (x : FVec Ideal S512 .f32) : FVec Ideal S1x512 .f32 := fun i => x (ix1 (i 1))

theorem asRow_eq (x : FVec Ideal S512 .f32) : broadcastInDim S1x512 ![1] bcast_S512_S1x512_1 x = asRow x := by
  funext i
  refine congrArg x ?_
  funext a
  fin_cases a
  rfl

variable (m : (ℓ : Loc nD τ sig) → Buf (Elt Ideal) ℓ) (c : Dev nD) (t : Fin cfg0.N)

/-- The arguments. -/
def prj : FVec Ideal S2304x6144 .f32 := m ((c : Thread nD τ).loc main_arg0)
def wgt : FVec Ideal S512 .f32 := m ((c : Thread nD τ).loc main_arg1)

theorem host1 : V m c main_v0 = asRow (wgt m c) := by
  refine Eq.trans ?_ (asRow_eq (wgt m c))
  simp only [V, hostOps0]
  entry_read
  rfl

theorem lt4 : t.val < 4 := t.isLt

def row (r : Fin 512) : Fin 2048 := ⟨512 * t.val + r.val, by have := lt4 t; have := r.isLt; omega⟩

theorem blk0 (r s : Fin 512) : X0_0 m c t (ix2 r s) = latent (prj m c) (ix2 (row t r) s) := by
  unfold X0_0 Pipeline.Window.fill
  rw [dif_pos (moved0_0 t _)]
  refine Eq.trans (b := V m c main_arg0 (ix2 ⟨512 * t.val + r.val, by have := lt4 t; have := r.isLt; omega⟩ ⟨1024 + s.val, by have := s.isLt; omega⟩)) ?_
    (congrFun (V_main_arg0 m c) _)
  blk_ext [iblk, idx0 t]
theorem blk1 (s : Fin 512) : iblk m c 1 t (ix2 0 s) = asRow (wgt m c) (ix2 0 s) := by
  have e : iblk m c 1 t (ix2 0 s) = V m c main_v0 (ix2 0 s) := by
    blk_ext [iblk, idx1 t]
  exact e.trans (congrFun (host1 m c) _)

theorem body : outsAt0 m c t = k0_pay1 (F := Ideal) (X0_0 m c t) (iblk m c 1 t) := by
  unfold outsAt0
  frame_out

/-- The query latents, every row normed. -/
def result : FVec Ideal S2048x512 .bf16 := normed (a := 2048) (n := 512) .bf16 0x44000000#32 (latent (prj m c)) (asRow (wgt m c))

theorem place (r s : Fin 512) : ((cfg0.win 2).blk t).view.emb (ix2 r s) = ix2 (row t r) s := by
  funext a
  match a with
  | ⟨0, _⟩ => exact Fin.ext (by show win0_2.index t (0 : Fin 2) * 512 + 1 * r.val = 512 * t.val + r.val; rw [idx2]; show t.val * 512 + 1 * r.val = _; omega)
  | ⟨1, _⟩ => exact Fin.ext (by show win0_2.index t (1 : Fin 2) * 512 + 1 * s.val = s.val; rw [idx2]; show 0 * 512 + 1 * s.val = _; omega)

/-- The call leaves the query latents normed. -/
theorem final : (dats m 0 c).arrAt 2 cfg0.N = result m c := by
  refine (dats m 0 c).arrAt_eq_of_covers 2 _ (by decide +kernel) fun t _ y => ?_
  idx_vars y
  refine Eq.trans ?_ (congrArg (result m c) (place t y0 y1).symm)
  show (dats m 0 c).after 2 t (ix2 y0 y1) = _
  rw [after0_2, body]
  refine (pay_at _ _ y0 y1).trans ?_
  simp only [blk0, blk1]
  rfl

end Cert.QueryNorm

end
-- ==== Proof.QNormEquation.lean ====
/- The query latents' norm and its reference are the same array. -/
module

public import proofs.«01_k».proof.Defs
public import proofs.«01_k».proof.Proof.QNorm
public import proofs.«01_k».proof.Proof.Gen.QNormReferenceIdeal.Run
public import proofs.«01_k».proof.Proof.Gen.QNormReferenceIdeal.Read

@[expose] public section

set_option maxRecDepth 16384

noncomputable section

namespace Cert.QueryNorm

open Cert.QNormReferenceIdeal Cert.QNormReferenceIdeal.Read Cert.RowScale Idealize.ShloMosaic Idealize.SL.Sem

variable (h : FVec Ideal S2304x6144 .f32) (g : FVec Ideal S512 .f32)

theorem ref_lat (r : Fin 2048) (s : Fin 512) : val_main_v0 (F := Ideal) h (ix2 r s) = latent h (ix2 r s) := by
  rw [val_main_v0_apply]
  exact congrArg h (by funext a; fin_cases a <;> rfl)

/-- The reference's sum of a row's squares. -/
theorem ref_sum (r : Fin 2048) : val_main_v2 (F := Ideal) h (ix1 r) = ∑ k : Fin 512, latent h (ix2 r k) * latent h (ix2 r k) := by
  rw [val_main_v2_apply, val_main_cst_apply, Ideal.ofBits_def, Ideal.ofBits_zero_f32, zero_add]
  refine Finset.sum_congr rfl fun k _ => ?_
  rw [val_main_v1_apply, show idx_main_v2 (ix1 r) k = ix2 r k by funext a; fin_cases a <;> rfl, ref_lat]
  rfl

theorem ref_rms (r : Fin 2048) (s : Fin 512) : val_main_v10 (F := Ideal) h (ix2 r s) = rms 0x44000000#32 (fun k => latent h (ix2 r k)) s := by
  rw [val_main_v10_apply, ref_lat, val_main_v9_apply, val_main_v8_apply, val_main_v7_apply, val_main_v6_apply, val_main_cst_1_apply,
    val_main_v5_apply, val_main_v4_apply, val_main_cst_0_apply, val_main_v3_apply,
    show idx_main_v3 (idx_main_v9 (ix2 r s)) = ix1 r by funext a; fin_cases a; rfl, ref_sum]
  rfl

/-- The reference norms every row of the query latents. -/
theorem reference : val_main_v14 (F := Ideal) h g = normed (a := 2048) (n := 512) .bf16 0x44000000#32 (latent h) (asRow g) := by
  funext i
  idx_vars i
  refine (val_main_v14_apply (F := Ideal) h g _).trans (Eq.trans (b := val_main_v13 (F := Ideal) h g (ix2 i0 i1)) rfl ?_)
  rw [val_main_v13_apply, ref_rms, val_main_v12_apply, val_main_v11_apply]
  exact congrArg (fun e : EReal => rms 0x44000000#32 (fun k => latent h (ix2 i0 k)) i1 * e) (congrArg g (by funext a; fin_cases a; rfl))

/-- The kernel's run and the reference's run leave the same array. -/
theorem equation : algebraic_QNormIdeal_QNormReferenceIdeal := by
  intro m g m' g' _ hargs
  refine ⟨fun c => result m c,
    (θ_run _ _ _).mono (fun r h c => ⟨(h c).1.trans (final m c), (h c).2⟩) (Cert.QNormIdeal.Value.run_blocks m g),
    (θ_run _ _ _).mono (fun r h c => ⟨(h c).1.trans ?_, (h c).2⟩) (Cert.QNormReferenceIdeal.Value.run m' g')⟩
  obtain ⟨e0, e1⟩ := hargs c
  rw [val_main_v14_eq, e0, e1]
  exact reference _ _

end Cert.QueryNorm

end
-- ==== Proof.Combine.lean ====
/- The two scans' sum with the skip and its gelu: what their call leaves in its results. -/
module

public import proofs.«01_k».proof.Proof.Gen.CombineIdeal.Value
public import Idealize.ShloMosaic.Lib.IdealHost
public import Idealize.ShloMosaic.Lib.Pipeline.ValueKit
public import Idealize.ShloMosaic.Lib.Pipeline.ReadBack

@[expose] public section

set_option maxRecDepth 16384

noncomputable section

namespace Cert.Combining

open Cert.CombineIdeal Cert.CombineIdeal.Gen Idealize.ShloMosaic Idealize.ShloMosaic.TcCoe Idealize.SL.Sem

theorem idx0 : ∀ t : Fin grid0.N, win0_0.index t = ![t.val, 0] := by decide +kernel
theorem idx1 : ∀ t : Fin grid0.N, win0_1.index t = ![t.val, 0] := by decide +kernel
theorem idx2 : ∀ t : Fin grid0.N, win0_2.index t = ![t.val, 0] := by decide +kernel
theorem idx3 : ∀ t : Fin grid0.N, win0_3.index t = ![0, 0] := by decide +kernel
theorem idx4 : ∀ t : Fin grid0.N, win0_4.index t = ![t.val, 0] := by decide +kernel

/-- `gelu`'s tanh form, with the literals as the call has them. -/
def geluOf (y : EReal) : EReal := y * (Ideal.ofBits .f32 0x3F000000#32 * (Ideal.ofBits .f32 0x3F800000#32
  + Ideal.tanh (Ideal.ofBits .f32 0x3F4C422A#32 * (y + Ideal.ofBits .f32 0x3D372713#32 * (y * (y * y))))))

theorem sum_at (x y z : FVec Ideal S512x1024 .f32) (d : FVec Ideal S1x1024 .f32) (r : Fin 512) (s : Fin 1024) :
    k0_pay1 (F := Ideal) x y z d (ix2 r s) = d (ix2 0 s) * x (ix2 r s) + y (ix2 r s) + z (ix2 r s) := by
  pointwise [k0_pay1]

theorem gelu_at (x y z : FVec Ideal S512x1024 .f32) (d : FVec Ideal S1x1024 .f32) (r : Fin 512) (s : Fin 1024) :
    k0_pay2 (F := Ideal) x y z d (ix2 r s) = geluOf (k0_pay1 (F := Ideal) x y z d (ix2 r s)) := by
  unfold k0_pay2
  generalize k0_pay1 (F := Ideal) x y z d = w
  pointwise [geluOf]

variable (m : (ℓ : Loc nD τ sig) → Buf (Elt Ideal) ℓ) (c : Dev nD) (t : Fin cfg0.N)

/-- The arguments. -/
def prj : FVec Ideal S2304x6144 .f32 := m ((c : Thread nD τ).loc main_arg0)
def fwd : FVec Ideal S2048x1024 .f32 := m ((c : Thread nD τ).loc main_arg1)
def rev : FVec Ideal S2048x1024 .f32 := m ((c : Thread nD τ).loc main_arg2)
def skip : FVec Ideal S64x16 .f32 := m ((c : Thread nD τ).loc main_arg3)

/-- The skip's weights as a single row, head by head. -/
def asRow (d : FVec Ideal S64x16 .f32) : FVec Ideal S1x1024 .f32 := shapeCast S1x1024 d shapeCasts_S64x16_S1x1024

theorem asRow_at (d : FVec Ideal S64x16 .f32) (s : Fin 1024) :
    asRow d (ix2 0 s) = d (ix2 ⟨s.val / 16, by have := s.isLt; omega⟩ ⟨s.val % 16, Nat.mod_lt _ (by decide)⟩) := by
  pointwise [asRow]

theorem host3 : V m c main_v0 = asRow (skip m c) := by
  simp only [V, hostOps0]
  entry_read
  rfl

theorem lt4 : t.val < 4 := t.isLt

def row (r : Fin 512) : Fin 2048 := ⟨512 * t.val + r.val, by have := lt4 t; have := r.isLt; omega⟩

/-- The branch's input among the projections. -/
def input (h : FVec Ideal S2304x6144 .f32) : FVec Ideal S2048x1024 .f32 := fun i =>
  h (ix2 ⟨(i 0).val, by have h0 : (i 0).val < 2048 := (i 0).isLt; omega⟩ ⟨(i 1).val, by have h1 : (i 1).val < 1024 := (i 1).isLt; omega⟩)

theorem blk0 (r : Fin 512) (s : Fin 1024) : X0_0 m c t (ix2 r s) = input (prj m c) (ix2 (row t r) s) := by
  unfold X0_0 Pipeline.Window.fill
  rw [dif_pos (moved0_0 t _)]
  refine Eq.trans (b := V m c main_arg0 (ix2 ⟨512 * t.val + r.val, by have := lt4 t; have := r.isLt; omega⟩ ⟨s.val, by have := s.isLt; omega⟩)) ?_
    (congrFun (V_main_arg0 m c) _)
  blk_ext [iblk, idx0 t]
theorem blk1 (r : Fin 512) (s : Fin 1024) : iblk m c 1 t (ix2 r s) = fwd m c (ix2 (row t r) s) := by
  have e : iblk m c 1 t (ix2 r s) = V m c main_arg1 (ix2 (row t r) s) := by
    blk_ext [iblk, idx1 t, row]
  exact e.trans (congrFun (V_main_arg1 m c) _)
theorem blk2 (r : Fin 512) (s : Fin 1024) : iblk m c 2 t (ix2 r s) = rev m c (ix2 (row t r) s) := by
  have e : iblk m c 2 t (ix2 r s) = V m c main_arg2 (ix2 (row t r) s) := by
    blk_ext [iblk, idx2 t, row]
  exact e.trans (congrFun (V_main_arg2 m c) _)
theorem blk3 (s : Fin 1024) : iblk m c 3 t (ix2 0 s) = asRow (skip m c) (ix2 0 s) := by
  have e : iblk m c 3 t (ix2 0 s) = V m c main_v0 (ix2 0 s) := by
    blk_ext [iblk, idx3 t]
  exact e.trans (congrFun (host3 m c) _)

theorem body4 : (outsAt0 m c t).1 = k0_pay1 (F := Ideal) (X0_0 m c t) (iblk m c 1 t) (iblk m c 2 t) (iblk m c 3 t) := by
  unfold outsAt0
  frame_out
theorem body5 : (outsAt0 m c t).2 = k0_pay2 (F := Ideal) (X0_0 m c t) (iblk m c 1 t) (iblk m c 2 t) (iblk m c 3 t) := by
  unfold outsAt0
  frame_out

/-- The sum: `d u + y + z`. -/
def sumOf (h : FVec Ideal S2304x6144 .f32) (y z : FVec Ideal S2048x1024 .f32) (d : FVec Ideal S64x16 .f32) : FVec Ideal S2048x1024 .f32 :=
  fun i => asRow d (ix2 0 (i 1)) * input h i + y i + z i
/-- Its gelu. -/
def actOf (h : FVec Ideal S2304x6144 .f32) (y z : FVec Ideal S2048x1024 .f32) (d : FVec Ideal S64x16 .f32) : FVec Ideal S2048x1024 .bf16 :=
  fun i => geluOf (sumOf h y z d i)

theorem place4 (r : Fin 512) (s : Fin 1024) : ((cfg0.win 4).blk t).view.emb (ix2 r s) = ix2 (row t r) s := by
  funext a
  match a with
  | ⟨0, _⟩ => exact Fin.ext (by show win0_4.index t (0 : Fin 2) * 512 + 1 * r.val = 512 * t.val + r.val; rw [idx4]; show t.val * 512 + 1 * r.val = _; omega)
  | ⟨1, _⟩ => exact Fin.ext (by show win0_4.index t (1 : Fin 2) * 1024 + 1 * s.val = s.val; rw [idx4]; show 0 * 1024 + 1 * s.val = _; omega)
theorem place5 (r : Fin 512) (s : Fin 1024) : ((cfg0.win 5).blk t).view.emb (ix2 r s) = ix2 (row t r) s :=
  place4 t r s

theorem block (r : Fin 512) (s : Fin 1024) : k0_pay1 (F := Ideal) (X0_0 m c t) (iblk m c 1 t) (iblk m c 2 t) (iblk m c 3 t) (ix2 r s)
    = sumOf (prj m c) (fwd m c) (rev m c) (skip m c) (ix2 (row t r) s) := by
  refine (sum_at _ _ _ _ r s).trans ?_
  rw [blk0, blk1, blk2, blk3]
  rfl

/-- The call leaves the sum. -/
theorem final4 : (dats m 0 c).arrAt 4 cfg0.N = sumOf (prj m c) (fwd m c) (rev m c) (skip m c) := by
  refine (dats m 0 c).arrAt_eq_of_covers 4 _ (by decide +kernel) fun t _ y => ?_
  idx_vars y
  refine Eq.trans ?_ (congrArg (sumOf (prj m c) (fwd m c) (rev m c) (skip m c)) (place4 t y0 y1).symm)
  show (dats m 0 c).after 4 t (ix2 y0 y1) = _
  rw [after0_4, body4]
  exact block m c t y0 y1

/-- The call leaves the sum's gelu. -/
theorem final5 : (dats m 0 c).arrAt 5 cfg0.N = actOf (prj m c) (fwd m c) (rev m c) (skip m c) := by
  refine (dats m 0 c).arrAt_eq_of_covers 5 _ (by decide +kernel) fun t _ y => ?_
  idx_vars y
  refine Eq.trans ?_ (congrArg (actOf (prj m c) (fwd m c) (rev m c) (skip m c)) (place5 t y0 y1).symm)
  show (dats m 0 c).after 5 t (ix2 y0 y1) = _
  rw [after0_5, body5]
  exact (gelu_at _ _ _ _ y0 y1).trans (congrArg geluOf (block m c t y0 y1))

end Cert.Combining

end
-- ==== Proof.CombineEquation.lean ====
/- The two scans' sum with the skip, its gelu, and their reference are the same two arrays. -/
module

public import proofs.«01_k».proof.Defs
public import proofs.«01_k».proof.Proof.Combine
public import proofs.«01_k».proof.Proof.Gen.CombineReferenceIdeal.Run
public import proofs.«01_k».proof.Proof.Gen.CombineReferenceIdeal.Read

@[expose] public section

set_option maxRecDepth 16384

noncomputable section

namespace Cert.Combining

open Cert.CombineReferenceIdeal Cert.CombineReferenceIdeal.Read Idealize.ShloMosaic Idealize.SL.Sem

variable (h : FVec Ideal S2304x6144 .f32) (y z : FVec Ideal S2048x1024 .f32) (d : FVec Ideal S64x16 .f32)

theorem ref_input (i : S2048x1024.Idx) : val_main_v1 (F := Ideal) h i = input h i := by
  rw [val_main_v1_apply]
  exact congrArg h (by funext a; fin_cases a <;> rfl)

theorem ref_skip (i : S2048x1024.Idx) : val_main_v3 (F := Ideal) d i = asRow d (ix2 0 (i 1)) := by
  have h1 : (i 1).val < 1024 := (i 1).isLt
  rw [val_main_v3_apply, val_main_v2_apply, val_main_v0_apply]
  refine Eq.trans (congrArg d ?_) (asRow_at d (i 1)).symm
  funext a
  match a with
  | ⟨0, _⟩ => exact Fin.ext (by show ((i 1).val) / 16 = (i 1).val / 16; omega)
  | ⟨1, _⟩ => exact Fin.ext (by show (i 1).val % 16 = (i 1).val % 16; rfl)

theorem ref_sum : val_main_v6 (F := Ideal) h y z d = sumOf h y z d := by
  funext i
  rw [val_main_v6_apply, val_main_v5_apply, val_main_v4_apply, ref_skip, ref_input]
  rfl

/-- The reference's cube is taken from the left. -/
theorem ref_act : val_main_v20 (F := Ideal) h y z d = actOf h y z d := by
  funext i
  refine (val_main_v20_apply (F := Ideal) h y z d i).trans (Eq.trans (b := val_main_v19 (F := Ideal) h y z d i) rfl ?_)
  rw [val_main_v19_apply, val_main_v18_apply, val_main_v17_apply, val_main_cst_2_apply, val_main_v16_apply, val_main_v15_apply, val_main_cst_1_apply,
    val_main_v14_apply, val_main_v13_apply, val_main_v12_apply, val_main_cst_0_apply, val_main_v11_apply, val_main_v10_apply, val_main_v9_apply,
    val_main_cst_apply, val_main_v8_apply, val_main_v7_apply, ref_sum]
  show _ = geluOf (sumOf h y z d i)
  generalize sumOf h y z d i = e
  unfold geluOf
  rw [mul_comm e (e * e)]
  rfl

/-- The kernel's run and the reference's run leave the same two arrays. -/
theorem equation : algebraic_CombineIdeal_CombineReferenceIdeal := by
  intro m g m' g' _ hargs
  refine ⟨fun c => sumOf (prj m c) (fwd m c) (rev m c) (skip m c), fun c => actOf (prj m c) (fwd m c) (rev m c) (skip m c),
    (θ_run _ _ _).mono (fun r h c => ⟨(h c).1.trans (final4 m c), (h c).2.1.trans (final5 m c), (h c).2.2⟩) (Cert.CombineIdeal.Value.run_blocks m g),
    (θ_run _ _ _).mono (fun r h c => ⟨(h c).1.trans ?_, (h c).2.1.trans ?_, (h c).2.2⟩) (Cert.CombineReferenceIdeal.Value.run m' g')⟩
  · obtain ⟨e0, e1, e2, e3⟩ := hargs c
    rw [val_main_v6_eq, e0, e1, e2, e3]
    exact ref_sum _ _ _ _
  · obtain ⟨e0, e1, e2, e3⟩ := hargs c
    rw [val_main_v20_eq, e0, e1, e2, e3]
    exact ref_act _ _ _ _

end Cert.Combining

end
-- ==== Proof.NormGrad.lean ====
/- The gradient of the root-mean-square norm of rows over the extended reals, entry by entry. -/
module

public import proofs.«01_k».proof.Proof.RowScale
public import proofs.«01_k».proof.Proof.Accumulate

@[expose] public section

noncomputable section

namespace Cert.NormGrad

open Cert.RowScale Cert.Accumulate Idealize.ShloMosaic

variable {a n : ℕ}

/-- The mean of a row's squares, raised by the floor. -/
def level (N : BitVec 32) (f : Fin n → EReal) : EReal :=
  Ideal.div (∑ k, f k * f k) (Ideal.ofBits .f32 N) + Ideal.ofBits .f32 0x358637BD#32

/-- What every entry of a row gets through the mean, `u` being the normed row's cotangent. -/
def pull (N : BitVec 32) (f u : Fin n → EReal) : EReal :=
  Ideal.div ((∑ k, f k * u k) * (Ideal.ofBits .f32 0xBF000000#32 * Ideal.div (Ideal.rsqrt (level N f)) (level N f))) (Ideal.ofBits .f32 N)

/-- The gradient of a row: directly, and twice through the square under the mean. -/
def rmsGrad (N : BitVec 32) (f u : Fin n → EReal) (s : Fin n) : EReal :=
  u s * Ideal.rsqrt (level N f) + f s * pull N f u + pull N f u * f s

/-- The gradient of a normed and weighted array by its rows, `d` being the cotangent. -/
def byRows (ψ : FTy) (N : BitVec 32) (x d : FVec Ideal ⟨2, ![a, n]⟩ .f32) (g : FVec Ideal ⟨2, ![1, n]⟩ .f32) : FVec Ideal ⟨2, ![a, n]⟩ ψ :=
  fun i => rmsGrad N (fun k => x (ix2 (i 0) k)) (fun k => d (ix2 (i 0) k) * g (ix2 0 k)) (i 1)

/-- The gradient of a normed and weighted array by the weights: over all rows, the normed entries times the cotangent. -/
def byWeight (N : BitVec 32) (x d : FVec Ideal ⟨2, ![a, n]⟩ .f32) : FVec Ideal ⟨2, ![1, n]⟩ .f32 :=
  fun i => ∑ r : Fin a, rms N (fun k => x (ix2 r k)) (i 1) * d (ix2 r (i 1))

/-- A cotangent carried through a scaling by one more than `p`, column by column. -/
def scaled (d : FVec Ideal ⟨2, ![a, n]⟩ .f32) (p : FVec Ideal ⟨2, ![1, n]⟩ .f32) : FVec Ideal ⟨2, ![a, n]⟩ .f32 :=
  fun i => d i * (Ideal.ofBits .f32 0x3F800000#32 + p (ix2 0 (i 1)))

/-- The gradient of a modulated array by its scale: over all rows, the normed and weighted entries times the cotangent. -/
def byScale (N : BitVec 32) (x d : FVec Ideal ⟨2, ![a, n]⟩ .f32) (g : FVec Ideal ⟨2, ![1, n]⟩ .f32) : FVec Ideal ⟨2, ![1, n]⟩ .f32 :=
  fun i => ∑ r : Fin a, rms N (fun k => x (ix2 r k)) (i 1) * g (ix2 0 (i 1)) * d (ix2 r (i 1))

/-- The gradient of a modulated array by its shift: the cotangent over all rows. -/
def byShift (d : FVec Ideal ⟨2, ![a, n]⟩ .f32) : FVec Ideal ⟨2, ![1, n]⟩ .f32 := fun i => ∑ r : Fin a, d (ix2 r (i 1))

/-- A single run of `J` points, each adding the sum over its `w` rows, ends with the sum over all rows. -/
theorem total {J w : ℕ} [NeZero J] {ι : Type} (acc : (k : ℕ) → k < J → ι → EReal) (f : ι → Fin (J * w) → EReal)
    (start : ∀ t : Fin J, t.val % J = 0 → ∀ i, acc t.val t.isLt i = ∑ k : Fin w, f i (mid J w t.val k))
    (step : ∀ t : Fin J, ¬t.val % J = 0 → ∀ i, acc t.val t.isLt i
      = acc (t.val - 1) (Nat.lt_of_le_of_lt (Nat.sub_le _ _) t.isLt) i + ∑ k : Fin w, f i (mid J w t.val k))
    (t : Fin J) (ht : t.val % J = J - 1) (i : ι) : acc t.val t.isLt i = ∑ k, f i k :=
  whole acc (fun _ => f) (fun _ _ _ => rfl) start step t ht i

end Cert.NormGrad

end
-- ==== Proof.NormX.lean ====
/- The gradients of the latent tokens' modulated norm: what its call leaves in its results. -/
module

public import proofs.«01_k».proof.Proof.Gen.NormXIdeal.Value
public import proofs.«01_k».proof.Proof.NormGrad
public import Idealize.ShloMosaic.Lib.IdealHost
public import Idealize.ShloMosaic.Lib.Pipeline.ValueKit
public import Idealize.ShloMosaic.Lib.Pipeline.ReadBack

@[expose] public section

set_option maxRecDepth 16384

noncomputable section

namespace Cert.LatentNormX

open Cert.NormXIdeal Cert.NormXIdeal.Gen Cert.RowScale Cert.NormGrad Cert.Accumulate Idealize.ShloMosaic Idealize.ShloMosaic.TcCoe Idealize.SL.Sem

theorem idx0 : ∀ t : Fin grid0.N, win0_0.index t = ![t.val, 0] := by decide +kernel
theorem idx1 : ∀ t : Fin grid0.N, win0_1.index t = ![t.val, 0] := by decide +kernel
theorem idx2 : ∀ t : Fin grid0.N, win0_2.index t = ![t.val, 0] := by decide +kernel
theorem idx3 : ∀ t : Fin grid0.N, win0_3.index t = ![0, 0] := by decide +kernel
theorem idx4 : ∀ t : Fin grid0.N, win0_4.index t = ![0, 0] := by decide +kernel
theorem idx6 : ∀ t : Fin grid0.N, win0_6.index t = ![t.val, 0] := by decide +kernel
theorem idx7 : ∀ t : Fin grid0.N, win0_7.index t = ![0, 0] := by decide +kernel

/-! ## What the body computes -/

theorem level_at (x : FVec Ideal S256x2048 .f32) (r : Fin 256) :
    k0_pay9 (F := Ideal) x (ix2 r 0) = level 0x45000000#32 fun k => x (ix2 r k) := by
  pointwise [k0_pay9, level]

theorem root_at (x : FVec Ideal S256x2048 .f32) (r : Fin 256) :
    k0_pay10 (F := Ideal) x (ix2 r 0) = Ideal.rsqrt (level 0x45000000#32 fun k => x (ix2 r k)) := by
  rw [← level_at]
  unfold k0_pay10
  generalize k0_pay9 (F := Ideal) x = e
  pointwise

theorem slope_at (x : FVec Ideal S256x2048 .f32) (r : Fin 256) : k0_pay11 (F := Ideal) x (ix2 r 0)
    = Ideal.ofBits .f32 0xBF000000#32 * Ideal.div (Ideal.rsqrt (level 0x45000000#32 fun k => x (ix2 r k))) (level 0x45000000#32 fun k => x (ix2 r k)) := by
  rw [← root_at, ← level_at]
  unfold k0_pay11
  generalize k0_pay10 (F := Ideal) x = q
  generalize k0_pay9 (F := Ideal) x = e
  pointwise

theorem rms_at (x : FVec Ideal S256x2048 .f32) (r : Fin 256) (s : Fin 2048) :
    k0_pay12 (F := Ideal) x (ix2 r s) = rms 0x45000000#32 (fun k => x (ix2 r k)) s := by
  refine Eq.trans (b := x (ix2 r s) * k0_pay10 (F := Ideal) x (ix2 r 0)) ?_ (by rw [root_at]; rfl)
  unfold k0_pay12
  generalize k0_pay10 (F := Ideal) x = q
  pointwise

theorem scaled_at (d : FVec Ideal S256x2048 .f32) (p : FVec Ideal S1x2048 .f32) (r : Fin 256) (s : Fin 2048) :
    k0_pay16 (F := Ideal) d p (ix2 r s) = scaled (a := 256) (n := 2048) d p (ix2 r s) := by
  pointwise [k0_pay16, k0_pay13, scaled]

theorem cot_at (d : FVec Ideal S256x2048 .f32) (g p : FVec Ideal S1x2048 .f32) (r : Fin 256) (s : Fin 2048) :
    k0_pay18 (F := Ideal) d g p (ix2 r s) = scaled (a := 256) (n := 2048) d p (ix2 r s) * g (ix2 0 s) := by
  rw [← scaled_at]
  unfold k0_pay18
  generalize k0_pay16 (F := Ideal) d p = u
  pointwise [k0_pay8]

theorem dot_at (x d : FVec Ideal S256x2048 .f32) (g p : FVec Ideal S1x2048 .f32) (r : Fin 256) :
    k0_pay19 (F := Ideal) x d g p (ix2 r 0) = ∑ k : Fin 2048, x (ix2 r k) * (scaled (a := 256) (n := 2048) d p (ix2 r k) * g (ix2 0 k)) := by
  simp only [← cot_at]
  unfold k0_pay19
  generalize k0_pay18 (F := Ideal) d g p = u
  pointwise

theorem rows_at (x d e : FVec Ideal S256x2048 .f32) (g p : FVec Ideal S1x2048 .f32) (r : Fin 256) (s : Fin 2048) :
    k0_pay1 (F := Ideal) x e (k0_pay10 x) (k0_pay11 x) (k0_pay18 d g p) (k0_pay19 x d g p) (ix2 r s)
      = rmsGrad 0x45000000#32 (fun k => x (ix2 r k)) (fun k => scaled (a := 256) (n := 2048) d p (ix2 r k) * g (ix2 0 k)) s + e (ix2 r s) := by
  unfold rmsGrad pull
  rw [← dot_at, ← slope_at, ← root_at]
  beta_reduce
  rw [← cot_at]
  generalize k0_pay10 (F := Ideal) x = q
  generalize k0_pay11 (F := Ideal) x = w
  generalize k0_pay18 (F := Ideal) d g p = u
  generalize k0_pay19 (F := Ideal) x d g p = z
  pointwise [k0_pay1]
  simp only [Fin.sum_univ_one]

theorem weight_at (x d : FVec Ideal S256x2048 .f32) (p : FVec Ideal S1x2048 .f32) (s : Fin 2048) : k0_pay17 (F := Ideal) x d p (ix2 0 s)
    = ∑ r : Fin 256, rms 0x45000000#32 (fun k => x (ix2 r k)) s * scaled (a := 256) (n := 2048) d p (ix2 r s) := by
  simp only [← rms_at, ← scaled_at]
  unfold k0_pay17
  generalize k0_pay12 (F := Ideal) x = q
  generalize k0_pay16 (F := Ideal) d p = u
  pointwise

theorem scale_at (x d : FVec Ideal S256x2048 .f32) (g : FVec Ideal S1x2048 .f32) (s : Fin 2048) : k0_pay15 (F := Ideal) x d g (ix2 0 s)
    = ∑ r : Fin 256, rms 0x45000000#32 (fun k => x (ix2 r k)) s * g (ix2 0 s) * d (ix2 r s) := by
  simp only [← rms_at]
  unfold k0_pay15
  generalize k0_pay12 (F := Ideal) x = q
  pointwise [k0_pay8, k0_pay13]

theorem shift_at (d : FVec Ideal S256x2048 .f32) (s : Fin 2048) : k0_pay14 (F := Ideal) d (ix2 0 s) = ∑ r : Fin 256, d (ix2 r s) := by
  pointwise [k0_pay14]

theorem add5_at (x y : FVec Ideal S1x2048 .f32) (s : Fin 2048) : k0_pay5 (F := Ideal) x y (ix2 0 s) = y (ix2 0 s) + x (ix2 0 s) := by
  pointwise [k0_pay5]
theorem add6_at (x y : FVec Ideal S1x2048 .f32) (s : Fin 2048) : k0_pay6 (F := Ideal) x y (ix2 0 s) = y (ix2 0 s) + x (ix2 0 s) := by
  pointwise [k0_pay6]
theorem add7_at (x y : FVec Ideal S1x2048 .f32) (s : Fin 2048) : k0_pay7 (F := Ideal) x y (ix2 0 s) = y (ix2 0 s) + x (ix2 0 s) := by
  pointwise [k0_pay7]
theorem zero2_at (s : Fin 2048) : k0_pay2 (F := Ideal) (ix2 0 s) = 0 := by
  pointwise [k0_pay2]
theorem zero3_at (s : Fin 2048) : k0_pay3 (F := Ideal) (ix2 0 s) = 0 := by
  pointwise [k0_pay3]
theorem zero4_at (s : Fin 2048) : k0_pay4 (F := Ideal) (ix2 0 s) = 0 := by
  pointwise [k0_pay4]

section Body
variable {F : FTy → Type} [FloatOps F] (m : (ℓ : Loc nD τ sig) → Buf (Elt F) ℓ) (c : Dev nD) (t : Fin cfg0.N)

theorem body6 : (outsAt0 m c t.val t.isLt).1 = k0_pay1 (iblk m c 0 t) (iblk m c 2 t) (k0_pay10 (iblk m c 0 t)) (k0_pay11 (iblk m c 0 t))
    (k0_pay18 (iblk m c 1 t) (iblk m c 3 t) (iblk m c 4 t)) (k0_pay19 (iblk m c 0 t) (iblk m c 1 t) (iblk m c 3 t) (iblk m c 4 t)) := by
  by_cases h0 : t.val % 8 = 0
  · rw [outsAt0_A m c t h0]
    frame_out
  · rw [outsAt0_B m c t h0]
    generalize outsAt0 m c (t.val - 1) (Nat.lt_of_le_of_lt (Nat.sub_le _ _) t.isLt) = acc
    frame_out

theorem body7_A (h0 : t.val % 8 = 0) : (outsAt0 m c t.val t.isLt).2.1 = k0_pay5 (k0_pay17 (iblk m c 0 t) (iblk m c 1 t) (iblk m c 4 t)) k0_pay2 := by
  rw [outsAt0_A m c t h0]
  frame_out
theorem body8_A (h0 : t.val % 8 = 0) : (outsAt0 m c t.val t.isLt).2.2.1 = k0_pay6 (k0_pay15 (iblk m c 0 t) (iblk m c 1 t) (iblk m c 3 t)) k0_pay3 := by
  rw [outsAt0_A m c t h0]
  frame_out
theorem body9_A (h0 : t.val % 8 = 0) : (outsAt0 m c t.val t.isLt).2.2.2 = k0_pay7 (k0_pay14 (iblk m c 1 t)) k0_pay4 := by
  rw [outsAt0_A m c t h0]
  frame_out

theorem body7_B (h0 : ¬t.val % 8 = 0) : (outsAt0 m c t.val t.isLt).2.1 = k0_pay5 (k0_pay17 (iblk m c 0 t) (iblk m c 1 t) (iblk m c 4 t))
    (outsAt0 m c (t.val - 1) (Nat.lt_of_le_of_lt (Nat.sub_le _ _) t.isLt)).2.1 := by
  rw [outsAt0_B m c t h0]
  generalize outsAt0 m c (t.val - 1) (Nat.lt_of_le_of_lt (Nat.sub_le _ _) t.isLt) = acc
  frame_out
theorem body8_B (h0 : ¬t.val % 8 = 0) : (outsAt0 m c t.val t.isLt).2.2.1 = k0_pay6 (k0_pay15 (iblk m c 0 t) (iblk m c 1 t) (iblk m c 3 t))
    (outsAt0 m c (t.val - 1) (Nat.lt_of_le_of_lt (Nat.sub_le _ _) t.isLt)).2.2.1 := by
  rw [outsAt0_B m c t h0]
  generalize outsAt0 m c (t.val - 1) (Nat.lt_of_le_of_lt (Nat.sub_le _ _) t.isLt) = acc
  frame_out
theorem body9_B (h0 : ¬t.val % 8 = 0) : (outsAt0 m c t.val t.isLt).2.2.2 = k0_pay7 (k0_pay14 (iblk m c 1 t))
    (outsAt0 m c (t.val - 1) (Nat.lt_of_le_of_lt (Nat.sub_le _ _) t.isLt)).2.2.2 := by
  rw [outsAt0_B m c t h0]
  generalize outsAt0 m c (t.val - 1) (Nat.lt_of_le_of_lt (Nat.sub_le _ _) t.isLt) = acc
  frame_out

end Body

/-! ## What the windows hold -/

/-- The weight as a single row, and the scale's row of the modulation. -/
def asRow (x : FVec Ideal S2048 .f32) : FVec Ideal S1x2048 .f32 := fun i => x (ix1 (i 1))
def scale (x : FVec Ideal S6x2048 .f32) : FVec Ideal S1x2048 .f32 := fun i => x (ix2 1 (i 1))

theorem asRow_eq (x : FVec Ideal S2048 .f32) : broadcastInDim S1x2048 ![1] bcast_S2048_S1x2048_1 x = asRow x := by
  funext i
  refine congrArg x ?_
  funext a
  fin_cases a
  rfl

theorem scale_eq (x : FVec Ideal S6x2048 .f32) : extractStridedSlice S1x2048 ![1, 0] x slices_S6x2048_S1x2048_1_0 = scale x := by
  funext i
  idx_vars i
  obtain rfl : i0 = 0 := Subsingleton.elim _ _
  pointwise [scale]

variable (m : (ℓ : Loc nD τ sig) → Buf (Elt Ideal) ℓ) (c : Dev nD) (t : Fin cfg0.N)

/-- The arguments. -/
def tok : FVec Ideal S2048x2048 .f32 := m ((c : Thread nD τ).loc main_arg0)
def cot : FVec Ideal S2048x2048 .f32 := m ((c : Thread nD τ).loc main_arg1)
def more : FVec Ideal S2048x2048 .f32 := m ((c : Thread nD τ).loc main_arg2)
def mods : FVec Ideal S6x2048 .f32 := m ((c : Thread nD τ).loc main_arg3)
def wgt : FVec Ideal S2048 .f32 := m ((c : Thread nD τ).loc main_arg4)

theorem host3 : V m c main_v0 = asRow (wgt m c) := by
  refine Eq.trans ?_ (asRow_eq (wgt m c))
  simp only [V, hostOps0]
  entry_read
  rfl

theorem host4 : V m c main_v2 = scale (mods m c) := by
  refine Eq.trans ?_ (scale_eq (mods m c))
  simp only [V, hostOps0]
  entry_read
  rfl

theorem lt8 : t.val < 8 := t.isLt

theorem blk0 (r : Fin 256) (s : Fin 2048) : iblk m c 0 t (ix2 r s) = tok m c (ix2 (mid 8 256 t.val r) s) := by
  have h : t.val % 8 = t.val := Nat.mod_eq_of_lt (lt8 t)
  have e : iblk m c 0 t (ix2 r s) = V m c main_arg0 (ix2 (mid 8 256 t.val r) s) := by
    blk_ext [iblk, idx0 t, mid, h]
  exact e.trans (congrFun (V_main_arg0 m c) _)
theorem blk1 (r : Fin 256) (s : Fin 2048) : iblk m c 1 t (ix2 r s) = cot m c (ix2 (mid 8 256 t.val r) s) := by
  have h : t.val % 8 = t.val := Nat.mod_eq_of_lt (lt8 t)
  have e : iblk m c 1 t (ix2 r s) = V m c main_arg1 (ix2 (mid 8 256 t.val r) s) := by
    blk_ext [iblk, idx1 t, mid, h]
  exact e.trans (congrFun (V_main_arg1 m c) _)
theorem blk2 (r : Fin 256) (s : Fin 2048) : iblk m c 2 t (ix2 r s) = more m c (ix2 (mid 8 256 t.val r) s) := by
  have h : t.val % 8 = t.val := Nat.mod_eq_of_lt (lt8 t)
  have e : iblk m c 2 t (ix2 r s) = V m c main_arg2 (ix2 (mid 8 256 t.val r) s) := by
    blk_ext [iblk, idx2 t, mid, h]
  exact e.trans (congrFun (V_main_arg2 m c) _)
theorem blk3 (s : Fin 2048) : iblk m c 3 t (ix2 0 s) = asRow (wgt m c) (ix2 0 s) := by
  have e : iblk m c 3 t (ix2 0 s) = V m c main_v0 (ix2 0 s) := by
    blk_ext [iblk, idx3 t]
  exact e.trans (congrFun (host3 m c) _)
theorem blk4 (s : Fin 2048) : iblk m c 4 t (ix2 0 s) = scale (mods m c) (ix2 0 s) := by
  have e : iblk m c 4 t (ix2 0 s) = V m c main_v2 (ix2 0 s) := by
    blk_ext [iblk, idx4 t]
  exact e.trans (congrFun (host4 m c) _)

/-- The cotangent carried to the weighted norm, at a block's row. -/
theorem blkS (r : Fin 256) (s : Fin 2048) : scaled (a := 256) (n := 2048) (iblk m c 1 t) (iblk m c 4 t) (ix2 r s)
    = scaled (a := 2048) (n := 2048) (cot m c) (scale (mods m c)) (ix2 (mid 8 256 t.val r) s) :=
  congrArg₂ (fun x y : EReal => x * (Ideal.ofBits .f32 0x3F800000#32 + y)) (blk1 m c t r s) (blk4 m c t s)

/-! ## The results -/

/-- The gradient of the tokens, added to what they get otherwise. -/
def rowsOf (x d e : FVec Ideal S2048x2048 .f32) (g p : FVec Ideal S1x2048 .f32) : FVec Ideal S2048x2048 .f32 :=
  fun i => byRows (a := 2048) (n := 2048) .f32 0x45000000#32 x (scaled (a := 2048) (n := 2048) d p) g i + e i

def rows : FVec Ideal S2048x2048 .f32 := rowsOf (tok m c) (cot m c) (more m c) (asRow (wgt m c)) (scale (mods m c))
def weights : FVec Ideal S1x2048 .f32 :=
  byWeight (a := 2048) (n := 2048) 0x45000000#32 (tok m c) (scaled (a := 2048) (n := 2048) (cot m c) (scale (mods m c)))
def scales : FVec Ideal S1x2048 .f32 := byScale (a := 2048) (n := 2048) 0x45000000#32 (tok m c) (cot m c) (asRow (wgt m c))
def shifts : FVec Ideal S1x2048 .f32 := byShift (a := 2048) (n := 2048) (cot m c)

theorem place6 (r : Fin 256) (s : Fin 2048) : ((cfg0.win 6).blk t).view.emb (ix2 r s) = ix2 (mid 8 256 t.val r) s := by
  funext a
  have := lt8 t
  match a with
  | ⟨0, _⟩ => exact Fin.ext (by show win0_6.index t (0 : Fin 2) * 256 + 1 * r.val = t.val % 8 * 256 + r.val; rw [idx6]; show t.val * 256 + 1 * r.val = _; omega)
  | ⟨1, _⟩ => exact Fin.ext (by show win0_6.index t (1 : Fin 2) * 2048 + 1 * s.val = s.val; rw [idx6]; show 0 * 2048 + 1 * s.val = _; omega)

theorem place7 (s : Fin 2048) : ((cfg0.win 7).blk t).view.emb (ix2 0 s) = ix2 0 s := by
  funext a
  match a with
  | ⟨0, _⟩ => exact Fin.ext (by show win0_7.index t (0 : Fin 2) * 1 + 1 * 0 = 0; rw [idx7]; rfl)
  | ⟨1, _⟩ => exact Fin.ext (by show win0_7.index t (1 : Fin 2) * 2048 + 1 * s.val = s.val; rw [idx7]; show 0 * 2048 + 1 * s.val = _; omega)
theorem place8 (s : Fin 2048) : ((cfg0.win 8).blk t).view.emb (ix2 0 s) = ix2 0 s :=
  place7 t s
theorem place9 (s : Fin 2048) : ((cfg0.win 9).blk t).view.emb (ix2 0 s) = ix2 0 s :=
  place7 t s

/-- The call leaves the gradient of the tokens. -/
theorem final6 : (dats m 0 c).arrAt 6 cfg0.N = rows m c := by
  refine (dats m 0 c).arrAt_eq_of_covers 6 _ (by decide +kernel) fun t _ y => ?_
  idx_vars y
  refine Eq.trans ?_ (congrArg (rows m c) (place6 t y0 y1).symm)
  show (dats m 0 c).after 6 t (ix2 y0 y1) = _
  rw [after0_6, body6]
  refine (rows_at _ _ _ _ _ y0 y1).trans ?_
  simp only [blk0, blk2, blk3, blkS]
  rfl

/-- After the last point the gradients of the weights, the scale and the shift are whole. -/
theorem block7 (ht : t.val % 8 = 7) (s : Fin 2048) : (outsAt0 m c t.val t.isLt).2.1 (ix2 0 s) = weights m c (ix2 0 s) := by
  have e : ∀ (t : Fin cfg0.N) (s : Fin 2048), k0_pay17 (F := Ideal) (iblk m c 0 t) (iblk m c 1 t) (iblk m c 4 t) (ix2 0 s) = ∑ r : Fin 256,
      rms 0x45000000#32 (fun k => tok m c (ix2 (mid 8 256 t.val r) k)) s
        * scaled (a := 2048) (n := 2048) (cot m c) (scale (mods m c)) (ix2 (mid 8 256 t.val r) s) := fun t s => by
    refine (weight_at _ _ _ s).trans (Finset.sum_congr rfl fun r _ => ?_)
    simp only [blk0, blkS]
  refine total (J := 8) (w := 256) (fun n h s => (outsAt0 m c n h).2.1 (ix2 0 s))
    (fun (s : Fin 2048) r => rms 0x45000000#32 (fun k => tok m c (ix2 r k)) s * scaled (a := 2048) (n := 2048) (cot m c) (scale (mods m c)) (ix2 r s))
    (fun t h s => ?_) (fun t h s => ?_) t ht s
  · show (outsAt0 m c t.val t.isLt).2.1 (ix2 0 s) = _
    rw [body7_A m c t h, add5_at, zero2_at, zero_add]
    exact e t s
  · show (outsAt0 m c t.val t.isLt).2.1 (ix2 0 s) = (outsAt0 m c (t.val - 1) _).2.1 (ix2 0 s) + _
    rw [body7_B m c t h, add5_at]
    exact congrArg _ (e t s)

theorem block8 (ht : t.val % 8 = 7) (s : Fin 2048) : (outsAt0 m c t.val t.isLt).2.2.1 (ix2 0 s) = scales m c (ix2 0 s) := by
  have e : ∀ (t : Fin cfg0.N) (s : Fin 2048), k0_pay15 (F := Ideal) (iblk m c 0 t) (iblk m c 1 t) (iblk m c 3 t) (ix2 0 s) = ∑ r : Fin 256,
      rms 0x45000000#32 (fun k => tok m c (ix2 (mid 8 256 t.val r) k)) s * asRow (wgt m c) (ix2 0 s) * cot m c (ix2 (mid 8 256 t.val r) s) := fun t s => by
    refine (scale_at _ _ _ s).trans (Finset.sum_congr rfl fun r _ => ?_)
    simp only [blk0, blk1, blk3]
  refine total (J := 8) (w := 256) (fun n h s => (outsAt0 m c n h).2.2.1 (ix2 0 s))
    (fun (s : Fin 2048) r => rms 0x45000000#32 (fun k => tok m c (ix2 r k)) s * asRow (wgt m c) (ix2 0 s) * cot m c (ix2 r s))
    (fun t h s => ?_) (fun t h s => ?_) t ht s
  · show (outsAt0 m c t.val t.isLt).2.2.1 (ix2 0 s) = _
    rw [body8_A m c t h, add6_at, zero3_at, zero_add]
    exact e t s
  · show (outsAt0 m c t.val t.isLt).2.2.1 (ix2 0 s) = (outsAt0 m c (t.val - 1) _).2.2.1 (ix2 0 s) + _
    rw [body8_B m c t h, add6_at]
    exact congrArg _ (e t s)

theorem block9 (ht : t.val % 8 = 7) (s : Fin 2048) : (outsAt0 m c t.val t.isLt).2.2.2 (ix2 0 s) = shifts m c (ix2 0 s) := by
  have e : ∀ (t : Fin cfg0.N) (s : Fin 2048), k0_pay14 (F := Ideal) (iblk m c 1 t) (ix2 0 s) = ∑ r : Fin 256, cot m c (ix2 (mid 8 256 t.val r) s) := fun t s => by
    refine (shift_at _ s).trans (Finset.sum_congr rfl fun r _ => ?_)
    simp only [blk1]
  refine total (J := 8) (w := 256) (fun n h s => (outsAt0 m c n h).2.2.2 (ix2 0 s)) (fun (s : Fin 2048) r => cot m c (ix2 r s))
    (fun t h s => ?_) (fun t h s => ?_) t ht s
  · show (outsAt0 m c t.val t.isLt).2.2.2 (ix2 0 s) = _
    rw [body9_A m c t h, add7_at, zero4_at, zero_add]
    exact e t s
  · show (outsAt0 m c t.val t.isLt).2.2.2 (ix2 0 s) = (outsAt0 m c (t.val - 1) _).2.2.2 (ix2 0 s) + _
    rw [body9_B m c t h, add7_at]
    exact congrArg _ (e t s)

/-- The call leaves the gradient of the weights. -/
theorem final7 : (dats m 0 c).arrAt 7 cfg0.N = weights m c := by
  refine (dats m 0 c).arrAt_eq_of_cover 7 _ (fun t hf => ?_) (fun i => ?_)
  · rw [Value.flushed7]
    funext y
    idx_vars y
    obtain rfl : y0 = 0 := Subsingleton.elim _ _
    exact (block7 m c t ((flush0_7 t).1 hf) y1).trans (congrArg (weights m c) (place7 t y1).symm)
  · idx_vars i
    obtain rfl : i0 = 0 := Subsingleton.elim _ _
    let t : Fin cfg0.N := ⟨7, by decide⟩
    refine ⟨t, (flush0_7 t).2 rfl, ?_⟩
    rw [← place7 t i1]
    exact View.emb_mem_set _ _

/-- The call leaves the gradient of the scale. -/
theorem final8 : (dats m 0 c).arrAt 8 cfg0.N = scales m c := by
  refine (dats m 0 c).arrAt_eq_of_cover 8 _ (fun t hf => ?_) (fun i => ?_)
  · rw [Value.flushed8]
    funext y
    idx_vars y
    obtain rfl : y0 = 0 := Subsingleton.elim _ _
    exact (block8 m c t ((flush0_8 t).1 hf) y1).trans (congrArg (scales m c) (place8 t y1).symm)
  · idx_vars i
    obtain rfl : i0 = 0 := Subsingleton.elim _ _
    let t : Fin cfg0.N := ⟨7, by decide⟩
    refine ⟨t, (flush0_8 t).2 rfl, ?_⟩
    rw [← place8 t i1]
    exact View.emb_mem_set _ _

/-- The call leaves the gradient of the shift. -/
theorem final9 : (dats m 0 c).arrAt 9 cfg0.N = shifts m c := by
  refine (dats m 0 c).arrAt_eq_of_cover 9 _ (fun t hf => ?_) (fun i => ?_)
  · rw [Value.flushed9]
    funext y
    idx_vars y
    obtain rfl : y0 = 0 := Subsingleton.elim _ _
    exact (block9 m c t ((flush0_9 t).1 hf) y1).trans (congrArg (shifts m c) (place9 t y1).symm)
  · idx_vars i
    obtain rfl : i0 = 0 := Subsingleton.elim _ _
    let t : Fin cfg0.N := ⟨7, by decide⟩
    refine ⟨t, (flush0_9 t).2 rfl, ?_⟩
    rw [← place9 t i1]
    exact View.emb_mem_set _ _

end Cert.LatentNormX

end
-- ==== Proof.NormXEquation.lean ====
/- The gradients of the latent tokens' modulated norm and their reference are the same arrays. -/
module

public import proofs.«01_k».proof.Defs
public import proofs.«01_k».proof.Proof.NormX
public import proofs.«01_k».proof.Proof.Gen.NormXReferenceIdeal.Run
public import proofs.«01_k».proof.Proof.Gen.NormXReferenceIdeal.Read

@[expose] public section

set_option maxRecDepth 16384

noncomputable section

namespace Cert.LatentNormX

open Cert.NormXReferenceIdeal Cert.NormXReferenceIdeal.Read Cert.RowScale Cert.NormGrad Idealize.ShloMosaic Idealize.SL.Sem

variable (x d e : FVec Ideal S2048x2048 .f32) (mo : FVec Ideal S6x2048 .f32) (g : FVec Ideal S2048 .f32)

/-- The reference's mean square of a row, raised. -/
theorem ref_level (r : Fin 2048) : val_main_v10 (F := Ideal) x (ix2 r 0) = level 0x45000000#32 fun k => x (ix2 r k) := by
  rw [val_main_v10_apply, val_main_v9_apply, val_main_cst_1_apply, val_main_v8_apply, val_main_v7_apply, val_main_cst_0_apply,
    val_main_v6_apply, show idx_main_v6 (ix2 r 0) = ix1 r by funext a; fin_cases a; rfl,
    val_main_v5_apply, val_main_cst_apply, Ideal.ofBits_def, Ideal.ofBits_zero_f32, zero_add]
  refine congrArg (fun e : EReal => Ideal.div e (Ideal.ofBits .f32 0x45000000#32) + Ideal.ofBits .f32 0x358637BD#32)
    (Finset.sum_congr rfl fun k _ => ?_)
  rw [val_main_v4_apply, show idx_main_v5 (ix1 r) k = ix2 r k by funext a; fin_cases a <;> rfl]
  rfl

theorem ref_root (r : Fin 2048) : val_main_v11 (F := Ideal) x (ix2 r 0) = Ideal.rsqrt (level 0x45000000#32 fun k => x (ix2 r k)) := by
  rw [val_main_v11_apply, ref_level]
  rfl

theorem ref_rms (r s : Fin 2048) : val_main_v16 (F := Ideal) x (ix2 r s) = rms 0x45000000#32 (fun k => x (ix2 r k)) s := by
  rw [val_main_v16_apply, val_main_v15_apply, show idx_main_v15 (ix2 r s) = ix2 r 0 by funext a; fin_cases a <;> rfl, ref_root]
  rfl

theorem ref_weighted (r s : Fin 2048) : val_main_v19 (F := Ideal) x g (ix2 r s) = rms 0x45000000#32 (fun k => x (ix2 r k)) s * asRow g (ix2 0 s) := by
  rw [val_main_v19_apply, ref_rms, val_main_v18_apply, val_main_v17_apply]
  exact congrArg (fun y : EReal => rms 0x45000000#32 (fun k => x (ix2 r k)) s * y) (congrArg g (by funext a; fin_cases a; rfl))

theorem ref_given (r s : Fin 2048) : val_main_v28 (F := Ideal) d (ix2 r s) = d (ix2 r s) := by
  rw [val_main_v28_apply]
  refine congrArg d ?_
  have := r.isLt
  have := s.isLt
  funext a
  match a with
  | ⟨0, _⟩ => exact Fin.ext (by show (r.val * 2048 + s.val) / 2048 = r.val; omega)
  | ⟨1, _⟩ => exact Fin.ext (by show (r.val * 2048 + s.val) % 2048 = s.val; omega)

theorem ref_scale (s : Fin 2048) : val_main_v22 (F := Ideal) mo (ix2 0 s) = Ideal.ofBits .f32 0x3F800000#32 + scale mo (ix2 0 s) := by
  rw [val_main_v22_apply, val_main_v21_apply, val_main_v20_apply, val_main_cst_3_apply, val_main_v1_apply, val_main_v0_apply]
  refine congrArg (fun y : EReal => Ideal.ofBits .f32 0x3F800000#32 + y) (congrArg mo ?_)
  funext a
  fin_cases a
  · rfl
  · exact Fin.ext (Nat.mod_eq_of_lt s.isLt)

theorem ref_scaled (r s : Fin 2048) : val_main_v36 (F := Ideal) d mo (ix2 r s) = scaled (a := 2048) (n := 2048) d (scale mo) (ix2 r s) := by
  rw [val_main_v36_apply, ref_given, val_main_v35_apply, show idx_main_v35 (ix2 r s) = ix2 0 s by funext a; fin_cases a <;> rfl, ref_scale]
  rfl

/-- The normed row's cotangent. -/
theorem ref_cot (r s : Fin 2048) : val_main_v42 (F := Ideal) d mo g (ix2 r s)
    = scaled (a := 2048) (n := 2048) d (scale mo) (ix2 r s) * asRow g (ix2 0 s) := by
  rw [val_main_v42_apply, ref_scaled, val_main_v41_apply, val_main_v17_apply]
  exact congrArg (fun y : EReal => scaled (a := 2048) (n := 2048) d (scale mo) (ix2 r s) * y) (congrArg g (by funext a; fin_cases a; rfl))

theorem ref_dot (r : Fin 2048) : val_main_v46 (F := Ideal) x d mo g (ix2 r 0)
    = ∑ k : Fin 2048, x (ix2 r k) * (scaled (a := 2048) (n := 2048) d (scale mo) (ix2 r k) * asRow g (ix2 0 k)) := by
  rw [val_main_v46_apply, show idx_main_v46 (ix2 r 0) = ix1 r by funext a; fin_cases a; exact Fin.ext (by simp [idx_main_v46]),
    val_main_v45_apply, val_main_cst_10_apply, Ideal.ofBits_def, Ideal.ofBits_zero_f32, zero_add]
  refine Finset.sum_congr rfl fun k _ => ?_
  rw [val_main_v44_apply, show idx_main_v45 (ix1 r) k = ix2 r k by funext a; fin_cases a <;> rfl, ref_cot]
  rfl

/-- What every entry of a row gets through the mean. -/
theorem ref_pull (r s : Fin 2048) : val_main_v53 (F := Ideal) x d mo g (ix2 r s)
    = pull 0x45000000#32 (fun k => x (ix2 r k)) fun k => scaled (a := 2048) (n := 2048) d (scale mo) (ix2 r k) * asRow g (ix2 0 k) := by
  rw [val_main_v53_apply, show idx_main_v53 (ix2 r s) = ix1 r by funext a; fin_cases a; rfl,
    val_main_v52_apply, val_main_cst_12_apply, Ideal.ofBits_def, Ideal.ofBits_zero_f32, zero_add, Fin.sum_univ_one,
    show idx_main_v52 (ix1 r) 0 = ix2 r 0 by funext a; fin_cases a <;> rfl,
    val_main_v51_apply, val_main_v50_apply, val_main_cst_11_apply, val_main_v49_apply, ref_dot, val_main_v14_apply, val_main_v13_apply,
    val_main_cst_2_apply, val_main_v12_apply, ref_root, ref_level]
  rfl

/-- The reference's gradient of the tokens. -/
theorem reference_rows : val_main_v58 (F := Ideal) x d e mo g = rowsOf x d e (asRow g) (scale mo) := by
  funext i
  idx_vars i
  rw [val_main_v58_apply, val_main_v57_apply, val_main_v56_apply, val_main_v55_apply, val_main_v54_apply, val_main_v48_apply, ref_pull, ref_cot,
    val_main_v47_apply, show idx_main_v47 (ix2 i0 i1) = ix2 i0 0 by funext a; fin_cases a <;> rfl, ref_root]
  rfl

/-- The reference's gradient of the weights. -/
theorem reference_weights : val_main_v59 (F := Ideal) x d mo
    = byWeight (a := 2048) (n := 2048) 0x45000000#32 x (scaled (a := 2048) (n := 2048) d (scale mo)) := by
  funext i
  idx_vars i
  rw [val_main_v59_apply, show idx_main_v59 (ix2 i0 i1) = ix1 i1 by funext a; fin_cases a; rfl,
    val_main_v43_apply, val_main_cst_9_apply, Ideal.ofBits_def, Ideal.ofBits_zero_f32, zero_add, Fin.sum_univ_one,
    val_main_v40_apply, show idx_main_v40 (idx_main_v43 (ix1 i1) 0) = ix1 i1 by funext a; fin_cases a; exact Fin.ext (by simp [idx_main_v40, idx_main_v43]),
    val_main_v39_apply, val_main_cst_8_apply, Ideal.ofBits_def, Ideal.ofBits_zero_f32, zero_add]
  refine Finset.sum_congr rfl fun r _ => ?_
  rw [val_main_v38_apply, show idx_main_v39 (ix1 i1) r = ix2 r i1 by funext a; fin_cases a <;> rfl, ref_rms, ref_scaled]
  rfl

/-- The reference's gradient of the scale. -/
theorem reference_scales : val_main_v60 (F := Ideal) x d g = byScale (a := 2048) (n := 2048) 0x45000000#32 x d (asRow g) := by
  funext i
  idx_vars i
  rw [val_main_v60_apply, show idx_main_v60 (ix2 i0 i1) = ix1 i1 by funext a; fin_cases a; rfl,
    val_main_v37_apply, val_main_cst_7_apply, Ideal.ofBits_def, Ideal.ofBits_zero_f32, zero_add, Fin.sum_univ_one,
    val_main_v34_apply, show idx_main_v34 (idx_main_v37 (ix1 i1) 0) = ix1 i1 by funext a; fin_cases a; exact Fin.ext (by simp [idx_main_v34, idx_main_v37]),
    val_main_v33_apply, val_main_cst_6_apply, Ideal.ofBits_def, Ideal.ofBits_zero_f32, zero_add]
  refine Finset.sum_congr rfl fun r _ => ?_
  rw [val_main_v32_apply, show idx_main_v33 (ix1 i1) r = ix2 r i1 by funext a; fin_cases a <;> rfl, ref_weighted, ref_given]
  rfl

/-- The reference's gradient of the shift. -/
theorem reference_shifts : val_main_v61 (F := Ideal) d = byShift (a := 2048) (n := 2048) d := by
  funext i
  idx_vars i
  rw [val_main_v61_apply, show idx_main_v61 (ix2 i0 i1) = ix1 i1 by funext a; fin_cases a; rfl,
    val_main_v31_apply, val_main_cst_5_apply, Ideal.ofBits_def, Ideal.ofBits_zero_f32, zero_add, Fin.sum_univ_one,
    val_main_v30_apply, show idx_main_v30 (idx_main_v31 (ix1 i1) 0) = ix1 i1 by funext a; fin_cases a; exact Fin.ext (by simp [idx_main_v30, idx_main_v31]),
    val_main_v29_apply, val_main_cst_4_apply, Ideal.ofBits_def, Ideal.ofBits_zero_f32, zero_add]
  refine Finset.sum_congr rfl fun r _ => ?_
  exact congrArg d (by funext a; fin_cases a <;> rfl)

/-- The kernel's run and the reference's run leave the same arrays. -/
theorem equation : algebraic_NormXIdeal_NormXReferenceIdeal := by
  intro m k m' k' _ hargs
  refine ⟨fun c => rows m c, fun c => weights m c, fun c => scales m c, fun c => shifts m c,
    (θ_run _ _ _).mono (fun r h c => ⟨(h c).1.trans (final6 m c), (h c).2.1.trans (final7 m c), (h c).2.2.1.trans (final8 m c),
      (h c).2.2.2.1.trans (final9 m c), (h c).2.2.2.2⟩) (Cert.NormXIdeal.Value.run_blocks m k),
    (θ_run _ _ _).mono (fun r h c => ⟨(h c).1.trans ?_, (h c).2.1.trans ?_, (h c).2.2.1.trans ?_, (h c).2.2.2.1.trans ?_, (h c).2.2.2.2⟩)
      (Cert.NormXReferenceIdeal.Value.run m' k')⟩
  · obtain ⟨e0, e1, e2, e3, e4⟩ := hargs c
    rw [val_main_v58_eq, e0, e1, e2, e3, e4]
    exact reference_rows _ _ _ _ _
  · obtain ⟨e0, e1, e2, e3, e4⟩ := hargs c
    refine (val_main_v59_eq _ _ _).trans ?_
    rw [e0, e1, e3]
    exact reference_weights _ _ _
  · obtain ⟨e0, e1, e2, e3, e4⟩ := hargs c
    refine (val_main_v60_eq _ _ _).trans ?_
    rw [e0, e1, e4]
    exact reference_scales _ _ _
  · obtain ⟨e0, e1, e2, e3, e4⟩ := hargs c
    refine (val_main_v61_eq _).trans ?_
    rw [e1]
    exact reference_shifts _

end Cert.LatentNormX

end
-- ==== Proof.SkipX.lean ====
/- The gradients of the S5 branch's sum and gelu: what their call leaves in its results. -/
module

public import proofs.«01_k».proof.Proof.Gen.SkipXIdeal.Value
public import proofs.«01_k».proof.Proof.NormGrad
public import Idealize.ShloMosaic.Lib.IdealHost
public import Idealize.ShloMosaic.Lib.Pipeline.ValueKit
public import Idealize.ShloMosaic.Lib.Pipeline.ReadBack

@[expose] public section

set_option maxRecDepth 16384

noncomputable section

namespace Cert.SkipGrad

open Cert.SkipXIdeal Cert.SkipXIdeal.Gen Cert.NormGrad Cert.Accumulate Idealize.ShloMosaic Idealize.ShloMosaic.TcCoe Idealize.SL.Sem

theorem idx0 : ∀ t : Fin grid0.N, win0_0.index t = ![t.val, 0] := by decide +kernel
theorem idx1 : ∀ t : Fin grid0.N, win0_1.index t = ![t.val, 0] := by decide +kernel
theorem idx2 : ∀ t : Fin grid0.N, win0_2.index t = ![t.val, 0] := by decide +kernel
theorem idx4 : ∀ t : Fin grid0.N, win0_4.index t = ![t.val, 0] := by decide +kernel
theorem idx5 : ∀ t : Fin grid0.N, win0_5.index t = ![0, 0] := by decide +kernel

/-! ## The gradient of gelu's tanh form, with the literals as the call has them -/

/-- The tanh inside gelu, at an entry. -/
def twist (y : EReal) : EReal :=
  Ideal.tanh (Ideal.ofBits .f32 0x3F4C422A#32 * (y + Ideal.ofBits .f32 0x3D372713#32 * (y * (y * y))))

/-- What the cotangent `e` becomes at the tanh's argument. -/
def inner (y e : EReal) : EReal := Ideal.ofBits .f32 0x3F4C422A#32 * (Ideal.ofBits .f32 0x3F000000#32 * (y * e)
  * ((Ideal.ofBits .f32 0x3F800000#32 + twist y) * (Ideal.ofBits .f32 0x3F800000#32 - twist y)))

/-- The gradient of gelu at an entry under the cotangent `e`. -/
def geluGrad (y e : EReal) : EReal := e * (Ideal.ofBits .f32 0x3F000000#32 * (Ideal.ofBits .f32 0x3F800000#32 + twist y)) + inner y e
  + Ideal.ofBits .f32 0x3D372713#32 * inner y e * (Ideal.ofBits .f32 0x40400000#32 * (y * y))

theorem grad_at (y : FVec Ideal S512x1024 .f32) (e : FVec Ideal S512x1024 .bf16) (r : Fin 512) (s : Fin 1024) :
    k0_pay3 (F := Ideal) y e (ix2 r s) = geluGrad (y (ix2 r s)) (e (ix2 r s)) := by
  pointwise [k0_pay3, geluGrad, inner, twist]

theorem skip_at (u y : FVec Ideal S512x1024 .f32) (e : FVec Ideal S512x1024 .bf16) (s : Fin 1024) :
    k0_pay4 (F := Ideal) u y e (ix2 0 s) = ∑ r : Fin 512, geluGrad (y (ix2 r s)) (e (ix2 r s)) * u (ix2 r s) := by
  simp only [← grad_at]
  unfold k0_pay4
  generalize k0_pay3 (F := Ideal) y e = w
  pointwise

theorem add_at (x y : FVec Ideal S1x1024 .f32) (s : Fin 1024) : k0_pay2 (F := Ideal) x y (ix2 0 s) = y (ix2 0 s) + x (ix2 0 s) := by
  pointwise [k0_pay2]

theorem zero_at (s : Fin 1024) : k0_pay1 (F := Ideal) (ix2 0 s) = 0 := by
  pointwise [k0_pay1]

section Body
variable {F : FTy → Type} [FloatOps F] (m : (ℓ : Loc nD τ sig) → Buf (Elt F) ℓ) (c : Dev nD) (t : Fin cfg0.N)

theorem body4 : (outsAt0 m c t.val t.isLt).1 = k0_pay3 (iblk m c 1 t) (iblk m c 2 t) := by
  by_cases h0 : t.val % 4 = 0
  · rw [outsAt0_A m c t h0]
    frame_out
  · rw [outsAt0_B m c t h0]
    generalize outsAt0 m c (t.val - 1) (Nat.lt_of_le_of_lt (Nat.sub_le _ _) t.isLt) = acc
    frame_out

theorem body5_A (h0 : t.val % 4 = 0) : (outsAt0 m c t.val t.isLt).2 = k0_pay2 (k0_pay4 (X0_0 m c t) (iblk m c 1 t) (iblk m c 2 t)) k0_pay1 := by
  rw [outsAt0_A m c t h0]
  frame_out

theorem body5_B (h0 : ¬t.val % 4 = 0) : (outsAt0 m c t.val t.isLt).2 = k0_pay2 (k0_pay4 (X0_0 m c t) (iblk m c 1 t) (iblk m c 2 t))
    (outsAt0 m c (t.val - 1) (Nat.lt_of_le_of_lt (Nat.sub_le _ _) t.isLt)).2 := by
  rw [outsAt0_B m c t h0]
  generalize outsAt0 m c (t.val - 1) (Nat.lt_of_le_of_lt (Nat.sub_le _ _) t.isLt) = acc
  frame_out

end Body

/-! ## What the windows hold -/

variable (m : (ℓ : Loc nD τ sig) → Buf (Elt Ideal) ℓ) (c : Dev nD) (t : Fin cfg0.N)

/-- The arguments. -/
def prj : FVec Ideal S2304x6144 .f32 := m ((c : Thread nD τ).loc main_arg0)
def tot : FVec Ideal S2048x1024 .f32 := m ((c : Thread nD τ).loc main_arg1)
def cot : FVec Ideal S2048x1024 .f32 := m ((c : Thread nD τ).loc main_arg2)

/-- The branch's input among the projections. -/
def input (h : FVec Ideal S2304x6144 .f32) : FVec Ideal S2048x1024 .f32 := fun i =>
  h (ix2 ⟨(i 0).val, by have h0 : (i 0).val < 2048 := (i 0).isLt; omega⟩ ⟨(i 1).val, by have h1 : (i 1).val < 1024 := (i 1).isLt; omega⟩)

theorem lt4 : t.val < 4 := t.isLt

theorem blk0 (r : Fin 512) (s : Fin 1024) : X0_0 m c t (ix2 r s) = input (prj m c) (ix2 (mid 4 512 t.val r) s) := by
  have h : t.val % 4 = t.val := Nat.mod_eq_of_lt (lt4 t)
  unfold X0_0 Pipeline.Window.fill
  rw [dif_pos (moved0_0 t _)]
  refine Eq.trans (b := V m c main_arg0 (ix2 ⟨(mid 4 512 t.val r).val, by have := (mid 4 512 t.val r).isLt; omega⟩ ⟨s.val, by have := s.isLt; omega⟩)) ?_
    (congrFun (V_main_arg0 m c) _)
  blk_ext [iblk, idx0 t, mid, h]
theorem blk1 (r : Fin 512) (s : Fin 1024) : iblk m c 1 t (ix2 r s) = tot m c (ix2 (mid 4 512 t.val r) s) := by
  have h : t.val % 4 = t.val := Nat.mod_eq_of_lt (lt4 t)
  have e : iblk m c 1 t (ix2 r s) = V m c main_arg1 (ix2 (mid 4 512 t.val r) s) := by
    blk_ext [iblk, idx1 t, mid, h]
  exact e.trans (congrFun (V_main_arg1 m c) _)
/-- The call gets its cotangent after the host's cast. -/
theorem host2 : V m c main_v0 = cot m c := by
  simp only [V, hostOps0]
  entry_read
  rfl

theorem blk2 (r : Fin 512) (s : Fin 1024) : iblk m c 2 t (ix2 r s) = cot m c (ix2 (mid 4 512 t.val r) s) := by
  have h : t.val % 4 = t.val := Nat.mod_eq_of_lt (lt4 t)
  have e : iblk m c 2 t (ix2 r s) = V m c main_v0 (ix2 (mid 4 512 t.val r) s) := by
    blk_ext [iblk, idx2 t, mid, h]
  exact e.trans (congrFun (host2 m c) _)

/-! ## The results -/

/-- The gradient of the sum. -/
def sumGrad (y e : FVec Ideal S2048x1024 .f32) : FVec Ideal S2048x1024 .f32 := fun i => geluGrad (y i) (e i)
/-- The gradient of the skip's weights: over all rows, the sum's gradient times the branch's input. -/
def skipGrad (h : FVec Ideal S2304x6144 .f32) (y e : FVec Ideal S2048x1024 .f32) : FVec Ideal S1x1024 .f32 := fun i =>
  ∑ r : Fin 2048, sumGrad y e (ix2 r (i 1)) * input h (ix2 r (i 1))

def sums : FVec Ideal S2048x1024 .f32 := sumGrad (tot m c) (cot m c)
def skips : FVec Ideal S1x1024 .f32 := skipGrad (prj m c) (tot m c) (cot m c)

theorem place4 (r : Fin 512) (s : Fin 1024) : ((cfg0.win 4).blk t).view.emb (ix2 r s) = ix2 (mid 4 512 t.val r) s := by
  funext a
  have := lt4 t
  match a with
  | ⟨0, _⟩ => exact Fin.ext (by show win0_4.index t (0 : Fin 2) * 512 + 1 * r.val = t.val % 4 * 512 + r.val; rw [idx4]; show t.val * 512 + 1 * r.val = _; omega)
  | ⟨1, _⟩ => exact Fin.ext (by show win0_4.index t (1 : Fin 2) * 1024 + 1 * s.val = s.val; rw [idx4]; show 0 * 1024 + 1 * s.val = _; omega)

theorem place5 (s : Fin 1024) : ((cfg0.win 5).blk t).view.emb (ix2 0 s) = ix2 0 s := by
  funext a
  match a with
  | ⟨0, _⟩ => exact Fin.ext (by show win0_5.index t (0 : Fin 2) * 1 + 1 * 0 = 0; rw [idx5]; rfl)
  | ⟨1, _⟩ => exact Fin.ext (by show win0_5.index t (1 : Fin 2) * 1024 + 1 * s.val = s.val; rw [idx5]; show 0 * 1024 + 1 * s.val = _; omega)

/-- The call leaves the gradient of the sum. -/
theorem final4 : (dats m 0 c).arrAt 4 cfg0.N = sums m c := by
  refine (dats m 0 c).arrAt_eq_of_covers 4 _ (by decide +kernel) fun t _ y => ?_
  idx_vars y
  refine Eq.trans ?_ (congrArg (sums m c) (place4 t y0 y1).symm)
  show (dats m 0 c).after 4 t (ix2 y0 y1) = _
  rw [after0_4, body4]
  refine (grad_at _ _ y0 y1).trans ?_
  rw [blk1, blk2]
  rfl

/-- After the last point the gradient of the skip's weights is whole. -/
theorem block (ht : t.val % 4 = 3) (s : Fin 1024) : (outsAt0 m c t.val t.isLt).2 (ix2 0 s) = skips m c (ix2 0 s) := by
  have e : ∀ (t : Fin cfg0.N) (s : Fin 1024), k0_pay4 (F := Ideal) (X0_0 m c t) (iblk m c 1 t) (iblk m c 2 t) (ix2 0 s) = ∑ r : Fin 512,
      sums m c (ix2 (mid 4 512 t.val r) s) * input (prj m c) (ix2 (mid 4 512 t.val r) s) := fun t s => by
    refine (skip_at _ _ _ s).trans (Finset.sum_congr rfl fun r _ => ?_)
    rw [blk0, blk1, blk2]
    rfl
  refine total (J := 4) (w := 512) (fun n h s => (outsAt0 m c n h).2 (ix2 0 s)) (fun (s : Fin 1024) r => sums m c (ix2 r s) * input (prj m c) (ix2 r s))
    (fun t h s => ?_) (fun t h s => ?_) t ht s
  · show (outsAt0 m c t.val t.isLt).2 (ix2 0 s) = _
    rw [body5_A m c t h, add_at, zero_at, zero_add]
    exact e t s
  · show (outsAt0 m c t.val t.isLt).2 (ix2 0 s) = (outsAt0 m c (t.val - 1) _).2 (ix2 0 s) + _
    rw [body5_B m c t h, add_at]
    exact congrArg _ (e t s)

/-- The call leaves the gradient of the skip's weights. -/
theorem final5 : (dats m 0 c).arrAt 5 cfg0.N = skips m c := by
  refine (dats m 0 c).arrAt_eq_of_cover 5 _ (fun t hf => ?_) (fun i => ?_)
  · rw [Value.flushed5]
    funext y
    idx_vars y
    obtain rfl : y0 = 0 := Subsingleton.elim _ _
    exact (block m c t ((flush0_5 t).1 hf) y1).trans (congrArg (skips m c) (place5 t y1).symm)
  · idx_vars i
    obtain rfl : i0 = 0 := Subsingleton.elim _ _
    let t : Fin cfg0.N := ⟨3, by decide⟩
    refine ⟨t, (flush0_5 t).2 rfl, ?_⟩
    rw [← place5 t i1]
    exact View.emb_mem_set _ _

end Cert.SkipGrad

end
-- ==== Proof.SkipXEquation.lean ====
/- The gradients of the S5 branch's sum and gelu and their reference are the same arrays. -/
module

public import proofs.«01_k».proof.Defs
public import proofs.«01_k».proof.Proof.SkipX
public import proofs.«01_k».proof.Proof.Gen.SkipXReferenceIdeal.Run
public import proofs.«01_k».proof.Proof.Gen.SkipXReferenceIdeal.Read

@[expose] public section

set_option maxRecDepth 16384

noncomputable section

namespace Cert.SkipGrad

open Cert.SkipXReferenceIdeal Cert.SkipXReferenceIdeal.Read Idealize.ShloMosaic Idealize.SL.Sem

variable (h : FVec Ideal S2304x6144 .f32) (y e : FVec Ideal S2048x1024 .f32)

/-- The reference's cube is taken from the left. -/
theorem ref_twist (i : S2048x1024.Idx) : val_main_v10 (F := Ideal) y i = twist (y i) := by
  rw [val_main_v10_apply, val_main_v9_apply, val_main_v8_apply, val_main_cst_1_apply, val_main_v7_apply, val_main_v6_apply, val_main_v5_apply,
    val_main_cst_0_apply, val_main_v1_apply, val_main_v0_apply]
  unfold twist
  rw [mul_comm (y i) (y i * y i)]
  rfl

theorem ref_inner (i : S2048x1024.Idx) : val_main_v27 (F := Ideal) y e i = inner (y i) (e i) := by
  rw [val_main_v27_apply, val_main_v26_apply, val_main_cst_7_apply, val_main_v25_apply, val_main_v24_apply, val_main_v23_apply, val_main_cst_6_apply,
    val_main_v21_apply, val_main_v15_apply, val_main_v14_apply, val_main_v13_apply, val_main_cst_3_apply, val_main_v12_apply, val_main_v11_apply,
    val_main_cst_2_apply, ref_twist]
  rfl

/-- The reference's gradient of the sum. -/
theorem reference_sums : val_main_v32 (F := Ideal) y e = sumGrad y e := by
  funext i
  rw [val_main_v32_apply, val_main_v31_apply, val_main_v30_apply, val_main_v29_apply, val_main_cst_8_apply, val_main_v28_apply, val_main_v22_apply,
    val_main_v19_apply, val_main_v18_apply, val_main_cst_5_apply, val_main_v17_apply, val_main_v16_apply, val_main_cst_4_apply, val_main_v4_apply,
    val_main_v3_apply, val_main_cst_apply, val_main_v2_apply, ref_inner, ref_twist]
  rfl

/-- The reference's gradient of the skip's weights. -/
theorem reference_skips : val_main_v43 (F := Ideal) h y e = skipGrad h y e := by
  funext i
  idx_vars i
  have h0 := i0.isLt
  have h1 := i1.isLt
  rw [val_main_v43_apply, val_main_v42_apply,
    show idx_main_v42 (idx_main_v43 (ix2 i0 i1)) = ix1 i1 by
      funext a
      match a with
      | ⟨0, _⟩ => exact Fin.ext (by simp [idx_main_v42, idx_main_v43]; omega),
    val_main_v41_apply, val_main_cst_10_apply, Ideal.ofBits_def, Ideal.ofBits_zero_f32, zero_add, Fin.sum_univ_one,
    val_main_v40_apply, show idx_main_v40 (idx_main_v41 (ix1 i1) 0) = ix1 i1 by funext a; fin_cases a; exact Fin.ext (by simp [idx_main_v40, idx_main_v41]),
    val_main_v39_apply, val_main_cst_9_apply, Ideal.ofBits_def, Ideal.ofBits_zero_f32, zero_add]
  refine Finset.sum_congr rfl fun r _ => ?_
  rw [val_main_v38_apply, show idx_main_v39 (ix1 i1) r = ix2 r i1 by funext a; fin_cases a <;> rfl, reference_sums, val_main_v34_apply]
  exact congrArg (fun z : EReal => sumGrad y e (ix2 r i1) * z) (congrArg h (by funext a; fin_cases a <;> rfl))

/-- The kernel's run and the reference's run leave the same arrays. -/
theorem equation : algebraic_SkipXIdeal_SkipXReferenceIdeal := by
  intro m k m' k' _ hargs
  refine ⟨fun c => sums m c, fun c => skips m c,
    (θ_run _ _ _).mono (fun r h c => ⟨(h c).1.trans (final4 m c), (h c).2.1.trans (final5 m c), (h c).2.2⟩) (Cert.SkipXIdeal.Value.run_blocks m k),
    (θ_run _ _ _).mono (fun r h c => ⟨(h c).1.trans ?_, (h c).2.1.trans ?_, (h c).2.2⟩) (Cert.SkipXReferenceIdeal.Value.run m' k')⟩
  · obtain ⟨e0, e1, e2, e3⟩ := hargs c
    rw [val_main_v32_eq, e1, e2]
    exact reference_sums _ _
  · obtain ⟨e0, e1, e2, e3⟩ := hargs c
    rw [val_main_v43_eq, e0, e1, e2]
    exact reference_skips _ _ _

end Cert.SkipGrad

end
-- ==== Proof.QNormX.lean ====
/- The gradients of the query latents' norm: what its call leaves in its results. -/
module

public import proofs.«01_k».proof.Proof.Gen.QNormXIdeal.Value
public import proofs.«01_k».proof.Proof.NormGrad
public import Idealize.ShloMosaic.Lib.IdealHost
public import Idealize.ShloMosaic.Lib.Pipeline.ValueKit
public import Idealize.ShloMosaic.Lib.Pipeline.ReadBack

@[expose] public section

set_option maxRecDepth 16384

noncomputable section

namespace Cert.QueryNormX

open Cert.QNormXIdeal Cert.QNormXIdeal.Gen Cert.RowScale Cert.NormGrad Cert.Accumulate Idealize.ShloMosaic Idealize.ShloMosaic.TcCoe Idealize.SL.Sem

theorem idx0 : ∀ t : Fin grid0.N, win0_0.index t = ![t.val, 2] := by decide +kernel
theorem idx1 : ∀ t : Fin grid0.N, win0_1.index t = ![t.val, 0] := by decide +kernel
theorem idx2 : ∀ t : Fin grid0.N, win0_2.index t = ![0, 0] := by decide +kernel
theorem idx3 : ∀ t : Fin grid0.N, win0_3.index t = ![t.val, 0] := by decide +kernel
theorem idx4 : ∀ t : Fin grid0.N, win0_4.index t = ![0, 0] := by decide +kernel

/-! ## What the body computes -/

theorem level_at (x : FVec Ideal S512x512 .f32) (r : Fin 512) :
    k0_pay3 (F := Ideal) x (ix2 r 0) = level 0x44000000#32 fun k => x (ix2 r k) := by
  pointwise [k0_pay3, level]

theorem root_at (x : FVec Ideal S512x512 .f32) (r : Fin 512) :
    k0_pay4 (F := Ideal) x (ix2 r 0) = Ideal.rsqrt (level 0x44000000#32 fun k => x (ix2 r k)) := by
  rw [← level_at]
  unfold k0_pay4
  generalize k0_pay3 (F := Ideal) x = e
  pointwise

theorem weight_at (x d : FVec Ideal S512x512 .f32) (s : Fin 512) :
    k0_pay5 (F := Ideal) x d (ix2 0 s) = ∑ r : Fin 512, rms 0x44000000#32 (fun k => x (ix2 r k)) s * d (ix2 r s) := by
  have e : ∀ r : Fin 512, rms 0x44000000#32 (fun k => x (ix2 r k)) s = x (ix2 r s) * k0_pay4 (F := Ideal) x (ix2 r 0) :=
    fun r => by rw [root_at]; rfl
  simp only [e]
  unfold k0_pay5
  generalize k0_pay4 (F := Ideal) x = q
  pointwise

theorem rows_at (x d : FVec Ideal S512x512 .f32) (g : FVec Ideal S1x512 .f32) (r s : Fin 512) :
    k0_pay6 (F := Ideal) x d g (ix2 r s) = rmsGrad 0x44000000#32 (fun k => x (ix2 r k)) (fun k => d (ix2 r k) * g (ix2 0 k)) s := by
  unfold rmsGrad pull
  rw [← root_at, ← level_at]
  unfold k0_pay6
  generalize k0_pay4 (F := Ideal) x = q
  generalize k0_pay3 (F := Ideal) x = e
  pointwise
  simp only [Fin.sum_univ_one]

theorem add_at (x y : FVec Ideal S1x512 .f32) (s : Fin 512) : k0_pay2 (F := Ideal) x y (ix2 0 s) = y (ix2 0 s) + x (ix2 0 s) := by
  pointwise [k0_pay2]

theorem zero_at (s : Fin 512) : k0_pay1 (F := Ideal) (ix2 0 s) = 0 := by
  pointwise [k0_pay1]

section Body
variable {F : FTy → Type} [FloatOps F] (m : (ℓ : Loc nD τ sig) → Buf (Elt F) ℓ) (c : Dev nD) (t : Fin cfg0.N)

theorem body3 : (outsAt0 m c t.val t.isLt).1 = k0_pay6 (X0_0 m c t) (iblk m c 1 t) (iblk m c 2 t) := by
  by_cases h0 : t.val % 4 = 0
  · rw [outsAt0_A m c t h0]
    frame_out
  · rw [outsAt0_B m c t h0]
    generalize outsAt0 m c (t.val - 1) (Nat.lt_of_le_of_lt (Nat.sub_le _ _) t.isLt) = acc
    frame_out

theorem body4_A (h0 : t.val % 4 = 0) : (outsAt0 m c t.val t.isLt).2 = k0_pay2 (k0_pay5 (X0_0 m c t) (iblk m c 1 t)) k0_pay1 := by
  rw [outsAt0_A m c t h0]
  frame_out

theorem body4_B (h0 : ¬t.val % 4 = 0) : (outsAt0 m c t.val t.isLt).2
    = k0_pay2 (k0_pay5 (X0_0 m c t) (iblk m c 1 t)) (outsAt0 m c (t.val - 1) (Nat.lt_of_le_of_lt (Nat.sub_le _ _) t.isLt)).2 := by
  rw [outsAt0_B m c t h0]
  generalize outsAt0 m c (t.val - 1) (Nat.lt_of_le_of_lt (Nat.sub_le _ _) t.isLt) = acc
  frame_out

end Body

/-! ## What the windows hold -/

/-- The query latents' columns of the projections, the latent tokens' rows. -/
def latent (h : FVec Ideal S2304x6144 .f32) : FVec Ideal S2048x512 .f32 := fun i =>
  h (ix2 ⟨(i 0).val, by have h0 : (i 0).val < 2048 := (i 0).isLt; omega⟩ ⟨1024 + (i 1).val, by have h1 : (i 1).val < 512 := (i 1).isLt; omega⟩)

/-- The weight as a single row. -/
def asRow (x : FVec Ideal S512 .f32) : FVec Ideal S1x512 .f32 := fun i => x (ix1 (i 1))

theorem asRow_eq (x : FVec Ideal S512 .f32) : broadcastInDim S1x512 ![1] bcast_S512_S1x512_1 x = asRow x := by
  funext i
  refine congrArg x ?_
  funext a
  fin_cases a
  rfl

variable (m : (ℓ : Loc nD τ sig) → Buf (Elt Ideal) ℓ) (c : Dev nD) (t : Fin cfg0.N)

/-- The arguments. -/
def prj : FVec Ideal S2304x6144 .f32 := m ((c : Thread nD τ).loc main_arg0)
def cot : FVec Ideal S2048x512 .f32 := m ((c : Thread nD τ).loc main_arg1)
def wgt : FVec Ideal S512 .f32 := m ((c : Thread nD τ).loc main_arg2)

theorem host2 : V m c main_v0 = asRow (wgt m c) := by
  refine Eq.trans ?_ (asRow_eq (wgt m c))
  simp only [V, hostOps0]
  entry_read
  rfl

theorem lt4 : t.val < 4 := t.isLt

def row (r : Fin 512) : Fin 2048 := ⟨512 * t.val + r.val, by have := lt4 t; have := r.isLt; omega⟩

theorem blk0 (r s : Fin 512) : X0_0 m c t (ix2 r s) = latent (prj m c) (ix2 (row t r) s) := by
  unfold X0_0 Pipeline.Window.fill
  rw [dif_pos (moved0_0 t _)]
  refine Eq.trans (b := V m c main_arg0 (ix2 ⟨512 * t.val + r.val, by have := lt4 t; have := r.isLt; omega⟩ ⟨1024 + s.val, by have := s.isLt; omega⟩)) ?_
    (congrFun (V_main_arg0 m c) _)
  blk_ext [iblk, idx0 t]
theorem blk1 (r s : Fin 512) : iblk m c 1 t (ix2 r s) = cot m c (ix2 (row t r) s) := by
  have e : iblk m c 1 t (ix2 r s) = V m c main_arg1 (ix2 (row t r) s) := by
    blk_ext [iblk, idx1 t, row]
  exact e.trans (congrFun (V_main_arg1 m c) _)
theorem blk2 (s : Fin 512) : iblk m c 2 t (ix2 0 s) = asRow (wgt m c) (ix2 0 s) := by
  have e : iblk m c 2 t (ix2 0 s) = V m c main_v0 (ix2 0 s) := by
    blk_ext [iblk, idx2 t]
  exact e.trans (congrFun (host2 m c) _)

/-! ## The results -/

def rows : FVec Ideal S2048x512 .bf16 := byRows (a := 2048) (n := 512) .bf16 0x44000000#32 (latent (prj m c)) (cot m c) (asRow (wgt m c))
def weights : FVec Ideal S1x512 .f32 := byWeight (a := 2048) (n := 512) 0x44000000#32 (latent (prj m c)) (cot m c)

theorem place3 (r s : Fin 512) : ((cfg0.win 3).blk t).view.emb (ix2 r s) = ix2 (row t r) s := by
  funext a
  match a with
  | ⟨0, _⟩ => exact Fin.ext (by show win0_3.index t (0 : Fin 2) * 512 + 1 * r.val = 512 * t.val + r.val; rw [idx3]; show t.val * 512 + 1 * r.val = _; omega)
  | ⟨1, _⟩ => exact Fin.ext (by show win0_3.index t (1 : Fin 2) * 512 + 1 * s.val = s.val; rw [idx3]; show 0 * 512 + 1 * s.val = _; omega)

theorem place4 (s : Fin 512) : ((cfg0.win 4).blk t).view.emb (ix2 0 s) = ix2 0 s := by
  funext a
  match a with
  | ⟨0, _⟩ => exact Fin.ext (by show win0_4.index t (0 : Fin 2) * 1 + 1 * 0 = 0; rw [idx4]; rfl)
  | ⟨1, _⟩ => exact Fin.ext (by show win0_4.index t (1 : Fin 2) * 512 + 1 * s.val = s.val; rw [idx4]; show 0 * 512 + 1 * s.val = _; omega)

/-- The call leaves the gradient of the query latents. -/
theorem final3 : (dats m 0 c).arrAt 3 cfg0.N = rows m c := by
  refine (dats m 0 c).arrAt_eq_of_covers 3 _ (by decide +kernel) fun t _ y => ?_
  idx_vars y
  refine Eq.trans ?_ (congrArg (rows m c) (place3 t y0 y1).symm)
  show (dats m 0 c).after 3 t (ix2 y0 y1) = _
  rw [after0_3, body3]
  refine (rows_at _ _ _ y0 y1).trans ?_
  simp only [blk0, blk1, blk2]
  rfl

/-- A point's share of the weights' gradient. -/
theorem share (s : Fin 512) : k0_pay5 (F := Ideal) (X0_0 m c t) (iblk m c 1 t) (ix2 0 s)
    = ∑ r : Fin 512, rms 0x44000000#32 (fun k => latent (prj m c) (ix2 (mid 4 512 t.val r) k)) s * cot m c (ix2 (mid 4 512 t.val r) s) := by
  refine (weight_at _ _ s).trans (Finset.sum_congr rfl fun r _ => ?_)
  simp only [blk0, blk1]
  have e : row t r = mid 4 512 t.val r := Fin.ext (by
    show 512 * t.val + r.val = t.val % 4 * 512 + r.val
    have := lt4 t
    omega)
  rw [e]

/-- After the last point the weights' gradient is whole. -/
theorem block (ht : t.val % 4 = 3) (s : Fin 512) : (outsAt0 m c t.val t.isLt).2 (ix2 0 s) = weights m c (ix2 0 s) := by
  refine total (J := 4) (w := 512) (fun n h s => (outsAt0 m c n h).2 (ix2 0 s))
    (fun (s : Fin 512) r => rms 0x44000000#32 (fun k => latent (prj m c) (ix2 r k)) s * cot m c (ix2 r s))
    (fun t h s => ?_) (fun t h s => ?_) t ht s
  · show (outsAt0 m c t.val t.isLt).2 (ix2 0 s) = _
    rw [body4_A m c t h, add_at, zero_at, zero_add]
    exact share m c t s
  · show (outsAt0 m c t.val t.isLt).2 (ix2 0 s) = (outsAt0 m c (t.val - 1) _).2 (ix2 0 s) + _
    rw [body4_B m c t h, add_at]
    exact congrArg _ (share m c t s)

/-- The call leaves the gradient of the weights. -/
theorem final4 : (dats m 0 c).arrAt 4 cfg0.N = weights m c := by
  refine (dats m 0 c).arrAt_eq_of_cover 4 _ (fun t hf => ?_) (fun i => ?_)
  · have ht := (flush0_4 t).1 hf
    rw [Value.flushed4]
    funext y
    idx_vars y
    obtain rfl : y0 = 0 := Subsingleton.elim _ _
    exact (block m c t ht y1).trans (congrArg (weights m c) (place4 t y1).symm)
  · idx_vars i
    obtain rfl : i0 = 0 := Subsingleton.elim _ _
    let t : Fin cfg0.N := ⟨3, by decide⟩
    refine ⟨t, (flush0_4 t).2 rfl, ?_⟩
    rw [← place4 t i1]
    exact View.emb_mem_set _ _

end Cert.QueryNormX

end
-- ==== Proof.QNormXEquation.lean ====
/- The gradients of the query latents' norm and their reference are the same arrays. -/
module

public import proofs.«01_k».proof.Defs
public import proofs.«01_k».proof.Proof.QNormX
public import proofs.«01_k».proof.Proof.Gen.QNormXReferenceIdeal.Run
public import proofs.«01_k».proof.Proof.Gen.QNormXReferenceIdeal.Read

@[expose] public section

set_option maxRecDepth 16384

noncomputable section

namespace Cert.QueryNormX

open Cert.QNormXReferenceIdeal Cert.QNormXReferenceIdeal.Read Cert.RowScale Cert.NormGrad Idealize.ShloMosaic Idealize.SL.Sem

variable (h : FVec Ideal S2304x6144 .f32) (d : FVec Ideal S2048x512 .f32) (g : FVec Ideal S512 .f32)

theorem ref_lat (r : Fin 2048) (s : Fin 512) : val_main_v0 (F := Ideal) h (ix2 r s) = latent h (ix2 r s) := by
  rw [val_main_v0_apply]
  exact congrArg h (by funext a; fin_cases a <;> rfl)

/-- The reference's mean square of a row, raised. -/
theorem ref_level (r : Fin 2048) : val_main_v7 (F := Ideal) h (ix2 r 0) = level 0x44000000#32 fun k => latent h (ix2 r k) := by
  rw [val_main_v7_apply, val_main_v6_apply, val_main_cst_1_apply, val_main_v5_apply, val_main_v4_apply, val_main_cst_0_apply,
    val_main_v3_apply, show idx_main_v3 (ix2 r 0) = ix1 r by funext a; fin_cases a; rfl,
    val_main_v2_apply, val_main_cst_apply, Ideal.ofBits_def, Ideal.ofBits_zero_f32, zero_add]
  refine congrArg (fun e : EReal => Ideal.div e (Ideal.ofBits .f32 0x44000000#32) + Ideal.ofBits .f32 0x358637BD#32)
    (Finset.sum_congr rfl fun k _ => ?_)
  rw [val_main_v1_apply, show idx_main_v2 (ix1 r) k = ix2 r k by funext a; fin_cases a <;> rfl, ref_lat]
  rfl

theorem ref_root (r : Fin 2048) : val_main_v8 (F := Ideal) h (ix2 r 0) = Ideal.rsqrt (level 0x44000000#32 fun k => latent h (ix2 r k)) := by
  rw [val_main_v8_apply, ref_level]
  rfl

theorem ref_rms (r : Fin 2048) (s : Fin 512) : val_main_v13 (F := Ideal) h (ix2 r s) = rms 0x44000000#32 (fun k => latent h (ix2 r k)) s := by
  rw [val_main_v13_apply, ref_lat, val_main_v12_apply, show idx_main_v12 (ix2 r s) = ix2 r 0 by funext a; fin_cases a <;> rfl, ref_root]
  rfl

/-- The normed row's cotangent. -/
theorem ref_cot (r : Fin 2048) (s : Fin 512) : val_main_v21 (F := Ideal) d g (ix2 r s) = d (ix2 r s) * asRow g (ix2 0 s) := by
  rw [val_main_v21_apply, val_main_v20_apply, val_main_v14_apply]
  exact congrArg (fun e : EReal => d (ix2 r s) * e) (congrArg g (by funext a; fin_cases a; rfl))

theorem ref_dot (r : Fin 2048) : val_main_v25 (F := Ideal) h d g (ix2 r 0) = ∑ k : Fin 512, latent h (ix2 r k) * (d (ix2 r k) * asRow g (ix2 0 k)) := by
  rw [val_main_v25_apply, show idx_main_v25 (ix2 r 0) = ix1 r by funext a; fin_cases a; exact Fin.ext (by simp [idx_main_v25]),
    val_main_v24_apply, val_main_cst_5_apply, Ideal.ofBits_def, Ideal.ofBits_zero_f32, zero_add]
  refine Finset.sum_congr rfl fun k _ => ?_
  rw [val_main_v23_apply, show idx_main_v24 (ix1 r) k = ix2 r k by funext a; fin_cases a <;> rfl, ref_lat, ref_cot]
  rfl

/-- What every entry of a row gets through the mean. -/
theorem ref_pull (r : Fin 2048) (s : Fin 512) : val_main_v32 (F := Ideal) h d g (ix2 r s)
    = pull 0x44000000#32 (fun k => latent h (ix2 r k)) fun k => d (ix2 r k) * asRow g (ix2 0 k) := by
  rw [val_main_v32_apply, show idx_main_v32 (ix2 r s) = ix1 r by funext a; fin_cases a; rfl,
    val_main_v31_apply, val_main_cst_7_apply, Ideal.ofBits_def, Ideal.ofBits_zero_f32, zero_add, Fin.sum_univ_one,
    show idx_main_v31 (ix1 r) 0 = ix2 r 0 by funext a; fin_cases a <;> rfl,
    val_main_v30_apply, val_main_v29_apply, val_main_cst_6_apply, val_main_v28_apply, ref_dot, val_main_v11_apply, val_main_v10_apply,
    val_main_cst_2_apply, val_main_v9_apply, ref_root, ref_level]
  rfl

/-- The reference's gradient of the query latents. -/
theorem reference_rows : val_main_v37 (F := Ideal) h d g
    = byRows (a := 2048) (n := 512) .bf16 0x44000000#32 (latent h) d (asRow g) := by
  funext i
  idx_vars i
  refine (val_main_v37_apply (F := Ideal) h d g _).trans (Eq.trans (b := val_main_v36 (F := Ideal) h d g (ix2 i0 i1)) rfl ?_)
  rw [val_main_v36_apply, val_main_v35_apply, val_main_v34_apply, val_main_v33_apply, val_main_v27_apply, ref_pull, ref_lat, ref_cot,
    val_main_v26_apply, show idx_main_v26 (ix2 i0 i1) = ix2 i0 0 by funext a; fin_cases a <;> rfl, ref_root]
  rfl

/-- The reference's gradient of the weights. -/
theorem reference_weights : val_main_v38 (F := Ideal) h d = byWeight (a := 2048) (n := 512) 0x44000000#32 (latent h) d := by
  funext i
  idx_vars i
  rw [val_main_v38_apply, show idx_main_v38 (ix2 i0 i1) = ix1 i1 by funext a; fin_cases a; rfl,
    val_main_v22_apply, val_main_cst_4_apply, Ideal.ofBits_def, Ideal.ofBits_zero_f32, zero_add, Fin.sum_univ_one,
    val_main_v19_apply, show idx_main_v19 (idx_main_v22 (ix1 i1) 0) = ix1 i1 by funext a; fin_cases a; exact Fin.ext (by simp [idx_main_v19, idx_main_v22]),
    val_main_v18_apply, val_main_cst_3_apply, Ideal.ofBits_def, Ideal.ofBits_zero_f32, zero_add]
  refine Finset.sum_congr rfl fun r _ => ?_
  rw [val_main_v17_apply, show idx_main_v18 (ix1 i1) r = ix2 r i1 by funext a; fin_cases a <;> rfl, ref_rms]
  rfl

/-- The kernel's run and the reference's run leave the same arrays. -/
theorem equation : algebraic_QNormXIdeal_QNormXReferenceIdeal := by
  intro m g m' g' _ hargs
  refine ⟨fun c => rows m c, fun c => weights m c,
    (θ_run _ _ _).mono (fun r h c => ⟨(h c).1.trans (final3 m c), (h c).2.1.trans (final4 m c), (h c).2.2⟩) (Cert.QNormXIdeal.Value.run_blocks m g),
    (θ_run _ _ _).mono (fun r h c => ⟨(h c).1.trans ?_, (h c).2.1.trans ?_, (h c).2.2⟩) (Cert.QNormXReferenceIdeal.Value.run m' g')⟩
  · obtain ⟨e0, e1, e2⟩ := hargs c
    rw [val_main_v37_eq, e0, e1, e2]
    exact reference_rows _ _ _
  · obtain ⟨e0, e1, e2⟩ := hargs c
    rw [val_main_v38_eq, e0, e1]
    exact reference_weights _ _

end Cert.QueryNormX

end
-- ==== Proof.KvNormX.lean ====
/- The gradients of the key-value latents' norm: what its call leaves in its results. -/
module

public import proofs.«01_k».proof.Proof.Gen.KvNormXIdeal.Value
public import proofs.«01_k».proof.Proof.NormGrad
public import Idealize.ShloMosaic.Lib.IdealHost
public import Idealize.ShloMosaic.Lib.Pipeline.ValueKit
public import Idealize.ShloMosaic.Lib.Pipeline.ReadBack

@[expose] public section

set_option maxRecDepth 16384

noncomputable section

namespace Cert.KeyNormX

open Cert.KvNormXIdeal Cert.KvNormXIdeal.Gen Cert.RowScale Cert.NormGrad Cert.Accumulate Idealize.ShloMosaic Idealize.ShloMosaic.TcCoe Idealize.SL.Sem

theorem idx0 : ∀ t : Fin grid0.N, win0_0.index t = ![t.val, 6] := by decide +kernel
theorem idx1 : ∀ t : Fin grid0.N, win0_1.index t = ![t.val, 0] := by decide +kernel
theorem idx2 : ∀ t : Fin grid0.N, win0_2.index t = ![0, 0] := by decide +kernel
theorem idx3 : ∀ t : Fin grid0.N, win0_3.index t = ![t.val, 0] := by decide +kernel
theorem idx4 : ∀ t : Fin grid0.N, win0_4.index t = ![0, 0] := by decide +kernel

/-! ## What the body computes -/

theorem level_at (x : FVec Ideal S256x256 .f32) (r : Fin 256) :
    k0_pay3 (F := Ideal) x (ix2 r 0) = level 0x43800000#32 fun k => x (ix2 r k) := by
  pointwise [k0_pay3, level]

theorem root_at (x : FVec Ideal S256x256 .f32) (r : Fin 256) :
    k0_pay4 (F := Ideal) x (ix2 r 0) = Ideal.rsqrt (level 0x43800000#32 fun k => x (ix2 r k)) := by
  rw [← level_at]
  unfold k0_pay4
  generalize k0_pay3 (F := Ideal) x = e
  pointwise

theorem weight_at (x d : FVec Ideal S256x256 .f32) (s : Fin 256) :
    k0_pay5 (F := Ideal) x d (ix2 0 s) = ∑ r : Fin 256, rms 0x43800000#32 (fun k => x (ix2 r k)) s * d (ix2 r s) := by
  have e : ∀ r : Fin 256, rms 0x43800000#32 (fun k => x (ix2 r k)) s = x (ix2 r s) * k0_pay4 (F := Ideal) x (ix2 r 0) :=
    fun r => by rw [root_at]; rfl
  simp only [e]
  unfold k0_pay5
  generalize k0_pay4 (F := Ideal) x = q
  pointwise

theorem rows_at (x d : FVec Ideal S256x256 .f32) (g : FVec Ideal S1x256 .f32) (r s : Fin 256) :
    k0_pay6 (F := Ideal) x d g (ix2 r s) = rmsGrad 0x43800000#32 (fun k => x (ix2 r k)) (fun k => d (ix2 r k) * g (ix2 0 k)) s := by
  unfold rmsGrad pull
  rw [← root_at, ← level_at]
  unfold k0_pay6
  generalize k0_pay4 (F := Ideal) x = q
  generalize k0_pay3 (F := Ideal) x = e
  pointwise
  simp only [Fin.sum_univ_one]

theorem add_at (x y : FVec Ideal S1x256 .f32) (s : Fin 256) : k0_pay2 (F := Ideal) x y (ix2 0 s) = y (ix2 0 s) + x (ix2 0 s) := by
  pointwise [k0_pay2]

theorem zero_at (s : Fin 256) : k0_pay1 (F := Ideal) (ix2 0 s) = 0 := by
  pointwise [k0_pay1]

section Body
variable {F : FTy → Type} [FloatOps F] (m : (ℓ : Loc nD τ sig) → Buf (Elt F) ℓ) (c : Dev nD) (t : Fin cfg0.N)

theorem body3 : (outsAt0 m c t.val t.isLt).1 = k0_pay6 (iblk m c 0 t) (iblk m c 1 t) (iblk m c 2 t) := by
  by_cases h0 : t.val % 9 = 0
  · rw [outsAt0_A m c t h0]
    frame_out
  · rw [outsAt0_B m c t h0]
    generalize outsAt0 m c (t.val - 1) (Nat.lt_of_le_of_lt (Nat.sub_le _ _) t.isLt) = acc
    frame_out

theorem body4_A (h0 : t.val % 9 = 0) : (outsAt0 m c t.val t.isLt).2 = k0_pay2 (k0_pay5 (iblk m c 0 t) (iblk m c 1 t)) k0_pay1 := by
  rw [outsAt0_A m c t h0]
  frame_out

theorem body4_B (h0 : ¬t.val % 9 = 0) : (outsAt0 m c t.val t.isLt).2
    = k0_pay2 (k0_pay5 (iblk m c 0 t) (iblk m c 1 t)) (outsAt0 m c (t.val - 1) (Nat.lt_of_le_of_lt (Nat.sub_le _ _) t.isLt)).2 := by
  rw [outsAt0_B m c t h0]
  generalize outsAt0 m c (t.val - 1) (Nat.lt_of_le_of_lt (Nat.sub_le _ _) t.isLt) = acc
  frame_out

end Body

/-! ## What the windows hold -/

/-- The key-value latents' columns of the projections. -/
def latent (h : FVec Ideal S2304x6144 .f32) : FVec Ideal S2304x256 .f32 := fun i =>
  h (ix2 (i 0) ⟨1536 + (i 1).val, by have h1 : (i 1).val < 256 := (i 1).isLt; omega⟩)

/-- The weight as a single row. -/
def asRow (x : FVec Ideal S256 .f32) : FVec Ideal S1x256 .f32 := fun i => x (ix1 (i 1))

theorem asRow_eq (x : FVec Ideal S256 .f32) : broadcastInDim S1x256 ![1] bcast_S256_S1x256_1 x = asRow x := by
  funext i
  refine congrArg x ?_
  funext a
  fin_cases a
  rfl

variable (m : (ℓ : Loc nD τ sig) → Buf (Elt Ideal) ℓ) (c : Dev nD) (t : Fin cfg0.N)

/-- The arguments. -/
def prj : FVec Ideal S2304x6144 .f32 := m ((c : Thread nD τ).loc main_arg0)
def cot : FVec Ideal S2304x256 .f32 := m ((c : Thread nD τ).loc main_arg1)
def wgt : FVec Ideal S256 .f32 := m ((c : Thread nD τ).loc main_arg2)

theorem host2 : V m c main_v0 = asRow (wgt m c) := by
  refine Eq.trans ?_ (asRow_eq (wgt m c))
  simp only [V, hostOps0]
  entry_read
  rfl

theorem lt9 : t.val < 9 := t.isLt

def row (r : Fin 256) : Fin 2304 := ⟨256 * t.val + r.val, by have := lt9 t; have := r.isLt; omega⟩

theorem blk0 (r s : Fin 256) : iblk m c 0 t (ix2 r s) = latent (prj m c) (ix2 (row t r) s) := by
  have e : iblk m c 0 t (ix2 r s) = V m c main_arg0 (ix2 (row t r) ⟨1536 + s.val, by have := s.isLt; omega⟩) := by
    blk_ext [iblk, idx0 t, row]
  exact e.trans (congrFun (V_main_arg0 m c) _)
theorem blk1 (r s : Fin 256) : iblk m c 1 t (ix2 r s) = cot m c (ix2 (row t r) s) := by
  have e : iblk m c 1 t (ix2 r s) = V m c main_arg1 (ix2 (row t r) s) := by
    blk_ext [iblk, idx1 t, row]
  exact e.trans (congrFun (V_main_arg1 m c) _)
theorem blk2 (s : Fin 256) : iblk m c 2 t (ix2 0 s) = asRow (wgt m c) (ix2 0 s) := by
  have e : iblk m c 2 t (ix2 0 s) = V m c main_v0 (ix2 0 s) := by
    blk_ext [iblk, idx2 t]
  exact e.trans (congrFun (host2 m c) _)

/-! ## The results -/

def rows : FVec Ideal S2304x256 .bf16 := byRows (a := 2304) (n := 256) .bf16 0x43800000#32 (latent (prj m c)) (cot m c) (asRow (wgt m c))
def weights : FVec Ideal S1x256 .f32 := byWeight (a := 2304) (n := 256) 0x43800000#32 (latent (prj m c)) (cot m c)

theorem place3 (r s : Fin 256) : ((cfg0.win 3).blk t).view.emb (ix2 r s) = ix2 (row t r) s := by
  funext a
  match a with
  | ⟨0, _⟩ => exact Fin.ext (by show win0_3.index t (0 : Fin 2) * 256 + 1 * r.val = 256 * t.val + r.val; rw [idx3]; show t.val * 256 + 1 * r.val = _; omega)
  | ⟨1, _⟩ => exact Fin.ext (by show win0_3.index t (1 : Fin 2) * 256 + 1 * s.val = s.val; rw [idx3]; show 0 * 256 + 1 * s.val = _; omega)

theorem place4 (s : Fin 256) : ((cfg0.win 4).blk t).view.emb (ix2 0 s) = ix2 0 s := by
  funext a
  match a with
  | ⟨0, _⟩ => exact Fin.ext (by show win0_4.index t (0 : Fin 2) * 1 + 1 * 0 = 0; rw [idx4]; rfl)
  | ⟨1, _⟩ => exact Fin.ext (by show win0_4.index t (1 : Fin 2) * 256 + 1 * s.val = s.val; rw [idx4]; show 0 * 256 + 1 * s.val = _; omega)

/-- The call leaves the gradient of the key-value latents. -/
theorem final3 : (dats m 0 c).arrAt 3 cfg0.N = rows m c := by
  refine (dats m 0 c).arrAt_eq_of_covers 3 _ (by decide +kernel) fun t _ y => ?_
  idx_vars y
  refine Eq.trans ?_ (congrArg (rows m c) (place3 t y0 y1).symm)
  show (dats m 0 c).after 3 t (ix2 y0 y1) = _
  rw [after0_3, body3]
  refine (rows_at _ _ _ y0 y1).trans ?_
  simp only [blk0, blk1, blk2]
  rfl

/-- A point's share of the weights' gradient. -/
theorem share (s : Fin 256) : k0_pay5 (F := Ideal) (iblk m c 0 t) (iblk m c 1 t) (ix2 0 s)
    = ∑ r : Fin 256, rms 0x43800000#32 (fun k => latent (prj m c) (ix2 (mid 9 256 t.val r) k)) s * cot m c (ix2 (mid 9 256 t.val r) s) := by
  refine (weight_at _ _ s).trans (Finset.sum_congr rfl fun r _ => ?_)
  simp only [blk0, blk1]
  have e : row t r = mid 9 256 t.val r := Fin.ext (by
    show 256 * t.val + r.val = t.val % 9 * 256 + r.val
    have := lt9 t
    omega)
  rw [e]

/-- After the last point the weights' gradient is whole. -/
theorem block (ht : t.val % 9 = 8) (s : Fin 256) : (outsAt0 m c t.val t.isLt).2 (ix2 0 s) = weights m c (ix2 0 s) := by
  refine total (J := 9) (w := 256) (fun n h s => (outsAt0 m c n h).2 (ix2 0 s))
    (fun (s : Fin 256) r => rms 0x43800000#32 (fun k => latent (prj m c) (ix2 r k)) s * cot m c (ix2 r s))
    (fun t h s => ?_) (fun t h s => ?_) t ht s
  · show (outsAt0 m c t.val t.isLt).2 (ix2 0 s) = _
    rw [body4_A m c t h, add_at, zero_at, zero_add]
    exact share m c t s
  · show (outsAt0 m c t.val t.isLt).2 (ix2 0 s) = (outsAt0 m c (t.val - 1) _).2 (ix2 0 s) + _
    rw [body4_B m c t h, add_at]
    exact congrArg _ (share m c t s)

/-- The call leaves the gradient of the weights. -/
theorem final4 : (dats m 0 c).arrAt 4 cfg0.N = weights m c := by
  refine (dats m 0 c).arrAt_eq_of_cover 4 _ (fun t hf => ?_) (fun i => ?_)
  · have ht := (flush0_4 t).1 hf
    rw [Value.flushed4]
    funext y
    idx_vars y
    obtain rfl : y0 = 0 := Subsingleton.elim _ _
    exact (block m c t ht y1).trans (congrArg (weights m c) (place4 t y1).symm)
  · idx_vars i
    obtain rfl : i0 = 0 := Subsingleton.elim _ _
    let t : Fin cfg0.N := ⟨8, by decide⟩
    refine ⟨t, (flush0_4 t).2 rfl, ?_⟩
    rw [← place4 t i1]
    exact View.emb_mem_set _ _

end Cert.KeyNormX

end
-- ==== Proof.KvNormXEquation.lean ====
/- The gradients of the key-value latents' norm and their reference are the same arrays. -/
module

public import proofs.«01_k».proof.Defs
public import proofs.«01_k».proof.Proof.KvNormX
public import proofs.«01_k».proof.Proof.Gen.KvNormXReferenceIdeal.Run
public import proofs.«01_k».proof.Proof.Gen.KvNormXReferenceIdeal.Read

@[expose] public section

set_option maxRecDepth 16384

noncomputable section

namespace Cert.KeyNormX

open Cert.KvNormXReferenceIdeal Cert.KvNormXReferenceIdeal.Read Cert.RowScale Cert.NormGrad Idealize.ShloMosaic Idealize.SL.Sem

variable (h : FVec Ideal S2304x6144 .f32) (d : FVec Ideal S2304x256 .f32) (g : FVec Ideal S256 .f32)

theorem ref_lat (r : Fin 2304) (s : Fin 256) : val_main_v0 (F := Ideal) h (ix2 r s) = latent h (ix2 r s) := by
  rw [val_main_v0_apply]
  exact congrArg h (by funext a; fin_cases a <;> rfl)

/-- The reference's mean square of a row, raised. -/
theorem ref_level (r : Fin 2304) : val_main_v7 (F := Ideal) h (ix2 r 0) = level 0x43800000#32 fun k => latent h (ix2 r k) := by
  rw [val_main_v7_apply, val_main_v6_apply, val_main_cst_1_apply, val_main_v5_apply, val_main_v4_apply, val_main_cst_0_apply,
    val_main_v3_apply, show idx_main_v3 (ix2 r 0) = ix1 r by funext a; fin_cases a; rfl,
    val_main_v2_apply, val_main_cst_apply, Ideal.ofBits_def, Ideal.ofBits_zero_f32, zero_add]
  refine congrArg (fun e : EReal => Ideal.div e (Ideal.ofBits .f32 0x43800000#32) + Ideal.ofBits .f32 0x358637BD#32)
    (Finset.sum_congr rfl fun k _ => ?_)
  rw [val_main_v1_apply, show idx_main_v2 (ix1 r) k = ix2 r k by funext a; fin_cases a <;> rfl, ref_lat]
  rfl

theorem ref_root (r : Fin 2304) : val_main_v8 (F := Ideal) h (ix2 r 0) = Ideal.rsqrt (level 0x43800000#32 fun k => latent h (ix2 r k)) := by
  rw [val_main_v8_apply, ref_level]
  rfl

theorem ref_rms (r : Fin 2304) (s : Fin 256) : val_main_v13 (F := Ideal) h (ix2 r s) = rms 0x43800000#32 (fun k => latent h (ix2 r k)) s := by
  rw [val_main_v13_apply, ref_lat, val_main_v12_apply, show idx_main_v12 (ix2 r s) = ix2 r 0 by funext a; fin_cases a <;> rfl, ref_root]
  rfl

/-- The normed row's cotangent. -/
theorem ref_cot (r : Fin 2304) (s : Fin 256) : val_main_v21 (F := Ideal) d g (ix2 r s) = d (ix2 r s) * asRow g (ix2 0 s) := by
  rw [val_main_v21_apply, val_main_v20_apply, val_main_v14_apply]
  exact congrArg (fun e : EReal => d (ix2 r s) * e) (congrArg g (by funext a; fin_cases a; rfl))

theorem ref_dot (r : Fin 2304) : val_main_v25 (F := Ideal) h d g (ix2 r 0) = ∑ k : Fin 256, latent h (ix2 r k) * (d (ix2 r k) * asRow g (ix2 0 k)) := by
  rw [val_main_v25_apply, show idx_main_v25 (ix2 r 0) = ix1 r by funext a; fin_cases a; exact Fin.ext (by simp [idx_main_v25]),
    val_main_v24_apply, val_main_cst_5_apply, Ideal.ofBits_def, Ideal.ofBits_zero_f32, zero_add]
  refine Finset.sum_congr rfl fun k _ => ?_
  rw [val_main_v23_apply, show idx_main_v24 (ix1 r) k = ix2 r k by funext a; fin_cases a <;> rfl, ref_lat, ref_cot]
  rfl

/-- What every entry of a row gets through the mean. -/
theorem ref_pull (r : Fin 2304) (s : Fin 256) : val_main_v32 (F := Ideal) h d g (ix2 r s)
    = pull 0x43800000#32 (fun k => latent h (ix2 r k)) fun k => d (ix2 r k) * asRow g (ix2 0 k) := by
  rw [val_main_v32_apply, show idx_main_v32 (ix2 r s) = ix1 r by funext a; fin_cases a; rfl,
    val_main_v31_apply, val_main_cst_7_apply, Ideal.ofBits_def, Ideal.ofBits_zero_f32, zero_add, Fin.sum_univ_one,
    show idx_main_v31 (ix1 r) 0 = ix2 r 0 by funext a; fin_cases a <;> rfl,
    val_main_v30_apply, val_main_v29_apply, val_main_cst_6_apply, val_main_v28_apply, ref_dot, val_main_v11_apply, val_main_v10_apply,
    val_main_cst_2_apply, val_main_v9_apply, ref_root, ref_level]
  rfl

/-- The reference's gradient of the key-value latents. -/
theorem reference_rows : val_main_v37 (F := Ideal) h d g
    = byRows (a := 2304) (n := 256) .bf16 0x43800000#32 (latent h) d (asRow g) := by
  funext i
  idx_vars i
  refine (val_main_v37_apply (F := Ideal) h d g _).trans (Eq.trans (b := val_main_v36 (F := Ideal) h d g (ix2 i0 i1)) rfl ?_)
  rw [val_main_v36_apply, val_main_v35_apply, val_main_v34_apply, val_main_v33_apply, val_main_v27_apply, ref_pull, ref_lat, ref_cot,
    val_main_v26_apply, show idx_main_v26 (ix2 i0 i1) = ix2 i0 0 by funext a; fin_cases a <;> rfl, ref_root]
  rfl

/-- The reference's gradient of the weights. -/
theorem reference_weights : val_main_v38 (F := Ideal) h d = byWeight (a := 2304) (n := 256) 0x43800000#32 (latent h) d := by
  funext i
  idx_vars i
  rw [val_main_v38_apply, show idx_main_v38 (ix2 i0 i1) = ix1 i1 by funext a; fin_cases a; rfl,
    val_main_v22_apply, val_main_cst_4_apply, Ideal.ofBits_def, Ideal.ofBits_zero_f32, zero_add, Fin.sum_univ_one,
    val_main_v19_apply, show idx_main_v19 (idx_main_v22 (ix1 i1) 0) = ix1 i1 by funext a; fin_cases a; exact Fin.ext (by simp [idx_main_v19, idx_main_v22]),
    val_main_v18_apply, val_main_cst_3_apply, Ideal.ofBits_def, Ideal.ofBits_zero_f32, zero_add]
  refine Finset.sum_congr rfl fun r _ => ?_
  rw [val_main_v17_apply, show idx_main_v18 (ix1 i1) r = ix2 r i1 by funext a; fin_cases a <;> rfl, ref_rms]
  rfl

/-- The kernel's run and the reference's run leave the same arrays. -/
theorem equation : algebraic_KvNormXIdeal_KvNormXReferenceIdeal := by
  intro m g m' g' _ hargs
  refine ⟨fun c => rows m c, fun c => weights m c,
    (θ_run _ _ _).mono (fun r h c => ⟨(h c).1.trans (final3 m c), (h c).2.1.trans (final4 m c), (h c).2.2⟩) (Cert.KvNormXIdeal.Value.run_blocks m g),
    (θ_run _ _ _).mono (fun r h c => ⟨(h c).1.trans ?_, (h c).2.1.trans ?_, (h c).2.2⟩) (Cert.KvNormXReferenceIdeal.Value.run m' g')⟩
  · obtain ⟨e0, e1, e2⟩ := hargs c
    rw [val_main_v37_eq, e0, e1, e2]
    exact reference_rows _ _ _
  · obtain ⟨e0, e1, e2⟩ := hargs c
    rw [val_main_v38_eq, e0, e1]
    exact reference_weights _ _

end Cert.KeyNormX

end
-- ==== Proof.ResidX.lean ====
/- The gradients of the first residual sum and the modulated norm after it: what their call leaves in its results. -/
module

public import proofs.«01_k».proof.Proof.Gen.ResidXIdeal.Value
public import proofs.«01_k».proof.Proof.NormGrad
public import Idealize.ShloMosaic.Lib.IdealHost
public import Idealize.ShloMosaic.Lib.Pipeline.ValueKit
public import Idealize.ShloMosaic.Lib.Pipeline.ReadBack

@[expose] public section

set_option maxRecDepth 16384

noncomputable section

namespace Cert.ResidNormX

open Cert.ResidXIdeal Cert.ResidXIdeal.Gen Cert.RowScale Cert.NormGrad Cert.Accumulate Idealize.ShloMosaic Idealize.ShloMosaic.TcCoe Idealize.SL.Sem

theorem idx0 : ∀ t : Fin grid0.N, win0_0.index t = ![t.val, 0] := by decide +kernel
theorem idx1 : ∀ t : Fin grid0.N, win0_1.index t = ![t.val, 0] := by decide +kernel
theorem idx2 : ∀ t : Fin grid0.N, win0_2.index t = ![t.val, 0] := by decide +kernel
theorem idx3 : ∀ t : Fin grid0.N, win0_3.index t = ![t.val, 0] := by decide +kernel
theorem idx4 : ∀ t : Fin grid0.N, win0_4.index t = ![0, 0] := by decide +kernel
theorem idx5 : ∀ t : Fin grid0.N, win0_5.index t = ![0, 0] := by decide +kernel
theorem idx6 : ∀ t : Fin grid0.N, win0_6.index t = ![0, 0] := by decide +kernel
theorem idx8 : ∀ t : Fin grid0.N, win0_8.index t = ![t.val, 0] := by decide +kernel
theorem idx10 : ∀ t : Fin grid0.N, win0_10.index t = ![0, 0] := by decide +kernel

/-! ## What the body computes -/

/-- What a row of the residual sum gets: what it gets otherwise, and what comes through its norm. -/
def rowGrad {n : ℕ} (f u : Fin n → EReal) (e : EReal) (s : Fin n) : EReal :=
  e + u s * Ideal.rsqrt (level 0x45000000#32 f) + f s * pull 0x45000000#32 f u + pull 0x45000000#32 f u * f s

theorem sum_at (x o : FVec Ideal S256x2048 .f32) (g : FVec Ideal S1x2048 .f32) (r : Fin 256) (s : Fin 2048) :
    k0_pay6 (F := Ideal) x o g (ix2 r s) = x (ix2 r s) + g (ix2 0 s) * o (ix2 r s) := by
  pointwise [k0_pay6, k0_pay4]

variable (x o e d : FVec Ideal S256x2048 .f32) (g n p : FVec Ideal S1x2048 .f32)

theorem level_at (r : Fin 256) : k0_pay7 (F := Ideal) x o g (ix2 r 0) = level 0x45000000#32 fun k => k0_pay6 (F := Ideal) x o g (ix2 r k) := by
  unfold k0_pay7
  generalize k0_pay6 (F := Ideal) x o g = f
  pointwise [level]

theorem root_at (r : Fin 256) :
    k0_pay8 (F := Ideal) x o g (ix2 r 0) = Ideal.rsqrt (level 0x45000000#32 fun k => k0_pay6 (F := Ideal) x o g (ix2 r k)) := by
  rw [← level_at]
  unfold k0_pay8
  generalize k0_pay7 (F := Ideal) x o g = w
  pointwise

theorem slope_at (r : Fin 256) : k0_pay9 (F := Ideal) x o g (ix2 r 0) = Ideal.ofBits .f32 0xBF000000#32
    * Ideal.div (Ideal.rsqrt (level 0x45000000#32 fun k => k0_pay6 (F := Ideal) x o g (ix2 r k))) (level 0x45000000#32 fun k => k0_pay6 (F := Ideal) x o g (ix2 r k)) := by
  rw [← root_at, ← level_at]
  unfold k0_pay9
  generalize k0_pay8 (F := Ideal) x o g = q
  generalize k0_pay7 (F := Ideal) x o g = w
  pointwise

theorem rms_at (r : Fin 256) (s : Fin 2048) :
    k0_pay10 (F := Ideal) x o g (ix2 r s) = rms 0x45000000#32 (fun k => k0_pay6 (F := Ideal) x o g (ix2 r k)) s := by
  refine Eq.trans (b := k0_pay6 (F := Ideal) x o g (ix2 r s) * k0_pay8 (F := Ideal) x o g (ix2 r 0)) ?_ (by rw [root_at]; rfl)
  unfold k0_pay10
  generalize k0_pay8 (F := Ideal) x o g = q
  generalize k0_pay6 (F := Ideal) x o g = f
  pointwise

theorem scaled_at (r : Fin 256) (s : Fin 2048) : k0_pay14 (F := Ideal) d p (ix2 r s) = scaled (a := 256) (n := 2048) d p (ix2 r s) := by
  pointwise [k0_pay14, k0_pay11, scaled]

/-- The gradient of the sum from its parts, whatever they are. -/
theorem parts_at (f u : FVec Ideal S256x2048 .f32) (q w : FVec Ideal S256x1 .f32) (r : Fin 256) (s : Fin 2048) :
    k0_pay16 (F := Ideal) e (k0_pay5 n) f q w u (ix2 r s) = e (ix2 r s) + u (ix2 r s) * n (ix2 0 s) * q (ix2 r 0)
      + f (ix2 r s) * Ideal.div ((∑ k : Fin 2048, f (ix2 r k) * (u (ix2 r k) * n (ix2 0 k))) * w (ix2 r 0)) (Ideal.ofBits .f32 0x45000000#32)
      + Ideal.div ((∑ k : Fin 2048, f (ix2 r k) * (u (ix2 r k) * n (ix2 0 k))) * w (ix2 r 0)) (Ideal.ofBits .f32 0x45000000#32) * f (ix2 r s) := by
  pointwise [k0_pay16, k0_pay5]
  simp only [Fin.sum_univ_one]

theorem rows_at (r : Fin 256) (s : Fin 2048) :
    k0_pay16 (F := Ideal) e (k0_pay5 n) (k0_pay6 x o g) (k0_pay8 x o g) (k0_pay9 x o g) (k0_pay14 d p) (ix2 r s)
      = rowGrad (fun k => k0_pay6 (F := Ideal) x o g (ix2 r k)) (fun k => scaled (a := 256) (n := 2048) d p (ix2 r k) * n (ix2 0 k)) (e (ix2 r s)) s := by
  rw [parts_at, root_at, slope_at]
  simp only [scaled_at]
  rfl

theorem outs_at (f u : FVec Ideal S256x2048 .f32) (q w : FVec Ideal S256x1 .f32) (r : Fin 256) (s : Fin 2048) :
    k0_pay18 (F := Ideal) e (k0_pay4 g) (k0_pay5 n) f q w u (ix2 r s) = g (ix2 0 s) * k0_pay16 (F := Ideal) e (k0_pay5 n) f q w u (ix2 r s) := by
  unfold k0_pay18 k0_pay17
  generalize k0_pay16 (F := Ideal) e (k0_pay5 n) f q w u = z
  pointwise [k0_pay4]

theorem gate_at (f u : FVec Ideal S256x2048 .f32) (q w : FVec Ideal S256x1 .f32) (acc : FVec Ideal S1x2048 .f32) (s : Fin 2048) :
    k0_pay23 (F := Ideal) o e (k0_pay5 n) f q w u acc (ix2 0 s)
      = acc (ix2 0 s) + ∑ r : Fin 256, k0_pay16 (F := Ideal) e (k0_pay5 n) f q w u (ix2 r s) * o (ix2 r s) := by
  unfold k0_pay23 k0_pay17
  generalize k0_pay16 (F := Ideal) e (k0_pay5 n) f q w u = z
  pointwise

theorem weight_at (s : Fin 2048) : k0_pay15 (F := Ideal) (k0_pay10 x o g) (k0_pay14 d p) (ix2 0 s)
    = ∑ r : Fin 256, rms 0x45000000#32 (fun k => k0_pay6 (F := Ideal) x o g (ix2 r k)) s * scaled (a := 256) (n := 2048) d p (ix2 r s) := by
  simp only [← rms_at, ← scaled_at]
  generalize k0_pay10 (F := Ideal) x o g = q
  generalize k0_pay14 (F := Ideal) d p = u
  pointwise [k0_pay15]

theorem scale_at (s : Fin 2048) : k0_pay13 (F := Ideal) x o d g n (ix2 0 s)
    = ∑ r : Fin 256, rms 0x45000000#32 (fun k => k0_pay6 (F := Ideal) x o g (ix2 r k)) s * n (ix2 0 s) * d (ix2 r s) := by
  simp only [← rms_at]
  unfold k0_pay13
  generalize k0_pay10 (F := Ideal) x o g = q
  pointwise [k0_pay5, k0_pay11]

theorem shift_at (s : Fin 2048) : k0_pay12 (F := Ideal) d (ix2 0 s) = ∑ r : Fin 256, d (ix2 r s) := by
  pointwise [k0_pay12]

theorem add1_at (s : Fin 2048) : k0_pay1 (F := Ideal) g (k0_pay24 n) (ix2 0 s) = n (ix2 0 s) + g (ix2 0 s) := by
  pointwise [k0_pay1, k0_pay24]
theorem add2_at (s : Fin 2048) : k0_pay2 (F := Ideal) g n (ix2 0 s) = n (ix2 0 s) + g (ix2 0 s) := by
  pointwise [k0_pay2]
theorem add3_at (s : Fin 2048) : k0_pay3 (F := Ideal) g n (ix2 0 s) = n (ix2 0 s) + g (ix2 0 s) := by
  pointwise [k0_pay3]
theorem zero19_at (s : Fin 2048) : k0_pay19 (F := Ideal) (ix2 0 s) = 0 := by
  pointwise [k0_pay19]
theorem zero20_at (s : Fin 2048) : k0_pay20 (F := Ideal) (ix2 0 s) = 0 := by
  pointwise [k0_pay20]
theorem zero21_at (s : Fin 2048) : k0_pay21 (F := Ideal) (ix2 0 s) = 0 := by
  pointwise [k0_pay21]
theorem zero22_at (s : Fin 2048) : k0_pay22 (F := Ideal) (ix2 0 s) = 0 := by
  pointwise [k0_pay22]

section Body
variable {F : FTy → Type} [FloatOps F] (m : (ℓ : Loc nD τ sig) → Buf (Elt F) ℓ) (c : Dev nD) (t : Fin cfg0.N)

/-- A block of the sum, its rows' roots and slopes, and the cotangent scaled. -/
abbrev sumB := k0_pay6 (iblk m c 0 t) (iblk m c 1 t) (iblk m c 4 t)
abbrev rootB := k0_pay8 (iblk m c 0 t) (iblk m c 1 t) (iblk m c 4 t)
abbrev slopeB := k0_pay9 (iblk m c 0 t) (iblk m c 1 t) (iblk m c 4 t)
abbrev cotB := k0_pay14 (iblk m c 3 t) (iblk m c 6 t)

theorem body8 : (outsAt0 m c t.val t.isLt).1 = k0_pay16 (iblk m c 2 t) (k0_pay5 (iblk m c 5 t)) (sumB m c t) (rootB m c t) (slopeB m c t) (cotB m c t) := by
  by_cases h0 : t.val % 8 = 0
  · rw [outsAt0_A m c t h0]
    frame_out
  · rw [outsAt0_B m c t h0]
    generalize outsAt0 m c (t.val - 1) (Nat.lt_of_le_of_lt (Nat.sub_le _ _) t.isLt) = acc
    frame_out
theorem body9 : (outsAt0 m c t.val t.isLt).2.1 = k0_pay18 (iblk m c 2 t) (k0_pay4 (iblk m c 4 t)) (k0_pay5 (iblk m c 5 t)) (sumB m c t) (rootB m c t) (slopeB m c t) (cotB m c t) := by
  by_cases h0 : t.val % 8 = 0
  · rw [outsAt0_A m c t h0]
    frame_out
  · rw [outsAt0_B m c t h0]
    generalize outsAt0 m c (t.val - 1) (Nat.lt_of_le_of_lt (Nat.sub_le _ _) t.isLt) = acc
    frame_out

theorem body10_A (h0 : t.val % 8 = 0) : (outsAt0 m c t.val t.isLt).2.2.1 = k0_pay23 (iblk m c 1 t) (iblk m c 2 t) (k0_pay5 (iblk m c 5 t)) (sumB m c t) (rootB m c t) (slopeB m c t) (cotB m c t) k0_pay19 := by
  rw [outsAt0_A m c t h0]
  frame_out
theorem body11_A (h0 : t.val % 8 = 0) : (outsAt0 m c t.val t.isLt).2.2.2.1 = k0_pay1 (k0_pay15 (k0_pay10 (iblk m c 0 t) (iblk m c 1 t) (iblk m c 4 t)) (k0_pay14 (iblk m c 3 t) (iblk m c 6 t))) (k0_pay24 k0_pay20) := by
  rw [outsAt0_A m c t h0]
  frame_out
theorem body12_A (h0 : t.val % 8 = 0) : (outsAt0 m c t.val t.isLt).2.2.2.2.1 = k0_pay2 (k0_pay13 (iblk m c 0 t) (iblk m c 1 t) (iblk m c 3 t) (iblk m c 4 t) (iblk m c 5 t)) k0_pay21 := by
  rw [outsAt0_A m c t h0]
  frame_out
theorem body13_A (h0 : t.val % 8 = 0) : (outsAt0 m c t.val t.isLt).2.2.2.2.2 = k0_pay3 (k0_pay12 (iblk m c 3 t)) k0_pay22 := by
  rw [outsAt0_A m c t h0]
  frame_out

theorem body10_B (h0 : ¬t.val % 8 = 0) : (outsAt0 m c t.val t.isLt).2.2.1 = k0_pay23 (iblk m c 1 t) (iblk m c 2 t) (k0_pay5 (iblk m c 5 t)) (sumB m c t) (rootB m c t) (slopeB m c t) (cotB m c t)
    (outsAt0 m c (t.val - 1) (Nat.lt_of_le_of_lt (Nat.sub_le _ _) t.isLt)).2.2.1 := by
  rw [outsAt0_B m c t h0]
  generalize outsAt0 m c (t.val - 1) (Nat.lt_of_le_of_lt (Nat.sub_le _ _) t.isLt) = acc
  frame_out
theorem body11_B (h0 : ¬t.val % 8 = 0) : (outsAt0 m c t.val t.isLt).2.2.2.1 = k0_pay1 (k0_pay15 (k0_pay10 (iblk m c 0 t) (iblk m c 1 t) (iblk m c 4 t)) (k0_pay14 (iblk m c 3 t) (iblk m c 6 t)))
    (k0_pay24 (outsAt0 m c (t.val - 1) (Nat.lt_of_le_of_lt (Nat.sub_le _ _) t.isLt)).2.2.2.1) := by
  rw [outsAt0_B m c t h0]
  generalize outsAt0 m c (t.val - 1) (Nat.lt_of_le_of_lt (Nat.sub_le _ _) t.isLt) = acc
  frame_out
theorem body12_B (h0 : ¬t.val % 8 = 0) : (outsAt0 m c t.val t.isLt).2.2.2.2.1 = k0_pay2 (k0_pay13 (iblk m c 0 t) (iblk m c 1 t) (iblk m c 3 t) (iblk m c 4 t) (iblk m c 5 t))
    (outsAt0 m c (t.val - 1) (Nat.lt_of_le_of_lt (Nat.sub_le _ _) t.isLt)).2.2.2.2.1 := by
  rw [outsAt0_B m c t h0]
  generalize outsAt0 m c (t.val - 1) (Nat.lt_of_le_of_lt (Nat.sub_le _ _) t.isLt) = acc
  frame_out
theorem body13_B (h0 : ¬t.val % 8 = 0) : (outsAt0 m c t.val t.isLt).2.2.2.2.2 = k0_pay3 (k0_pay12 (iblk m c 3 t))
    (outsAt0 m c (t.val - 1) (Nat.lt_of_le_of_lt (Nat.sub_le _ _) t.isLt)).2.2.2.2.2 := by
  rw [outsAt0_B m c t h0]
  generalize outsAt0 m c (t.val - 1) (Nat.lt_of_le_of_lt (Nat.sub_le _ _) t.isLt) = acc
  frame_out

end Body

/-! ## What the windows hold -/

/-- The weight as a single row, and the gate's and the scale's rows of the modulation. -/
def asRow (x : FVec Ideal S2048 .f32) : FVec Ideal S1x2048 .f32 := fun i => x (ix1 (i 1))
def gate (x : FVec Ideal S6x2048 .f32) : FVec Ideal S1x2048 .f32 := fun i => x (ix2 2 (i 1))
def scale (x : FVec Ideal S6x2048 .f32) : FVec Ideal S1x2048 .f32 := fun i => x (ix2 4 (i 1))

theorem asRow_eq (x : FVec Ideal S2048 .f32) : broadcastInDim S1x2048 ![1] bcast_S2048_S1x2048_1 x = asRow x := by
  funext i
  refine congrArg x ?_
  funext a
  fin_cases a
  rfl
theorem gate_eq (x : FVec Ideal S6x2048 .f32) : extractStridedSlice S1x2048 ![2, 0] x slices_S6x2048_S1x2048_2_0 = gate x := by
  funext i
  idx_vars i
  obtain rfl : i0 = 0 := Subsingleton.elim _ _
  pointwise [gate]
theorem scale_eq (x : FVec Ideal S6x2048 .f32) : extractStridedSlice S1x2048 ![4, 0] x slices_S6x2048_S1x2048_4_0 = scale x := by
  funext i
  idx_vars i
  obtain rfl : i0 = 0 := Subsingleton.elim _ _
  pointwise [scale]

variable (m : (ℓ : Loc nD τ sig) → Buf (Elt Ideal) ℓ) (c : Dev nD) (t : Fin cfg0.N)

/-- The arguments. -/
def tok : FVec Ideal S2048x2048 .f32 := m ((c : Thread nD τ).loc main_arg0)
def out : FVec Ideal S2048x2048 .f32 := m ((c : Thread nD τ).loc main_arg1)
def more : FVec Ideal S2048x2048 .f32 := m ((c : Thread nD τ).loc main_arg2)
def cot : FVec Ideal S2048x2048 .f32 := m ((c : Thread nD τ).loc main_arg3)
def mods : FVec Ideal S6x2048 .f32 := m ((c : Thread nD τ).loc main_arg4)
def wgt : FVec Ideal S2048 .f32 := m ((c : Thread nD τ).loc main_arg5)

theorem host4 : V m c main_v1 = gate (mods m c) := by
  refine Eq.trans ?_ (gate_eq (mods m c))
  simp only [V, hostOps0]
  entry_read
  rfl
theorem host5 : V m c main_v0 = asRow (wgt m c) := by
  refine Eq.trans ?_ (asRow_eq (wgt m c))
  simp only [V, hostOps0]
  entry_read
  rfl
theorem host6 : V m c main_v3 = scale (mods m c) := by
  refine Eq.trans ?_ (scale_eq (mods m c))
  simp only [V, hostOps0]
  entry_read
  rfl

theorem lt8 : t.val < 8 := t.isLt

theorem blk0 (r : Fin 256) (s : Fin 2048) : iblk m c 0 t (ix2 r s) = tok m c (ix2 (mid 8 256 t.val r) s) := by
  have h : t.val % 8 = t.val := Nat.mod_eq_of_lt (lt8 t)
  have e : iblk m c 0 t (ix2 r s) = V m c main_arg0 (ix2 (mid 8 256 t.val r) s) := by
    blk_ext [iblk, idx0 t, mid, h]
  exact e.trans (congrFun (V_main_arg0 m c) _)
theorem blk1 (r : Fin 256) (s : Fin 2048) : iblk m c 1 t (ix2 r s) = out m c (ix2 (mid 8 256 t.val r) s) := by
  have h : t.val % 8 = t.val := Nat.mod_eq_of_lt (lt8 t)
  have e : iblk m c 1 t (ix2 r s) = V m c main_arg1 (ix2 (mid 8 256 t.val r) s) := by
    blk_ext [iblk, idx1 t, mid, h]
  exact e.trans (congrFun (V_main_arg1 m c) _)
theorem blk2 (r : Fin 256) (s : Fin 2048) : iblk m c 2 t (ix2 r s) = more m c (ix2 (mid 8 256 t.val r) s) := by
  have h : t.val % 8 = t.val := Nat.mod_eq_of_lt (lt8 t)
  have e : iblk m c 2 t (ix2 r s) = V m c main_arg2 (ix2 (mid 8 256 t.val r) s) := by
    blk_ext [iblk, idx2 t, mid, h]
  exact e.trans (congrFun (V_main_arg2 m c) _)
theorem blk3 (r : Fin 256) (s : Fin 2048) : iblk m c 3 t (ix2 r s) = cot m c (ix2 (mid 8 256 t.val r) s) := by
  have h : t.val % 8 = t.val := Nat.mod_eq_of_lt (lt8 t)
  have e : iblk m c 3 t (ix2 r s) = V m c main_arg3 (ix2 (mid 8 256 t.val r) s) := by
    blk_ext [iblk, idx3 t, mid, h]
  exact e.trans (congrFun (V_main_arg3 m c) _)
theorem blk4 (s : Fin 2048) : iblk m c 4 t (ix2 0 s) = gate (mods m c) (ix2 0 s) := by
  have e : iblk m c 4 t (ix2 0 s) = V m c main_v1 (ix2 0 s) := by
    blk_ext [iblk, idx4 t]
  exact e.trans (congrFun (host4 m c) _)
theorem blk5 (s : Fin 2048) : iblk m c 5 t (ix2 0 s) = asRow (wgt m c) (ix2 0 s) := by
  have e : iblk m c 5 t (ix2 0 s) = V m c main_v0 (ix2 0 s) := by
    blk_ext [iblk, idx5 t]
  exact e.trans (congrFun (host5 m c) _)
theorem blk6 (s : Fin 2048) : iblk m c 6 t (ix2 0 s) = scale (mods m c) (ix2 0 s) := by
  have e : iblk m c 6 t (ix2 0 s) = V m c main_v3 (ix2 0 s) := by
    blk_ext [iblk, idx6 t]
  exact e.trans (congrFun (host6 m c) _)

/-! ## The results -/

/-- The residual sum, gated column by column. -/
def summed (x o : FVec Ideal S2048x2048 .f32) (g : FVec Ideal S1x2048 .f32) : FVec Ideal S2048x2048 .f32 :=
  fun i => x i + g (ix2 0 (i 1)) * o i
/-- The gradient of the residual sum `f`. -/
def rowsOf (f e d : FVec Ideal S2048x2048 .f32) (n p : FVec Ideal S1x2048 .f32) : FVec Ideal S2048x2048 .f32 := fun i =>
  rowGrad (fun k => f (ix2 (i 0) k)) (fun k => scaled (a := 2048) (n := 2048) d p (ix2 (i 0) k) * n (ix2 0 k)) (e i) (i 1)
/-- The gradient of what is added, and that of its gate. -/
def outsOf (w : FVec Ideal S2048x2048 .f32) (g : FVec Ideal S1x2048 .f32) : FVec Ideal S2048x2048 .bf16 := fun i => g (ix2 0 (i 1)) * w i
def gatesOf (w o : FVec Ideal S2048x2048 .f32) : FVec Ideal S1x2048 .f32 := fun i => ∑ r : Fin 2048, w (ix2 r (i 1)) * o (ix2 r (i 1))

def first : FVec Ideal S2048x2048 .f32 := summed (tok m c) (out m c) (gate (mods m c))
def rows : FVec Ideal S2048x2048 .f32 := rowsOf (first m c) (more m c) (cot m c) (asRow (wgt m c)) (scale (mods m c))
def outs : FVec Ideal S2048x2048 .bf16 := outsOf (rows m c) (gate (mods m c))
def gates : FVec Ideal S1x2048 .f32 := gatesOf (rows m c) (out m c)
def weights : FVec Ideal S1x2048 .f32 :=
  byWeight (a := 2048) (n := 2048) 0x45000000#32 (first m c) (scaled (a := 2048) (n := 2048) (cot m c) (scale (mods m c)))
def scales : FVec Ideal S1x2048 .f32 := byScale (a := 2048) (n := 2048) 0x45000000#32 (first m c) (cot m c) (asRow (wgt m c))
def shifts : FVec Ideal S1x2048 .f32 := byShift (a := 2048) (n := 2048) (cot m c)

/-- The sum, the cotangent carried to the weighted norm, and the sum's gradient, at a block's row. -/
theorem blkF (r : Fin 256) (s : Fin 2048) :
    k0_pay6 (F := Ideal) (iblk m c 0 t) (iblk m c 1 t) (iblk m c 4 t) (ix2 r s) = first m c (ix2 (mid 8 256 t.val r) s) := by
  refine (sum_at _ _ _ r s).trans ?_
  rw [blk0, blk1, blk4]
  rfl
theorem blkS (r : Fin 256) (s : Fin 2048) : scaled (a := 256) (n := 2048) (iblk m c 3 t) (iblk m c 6 t) (ix2 r s)
    = scaled (a := 2048) (n := 2048) (cot m c) (scale (mods m c)) (ix2 (mid 8 256 t.val r) s) :=
  congrArg₂ (fun x y : EReal => x * (Ideal.ofBits .f32 0x3F800000#32 + y)) (blk3 m c t r s) (blk6 m c t s)
theorem blkR (r : Fin 256) (s : Fin 2048) : k0_pay16 (F := Ideal) (iblk m c 2 t) (k0_pay5 (iblk m c 5 t)) (sumB m c t) (rootB m c t) (slopeB m c t) (cotB m c t) (ix2 r s)
      = rows m c (ix2 (mid 8 256 t.val r) s) := by
  refine (rows_at _ _ _ _ _ _ _ r s).trans ?_
  simp only [blkF, blkS, blk2, blk5]
  rfl

theorem place8 (r : Fin 256) (s : Fin 2048) : ((cfg0.win 8).blk t).view.emb (ix2 r s) = ix2 (mid 8 256 t.val r) s := by
  funext a
  have := lt8 t
  match a with
  | ⟨0, _⟩ => exact Fin.ext (by show win0_8.index t (0 : Fin 2) * 256 + 1 * r.val = t.val % 8 * 256 + r.val; rw [idx8]; show t.val * 256 + 1 * r.val = _; omega)
  | ⟨1, _⟩ => exact Fin.ext (by show win0_8.index t (1 : Fin 2) * 2048 + 1 * s.val = s.val; rw [idx8]; show 0 * 2048 + 1 * s.val = _; omega)
theorem place9 (r : Fin 256) (s : Fin 2048) : ((cfg0.win 9).blk t).view.emb (ix2 r s) = ix2 (mid 8 256 t.val r) s :=
  place8 t r s

theorem place10 (s : Fin 2048) : ((cfg0.win 10).blk t).view.emb (ix2 0 s) = ix2 0 s := by
  funext a
  match a with
  | ⟨0, _⟩ => exact Fin.ext (by show win0_10.index t (0 : Fin 2) * 1 + 1 * 0 = 0; rw [idx10]; rfl)
  | ⟨1, _⟩ => exact Fin.ext (by show win0_10.index t (1 : Fin 2) * 2048 + 1 * s.val = s.val; rw [idx10]; show 0 * 2048 + 1 * s.val = _; omega)
theorem place11 (s : Fin 2048) : ((cfg0.win 11).blk t).view.emb (ix2 0 s) = ix2 0 s :=
  place10 t s
theorem place12 (s : Fin 2048) : ((cfg0.win 12).blk t).view.emb (ix2 0 s) = ix2 0 s :=
  place10 t s
theorem place13 (s : Fin 2048) : ((cfg0.win 13).blk t).view.emb (ix2 0 s) = ix2 0 s :=
  place10 t s

/-- The call leaves the gradient of the residual sum, which is that of the tokens, -/
theorem final8 : (dats m 0 c).arrAt 8 cfg0.N = rows m c := by
  refine (dats m 0 c).arrAt_eq_of_covers 8 _ (by decide +kernel) fun t _ y => ?_
  idx_vars y
  refine Eq.trans ?_ (congrArg (rows m c) (place8 t y0 y1).symm)
  show (dats m 0 c).after 8 t (ix2 y0 y1) = _
  rw [after0_8, body8]
  exact blkR m c t y0 y1
/-- and that of what is added. -/
theorem final9 : (dats m 0 c).arrAt 9 cfg0.N = outs m c := by
  refine (dats m 0 c).arrAt_eq_of_covers 9 _ (by decide +kernel) fun t _ y => ?_
  idx_vars y
  refine Eq.trans ?_ (congrArg (outs m c) (place9 t y0 y1).symm)
  show (dats m 0 c).after 9 t (ix2 y0 y1) = _
  rw [after0_9, body9]
  refine (outs_at _ _ _ _ _ _ _ y0 y1).trans ?_
  exact congrArg₂ (fun x y : EReal => x * y) (blk4 m c t y1) (blkR m c t y0 y1)

/-- After the last point the gradients of the gate, the weights, the scale and the shift are whole. -/
theorem block10 (ht : t.val % 8 = 7) (s : Fin 2048) : (outsAt0 m c t.val t.isLt).2.2.1 (ix2 0 s) = gates m c (ix2 0 s) := by
  have e : ∀ (t : Fin cfg0.N) (s : Fin 2048), ∑ r : Fin 256, k0_pay16 (F := Ideal) (iblk m c 2 t) (k0_pay5 (iblk m c 5 t)) (sumB m c t) (rootB m c t) (slopeB m c t) (cotB m c t) (ix2 r s) * iblk m c 1 t (ix2 r s)
      = ∑ r : Fin 256, rows m c (ix2 (mid 8 256 t.val r) s) * out m c (ix2 (mid 8 256 t.val r) s) := fun t s => by
    simp only [blkR, blk1]
  refine total (J := 8) (w := 256) (fun n h s => (outsAt0 m c n h).2.2.1 (ix2 0 s)) (fun (s : Fin 2048) r => rows m c (ix2 r s) * out m c (ix2 r s))
    (fun t h s => ?_) (fun t h s => ?_) t ht s
  · show (outsAt0 m c t.val t.isLt).2.2.1 (ix2 0 s) = _
    rw [body10_A m c t h, gate_at, zero19_at, zero_add]
    exact e t s
  · show (outsAt0 m c t.val t.isLt).2.2.1 (ix2 0 s) = (outsAt0 m c (t.val - 1) _).2.2.1 (ix2 0 s) + _
    rw [body10_B m c t h, gate_at]
    exact congrArg _ (e t s)

theorem block11 (ht : t.val % 8 = 7) (s : Fin 2048) : (outsAt0 m c t.val t.isLt).2.2.2.1 (ix2 0 s) = weights m c (ix2 0 s) := by
  have e : ∀ (t : Fin cfg0.N) (s : Fin 2048), k0_pay15 (F := Ideal) (k0_pay10 (iblk m c 0 t) (iblk m c 1 t) (iblk m c 4 t)) (k0_pay14 (iblk m c 3 t) (iblk m c 6 t)) (ix2 0 s)
      = ∑ r : Fin 256, rms 0x45000000#32 (fun k => first m c (ix2 (mid 8 256 t.val r) k)) s
        * scaled (a := 2048) (n := 2048) (cot m c) (scale (mods m c)) (ix2 (mid 8 256 t.val r) s) := fun t s => by
    rw [weight_at]
    simp only [blkF, blkS]
  refine total (J := 8) (w := 256) (fun n h s => (outsAt0 m c n h).2.2.2.1 (ix2 0 s))
    (fun (s : Fin 2048) r => rms 0x45000000#32 (fun k => first m c (ix2 r k)) s * scaled (a := 2048) (n := 2048) (cot m c) (scale (mods m c)) (ix2 r s))
    (fun t h s => ?_) (fun t h s => ?_) t ht s
  · show (outsAt0 m c t.val t.isLt).2.2.2.1 (ix2 0 s) = _
    rw [body11_A m c t h, add1_at, zero20_at, zero_add]
    exact e t s
  · show (outsAt0 m c t.val t.isLt).2.2.2.1 (ix2 0 s) = (outsAt0 m c (t.val - 1) _).2.2.2.1 (ix2 0 s) + _
    rw [body11_B m c t h, add1_at]
    exact congrArg _ (e t s)

theorem block12 (ht : t.val % 8 = 7) (s : Fin 2048) : (outsAt0 m c t.val t.isLt).2.2.2.2.1 (ix2 0 s) = scales m c (ix2 0 s) := by
  have e : ∀ (t : Fin cfg0.N) (s : Fin 2048), k0_pay13 (F := Ideal) (iblk m c 0 t) (iblk m c 1 t) (iblk m c 3 t) (iblk m c 4 t) (iblk m c 5 t) (ix2 0 s)
      = ∑ r : Fin 256, rms 0x45000000#32 (fun k => first m c (ix2 (mid 8 256 t.val r) k)) s * asRow (wgt m c) (ix2 0 s) * cot m c (ix2 (mid 8 256 t.val r) s) := fun t s => by
    rw [scale_at]
    simp only [blkF, blk3, blk5]
  refine total (J := 8) (w := 256) (fun n h s => (outsAt0 m c n h).2.2.2.2.1 (ix2 0 s))
    (fun (s : Fin 2048) r => rms 0x45000000#32 (fun k => first m c (ix2 r k)) s * asRow (wgt m c) (ix2 0 s) * cot m c (ix2 r s))
    (fun t h s => ?_) (fun t h s => ?_) t ht s
  · show (outsAt0 m c t.val t.isLt).2.2.2.2.1 (ix2 0 s) = _
    rw [body12_A m c t h, add2_at, zero21_at, zero_add]
    exact e t s
  · show (outsAt0 m c t.val t.isLt).2.2.2.2.1 (ix2 0 s) = (outsAt0 m c (t.val - 1) _).2.2.2.2.1 (ix2 0 s) + _
    rw [body12_B m c t h, add2_at]
    exact congrArg _ (e t s)

theorem block13 (ht : t.val % 8 = 7) (s : Fin 2048) : (outsAt0 m c t.val t.isLt).2.2.2.2.2 (ix2 0 s) = shifts m c (ix2 0 s) := by
  have e : ∀ (t : Fin cfg0.N) (s : Fin 2048), k0_pay12 (F := Ideal) (iblk m c 3 t) (ix2 0 s)
      = ∑ r : Fin 256, cot m c (ix2 (mid 8 256 t.val r) s) := fun t s => by
    rw [shift_at]
    simp only [blk3]
  refine total (J := 8) (w := 256) (fun n h s => (outsAt0 m c n h).2.2.2.2.2 (ix2 0 s)) (fun (s : Fin 2048) r => cot m c (ix2 r s))
    (fun t h s => ?_) (fun t h s => ?_) t ht s
  · show (outsAt0 m c t.val t.isLt).2.2.2.2.2 (ix2 0 s) = _
    rw [body13_A m c t h, add3_at, zero22_at, zero_add]
    exact e t s
  · show (outsAt0 m c t.val t.isLt).2.2.2.2.2 (ix2 0 s) = (outsAt0 m c (t.val - 1) _).2.2.2.2.2 (ix2 0 s) + _
    rw [body13_B m c t h, add3_at]
    exact congrArg _ (e t s)

/-- The call leaves the gradient of the gate. -/
theorem final10 : (dats m 0 c).arrAt 10 cfg0.N = gates m c := by
  refine (dats m 0 c).arrAt_eq_of_cover 10 _ (fun t hf => ?_) (fun i => ?_)
  · rw [Value.flushed10]
    funext y
    idx_vars y
    obtain rfl : y0 = 0 := Subsingleton.elim _ _
    exact (block10 m c t ((flush0_10 t).1 hf) y1).trans (congrArg (gates m c) (place10 t y1).symm)
  · idx_vars i
    obtain rfl : i0 = 0 := Subsingleton.elim _ _
    let t : Fin cfg0.N := ⟨7, by decide⟩
    refine ⟨t, (flush0_10 t).2 rfl, ?_⟩
    rw [← place10 t i1]
    exact View.emb_mem_set _ _

/-- The call leaves the gradient of the weights. -/
theorem final11 : (dats m 0 c).arrAt 11 cfg0.N = weights m c := by
  refine (dats m 0 c).arrAt_eq_of_cover 11 _ (fun t hf => ?_) (fun i => ?_)
  · rw [Value.flushed11]
    funext y
    idx_vars y
    obtain rfl : y0 = 0 := Subsingleton.elim _ _
    exact (block11 m c t ((flush0_11 t).1 hf) y1).trans (congrArg (weights m c) (place11 t y1).symm)
  · idx_vars i
    obtain rfl : i0 = 0 := Subsingleton.elim _ _
    let t : Fin cfg0.N := ⟨7, by decide⟩
    refine ⟨t, (flush0_11 t).2 rfl, ?_⟩
    rw [← place11 t i1]
    exact View.emb_mem_set _ _

/-- The call leaves the gradient of the scale. -/
theorem final12 : (dats m 0 c).arrAt 12 cfg0.N = scales m c := by
  refine (dats m 0 c).arrAt_eq_of_cover 12 _ (fun t hf => ?_) (fun i => ?_)
  · rw [Value.flushed12]
    funext y
    idx_vars y
    obtain rfl : y0 = 0 := Subsingleton.elim _ _
    exact (block12 m c t ((flush0_12 t).1 hf) y1).trans (congrArg (scales m c) (place12 t y1).symm)
  · idx_vars i
    obtain rfl : i0 = 0 := Subsingleton.elim _ _
    let t : Fin cfg0.N := ⟨7, by decide⟩
    refine ⟨t, (flush0_12 t).2 rfl, ?_⟩
    rw [← place12 t i1]
    exact View.emb_mem_set _ _

/-- The call leaves the gradient of the shift. -/
theorem final13 : (dats m 0 c).arrAt 13 cfg0.N = shifts m c := by
  refine (dats m 0 c).arrAt_eq_of_cover 13 _ (fun t hf => ?_) (fun i => ?_)
  · rw [Value.flushed13]
    funext y
    idx_vars y
    obtain rfl : y0 = 0 := Subsingleton.elim _ _
    exact (block13 m c t ((flush0_13 t).1 hf) y1).trans (congrArg (shifts m c) (place13 t y1).symm)
  · idx_vars i
    obtain rfl : i0 = 0 := Subsingleton.elim _ _
    let t : Fin cfg0.N := ⟨7, by decide⟩
    refine ⟨t, (flush0_13 t).2 rfl, ?_⟩
    rw [← place13 t i1]
    exact View.emb_mem_set _ _

end Cert.ResidNormX

end
-- ==== Proof.ResidXEquation.lean ====
/- The gradients of the first residual sum with its norm and their reference are the same arrays. -/
module

public import proofs.«01_k».proof.Defs
public import proofs.«01_k».proof.Proof.ResidX
public import proofs.«01_k».proof.Proof.Gen.ResidXReferenceIdeal.Run
public import proofs.«01_k».proof.Proof.Gen.ResidXReferenceIdeal.Read

@[expose] public section

set_option maxRecDepth 16384

noncomputable section

namespace Cert.ResidNormX

open Cert.ResidXReferenceIdeal Cert.ResidXReferenceIdeal.Read Cert.RowScale Cert.NormGrad Idealize.ShloMosaic Idealize.SL.Sem

variable (x o e d : FVec Ideal S2048x2048 .f32) (mo : FVec Ideal S6x2048 .f32) (g : FVec Ideal S2048 .f32)

/-- The gate's row, as the reference lays it out. -/
theorem ref_gate (s : Fin 2048) : val_main_v6 (F := Ideal) mo (ix2 0 s) = gate mo (ix2 0 s) := by
  rw [val_main_v6_apply, val_main_v1_apply, val_main_v0_apply]
  refine congrArg mo ?_
  funext a
  fin_cases a
  · rfl
  · exact Fin.ext (Nat.mod_eq_of_lt s.isLt)

theorem ref_first : val_main_v9 (F := Ideal) x o mo = summed x o (gate mo) := by
  funext i
  idx_vars i
  rw [val_main_v9_apply, val_main_v8_apply, val_main_v7_apply, show idx_main_v7 (ix2 i0 i1) = ix2 0 i1 by funext a; fin_cases a <;> rfl, ref_gate]
  rfl

theorem ref_level (r : Fin 2048) : val_main_v16 (F := Ideal) x o mo (ix2 r 0) = level 0x45000000#32 fun k => summed x o (gate mo) (ix2 r k) := by
  rw [val_main_v16_apply, val_main_v15_apply, val_main_cst_1_apply, val_main_v14_apply, val_main_v13_apply, val_main_cst_0_apply,
    val_main_v12_apply, show idx_main_v12 (ix2 r 0) = ix1 r by funext a; fin_cases a; rfl,
    val_main_v11_apply, val_main_cst_apply, Ideal.ofBits_def, Ideal.ofBits_zero_f32, zero_add]
  refine congrArg (fun e : EReal => Ideal.div e (Ideal.ofBits .f32 0x45000000#32) + Ideal.ofBits .f32 0x358637BD#32)
    (Finset.sum_congr rfl fun k _ => ?_)
  rw [val_main_v10_apply, show idx_main_v11 (ix1 r) k = ix2 r k by funext a; fin_cases a <;> rfl, ref_first]
  rfl

theorem ref_root (r : Fin 2048) :
    val_main_v17 (F := Ideal) x o mo (ix2 r 0) = Ideal.rsqrt (level 0x45000000#32 fun k => summed x o (gate mo) (ix2 r k)) := by
  rw [val_main_v17_apply, ref_level]
  rfl

theorem ref_rms (r s : Fin 2048) : val_main_v22 (F := Ideal) x o mo (ix2 r s) = rms 0x45000000#32 (fun k => summed x o (gate mo) (ix2 r k)) s := by
  rw [val_main_v22_apply, val_main_v21_apply, show idx_main_v21 (ix2 r s) = ix2 r 0 by funext a; fin_cases a <;> rfl, ref_root, ref_first]
  rfl

theorem ref_weighted (r s : Fin 2048) : val_main_v25 (F := Ideal) x o mo g (ix2 r s)
    = rms 0x45000000#32 (fun k => summed x o (gate mo) (ix2 r k)) s * asRow g (ix2 0 s) := by
  rw [val_main_v25_apply, ref_rms, val_main_v24_apply, val_main_v23_apply]
  exact congrArg (fun y : EReal => rms 0x45000000#32 (fun k => summed x o (gate mo) (ix2 r k)) s * y) (congrArg g (by funext a; fin_cases a; rfl))

/-- The cotangent as given. -/
theorem ref_given (r s : Fin 2048) : val_main_v34 (F := Ideal) d (ix2 r s) = d (ix2 r s) := by
  rw [val_main_v34_apply]
  refine congrArg d ?_
  have := r.isLt
  have := s.isLt
  funext a
  match a with
  | ⟨0, _⟩ => exact Fin.ext (by show (r.val * 2048 + s.val) / 2048 = r.val; omega)
  | ⟨1, _⟩ => exact Fin.ext (by show (r.val * 2048 + s.val) % 2048 = s.val; omega)

theorem ref_scale (s : Fin 2048) : val_main_v28 (F := Ideal) mo (ix2 0 s) = Ideal.ofBits .f32 0x3F800000#32 + scale mo (ix2 0 s) := by
  rw [val_main_v28_apply, val_main_v27_apply, val_main_v26_apply, val_main_cst_3_apply, val_main_v3_apply, val_main_v2_apply]
  refine congrArg (fun y : EReal => Ideal.ofBits .f32 0x3F800000#32 + y) (congrArg mo ?_)
  funext a
  fin_cases a
  · rfl
  · exact Fin.ext (Nat.mod_eq_of_lt s.isLt)

theorem ref_scaled (r s : Fin 2048) : val_main_v42 (F := Ideal) d mo (ix2 r s) = scaled (a := 2048) (n := 2048) d (scale mo) (ix2 r s) := by
  rw [val_main_v42_apply, ref_given, val_main_v41_apply, show idx_main_v41 (ix2 r s) = ix2 0 s by funext a; fin_cases a <;> rfl, ref_scale]
  rfl

/-- The normed row's cotangent. -/
theorem ref_cot (r s : Fin 2048) : val_main_v48 (F := Ideal) d mo g (ix2 r s)
    = scaled (a := 2048) (n := 2048) d (scale mo) (ix2 r s) * asRow g (ix2 0 s) := by
  rw [val_main_v48_apply, ref_scaled, val_main_v47_apply, val_main_v23_apply]
  exact congrArg (fun y : EReal => scaled (a := 2048) (n := 2048) d (scale mo) (ix2 r s) * y) (congrArg g (by funext a; fin_cases a; rfl))

theorem ref_dot (r : Fin 2048) : val_main_v52 (F := Ideal) x o d mo g (ix2 r 0)
    = ∑ k : Fin 2048, summed x o (gate mo) (ix2 r k) * (scaled (a := 2048) (n := 2048) d (scale mo) (ix2 r k) * asRow g (ix2 0 k)) := by
  rw [val_main_v52_apply, show idx_main_v52 (ix2 r 0) = ix1 r by funext a; fin_cases a; exact Fin.ext (by simp [idx_main_v52]),
    val_main_v51_apply, val_main_cst_10_apply, Ideal.ofBits_def, Ideal.ofBits_zero_f32, zero_add]
  refine Finset.sum_congr rfl fun k _ => ?_
  rw [val_main_v50_apply, show idx_main_v51 (ix1 r) k = ix2 r k by funext a; fin_cases a <;> rfl, ref_cot, ref_first]
  rfl

/-- What every entry of a row gets through the mean. -/
theorem ref_pull (r s : Fin 2048) : val_main_v60 (F := Ideal) x o d mo g (ix2 r s)
    = pull 0x45000000#32 (fun k => summed x o (gate mo) (ix2 r k)) fun k => scaled (a := 2048) (n := 2048) d (scale mo) (ix2 r k) * asRow g (ix2 0 k) := by
  rw [val_main_v60_apply, show idx_main_v60 (ix2 r s) = ix1 r by funext a; fin_cases a; rfl,
    val_main_v59_apply, val_main_cst_12_apply, Ideal.ofBits_def, Ideal.ofBits_zero_f32, zero_add, Fin.sum_univ_one,
    show idx_main_v59 (ix1 r) 0 = ix2 r 0 by funext a; fin_cases a <;> rfl,
    val_main_v58_apply, val_main_v57_apply, val_main_cst_11_apply, val_main_v56_apply, ref_dot, val_main_v20_apply, val_main_v19_apply,
    val_main_cst_2_apply, val_main_v18_apply, ref_root, ref_level]
  rfl

/-- The reference's gradient of the residual sum, -/
theorem reference_rows : val_main_v64 (F := Ideal) x o e d mo g = rowsOf (summed x o (gate mo)) e d (asRow g) (scale mo) := by
  funext i
  idx_vars i
  rw [val_main_v64_apply, val_main_v63_apply, val_main_v62_apply, val_main_v61_apply, val_main_v55_apply, val_main_v54_apply, ref_pull, ref_cot, ref_first,
    val_main_v53_apply, show idx_main_v53 (ix2 i0 i1) = ix2 i0 0 by funext a; fin_cases a <;> rfl, ref_root]
  rfl

theorem ref_again (r s : Fin 2048) : val_main_v65 (F := Ideal) x o e d mo g (ix2 r s)
    = rowsOf (summed x o (gate mo)) e d (asRow g) (scale mo) (ix2 r s) := by
  rw [val_main_v65_apply, reference_rows]
  refine congrArg (rowsOf (summed x o (gate mo)) e d (asRow g) (scale mo)) ?_
  have := r.isLt
  have := s.isLt
  funext a
  match a with
  | ⟨0, _⟩ => exact Fin.ext (by show (r.val * 2048 + s.val) / 2048 = r.val; omega)
  | ⟨1, _⟩ => exact Fin.ext (by show (r.val * 2048 + s.val) % 2048 = s.val; omega)

/-- of what is added, -/
theorem reference_outs : val_main_v72 (F := Ideal) x o e d mo g
    = outsOf (rowsOf (summed x o (gate mo)) e d (asRow g) (scale mo)) (gate mo) := by
  funext i
  idx_vars i
  rw [val_main_v72_apply, val_main_v67_apply, ref_again, val_main_v66_apply, show idx_main_v66 (ix2 i0 i1) = ix2 0 i1 by funext a; fin_cases a <;> rfl, ref_gate]
  rfl

/-- and of its gate. -/
theorem reference_gates : val_main_v73 (F := Ideal) x o e d mo g
    = gatesOf (rowsOf (summed x o (gate mo)) e d (asRow g) (scale mo)) o := by
  funext i
  idx_vars i
  rw [val_main_v73_apply, show idx_main_v73 (ix2 i0 i1) = ix1 i1 by funext a; fin_cases a; rfl,
    val_main_v71_apply, val_main_cst_14_apply, Ideal.ofBits_def, Ideal.ofBits_zero_f32, zero_add, Fin.sum_univ_one,
    val_main_v70_apply, show idx_main_v70 (idx_main_v71 (ix1 i1) 0) = ix1 i1 by funext a; fin_cases a; exact Fin.ext (by simp [idx_main_v70, idx_main_v71]),
    val_main_v69_apply, val_main_cst_13_apply, Ideal.ofBits_def, Ideal.ofBits_zero_f32, zero_add]
  refine Finset.sum_congr rfl fun r _ => ?_
  rw [val_main_v68_apply, show idx_main_v69 (ix1 i1) r = ix2 r i1 by funext a; fin_cases a <;> rfl, ref_again]
  rfl

/-- The reference's gradient of the weights. -/
theorem reference_weights : val_main_v74 (F := Ideal) x o d mo
    = byWeight (a := 2048) (n := 2048) 0x45000000#32 (summed x o (gate mo)) (scaled (a := 2048) (n := 2048) d (scale mo)) := by
  funext i
  idx_vars i
  rw [val_main_v74_apply, show idx_main_v74 (ix2 i0 i1) = ix1 i1 by funext a; fin_cases a; rfl,
    val_main_v49_apply, val_main_cst_9_apply, Ideal.ofBits_def, Ideal.ofBits_zero_f32, zero_add, Fin.sum_univ_one,
    val_main_v46_apply, show idx_main_v46 (idx_main_v49 (ix1 i1) 0) = ix1 i1 by funext a; fin_cases a; exact Fin.ext (by simp [idx_main_v46, idx_main_v49]),
    val_main_v45_apply, val_main_cst_8_apply, Ideal.ofBits_def, Ideal.ofBits_zero_f32, zero_add]
  refine Finset.sum_congr rfl fun r _ => ?_
  rw [val_main_v44_apply, show idx_main_v45 (ix1 i1) r = ix2 r i1 by funext a; fin_cases a <;> rfl, ref_rms, ref_scaled]
  rfl

/-- The reference's gradient of the scale. -/
theorem reference_scales : val_main_v75 (F := Ideal) x o d mo g
    = byScale (a := 2048) (n := 2048) 0x45000000#32 (summed x o (gate mo)) d (asRow g) := by
  funext i
  idx_vars i
  rw [val_main_v75_apply, show idx_main_v75 (ix2 i0 i1) = ix1 i1 by funext a; fin_cases a; rfl,
    val_main_v43_apply, val_main_cst_7_apply, Ideal.ofBits_def, Ideal.ofBits_zero_f32, zero_add, Fin.sum_univ_one,
    val_main_v40_apply, show idx_main_v40 (idx_main_v43 (ix1 i1) 0) = ix1 i1 by funext a; fin_cases a; exact Fin.ext (by simp [idx_main_v40, idx_main_v43]),
    val_main_v39_apply, val_main_cst_6_apply, Ideal.ofBits_def, Ideal.ofBits_zero_f32, zero_add]
  refine Finset.sum_congr rfl fun r _ => ?_
  rw [val_main_v38_apply, show idx_main_v39 (ix1 i1) r = ix2 r i1 by funext a; fin_cases a <;> rfl, ref_weighted, ref_given]
  rfl

/-- The reference's gradient of the shift. -/
theorem reference_shifts : val_main_v76 (F := Ideal) d = byShift (a := 2048) (n := 2048) d := by
  funext i
  idx_vars i
  rw [val_main_v76_apply, show idx_main_v76 (ix2 i0 i1) = ix1 i1 by funext a; fin_cases a; rfl,
    val_main_v37_apply, val_main_cst_5_apply, Ideal.ofBits_def, Ideal.ofBits_zero_f32, zero_add, Fin.sum_univ_one,
    val_main_v36_apply, show idx_main_v36 (idx_main_v37 (ix1 i1) 0) = ix1 i1 by funext a; fin_cases a; exact Fin.ext (by simp [idx_main_v36, idx_main_v37]),
    val_main_v35_apply, val_main_cst_4_apply, Ideal.ofBits_def, Ideal.ofBits_zero_f32, zero_add]
  refine Finset.sum_congr rfl fun r _ => ?_
  exact congrArg d (by funext a; fin_cases a <;> rfl)

/-- The kernel's run and the reference's run leave the same arrays. -/
theorem equation : algebraic_ResidXIdeal_ResidXReferenceIdeal := by
  intro m k m' k' _ hargs
  refine ⟨fun c => rows m c, fun c => outs m c, fun c => gates m c, fun c => weights m c, fun c => scales m c, fun c => shifts m c,
    (θ_run _ _ _).mono (fun r h c => ⟨(h c).1.trans (final8 m c), (h c).2.1.trans (final9 m c), (h c).2.2.1.trans (final10 m c),
      (h c).2.2.2.1.trans (final11 m c), (h c).2.2.2.2.1.trans (final12 m c), (h c).2.2.2.2.2.1.trans (final13 m c),
      (h c).2.2.2.2.2.2⟩) (Cert.ResidXIdeal.Value.run_blocks m k),
    (θ_run _ _ _).mono (fun r h c => ⟨(h c).1.trans ?_, (h c).2.1.trans ?_, (h c).2.2.1.trans ?_, (h c).2.2.2.1.trans ?_,
      (h c).2.2.2.2.1.trans ?_, (h c).2.2.2.2.2.1.trans ?_, (h c).2.2.2.2.2.2⟩) (Cert.ResidXReferenceIdeal.Value.run m' k')⟩
  · obtain ⟨e0, e1, e2, e3, e4, e5⟩ := hargs c
    refine (val_main_v64_eq _ _).trans ?_
    rw [e0, e1, e2, e3, e4, e5]
    exact reference_rows _ _ _ _ _ _
  · obtain ⟨e0, e1, e2, e3, e4, e5⟩ := hargs c
    refine (val_main_v72_eq _ _).trans ?_
    rw [e0, e1, e2, e3, e4, e5]
    exact reference_outs _ _ _ _ _ _
  · obtain ⟨e0, e1, e2, e3, e4, e5⟩ := hargs c
    refine (val_main_v73_eq _ _).trans ?_
    rw [e0, e1, e2, e3, e4, e5]
    exact reference_gates _ _ _ _ _ _
  · obtain ⟨e0, e1, e2, e3, e4, e5⟩ := hargs c
    refine (val_main_v74_eq _ _ _ _).trans ?_
    rw [e0, e1, e3, e4]
    exact reference_weights _ _ _ _
  · obtain ⟨e0, e1, e2, e3, e4, e5⟩ := hargs c
    refine (val_main_v75_eq _ _ _ _ _).trans ?_
    rw [e0, e1, e3, e4, e5]
    exact reference_scales _ _ _ _ _
  · obtain ⟨e0, e1, e2, e3, e4, e5⟩ := hargs c
    refine (val_main_v76_eq _).trans ?_
    rw [e3]
    exact reference_shifts _

end Cert.ResidNormX

end
-- ==== Proof.CtxX.lean ====
/- The gradients of the context tokens' modulated norm: what its call leaves in its results. -/
module

public import proofs.«01_k».proof.Proof.Gen.CtxXIdeal.Value
public import proofs.«01_k».proof.Proof.NormGrad
public import Idealize.ShloMosaic.Lib.IdealHost
public import Idealize.ShloMosaic.Lib.Pipeline.ValueKit
public import Idealize.ShloMosaic.Lib.Pipeline.ReadBack

@[expose] public section

set_option maxRecDepth 16384

noncomputable section

namespace Cert.ContextNormX

open Cert.CtxXIdeal Cert.CtxXIdeal.Gen Cert.RowScale Cert.NormGrad Idealize.ShloMosaic Idealize.ShloMosaic.TcCoe Idealize.SL.Sem

theorem idx0 : ∀ t : Fin grid0.N, win0_0.index t = ![0, 0] := by decide +kernel
theorem idx1 : ∀ t : Fin grid0.N, win0_1.index t = ![0, 0] := by decide +kernel
theorem idx2 : ∀ t : Fin grid0.N, win0_2.index t = ![0, 0] := by decide +kernel
theorem idx3 : ∀ t : Fin grid0.N, win0_3.index t = ![0, 0] := by decide +kernel
theorem idx5 : ∀ t : Fin grid0.N, win0_5.index t = ![0, 0] := by decide +kernel

/-! ## What the body computes -/

theorem rms_at (x : FVec Ideal S256x2048 .f32) (r : Fin 256) (s : Fin 2048) :
    k0_pay3 (F := Ideal) x (ix2 r s) = rms 0x45000000#32 (fun k => x (ix2 r k)) s := by
  pointwise [k0_pay3, rms]

theorem weight_at (x d : FVec Ideal S256x2048 .f32) (p acc : FVec Ideal S1x2048 .f32) (s : Fin 2048) : k0_pay10 (F := Ideal) x d p acc (ix2 0 s)
    = acc (ix2 0 s) + ∑ r : Fin 256, rms 0x45000000#32 (fun k => x (ix2 r k)) s * scaled (a := 256) (n := 2048) d p (ix2 r s) := by
  simp only [← rms_at]
  unfold k0_pay10
  generalize k0_pay3 (F := Ideal) x = q
  pointwise [k0_pay4, scaled]

theorem scale_at (x d : FVec Ideal S256x2048 .f32) (g : FVec Ideal S1x2048 .f32) (s : Fin 2048) : k0_pay6 (F := Ideal) x d g (ix2 0 s)
    = ∑ r : Fin 256, rms 0x45000000#32 (fun k => x (ix2 r k)) s * g (ix2 0 s) * d (ix2 r s) := by
  simp only [← rms_at]
  unfold k0_pay6
  generalize k0_pay3 (F := Ideal) x = q
  pointwise [k0_pay4]

theorem shift_at (d : FVec Ideal S256x2048 .f32) (s : Fin 2048) : k0_pay5 (F := Ideal) d (ix2 0 s) = ∑ r : Fin 256, d (ix2 r s) := by
  pointwise [k0_pay5]

theorem add1_at (x y : FVec Ideal S1x2048 .f32) (s : Fin 2048) : k0_pay1 (F := Ideal) x y (ix2 0 s) = y (ix2 0 s) + x (ix2 0 s) := by
  pointwise [k0_pay1]
theorem add2_at (x y : FVec Ideal S1x2048 .f32) (s : Fin 2048) : k0_pay2 (F := Ideal) x y (ix2 0 s) = y (ix2 0 s) + x (ix2 0 s) := by
  pointwise [k0_pay2]
theorem zero7_at (s : Fin 2048) : k0_pay7 (F := Ideal) (ix2 0 s) = 0 := by
  pointwise [k0_pay7]
theorem zero8_at (s : Fin 2048) : k0_pay8 (F := Ideal) (ix2 0 s) = 0 := by
  pointwise [k0_pay8]
theorem zero9_at (s : Fin 2048) : k0_pay9 (F := Ideal) (ix2 0 s) = 0 := by
  pointwise [k0_pay9]

section Body
variable {F : FTy → Type} [FloatOps F] (m : (ℓ : Loc nD τ sig) → Buf (Elt F) ℓ) (c : Dev nD) (t : Fin cfg0.N)

theorem body5 : (outsAt0 m c t).1 = k0_pay10 (iblk m c 0 t) (iblk m c 1 t) (iblk m c 3 t) k0_pay7 := by
  unfold outsAt0
  frame_out
theorem body6 : (outsAt0 m c t).2.1 = k0_pay1 (k0_pay6 (iblk m c 0 t) (iblk m c 1 t) (iblk m c 2 t)) k0_pay8 := by
  unfold outsAt0
  frame_out
theorem body7 : (outsAt0 m c t).2.2 = k0_pay2 (k0_pay5 (iblk m c 1 t)) k0_pay9 := by
  unfold outsAt0
  frame_out

end Body

/-! ## What the windows hold -/

/-- The weight as a single row, and the scale's row of the modulation. -/
def asRow (x : FVec Ideal S2048 .f32) : FVec Ideal S1x2048 .f32 := fun i => x (ix1 (i 1))
def scale (x : FVec Ideal S6x2048 .f32) : FVec Ideal S1x2048 .f32 := fun i => x (ix2 1 (i 1))

theorem asRow_eq (x : FVec Ideal S2048 .f32) : broadcastInDim S1x2048 ![1] bcast_S2048_S1x2048_1 x = asRow x := by
  funext i
  refine congrArg x ?_
  funext a
  fin_cases a
  rfl

theorem scale_eq (x : FVec Ideal S6x2048 .f32) : extractStridedSlice S1x2048 ![1, 0] x slices_S6x2048_S1x2048_1_0 = scale x := by
  funext i
  idx_vars i
  obtain rfl : i0 = 0 := Subsingleton.elim _ _
  pointwise [scale]

variable (m : (ℓ : Loc nD τ sig) → Buf (Elt Ideal) ℓ) (c : Dev nD) (t : Fin cfg0.N)

/-- The arguments. -/
def tok : FVec Ideal S256x2048 .f32 := m ((c : Thread nD τ).loc main_arg0)
def cot : FVec Ideal S256x2048 .f32 := m ((c : Thread nD τ).loc main_arg1)
def mods : FVec Ideal S6x2048 .f32 := m ((c : Thread nD τ).loc main_arg2)
def wgt : FVec Ideal S2048 .f32 := m ((c : Thread nD τ).loc main_arg3)

theorem host2 : V m c main_v0 = asRow (wgt m c) := by
  refine Eq.trans ?_ (asRow_eq (wgt m c))
  simp only [V, hostOps0]
  entry_read
  rfl

theorem host3 : V m c main_v2 = scale (mods m c) := by
  refine Eq.trans ?_ (scale_eq (mods m c))
  simp only [V, hostOps0]
  entry_read
  rfl

theorem blk0 (r : Fin 256) (s : Fin 2048) : iblk m c 0 t (ix2 r s) = tok m c (ix2 r s) := by
  have e : iblk m c 0 t (ix2 r s) = V m c main_arg0 (ix2 r s) := by
    blk_ext [iblk, idx0 t]
  exact e.trans (congrFun (V_main_arg0 m c) _)
theorem blk1 (r : Fin 256) (s : Fin 2048) : iblk m c 1 t (ix2 r s) = cot m c (ix2 r s) := by
  have e : iblk m c 1 t (ix2 r s) = V m c main_arg1 (ix2 r s) := by
    blk_ext [iblk, idx1 t]
  exact e.trans (congrFun (V_main_arg1 m c) _)
theorem blk2 (s : Fin 2048) : iblk m c 2 t (ix2 0 s) = asRow (wgt m c) (ix2 0 s) := by
  have e : iblk m c 2 t (ix2 0 s) = V m c main_v0 (ix2 0 s) := by
    blk_ext [iblk, idx2 t]
  exact e.trans (congrFun (host2 m c) _)
theorem blk3 (s : Fin 2048) : iblk m c 3 t (ix2 0 s) = scale (mods m c) (ix2 0 s) := by
  have e : iblk m c 3 t (ix2 0 s) = V m c main_v2 (ix2 0 s) := by
    blk_ext [iblk, idx3 t]
  exact e.trans (congrFun (host3 m c) _)

/-- The cotangent carried to the weighted norm, at a row. -/
theorem blkS (r : Fin 256) (s : Fin 2048) : scaled (a := 256) (n := 2048) (iblk m c 1 t) (iblk m c 3 t) (ix2 r s)
    = scaled (a := 256) (n := 2048) (cot m c) (scale (mods m c)) (ix2 r s) :=
  congrArg₂ (fun x y : EReal => x * (Ideal.ofBits .f32 0x3F800000#32 + y)) (blk1 m c t r s) (blk3 m c t s)

/-! ## The results -/

def weights : FVec Ideal S1x2048 .f32 :=
  byWeight (a := 256) (n := 2048) 0x45000000#32 (tok m c) (scaled (a := 256) (n := 2048) (cot m c) (scale (mods m c)))
def scales : FVec Ideal S1x2048 .f32 := byScale (a := 256) (n := 2048) 0x45000000#32 (tok m c) (cot m c) (asRow (wgt m c))
def shifts : FVec Ideal S1x2048 .f32 := byShift (a := 256) (n := 2048) (cot m c)

theorem place5 (s : Fin 2048) : ((cfg0.win 5).blk t).view.emb (ix2 0 s) = ix2 0 s := by
  funext a
  match a with
  | ⟨0, _⟩ => exact Fin.ext (by show win0_5.index t (0 : Fin 2) * 1 + 1 * 0 = 0; rw [idx5]; rfl)
  | ⟨1, _⟩ => exact Fin.ext (by show win0_5.index t (1 : Fin 2) * 2048 + 1 * s.val = s.val; rw [idx5]; show 0 * 2048 + 1 * s.val = _; omega)
theorem place6 (s : Fin 2048) : ((cfg0.win 6).blk t).view.emb (ix2 0 s) = ix2 0 s :=
  place5 t s
theorem place7 (s : Fin 2048) : ((cfg0.win 7).blk t).view.emb (ix2 0 s) = ix2 0 s :=
  place5 t s

/-- The call leaves the gradient of the weights. -/
theorem final5 : (dats m 0 c).arrAt 5 cfg0.N = weights m c := by
  refine (dats m 0 c).arrAt_eq_of_covers 5 _ (by decide +kernel) fun t _ y => ?_
  idx_vars y
  obtain rfl : y0 = 0 := Subsingleton.elim _ _
  refine Eq.trans ?_ (congrArg (weights m c) (place5 t y1).symm)
  show (dats m 0 c).after 5 t (ix2 0 y1) = _
  rw [after0_5, body5]
  refine (weight_at _ _ _ _ y1).trans ?_
  rw [zero7_at, zero_add]
  show _ = ∑ r : Fin 256, rms 0x45000000#32 (fun k => tok m c (ix2 r k)) y1 * scaled (a := 256) (n := 2048) (cot m c) (scale (mods m c)) (ix2 r y1)
  refine Finset.sum_congr rfl fun r _ => ?_
  simp only [blk0, blkS]

/-- The call leaves the gradient of the scale. -/
theorem final6 : (dats m 0 c).arrAt 6 cfg0.N = scales m c := by
  refine (dats m 0 c).arrAt_eq_of_covers 6 _ (by decide +kernel) fun t _ y => ?_
  idx_vars y
  obtain rfl : y0 = 0 := Subsingleton.elim _ _
  refine Eq.trans ?_ (congrArg (scales m c) (place6 t y1).symm)
  show (dats m 0 c).after 6 t (ix2 0 y1) = _
  rw [after0_6, body6, add1_at, zero8_at, zero_add]
  show _ = ∑ r : Fin 256, rms 0x45000000#32 (fun k => tok m c (ix2 r k)) y1 * asRow (wgt m c) (ix2 0 y1) * cot m c (ix2 r y1)
  refine (scale_at _ _ _ y1).trans (Finset.sum_congr rfl fun r _ => ?_)
  simp only [blk0, blk1, blk2]

/-- The call leaves the gradient of the shift. -/
theorem final7 : (dats m 0 c).arrAt 7 cfg0.N = shifts m c := by
  refine (dats m 0 c).arrAt_eq_of_covers 7 _ (by decide +kernel) fun t _ y => ?_
  idx_vars y
  obtain rfl : y0 = 0 := Subsingleton.elim _ _
  refine Eq.trans ?_ (congrArg (shifts m c) (place7 t y1).symm)
  show (dats m 0 c).after 7 t (ix2 0 y1) = _
  rw [after0_7, body7, add2_at, zero9_at, zero_add]
  show _ = ∑ r : Fin 256, cot m c (ix2 r y1)
  refine (shift_at _ y1).trans (Finset.sum_congr rfl fun r _ => ?_)
  simp only [blk1]

end Cert.ContextNormX

end
-- ==== Proof.CtxXEquation.lean ====
/- The gradients of the context tokens' modulated norm and their reference are the same arrays. -/
module

public import proofs.«01_k».proof.Defs
public import proofs.«01_k».proof.Proof.CtxX
public import proofs.«01_k».proof.Proof.Gen.CtxXReferenceIdeal.Run
public import proofs.«01_k».proof.Proof.Gen.CtxXReferenceIdeal.Read

@[expose] public section

set_option maxRecDepth 16384

noncomputable section

namespace Cert.ContextNormX

open Cert.CtxXReferenceIdeal Cert.CtxXReferenceIdeal.Read Cert.RowScale Cert.NormGrad Idealize.ShloMosaic Idealize.SL.Sem

variable (x d : FVec Ideal S256x2048 .f32) (mo : FVec Ideal S6x2048 .f32) (g : FVec Ideal S2048 .f32)

/-- The reference's reciprocal root of a row's mean square, raised. -/
theorem ref_root (r : Fin 256) : val_main_v11 (F := Ideal) x (ix2 r 0) = Ideal.rsqrt (level 0x45000000#32 fun k => x (ix2 r k)) := by
  rw [val_main_v11_apply, val_main_v10_apply, val_main_v9_apply, val_main_cst_1_apply, val_main_v8_apply, val_main_v7_apply, val_main_cst_0_apply,
    val_main_v6_apply, show idx_main_v6 (ix2 r 0) = ix1 r by funext a; fin_cases a; rfl,
    val_main_v5_apply, val_main_cst_apply, Ideal.ofBits_def, Ideal.ofBits_zero_f32, zero_add]
  refine congrArg (fun e : EReal => Ideal.rsqrt (Ideal.div e (Ideal.ofBits .f32 0x45000000#32) + Ideal.ofBits .f32 0x358637BD#32))
    (Finset.sum_congr rfl fun k _ => ?_)
  rw [val_main_v4_apply, show idx_main_v5 (ix1 r) k = ix2 r k by funext a; fin_cases a <;> rfl]
  rfl

theorem ref_rms (r : Fin 256) (s : Fin 2048) : val_main_v13 (F := Ideal) x (ix2 r s) = rms 0x45000000#32 (fun k => x (ix2 r k)) s := by
  rw [val_main_v13_apply, val_main_v12_apply, show idx_main_v12 (ix2 r s) = ix2 r 0 by funext a; fin_cases a <;> rfl, ref_root]
  rfl

theorem ref_weighted (r : Fin 256) (s : Fin 2048) : val_main_v16 (F := Ideal) x g (ix2 r s)
    = rms 0x45000000#32 (fun k => x (ix2 r k)) s * asRow g (ix2 0 s) := by
  rw [val_main_v16_apply, ref_rms, val_main_v15_apply, val_main_v14_apply]
  exact congrArg (fun y : EReal => rms 0x45000000#32 (fun k => x (ix2 r k)) s * y) (congrArg g (by funext a; fin_cases a; rfl))

theorem ref_given (r : Fin 256) (s : Fin 2048) : val_main_v25 (F := Ideal) d (ix2 r s) = d (ix2 r s) := by
  rw [val_main_v25_apply]
  refine congrArg d ?_
  have := r.isLt
  have := s.isLt
  funext a
  match a with
  | ⟨0, _⟩ => exact Fin.ext (by show (r.val * 2048 + s.val) / 2048 = r.val; omega)
  | ⟨1, _⟩ => exact Fin.ext (by show (r.val * 2048 + s.val) % 2048 = s.val; omega)

theorem ref_scale (s : Fin 2048) : val_main_v19 (F := Ideal) mo (ix2 0 s) = Ideal.ofBits .f32 0x3F800000#32 + scale mo (ix2 0 s) := by
  rw [val_main_v19_apply, val_main_v18_apply, val_main_v17_apply, val_main_cst_2_apply, val_main_v1_apply, val_main_v0_apply]
  refine congrArg (fun y : EReal => Ideal.ofBits .f32 0x3F800000#32 + y) (congrArg mo ?_)
  funext a
  fin_cases a
  · rfl
  · exact Fin.ext (Nat.mod_eq_of_lt s.isLt)

theorem ref_scaled (r : Fin 256) (s : Fin 2048) : val_main_v33 (F := Ideal) d mo (ix2 r s) = scaled (a := 256) (n := 2048) d (scale mo) (ix2 r s) := by
  rw [val_main_v33_apply, ref_given, val_main_v32_apply, show idx_main_v32 (ix2 r s) = ix2 0 s by funext a; fin_cases a <;> rfl, ref_scale]
  rfl

/-- The reference's gradient of the weights. -/
theorem reference_weights : val_main_v39 (F := Ideal) x d mo
    = byWeight (a := 256) (n := 2048) 0x45000000#32 x (scaled (a := 256) (n := 2048) d (scale mo)) := by
  funext i
  idx_vars i
  rw [val_main_v39_apply, show idx_main_v39 (ix2 i0 i1) = ix1 i1 by funext a; fin_cases a; rfl,
    val_main_v38_apply, val_main_cst_8_apply, Ideal.ofBits_def, Ideal.ofBits_zero_f32, zero_add, Fin.sum_univ_one,
    val_main_v37_apply, show idx_main_v37 (idx_main_v38 (ix1 i1) 0) = ix1 i1 by funext a; fin_cases a; exact Fin.ext (by simp [idx_main_v37, idx_main_v38]),
    val_main_v36_apply, val_main_cst_7_apply, Ideal.ofBits_def, Ideal.ofBits_zero_f32, zero_add]
  refine Finset.sum_congr rfl fun r _ => ?_
  rw [val_main_v35_apply, show idx_main_v36 (ix1 i1) r = ix2 r i1 by funext a; fin_cases a <;> rfl, ref_rms, ref_scaled]
  rfl

/-- The reference's gradient of the scale. -/
theorem reference_scales : val_main_v40 (F := Ideal) x d g = byScale (a := 256) (n := 2048) 0x45000000#32 x d (asRow g) := by
  funext i
  idx_vars i
  rw [val_main_v40_apply, show idx_main_v40 (ix2 i0 i1) = ix1 i1 by funext a; fin_cases a; rfl,
    val_main_v34_apply, val_main_cst_6_apply, Ideal.ofBits_def, Ideal.ofBits_zero_f32, zero_add, Fin.sum_univ_one,
    val_main_v31_apply, show idx_main_v31 (idx_main_v34 (ix1 i1) 0) = ix1 i1 by funext a; fin_cases a; exact Fin.ext (by simp [idx_main_v31, idx_main_v34]),
    val_main_v30_apply, val_main_cst_5_apply, Ideal.ofBits_def, Ideal.ofBits_zero_f32, zero_add]
  refine Finset.sum_congr rfl fun r _ => ?_
  rw [val_main_v29_apply, show idx_main_v30 (ix1 i1) r = ix2 r i1 by funext a; fin_cases a <;> rfl, ref_weighted, ref_given]
  rfl

/-- The reference's gradient of the shift. -/
theorem reference_shifts : val_main_v41 (F := Ideal) d = byShift (a := 256) (n := 2048) d := by
  funext i
  idx_vars i
  rw [val_main_v41_apply, show idx_main_v41 (ix2 i0 i1) = ix1 i1 by funext a; fin_cases a; rfl,
    val_main_v28_apply, val_main_cst_4_apply, Ideal.ofBits_def, Ideal.ofBits_zero_f32, zero_add, Fin.sum_univ_one,
    val_main_v27_apply, show idx_main_v27 (idx_main_v28 (ix1 i1) 0) = ix1 i1 by funext a; fin_cases a; exact Fin.ext (by simp [idx_main_v27, idx_main_v28]),
    val_main_v26_apply, val_main_cst_3_apply, Ideal.ofBits_def, Ideal.ofBits_zero_f32, zero_add]
  refine Finset.sum_congr rfl fun r _ => ?_
  exact congrArg d (by funext a; fin_cases a <;> rfl)

/-- The kernel's run and the reference's run leave the same arrays. -/
theorem equation : algebraic_CtxXIdeal_CtxXReferenceIdeal := by
  intro m k m' k' _ hargs
  refine ⟨fun c => weights m c, fun c => scales m c, fun c => shifts m c,
    (θ_run _ _ _).mono (fun r h c => ⟨(h c).1.trans (final5 m c), (h c).2.1.trans (final6 m c), (h c).2.2.1.trans (final7 m c),
      (h c).2.2.2⟩) (Cert.CtxXIdeal.Value.run_blocks m k),
    (θ_run _ _ _).mono (fun r h c => ⟨(h c).1.trans ?_, (h c).2.1.trans ?_, (h c).2.2.1.trans ?_, (h c).2.2.2⟩)
      (Cert.CtxXReferenceIdeal.Value.run m' k')⟩
  · obtain ⟨e0, e1, e2, e3⟩ := hargs c
    refine (val_main_v39_eq _ _ _).trans ?_
    rw [e0, e1, e2]
    exact reference_weights _ _ _
  · obtain ⟨e0, e1, e2, e3⟩ := hargs c
    refine (val_main_v40_eq _ _ _).trans ?_
    rw [e0, e1, e3]
    exact reference_scales _ _ _
  · obtain ⟨e0, e1, e2, e3⟩ := hargs c
    refine (val_main_v41_eq _).trans ?_
    rw [e1]
    exact reference_shifts _

end Cert.ContextNormX

end
-- ==== Proof.ScanX.lean ====
/- The gradient of the S5 branch's input, the two scans' and the skip's: what its call leaves in its result. -/
module

public import proofs.«01_k».proof.Proof.Gen.ScanXIdeal.Value
public import Idealize.ShloMosaic.Lib.IdealHost
public import Idealize.ShloMosaic.Lib.Pipeline.ValueKit
public import Idealize.ShloMosaic.Lib.Pipeline.ReadBack

@[expose] public section

set_option maxRecDepth 16384

noncomputable section

namespace Cert.ScanGradient

open Cert.ScanXIdeal Cert.ScanXIdeal.Gen Idealize.ShloMosaic Idealize.ShloMosaic.TcCoe Idealize.SL.Sem

theorem idx0 : ∀ t : Fin grid0.N, win0_0.index t = ![t.val, 0] := by decide +kernel
theorem idx1 : ∀ t : Fin grid0.N, win0_1.index t = ![t.val, 0] := by decide +kernel
theorem idx2 : ∀ t : Fin grid0.N, win0_2.index t = ![t.val, 0] := by decide +kernel
theorem idx3 : ∀ t : Fin grid0.N, win0_3.index t = ![0, 0] := by decide +kernel
theorem idx4 : ∀ t : Fin grid0.N, win0_4.index t = ![t.val, 0] := by decide +kernel

theorem pay_at (x y z : FVec Ideal S256x1024 .f32) (d : FVec Ideal S1x1024 .f32) (r : Fin 256) (s : Fin 1024) :
    k0_pay1 (F := Ideal) x y z d (ix2 r s) = x (ix2 r s) + y (ix2 r s) + d (ix2 0 s) * z (ix2 r s) := by
  pointwise [k0_pay1]

variable (m : (ℓ : Loc nD τ sig) → Buf (Elt Ideal) ℓ) (c : Dev nD) (t : Fin cfg0.N)

/-- The arguments. -/
def fwd : FVec Ideal S2304x1024 .f32 := m ((c : Thread nD τ).loc main_arg0)
def rev : FVec Ideal S2304x1024 .f32 := m ((c : Thread nD τ).loc main_arg1)
def cot : FVec Ideal S2048x1024 .f32 := m ((c : Thread nD τ).loc main_arg2)
def skip : FVec Ideal S64x16 .f32 := m ((c : Thread nD τ).loc main_arg3)

/-- The skip's weights as a single row, head by head. -/
def asRow (d : FVec Ideal S64x16 .f32) : FVec Ideal S1x1024 .f32 := shapeCast S1x1024 d shapeCasts_S64x16_S1x1024

theorem asRow_at (d : FVec Ideal S64x16 .f32) (s : Fin 1024) :
    asRow d (ix2 0 s) = d (ix2 ⟨s.val / 16, by have := s.isLt; omega⟩ ⟨s.val % 16, Nat.mod_lt _ (by decide)⟩) := by
  pointwise [asRow]

/-- The cotangent, with zeros at the context tokens' rows. -/
def whole (z : FVec Ideal S2048x1024 .f32) : FVec Ideal S2304x1024 .f32 := fun i =>
  if h : (i 0).val < 2048 then z (ix2 ⟨(i 0).val, h⟩ (i 1)) else 0

theorem whole_eq (z : FVec Ideal S2048x1024 .f32) : concatenate S2304x1024 0 [⟨S2048x1024, z⟩,
    ⟨S256x1024, broadcastInDim S256x1024 ![] bcast_S_S256x1024 (constant (F := Ideal) S_ .f32 0x00000000#32)⟩] concatenates_S2048x1024_S256x1024_S2304x1024_d0
    = whole z := by
  funext i
  idx_vars i
  pointwise [whole]

theorem host2 : V m c main_v1 = whole (cot m c) := by
  refine Eq.trans ?_ (whole_eq (cot m c))
  simp only [V, hostOps0]
  entry_read
  rfl
theorem host3 : V m c main_v2 = asRow (skip m c) := by
  simp only [V, hostOps0]
  entry_read
  rfl

theorem lt9 : t.val < 9 := t.isLt

def row (r : Fin 256) : Fin 2304 := ⟨256 * t.val + r.val, by have := lt9 t; have := r.isLt; omega⟩

theorem blk0 (r : Fin 256) (s : Fin 1024) : iblk m c 0 t (ix2 r s) = fwd m c (ix2 (row t r) s) := by
  have e : iblk m c 0 t (ix2 r s) = V m c main_arg0 (ix2 (row t r) s) := by
    blk_ext [iblk, idx0 t, row]
  exact e.trans (congrFun (V_main_arg0 m c) _)
theorem blk1 (r : Fin 256) (s : Fin 1024) : iblk m c 1 t (ix2 r s) = rev m c (ix2 (row t r) s) := by
  have e : iblk m c 1 t (ix2 r s) = V m c main_arg1 (ix2 (row t r) s) := by
    blk_ext [iblk, idx1 t, row]
  exact e.trans (congrFun (V_main_arg1 m c) _)
theorem blk2 (r : Fin 256) (s : Fin 1024) : iblk m c 2 t (ix2 r s) = whole (cot m c) (ix2 (row t r) s) := by
  have e : iblk m c 2 t (ix2 r s) = V m c main_v1 (ix2 (row t r) s) := by
    blk_ext [iblk, idx2 t, row]
  exact e.trans (congrFun (host2 m c) _)
theorem blk3 (s : Fin 1024) : iblk m c 3 t (ix2 0 s) = asRow (skip m c) (ix2 0 s) := by
  have e : iblk m c 3 t (ix2 0 s) = V m c main_v2 (ix2 0 s) := by
    blk_ext [iblk, idx3 t]
  exact e.trans (congrFun (host3 m c) _)

theorem body (x y z : FVec Ideal S256x1024 .f32) (d : FVec Ideal S1x1024 .f32) : out0_4 (F := Ideal) x y z d = k0_pay1 (F := Ideal) x y z d := by
  unfold out0_4
  frame_out

/-- The gradient: `x + y + d z`. -/
def gradOf (x y : FVec Ideal S2304x1024 .f32) (z : FVec Ideal S2048x1024 .f32) (d : FVec Ideal S64x16 .f32) : FVec Ideal S2304x1024 .bf16 :=
  fun i => x i + y i + asRow d (ix2 0 (i 1)) * whole z i
def result : FVec Ideal S2304x1024 .bf16 := gradOf (fwd m c) (rev m c) (cot m c) (skip m c)

theorem place (r : Fin 256) (s : Fin 1024) : ((cfg0.win 4).blk t).view.emb (ix2 r s) = ix2 (row t r) s := by
  funext a
  match a with
  | ⟨0, _⟩ => exact Fin.ext (by show win0_4.index t (0 : Fin 2) * 256 + 1 * r.val = 256 * t.val + r.val; rw [idx4]; show t.val * 256 + 1 * r.val = _; omega)
  | ⟨1, _⟩ => exact Fin.ext (by show win0_4.index t (1 : Fin 2) * 1024 + 1 * s.val = s.val; rw [idx4]; show 0 * 1024 + 1 * s.val = _; omega)

/-- The call leaves the gradient. -/
theorem final : (dats m 0 c).arrAt 4 cfg0.N = result m c := by
  refine (dats m 0 c).arrAt_eq_of_covers 4 _ (by decide +kernel) fun t _ y => ?_
  idx_vars y
  refine Eq.trans ?_ (congrArg (result m c) (place t y0 y1).symm)
  show (dats m 0 c).after 4 t (ix2 y0 y1) = _
  rw [after0_4, body]
  refine (pay_at _ _ _ _ y0 y1).trans ?_
  simp only [blk0, blk1, blk2, blk3]
  rfl

end Cert.ScanGradient

end
-- ==== Proof.ScanXEquation.lean ====
/- The gradient of the S5 branch's input and its reference are the same array. -/
module

public import proofs.«01_k».proof.Defs
public import proofs.«01_k».proof.Proof.ScanX
public import proofs.«01_k».proof.Proof.Gen.ScanXReferenceIdeal.Run
public import proofs.«01_k».proof.Proof.Gen.ScanXReferenceIdeal.Read

@[expose] public section

set_option maxRecDepth 16384

noncomputable section

namespace Cert.ScanGradient

open Cert.ScanXReferenceIdeal Cert.ScanXReferenceIdeal.Gen Cert.ScanXReferenceIdeal.Read Idealize.ShloMosaic Idealize.SL.Sem

variable (x y : FVec Ideal S2304x1024 .f32) (z : FVec Ideal S2048x1024 .f32) (d : FVec Ideal S64x16 .f32)

theorem ref_skip (i : S2048x1024.Idx) : val_main_v8 (F := Ideal) z d i = asRow d (ix2 0 (i 1)) * z i := by
  have h1 : (i 1).val < 1024 := (i 1).isLt
  rw [val_main_v8_apply, val_main_v7_apply, val_main_v3_apply, val_main_v1_apply]
  refine congrArg (fun e : EReal => e * z i) (Eq.trans (congrArg d ?_) (asRow_at d (i 1)).symm)
  funext a
  match a with
  | ⟨0, _⟩ => exact Fin.ext (by show ((i 1).val) / 16 = (i 1).val / 16; omega)
  | ⟨1, _⟩ => exact Fin.ext (by show (i 1).val % 16 = (i 1).val % 16; rfl)

/-- At the context tokens' rows the skip's part is zero. -/
theorem ref_whole (r : Fin 2304) (s : Fin 1024) : val_main_v9 (F := Ideal) z d (ix2 r s) = asRow d (ix2 0 s) * whole z (ix2 r s) := by
  have e : val_main_v9 (F := Ideal) z d (ix2 r s) = if h : r.val < 2048 then val_main_v8 (F := Ideal) z d (ix2 ⟨r.val, h⟩ s) else 0 := by
    unfold val_main_v9 val_main_cst_0
    generalize val_main_v8 (F := Ideal) z d = w
    pointwise
  rw [e]
  by_cases h : r.val < 2048
  · rw [dif_pos h, ref_skip]
    have w : whole z (ix2 r s) = z (ix2 ⟨r.val, h⟩ s) := by
      unfold whole
      exact dif_pos h
    rw [w]
    rfl
  · rw [dif_neg h, show whole z (ix2 r s) = 0 from dif_neg h, mul_zero]

/-- The reference's gradient. -/
theorem reference : val_main_v11 (F := Ideal) x y z d = gradOf x y z d := by
  funext i
  idx_vars i
  refine (val_main_v11_apply (F := Ideal) x y z d _).trans (Eq.trans (b := val_main_v10 (F := Ideal) x y z d (ix2 i0 i1)) rfl ?_)
  rw [val_main_v10_apply, val_main_v6_apply, ref_whole]
  rfl

/-- The kernel's run and the reference's run leave the same array. -/
theorem equation : algebraic_ScanXIdeal_ScanXReferenceIdeal := by
  intro m g m' g' _ hargs
  refine ⟨fun c => result m c,
    (θ_run _ _ _).mono (fun r h c => ⟨(h c).1.trans (final m c), (h c).2⟩) (Cert.ScanXIdeal.Value.run_blocks m g),
    (θ_run _ _ _).mono (fun r h c => ⟨(h c).1.trans ?_, (h c).2⟩) (Cert.ScanXReferenceIdeal.Value.run m' g')⟩
  obtain ⟨e0, e1, e2, e3⟩ := hargs c
  rw [val_main_v11_eq, e0, e1, e2, e3]
  exact reference _ _ _ _

end Cert.ScanGradient

end
-- ==== Proof.lean ====
/- The claims, assembled. -/
module

public import proofs.«01_k».proof.Defs
public import proofs.«01_k».proof.Proof.Gen.Kernel.Frame
public import proofs.«01_k».proof.Proof.Gen.KernelIdeal.Frame
public import proofs.«01_k».proof.Proof.Gen.KernelIdeal.Value
public import proofs.«01_k».proof.Proof.Gen.ReferenceIdeal.Run
public import proofs.«01_k».proof.Proof.Gen.ReferenceIdeal.Read
public import proofs.«01_k».proof.Proof.Gen.Ffn.Frame
public import proofs.«01_k».proof.Proof.Gen.FfnIdeal.Frame
public import proofs.«01_k».proof.Proof.Gen.FfnReferenceIdeal.Run
public import proofs.«01_k».proof.Proof.Gen.FfnReferenceIdeal.Read
public import proofs.«01_k».proof.Proof.Gen.Up.Frame
public import proofs.«01_k».proof.Proof.Gen.UpIdeal.Frame
public import proofs.«01_k».proof.Proof.Gen.UpIdeal.Value
public import proofs.«01_k».proof.Proof.Gen.UpReferenceIdeal.Run
public import proofs.«01_k».proof.Proof.Gen.UpReferenceIdeal.Read
public import proofs.«01_k».proof.Proof.Gen.Down.Frame
public import proofs.«01_k».proof.Proof.Gen.DownIdeal.Frame
public import proofs.«01_k».proof.Proof.Gen.DownIdeal.Value
public import proofs.«01_k».proof.Proof.Gen.DownReferenceIdeal.Run
public import proofs.«01_k».proof.Proof.Gen.DownReferenceIdeal.Read
public import proofs.«01_k».proof.Proof.Gen.Mix.Frame
public import proofs.«01_k».proof.Proof.Gen.MixIdeal.Frame
public import proofs.«01_k».proof.Proof.Gen.MixReferenceIdeal.Run
public import proofs.«01_k».proof.Proof.Gen.MixReferenceIdeal.Read
public import proofs.«01_k».proof.Proof.Gen.Pre_finite_scores
public import proofs.«01_k».proof.Proof.Gen.Proj.Frame
public import proofs.«01_k».proof.Proof.Gen.ProjIdeal.Frame
public import proofs.«01_k».proof.Proof.Gen.ProjReferenceIdeal.Run
public import proofs.«01_k».proof.Proof.Gen.ProjReferenceIdeal.Read
public import proofs.«01_k».proof.Proof.Gen.ProjX.Frame
public import proofs.«01_k».proof.Proof.Gen.ProjXIdeal.Frame
public import proofs.«01_k».proof.Proof.Gen.ProjXIdeal.Value
public import proofs.«01_k».proof.Proof.Gen.ProjXReferenceIdeal.Run
public import proofs.«01_k».proof.Proof.Gen.ProjXReferenceIdeal.Read
public import proofs.«01_k».proof.Proof.Gen.GluX.Frame
public import proofs.«01_k».proof.Proof.Gen.GluXIdeal.Frame
public import proofs.«01_k».proof.Proof.Gen.GluXIdeal.Value
public import proofs.«01_k».proof.Proof.Gen.GluXReferenceIdeal.Run
public import proofs.«01_k».proof.Proof.Gen.GluXReferenceIdeal.Read
public import proofs.«01_k».proof.Proof.Gen.MlaX.Frame
public import proofs.«01_k».proof.Proof.Gen.MlaXIdeal.Frame
public import proofs.«01_k».proof.Proof.Gen.MlaXIdeal.Value
public import proofs.«01_k».proof.Proof.Gen.MlaXReferenceIdeal.Run
public import proofs.«01_k».proof.Proof.Gen.MlaXReferenceIdeal.Read
public import proofs.«01_k».proof.Proof.Gen.Latent.Frame
public import proofs.«01_k».proof.Proof.Gen.LatentIdeal.Frame
public import proofs.«01_k».proof.Proof.Gen.LatentReferenceIdeal.Run
public import proofs.«01_k».proof.Proof.Gen.LatentReferenceIdeal.Read
public import proofs.«01_k».proof.Proof.Gen.Attend.Frame
public import proofs.«01_k».proof.Proof.Gen.AttendIdeal.Frame
public import proofs.«01_k».proof.Proof.Gen.AttendIdeal.Value
public import proofs.«01_k».proof.Proof.Gen.AttendReferenceIdeal.Run
public import proofs.«01_k».proof.Proof.Gen.AttendReferenceIdeal.Read
public import proofs.«01_k».proof.Proof.Gen.Mod.Frame
public import proofs.«01_k».proof.Proof.Gen.ModIdeal.Frame
public import proofs.«01_k».proof.Proof.Gen.ModReferenceIdeal.Run
public import proofs.«01_k».proof.Proof.Gen.ModReferenceIdeal.Read
public import proofs.«01_k».proof.Proof.Gen.Norms.Frame
public import proofs.«01_k».proof.Proof.Gen.NormsIdeal.Frame
public import proofs.«01_k».proof.Proof.Gen.NormsReferenceIdeal.Run
public import proofs.«01_k».proof.Proof.Gen.NormsReferenceIdeal.Read
public import proofs.«01_k».proof.Proof.Gen.QNorm.Frame
public import proofs.«01_k».proof.Proof.Gen.QNormIdeal.Frame
public import proofs.«01_k».proof.Proof.Gen.QNormIdeal.Value
public import proofs.«01_k».proof.Proof.Gen.QNormReferenceIdeal.Run
public import proofs.«01_k».proof.Proof.Gen.QNormReferenceIdeal.Read
public import proofs.«01_k».proof.Proof.Gen.Combine.Frame
public import proofs.«01_k».proof.Proof.Gen.CombineIdeal.Frame
public import proofs.«01_k».proof.Proof.Gen.CombineIdeal.Value
public import proofs.«01_k».proof.Proof.Gen.CombineReferenceIdeal.Run
public import proofs.«01_k».proof.Proof.Gen.CombineReferenceIdeal.Read
public import proofs.«01_k».proof.Proof.Gen.NormX.Frame
public import proofs.«01_k».proof.Proof.Gen.NormXIdeal.Frame
public import proofs.«01_k».proof.Proof.Gen.NormXIdeal.Value
public import proofs.«01_k».proof.Proof.Gen.NormXReferenceIdeal.Run
public import proofs.«01_k».proof.Proof.Gen.NormXReferenceIdeal.Read
public import proofs.«01_k».proof.Proof.Gen.SkipX.Frame
public import proofs.«01_k».proof.Proof.Gen.SkipXIdeal.Frame
public import proofs.«01_k».proof.Proof.Gen.SkipXIdeal.Value
public import proofs.«01_k».proof.Proof.Gen.SkipXReferenceIdeal.Run
public import proofs.«01_k».proof.Proof.Gen.SkipXReferenceIdeal.Read
public import proofs.«01_k».proof.Proof.Gen.QNormX.Frame
public import proofs.«01_k».proof.Proof.Gen.QNormXIdeal.Frame
public import proofs.«01_k».proof.Proof.Gen.QNormXIdeal.Value
public import proofs.«01_k».proof.Proof.Gen.QNormXReferenceIdeal.Run
public import proofs.«01_k».proof.Proof.Gen.QNormXReferenceIdeal.Read
public import proofs.«01_k».proof.Proof.Gen.KvNormX.Frame
public import proofs.«01_k».proof.Proof.Gen.KvNormXIdeal.Frame
public import proofs.«01_k».proof.Proof.Gen.KvNormXIdeal.Value
public import proofs.«01_k».proof.Proof.Gen.KvNormXReferenceIdeal.Run
public import proofs.«01_k».proof.Proof.Gen.KvNormXReferenceIdeal.Read
public import proofs.«01_k».proof.Proof.Gen.ResidX.Frame
public import proofs.«01_k».proof.Proof.Gen.ResidXIdeal.Frame
public import proofs.«01_k».proof.Proof.Gen.ResidXIdeal.Value
public import proofs.«01_k».proof.Proof.Gen.ResidXReferenceIdeal.Run
public import proofs.«01_k».proof.Proof.Gen.ResidXReferenceIdeal.Read
public import proofs.«01_k».proof.Proof.Gen.CtxX.Frame
public import proofs.«01_k».proof.Proof.Gen.CtxXIdeal.Frame
public import proofs.«01_k».proof.Proof.Gen.CtxXIdeal.Value
public import proofs.«01_k».proof.Proof.Gen.CtxXReferenceIdeal.Run
public import proofs.«01_k».proof.Proof.Gen.CtxXReferenceIdeal.Read
public import proofs.«01_k».proof.Proof.Gen.ScanX.Frame
public import proofs.«01_k».proof.Proof.Gen.ScanXIdeal.Frame
public import proofs.«01_k».proof.Proof.Gen.ScanXIdeal.Value
public import proofs.«01_k».proof.Proof.Gen.ScanXReferenceIdeal.Run
public import proofs.«01_k».proof.Proof.Gen.ScanXReferenceIdeal.Read
public import proofs.«01_k».proof.Proof.AttnEquation
public import proofs.«01_k».proof.Proof.FfnEquation
public import proofs.«01_k».proof.Proof.MixEquation
public import proofs.«01_k».proof.Proof.UpEquation
public import proofs.«01_k».proof.Proof.DownEquation
public import proofs.«01_k».proof.Proof.ProjEquation
public import proofs.«01_k».proof.Proof.ProjXEquation
public import proofs.«01_k».proof.Proof.GluXEquation
public import proofs.«01_k».proof.Proof.MlaXEquation
public import proofs.«01_k».proof.Proof.LatentEquation
public import proofs.«01_k».proof.Proof.AttendEquation
public import proofs.«01_k».proof.Proof.ModEquation
public import proofs.«01_k».proof.Proof.NormsEquation
public import proofs.«01_k».proof.Proof.QNormEquation
public import proofs.«01_k».proof.Proof.CombineEquation
public import proofs.«01_k».proof.Proof.NormXEquation
public import proofs.«01_k».proof.Proof.SkipXEquation
public import proofs.«01_k».proof.Proof.QNormXEquation
public import proofs.«01_k».proof.Proof.KvNormXEquation
public import proofs.«01_k».proof.Proof.ResidXEquation
public import proofs.«01_k».proof.Proof.CtxXEquation
public import proofs.«01_k».proof.Proof.ScanXEquation
public import Idealize.ShloMosaic.Adequacy
public import Idealize.ShloMosaic.Init

@[expose] public section

noncomputable section

namespace Cert.Proof

open Idealize.ShloMosaic Idealize.SL.Sem

attribute [local instance] Cert.Pre_finite.Gen.facts Cert.Pre_finite_scores.Gen.facts Cert.Kernel.Gen.facts Cert.KernelIdeal.Gen.facts Cert.ReferenceIdeal.Gen.facts
  Cert.Ffn.Gen.facts Cert.FfnIdeal.Gen.facts Cert.FfnReferenceIdeal.Gen.facts Cert.Up.Gen.facts Cert.UpIdeal.Gen.facts Cert.UpReferenceIdeal.Gen.facts
  Cert.Down.Gen.facts Cert.DownIdeal.Gen.facts Cert.DownReferenceIdeal.Gen.facts
  Cert.Mix.Gen.facts Cert.MixIdeal.Gen.facts Cert.MixReferenceIdeal.Gen.facts
  Cert.Proj.Gen.facts Cert.ProjIdeal.Gen.facts Cert.ProjReferenceIdeal.Gen.facts
  Cert.ProjX.Gen.facts Cert.ProjXIdeal.Gen.facts Cert.ProjXReferenceIdeal.Gen.facts
  Cert.GluX.Gen.facts Cert.GluXIdeal.Gen.facts Cert.GluXReferenceIdeal.Gen.facts
  Cert.MlaX.Gen.facts Cert.MlaXIdeal.Gen.facts Cert.MlaXReferenceIdeal.Gen.facts
  Cert.Latent.Gen.facts Cert.LatentIdeal.Gen.facts Cert.LatentReferenceIdeal.Gen.facts
  Cert.Attend.Gen.facts Cert.AttendIdeal.Gen.facts Cert.AttendReferenceIdeal.Gen.facts
  Cert.Mod.Gen.facts Cert.ModIdeal.Gen.facts Cert.ModReferenceIdeal.Gen.facts
  Cert.Norms.Gen.facts Cert.NormsIdeal.Gen.facts Cert.NormsReferenceIdeal.Gen.facts
  Cert.QNorm.Gen.facts Cert.QNormIdeal.Gen.facts Cert.QNormReferenceIdeal.Gen.facts
  Cert.Combine.Gen.facts Cert.CombineIdeal.Gen.facts Cert.CombineReferenceIdeal.Gen.facts
  Cert.NormX.Gen.facts Cert.NormXIdeal.Gen.facts Cert.NormXReferenceIdeal.Gen.facts
  Cert.SkipX.Gen.facts Cert.SkipXIdeal.Gen.facts Cert.SkipXReferenceIdeal.Gen.facts
  Cert.QNormX.Gen.facts Cert.QNormXIdeal.Gen.facts Cert.QNormXReferenceIdeal.Gen.facts
  Cert.KvNormX.Gen.facts Cert.KvNormXIdeal.Gen.facts Cert.KvNormXReferenceIdeal.Gen.facts
  Cert.ResidX.Gen.facts Cert.ResidXIdeal.Gen.facts Cert.ResidXReferenceIdeal.Gen.facts
  Cert.CtxX.Gen.facts Cert.CtxXIdeal.Gen.facts Cert.CtxXReferenceIdeal.Gen.facts
  Cert.ScanX.Gen.facts Cert.ScanXIdeal.Gen.facts Cert.ScanXReferenceIdeal.Gen.facts

/-- The reference of the attention's gradient runs and leaves its arguments unchanged; it has no semaphore. -/
theorem frame_reference : Cert.quiescent_ReferenceIdeal := fun m ρ _ =>
  (θ_run Cert.ReferenceIdeal.defs _ _).mono
    (fun r h => ⟨fun c => (h c).2.2.2.2.2, sem_eq_zero_of_no_sems (by decide) r.2⟩) (Cert.ReferenceIdeal.Value.run (F := Ideal) m ρ)

/-- The reference of the feed-forward layer's weight gradients runs and leaves its arguments unchanged. -/
theorem frame_ffn_reference : Cert.quiescent_FfnReferenceIdeal := fun m ρ _ =>
  (θ_run Cert.FfnReferenceIdeal.defs _ _).mono
    (fun r h => ⟨fun c => (h c).2.2, sem_eq_zero_of_no_sems (by decide) r.2⟩) (Cert.FfnReferenceIdeal.Value.run (F := Ideal) m ρ)

/-- The reference of the feed-forward layer's input gradient runs and leaves its arguments unchanged. -/
theorem frame_up_reference : Cert.quiescent_UpReferenceIdeal := fun m ρ _ =>
  (θ_run Cert.UpReferenceIdeal.defs _ _).mono
    (fun r h => ⟨fun c => (h c).2, sem_eq_zero_of_no_sems (by decide) r.2⟩) (Cert.UpReferenceIdeal.Value.run (F := Ideal) m ρ)

/-- The reference of the feed-forward layer's output runs and leaves its arguments unchanged. -/
theorem frame_down_reference : Cert.quiescent_DownReferenceIdeal := fun m ρ _ =>
  (θ_run Cert.DownReferenceIdeal.defs _ _).mono
    (fun r h => ⟨fun c => (h c).2, sem_eq_zero_of_no_sems (by decide) r.2⟩) (Cert.DownReferenceIdeal.Value.run (F := Ideal) m ρ)

/-- The reference of the mixing of the two branches runs and leaves its arguments unchanged. -/
theorem frame_mix_reference : Cert.quiescent_MixReferenceIdeal := fun m ρ _ =>
  (θ_run Cert.MixReferenceIdeal.defs _ _).mono
    (fun r h => ⟨fun c => (h c).2.2.2.2.2, sem_eq_zero_of_no_sems (by decide) r.2⟩) (Cert.MixReferenceIdeal.Value.run (F := Ideal) m ρ)

/-- The reference of the first projection runs and leaves its arguments unchanged. -/
theorem frame_proj_reference : Cert.quiescent_ProjReferenceIdeal := fun m ρ _ =>
  (θ_run Cert.ProjReferenceIdeal.defs _ _).mono
    (fun r h => ⟨fun c => (h c).2.2, sem_eq_zero_of_no_sems (by decide) r.2⟩) (Cert.ProjReferenceIdeal.Value.run (F := Ideal) m ρ)

/-- The reference of the first projection's input gradient runs and leaves its arguments unchanged. -/
theorem frame_projx_reference : Cert.quiescent_ProjXReferenceIdeal := fun m ρ _ =>
  (θ_run Cert.ProjXReferenceIdeal.defs _ _).mono
    (fun r h => ⟨fun c => (h c).2, sem_eq_zero_of_no_sems (by decide) r.2⟩) (Cert.ProjXReferenceIdeal.Value.run (F := Ideal) m ρ)

/-- The reference of the gated branch's input gradient runs and leaves its arguments unchanged. -/
theorem frame_glux_reference : Cert.quiescent_GluXReferenceIdeal := fun m ρ _ =>
  (θ_run Cert.GluXReferenceIdeal.defs _ _).mono
    (fun r h => ⟨fun c => (h c).2, sem_eq_zero_of_no_sems (by decide) r.2⟩) (Cert.GluXReferenceIdeal.Value.run (F := Ideal) m ρ)

/-- The reference of the attention branch's input gradient runs and leaves its arguments unchanged. -/
theorem frame_mlax_reference : Cert.quiescent_MlaXReferenceIdeal := fun m ρ _ =>
  (θ_run Cert.MlaXReferenceIdeal.defs _ _).mono
    (fun r h => ⟨fun c => (h c).2, sem_eq_zero_of_no_sems (by decide) r.2⟩) (Cert.MlaXReferenceIdeal.Value.run (F := Ideal) m ρ)

/-- The reference of the latent projections runs and leaves its arguments unchanged. -/
theorem frame_latent_reference : Cert.quiescent_LatentReferenceIdeal := fun m ρ _ =>
  (θ_run Cert.LatentReferenceIdeal.defs _ _).mono
    (fun r h => ⟨fun c => (h c).2.2.2.2.2.2, sem_eq_zero_of_no_sems (by decide) r.2⟩) (Cert.LatentReferenceIdeal.Value.run (F := Ideal) m ρ)

/-- The reference of the attention runs and leaves its arguments unchanged. -/
theorem frame_attend_reference : Cert.quiescent_AttendReferenceIdeal := fun m ρ _ =>
  (θ_run Cert.AttendReferenceIdeal.defs _ _).mono
    (fun r h => ⟨fun c => (h c).2.2, sem_eq_zero_of_no_sems (by decide) r.2⟩) (Cert.AttendReferenceIdeal.Value.run (F := Ideal) m ρ)

/-- The reference of the modulation runs and leaves its arguments unchanged. -/
theorem frame_mod_reference : Cert.quiescent_ModReferenceIdeal := fun m ρ _ =>
  (θ_run Cert.ModReferenceIdeal.defs _ _).mono
    (fun r h => ⟨fun c => (h c).2.2.2, sem_eq_zero_of_no_sems (by decide) r.2⟩) (Cert.ModReferenceIdeal.Value.run (F := Ideal) m ρ)

/-- The reference of the norms runs and leaves its arguments unchanged. -/
theorem frame_norms_reference : Cert.quiescent_NormsReferenceIdeal := fun m ρ _ =>
  (θ_run Cert.NormsReferenceIdeal.defs _ _).mono
    (fun r h => ⟨fun c => (h c).2.2.2.2.2, sem_eq_zero_of_no_sems (by decide) r.2⟩) (Cert.NormsReferenceIdeal.Value.run (F := Ideal) m ρ)

/-- The reference of the queries' norm runs and leaves its arguments unchanged. -/
theorem frame_qnorm_reference : Cert.quiescent_QNormReferenceIdeal := fun m ρ _ =>
  (θ_run Cert.QNormReferenceIdeal.defs _ _).mono
    (fun r h => ⟨fun c => (h c).2, sem_eq_zero_of_no_sems (by decide) r.2⟩) (Cert.QNormReferenceIdeal.Value.run (F := Ideal) m ρ)

/-- The reference of the scan's output runs and leaves its arguments unchanged. -/
theorem frame_combine_reference : Cert.quiescent_CombineReferenceIdeal := fun m ρ _ =>
  (θ_run Cert.CombineReferenceIdeal.defs _ _).mono
    (fun r h => ⟨fun c => (h c).2.2, sem_eq_zero_of_no_sems (by decide) r.2⟩) (Cert.CombineReferenceIdeal.Value.run (F := Ideal) m ρ)

/-- The reference of the modulated norm's gradients runs and leaves its arguments unchanged. -/
theorem frame_normx_reference : Cert.quiescent_NormXReferenceIdeal := fun m ρ _ =>
  (θ_run Cert.NormXReferenceIdeal.defs _ _).mono
    (fun r h => ⟨fun c => (h c).2.2.2.2, sem_eq_zero_of_no_sems (by decide) r.2⟩) (Cert.NormXReferenceIdeal.Value.run (F := Ideal) m ρ)

/-- The reference of the scan's output's gradients runs and leaves its arguments unchanged. -/
theorem frame_skipx_reference : Cert.quiescent_SkipXReferenceIdeal := fun m ρ _ =>
  (θ_run Cert.SkipXReferenceIdeal.defs _ _).mono
    (fun r h => ⟨fun c => (h c).2.2, sem_eq_zero_of_no_sems (by decide) r.2⟩) (Cert.SkipXReferenceIdeal.Value.run (F := Ideal) m ρ)

/-- The reference of the queries' norm's gradients runs and leaves its arguments unchanged. -/
theorem frame_qnormx_reference : Cert.quiescent_QNormXReferenceIdeal := fun m ρ _ =>
  (θ_run Cert.QNormXReferenceIdeal.defs _ _).mono
    (fun r h => ⟨fun c => (h c).2.2, sem_eq_zero_of_no_sems (by decide) r.2⟩) (Cert.QNormXReferenceIdeal.Value.run (F := Ideal) m ρ)

/-- The reference of the keys' norm's gradients runs and leaves its arguments unchanged. -/
theorem frame_kvnormx_reference : Cert.quiescent_KvNormXReferenceIdeal := fun m ρ _ =>
  (θ_run Cert.KvNormXReferenceIdeal.defs _ _).mono
    (fun r h => ⟨fun c => (h c).2.2, sem_eq_zero_of_no_sems (by decide) r.2⟩) (Cert.KvNormXReferenceIdeal.Value.run (F := Ideal) m ρ)

/-- The reference of the first residual sum's gradients runs and leaves its arguments unchanged. -/
theorem frame_residx_reference : Cert.quiescent_ResidXReferenceIdeal := fun m ρ _ =>
  (θ_run Cert.ResidXReferenceIdeal.defs _ _).mono
    (fun r h => ⟨fun c => (h c).2.2.2.2.2.2, sem_eq_zero_of_no_sems (by decide) r.2⟩) (Cert.ResidXReferenceIdeal.Value.run (F := Ideal) m ρ)

/-- The reference of the context norm's gradients runs and leaves its arguments unchanged. -/
theorem frame_ctxx_reference : Cert.quiescent_CtxXReferenceIdeal := fun m ρ _ =>
  (θ_run Cert.CtxXReferenceIdeal.defs _ _).mono
    (fun r h => ⟨fun c => (h c).2.2.2, sem_eq_zero_of_no_sems (by decide) r.2⟩) (Cert.CtxXReferenceIdeal.Value.run (F := Ideal) m ρ)

/-- The reference of the scan's input gradient runs and leaves its arguments unchanged. -/
theorem frame_scanx_reference : Cert.quiescent_ScanXReferenceIdeal := fun m ρ _ =>
  (θ_run Cert.ScanXReferenceIdeal.defs _ _).mono
    (fun r h => ⟨fun c => (h c).2, sem_eq_zero_of_no_sems (by decide) r.2⟩) (Cert.ScanXReferenceIdeal.Value.run (F := Ideal) m ρ)

theorem claim : Cert.Claim := ⟨Cert.Kernel.Gen.facts, Cert.KernelIdeal.Gen.facts, Cert.ReferenceIdeal.Gen.facts,
  Cert.Ffn.Gen.facts, Cert.FfnIdeal.Gen.facts, Cert.FfnReferenceIdeal.Gen.facts, Cert.Up.Gen.facts, Cert.UpIdeal.Gen.facts, Cert.UpReferenceIdeal.Gen.facts,
  Cert.Down.Gen.facts, Cert.DownIdeal.Gen.facts, Cert.DownReferenceIdeal.Gen.facts,
  Cert.Mix.Gen.facts, Cert.MixIdeal.Gen.facts, Cert.MixReferenceIdeal.Gen.facts,
  Cert.Proj.Gen.facts, Cert.ProjIdeal.Gen.facts, Cert.ProjReferenceIdeal.Gen.facts,
  Cert.ProjX.Gen.facts, Cert.ProjXIdeal.Gen.facts, Cert.ProjXReferenceIdeal.Gen.facts,
  Cert.GluX.Gen.facts, Cert.GluXIdeal.Gen.facts, Cert.GluXReferenceIdeal.Gen.facts,
  Cert.MlaX.Gen.facts, Cert.MlaXIdeal.Gen.facts, Cert.MlaXReferenceIdeal.Gen.facts,
  Cert.Latent.Gen.facts, Cert.LatentIdeal.Gen.facts, Cert.LatentReferenceIdeal.Gen.facts,
  Cert.Attend.Gen.facts, Cert.AttendIdeal.Gen.facts, Cert.AttendReferenceIdeal.Gen.facts,
  Cert.Mod.Gen.facts, Cert.ModIdeal.Gen.facts, Cert.ModReferenceIdeal.Gen.facts,
  Cert.Norms.Gen.facts, Cert.NormsIdeal.Gen.facts, Cert.NormsReferenceIdeal.Gen.facts,
  Cert.QNorm.Gen.facts, Cert.QNormIdeal.Gen.facts, Cert.QNormReferenceIdeal.Gen.facts,
  Cert.Combine.Gen.facts, Cert.CombineIdeal.Gen.facts, Cert.CombineReferenceIdeal.Gen.facts,
  Cert.NormX.Gen.facts, Cert.NormXIdeal.Gen.facts, Cert.NormXReferenceIdeal.Gen.facts,
  Cert.SkipX.Gen.facts, Cert.SkipXIdeal.Gen.facts, Cert.SkipXReferenceIdeal.Gen.facts,
  Cert.QNormX.Gen.facts, Cert.QNormXIdeal.Gen.facts, Cert.QNormXReferenceIdeal.Gen.facts,
  Cert.KvNormX.Gen.facts, Cert.KvNormXIdeal.Gen.facts, Cert.KvNormXReferenceIdeal.Gen.facts,
  Cert.ResidX.Gen.facts, Cert.ResidXIdeal.Gen.facts, Cert.ResidXReferenceIdeal.Gen.facts,
  Cert.CtxX.Gen.facts, Cert.CtxXIdeal.Gen.facts, Cert.CtxXReferenceIdeal.Gen.facts,
  Cert.ScanX.Gen.facts, Cert.ScanXIdeal.Gen.facts, Cert.ScanXReferenceIdeal.Gen.facts, Cert.Pre_finite.Gen.facts, Cert.Pre_finite_scores.Gen.facts,
  fun m ρ _ => Cert.Kernel.Gen.frame m ρ, fun m ρ _ => Cert.KernelIdeal.Gen.frame m ρ, fun m ρ _ => Cert.KernelIdeal.Gen.frame m ρ,
  frame_reference, fun m ρ _ => frame_reference m ρ trivial,
  fun m ρ _ => Cert.Ffn.Gen.frame m ρ, fun m ρ _ => Cert.FfnIdeal.Gen.frame m ρ, frame_ffn_reference,
  fun m ρ _ => Cert.Up.Gen.frame m ρ, fun m ρ _ => Cert.UpIdeal.Gen.frame m ρ, frame_up_reference,
  fun m ρ _ => Cert.Down.Gen.frame m ρ, fun m ρ _ => Cert.DownIdeal.Gen.frame m ρ, frame_down_reference,
  fun m ρ _ => Cert.Mix.Gen.frame m ρ, fun m ρ _ => Cert.MixIdeal.Gen.frame m ρ, frame_mix_reference,
  fun m ρ _ => Cert.Proj.Gen.frame m ρ, fun m ρ _ => Cert.ProjIdeal.Gen.frame m ρ, frame_proj_reference,
  fun m ρ _ => Cert.ProjX.Gen.frame m ρ, fun m ρ _ => Cert.ProjXIdeal.Gen.frame m ρ, frame_projx_reference,
  fun m ρ _ => Cert.GluX.Gen.frame m ρ, fun m ρ _ => Cert.GluXIdeal.Gen.frame m ρ, frame_glux_reference,
  fun m ρ _ => Cert.MlaX.Gen.frame m ρ, fun m ρ _ => Cert.MlaXIdeal.Gen.frame m ρ, frame_mlax_reference,
  fun m ρ _ => Cert.Latent.Gen.frame m ρ, fun m ρ _ => Cert.LatentIdeal.Gen.frame m ρ, frame_latent_reference,
  fun m ρ _ => Cert.Attend.Gen.frame m ρ, fun m ρ _ => Cert.AttendIdeal.Gen.frame m ρ, fun m ρ _ => Cert.AttendIdeal.Gen.frame m ρ,
  frame_attend_reference, fun m ρ _ => frame_attend_reference m ρ trivial,
  fun m ρ _ => Cert.Mod.Gen.frame m ρ, fun m ρ _ => Cert.ModIdeal.Gen.frame m ρ, frame_mod_reference,
  fun m ρ _ => Cert.Norms.Gen.frame m ρ, fun m ρ _ => Cert.NormsIdeal.Gen.frame m ρ, frame_norms_reference,
  fun m ρ _ => Cert.QNorm.Gen.frame m ρ, fun m ρ _ => Cert.QNormIdeal.Gen.frame m ρ, frame_qnorm_reference,
  fun m ρ _ => Cert.Combine.Gen.frame m ρ, fun m ρ _ => Cert.CombineIdeal.Gen.frame m ρ, frame_combine_reference,
  fun m ρ _ => Cert.NormX.Gen.frame m ρ, fun m ρ _ => Cert.NormXIdeal.Gen.frame m ρ, frame_normx_reference,
  fun m ρ _ => Cert.SkipX.Gen.frame m ρ, fun m ρ _ => Cert.SkipXIdeal.Gen.frame m ρ, frame_skipx_reference,
  fun m ρ _ => Cert.QNormX.Gen.frame m ρ, fun m ρ _ => Cert.QNormXIdeal.Gen.frame m ρ, frame_qnormx_reference,
  fun m ρ _ => Cert.KvNormX.Gen.frame m ρ, fun m ρ _ => Cert.KvNormXIdeal.Gen.frame m ρ, frame_kvnormx_reference,
  fun m ρ _ => Cert.ResidX.Gen.frame m ρ, fun m ρ _ => Cert.ResidXIdeal.Gen.frame m ρ, frame_residx_reference,
  fun m ρ _ => Cert.CtxX.Gen.frame m ρ, fun m ρ _ => Cert.CtxXIdeal.Gen.frame m ρ, frame_ctxx_reference,
  fun m ρ _ => Cert.ScanX.Gen.frame m ρ, fun m ρ _ => Cert.ScanXIdeal.Gen.frame m ρ, frame_scanx_reference,
  trivial, Cert.Attn.equation, trivial, Cert.FfnProduct.equation, trivial, Cert.UpProduct.equation, trivial, Cert.DownProduct.equation,
  trivial, Cert.Mixing.equation,
  trivial, Cert.Projection.equation, trivial, Cert.ProjectionX.equation, trivial, Cert.GluGradient.equation, trivial, Cert.MlaGradient.equation, trivial, Cert.Latents.equation, trivial, Cert.Attending.equation, trivial, Cert.Modulation.equation, trivial, Cert.Norms.equation, trivial, Cert.QueryNorm.equation, trivial, Cert.Combining.equation, trivial, Cert.LatentNormX.equation, trivial, Cert.SkipGrad.equation, trivial, Cert.QueryNormX.equation, trivial, Cert.KeyNormX.equation, trivial, Cert.ResidNormX.equation, trivial, Cert.ContextNormX.equation, trivial, Cert.ScanGradient.equation⟩

end Cert.Proof

end
